-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)) (v4 : (c : Dev Cert.Kernel2Ideal.nD) → Buf (Elt Ideal) ((c.tc : Thread Cert.Kernel2Ideal.nD Cert.Kernel2Ideal.τ).loc Cert.Kernel2Ideal.main_v21_4)) (v5 : (c : Dev Cert.Kernel2Ideal.nD) → Buf (Elt Ideal) ((c.tc : Thread Cert.Kernel2Ideal.nD Cert.Kernel2Ideal.τ).loc Cert.Kernel2Ideal.main_v21_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_v21_4) = v4 c
          ∧ r.2.mem ((c.tc : Thread Cert.Kernel2Ideal.nD Cert.Kernel2Ideal.τ).loc Cert.Kernel2Ideal.main_v21_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_v77) = v2 c
          ∧ r.2.mem ((c.tc : Thread Cert.Reference2Ideal.nD Cert.Reference2Ideal.τ).loc Cert.Reference2Ideal.main_v78) = v3 c
          ∧ r.2.mem ((c.tc : Thread Cert.Reference2Ideal.nD Cert.Reference2Ideal.τ).loc Cert.Reference2Ideal.main_v79) = v4 c
          ∧ r.2.mem ((c.tc : Thread Cert.Reference2Ideal.nD Cert.Reference2Ideal.τ).loc Cert.Reference2Ideal.main_v56) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_v35) = v1 c
          ∧ r.2.mem ((c.tc : Thread Cert.Reference6Ideal.nD Cert.Reference6Ideal.τ).loc Cert.Reference6Ideal.main_v36) = v2 c
          ∧ r.2.mem ((c.tc : Thread Cert.Reference6Ideal.nD Cert.Reference6Ideal.τ).loc Cert.Reference6Ideal.main_v37) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_3)) (v2 : (c : Dev Cert.Kernel11Ideal.nD) → Buf (Elt Ideal) ((c.tc : Thread Cert.Kernel11Ideal.nD Cert.Kernel11Ideal.τ).loc Cert.Kernel11Ideal.main_v3_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_3) = v1 c
          ∧ r.2.mem ((c.tc : Thread Cert.Kernel11Ideal.nD Cert.Kernel11Ideal.τ).loc Cert.Kernel11Ideal.main_v3_5) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_v32) = v1 c
          ∧ r.2.mem ((c.tc : Thread Cert.Reference11Ideal.nD Cert.Reference11Ideal.τ).loc Cert.Reference11Ideal.main_v34) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v107) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S4x8192x128 : Shape := ⟨3, ![4, 8192, 128]⟩
abbrev S8192x512 : Shape := ⟨2, ![8192, 512]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S4x8192x128 .f32) (main_arg1 : FVec F S4x8192x128 .f32) (main_arg2 : FVec F S4x8192x128 .f32) (main_arg3 : FVec F S8192x512 .f32) : IVec S_ 1 :=
  let main_v0 : FVec F S4x8192x128 .f32 := Host.absf main_arg0
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  let main_v4 : FVec F S4x8192x128 .f32 := Host.absf main_arg1
  let main_cst_0 : FVec F S_ .f32 := constant S_ .f32 0x7F800000#32
  let main_v5 : FVec F S4x8192x128 .f32 := broadcastInDim S4x8192x128 ![] bcast_S_S4x8192x128 main_cst_0
  let main_v6 : IVec S4x8192x128 1 := cmpf .olt main_v4 main_v5
  let main_c_1 : IVec S_ 1 := constantI S_ 1 1#1
  let main_v7 : IVec S_ 1 := (fun x v => Host.reduce IntOp.andi x v reducesTo_S4x8192x128_S_d0_1_2 h_S_) main_v6 main_c_1
  let main_v8 : IVec S_ 1 := andi main_v3 main_v7
  let main_v9 : FVec F S4x8192x128 .f32 := Host.absf main_arg2
  let main_cst_2 : FVec F S_ .f32 := constant S_ .f32 0x7F800000#32
  let main_v10 : FVec F S4x8192x128 .f32 := broadcastInDim S4x8192x128 ![] bcast_S_S4x8192x128 main_cst_2
  let main_v11 : IVec S4x8192x128 1 := cmpf .olt main_v9 main_v10
  let main_c_3 : IVec S_ 1 := constantI S_ 1 1#1
  let main_v12 : IVec S_ 1 := (fun x v => Host.reduce IntOp.andi x v reducesTo_S4x8192x128_S_d0_1_2 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Pre_finite2.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S2816x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1x1024 .f32) (main_arg3 : FVec F S2816x1024 .f32) (main_arg4 : FVec F S2816x1024 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_arg5 main_v13 main_v16
-- ==== Kernel.lean ====
abbrev S4x8192x128 : Shape := ⟨3, ![4, 8192, 128]⟩
abbrev S8192x512 : Shape := ⟨2, ![8192, 512]⟩
abbrev S36 : Shape := ⟨1, ![36]⟩
abbrev S4x8192x8192 : Shape := ⟨3, ![4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S4x8192 : Shape := ⟨2, ![4, 8192]⟩
abbrev S4x8192x1 : Shape := ⟨3, ![4, 8192, 1]⟩
abbrev S8192x4x128 : Shape := ⟨3, ![8192, 4, 128]⟩
abbrev S4x128x8192 : Shape := ⟨3, ![4, 128, 8192]⟩
abbrev S4x1x8192 : Shape := ⟨3, ![4, 1, 8192]⟩
abbrev S2x1024x128 : Shape := ⟨3, ![2, 1024, 128]⟩
abbrev S1 : Shape := ⟨1, ![1]⟩
abbrev S2x128x1024 : Shape := ⟨3, ![2, 128, 1024]⟩
abbrev S1024x256 : Shape := ⟨2, ![1024, 256]⟩
abbrev S2x1x1024 : Shape := ⟨3, ![2, 1, 1024]⟩
abbrev S2x128x8192 : Shape := ⟨3, ![2, 128, 8192]⟩
abbrev S1x512x128 : Shape := ⟨3, ![1, 512, 128]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩

abbrev nBuf : Space → Nat
  | .hbm => 53
  | .vmem => 22
  | .smem => 2
  | _ => 0

abbrev bufTy : (tb : Table) → Fin (tcTables nBuf tb) → BufTy
  | .hbm, ⟨0, _⟩ => ⟨S4x8192x128, .f32⟩
  | .hbm, ⟨1, _⟩ => ⟨S4x8192x128, .f32⟩
  | .hbm, ⟨2, _⟩ => ⟨S4x8192x128, .f32⟩
  | .hbm, ⟨3, _⟩ => ⟨S8192x512, .f32⟩
  | .hbm, ⟨4, _⟩ => ⟨S4x8192x8192, .f32⟩
  | .hbm, ⟨5, _⟩ => ⟨S8192, .i32⟩
  | .hbm, ⟨6, _⟩ => ⟨S8192, .i32⟩
  | .hbm, ⟨7, _⟩ => ⟨S1x8192, .i32⟩
  | .hbm, ⟨8, _⟩ => ⟨S8192x1, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S1x8192x8192, .i1⟩
  | .hbm, ⟨13, _⟩ => ⟨S_, .f32⟩
  | .hbm, ⟨14, _⟩ => ⟨S_, .f32⟩
  | .hbm, ⟨15, _⟩ => ⟨S4x8192x8192, .i1⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S4x8192x8192, .f32⟩
  | .hbm, ⟨28, _⟩ => ⟨S4x8192x8192, .f32⟩
  | .hbm, ⟨29, _⟩ => ⟨S4x8192x128, .f32⟩
  | .hbm, ⟨30, _⟩ => ⟨S_, .f32⟩
  | .hbm, ⟨31, _⟩ => ⟨S_, .f32⟩
  | .hbm, ⟨32, _⟩ => ⟨S4x8192, .f32⟩
  | .hbm, ⟨33, _⟩ => ⟨S4x8192, .f32⟩
  | .hbm, ⟨34, _⟩ => ⟨S4x8192, .f32⟩
  | .hbm, ⟨35, _⟩ => ⟨S4x8192, .f32⟩
  | .hbm, ⟨36, _⟩ => ⟨S8192x4x128, .f32⟩
  | .hbm, ⟨37, _⟩ => ⟨S4x8192x128, .f32⟩
  | .hbm, ⟨38, _⟩ => ⟨S4x8192x128, .f32⟩
  | .hbm, ⟨39, _⟩ => ⟨S_, .f32⟩
  | .hbm, ⟨40, _⟩ => ⟨S4x8192, .f32⟩
  | .hbm, ⟨41, _⟩ => ⟨S4x8192x128, .f32⟩
  | .hbm, ⟨42, _⟩ => ⟨S4x8192x128, .f32⟩
  | .hbm, ⟨43, _⟩ => ⟨S4x8192x128, .bf16⟩
  | .hbm, ⟨44, _⟩ => ⟨S4x128x8192, .f32⟩
  | .hbm, ⟨45, _⟩ => ⟨S4x128x8192, .bf16⟩
  | .hbm, ⟨46, _⟩ => ⟨S4x8192x128, .bf16⟩
  | .hbm, ⟨47, _⟩ => ⟨S4x8192x128, .bf16⟩
  | .hbm, ⟨48, _⟩ => ⟨S4x1x8192, .f32⟩
  | .hbm, ⟨49, _⟩ => ⟨S4x1x8192, .f32⟩
  | .hbm, ⟨50, _⟩ => ⟨S4x128x8192, .f32⟩
  | .hbm, ⟨51, _⟩ => ⟨S4x8192x128, .f32⟩
  | .hbm, ⟨52, _⟩ => ⟨S4x8192x128, .f32⟩
  | .local _ .vmem, ⟨0, _⟩ => ⟨S2x1024x128, .bf16⟩
  | .local _ .vmem, ⟨1, _⟩ => ⟨S2x1024x128, .bf16⟩
  | .local _ .vmem, ⟨2, _⟩ => ⟨S2x1024x128, .bf16⟩
  | .local _ .vmem, ⟨3, _⟩ => ⟨S2x1024x128, .bf16⟩
  | .local _ .vmem, ⟨4, _⟩ => ⟨S2x128x1024, .bf16⟩
  | .local _ .vmem, ⟨5, _⟩ => ⟨S2x128x1024, .bf16⟩
  | .local _ .vmem, ⟨6, _⟩ => ⟨S2x1024x128, .bf16⟩
  | .local _ .vmem, ⟨7, _⟩ => ⟨S2x1024x128, .bf16⟩
  | .local _ .vmem, ⟨8, _⟩ => ⟨S1024x256, .f32⟩
  | .local _ .vmem, ⟨9, _⟩ => ⟨S1024x256, .f32⟩
  | .local _ .vmem, ⟨10, _⟩ => ⟨S2x1x1024, .f32⟩
  | .local _ .vmem, ⟨11, _⟩ => ⟨S2x1x1024, .f32⟩
  | .local _ .vmem, ⟨12, _⟩ => ⟨S2x1x1024, .f32⟩
  | .local _ .vmem, ⟨13, _⟩ => ⟨S2x1x1024, .f32⟩
  | .local _ .vmem, ⟨14, _⟩ => ⟨S2x128x8192, .f32⟩
  | .local _ .vmem, ⟨15, _⟩ => ⟨S2x128x8192, .f32⟩
  | .local _ .vmem, ⟨16, _⟩ => ⟨S2x1024x128, .f32⟩
  | .local _ .vmem, ⟨17, _⟩ => ⟨S2x1024x128, .f32⟩
  | .local _ .vmem, ⟨18, _⟩ => ⟨S2x1024x128, .f32⟩
  | .local _ .vmem, ⟨19, _⟩ => ⟨S2x1024x128, .f32⟩
  | .local _ .vmem, ⟨20, _⟩ => ⟨S2x1024x128, .f32⟩
  | .local _ .vmem, ⟨21, _⟩ => ⟨S2x1024x128, .f32⟩
  | .local _ .smem, ⟨0, _⟩ => ⟨S36, .i32⟩
  | .local _ .smem, ⟨1, _⟩ => ⟨S36, .i32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v3 : BitVec 32) : BitVec 32 :=
  let c1024_i32 : BitVec 32 := 1024#32
  let v55 : BitVec 32 := Scalar.muli v3 c1024_i32
  let c0_i32_36 : BitVec 32 := 0#32
  let v56 : BitVec 32 := Scalar.addi v55 c0_i32_36
  v56
def k0_cond3 (v1 : BitVec 32) (v3 : BitVec 32) : BitVec 1 :=
  let v10 : BitVec 1 := Scalar.cmpi .sgt v3 v1
  let v11 : BitVec 32 := Scalar.extui v10
  let c0_i32_2 : BitVec 32 := 0#32
  let v12 : BitVec 1 := Scalar.cmpi .ne v11 c0_i32_2
  v12

def k0_off2 (v3 : BitVec 32) (c0_i32_36 : BitVec 32) : Fin 3 → Nat :=
  let c0_37 : Index := 0#32
  let c0_38 : Index := 0#32
  let c1024_i32 : BitVec 32 := 1024#32
  let v55 : BitVec 32 := Scalar.muli v3 c1024_i32
  let v56 : BitVec 32 := Scalar.addi v55 c0_i32_36
  let v57 : BitVec 32 := v56
  let v58 : Index := Scalar.indexCast v57
  ![0, 0, v58.toNat]
def k0_mult2 (v3 : BitVec 32) : BitVec 32 :=
  let c1024_i32_77 : BitVec 32 := 1024#32
  let v105 : BitVec 32 := Scalar.muli v3 c1024_i32_77
  let c0_i32_78 : BitVec 32 := 0#32
  let v106 : BitVec 32 := Scalar.addi v105 c0_i32_78
  v106
def k0_mult3 (v3 : BitVec 32) : BitVec 32 :=
  let c1024_i32_118 : BitVec 32 := 1024#32
  let v155 : BitVec 32 := Scalar.muli v3 c1024_i32_118
  let c0_i32_119 : BitVec 32 := 0#32
  let v156 : BitVec 32 := Scalar.addi v155 c0_i32_119
  v156
def k0_off3 (v3 : BitVec 32) (c0_i32_119 : BitVec 32) : Fin 3 → Nat :=
  let c1_120 : Index := 1#32
  let c0_121 : Index := 0#32
  let c1024_i32_118 : BitVec 32 := 1024#32
  let v155 : BitVec 32 := Scalar.muli v3 c1024_i32_118
  let v156 : BitVec 32 := Scalar.addi v155 c0_i32_119
  let v157 : BitVec 32 := v156
  let v158 : Index := Scalar.indexCast v157
  ![1, 0, v158.toNat]
def k0_mult4 (v3 : BitVec 32) : BitVec 32 :=
  let c1024_i32_161 : BitVec 32 := 1024#32
  let v205 : BitVec 32 := Scalar.muli v3 c1024_i32_161
  let c0_i32_162 : BitVec 32 := 0#32
  let v206 : BitVec 32 := Scalar.addi v205 c0_i32_162
  v206
def k0_mult5 (v3 : BitVec 32) : BitVec 32 :=
  let c1024_i32_204 : BitVec 32 := 1024#32
  let v255 : BitVec 32 := Scalar.muli v3 c1024_i32_204
  let c512_i32 : BitVec 32 := 512#32
  let v256 : BitVec 32 := Scalar.addi v255 c512_i32
  v256
def k0_mult6 (v3 : BitVec 32) : BitVec 32 :=
  let c1024_i32_246 : BitVec 32 := 1024#32
  let v305 : BitVec 32 := Scalar.muli v3 c1024_i32_246
  let c512_i32_247 : BitVec 32 := 512#32
  let v306 : BitVec 32 := Scalar.addi v305 c512_i32_247
  v306
def k0_mult7 (v3 : BitVec 32) : BitVec 32 :=
  let c1024_i32_289 : BitVec 32 := 1024#32
  let v355 : BitVec 32 := Scalar.muli v3 c1024_i32_289
  let c512_i32_290 : BitVec 32 := 512#32
  let v356 : BitVec 32 := Scalar.addi v355 c512_i32_290
  v356
def k0_mult8 (v3 : BitVec 32) : BitVec 32 :=
  let c1024_i32_332 : BitVec 32 := 1024#32
  let v405 : BitVec 32 := Scalar.muli v3 c1024_i32_332
  let c512_i32_333 : BitVec 32 := 512#32
  let v406 : BitVec 32 := Scalar.addi v405 c512_i32_333
  v406
def k0_mult9 (v3 : BitVec 32) : BitVec 32 :=
  let c1024_i32 : BitVec 32 := 1024#32
  let v60 : BitVec 32 := Scalar.muli v3 c1024_i32
  let c0_i32_37 : BitVec 32 := 0#32
  let v61 : BitVec 32 := Scalar.addi v60 c0_i32_37
  v61
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def k0_off4 (v3 : BitVec 32) (c0_i32_37 : BitVec 32) : Fin 3 → Nat :=
  let c0_38 : Index := 0#32
  let c0_39 : Index := 0#32
  let c1024_i32 : BitVec 32 := 1024#32
  let v60 : BitVec 32 := Scalar.muli v3 c1024_i32
  let v61 : BitVec 32 := Scalar.addi v60 c0_i32_37
  let v62 : BitVec 32 := v61
  let v63 : Index := Scalar.indexCast v62
  ![0, 0, v63.toNat]
def k0_mult10 (v3 : BitVec 32) : BitVec 32 :=
  let c1024_i32_78 : BitVec 32 := 1024#32
  let v115 : BitVec 32 := Scalar.muli v3 c1024_i32_78
  let c0_i32_79 : BitVec 32 := 0#32
  let v116 : BitVec 32 := Scalar.addi v115 c0_i32_79
  v116
def k0_off5 (v3 : BitVec 32) (c0_i32_79 : BitVec 32) : Fin 3 → Nat :=
  let c1_80 : Index := 1#32
  let c0_81 : Index := 0#32
  let c1024_i32_78 : BitVec 32 := 1024#32
  let v115 : BitVec 32 := Scalar.muli v3 c1024_i32_78
  let v116 : BitVec 32 := Scalar.addi v115 c0_i32_79
  let v117 : BitVec 32 := v116
  let v118 : Index := Scalar.indexCast v117
  ![1, 0, v118.toNat]
def k0_mult11 (v3 : BitVec 32) : BitVec 32 :=
  let c1024_i32_120 : BitVec 32 := 1024#32
  let v165 : BitVec 32 := Scalar.muli v3 c1024_i32_120
  let c512_i32 : BitVec 32 := 512#32
  let v166 : BitVec 32 := Scalar.addi v165 c512_i32
  v166
def k0_mult12 (v3 : BitVec 32) : BitVec 32 :=
  let c1024_i32_163 : BitVec 32 := 1024#32
  let v220 : BitVec 32 := Scalar.muli v3 c1024_i32_163
  let c512_i32_164 : BitVec 32 := 512#32
  let v221 : BitVec 32 := Scalar.addi v220 c512_i32_164
  v221
def k0_mult13 (v3 : BitVec 32) : BitVec 32 :=
  let c1024_i32_206 : BitVec 32 := 1024#32
  let v270 : BitVec 32 := Scalar.muli v3 c1024_i32_206
  let c512_i32_207 : BitVec 32 := 512#32
  let v271 : BitVec 32 := Scalar.addi v270 c512_i32_207
  v271
def k0_mult14 (v3 : BitVec 32) : BitVec 32 :=
  let c1024_i32_250 : BitVec 32 := 1024#32
  let v325 : BitVec 32 := Scalar.muli v3 c1024_i32_250
  let c512_i32_251 : BitVec 32 := 512#32
  let v326 : BitVec 32 := Scalar.addi v325 c512_i32_251
  v326

def k0_chk1 (v1 : BitVec 32) (v3 : BitVec 32) : Prop :=
  (∀ (k0_h3 : k0_cond3 v1 v3 = 1#1), 512 ∣ (k0_mult1 v3).toNat) ∧
  (∀ (k0_h3 : k0_cond3 v1 v3 = 1#1), ∀ (r : Fin 2), ∀ a, (k0_off2 v3 (BitVec.ofNat 32 (512 * r.val))) a + S1x128x512.size a ≤ S2x128x8192.size a) ∧
  (∀ (k0_h3 : k0_cond3 v1 v3 = 1#1), 512 ∣ (k0_mult2 v3).toNat) ∧
  (∀ (k0_h3 : k0_cond3 v1 v3 = 1#1), 512 ∣ (k0_mult3 v3).toNat) ∧
  (∀ (k0_h3 : k0_cond3 v1 v3 = 1#1), ∀ (r : Fin 2), ∀ a, (k0_off3 v3 (BitVec.ofNat 32 (512 * r.val))) a + S1x128x512.size a ≤ S2x128x8192.size a) ∧
  (∀ (k0_h3 : k0_cond3 v1 v3 = 1#1), 512 ∣ (k0_mult4 v3).toNat) ∧
  (∀ (k0_h3 : k0_cond3 v1 v3 = 1#1), 512 ∣ (k0_mult5 v3).toNat) ∧
  (∀ (k0_h3 : k0_cond3 v1 v3 = 1#1), 512 ∣ (k0_mult6 v3).toNat) ∧
  (∀ (k0_h3 : k0_cond3 v1 v3 = 1#1), 512 ∣ (k0_mult7 v3).toNat) ∧
  (∀ (k0_h3 : k0_cond3 v1 v3 = 1#1), 512 ∣ (k0_mult8 v3).toNat) ∧
  (∀ (k0_h4 : k0_cond4 v1 v3 = 1#1), 512 ∣ (k0_mult9 v3).toNat) ∧
  (∀ (k0_h4 : k0_cond4 v1 v3 = 1#1), ∀ (r : Fin 2), ∀ a, (k0_off4 v3 (BitVec.ofNat 32 (512 * r.val))) a + S1x128x512.size a ≤ S2x128x8192.size a) ∧
  (∀ (k0_h4 : k0_cond4 v1 v3 = 1#1), 512 ∣ (k0_mult10 v3).toNat) ∧
  (∀ (k0_h4 : k0_cond4 v1 v3 = 1#1), ∀ (r : Fin 2), ∀ a, (k0_off5 v3 (BitVec.ofNat 32 (512 * r.val))) a + S1x128x512.size a ≤ S2x128x8192.size a) ∧
  (∀ (k0_h4 : k0_cond4 v1 v3 = 1#1), 512 ∣ (k0_mult11 v3).toNat) ∧
  (∀ (k0_h4 : k0_cond4 v1 v3 = 1#1), 512 ∣ (k0_mult12 v3).toNat) ∧
  (∀ (k0_h4 : k0_cond4 v1 v3 = 1#1), 512 ∣ (k0_mult13 v3).toNat) ∧
  (∀ (k0_h4 : k0_cond4 v1 v3 = 1#1), 512 ∣ (k0_mult14 v3).toNat)
theorem k0_mult1_dvd : ∀ (v1 : BitVec 32) (v3 : BitVec 32) (k0_hw1 : k0_chk1 v1 v3), ∀ (k0_h3 : k0_cond3 v1 v3 = 1#1), 512 ∣ (k0_mult1 v3).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ (r : Fin 2), ∀ a, (k0_off2 v3 (BitVec.ofNat 32 (512 * r.val))) a + S1x128x512.size a ≤ S2x128x8192.size a := fun v1 v3 k0_hw1 k0_h3 r => k0_hw1.2.1 k0_h3 r
theorem k0_mult2_dvd : ∀ (v1 : BitVec 32) (v3 : BitVec 32) (k0_hw1 : k0_chk1 v1 v3), ∀ (k0_h3 : k0_cond3 v1 v3 = 1#1), 512 ∣ (k0_mult2 v3).toNat := fun v1 v3 k0_hw1 k0_h3 => k0_hw1.2.2.1 k0_h3
theorem k0_mult3_dvd : ∀ (v1 : BitVec 32) (v3 : BitVec 32) (k0_hw1 : k0_chk1 v1 v3), ∀ (k0_h3 : k0_cond3 v1 v3 = 1#1), 512 ∣ (k0_mult3 v3).toNat := fun v1 v3 k0_hw1 k0_h3 => k0_hw1.2.2.2.1 k0_h3
theorem k0_off3_inb : ∀ (v1 : BitVec 32) (v3 : BitVec 32) (k0_hw1 : k0_chk1 v1 v3), ∀ (k0_h3 : k0_cond3 v1 v3 = 1#1), ∀ (r : Fin 2), ∀ a, (k0_off3 v3 (BitVec.ofNat 32 (512 * r.val))) a + S1x128x512.size a ≤ S2x128x8192.size a := fun v1 v3 k0_hw1 k0_h3 r => k0_hw1.2.2.2.2.1 k0_h3 r
theorem k0_mult4_dvd : ∀ (v1 : BitVec 32) (v3 : BitVec 32) (k0_hw1 : k0_chk1 v1 v3), ∀ (k0_h3 : k0_cond3 v1 v3 = 1#1), 512 ∣ (k0_mult4 v3).toNat := fun v1 v3 k0_hw1 k0_h3 => k0_hw1.2.2.2.2.2.1 k0_h3
theorem k0_mult5_dvd : ∀ (v1 : BitVec 32) (v3 : BitVec 32) (k0_hw1 : k0_chk1 v1 v3), ∀ (k0_h3 : k0_cond3 v1 v3 = 1#1), 512 ∣ (k0_mult5 v3).toNat := fun v1 v3 k0_hw1 k0_h3 => k0_hw1.2.2.2.2.2.2.1 k0_h3
theorem k0_mult6_dvd : ∀ (v1 : BitVec 32) (v3 : BitVec 32) (k0_hw1 : k0_chk1 v1 v3), ∀ (k0_h3 : k0_cond3 v1 v3 = 1#1), 512 ∣ (k0_mult6 v3).toNat := fun v1 v3 k0_hw1 k0_h3 => k0_hw1.2.2.2.2.2.2.2.1 k0_h3
theorem k0_mult7_dvd : ∀ (v1 : BitVec 32) (v3 : BitVec 32) (k0_hw1 : k0_chk1 v1 v3), ∀ (k0_h3 : k0_cond3 v1 v3 = 1#1), 512 ∣ (k0_mult7 v3).toNat := fun v1 v3 k0_hw1 k0_h3 => k0_hw1.2.2.2.2.2.2.2.2.1 k0_h3
theorem k0_mult8_dvd : ∀ (v1 : BitVec 32) (v3 : BitVec 32) (k0_hw1 : k0_chk1 v1 v3), ∀ (k0_h3 : k0_cond3 v1 v3 = 1#1), 512 ∣ (k0_mult8 v3).toNat := fun v1 v3 k0_hw1 k0_h3 => k0_hw1.2.2.2.2.2.2.2.2.2.1 k0_h3
theorem k0_mult9_dvd : ∀ (v1 : BitVec 32) (v3 : BitVec 32) (k0_hw1 : k0_chk1 v1 v3), ∀ (k0_h4 : k0_cond4 v1 v3 = 1#1), 512 ∣ (k0_mult9 v3).toNat := fun v1 v3 k0_hw1 k0_h4 => k0_hw1.2.2.2.2.2.2.2.2.2.2.1 k0_h4
theorem k0_off4_inb : ∀ (v1 : BitVec 32) (v3 : BitVec 32) (k0_hw1 : k0_chk1 v1 v3), ∀ (k0_h4 : k0_cond4 v1 v3 = 1#1), ∀ (r : Fin 2), ∀ a, (k0_off4 v3 (BitVec.ofNat 32 (512 * r.val))) a + S1x128x512.size a ≤ S2x128x8192.size a := fun v1 v3 k0_hw1 k0_h4 r => k0_hw1.2.2.2.2.2.2.2.2.2.2.2.1 k0_h4 r
theorem k0_mult10_dvd : ∀ (v1 : BitVec 32) (v3 : BitVec 32) (k0_hw1 : k0_chk1 v1 v3), ∀ (k0_h4 : k0_cond4 v1 v3 = 1#1), 512 ∣ (k0_mult10 v3).toNat := fun v1 v3 k0_hw1 k0_h4 => k0_hw1.2.2.2.2.2.2.2.2.2.2.2.2.1 k0_h4
theorem k0_off5_inb : ∀ (v1 : BitVec 32) (v3 : BitVec 32) (k0_hw1 : k0_chk1 v1 v3), ∀ (k0_h4 : k0_cond4 v1 v3 = 1#1), ∀ (r : Fin 2), ∀ a, (k0_off5 v3 (BitVec.ofNat 32 (512 * r.val))) a + S1x128x512.size a ≤ S2x128x8192.size a := fun v1 v3 k0_hw1 k0_h4 r => k0_hw1.2.2.2.2.2.2.2.2.2.2.2.2.2.1 k0_h4 r
theorem k0_mult11_dvd : ∀ (v1 : BitVec 32) (v3 : BitVec 32) (k0_hw1 : k0_chk1 v1 v3), ∀ (k0_h4 : k0_cond4 v1 v3 = 1#1), 512 ∣ (k0_mult11 v3).toNat := fun v1 v3 k0_hw1 k0_h4 => k0_hw1.2.2.2.2.2.2.2.2.2.2.2.2.2.2.1 k0_h4
theorem k0_mult12_dvd : ∀ (v1 : BitVec 32) (v3 : BitVec 32) (k0_hw1 : k0_chk1 v1 v3), ∀ (k0_h4 : k0_cond4 v1 v3 = 1#1), 512 ∣ (k0_mult12 v3).toNat := fun v1 v3 k0_hw1 k0_h4 => k0_hw1.2.2.2.2.2.2.2.2.2.2.2.2.2.2.2.1 k0_h4
theorem k0_mult13_dvd : ∀ (v1 : BitVec 32) (v3 : BitVec 32) (k0_hw1 : k0_chk1 v1 v3), ∀ (k0_h4 : k0_cond4 v1 v3 = 1#1), 512 ∣ (k0_mult13 v3).toNat := fun v1 v3 k0_hw1 k0_h4 => k0_hw1.2.2.2.2.2.2.2.2.2.2.2.2.2.2.2.2.1 k0_h4
theorem k0_mult14_dvd : ∀ (v1 : BitVec 32) (v3 : BitVec 32) (k0_hw1 : k0_chk1 v1 v3), ∀ (k0_h4 : k0_cond4 v1 v3 = 1#1), 512 ∣ (k0_mult14 v3).toNat := fun v1 v3 k0_hw1 k0_h4 => k0_hw1.2.2.2.2.2.2.2.2.2.2.2.2.2.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v3 : BitVec 32) : BitVec 1 :=
  let c7_i32 : BitVec 32 := 7#32
  let v16 : BitVec 1 := Scalar.cmpi .eq v3 c7_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_9 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x128x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S4x8192x128 : Shape := ⟨3, ![4, 8192, 128]⟩
abbrev S8192x512 : Shape := ⟨2, ![8192, 512]⟩
abbrev S4x8192x8192 : Shape := ⟨3, ![4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S4x8192 : Shape := ⟨2, ![4, 8192]⟩
abbrev S4x8192x1 : Shape := ⟨3, ![4, 8192, 1]⟩
abbrev S8192x4x128 : Shape := ⟨3, ![8192, 4, 128]⟩
abbrev S4x128x8192 : Shape := ⟨3, ![4, 128, 8192]⟩

abbrev nBuf : Space → Nat
  | .hbm => 84
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S4x8192x128, .f32⟩
  | .hbm, ⟨2, _⟩ => ⟨S4x8192x128, .f32⟩
  | .hbm, ⟨3, _⟩ => ⟨S8192x512, .f32⟩
  | .hbm, ⟨4, _⟩ => ⟨S4x8192x8192, .f32⟩
  | .hbm, ⟨5, _⟩ => ⟨S8192, .i32⟩
  | .hbm, ⟨6, _⟩ => ⟨S8192, .i32⟩
  | .hbm, ⟨7, _⟩ => ⟨S1x8192, .i32⟩
  | .hbm, ⟨8, _⟩ => ⟨S8192x1, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S1x8192x8192, .i1⟩
  | .hbm, ⟨13, _⟩ => ⟨S_, .f32⟩
  | .hbm, ⟨14, _⟩ => ⟨S_, .f32⟩
  | .hbm, ⟨15, _⟩ => ⟨S4x8192x8192, .i1⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S4x8192x8192, .f32⟩
  | .hbm, ⟨24, _⟩ => ⟨S4x8192x8192, .i1⟩
  | .hbm, ⟨25, _⟩ => ⟨S4x8192x8192, .f32⟩
  | .hbm, ⟨26, _⟩ => ⟨S_, .f32⟩
  | .hbm, ⟨27, _⟩ => ⟨S4x8192, .f32⟩
  | .hbm, ⟨28, _⟩ => ⟨S_, .f32⟩
  | .hbm, ⟨29, _⟩ => ⟨S4x8192, .f32⟩
  | .hbm, ⟨30, _⟩ => ⟨S4x8192, .f32⟩
  | .hbm, ⟨31, _⟩ => ⟨S_, .f32⟩
  | .hbm, ⟨32, _⟩ => ⟨S4x8192, .f32⟩
  | .hbm, ⟨33, _⟩ => ⟨S4x8192, .i1⟩
  | .hbm, ⟨34, _⟩ => ⟨S_, .f32⟩
  | .hbm, ⟨35, _⟩ => ⟨S4x8192, .f32⟩
  | .hbm, ⟨36, _⟩ => ⟨S4x8192, .i1⟩
  | .hbm, ⟨37, _⟩ => ⟨S_, .f32⟩
  | .hbm, ⟨38, _⟩ => ⟨S4x8192, .f32⟩
  | .hbm, ⟨39, _⟩ => ⟨S_, .f32⟩
  | .hbm, ⟨40, _⟩ => ⟨S4x8192, .f32⟩
  | .hbm, ⟨41, _⟩ => ⟨S_, .f32⟩
  | .hbm, ⟨42, _⟩ => ⟨S4x8192, .f32⟩
  | .hbm, ⟨43, _⟩ => ⟨S4x8192, .f32⟩
  | .hbm, ⟨44, _⟩ => ⟨S4x8192, .f32⟩
  | .hbm, ⟨45, _⟩ => ⟨S4x8192x1, .f32⟩
  | .hbm, ⟨46, _⟩ => ⟨S4x8192x8192, .f32⟩
  | .hbm, ⟨47, _⟩ => ⟨S4x8192x8192, .f32⟩
  | .hbm, ⟨48, _⟩ => ⟨S4x8192x8192, .f32⟩
  | .hbm, ⟨49, _⟩ => ⟨S_, .f32⟩
  | .hbm, ⟨50, _⟩ => ⟨S4x8192, .f32⟩
  | .hbm, ⟨51, _⟩ => ⟨S4x8192x1, .f32⟩
  | .hbm, ⟨52, _⟩ => ⟨S4x8192x8192, .f32⟩
  | .hbm, ⟨53, _⟩ => ⟨S4x8192x8192, .f32⟩
  | .hbm, ⟨54, _⟩ => ⟨S4x8192x1, .f32⟩
  | .hbm, ⟨55, _⟩ => ⟨S_, .f32⟩
  | .hbm, ⟨56, _⟩ => ⟨S4x8192x1, .f32⟩
  | .hbm, ⟨57, _⟩ => ⟨S4x8192x1, .f32⟩
  | .hbm, ⟨58, _⟩ => ⟨S4x8192x128, .f32⟩
  | .hbm, ⟨59, _⟩ => ⟨S8192x4x128, .f32⟩
  | .hbm, ⟨60, _⟩ => ⟨S4x8192x128, .f32⟩
  | .hbm, ⟨61, _⟩ => ⟨S4x128x8192, .f32⟩
  | .hbm, ⟨62, _⟩ => ⟨S4x8192x128, .f32⟩
  | .hbm, ⟨63, _⟩ => ⟨S4x8192x8192, .f32⟩
  | .hbm, ⟨64, _⟩ => ⟨S4x8192x8192, .f32⟩
  | .hbm, ⟨65, _⟩ => ⟨S4x8192x8192, .f32⟩
  | .hbm, ⟨66, _⟩ => ⟨S4x8192x8192, .f32⟩
  | .hbm, ⟨67, _⟩ => ⟨S_, .f32⟩
  | .hbm, ⟨68, _⟩ => ⟨S4x8192, .f32⟩
  | .hbm, ⟨69, _⟩ => ⟨S4x8192x1, .f32⟩
  | .hbm, ⟨70, _⟩ => ⟨S4x8192x1, .f32⟩
  | .hbm, ⟨71, _⟩ => ⟨S4x8192x8192, .f32⟩
  | .hbm, ⟨72, _⟩ => ⟨S4x8192x8192, .f32⟩
  | .hbm, ⟨73, _⟩ => ⟨S_, .f32⟩
  | .hbm, ⟨74, _⟩ => ⟨S4x8192, .f32⟩
  | .hbm, ⟨75, _⟩ => ⟨S4x8192x8192, .f32⟩
  | .hbm, ⟨76, _⟩ => ⟨S4x8192x8192, .f32⟩
  | .hbm, ⟨77, _⟩ => ⟨S4x8192x8192, .f32⟩
  | .hbm, ⟨78, _⟩ => ⟨S_, .f32⟩
  | .hbm, ⟨79, _⟩ => ⟨S4x8192x8192, .f32⟩
  | .hbm, ⟨80, _⟩ => ⟨S4x8192x8192, .f32⟩
  | .hbm, ⟨81, _⟩ => ⟨S4x8192x128, .f32⟩
  | .hbm, ⟨82, _⟩ => ⟨S4x8192x128, .f32⟩
  | .hbm, ⟨83, _⟩ => ⟨S4x128x8192, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_v0 : Ref sig .tc := ⟨.hbm, 14, rfl⟩
abbrev main_v9_1 : Ref sig .tc := ⟨.hbm, 15, rfl⟩
abbrev main_call0_v2 : Ref sig .tc := ⟨.hbm, 16, rfl⟩
abbrev main_v9_0 : Ref sig .tc := ⟨.hbm, 17, rfl⟩
abbrev main_call0_cst : Ref sig .tc := ⟨.hbm, 18, rfl⟩
abbrev main_v9_2 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call1_cst : Ref sig .tc := ⟨.hbm, 78, rfl⟩
abbrev main_call1_v0 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S256x256 : Shape := ⟨2, ![256, 256]⟩
abbrev S1024 : Shape := ⟨1, ![1024]⟩

abbrev nBuf : Space → Nat
  | .hbm => 36
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x2816, .f32⟩
  | .hbm, ⟨22, _⟩ => ⟨S8192x2816, .f32⟩
  | .hbm, ⟨23, _⟩ => ⟨S1024x2816, .f32⟩
  | .hbm, ⟨24, _⟩ => ⟨S8192x2816, .f32⟩
  | .hbm, ⟨25, _⟩ => ⟨S8192x2816, .bf16⟩
  | .hbm, ⟨26, _⟩ => ⟨S8192x2816, .bf16⟩
  | .hbm, ⟨27, _⟩ => ⟨S2816x1024, .bf16⟩
  | .hbm, ⟨28, _⟩ => ⟨S2816x1024, .bf16⟩
  | .hbm, ⟨29, _⟩ => ⟨S2816x1024, .bf16⟩
  | .hbm, ⟨30, _⟩ => ⟨S8192x1024, .f32⟩
  | .hbm, ⟨31, _⟩ => ⟨S8192x1024, .bf16⟩
  | .hbm, ⟨32, _⟩ => ⟨S8192x2816, .bf16⟩
  | .hbm, ⟨33, _⟩ => ⟨S8192x2816, .bf16⟩
  | .hbm, ⟨34, _⟩ => ⟨S8192x2816, .bf16⟩
  | .hbm, ⟨35, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_v21_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S1024 : Shape := ⟨1, ![1024]⟩

abbrev nBuf : Space → Nat
  | .hbm => 135
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S2816x1024, .f32⟩
  | 4 => ⟨S2816x1024, .f32⟩
  | 5 => ⟨S2816x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1024, .f32⟩
  | 18 => ⟨S8192x1024, .f32⟩
  | 19 => ⟨S8192x1024, .f32⟩
  | 20 => ⟨S8192x1024, .f32⟩
  | 21 => ⟨S1024x2816, .f32⟩
  | 22 => ⟨S8192x2816, .f32⟩
  | 23 => ⟨S1024x2816, .f32⟩
  | 24 => ⟨S8192x2816, .f32⟩
  | 25 => ⟨S8192x2816, .f32⟩
  | 26 => ⟨S8192x2816, .f32⟩
  | 27 => ⟨S_, .f32⟩
  | 28 => ⟨S8192x2816, .f32⟩
  | 29 => ⟨S8192x2816, .f32⟩
  | 30 => ⟨S_, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S8192x2816, .f32⟩
  | 37 => ⟨S8192x2816, .f32⟩
  | 38 => ⟨S8192x2816, .f32⟩
  | 39 => ⟨S8192x1024, .f32⟩
  | 40 => ⟨S8192x2816, .f32⟩
  | 41 => ⟨S8192x2816, .f32⟩
  | 42 => ⟨S8192x2816, .f32⟩
  | 43 => ⟨S8192x2816, .f32⟩
  | 44 => ⟨S8192x2816, .f32⟩
  | 45 => ⟨S8192x2816, .f32⟩
  | 46 => ⟨S8192x2816, .f32⟩
  | 47 => ⟨S8192x1024, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1024, .f32⟩
  | 63 => ⟨S8192x1024, .f32⟩
  | 64 => ⟨S8192x1024, .f32⟩
  | 65 => ⟨S8192x1024, .f32⟩
  | 66 => ⟨S1024x2816, .f32⟩
  | 67 => ⟨S8192x2816, .f32⟩
  | 68 => ⟨S1024x2816, .f32⟩
  | 69 => ⟨S8192x2816, .f32⟩
  | 70 => ⟨S8192x2816, .f32⟩
  | 71 => ⟨S8192x2816, .f32⟩
  | 72 => ⟨S_, .f32⟩
  | 73 => ⟨S8192x2816, .f32⟩
  | 74 => ⟨S8192x2816, .f32⟩
  | 75 => ⟨S_, .f32⟩
  | 76 => ⟨S8192x2816, .f32⟩
  | 77 => ⟨S8192x2816, .f32⟩
  | 78 => ⟨S_, .f32⟩
  | 79 => ⟨S8192x2816, .f32⟩
  | 80 => ⟨S8192x2816, .f32⟩
  | 81 => ⟨S8192x2816, .f32⟩
  | 82 => ⟨S8192x2816, .f32⟩
  | 83 => ⟨S8192x2816, .f32⟩
  | 84 => ⟨S8192x1024, .f32⟩
  | 85 => ⟨S8192x1024, .f32⟩
  | 86 => ⟨S8192x1024, .f32⟩
  | 87 => ⟨S8192x2816, .f32⟩
  | 88 => ⟨S8192x2816, .f32⟩
  | 89 => ⟨S8192x2816, .f32⟩
  | 90 => ⟨S8192x2816, .f32⟩
  | 91 => ⟨S8192x2816, .f32⟩
  | 92 => ⟨S8192x2816, .f32⟩
  | 93 => ⟨S8192x2816, .f32⟩
  | 94 => ⟨S8192x1024, .f32⟩
  | 95 => ⟨S8192x1024, .f32⟩
  | 96 => ⟨S8192x1024, .f32⟩
  | 97 => ⟨S8192x1024, .f32⟩
  | 98 => ⟨S_, .f32⟩
  | 99 => ⟨S1024, .f32⟩
  | 100 => ⟨S1x1024, .f32⟩
  | 101 => ⟨S8192x1024, .f32⟩
  | 102 => ⟨S8192x1024, .f32⟩
  | 103 => ⟨S8192x1024, .f32⟩
  | 104 => ⟨S_, .f32⟩
  | 105 => ⟨S8192, .f32⟩
  | 106 => ⟨S8192x1, .f32⟩
  | 107 => ⟨S8192x1024, .f32⟩
  | 108 => ⟨S8192x1024, .f32⟩
  | 109 => ⟨S8192x1024, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .bf16⟩
  | 122 => ⟨S8192x2816, .f32⟩
  | 123 => ⟨S8192x2816, .f32⟩
  | 124 => ⟨S_, .f32⟩
  | 125 => ⟨S8192x2816, .f32⟩
  | 126 => ⟨S8192x2816, .f32⟩
  | 127 => ⟨S_, .f32⟩
  | _ => ⟨S8192x1024, .f32⟩

abbrev hbmTy0_1 (i : Nat) : BufTy := match i % 128 with
  | 0 => ⟨S8192x2816, .f32⟩
  | 1 => ⟨S8192x2816, .f32⟩
  | 2 => ⟨S8192x2816, .f32⟩
  | 3 => ⟨S8192x2816, .f32⟩
  | 4 => ⟨S8192x2816, .bf16⟩
  | 5 => ⟨S8192x2816, .bf16⟩
  | 6 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v16_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v16_1 : Ref sig .tc := ⟨.hbm, 36, rfl⟩
abbrev main_v16_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call2_v0 : Ref sig .tc := ⟨.hbm, 70, rfl⟩
abbrev main_call2_v1 : Ref sig .tc := ⟨.hbm, 71, rfl⟩
abbrev main_call2_cst : Ref sig .tc := ⟨.hbm, 72, rfl⟩
abbrev main_call2_v2 : Ref sig .tc := ⟨.hbm, 73, rfl⟩
abbrev main_call2_v3 : Ref sig .tc := ⟨.hbm, 74, rfl⟩
abbrev main_call2_cst_0 : Ref sig .tc := ⟨.hbm, 75, rfl⟩
abbrev main_call2_v4 : Ref sig .tc := ⟨.hbm, 76, rfl⟩
abbrev main_v42_2 : Ref sig .tc := ⟨.hbm, 77, rfl⟩
abbrev main_call2_cst_1 : Ref sig .tc := ⟨.hbm, 78, rfl⟩
abbrev main_call2_v6 : Ref sig .tc := ⟨.hbm, 79, rfl⟩
abbrev main_call2_v7 : Ref sig .tc := ⟨.hbm, 80, rfl⟩
abbrev main_v42_1 : Ref sig .tc := ⟨.hbm, 81, rfl⟩
abbrev main_v42_0 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_6 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_7 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_8 : Ref sig .tc := ⟨.hbm, 111, rfl⟩
abbrev main_v66 : Ref sig .tc := ⟨.hbm, 112, rfl⟩
abbrev main_v67 : Ref sig .tc := ⟨.hbm, 113, rfl⟩
abbrev main_cst_9 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_call4_v0 : Ref sig .tc := ⟨.hbm, 122, rfl⟩
abbrev main_call4_v1 : Ref sig .tc := ⟨.hbm, 123, rfl⟩
abbrev main_call4_cst : Ref sig .tc := ⟨.hbm, 124, rfl⟩
abbrev main_call4_v2 : Ref sig .tc := ⟨.hbm, 125, rfl⟩
abbrev main_call4_v3 : Ref sig .tc := ⟨.hbm, 126, rfl⟩
abbrev main_call4_cst_0 : Ref sig .tc := ⟨.hbm, 127, rfl⟩
abbrev main_call4_v4 : Ref sig .tc := ⟨.hbm, 128, rfl⟩
abbrev main_call4_v5 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x8192, .f32⟩
  | .hbm, ⟨3, _⟩ => ⟨S2816x1024, .f32⟩
  | .hbm, ⟨4, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .bf16⟩
  | .hbm, ⟨6, _⟩ => ⟨S2816x1024, .bf16⟩
  | .hbm, ⟨7, _⟩ => ⟨S2816x1024, .bf16⟩
  | .hbm, ⟨8, _⟩ => ⟨S8192x1024, .f32⟩
  | .hbm, ⟨9, _⟩ => ⟨S8192x2816, .bf16⟩
  | .hbm, ⟨10, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x2816, .f32⟩
  | .hbm, ⟨21, _⟩ => ⟨S8192x2816, .f32⟩
  | .hbm, ⟨22, _⟩ => ⟨S1024x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x2816, .bf16⟩
  | .hbm, ⟨37, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x8192, .f32⟩
  | .hbm, ⟨3, _⟩ => ⟨S2816x1024, .f32⟩
  | .hbm, ⟨4, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S2816x1024 : Shape := ⟨2, ![2816, 1024]⟩
abbrev S1x1 : Shape := ⟨2, ![1, 1]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1 : Shape := ⟨1, ![1]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S8192x1024, .f32⟩
  | .hbm, ⟨6, _⟩ => ⟨S2816x1024, .bf16⟩
  | .hbm, ⟨7, _⟩ => ⟨S2816x1024, .bf16⟩
  | .hbm, ⟨8, _⟩ => ⟨S2816x1024, .bf16⟩
  | .hbm, ⟨9, _⟩ => ⟨S8192x1024, .f32⟩
  | .hbm, ⟨10, _⟩ => ⟨S1x1, .f32⟩
  | .hbm, ⟨11, _⟩ => ⟨S8192x2816, .bf16⟩
  | .hbm, ⟨12, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1, .f32⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1024x2816, .f32⟩
  | .hbm, ⟨22, _⟩ => ⟨S8192x2816, .f32⟩
  | .hbm, ⟨23, _⟩ => ⟨S1024x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S1x1, .f32⟩
  | .hbm, ⟨61, _⟩ => ⟨S8192x2816, .bf16⟩
  | .hbm, ⟨62, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_cst_7 : Ref sig .tc := ⟨.hbm, 51, rfl⟩
abbrev main_cst_8 : Ref sig .tc := ⟨.hbm, 52, rfl⟩
abbrev main_v29 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x8192, .f32⟩
  | .hbm, ⟨3, _⟩ => ⟨S1024x1024, .f32⟩
  | .hbm, ⟨4, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x1280 : Shape := ⟨2, ![8192, 1280]⟩
abbrev S8192x1024 : Shape := ⟨2, ![8192, 1024]⟩
abbrev S1280x1024 : Shape := ⟨2, ![1280, 1024]⟩
abbrev S2048x640 : Shape := ⟨2, ![2048, 640]⟩
abbrev S2048x1024 : Shape := ⟨2, ![2048, 1024]⟩
abbrev S640x1024 : Shape := ⟨2, ![640, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1280, .f32⟩
  | .hbm, ⟨1, _⟩ => ⟨S8192x1024, .f32⟩
  | .hbm, ⟨2, _⟩ => ⟨S8192x1280, .bf16⟩
  | .hbm, ⟨3, _⟩ => ⟨S8192x1024, .bf16⟩
  | .hbm, ⟨4, _⟩ => ⟨S1280x1024, .bf16⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .f32⟩
  | _, _ => ⟨S8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1280 : Shape := ⟨2, ![8192, 1280]⟩
abbrev S8192x1024 : Shape := ⟨2, ![8192, 1024]⟩
abbrev S1280x8192 : Shape := ⟨2, ![1280, 8192]⟩
abbrev S1280x1024 : Shape := ⟨2, ![1280, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1280, .f32⟩
  | .hbm, ⟨1, _⟩ => ⟨S8192x1024, .f32⟩
  | .hbm, ⟨2, _⟩ => ⟨S1280x8192, .f32⟩
  | .hbm, ⟨3, _⟩ => ⟨S1280x1024, .f32⟩
  | .hbm, ⟨4, _⟩ => ⟨S1280x1024, .bf16⟩
  | _, _ => ⟨S8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x512 : Shape := ⟨2, ![8192, 512]⟩
abbrev S8192x256 : Shape := ⟨2, ![8192, 256]⟩
abbrev S512x256 : Shape := ⟨2, ![512, 256]⟩
abbrev S2048x512 : Shape := ⟨2, ![2048, 512]⟩
abbrev S2048x256 : Shape := ⟨2, ![2048, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x512, .bf16⟩
  | .hbm, ⟨3, _⟩ => ⟨S8192x256, .bf16⟩
  | .hbm, ⟨4, _⟩ => ⟨S512x256, .bf16⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S512x256, .bf16⟩
  | .local _ .vmem, ⟨5, _⟩ => ⟨S512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x512 : Shape := ⟨2, ![8192, 512]⟩
abbrev S8192x256 : Shape := ⟨2, ![8192, 256]⟩
abbrev S512x8192 : Shape := ⟨2, ![512, 8192]⟩
abbrev S512x256 : Shape := ⟨2, ![512, 256]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S512x8192, .f32⟩
  | .hbm, ⟨3, _⟩ => ⟨S512x256, .f32⟩
  | .hbm, ⟨4, _⟩ => ⟨S512x256, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x1024, .bf16⟩
  | .hbm, ⟨3, _⟩ => ⟨S8192x128, .bf16⟩
  | .hbm, ⟨4, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S8192x128 : Shape := ⟨2, ![8192, 128]⟩
abbrev S1024x8192 : Shape := ⟨2, ![1024, 8192]⟩
abbrev S1024x128 : Shape := ⟨2, ![1024, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S1024x8192, .f32⟩
  | .hbm, ⟨3, _⟩ => ⟨S1024x128, .f32⟩
  | .hbm, ⟨4, _⟩ => ⟨S1024x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x1024 : Shape := ⟨2, ![8192, 1024]⟩
abbrev S8192x128 : Shape := ⟨2, ![8192, 128]⟩
abbrev S1x1024 : Shape := ⟨2, ![1, 1024]⟩
abbrev S1280x1024 : Shape := ⟨2, ![1280, 1024]⟩
abbrev S1x256 : Shape := ⟨2, ![1, 256]⟩
abbrev S512x256 : Shape := ⟨2, ![512, 256]⟩
abbrev S1x128 : Shape := ⟨2, ![1, 128]⟩
abbrev S1024x128 : Shape := ⟨2, ![1024, 128]⟩
abbrev S8192x1280 : Shape := ⟨2, ![8192, 1280]⟩
abbrev S4x8192x128 : Shape := ⟨3, ![4, 8192, 128]⟩
abbrev S4x128x8192 : Shape := ⟨3, ![4, 128, 8192]⟩
abbrev S1024x1024 : Shape := ⟨2, ![1024, 1024]⟩
abbrev S1024x1280 : Shape := ⟨2, ![1024, 1280]⟩
abbrev S4x1024x128 : Shape := ⟨3, ![4, 1024, 128]⟩
abbrev S4x128x1024 : Shape := ⟨3, ![4, 128, 1024]⟩
abbrev S256x1024 : Shape := ⟨2, ![256, 1024]⟩
abbrev S256 : Shape := ⟨1, ![256]⟩
abbrev S256x1 : Shape := ⟨2, ![256, 1]⟩
abbrev S256x1280 : Shape := ⟨2, ![256, 1280]⟩
abbrev S256x256 : Shape := ⟨2, ![256, 256]⟩
abbrev S256x128 : Shape := ⟨2, ![256, 128]⟩
abbrev S256x512 : Shape := ⟨2, ![256, 512]⟩
abbrev S1x256x128 : Shape := ⟨3, ![1, 256, 128]⟩
abbrev S128x256 : Shape := ⟨2, ![128, 256]⟩
abbrev S1x128x256 : Shape := ⟨3, ![1, 128, 256]⟩

abbrev nBuf : Space → Nat
  | .hbm => 21
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S1x1024, .f32⟩
  | .hbm, ⟨5, _⟩ => ⟨S1280x1024, .f32⟩
  | .hbm, ⟨6, _⟩ => ⟨S1x256, .f32⟩
  | .hbm, ⟨7, _⟩ => ⟨S512x256, .f32⟩
  | .hbm, ⟨8, _⟩ => ⟨S1x128, .f32⟩
  | .hbm, ⟨9, _⟩ => ⟨S1024x128, .f32⟩
  | .hbm, ⟨10, _⟩ => ⟨S1x128, .f32⟩
  | .hbm, ⟨11, _⟩ => ⟨S1x128, .f32⟩
  | .hbm, ⟨12, _⟩ => ⟨S1280x1024, .bf16⟩
  | .hbm, ⟨13, _⟩ => ⟨S512x256, .bf16⟩
  | .hbm, ⟨14, _⟩ => ⟨S1024x128, .bf16⟩
  | .hbm, ⟨15, _⟩ => ⟨S8192x1280, .f32⟩
  | .hbm, ⟨16, _⟩ => ⟨S4x8192x128, .bf16⟩
  | .hbm, ⟨17, _⟩ => ⟨S4x8192x128, .bf16⟩
  | .hbm, ⟨18, _⟩ => ⟨S4x8192x128, .bf16⟩
  | .hbm, ⟨19, _⟩ => ⟨S4x128x8192, .bf16⟩
  | .hbm, ⟨20, _⟩ => ⟨S4x128x8192, .bf16⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1024, .f32⟩
  | .local _ .vmem, ⟨9, _⟩ => ⟨S1280x1024, .bf16⟩
  | .local _ .vmem, ⟨10, _⟩ => ⟨S1x256, .f32⟩
  | .local _ .vmem, ⟨11, _⟩ => ⟨S512x256, .bf16⟩
  | .local _ .vmem, ⟨12, _⟩ => ⟨S1x128, .f32⟩
  | .local _ .vmem, ⟨13, _⟩ => ⟨S1024x128, .bf16⟩
  | .local _ .vmem, ⟨14, _⟩ => ⟨S1x128, .f32⟩
  | .local _ .vmem, ⟨15, _⟩ => ⟨S1x128, .f32⟩
  | .local _ .vmem, ⟨16, _⟩ => ⟨S1024x1280, .f32⟩
  | .local _ .vmem, ⟨17, _⟩ => ⟨S1024x1280, .f32⟩
  | .local _ .vmem, ⟨18, _⟩ => ⟨S4x1024x128, .bf16⟩
  | .local _ .vmem, ⟨19, _⟩ => ⟨S4x1024x128, .bf16⟩
  | .local _ .vmem, ⟨20, _⟩ => ⟨S4x1024x128, .bf16⟩
  | .local _ .vmem, ⟨21, _⟩ => ⟨S4x1024x128, .bf16⟩
  | .local _ .vmem, ⟨22, _⟩ => ⟨S4x1024x128, .bf16⟩
  | .local _ .vmem, ⟨23, _⟩ => ⟨S4x1024x128, .bf16⟩
  | .local _ .vmem, ⟨24, _⟩ => ⟨S4x128x1024, .bf16⟩
  | .local _ .vmem, ⟨25, _⟩ => ⟨S4x128x1024, .bf16⟩
  | .local _ .vmem, ⟨26, _⟩ => ⟨S4x128x1024, .bf16⟩
  | .local _ .vmem, ⟨27, _⟩ => ⟨S4x128x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1280 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference11Ideal.lean ====
abbrev S8192x1024 : Shape := ⟨2, ![8192, 1024]⟩
abbrev S8192x128 : Shape := ⟨2, ![8192, 128]⟩
abbrev S1x1024 : Shape := ⟨2, ![1, 1024]⟩
abbrev S1280x1024 : Shape := ⟨2, ![1280, 1024]⟩
abbrev S1x256 : Shape := ⟨2, ![1, 256]⟩
abbrev S512x256 : Shape := ⟨2, ![512, 256]⟩
abbrev S1x128 : Shape := ⟨2, ![1, 128]⟩
abbrev S1024x128 : Shape := ⟨2, ![1024, 128]⟩
abbrev S_ : Shape := ⟨0, ![]⟩
abbrev S8192 : Shape := ⟨1, ![8192]⟩
abbrev S8192x1 : Shape := ⟨2, ![8192, 1]⟩
abbrev S1024x1280 : Shape := ⟨2, ![1024, 1280]⟩
abbrev S8192x1280 : Shape := ⟨2, ![8192, 1280]⟩
abbrev S128x1024 : Shape := ⟨2, ![128, 1024]⟩
abbrev S8192x512 : Shape := ⟨2, ![8192, 512]⟩
abbrev S8192x4x128 : Shape := ⟨3, ![8192, 4, 128]⟩
abbrev S4x8192x128 : Shape := ⟨3, ![4, 8192, 128]⟩
abbrev S4x128x8192 : Shape := ⟨3, ![4, 128, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S1x1024, .f32⟩
  | .hbm, ⟨5, _⟩ => ⟨S1280x1024, .f32⟩
  | .hbm, ⟨6, _⟩ => ⟨S1x256, .f32⟩
  | .hbm, ⟨7, _⟩ => ⟨S512x256, .f32⟩
  | .hbm, ⟨8, _⟩ => ⟨S1x128, .f32⟩
  | .hbm, ⟨9, _⟩ => ⟨S1024x128, .f32⟩
  | .hbm, ⟨10, _⟩ => ⟨S1x128, .f32⟩
  | .hbm, ⟨11, _⟩ => ⟨S1x128, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x1280, .f32⟩
  | .hbm, ⟨28, _⟩ => ⟨S8192x1280, .f32⟩
  | .hbm, ⟨29, _⟩ => ⟨S8192x128, .f32⟩
  | .hbm, ⟨30, _⟩ => ⟨S8192x128, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S128x1024, .f32⟩
  | .hbm, ⟨46, _⟩ => ⟨S8192x1024, .f32⟩
  | .hbm, ⟨47, _⟩ => ⟨S8192x512, .f32⟩
  | .hbm, ⟨48, _⟩ => ⟨S8192x4x128, .f32⟩
  | .hbm, ⟨49, _⟩ => ⟨S4x8192x128, .f32⟩
  | .hbm, ⟨50, _⟩ => ⟨S4x8192x128, .bf16⟩
  | .hbm, ⟨51, _⟩ => ⟨S4x128x8192, .f32⟩
  | .hbm, ⟨52, _⟩ => ⟨S4x128x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Kernel12.lean ====
abbrev S8192x1024 : Shape := ⟨2, ![8192, 1024]⟩
abbrev S8192x512 : Shape := ⟨2, ![8192, 512]⟩
abbrev S8192x1280 : Shape := ⟨2, ![8192, 1280]⟩
abbrev S1x256 : Shape := ⟨2, ![1, 256]⟩
abbrev S128x512 : Shape := ⟨2, ![128, 512]⟩
abbrev S128x256 : Shape := ⟨2, ![128, 256]⟩
abbrev S256x256 : Shape := ⟨2, ![256, 256]⟩
abbrev S1x512 : Shape := ⟨2, ![1, 512]⟩
abbrev S1024x1024 : Shape := ⟨2, ![1024, 1024]⟩
abbrev S512x1024 : Shape := ⟨2, ![512, 1024]⟩
abbrev S512x512 : Shape := ⟨2, ![512, 512]⟩
abbrev S512x256 : Shape := ⟨2, ![512, 256]⟩
abbrev S16x256 : Shape := ⟨2, ![16, 256]⟩
abbrev S512 : Shape := ⟨1, ![512]⟩
abbrev S512x1 : Shape := ⟨2, ![512, 1]⟩
abbrev S528x256 : Shape := ⟨2, ![528, 256]⟩

abbrev nBuf : Space → Nat
  | .hbm => 16
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1280, .f32⟩
  | .hbm, ⟨3, _⟩ => ⟨S1x256, .f32⟩
  | .hbm, ⟨4, _⟩ => ⟨S128x512, .f32⟩
  | .hbm, ⟨5, _⟩ => ⟨S128x256, .f32⟩
  | .hbm, ⟨6, _⟩ => ⟨S256x256, .f32⟩
  | .hbm, ⟨7, _⟩ => ⟨S1x256, .f32⟩
  | .hbm, ⟨8, _⟩ => ⟨S1x512, .f32⟩
  | .hbm, ⟨9, _⟩ => ⟨S1x256, .f32⟩
  | .hbm, ⟨10, _⟩ => ⟨S1x256, .f32⟩
  | .hbm, ⟨11, _⟩ => ⟨S1024x1024, .f32⟩
  | .hbm, ⟨12, _⟩ => ⟨S128x512, .bf16⟩
  | .hbm, ⟨13, _⟩ => ⟨S256x256, .bf16⟩
  | .hbm, ⟨14, _⟩ => ⟨S1024x1024, .bf16⟩
  | .hbm, ⟨15, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S16x256, .f32⟩
  | .local _ .vmem, ⟨11, _⟩ => ⟨S16x256, .f32⟩
  | .local _ .vmem, ⟨12, _⟩ => ⟨S1x256, .f32⟩
  | .local _ .vmem, ⟨13, _⟩ => ⟨S128x512, .bf16⟩
  | .local _ .vmem, ⟨14, _⟩ => ⟨S128x256, .f32⟩
  | .local _ .vmem, ⟨15, _⟩ => ⟨S256x256, .bf16⟩
  | .local _ .vmem, ⟨16, _⟩ => ⟨S1x256, .f32⟩
  | .local _ .vmem, ⟨17, _⟩ => ⟨S1x512, .f32⟩
  | .local _ .vmem, ⟨18, _⟩ => ⟨S1x256, .f32⟩
  | .local _ .vmem, ⟨19, _⟩ => ⟨S1x256, .f32⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference12Ideal.lean ====
abbrev S8192x1024 : Shape := ⟨2, ![8192, 1024]⟩
abbrev S8192x512 : Shape := ⟨2, ![8192, 512]⟩
abbrev S8192x1280 : Shape := ⟨2, ![8192, 1280]⟩
abbrev S1x256 : Shape := ⟨2, ![1, 256]⟩
abbrev S128x512 : Shape := ⟨2, ![128, 512]⟩
abbrev S128x256 : Shape := ⟨2, ![128, 256]⟩
abbrev S256x256 : Shape := ⟨2, ![256, 256]⟩
abbrev S1x512 : Shape := ⟨2, ![1, 512]⟩
abbrev S1024x1024 : Shape := ⟨2, ![1024, 1024]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S64x128x4x64 : Shape := ⟨4, ![64, 128, 4, 64]⟩
abbrev S128x4x128 : Shape := ⟨3, ![128, 4, 128]⟩
abbrev S4x64x64x128 : Shape := ⟨4, ![4, 64, 64, 128]⟩
abbrev S64x128x256 : Shape := ⟨3, ![64, 128, 256]⟩
abbrev S1x128x256 : Shape := ⟨3, ![1, 128, 256]⟩
abbrev S8192x64 : Shape := ⟨2, ![8192, 64]⟩

abbrev nBuf : Space → Nat
  | .hbm => 141
  | .vmem => 0
  | .smem => 0
  | _ => 0

abbrev hbmTy0_0 (i : Nat) : BufTy := match i % 128 with
  | 0 => ⟨S8192x1024, .f32⟩
  | 1 => ⟨S8192x512, .f32⟩
  | 2 => ⟨S8192x1280, .f32⟩
  | 3 => ⟨S1x256, .f32⟩
  | 4 => ⟨S128x512, .f32⟩
  | 5 => ⟨S128x256, .f32⟩
  | 6 => ⟨S256x256, .f32⟩
  | 7 => ⟨S1x256, .f32⟩
  | 8 => ⟨S1x512, .f32⟩
  | 9 => ⟨S1x256, .f32⟩
  | 10 => ⟨S1x256, .f32⟩
  | 11 => ⟨S1024x1024, .f32⟩
  | 12 => ⟨S8192x256, .f32⟩
  | 13 => ⟨S8192x256, .f32⟩
  | 14 => ⟨S8192x256, .f32⟩
  | 15 => ⟨S8192x256, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x256, .f32⟩
  | 27 => ⟨S8192x256, .f32⟩
  | 28 => ⟨S8192x256, .f32⟩
  | 29 => ⟨S8192x256, .f32⟩
  | 30 => ⟨S64x128x4x64, .f32⟩
  | 31 => ⟨S128x4x128, .f32⟩
  | 32 => ⟨S4x64x64x128, .f32⟩
  | 33 => ⟨S64x128x4x64, .f32⟩
  | 34 => ⟨S64x128x256, .f32⟩
  | 35 => ⟨S1x128x256, .f32⟩
  | 36 => ⟨S64x128x256, .f32⟩
  | 37 => ⟨S64x128x256, .f32⟩
  | 38 => ⟨S8192x256, .f32⟩
  | 39 => ⟨S8192x256, .f32⟩
  | 40 => ⟨S8192, .f32⟩
  | 41 => ⟨S_, .f32⟩
  | 42 => ⟨S8192, .f32⟩
  | 43 => ⟨S8192, .f32⟩
  | 44 => ⟨S8192x1, .f32⟩
  | 45 => ⟨S8192x64, .f32⟩
  | 46 => ⟨S_, .f32⟩
  | 47 => ⟨S_, .f32⟩
  | 48 => ⟨S8192x64, .f32⟩
  | 49 => ⟨S_, .f32⟩
  | 50 => ⟨S8192x1, .f32⟩
  | 51 => ⟨S8192x1, .f32⟩
  | 52 => ⟨S8192x64, .f32⟩
  | 53 => ⟨S8192x64, .f32⟩
  | 54 => ⟨S8192x64, .f32⟩
  | 55 => ⟨S8192x64, .f32⟩
  | 56 => ⟨S8192x64, .f32⟩
  | 57 => ⟨S_, .f32⟩
  | 58 => ⟨S_, .f32⟩
  | 59 => ⟨S8192x64, .f32⟩
  | 60 => ⟨S_, .f32⟩
  | 61 => ⟨S8192x1, .f32⟩
  | 62 => ⟨S8192x1, .f32⟩
  | 63 => ⟨S8192x64, .f32⟩
  | 64 => ⟨S8192x64, .f32⟩
  | 65 => ⟨S8192x64, .f32⟩
  | 66 => ⟨S8192x64, .f32⟩
  | 67 => ⟨S8192x64, .f32⟩
  | 68 => ⟨S_, .f32⟩
  | 69 => ⟨S_, .f32⟩
  | 70 => ⟨S8192x64, .f32⟩
  | 71 => ⟨S_, .f32⟩
  | 72 => ⟨S8192x1, .f32⟩
  | 73 => ⟨S8192x1, .f32⟩
  | 74 => ⟨S8192x64, .f32⟩
  | 75 => ⟨S8192x64, .f32⟩
  | 76 => ⟨S8192x64, .f32⟩
  | 77 => ⟨S8192x64, .f32⟩
  | 78 => ⟨S8192x64, .f32⟩
  | 79 => ⟨S_, .f32⟩
  | 80 => ⟨S_, .f32⟩
  | 81 => ⟨S8192x64, .f32⟩
  | 82 => ⟨S_, .f32⟩
  | 83 => ⟨S8192x1, .f32⟩
  | 84 => ⟨S8192x1, .f32⟩
  | 85 => ⟨S8192x64, .f32⟩
  | 86 => ⟨S8192x64, .f32⟩
  | 87 => ⟨S8192x64, .f32⟩
  | 88 => ⟨S8192x64, .f32⟩
  | 89 => ⟨S8192x256, .f32⟩
  | 90 => ⟨S8192x256, .f32⟩
  | 91 => ⟨S8192x256, .f32⟩
  | 92 => ⟨S8192x256, .f32⟩
  | 93 => ⟨S8192x512, .f32⟩
  | 94 => ⟨S_, .f32⟩
  | 95 => ⟨S8192, .f32⟩
  | 96 => ⟨S8192x1, .f32⟩
  | 97 => ⟨S_, .f32⟩
  | 98 => ⟨S8192x1, .f32⟩
  | 99 => ⟨S8192x1, .f32⟩
  | 100 => ⟨S_, .f32⟩
  | 101 => ⟨S8192x1, .f32⟩
  | 102 => ⟨S8192x1, .f32⟩
  | 103 => ⟨S8192x1, .f32⟩
  | 104 => ⟨S8192x512, .f32⟩
  | 105 => ⟨S8192x512, .f32⟩
  | 106 => ⟨S8192x512, .f32⟩
  | 107 => ⟨S8192x512, .f32⟩
  | 108 => ⟨S8192x256, .f32⟩
  | 109 => ⟨S_, .f32⟩
  | 110 => ⟨S8192, .f32⟩
  | 111 => ⟨S8192x1, .f32⟩
  | 112 => ⟨S_, .f32⟩
  | 113 => ⟨S8192x1, .f32⟩
  | 114 => ⟨S8192x1, .f32⟩
  | 115 => ⟨S_, .f32⟩
  | 116 => ⟨S8192x1, .f32⟩
  | 117 => ⟨S8192x1, .f32⟩
  | 118 => ⟨S8192x1, .f32⟩
  | 119 => ⟨S8192x256, .f32⟩
  | 120 => ⟨S8192x256, .f32⟩
  | 121 => ⟨S8192x256, .f32⟩
  | 122 => ⟨S8192x256, .f32⟩
  | 123 => ⟨S8192x256, .f32⟩
  | 124 => ⟨S_, .f32⟩
  | 125 => ⟨S8192, .f32⟩
  | 126 => ⟨S8192x1, .f32⟩
  | 127 => ⟨S_, .f32⟩
  | _ => ⟨S8192x1024, .f32⟩

abbrev hbmTy0_1 (i : Nat) : BufTy := match i % 128 with
  | 0 => ⟨S8192x1, .f32⟩
  | 1 => ⟨S8192x1, .f32⟩
  | 2 => ⟨S_, .f32⟩
  | 3 => ⟨S8192x1, .f32⟩
  | 4 => ⟨S8192x1, .f32⟩
  | 5 => ⟨S8192x1, .f32⟩
  | 6 => ⟨S8192x256, .f32⟩
  | 7 => ⟨S8192x256, .f32⟩
  | 8 => ⟨S8192x256, .f32⟩
  | 9 => ⟨S8192x256, .f32⟩
  | 10 => ⟨S8192x1024, .f32⟩
  | 11 => ⟨S8192x1024, .f32⟩
  | 12 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_11 : Ref sig .tc := ⟨.hbm, 94, rfl⟩
abbrev main_v70 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_14 : Ref sig .tc := ⟨.hbm, 109, rfl⟩
abbrev main_v82 : Ref sig .tc := ⟨.hbm, 110, rfl⟩
abbrev main_v83 : Ref sig .tc := ⟨.hbm, 111, rfl⟩
abbrev main_cst_15 : Ref sig .tc := ⟨.hbm, 112, rfl⟩
abbrev main_v84 : Ref sig .tc := ⟨.hbm, 113, rfl⟩
abbrev main_v85 : Ref sig .tc := ⟨.hbm, 114, rfl⟩
abbrev main_cst_16 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_17 : Ref sig .tc := ⟨.hbm, 124, rfl⟩
abbrev main_v94 : Ref sig .tc := ⟨.hbm, 125, rfl⟩
abbrev main_v95 : Ref sig .tc := ⟨.hbm, 126, rfl⟩
abbrev main_cst_18 : Ref sig .tc := ⟨.hbm, 127, rfl⟩
abbrev main_v96 : Ref sig .tc := ⟨.hbm, 128, rfl⟩
abbrev main_v97 : Ref sig .tc := ⟨.hbm, 129, rfl⟩
abbrev main_cst_19 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩

abbrev nD : Nat := 1
abbrev τ : Topo := Topo.v7x

variable {F : FTy → Type} [FloatOps F]
-- ==== Proof.Sub.lean ====
/- One sub-block of the backward kernel as a small program over the rectangles it reads and writes, and the two guarded
   regions of the printed body as sequences of it. -/
module

public import proofs.«01_k».proof.Proof.Gen.KernelIdeal.Skeleton
public import proofs.«01_k».proof.Proof.Gen.KernelIdeal.Launch

@[expose] public section

set_option maxRecDepth 65536

noncomputable section

namespace Cert.KernelIdeal.Attn

open Idealize.ShloMosaic Idealize.SL.Sem
open Cert.KernelIdeal Cert.KernelIdeal.Gen

variable {F : FTy → Type} [FloatOps F] [Named F]

/-- The unnormalised-by-nothing probabilities of a sub-block, keys down and queries across: `2` to the scores less the row's log-sum. -/
def ptU (q k : Vec F S1x512x128 .bf16) (l : Vec F S1x1x512 .f32) : FVec F S512x512 .f32 :=
  exp2 (subf (matmul dot_S512x128_S512x128_S512x512_1_1_0_0_n_n none (shapeCast S512x128 k shapeCasts_S1x512x128_S512x128 : FVec F S512x128 .bf16)
      (shapeCast S512x128 q shapeCasts_S1x512x128_S512x128 : FVec F S512x128 .bf16) (constant S512x512 .f32 0x00000000#32))
    (broadcastTo S512x512 (shapeCast S1x512 l shapeCasts_S1x1x512_S1x512 : FVec F S1x512 .f32) broadcasts_S1x512_S512x512))

/-- The same where a key may not come after its query: zero there. -/
def ptM (q k : Vec F S1x512x128 .bf16) (l : Vec F S1x1x512 .f32) : FVec F S512x512 .f32 :=
  select (cmpi .sle (iota .tc S512x512 32 [0] iota_S512x512_d0_w32) (iota .tc S512x512 32 [1] iota_S512x512_d1_w32))
    (ptU q k l) (broadcast S512x512 (Scalar.ofBits .f32 0x00000000#32 : F .f32))

/-- The gradient of the sub-block's scores. -/
def dsOf (pt : FVec F S512x512 .f32) (d : Vec F S512x128 .f32) (v : Vec F S1x512x128 .bf16) (e : Vec F S1x1x512 .f32) : FVec F S512x512 .bf16 :=
  truncf .bf16 (mulf pt (subf (matmul dot_S512x128_S512x128_S512x512_1_1_0_0_n_n none (shapeCast S512x128 v shapeCasts_S1x512x128_S512x128 : FVec F S512x128 .bf16)
      (truncf .bf16 d bitsLt_bf16_f32 : FVec F S512x128 .bf16) (constant S512x512 .f32 0x00000000#32))
    (broadcastTo S512x512 (shapeCast S1x512 e shapeCasts_S1x1x512_S1x512 : FVec F S1x512 .f32) broadcasts_S1x512_S512x512))) bitsLt_bf16_f32

/-- What the sub-block leaves of the values' gradient where it held `x`. -/
def payV (pt : FVec F S512x512 .f32) (d : Vec F S512x128 .f32) (x : Vec F S1x512x128 .f32) : FVec F S1x512x128 .f32 :=
  shapeCast S1x512x128 (addf (shapeCast S512x128 x shapeCasts_S1x512x128_S512x128 : FVec F S512x128 .f32)
    (matmul dot_S512x512_S512x128_S512x128_1_0_0_1_n_n none (truncf .bf16 pt bitsLt_bf16_f32 : FVec F S512x512 .bf16)
      (truncf .bf16 d bitsLt_bf16_f32 : FVec F S512x128 .bf16) (constant S512x128 .f32 0x00000000#32))) shapeCasts_S512x128_S1x512x128

/-- What it leaves of the keys' gradient where it held `x`. -/
def payK (q : Vec F S1x512x128 .bf16) (ds : FVec F S512x512 .bf16) (x : Vec F S1x512x128 .f32) : FVec F S1x512x128 .f32 :=
  shapeCast S1x512x128 (addf (shapeCast S512x128 x shapeCasts_S1x512x128_S512x128 : FVec F S512x128 .f32)
    (matmul dot_S512x512_S512x128_S512x128_1_0_0_1_n_n none ds (shapeCast S512x128 q shapeCasts_S1x512x128_S512x128 : FVec F S512x128 .bf16)
      (constant S512x128 .f32 0x00000000#32))) shapeCasts_S512x128_S1x512x128

/-- What it leaves of the queries' gradient, transposed, where it held `x`. -/
def payT (ds : FVec F S512x512 .bf16) (kt : Vec F S1x128x512 .bf16) (x : Vec F S1x128x512 .f32) : FVec F S1x128x512 .f32 :=
  shapeCast S1x128x512 (addf (shapeCast S128x512 x shapeCasts_S1x128x512_S128x512 : FVec F S128x512 .f32)
    (matmul dot_S128x512_S512x512_S128x512_1_0_0_1_n_n none (shapeCast S128x512 kt shapeCasts_S1x128x512_S128x512 : FVec F S128x512 .bf16) ds
      (constant S128x512 .f32 0x00000000#32))) shapeCasts_S128x512_S1x128x512

/-- The sub-block at head `h`, queries `qa` and keys `kb` on: its memory operations in the printed order. -/
def sub (msk : Bool)
    (arg4 : Memref sig .tc .vmem S2x1024x128 .bf16) (arg5 : Memref sig .tc .vmem S2x1024x128 .bf16) (arg6 : Memref sig .tc .vmem S2x128x1024 .bf16)
    (arg7 : Memref sig .tc .vmem S2x1024x128 .bf16) (arg8 : Memref sig .tc .vmem S1024x256 .f32) (arg9 : Memref sig .tc .vmem S2x1x1024 .f32)
    (arg10 : Memref sig .tc .vmem S2x1x1024 .f32) (arg11 : Memref sig .tc .vmem S2x128x8192 .f32)
    (arg14 : Memref sig .tc .vmem S2x1024x128 .f32) (arg15 : Memref sig .tc .vmem S2x1024x128 .f32)
    (oq ok : Fin 3 → Nat) (od : Fin 2 → Nat) (ol okt ot : Fin 3 → Nat)
    (hq : ∀ a, oq a + S1x512x128.size a ≤ S2x1024x128.size a) (hk : ∀ a, ok a + S1x512x128.size a ≤ S2x1024x128.size a)
    (hd : ∀ a, od a + S512x128.size a ≤ S1024x256.size a) (hl : ∀ a, ol a + S1x1x512.size a ≤ S2x1x1024.size a)
    (hkt : ∀ a, okt a + S1x128x512.size a ≤ S2x128x1024.size a) (ht : ∀ a, ot a + S1x128x512.size a ≤ S2x128x8192.size a) :
    Prog (TpuEff nD τ sig (Elt F) Λ₀ .tc) PUnit := do
  let q : Vec F S1x512x128 .bf16 ← Prog.lift (.load arg4 (Rect.unit (s := S2x1024x128) oq S1x512x128.size hq).toLoadRect (View.loadsAt_vmem h_S1x512x128))
  let d : Vec F S512x128 .f32 ← Prog.lift (.load arg8 (Rect.unit (s := S1024x256) od S512x128.size hd).toLoadRect (View.loadsAt_vmem h_S512x128))
  let k : Vec F S1x512x128 .bf16 ← Prog.lift (.load arg5 (Rect.unit (s := S2x1024x128) ok S1x512x128.size hk).toLoadRect (View.loadsAt_vmem h_S1x512x128))
  let v : Vec F S1x512x128 .bf16 ← Prog.lift (.load arg7 (Rect.unit (s := S2x1024x128) ok S1x512x128.size hk).toLoadRect (View.loadsAt_vmem h_S1x512x128))
  let l : Vec F S1x1x512 .f32 ← Prog.lift (.load arg9 (Rect.unit (s := S2x1x1024) ol S1x1x512.size hl).toLoadRect (View.loadsAt_vmem h_S1x1x512))
  let e : Vec F S1x1x512 .f32 ← Prog.lift (.load arg10 (Rect.unit (s := S2x1x1024) ol S1x1x512.size hl).toLoadRect (View.loadsAt_vmem h_S1x1x512))
  let x : Vec F S1x512x128 .f32 ← Prog.lift (.load arg15 (Rect.unit (s := S2x1024x128) ok S1x512x128.size hk).toLoadRect (View.loadsAt_vmem h_S1x512x128))
  let _ : Vec F S1x512x128 .f32 ← Prog.lift (.load arg15 (Rect.unit (s := S2x1024x128) ok S1x512x128.size hk).toLoadRect (View.loadsAt_vmem h_S1x512x128))
  Prog.lift (.store arg15 (Rect.unit (s := S2x1024x128) ok S1x512x128.size hk) (payV (bif msk then ptM q k l else ptU q k l) d x) Finset.univ (View.stores_vmem_bits_univ h_S1x512x128 rfl) (.inl rfl))
  let y : Vec F S1x512x128 .f32 ← Prog.lift (.load arg14 (Rect.unit (s := S2x1024x128) ok S1x512x128.size hk).toLoadRect (View.loadsAt_vmem h_S1x512x128))
  let _ : Vec F S1x512x128 .f32 ← Prog.lift (.load arg14 (Rect.unit (s := S2x1024x128) ok S1x512x128.size hk).toLoadRect (View.loadsAt_vmem h_S1x512x128))
  Prog.lift (.store arg14 (Rect.unit (s := S2x1024x128) ok S1x512x128.size hk) (payK q (dsOf (bif msk then ptM q k l else ptU q k l) d v e) y) Finset.univ (View.stores_vmem_bits_univ h_S1x512x128 rfl) (.inl rfl))
  let z : Vec F S1x128x512 .f32 ← Prog.lift (.load arg11 (Rect.unit (s := S2x128x8192) ot S1x128x512.size ht).toLoadRect (View.loadsAt_vmem h_S1x128x512))
  let kt : Vec F S1x128x512 .bf16 ← Prog.lift (.load arg6 (Rect.unit (s := S2x128x1024) okt S1x128x512.size hkt).toLoadRect (View.loadsAt_vmem h_S1x128x512))
  let _ : Vec F S1x128x512 .f32 ← Prog.lift (.load arg11 (Rect.unit (s := S2x128x8192) ot S1x128x512.size ht).toLoadRect (View.loadsAt_vmem h_S1x128x512))
  Prog.lift (.store arg11 (Rect.unit (s := S2x128x8192) ot S1x128x512.size ht) (payT (dsOf (bif msk then ptM q k l else ptU q k l) d v e) kt z) Finset.univ (View.stores_vmem_bits_univ h_S1x128x512 rfl) (.inl rfl))

end Cert.KernelIdeal.Attn
-- ==== Proof.Triple.lean ====
/- What one sub-block does to the buffers it owns, as a function of what they held. -/
module

public import proofs.«01_k».proof.Proof.Sub
public import Idealize.ShloMosaic.Lib.Tactic
public import Idealize.ShloMosaic.Lib.Pipeline.Frame
public import Idealize.ShloMosaic.Lib.Pipeline.TableIdle
public import Idealize.ShloMosaic.Lib.VecWindow

@[expose] public section

set_option maxRecDepth 65536

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F] [Named F]

section Rules

variable {defs : Defs nD τ sig (Elt F) Λ₀} (𝒱 : Variants) (c : Dev nD) (bd : Option 𝒱.V) (E : Set ℕ)
variable {s : Shape} {e : EltTy} {Q : PUnit → sProp (MT nD τ sig Unit (Elt F) ℕ (UR sig nD τ) ℕ)}

/-- A load of an owned memref through a rectangle continues at the window of what it holds. -/
theorem load_own {cs : CoreSpace} {m : Memref sig .tc cs s e} {off size : Fin s.rank → ℕ} {inb : ∀ a, off a + size a ≤ s.size a}
    {hl : m.view.LoadsAt (Rect.unit off size inb).toLoadRect} {k : ((Rect.unit off size inb).shape.Idx → Elt F e) → Prog (TpuEff nD τ sig (Elt F) Λ₀ .tc) PUnit}
    {q : PosShare TreeShare} {X : s.Idx → Elt F e} :
    (owns (c : Thread nD τ) m q X : sProp (MT nD τ sig Unit (Elt F) ℕ (UR sig nD τ) ℕ))
      ⊢ iprop((owns (c : Thread nD τ) m q X -∗ wp frame (wpE defs 𝒱 c bd) E (k (VecWindow.window X off size inb)) Q)
        -∗ wp frame (wpE defs 𝒱 c bd) E (.op (.load m (Rect.unit off size inb).toLoadRect hl) k) Q) := by
  have h : m.view.readAt (Elt F) (Rect.unit off size inb).toLoadRect (m.view.rep X) = VecWindow.window X off size inb := View.readAt_rep_unit m.view X inb rfl inb
  rw [owns_eq_rep, ← h]
  exact wp_load 𝒱 (c : Thread nD τ) bd E (Q := Q) (m := m) (r := (Rect.unit off size inb).toLoadRect) (hl := hl) (k := k) (q := q)
    (f := m.view.rep X) (S := m.view.set) (View.setOn_subset_set _ _)

/-- An unmasked store to an owned memref through a rectangle leaves the payload over what it held. -/
theorem store_own {cs : CoreSpace} {m : Memref sig .tc cs s e} {off size : Fin s.rank → ℕ} {inb : ∀ a, off a + size a ≤ s.size a}
    {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ₀ .tc) PUnit} {X : s.Idx → Elt F e} :
    (owns (c : Thread nD τ) m fullShare X : sProp (MT nD τ sig Unit (Elt F) ℕ (UR sig nD τ) ℕ))
      ⊢ iprop((owns (c : Thread nD τ) m fullShare (VecWindow.put X off size w) -∗ wp frame (wpE defs 𝒱 c bd) E (k ⟨⟩) Q)
        -∗ wp frame (wpE defs 𝒱 c bd) E (.op (.store m (Rect.unit off size inb) w Finset.univ hx hm) k) Q) := by
  have h := wp_store_writes₀ (defs := defs) 𝒱 (c : Thread nD τ) bd E (Q := Q) (m := m) (r := Rect.unit off size inb) (w := w) (hx := hx) (hm := hm) (k := k)
    (f := m.view.rep X) (S := m.view.set) (View.set_slice_subset _ _)
  have hr := View.read_writes_rep_unit (Val := Elt F) m.view X inb w (rfl : off = off)
  rw [owns_eq_rep]
  refine h.trans (wand_mono_left (wand_mono_left ?_))
  have := owns_intro (Ix := Unit) (Name := ℕ) (U := UR sig nD τ) (Lvl := ℕ) (c : Thread nD τ) m fullShare (m.view.writes (Elt F) (m.view.rep X) [⟨Rect.unit off size inb, w⟩])
  rwa [hr] at this

end Rules

/-- What the seven input windows hold. -/
structure Inp (F : FTy → Type) where
  q : Vec F S2x1024x128 .bf16
  k : Vec F S2x1024x128 .bf16
  kt : Vec F S2x128x1024 .bf16
  v : Vec F S2x1024x128 .bf16
  d : Vec F S1024x256 .f32
  l : Vec F S2x1x1024 .f32
  e : Vec F S2x1x1024 .f32

/-- What the three accumulators hold: the queries' gradient transposed, the keys' and the values'. -/
structure Acc (F : FTy → Type) where
  t : Vec F S2x128x8192 .f32
  k : Vec F S2x1024x128 .f32
  v : Vec F S2x1024x128 .f32

/-- The probabilities of the sub-block at the given offsets. -/
def ptF (msk : Bool) (I : Inp F) (oq ok ol : Fin 3 → Nat) (hq : ∀ a, oq a + S1x512x128.size a ≤ S2x1024x128.size a)
    (hk : ∀ a, ok a + S1x512x128.size a ≤ S2x1024x128.size a) (hl : ∀ a, ol a + S1x1x512.size a ≤ S2x1x1024.size a) : FVec F S512x512 .f32 :=
  bif msk then ptM (VecWindow.window I.q oq S1x512x128.size hq) (VecWindow.window I.k ok S1x512x128.size hk) (VecWindow.window I.l ol S1x1x512.size hl)
  else ptU (VecWindow.window I.q oq S1x512x128.size hq) (VecWindow.window I.k ok S1x512x128.size hk) (VecWindow.window I.l ol S1x1x512.size hl)

/-- The gradient of its scores. -/
def dsF (msk : Bool) (I : Inp F) (oq ok : Fin 3 → Nat) (od : Fin 2 → Nat) (ol : Fin 3 → Nat)
    (hq : ∀ a, oq a + S1x512x128.size a ≤ S2x1024x128.size a) (hk : ∀ a, ok a + S1x512x128.size a ≤ S2x1024x128.size a)
    (hd : ∀ a, od a + S512x128.size a ≤ S1024x256.size a) (hl : ∀ a, ol a + S1x1x512.size a ≤ S2x1x1024.size a) : FVec F S512x512 .bf16 :=
  dsOf (ptF msk I oq ok ol hq hk hl) (VecWindow.window I.d od S512x128.size hd) (VecWindow.window I.v ok S1x512x128.size hk)
    (VecWindow.window I.e ol S1x1x512.size hl)

/-- The accumulators after the sub-block. -/
def subF (msk : Bool) (I : Inp F) (oq ok : Fin 3 → Nat) (od : Fin 2 → Nat) (ol okt ot : Fin 3 → Nat)
    (hq : ∀ a, oq a + S1x512x128.size a ≤ S2x1024x128.size a) (hk : ∀ a, ok a + S1x512x128.size a ≤ S2x1024x128.size a)
    (hd : ∀ a, od a + S512x128.size a ≤ S1024x256.size a) (hl : ∀ a, ol a + S1x1x512.size a ≤ S2x1x1024.size a)
    (hkt : ∀ a, okt a + S1x128x512.size a ≤ S2x128x1024.size a) (ht : ∀ a, ot a + S1x128x512.size a ≤ S2x128x8192.size a) (A : Acc F) : Acc F where
  t := VecWindow.put A.t ot S1x128x512.size (payT (dsF msk I oq ok od ol hq hk hd hl) (VecWindow.window I.kt okt S1x128x512.size hkt)
    (VecWindow.window A.t ot S1x128x512.size ht))
  k := VecWindow.put A.k ok S1x512x128.size (payK (VecWindow.window I.q oq S1x512x128.size hq) (dsF msk I oq ok od ol hq hk hd hl)
    (VecWindow.window A.k ok S1x512x128.size hk))
  v := VecWindow.put A.v ok S1x512x128.size (payV (ptF msk I oq ok ol hq hk hl) (VecWindow.window I.d od S512x128.size hd)
    (VecWindow.window A.v ok S1x512x128.size hk))

/-- The core owns the seven inputs and the three accumulators at the given contents. -/
def held (c : Dev nD)
    (arg4 : Memref sig .tc .vmem S2x1024x128 .bf16) (arg5 : Memref sig .tc .vmem S2x1024x128 .bf16) (arg6 : Memref sig .tc .vmem S2x128x1024 .bf16)
    (arg7 : Memref sig .tc .vmem S2x1024x128 .bf16) (arg8 : Memref sig .tc .vmem S1024x256 .f32) (arg9 : Memref sig .tc .vmem S2x1x1024 .f32)
    (arg10 : Memref sig .tc .vmem S2x1x1024 .f32) (arg11 : Memref sig .tc .vmem S2x128x8192 .f32)
    (arg14 : Memref sig .tc .vmem S2x1024x128 .f32) (arg15 : Memref sig .tc .vmem S2x1024x128 .f32) (I : Inp F) (A : Acc F) :
    sProp (MT nD τ sig Unit (Elt F) ℕ (UR sig nD τ) ℕ) :=
  iprop(owns (c : Thread nD τ) arg4 fullShare I.q ∗ owns (c : Thread nD τ) arg5 fullShare I.k ∗ owns (c : Thread nD τ) arg6 fullShare I.kt
    ∗ owns (c : Thread nD τ) arg7 fullShare I.v ∗ owns (c : Thread nD τ) arg8 fullShare I.d ∗ owns (c : Thread nD τ) arg9 fullShare I.l
    ∗ owns (c : Thread nD τ) arg10 fullShare I.e ∗ owns (c : Thread nD τ) arg11 fullShare A.t ∗ owns (c : Thread nD τ) arg14 fullShare A.k
    ∗ owns (c : Thread nD τ) arg15 fullShare A.v)

theorem sub_spec {defs : Defs nD τ sig (Elt F) Λ₀} (𝒱 : Variants) (c : Dev nD) (bd : Option 𝒱.V) (E : Set ℕ) (msk : Bool)
    (arg4 : Memref sig .tc .vmem S2x1024x128 .bf16) (arg5 : Memref sig .tc .vmem S2x1024x128 .bf16) (arg6 : Memref sig .tc .vmem S2x128x1024 .bf16)
    (arg7 : Memref sig .tc .vmem S2x1024x128 .bf16) (arg8 : Memref sig .tc .vmem S1024x256 .f32) (arg9 : Memref sig .tc .vmem S2x1x1024 .f32)
    (arg10 : Memref sig .tc .vmem S2x1x1024 .f32) (arg11 : Memref sig .tc .vmem S2x128x8192 .f32)
    (arg14 : Memref sig .tc .vmem S2x1024x128 .f32) (arg15 : Memref sig .tc .vmem S2x1024x128 .f32)
    (oq ok : Fin 3 → Nat) (od : Fin 2 → Nat) (ol okt ot : Fin 3 → Nat)
    (hq : ∀ a, oq a + S1x512x128.size a ≤ S2x1024x128.size a) (hk : ∀ a, ok a + S1x512x128.size a ≤ S2x1024x128.size a)
    (hd : ∀ a, od a + S512x128.size a ≤ S1024x256.size a) (hl : ∀ a, ol a + S1x1x512.size a ≤ S2x1x1024.size a)
    (hkt : ∀ a, okt a + S1x128x512.size a ≤ S2x128x1024.size a) (ht : ∀ a, ot a + S1x128x512.size a ≤ S2x128x8192.size a) (I : Inp F) (A : Acc F) :
    held c arg4 arg5 arg6 arg7 arg8 arg9 arg10 arg11 arg14 arg15 I A
      ⊢ wp frame (wpE defs 𝒱 (c : Thread nD τ) bd) E (sub msk arg4 arg5 arg6 arg7 arg8 arg9 arg10 arg11 arg14 arg15 oq ok od ol okt ot hq hk hd hl hkt ht)
        (fun _ => held c arg4 arg5 arg6 arg7 arg8 arg9 arg10 arg11 arg14 arg15 I (subF msk I oq ok od ol okt ot hq hk hd hl hkt ht A)) := by
  unfold held
  simp only [sub, Prog.lift, Prog.bind_op, Prog.bind_ret]
  iintro ⟨H4, H5, H6, H7, H8, H9, H10, H11, H14, H15⟩
  iapply (load_own 𝒱 c bd E) $$ H4; iintro H4
  iapply (load_own 𝒱 c bd E) $$ H8; iintro H8
  iapply (load_own 𝒱 c bd E) $$ H5; iintro H5
  iapply (load_own 𝒱 c bd E) $$ H7; iintro H7
  iapply (load_own 𝒱 c bd E) $$ H9; iintro H9
  iapply (load_own 𝒱 c bd E) $$ H10; iintro H10
  iapply (load_own 𝒱 c bd E) $$ H15; iintro H15
  iapply (load_own 𝒱 c bd E) $$ H15; iintro H15
  iapply (store_own 𝒱 c bd E) $$ H15; iintro H15
  iapply (load_own 𝒱 c bd E) $$ H14; iintro H14
  iapply (load_own 𝒱 c bd E) $$ H14; iintro H14
  iapply (store_own 𝒱 c bd E) $$ H14; iintro H14
  iapply (load_own 𝒱 c bd E) $$ H11; iintro H11
  iapply (load_own 𝒱 c bd E) $$ H6; iintro H6
  iapply (load_own 𝒱 c bd E) $$ H11; iintro H11
  iapply (store_own 𝒱 c bd E) $$ H11; iintro H11
  iapply (le_wp_ret _ _ _ _ _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H14]; · iexact H14
  iexact H15

end Cert.KernelIdeal.Attn
-- ==== Proof.Body.lean ====
/- One sub-block of the backward kernel as a small program over the rectangles it reads and writes, and the two guarded
   regions of the printed body as sequences of it. -/
module

public import proofs.«01_k».proof.Proof.Gen.KernelIdeal.Skeleton
public import proofs.«01_k».proof.Proof.Gen.KernelIdeal.Launch
public import proofs.«01_k».proof.Proof.Sub

@[expose] public section

set_option maxRecDepth 65536

noncomputable section

namespace Cert.KernelIdeal.Attn

open Idealize.ShloMosaic Idealize.SL.Sem
open Cert.KernelIdeal Cert.KernelIdeal.Gen

variable {F : FTy → Type} [FloatOps F] [Named F]

/-- The region run where the queries come after the keys: eight sub-blocks. -/
def offS
    (arg2 : Memref sig .tc .smem S36 .i32) (harg2 : arg2.IsWhole)
    (arg3 : Memref sig .tc .smem S36 .i32) (harg3 : arg3.IsWhole)
    (arg4 : Memref sig .tc .vmem S2x1024x128 .bf16) (harg4 : arg4.IsWhole)
    (arg5 : Memref sig .tc .vmem S2x1024x128 .bf16) (harg5 : arg5.IsWhole)
    (arg6 : Memref sig .tc .vmem S2x128x1024 .bf16) (harg6 : arg6.IsWhole)
    (arg7 : Memref sig .tc .vmem S2x1024x128 .bf16) (harg7 : arg7.IsWhole)
    (arg8 : Memref sig .tc .vmem S1024x256 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x8192 .f32) (harg11 : arg11.IsWhole)
    (arg12 : Memref sig .tc .vmem S2x1024x128 .f32) (harg12 : arg12.IsWhole)
    (arg13 : Memref sig .tc .vmem S2x1024x128 .f32) (harg13 : arg13.IsWhole)
    (arg14 : Memref sig .tc .vmem S2x1024x128 .f32) (harg14 : arg14.IsWhole)
    (arg15 : Memref sig .tc .vmem S2x1024x128 .f32) (harg15 : arg15.IsWhole)
    (v1 v3 : Elt F .i32) (hw : k0_chk1 v1 v3) (h3 : k0_cond3 v1 v3 = 1#1) : Prog (TpuEff nD τ sig (Elt F) Λ₀ .tc) PUnit := do
    sub false arg4 arg5 arg6 arg7 arg8 arg9 arg10 arg11 arg14 arg15 ![0, 0, 0] ![0, 0, 0] ![0, 0] ![0, 0, 0] ![0, 0, 0] (k0_off2 v3 0#32)
      inb_S2x1024x128_S1x512x128_0_0_0 inb_S2x1024x128_S1x512x128_0_0_0 inb_S1024x256_S512x128_0_0 inb_S2x1x1024_S1x1x512_0_0_0 inb_S2x128x1024_S1x128x512_0_0_0 (k0_off2_inb v1 v3 hw h3 0)
    sub false arg4 arg5 arg6 arg7 arg8 arg9 arg10 arg11 arg14 arg15 ![0, 0, 0] ![0, 512, 0] ![0, 0] ![0, 0, 0] ![0, 0, 512] (k0_off2 v3 0#32)
      inb_S2x1024x128_S1x512x128_0_0_0 inb_S2x1024x128_S1x512x128_0_512_0 inb_S1024x256_S512x128_0_0 inb_S2x1x1024_S1x1x512_0_0_0 inb_S2x128x1024_S1x128x512_0_0_512 (k0_off2_inb v1 v3 hw h3 0)
    sub false arg4 arg5 arg6 arg7 arg8 arg9 arg10 arg11 arg14 arg15 ![1, 0, 0] ![1, 0, 0] ![0, 128] ![1, 0, 0] ![1, 0, 0] (k0_off3 v3 0#32)
      inb_S2x1024x128_S1x512x128_1_0_0 inb_S2x1024x128_S1x512x128_1_0_0 inb_S1024x256_S512x128_0_128 inb_S2x1x1024_S1x1x512_1_0_0 inb_S2x128x1024_S1x128x512_1_0_0 (k0_off3_inb v1 v3 hw h3 0)
    sub false arg4 arg5 arg6 arg7 arg8 arg9 arg10 arg11 arg14 arg15 ![1, 0, 0] ![1, 512, 0] ![0, 128] ![1, 0, 0] ![1, 0, 512] (k0_off3 v3 0#32)
      inb_S2x1024x128_S1x512x128_1_0_0 inb_S2x1024x128_S1x512x128_1_512_0 inb_S1024x256_S512x128_0_128 inb_S2x1x1024_S1x1x512_1_0_0 inb_S2x128x1024_S1x128x512_1_0_512 (k0_off3_inb v1 v3 hw h3 0)
    sub false arg4 arg5 arg6 arg7 arg8 arg9 arg10 arg11 arg14 arg15 ![0, 512, 0] ![0, 0, 0] ![512, 0] ![0, 0, 512] ![0, 0, 0] (k0_off2 v3 512#32)
      inb_S2x1024x128_S1x512x128_0_512_0 inb_S2x1024x128_S1x512x128_0_0_0 inb_S1024x256_S512x128_512_0 inb_S2x1x1024_S1x1x512_0_0_512 inb_S2x128x1024_S1x128x512_0_0_0 (k0_off2_inb v1 v3 hw h3 1)
    sub false arg4 arg5 arg6 arg7 arg8 arg9 arg10 arg11 arg14 arg15 ![0, 512, 0] ![0, 512, 0] ![512, 0] ![0, 0, 512] ![0, 0, 512] (k0_off2 v3 512#32)
      inb_S2x1024x128_S1x512x128_0_512_0 inb_S2x1024x128_S1x512x128_0_512_0 inb_S1024x256_S512x128_512_0 inb_S2x1x1024_S1x1x512_0_0_512 inb_S2x128x1024_S1x128x512_0_0_512 (k0_off2_inb v1 v3 hw h3 1)
    sub false arg4 arg5 arg6 arg7 arg8 arg9 arg10 arg11 arg14 arg15 ![1, 512, 0] ![1, 0, 0] ![512, 128] ![1, 0, 512] ![1, 0, 0] (k0_off3 v3 512#32)
      inb_S2x1024x128_S1x512x128_1_512_0 inb_S2x1024x128_S1x512x128_1_0_0 inb_S1024x256_S512x128_512_128 inb_S2x1x1024_S1x1x512_1_0_512 inb_S2x128x1024_S1x128x512_1_0_0 (k0_off3_inb v1 v3 hw h3 1)
    sub false arg4 arg5 arg6 arg7 arg8 arg9 arg10 arg11 arg14 arg15 ![1, 512, 0] ![1, 512, 0] ![512, 128] ![1, 0, 512] ![1, 0, 512] (k0_off3 v3 512#32)
      inb_S2x1024x128_S1x512x128_1_512_0 inb_S2x1024x128_S1x512x128_1_512_0 inb_S1024x256_S512x128_512_128 inb_S2x1x1024_S1x1x512_1_0_512 inb_S2x128x1024_S1x128x512_1_0_512 (k0_off3_inb v1 v3 hw h3 1)

/-- The region run on the diagonal: six sub-blocks, the two that the diagonal crosses in each head masked. -/
def diagS
    (arg2 : Memref sig .tc .smem S36 .i32) (harg2 : arg2.IsWhole)
    (arg3 : Memref sig .tc .smem S36 .i32) (harg3 : arg3.IsWhole)
    (arg4 : Memref sig .tc .vmem S2x1024x128 .bf16) (harg4 : arg4.IsWhole)
    (arg5 : Memref sig .tc .vmem S2x1024x128 .bf16) (harg5 : arg5.IsWhole)
    (arg6 : Memref sig .tc .vmem S2x128x1024 .bf16) (harg6 : arg6.IsWhole)
    (arg7 : Memref sig .tc .vmem S2x1024x128 .bf16) (harg7 : arg7.IsWhole)
    (arg8 : Memref sig .tc .vmem S1024x256 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x8192 .f32) (harg11 : arg11.IsWhole)
    (arg12 : Memref sig .tc .vmem S2x1024x128 .f32) (harg12 : arg12.IsWhole)
    (arg13 : Memref sig .tc .vmem S2x1024x128 .f32) (harg13 : arg13.IsWhole)
    (arg14 : Memref sig .tc .vmem S2x1024x128 .f32) (harg14 : arg14.IsWhole)
    (arg15 : Memref sig .tc .vmem S2x1024x128 .f32) (harg15 : arg15.IsWhole)
    (v1 v3 : Elt F .i32) (hw : k0_chk1 v1 v3) (h4 : k0_cond4 v1 v3 = 1#1) : Prog (TpuEff nD τ sig (Elt F) Λ₀ .tc) PUnit := do
    sub true arg4 arg5 arg6 arg7 arg8 arg9 arg10 arg11 arg14 arg15 ![0, 0, 0] ![0, 0, 0] ![0, 0] ![0, 0, 0] ![0, 0, 0] (k0_off4 v3 0#32)
      inb_S2x1024x128_S1x512x128_0_0_0 inb_S2x1024x128_S1x512x128_0_0_0 inb_S1024x256_S512x128_0_0 inb_S2x1x1024_S1x1x512_0_0_0 inb_S2x128x1024_S1x128x512_0_0_0 (k0_off4_inb v1 v3 hw h4 0)
    sub true arg4 arg5 arg6 arg7 arg8 arg9 arg10 arg11 arg14 arg15 ![1, 0, 0] ![1, 0, 0] ![0, 128] ![1, 0, 0] ![1, 0, 0] (k0_off5 v3 0#32)
      inb_S2x1024x128_S1x512x128_1_0_0 inb_S2x1024x128_S1x512x128_1_0_0 inb_S1024x256_S512x128_0_128 inb_S2x1x1024_S1x1x512_1_0_0 inb_S2x128x1024_S1x128x512_1_0_0 (k0_off5_inb v1 v3 hw h4 0)
    sub false arg4 arg5 arg6 arg7 arg8 arg9 arg10 arg11 arg14 arg15 ![0, 512, 0] ![0, 0, 0] ![512, 0] ![0, 0, 512] ![0, 0, 0] (k0_off4 v3 512#32)
      inb_S2x1024x128_S1x512x128_0_512_0 inb_S2x1024x128_S1x512x128_0_0_0 inb_S1024x256_S512x128_512_0 inb_S2x1x1024_S1x1x512_0_0_512 inb_S2x128x1024_S1x128x512_0_0_0 (k0_off4_inb v1 v3 hw h4 1)
    sub true arg4 arg5 arg6 arg7 arg8 arg9 arg10 arg11 arg14 arg15 ![0, 512, 0] ![0, 512, 0] ![512, 0] ![0, 0, 512] ![0, 0, 512] (k0_off4 v3 512#32)
      inb_S2x1024x128_S1x512x128_0_512_0 inb_S2x1024x128_S1x512x128_0_512_0 inb_S1024x256_S512x128_512_0 inb_S2x1x1024_S1x1x512_0_0_512 inb_S2x128x1024_S1x128x512_0_0_512 (k0_off4_inb v1 v3 hw h4 1)
    sub false arg4 arg5 arg6 arg7 arg8 arg9 arg10 arg11 arg14 arg15 ![1, 512, 0] ![1, 0, 0] ![512, 128] ![1, 0, 512] ![1, 0, 0] (k0_off5 v3 512#32)
      inb_S2x1024x128_S1x512x128_1_512_0 inb_S2x1024x128_S1x512x128_1_0_0 inb_S1024x256_S512x128_512_128 inb_S2x1x1024_S1x1x512_1_0_512 inb_S2x128x1024_S1x128x512_1_0_0 (k0_off5_inb v1 v3 hw h4 1)
    sub true arg4 arg5 arg6 arg7 arg8 arg9 arg10 arg11 arg14 arg15 ![1, 512, 0] ![1, 512, 0] ![512, 128] ![1, 0, 512] ![1, 0, 512] (k0_off5 v3 512#32)
      inb_S2x1024x128_S1x512x128_1_512_0 inb_S2x1024x128_S1x512x128_1_512_0 inb_S1024x256_S512x128_512_128 inb_S2x1x1024_S1x1x512_1_0_512 inb_S2x128x1024_S1x128x512_1_0_512 (k0_off5_inb v1 v3 hw h4 1)

/-- The body after its two table words are read: the four guarded regions and the two-line ones before and after them. -/
def restS (i : grid0.Coords)
    (arg2 : Memref sig .tc .smem S36 .i32) (harg2 : arg2.IsWhole)
    (arg3 : Memref sig .tc .smem S36 .i32) (harg3 : arg3.IsWhole)
    (arg4 : Memref sig .tc .vmem S2x1024x128 .bf16) (harg4 : arg4.IsWhole)
    (arg5 : Memref sig .tc .vmem S2x1024x128 .bf16) (harg5 : arg5.IsWhole)
    (arg6 : Memref sig .tc .vmem S2x128x1024 .bf16) (harg6 : arg6.IsWhole)
    (arg7 : Memref sig .tc .vmem S2x1024x128 .bf16) (harg7 : arg7.IsWhole)
    (arg8 : Memref sig .tc .vmem S1024x256 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x8192 .f32) (harg11 : arg11.IsWhole)
    (arg12 : Memref sig .tc .vmem S2x1024x128 .f32) (harg12 : arg12.IsWhole)
    (arg13 : Memref sig .tc .vmem S2x1024x128 .f32) (harg13 : arg13.IsWhole)
    (arg14 : Memref sig .tc .vmem S2x1024x128 .f32) (harg14 : arg14.IsWhole)
    (arg15 : Memref sig .tc .vmem S2x1024x128 .f32) (harg15 : arg15.IsWhole)
    (v1 v3 : Elt F .i32) (hw : k0_chk1 v1 v3) : Prog (TpuEff nD τ sig (Elt F) Λ₀ .tc) PUnit := do
  if k0_cond1 i = 1#1 then do
    let _ : Vec F S2x128x8192 .f32 ← Prog.lift (.load arg11 (Rect.unit (s := S2x128x8192) ![0, 0, 0] S2x128x8192.size inb_S2x128x8192_S2x128x8192_0_0_0).toLoadRect (View.loadsAt_vmem h_S2x128x8192))
    Prog.lift (.store arg11 (Rect.unit (s := S2x128x8192) ![0, 0, 0] S2x128x8192.size inb_S2x128x8192_S2x128x8192_0_0_0) (k0_pay1 (F := F)) Finset.univ (View.stores_vmem_bits_univ h_S2x128x8192 rfl) (.inl rfl))
  else pure ⟨⟩
  if Scalar.cmpi .ne (Scalar.extui (Scalar.cmpi .eq v3 v1) : BitVec 32) 0#32 = 1#1 then do
    let _ : Vec F S2x1024x128 .f32 ← Prog.lift (.load arg14 (Rect.unit (s := S2x1024x128) ![0, 0, 0] S2x1024x128.size inb_S2x1024x128_S2x1024x128_0_0_0).toLoadRect (View.loadsAt_vmem h_S2x1024x128))
    Prog.lift (.store arg14 (Rect.unit (s := S2x1024x128) ![0, 0, 0] S2x1024x128.size inb_S2x1024x128_S2x1024x128_0_0_0) (k0_pay2 (F := F)) Finset.univ (View.stores_vmem_bits_univ h_S2x1024x128 rfl) (.inl rfl))
    let _ : Vec F S2x1024x128 .f32 ← Prog.lift (.load arg15 (Rect.unit (s := S2x1024x128) ![0, 0, 0] S2x1024x128.size inb_S2x1024x128_S2x1024x128_0_0_0).toLoadRect (View.loadsAt_vmem h_S2x1024x128))
    Prog.lift (.store arg15 (Rect.unit (s := S2x1024x128) ![0, 0, 0] S2x1024x128.size inb_S2x1024x128_S2x1024x128_0_0_0) (k0_pay3 (F := F)) Finset.univ (View.stores_vmem_bits_univ h_S2x1024x128 rfl) (.inl rfl))
  else pure ⟨⟩
  if h3 : k0_cond3 v1 v3 = 1#1 then offS arg2 harg2 arg3 harg3 arg4 harg4 arg5 harg5 arg6 harg6 arg7 harg7 arg8 harg8 arg9 harg9 arg10 harg10 arg11 harg11 arg12 harg12 arg13 harg13 arg14 harg14 arg15 harg15 v1 v3 hw h3 else pure ⟨⟩
  if h4 : k0_cond4 v1 v3 = 1#1 then diagS arg2 harg2 arg3 harg3 arg4 harg4 arg5 harg5 arg6 harg6 arg7 harg7 arg8 harg8 arg9 harg9 arg10 harg10 arg11 harg11 arg12 harg12 arg13 harg13 arg14 harg14 arg15 harg15 v1 v3 hw h4 else pure ⟨⟩
  if k0_cond5 v3 = 1#1 then do
    let x : Vec F S2x1024x128 .f32 ← Prog.lift (.load arg14 (Rect.unit (s := S2x1024x128) ![0, 0, 0] S2x1024x128.size inb_S2x1024x128_S2x1024x128_0_0_0).toLoadRect (View.loadsAt_vmem h_S2x1024x128))
    let _ : Vec F S2x1024x128 .f32 ← Prog.lift (.load arg12 (Rect.unit (s := S2x1024x128) ![0, 0, 0] S2x1024x128.size inb_S2x1024x128_S2x1024x128_0_0_0).toLoadRect (View.loadsAt_vmem h_S2x1024x128))
    Prog.lift (.store arg12 (Rect.unit (s := S2x1024x128) ![0, 0, 0] S2x1024x128.size inb_S2x1024x128_S2x1024x128_0_0_0) (k0_pay4 x) Finset.univ (View.stores_vmem_bits_univ h_S2x1024x128 rfl) (.inl rfl))
    let y : Vec F S2x1024x128 .f32 ← Prog.lift (.load arg15 (Rect.unit (s := S2x1024x128) ![0, 0, 0] S2x1024x128.size inb_S2x1024x128_S2x1024x128_0_0_0).toLoadRect (View.loadsAt_vmem h_S2x1024x128))
    let _ : Vec F S2x1024x128 .f32 ← Prog.lift (.load arg13 (Rect.unit (s := S2x1024x128) ![0, 0, 0] S2x1024x128.size inb_S2x1024x128_S2x1024x128_0_0_0).toLoadRect (View.loadsAt_vmem h_S2x1024x128))
    Prog.lift (.store arg13 (Rect.unit (s := S2x1024x128) ![0, 0, 0] S2x1024x128.size inb_S2x1024x128_S2x1024x128_0_0_0) y Finset.univ (View.stores_vmem_bits_univ h_S2x1024x128 rfl) (.inl rfl))
  else pure ⟨⟩

set_option maxHeartbeats 4000000 in
theorem body_eq (i : grid0.Coords)
    (arg2 : Memref sig .tc .smem S36 .i32) (harg2 : arg2.IsWhole)
    (arg3 : Memref sig .tc .smem S36 .i32) (harg3 : arg3.IsWhole)
    (arg4 : Memref sig .tc .vmem S2x1024x128 .bf16) (harg4 : arg4.IsWhole)
    (arg5 : Memref sig .tc .vmem S2x1024x128 .bf16) (harg5 : arg5.IsWhole)
    (arg6 : Memref sig .tc .vmem S2x128x1024 .bf16) (harg6 : arg6.IsWhole)
    (arg7 : Memref sig .tc .vmem S2x1024x128 .bf16) (harg7 : arg7.IsWhole)
    (arg8 : Memref sig .tc .vmem S1024x256 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x8192 .f32) (harg11 : arg11.IsWhole)
    (arg12 : Memref sig .tc .vmem S2x1024x128 .f32) (harg12 : arg12.IsWhole)
    (arg13 : Memref sig .tc .vmem S2x1024x128 .f32) (harg13 : arg13.IsWhole)
    (arg14 : Memref sig .tc .vmem S2x1024x128 .f32) (harg14 : arg14.IsWhole)
    (arg15 : Memref sig .tc .vmem S2x1024x128 .f32) (harg15 : arg15.IsWhole) :
    cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 = (do
      let v1 : Elt F .i32 ← smemLoad arg2 (Rect.unit (s := S36) (k0_off1 i) S1.size (k0_off1_inb i)) numel1_S1 rfl
      let v3 : Elt F .i32 ← smemLoad arg3 (Rect.unit (s := S36) (k0_off1 i) S1.size (k0_off1_inb i)) numel1_S1 rfl
      let hw : PLift (k0_chk1 v1 v3) ← Prog.lift (TpuEff.assume (k0_chk1 v1 v3) (k0_chk1.dec v1 v3))
      restS i arg2 harg2 arg3 harg3 arg4 harg4 arg5 harg5 arg6 harg6 arg7 harg7 arg8 harg8 arg9 harg9 arg10 harg10 arg11 harg11 arg12 harg12 arg13 harg13 arg14 harg14 arg15 harg15 v1 v3 hw.down) := by
  rw [cc0_attn_bwd_eq_skeleton]
  simp (maxSteps := 100000000) only [cc0_attn_bwd_skel, restS, offS, diagS, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, sub, Prog.lift, Prog.bind_op, Prog.bind_ret, Prog.pure_eq_ret, Prog.bind_assoc, cond_true, cond_false]
  rfl

end Cert.KernelIdeal.Attn
-- ==== Proof.Region.lean ====
/- What the guarded regions of the backward kernel do to the accumulators, as functions. -/
module

public import proofs.«01_k».proof.Proof.Triple
public import proofs.«01_k».proof.Proof.Body

@[expose] public section

set_option maxRecDepth 65536

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F] [Named F]

/-- Offsets of head `h` and half `a` of a block's rows. -/
abbrev oR (h a : Fin 2) : Fin 3 → Nat := ![h.val, 512 * a.val, 0]
abbrev oD (h a : Fin 2) : Fin 2 → Nat := ![512 * a.val, 128 * h.val]
abbrev oC (h a : Fin 2) : Fin 3 → Nat := ![h.val, 0, 512 * a.val]
abbrev oT (h : Fin 2) (j : Fin 8) (a : Fin 2) : Fin 3 → Nat := ![h.val, 0, 1024 * j.val + 512 * a.val]

theorem inR : ∀ (h a : Fin 2) x, oR h a x + S1x512x128.size x ≤ S2x1024x128.size x := by decide
theorem inD : ∀ (h a : Fin 2) x, oD h a x + S512x128.size x ≤ S1024x256.size x := by decide
theorem inL : ∀ (h a : Fin 2) x, oC h a x + S1x1x512.size x ≤ S2x1x1024.size x := by decide
theorem inC : ∀ (h a : Fin 2) x, oC h a x + S1x128x512.size x ≤ S2x128x1024.size x := by decide
theorem inT : ∀ (h : Fin 2) (j : Fin 8) (a : Fin 2) x, oT h j a x + S1x128x512.size x ≤ S2x128x8192.size x := by decide

theorem off2_eq : ∀ (j : Fin 8) (a : Fin 2), k0_off2 (BitVec.ofNat 32 j.val) (BitVec.ofNat 32 (512 * a.val)) = oT 0 j a := by decide
theorem off3_eq : ∀ (j : Fin 8) (a : Fin 2), k0_off3 (BitVec.ofNat 32 j.val) (BitVec.ofNat 32 (512 * a.val)) = oT 1 j a := by decide
theorem off4_eq : ∀ (j : Fin 8) (a : Fin 2), k0_off4 (BitVec.ofNat 32 j.val) (BitVec.ofNat 32 (512 * a.val)) = oT 0 j a := by decide
theorem off5_eq : ∀ (j : Fin 8) (a : Fin 2), k0_off5 (BitVec.ofNat 32 j.val) (BitVec.ofNat 32 (512 * a.val)) = oT 1 j a := by decide

/-- The accumulators after the sub-block of head `h`, query half `a` and key half `b`, the queries being block `j`. -/
def stepF (msk : Bool) (h a b : Fin 2) (I : Inp F) (j : Fin 8) (A : Acc F) : Acc F :=
  subF msk I (oR h a) (oR h b) (oD h a) (oC h a) (oC h b) (oT h j a) (inR h a) (inR h b) (inD h a) (inL h a) (inC h b) (inT h j a) A

/-- After the region of a block pair off the diagonal. -/
def offF (I : Inp F) (j : Fin 8) (A : Acc F) : Acc F :=
  stepF false 1 1 1 I j (stepF false 1 1 0 I j (stepF false 0 1 1 I j (stepF false 0 1 0 I j (stepF false 1 0 1 I j (stepF false 1 0 0 I j (stepF false 0 0 1 I j (stepF false 0 0 0 I j A)))))))

/-- After the region of a block pair on the diagonal. -/
def diagF (I : Inp F) (j : Fin 8) (A : Acc F) : Acc F :=
  stepF true 1 1 1 I j (stepF false 1 1 0 I j (stepF true 0 1 1 I j (stepF false 0 1 0 I j (stepF true 1 0 0 I j (stepF true 0 0 0 I j A)))))

theorem bind_spec {defs : Defs nD τ sig (Elt F) Λ₀} {𝒱 : Variants} {c : Dev nD} {bd : Option 𝒱.V} {E : Set ℕ}
    {P M : sProp (MT nD τ sig Unit (Elt F) ℕ (UR sig nD τ) ℕ)} {Q : PUnit → sProp (MT nD τ sig Unit (Elt F) ℕ (UR sig nD τ) ℕ)}
    {p : Prog (TpuEff nD τ sig (Elt F) Λ₀ .tc) PUnit} {k : PUnit → Prog (TpuEff nD τ sig (Elt F) Λ₀ .tc) PUnit}
    (hp : P ⊢ wp frame (wpE defs 𝒱 (c : Thread nD τ) bd) E p (fun _ => M))
    (hk : M ⊢ wp frame (wpE defs 𝒱 (c : Thread nD τ) bd) E (k ⟨⟩) Q) :
    P ⊢ wp frame (wpE defs 𝒱 (c : Thread nD τ) bd) E (p >>= k) Q := by
  rw [wp_bind]
  exact hp.trans (wp_mono _ _ _ fun _ => hk)

theorem step_spec {defs : Defs nD τ sig (Elt F) Λ₀} (𝒱 : Variants) (c : Dev nD) (bd : Option 𝒱.V) (E : Set ℕ) (msk : Bool) (h a b : Fin 2) (j : Fin 8)
    (arg4 : Memref sig .tc .vmem S2x1024x128 .bf16) (arg5 : Memref sig .tc .vmem S2x1024x128 .bf16) (arg6 : Memref sig .tc .vmem S2x128x1024 .bf16)
    (arg7 : Memref sig .tc .vmem S2x1024x128 .bf16) (arg8 : Memref sig .tc .vmem S1024x256 .f32) (arg9 : Memref sig .tc .vmem S2x1x1024 .f32)
    (arg10 : Memref sig .tc .vmem S2x1x1024 .f32) (arg11 : Memref sig .tc .vmem S2x128x8192 .f32)
    (arg14 : Memref sig .tc .vmem S2x1024x128 .f32) (arg15 : Memref sig .tc .vmem S2x1024x128 .f32)
    (oq ok : Fin 3 → Nat) (od : Fin 2 → Nat) (ol okt ot : Fin 3 → Nat)
    (eq : oq = oR h a) (ek : ok = oR h b) (ed : od = oD h a) (el : ol = oC h a) (ekt : okt = oC h b) (et : ot = oT h j a)
    (hq : ∀ a, oq a + S1x512x128.size a ≤ S2x1024x128.size a) (hk : ∀ a, ok a + S1x512x128.size a ≤ S2x1024x128.size a)
    (hd : ∀ a, od a + S512x128.size a ≤ S1024x256.size a) (hl : ∀ a, ol a + S1x1x512.size a ≤ S2x1x1024.size a)
    (hkt : ∀ a, okt a + S1x128x512.size a ≤ S2x128x1024.size a) (ht : ∀ a, ot a + S1x128x512.size a ≤ S2x128x8192.size a) (I : Inp F) (A : Acc F) :
    held c arg4 arg5 arg6 arg7 arg8 arg9 arg10 arg11 arg14 arg15 I A
      ⊢ wp frame (wpE defs 𝒱 (c : Thread nD τ) bd) E (sub msk arg4 arg5 arg6 arg7 arg8 arg9 arg10 arg11 arg14 arg15 oq ok od ol okt ot hq hk hd hl hkt ht)
        (fun _ => held c arg4 arg5 arg6 arg7 arg8 arg9 arg10 arg11 arg14 arg15 I (stepF msk h a b I j A)) := by
  subst eq ek ed el ekt et
  exact sub_spec 𝒱 c bd E msk arg4 arg5 arg6 arg7 arg8 arg9 arg10 arg11 arg14 arg15 _ _ _ _ _ _ _ _ _ _ _ _ I A

theorem offS_spec {defs : Defs nD τ sig (Elt F) Λ₀} (𝒱 : Variants) (c : Dev nD) (bd : Option 𝒱.V) (E : Set ℕ)
    (arg2 : Memref sig .tc .smem S36 .i32) (harg2 : arg2.IsWhole)
    (arg3 : Memref sig .tc .smem S36 .i32) (harg3 : arg3.IsWhole)
    (arg4 : Memref sig .tc .vmem S2x1024x128 .bf16) (harg4 : arg4.IsWhole)
    (arg5 : Memref sig .tc .vmem S2x1024x128 .bf16) (harg5 : arg5.IsWhole)
    (arg6 : Memref sig .tc .vmem S2x128x1024 .bf16) (harg6 : arg6.IsWhole)
    (arg7 : Memref sig .tc .vmem S2x1024x128 .bf16) (harg7 : arg7.IsWhole)
    (arg8 : Memref sig .tc .vmem S1024x256 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x8192 .f32) (harg11 : arg11.IsWhole)
    (arg12 : Memref sig .tc .vmem S2x1024x128 .f32) (harg12 : arg12.IsWhole)
    (arg13 : Memref sig .tc .vmem S2x1024x128 .f32) (harg13 : arg13.IsWhole)
    (arg14 : Memref sig .tc .vmem S2x1024x128 .f32) (harg14 : arg14.IsWhole)
    (arg15 : Memref sig .tc .vmem S2x1024x128 .f32) (harg15 : arg15.IsWhole)
    (v1 v3 : Elt F .i32) (hw : k0_chk1 v1 v3) (h : k0_cond3 v1 v3 = 1#1) (j : Fin 8) (hj : v3 = BitVec.ofNat 32 j.val) (I : Inp F) (A : Acc F) :
    held c arg4 arg5 arg6 arg7 arg8 arg9 arg10 arg11 arg14 arg15 I A ⊢ wp frame (wpE defs 𝒱 (c : Thread nD τ) bd) E (offS arg2 harg2 arg3 harg3 arg4 harg4 arg5 harg5 arg6 harg6 arg7 harg7 arg8 harg8 arg9 harg9 arg10 harg10 arg11 harg11 arg12 harg12 arg13 harg13 arg14 harg14 arg15 harg15 v1 v3 hw h)
      (fun _ => held c arg4 arg5 arg6 arg7 arg8 arg9 arg10 arg11 arg14 arg15 I (offF I j A)) := by
  subst hj
  unfold offS offF
  refine bind_spec (step_spec 𝒱 c bd E false 0 0 0 j arg4 arg5 arg6 arg7 arg8 arg9 arg10 arg11 arg14 arg15 _ _ _ _ _ _ rfl rfl rfl rfl rfl (off2_eq j 0) _ _ _ _ _ _ I _) ?_
  refine bind_spec (step_spec 𝒱 c bd E false 0 0 1 j arg4 arg5 arg6 arg7 arg8 arg9 arg10 arg11 arg14 arg15 _ _ _ _ _ _ rfl rfl rfl rfl rfl (off2_eq j 0) _ _ _ _ _ _ I _) ?_
  refine bind_spec (step_spec 𝒱 c bd E false 1 0 0 j arg4 arg5 arg6 arg7 arg8 arg9 arg10 arg11 arg14 arg15 _ _ _ _ _ _ rfl rfl rfl rfl rfl (off3_eq j 0) _ _ _ _ _ _ I _) ?_
  refine bind_spec (step_spec 𝒱 c bd E false 1 0 1 j arg4 arg5 arg6 arg7 arg8 arg9 arg10 arg11 arg14 arg15 _ _ _ _ _ _ rfl rfl rfl rfl rfl (off3_eq j 0) _ _ _ _ _ _ I _) ?_
  refine bind_spec (step_spec 𝒱 c bd E false 0 1 0 j arg4 arg5 arg6 arg7 arg8 arg9 arg10 arg11 arg14 arg15 _ _ _ _ _ _ rfl rfl rfl rfl rfl (off2_eq j 1) _ _ _ _ _ _ I _) ?_
  refine bind_spec (step_spec 𝒱 c bd E false 0 1 1 j arg4 arg5 arg6 arg7 arg8 arg9 arg10 arg11 arg14 arg15 _ _ _ _ _ _ rfl rfl rfl rfl rfl (off2_eq j 1) _ _ _ _ _ _ I _) ?_
  refine bind_spec (step_spec 𝒱 c bd E false 1 1 0 j arg4 arg5 arg6 arg7 arg8 arg9 arg10 arg11 arg14 arg15 _ _ _ _ _ _ rfl rfl rfl rfl rfl (off3_eq j 1) _ _ _ _ _ _ I _) ?_
  exact (step_spec 𝒱 c bd E false 1 1 1 j arg4 arg5 arg6 arg7 arg8 arg9 arg10 arg11 arg14 arg15 _ _ _ _ _ _ rfl rfl rfl rfl rfl (off3_eq j 1) _ _ _ _ _ _ I _)

theorem diagS_spec {defs : Defs nD τ sig (Elt F) Λ₀} (𝒱 : Variants) (c : Dev nD) (bd : Option 𝒱.V) (E : Set ℕ)
    (arg2 : Memref sig .tc .smem S36 .i32) (harg2 : arg2.IsWhole)
    (arg3 : Memref sig .tc .smem S36 .i32) (harg3 : arg3.IsWhole)
    (arg4 : Memref sig .tc .vmem S2x1024x128 .bf16) (harg4 : arg4.IsWhole)
    (arg5 : Memref sig .tc .vmem S2x1024x128 .bf16) (harg5 : arg5.IsWhole)
    (arg6 : Memref sig .tc .vmem S2x128x1024 .bf16) (harg6 : arg6.IsWhole)
    (arg7 : Memref sig .tc .vmem S2x1024x128 .bf16) (harg7 : arg7.IsWhole)
    (arg8 : Memref sig .tc .vmem S1024x256 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x8192 .f32) (harg11 : arg11.IsWhole)
    (arg12 : Memref sig .tc .vmem S2x1024x128 .f32) (harg12 : arg12.IsWhole)
    (arg13 : Memref sig .tc .vmem S2x1024x128 .f32) (harg13 : arg13.IsWhole)
    (arg14 : Memref sig .tc .vmem S2x1024x128 .f32) (harg14 : arg14.IsWhole)
    (arg15 : Memref sig .tc .vmem S2x1024x128 .f32) (harg15 : arg15.IsWhole)
    (v1 v3 : Elt F .i32) (hw : k0_chk1 v1 v3) (h : k0_cond4 v1 v3 = 1#1) (j : Fin 8) (hj : v3 = BitVec.ofNat 32 j.val) (I : Inp F) (A : Acc F) :
    held c arg4 arg5 arg6 arg7 arg8 arg9 arg10 arg11 arg14 arg15 I A ⊢ wp frame (wpE defs 𝒱 (c : Thread nD τ) bd) E (diagS arg2 harg2 arg3 harg3 arg4 harg4 arg5 harg5 arg6 harg6 arg7 harg7 arg8 harg8 arg9 harg9 arg10 harg10 arg11 harg11 arg12 harg12 arg13 harg13 arg14 harg14 arg15 harg15 v1 v3 hw h)
      (fun _ => held c arg4 arg5 arg6 arg7 arg8 arg9 arg10 arg11 arg14 arg15 I (diagF I j A)) := by
  subst hj
  unfold diagS diagF
  refine bind_spec (step_spec 𝒱 c bd E true 0 0 0 j arg4 arg5 arg6 arg7 arg8 arg9 arg10 arg11 arg14 arg15 _ _ _ _ _ _ rfl rfl rfl rfl rfl (off4_eq j 0) _ _ _ _ _ _ I _) ?_
  refine bind_spec (step_spec 𝒱 c bd E true 1 0 0 j arg4 arg5 arg6 arg7 arg8 arg9 arg10 arg11 arg14 arg15 _ _ _ _ _ _ rfl rfl rfl rfl rfl (off5_eq j 0) _ _ _ _ _ _ I _) ?_
  refine bind_spec (step_spec 𝒱 c bd E false 0 1 0 j arg4 arg5 arg6 arg7 arg8 arg9 arg10 arg11 arg14 arg15 _ _ _ _ _ _ rfl rfl rfl rfl rfl (off4_eq j 1) _ _ _ _ _ _ I _) ?_
  refine bind_spec (step_spec 𝒱 c bd E true 0 1 1 j arg4 arg5 arg6 arg7 arg8 arg9 arg10 arg11 arg14 arg15 _ _ _ _ _ _ rfl rfl rfl rfl rfl (off4_eq j 1) _ _ _ _ _ _ I _) ?_
  refine bind_spec (step_spec 𝒱 c bd E false 1 1 0 j arg4 arg5 arg6 arg7 arg8 arg9 arg10 arg11 arg14 arg15 _ _ _ _ _ _ rfl rfl rfl rfl rfl (off5_eq j 1) _ _ _ _ _ _ I _) ?_
  exact (step_spec 𝒱 c bd E true 1 1 1 j arg4 arg5 arg6 arg7 arg8 arg9 arg10 arg11 arg14 arg15 _ _ _ _ _ _ rfl rfl rfl rfl rfl (off5_eq j 1) _ _ _ _ _ _ I _)

end Cert.KernelIdeal.Attn
-- ==== Proof.Rest.lean ====
/- What the backward kernel's body does to the buffers it owns once its two table words are read. -/
module

public import proofs.«01_k».proof.Proof.Region

@[expose] public section

set_option maxRecDepth 65536

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F] [Named F]

theorem cond2_iff : ∀ i j : Fin 8, (Scalar.cmpi .ne (Scalar.extui (Scalar.cmpi .eq (BitVec.ofNat 32 j.val) (BitVec.ofNat 32 i.val)) : BitVec 32) 0#32 = 1#1) ↔ i = j := by decide
theorem cond3_iff : ∀ i j : Fin 8, (k0_cond3 (BitVec.ofNat 32 i.val) (BitVec.ofNat 32 j.val) = 1#1) ↔ i < j := by decide
theorem cond4_iff : ∀ i j : Fin 8, (k0_cond4 (BitVec.ofNat 32 i.val) (BitVec.ofNat 32 j.val) = 1#1) ↔ i = j := by decide
theorem cond5_iff : ∀ j : Fin 8, (k0_cond5 (BitVec.ofNat 32 j.val) = 1#1) ↔ j = 7 := by decide

/-- The accumulators after the body at key block `i` and query block `j`; `z` says whether it is the head group's first point. -/
def bodyF (z : Bool) (i j : Fin 8) (I : Inp F) (A : Acc F) : Acc F :=
  let A : Acc F := if z then { A with t := k0_pay1 (F := F) } else A
  let A : Acc F := if i = j then { A with k := k0_pay2 (F := F), v := k0_pay3 (F := F) } else A
  let A : Acc F := if i < j then offF I j A else A
  if i = j then diagF I j A else A

section Rules

variable {defs : Defs nD τ sig (Elt F) Λ₀} (𝒱 : Variants) (c : Dev nD) (bd : Option 𝒱.V) (E : Set ℕ)
variable {s : Shape} {e : EltTy} {Q : PUnit → sProp (MT nD τ sig Unit (Elt F) ℕ (UR sig nD τ) ℕ)}

/-- A load of the whole of an owned memref continues at what it holds. -/
theorem load_all {cs : CoreSpace} {m : Memref sig .tc cs s e} {off : Fin s.rank → ℕ} {inb : ∀ a, off a + s.size a ≤ s.size a}
    {hl : m.view.LoadsAt (Rect.unit off s.size inb).toLoadRect} {k : ((Rect.unit off s.size inb).shape.Idx → Elt F e) → Prog (TpuEff nD τ sig (Elt F) Λ₀ .tc) PUnit}
    {q : PosShare TreeShare} {X : s.Idx → Elt F e} :
    (owns (c : Thread nD τ) m q X : sProp (MT nD τ sig Unit (Elt F) ℕ (UR sig nD τ) ℕ))
      ⊢ iprop((owns (c : Thread nD τ) m q X -∗ wp frame (wpE defs 𝒱 c bd) E (k X) Q)
        -∗ wp frame (wpE defs 𝒱 c bd) E (.op (.load m (Rect.unit off s.size inb).toLoadRect hl) k) Q) := by
  have h : VecWindow.window X off s.size inb = X := (View.readAt_rep_unit m.view X inb rfl inb).symm.trans (View.readAt_rep_full m.view X inb)
  have := load_own 𝒱 c bd E (defs := defs) (Q := Q) (m := m) (inb := inb) (hl := hl) (k := k) (q := q) (X := X)
  rwa [h] at this

/-- An unmasked store over the whole of an owned memref leaves the payload. -/
theorem store_all {cs : CoreSpace} {m : Memref sig .tc cs s e} {off : Fin s.rank → ℕ} {inb : ∀ a, off a + s.size a ≤ s.size a}
    {w : s.Idx → Elt F e}
    {hx : (m.access (Rect.unit off s.size inb)).Stores Finset.univ} {hm : Finset.univ = Finset.univ ∨ ∀ a, (Rect.unit off s.size inb).stride a = 1}
    {k : PUnit → Prog (TpuEff nD τ sig (Elt F) Λ₀ .tc) PUnit} {X : s.Idx → Elt F e} :
    (owns (c : Thread nD τ) m fullShare X : sProp (MT nD τ sig Unit (Elt F) ℕ (UR sig nD τ) ℕ))
      ⊢ iprop((owns (c : Thread nD τ) m fullShare w -∗ wp frame (wpE defs 𝒱 c bd) E (k ⟨⟩) Q)
        -∗ wp frame (wpE defs 𝒱 c bd) E (.op (.store m (Rect.unit off s.size inb) w Finset.univ hx hm) k) Q) := by
  have h : VecWindow.put X off s.size w = w := (View.read_writes_rep_unit (Val := Elt F) m.view X inb w rfl).symm.trans
    (View.read_writes_full (Val := Elt F) m.view (m.view.rep X) inb w [])
  have := store_own 𝒱 c bd E (defs := defs) (Q := Q) (m := m) (inb := inb) (w := w) (hx := hx) (hm := hm) (k := k) (X := X)
  rwa [h] at this

end Rules

theorem if_spec {defs : Defs nD τ sig (Elt F) Λ₀} {𝒱 : Variants} {c : Dev nD} {bd : Option 𝒱.V} {E : Set ℕ}
    {P M : sProp (MT nD τ sig Unit (Elt F) ℕ (UR sig nD τ) ℕ)} {C D : Prop} [Decidable C] (hCD : C ↔ D) (hN : ¬ D → P ⊢ M)
    {p : Prog (TpuEff nD τ sig (Elt F) Λ₀ .tc) PUnit}
    (hp : D → P ⊢ wp frame (wpE defs 𝒱 (c : Thread nD τ) bd) E p (fun _ => M)) :
    P ⊢ wp frame (wpE defs 𝒱 (c : Thread nD τ) bd) E (if C then p else pure ⟨⟩) (fun _ => M) := by
  by_cases h : C
  · rw [if_pos h]; exact hp (hCD.1 h)
  · rw [if_neg h]; exact (hN fun d => h (hCD.2 d)).trans (le_wp_ret frame (wpE defs 𝒱 (c : Thread nD τ) bd) E PUnit.unit (fun _ => M))

theorem dif_spec {defs : Defs nD τ sig (Elt F) Λ₀} {𝒱 : Variants} {c : Dev nD} {bd : Option 𝒱.V} {E : Set ℕ}
    {P M : sProp (MT nD τ sig Unit (Elt F) ℕ (UR sig nD τ) ℕ)} {C D : Prop} [Decidable C] (hCD : C ↔ D) (hN : ¬ D → P ⊢ M)
    {p : C → Prog (TpuEff nD τ sig (Elt F) Λ₀ .tc) PUnit}
    (hp : ∀ h : C, P ⊢ wp frame (wpE defs 𝒱 (c : Thread nD τ) bd) E (p h) (fun _ => M)) :
    P ⊢ wp frame (wpE defs 𝒱 (c : Thread nD τ) bd) E (if h : C then p h else pure ⟨⟩) (fun _ => M) := by
  by_cases h : C
  · rw [dif_pos h]; exact hp h
  · rw [dif_neg h]; exact (hN fun d => h (hCD.2 d)).trans (le_wp_ret frame (wpE defs 𝒱 (c : Thread nD τ) bd) E PUnit.unit (fun _ => M))

/-- The same with each guarded region a program of its own. -/
def restQ (i : grid0.Coords)
    (arg2 : Memref sig .tc .smem S36 .i32) (harg2 : arg2.IsWhole)
    (arg3 : Memref sig .tc .smem S36 .i32) (harg3 : arg3.IsWhole)
    (arg4 : Memref sig .tc .vmem S2x1024x128 .bf16) (harg4 : arg4.IsWhole)
    (arg5 : Memref sig .tc .vmem S2x1024x128 .bf16) (harg5 : arg5.IsWhole)
    (arg6 : Memref sig .tc .vmem S2x128x1024 .bf16) (harg6 : arg6.IsWhole)
    (arg7 : Memref sig .tc .vmem S2x1024x128 .bf16) (harg7 : arg7.IsWhole)
    (arg8 : Memref sig .tc .vmem S1024x256 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x8192 .f32) (harg11 : arg11.IsWhole)
    (arg12 : Memref sig .tc .vmem S2x1024x128 .f32) (harg12 : arg12.IsWhole)
    (arg13 : Memref sig .tc .vmem S2x1024x128 .f32) (harg13 : arg13.IsWhole)
    (arg14 : Memref sig .tc .vmem S2x1024x128 .f32) (harg14 : arg14.IsWhole)
    (arg15 : Memref sig .tc .vmem S2x1024x128 .f32) (harg15 : arg15.IsWhole)
    (v1 v3 : Elt F .i32) (hw : k0_chk1 v1 v3) : Prog (TpuEff nD τ sig (Elt F) Λ₀ .tc) PUnit :=
    (if k0_cond1 i = 1#1 then do
      let _ : Vec F S2x128x8192 .f32 ← Prog.lift (.load arg11 (Rect.unit (s := S2x128x8192) ![0, 0, 0] S2x128x8192.size inb_S2x128x8192_S2x128x8192_0_0_0).toLoadRect (View.loadsAt_vmem h_S2x128x8192))
      Prog.lift (.store arg11 (Rect.unit (s := S2x128x8192) ![0, 0, 0] S2x128x8192.size inb_S2x128x8192_S2x128x8192_0_0_0) (k0_pay1 (F := F)) Finset.univ (View.stores_vmem_bits_univ h_S2x128x8192 rfl) (.inl rfl))
    else pure ⟨⟩) >>= fun _ =>
    (if Scalar.cmpi .ne (Scalar.extui (Scalar.cmpi .eq v3 v1) : BitVec 32) 0#32 = 1#1 then do
      let _ : Vec F S2x1024x128 .f32 ← Prog.lift (.load arg14 (Rect.unit (s := S2x1024x128) ![0, 0, 0] S2x1024x128.size inb_S2x1024x128_S2x1024x128_0_0_0).toLoadRect (View.loadsAt_vmem h_S2x1024x128))
      Prog.lift (.store arg14 (Rect.unit (s := S2x1024x128) ![0, 0, 0] S2x1024x128.size inb_S2x1024x128_S2x1024x128_0_0_0) (k0_pay2 (F := F)) Finset.univ (View.stores_vmem_bits_univ h_S2x1024x128 rfl) (.inl rfl))
      let _ : Vec F S2x1024x128 .f32 ← Prog.lift (.load arg15 (Rect.unit (s := S2x1024x128) ![0, 0, 0] S2x1024x128.size inb_S2x1024x128_S2x1024x128_0_0_0).toLoadRect (View.loadsAt_vmem h_S2x1024x128))
      Prog.lift (.store arg15 (Rect.unit (s := S2x1024x128) ![0, 0, 0] S2x1024x128.size inb_S2x1024x128_S2x1024x128_0_0_0) (k0_pay3 (F := F)) Finset.univ (View.stores_vmem_bits_univ h_S2x1024x128 rfl) (.inl rfl))
    else pure ⟨⟩) >>= fun _ =>
    (if h3 : k0_cond3 v1 v3 = 1#1 then offS arg2 harg2 arg3 harg3 arg4 harg4 arg5 harg5 arg6 harg6 arg7 harg7 arg8 harg8 arg9 harg9 arg10 harg10 arg11 harg11 arg12 harg12 arg13 harg13 arg14 harg14 arg15 harg15 v1 v3 hw h3 else pure ⟨⟩) >>= fun _ =>
    (if h4 : k0_cond4 v1 v3 = 1#1 then diagS arg2 harg2 arg3 harg3 arg4 harg4 arg5 harg5 arg6 harg6 arg7 harg7 arg8 harg8 arg9 harg9 arg10 harg10 arg11 harg11 arg12 harg12 arg13 harg13 arg14 harg14 arg15 harg15 v1 v3 hw h4 else pure ⟨⟩) >>= fun _ =>
    (if k0_cond5 v3 = 1#1 then do
      let x : Vec F S2x1024x128 .f32 ← Prog.lift (.load arg14 (Rect.unit (s := S2x1024x128) ![0, 0, 0] S2x1024x128.size inb_S2x1024x128_S2x1024x128_0_0_0).toLoadRect (View.loadsAt_vmem h_S2x1024x128))
      let _ : Vec F S2x1024x128 .f32 ← Prog.lift (.load arg12 (Rect.unit (s := S2x1024x128) ![0, 0, 0] S2x1024x128.size inb_S2x1024x128_S2x1024x128_0_0_0).toLoadRect (View.loadsAt_vmem h_S2x1024x128))
      Prog.lift (.store arg12 (Rect.unit (s := S2x1024x128) ![0, 0, 0] S2x1024x128.size inb_S2x1024x128_S2x1024x128_0_0_0) (k0_pay4 x) Finset.univ (View.stores_vmem_bits_univ h_S2x1024x128 rfl) (.inl rfl))
      let y : Vec F S2x1024x128 .f32 ← Prog.lift (.load arg15 (Rect.unit (s := S2x1024x128) ![0, 0, 0] S2x1024x128.size inb_S2x1024x128_S2x1024x128_0_0_0).toLoadRect (View.loadsAt_vmem h_S2x1024x128))
      let _ : Vec F S2x1024x128 .f32 ← Prog.lift (.load arg13 (Rect.unit (s := S2x1024x128) ![0, 0, 0] S2x1024x128.size inb_S2x1024x128_S2x1024x128_0_0_0).toLoadRect (View.loadsAt_vmem h_S2x1024x128))
      Prog.lift (.store arg13 (Rect.unit (s := S2x1024x128) ![0, 0, 0] S2x1024x128.size inb_S2x1024x128_S2x1024x128_0_0_0) y Finset.univ (View.stores_vmem_bits_univ h_S2x1024x128 rfl) (.inl rfl))
    else pure ⟨⟩)

theorem restS_eq (i : grid0.Coords)
    (arg2 : Memref sig .tc .smem S36 .i32) (harg2 : arg2.IsWhole)
    (arg3 : Memref sig .tc .smem S36 .i32) (harg3 : arg3.IsWhole)
    (arg4 : Memref sig .tc .vmem S2x1024x128 .bf16) (harg4 : arg4.IsWhole)
    (arg5 : Memref sig .tc .vmem S2x1024x128 .bf16) (harg5 : arg5.IsWhole)
    (arg6 : Memref sig .tc .vmem S2x128x1024 .bf16) (harg6 : arg6.IsWhole)
    (arg7 : Memref sig .tc .vmem S2x1024x128 .bf16) (harg7 : arg7.IsWhole)
    (arg8 : Memref sig .tc .vmem S1024x256 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x8192 .f32) (harg11 : arg11.IsWhole)
    (arg12 : Memref sig .tc .vmem S2x1024x128 .f32) (harg12 : arg12.IsWhole)
    (arg13 : Memref sig .tc .vmem S2x1024x128 .f32) (harg13 : arg13.IsWhole)
    (arg14 : Memref sig .tc .vmem S2x1024x128 .f32) (harg14 : arg14.IsWhole)
    (arg15 : Memref sig .tc .vmem S2x1024x128 .f32) (harg15 : arg15.IsWhole)
    (v1 v3 : Elt F .i32) (hw : k0_chk1 v1 v3) : restS i arg2 harg2 arg3 harg3 arg4 harg4 arg5 harg5 arg6 harg6 arg7 harg7 arg8 harg8 arg9 harg9 arg10 harg10 arg11 harg11 arg12 harg12 arg13 harg13 arg14 harg14 arg15 harg15 v1 v3 hw = restQ i arg2 harg2 arg3 harg3 arg4 harg4 arg5 harg5 arg6 harg6 arg7 harg7 arg8 harg8 arg9 harg9 arg10 harg10 arg11 harg11 arg12 harg12 arg13 harg13 arg14 harg14 arg15 harg15 v1 v3 hw := by
  unfold restS restQ
  by_cases h1 : k0_cond1 i = 1#1 <;> by_cases h2 : Scalar.cmpi .ne (Scalar.extui (Scalar.cmpi .eq v3 v1) : BitVec 32) 0#32 = 1#1 <;>
    by_cases h3 : k0_cond3 v1 v3 = 1#1 <;> by_cases h4 : k0_cond4 v1 v3 = 1#1 <;>
    simp only [h1, h2, h3, h4, if_true, if_false, dite_true, dite_false, ite_true, ite_false, Prog.lift, Prog.bind_op, Prog.bind_ret, Prog.pure_eq_ret, Prog.bind_assoc]

theorem restS_spec {defs : Defs nD τ sig (Elt F) Λ₀} (𝒱 : Variants) (c : Dev nD) (bd : Option 𝒱.V) (E : Set ℕ) (g : grid0.Coords)
    (arg2 : Memref sig .tc .smem S36 .i32) (harg2 : arg2.IsWhole)
    (arg3 : Memref sig .tc .smem S36 .i32) (harg3 : arg3.IsWhole)
    (arg4 : Memref sig .tc .vmem S2x1024x128 .bf16) (harg4 : arg4.IsWhole)
    (arg5 : Memref sig .tc .vmem S2x1024x128 .bf16) (harg5 : arg5.IsWhole)
    (arg6 : Memref sig .tc .vmem S2x128x1024 .bf16) (harg6 : arg6.IsWhole)
    (arg7 : Memref sig .tc .vmem S2x1024x128 .bf16) (harg7 : arg7.IsWhole)
    (arg8 : Memref sig .tc .vmem S1024x256 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x8192 .f32) (harg11 : arg11.IsWhole)
    (arg12 : Memref sig .tc .vmem S2x1024x128 .f32) (harg12 : arg12.IsWhole)
    (arg13 : Memref sig .tc .vmem S2x1024x128 .f32) (harg13 : arg13.IsWhole)
    (arg14 : Memref sig .tc .vmem S2x1024x128 .f32) (harg14 : arg14.IsWhole)
    (arg15 : Memref sig .tc .vmem S2x1024x128 .f32) (harg15 : arg15.IsWhole)
    (v1 v3 : Elt F .i32) (hw : k0_chk1 v1 v3) (i j : Fin 8) (hi : v1 = BitVec.ofNat 32 i.val) (hj : v3 = BitVec.ofNat 32 j.val) (I : Inp F) (A : Acc F)
    (Y Z : Vec F S2x1024x128 .f32) :
    iprop(held c arg4 arg5 arg6 arg7 arg8 arg9 arg10 arg11 arg14 arg15 I A ∗ owns (c : Thread nD τ) arg12 fullShare Y ∗ owns (c : Thread nD τ) arg13 fullShare Z)
      ⊢ wp frame (wpE defs 𝒱 (c : Thread nD τ) bd) E (restS g arg2 harg2 arg3 harg3 arg4 harg4 arg5 harg5 arg6 harg6 arg7 harg7 arg8 harg8 arg9 harg9 arg10 harg10 arg11 harg11 arg12 harg12 arg13 harg13 arg14 harg14 arg15 harg15 v1 v3 hw)
      (fun _ => iprop(held c arg4 arg5 arg6 arg7 arg8 arg9 arg10 arg11 arg14 arg15 I (bodyF (k0_cond1 g == 1#1) i j I A)
        ∗ owns (c : Thread nD τ) arg12 fullShare (if j = 7 then k0_pay4 (bodyF (k0_cond1 g == 1#1) i j I A).k else Y)
        ∗ owns (c : Thread nD τ) arg13 fullShare (if j = 7 then (bodyF (k0_cond1 g == 1#1) i j I A).v else Z))) := by
  subst hi hj
  rw [restS_eq]
  unfold restQ bodyF
  dsimp only
  refine bind_spec (M := iprop(held c arg4 arg5 arg6 arg7 arg8 arg9 arg10 arg11 arg14 arg15 I (if (k0_cond1 g == 1#1) = true then { A with t := k0_pay1 (F := F) } else A) ∗ owns (c : Thread nD τ) arg12 fullShare Y ∗ owns (c : Thread nD τ) arg13 fullShare Z))
    (if_spec (D := (k0_cond1 g == 1#1) = true) beq_iff_eq.symm (fun h => by rw [if_neg h]) fun h => ?_) ?_
  · rw [if_pos h]
    unfold held
    simp only [Prog.lift, Prog.bind_op, Prog.bind_ret]
    iintro ⟨⟨H4, H5, H6, H7, H8, H9, H10, H11, H14, H15⟩, H12, H13⟩
    iapply (load_own 𝒱 c bd E) $$ H11; iintro H11
    iapply (store_all 𝒱 c bd E) $$ H11; iintro H11
    iapply (le_wp_ret _ _ _ _ _)
    isplitr [H12 H13]
    · iframe
    · iframe
  generalize (if (k0_cond1 g == 1#1) = true then { A with t := k0_pay1 (F := F) } else A : Acc F) = A
  refine bind_spec (M := iprop(held c arg4 arg5 arg6 arg7 arg8 arg9 arg10 arg11 arg14 arg15 I (if i = j then { A with k := k0_pay2 (F := F), v := k0_pay3 (F := F) } else A) ∗ owns (c : Thread nD τ) arg12 fullShare Y ∗ owns (c : Thread nD τ) arg13 fullShare Z))
    (if_spec (D := i = j) (cond2_iff i j) (fun h => by rw [if_neg h]) fun h => ?_) ?_
  · rw [if_pos h]
    unfold held
    simp only [Prog.lift, Prog.bind_op, Prog.bind_ret]
    iintro ⟨⟨H4, H5, H6, H7, H8, H9, H10, H11, H14, H15⟩, H12, H13⟩
    iapply (load_own 𝒱 c bd E) $$ H14; iintro H14
    iapply (store_all 𝒱 c bd E) $$ H14; iintro H14
    iapply (load_own 𝒱 c bd E) $$ H15; iintro H15
    iapply (store_all 𝒱 c bd E) $$ H15; iintro H15
    iapply (le_wp_ret _ _ _ _ _)
    isplitr [H12 H13]
    · iframe
    · iframe
  generalize (if i = j then { A with k := k0_pay2 (F := F), v := k0_pay3 (F := F) } else A : Acc F) = A
  refine bind_spec (M := iprop(held c arg4 arg5 arg6 arg7 arg8 arg9 arg10 arg11 arg14 arg15 I (if i < j then offF I j A else A) ∗ owns (c : Thread nD τ) arg12 fullShare Y ∗ owns (c : Thread nD τ) arg13 fullShare Z))
    (dif_spec (D := i < j) (cond3_iff i j) (fun h => by rw [if_neg h]) fun h => ?_) ?_
  · rw [if_pos ((cond3_iff i j).1 h)]
    exact (sep_mono_left (offS_spec 𝒱 c bd E arg2 harg2 arg3 harg3 arg4 harg4 arg5 harg5 arg6 harg6 arg7 harg7 arg8 harg8 arg9 harg9 arg10 harg10 arg11 harg11 arg12 harg12 arg13 harg13 arg14 harg14 arg15 harg15 _ _ hw h j rfl I A)).trans (wp_frame_r _ _ _)
  generalize (if i < j then offF I j A else A : Acc F) = A
  refine bind_spec (M := iprop(held c arg4 arg5 arg6 arg7 arg8 arg9 arg10 arg11 arg14 arg15 I (if i = j then diagF I j A else A) ∗ owns (c : Thread nD τ) arg12 fullShare Y ∗ owns (c : Thread nD τ) arg13 fullShare Z))
    (dif_spec (D := i = j) (cond4_iff i j) (fun h => by rw [if_neg h]) fun h => ?_) ?_
  · rw [if_pos ((cond4_iff i j).1 h)]
    exact (sep_mono_left (diagS_spec 𝒱 c bd E arg2 harg2 arg3 harg3 arg4 harg4 arg5 harg5 arg6 harg6 arg7 harg7 arg8 harg8 arg9 harg9 arg10 harg10 arg11 harg11 arg12 harg12 arg13 harg13 arg14 harg14 arg15 harg15 _ _ hw h j rfl I A)).trans (wp_frame_r _ _ _)
  generalize (if i = j then diagF I j A else A : Acc F) = A
  refine (if_spec (D := j = 7) (cond5_iff j) (fun h => by rw [if_neg h, if_neg h]) fun h => ?_)
  rw [if_pos h, if_pos h]
  unfold held
  simp only [Prog.lift, Prog.bind_op, Prog.bind_ret]
  iintro ⟨⟨H4, H5, H6, H7, H8, H9, H10, H11, H14, H15⟩, H12, H13⟩
  iapply (load_all 𝒱 c bd E) $$ H14; iintro H14
  iapply (load_own 𝒱 c bd E) $$ H12; iintro H12
  iapply (store_all 𝒱 c bd E) $$ H12; iintro H12
  iapply (load_all 𝒱 c bd E) $$ H15; iintro H15
  iapply (load_own 𝒱 c bd E) $$ H13; iintro H13
  iapply (store_all 𝒱 c bd E) $$ H13; iintro H13
  iapply (le_wp_ret _ _ _ _ _)
  isplitr [H12 H13]
  · iframe
  · iframe

end Cert.KernelIdeal.Attn
-- ==== Proof.Tables.lean ====
module

public import proofs.«01_k».proof.Proof.Rest
public import proofs.«01_k».proof.Proof.Gen.KernelIdeal.Launch

@[expose] public section

set_option maxRecDepth 16384

noncomputable section

namespace Cert.KernelIdeal.Attn

open Idealize.ShloMosaic Idealize.ShloMosaic.TcCoe
open Idealize.SL Idealize.SL.RA Idealize.SL.BI
open scoped Idealize.SL.BI
open Cert.KernelIdeal Cert.KernelIdeal.Gen
open Idealize.SL.BI.BIBase Idealize.SL.BI.Laws Idealize.SL.Sem Idealize.SL.ProofMode

variable {F : FTy → Type} [FloatOps F] [Named F]

/-- The two tables' contents: the block of keys and the block of queries of each pair. -/
def tab : pre0.Contents (Elt F) := fun
  | 0 => fun i => lit0 (S36.rowMajor i)
  | 1 => fun i => lit1 (S36.rowMajor i)
  | ⟨_ + 2, h⟩ => absurd h (Nat.not_lt.2 (Nat.le_add_left _ _))

/-- The block of keys at pair `p`. -/
def iL : Fin 36 → Fin 8 := ![0,0,0,0,0,0,0,0,1,1,1,1,1,1,1,2,2,2,2,2,2,3,3,3,3,3,4,4,4,4,5,5,5,6,6,7]
/-- The block of queries at pair `p`. -/
def jL : Fin 36 → Fin 8 := ![0,1,2,3,4,5,6,7,1,2,3,4,5,6,7,2,3,4,5,6,7,3,4,5,6,7,4,5,6,7,5,6,7,6,7,7]

theorem lit0_eq : ∀ p : Fin 36, lit0 p = BitVec.ofNat 32 (iL p).val := by decide +kernel
theorem lit1_eq : ∀ p : Fin 36, lit1 p = BitVec.ofNat 32 (jL p).val := by decide +kernel

/-- The pair of a grid point. -/
def pC (g : grid0.Coords) : Fin 36 := ⟨(g 1).val, (g 1).isLt⟩
/-- The group of heads of a grid point. -/
def gC (g : grid0.Coords) : Fin 2 := ⟨(g 0).val, (g 0).isLt⟩

theorem off1_eq : ∀ n : Fin 36, (Scalar.indexCast (BitVec.ofNat 32 n.val)).toNat = n.val := by decide
theorem k0_off1_eq (g : grid0.Coords) : k0_off1 g = ![(pC g).val] := by
  unfold k0_off1; exact congrArg (fun n : ℕ => ![n]) (off1_eq (pC g))

theorem word0 (x : S36.Idx) : lit0 (S36.rowMajor x) = BitVec.ofNat 32 (iL (x 0)).val := by
  have : S36.rowMajor x = x 0 := Fin.ext (Shape.rowMajor_val_one x)
  rw [this]; exact lit0_eq _
theorem word1 (x : S36.Idx) : lit1 (S36.rowMajor x) = BitVec.ofNat 32 (jL (x 0)).val := by
  have : S36.rowMajor x = x 0 := Fin.ext (Shape.rowMajor_val_one x)
  rw [this]; exact lit1_eq _

/-- The one index a scalar load at the point's pair names. -/
theorem emb_pC (g : grid0.Coords) (off : Fin 1 → ℕ) (h : off = k0_off1 g) (inb : ∀ a, off a + S1.size a ≤ S36.size a) (x : (Rect.unit (s := S36) off S1.size inb).shape.Idx) :
    (Rect.unit (s := S36) off S1.size inb).emb x 0 = pC g := by
  subst h
  apply Fin.ext
  have hx : (x 0).val = 0 := by
    have : (x 0).val < 1 := (x 0).isLt
    omega
  have h0 : k0_off1 g 0 = (pC g).val := by rw [k0_off1_eq]; rfl
  rw [Rect.emb_apply]
  simp [hx, h0]

theorem tab0_at (g : grid0.Coords) (off : Fin 1 → ℕ) (h : off = k0_off1 g) (inb : ∀ a, off a + S1.size a ≤ S36.size a)  (h1 : S1.numel = 1) :
    (tab (F := F)).at 0 (Rect.unit (s := S36) off S1.size inb) h1 = BitVec.ofNat 32 (iL (pC g)).val :=
  (word0 _).trans (congrArg (fun p => BitVec.ofNat 32 (iL p).val) (emb_pC g off h inb _))
theorem tab1_at (g : grid0.Coords) (off : Fin 1 → ℕ) (h : off = k0_off1 g) (inb : ∀ a, off a + S1.size a ≤ S36.size a)  (h1 : S1.numel = 1) :
    (tab (F := F)).at 1 (Rect.unit (s := S36) off S1.size inb) h1 = BitVec.ofNat 32 (jL (pC g)).val :=
  (word1 _).trans (congrArg (fun p => BitVec.ofNat 32 (jL p).val) (emb_pC g off h inb _))
theorem tab0_atD (g : grid0.Coords) : (tab (F := F)).atD 0 (k0_off1 g) = BitVec.ofNat 32 (iL (pC g)).val := by
  have h : ∀ a : Fin 1, k0_off1 g a + 1 ≤ S36.size a := fun | 0 => k0_off1_inb g 0
  refine (dif_pos h).trans ((word0 _).trans (congrArg (fun p => BitVec.ofNat 32 (iL p).val) (Fin.ext ?_)))
  show k0_off1 g 0 = _; rw [k0_off1_eq]; rfl
theorem tab1_atD (g : grid0.Coords) : (tab (F := F)).atD 1 (k0_off1 g) = BitVec.ofNat 32 (jL (pC g)).val := by
  have h : ∀ a : Fin 1, k0_off1 g a + 1 ≤ S36.size a := fun | 0 => k0_off1_inb g 0
  refine (dif_pos h).trans ((word1 _).trans (congrArg (fun p => BitVec.ofNat 32 (jL p).val) (Fin.ext ?_)))
  show k0_off1 g 0 = _; rw [k0_off1_eq]; rfl

theorem nat8 : ∀ i : Fin 8, (BitVec.ofNat 32 i.val).toNat = i.val := by decide
theorem nat2 : ∀ i : Fin 2, (BitVec.ofNat 32 i.val).toNat = i.val := by decide

theorem nat2' (g : grid0.Coords) : (BitVec.ofNat 32 (g 0).val).toNat = (gC g).val := nat2 (gC g)
theorem tr0 (g : grid0.Coords) : cc0_transform_0 k0_off1_inb numel1_S1 (tab (F := F)) g = ![(gC g).val, (jL (pC g)).val, 0] :=
  (congrArg (fun w : BitVec 32 => (![(BitVec.ofNat 32 (g 0).val).toNat, w.toNat, (0#32).toNat] : Fin 3 → ℕ)) (tab1_at (F := F) g _ rfl (k0_off1_inb g) numel1_S1)).trans
    (by dsimp only; rw [nat8, nat2']; rfl)
theorem tr1 (g : grid0.Coords) : cc0_transform_1 k0_off1_inb numel1_S1 (tab (F := F)) g = ![(gC g).val, (iL (pC g)).val, 0] :=
  (congrArg (fun w : BitVec 32 => (![(BitVec.ofNat 32 (g 0).val).toNat, w.toNat, (0#32).toNat] : Fin 3 → ℕ)) (tab0_at (F := F) g _ rfl (k0_off1_inb g) numel1_S1)).trans
    (by dsimp only; rw [nat8, nat2']; rfl)
theorem tr2 (g : grid0.Coords) : cc0_transform_2 k0_off1_inb numel1_S1 (tab (F := F)) g = ![(gC g).val, 0, (iL (pC g)).val] :=
  (congrArg (fun w : BitVec 32 => (![(BitVec.ofNat 32 (g 0).val).toNat, (0#32).toNat, w.toNat] : Fin 3 → ℕ)) (tab0_at (F := F) g _ rfl (k0_off1_inb g) numel1_S1)).trans
    (by dsimp only; rw [nat8, nat2']; rfl)
theorem tr3 (g : grid0.Coords) : cc0_transform_3 k0_off1_inb numel1_S1 (tab (F := F)) g = ![(gC g).val, (iL (pC g)).val, 0] :=
  (congrArg (fun w : BitVec 32 => (![(BitVec.ofNat 32 (g 0).val).toNat, w.toNat, (0#32).toNat] : Fin 3 → ℕ)) (tab0_at (F := F) g _ rfl (k0_off1_inb g) numel1_S1)).trans
    (by dsimp only; rw [nat8, nat2']; rfl)
theorem tr4 (g : grid0.Coords) : cc0_transform_4 k0_off1_inb numel1_S1 (tab (F := F)) g = ![(jL (pC g)).val, (gC g).val] :=
  (congrArg (fun w : BitVec 32 => (![w.toNat, (BitVec.ofNat 32 (g 0).val).toNat] : Fin 2 → ℕ)) (tab1_at (F := F) g _ rfl (k0_off1_inb g) numel1_S1)).trans
    (by dsimp only; rw [nat8, nat2'])
theorem tr5 (g : grid0.Coords) : cc0_transform_5 k0_off1_inb numel1_S1 (tab (F := F)) g = ![(gC g).val, 0, (jL (pC g)).val] :=
  (congrArg (fun w : BitVec 32 => (![(BitVec.ofNat 32 (g 0).val).toNat, (0#32).toNat, w.toNat] : Fin 3 → ℕ)) (tab1_at (F := F) g _ rfl (k0_off1_inb g) numel1_S1)).trans
    (by dsimp only; rw [nat8, nat2']; rfl)
theorem tr6 (g : grid0.Coords) : cc0_transform_6 k0_off1_inb numel1_S1 (tab (F := F)) g = ![(gC g).val, 0, (jL (pC g)).val] :=
  (congrArg (fun w : BitVec 32 => (![(BitVec.ofNat 32 (g 0).val).toNat, (0#32).toNat, w.toNat] : Fin 3 → ℕ)) (tab1_at (F := F) g _ rfl (k0_off1_inb g) numel1_S1)).trans
    (by dsimp only; rw [nat8, nat2']; rfl)
theorem tr7 (g : grid0.Coords) : cc0_transform_7 g = ![(gC g).val, 0, 0] :=
  congrArg (fun n : ℕ => (![n, 0, 0] : Fin 3 → ℕ)) (nat2' g)
theorem tr8 (g : grid0.Coords) : cc0_transform_8 k0_off1_inb numel1_S1 (tab (F := F)) g = ![(gC g).val, (iL (pC g)).val, 0] :=
  (congrArg (fun w : BitVec 32 => (![(BitVec.ofNat 32 (g 0).val).toNat, w.toNat, (0#32).toNat] : Fin 3 → ℕ)) (tab0_at (F := F) g _ rfl (k0_off1_inb g) numel1_S1)).trans
    (by dsimp only; rw [nat8, nat2']; rfl)
theorem tr9 (g : grid0.Coords) : cc0_transform_9 k0_off1_inb numel1_S1 (tab (F := F)) g = ![(gC g).val, (iL (pC g)).val, 0] :=
  (congrArg (fun w : BitVec 32 => (![(BitVec.ofNat 32 (g 0).val).toNat, w.toNat, (0#32).toNat] : Fin 3 → ℕ)) (tab0_at (F := F) g _ rfl (k0_off1_inb g) numel1_S1)).trans
    (by dsimp only; rw [nat8, nat2']; rfl)

theorem okR : ∀ (a : Fin 2) (b : Fin 8), ∃ h : (∀ x, ((![a.val, b.val, 0] : Fin 3 → ℕ) x + 1) * S2x1024x128.size x ≤ S4x8192x128.size x), EltTy.bits .bf16 = 32 ∨ (Rect.block (s := S4x8192x128) S2x1024x128.size ![a.val, b.val, 0] h).WholeWords (EltTy.packing .bf16) := by decide +kernel
theorem okC : ∀ (a : Fin 2) (b : Fin 8), ∃ h : (∀ x, ((![a.val, 0, b.val] : Fin 3 → ℕ) x + 1) * S2x128x1024.size x ≤ S4x128x8192.size x), EltTy.bits .bf16 = 32 ∨ (Rect.block (s := S4x128x8192) S2x128x1024.size ![a.val, 0, b.val] h).WholeWords (EltTy.packing .bf16) := by decide +kernel
theorem okR32 : ∀ (a : Fin 2) (b : Fin 8), (∀ x, ((![a.val, b.val, 0] : Fin 3 → ℕ) x + 1) * S2x1024x128.size x ≤ S4x8192x128.size x) := by decide +kernel
theorem okD32 : ∀ (a : Fin 2) (b : Fin 8), (∀ x, ((![b.val, a.val] : Fin 2 → ℕ) x + 1) * S1024x256.size x ≤ S8192x512.size x) := by decide +kernel
theorem okL32 : ∀ (a : Fin 2) (b : Fin 8), (∀ x, ((![a.val, 0, b.val] : Fin 3 → ℕ) x + 1) * S2x1x1024.size x ≤ S4x1x8192.size x) := by decide +kernel

theorem ok_tab : ok0 (tab (F := F)) := by
  unfold ok0
  refine ⟨fun g => ?_, fun g => ?_, fun g => ?_, fun g => ?_, fun g => ?_, fun g => ?_, fun g => ?_, fun g => ?_, fun g => ?_⟩
  · rw [tr0]; exact okR (gC g) (jL (pC g))
  · rw [tr1]; exact okR (gC g) (iL (pC g))
  · rw [tr2]; exact okC (gC g) (iL (pC g))
  · rw [tr3]; exact okR (gC g) (iL (pC g))
  · rw [tr4]; exact ⟨okD32 (gC g) (jL (pC g)), .inl rfl⟩
  · rw [tr5]; exact ⟨okL32 (gC g) (jL (pC g)), .inl rfl⟩
  · rw [tr6]; exact ⟨okL32 (gC g) (jL (pC g)), .inl rfl⟩
  · rw [tr8]; exact ⟨okR32 (gC g) (iL (pC g)), .inl rfl⟩
  · rw [tr9]; exact ⟨okR32 (gC g) (iL (pC g)), .inl rfl⟩

/-- The tables as admissible contents. -/
abbrev adm : (p : Fin 1) → (pcfgs (F := F) p).Adm := fun _ => ⟨tab, ok_tab⟩

theorem chk_tab : ∀ i j : Fin 8, k0_chk1 (BitVec.ofNat 32 i.val) (BitVec.ofNat 32 j.val) := by
  decide +kernel
end Cert.KernelIdeal.Attn
end
-- ==== Proof.Point.lean ====
module

public import proofs.«01_k».proof.Proof.Tables
public import Idealize.ShloMosaic.Lib.Pipeline.Frame

@[expose] public section

set_option maxRecDepth 65536

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F] [Named F]

/-- A buffer held whole at contents `f`, as a load's rectangle of it sees it. -/
abbrev tabOwn (c : Dev nD) (q : PosShare TreeShare) : sProp (MT nD τ sig Unit (Elt F) ℕ (UR sig nD τ) ℕ) :=
  Pipeline.prefHeld pre0 c (fun _ => q) (tab (F := F))

theorem tabOwn_eq (c : Dev nD) (q : PosShare TreeShare) : tabOwn (F := F) c q
    = iprop((((c : Thread nD τ).loc main_c) ↦{q} tab (F := F) 0) ∗ (((c : Thread nD τ).loc main_c_0) ↦{q} tab (F := F) 1)) :=
  bigSep_univ_eq_bigSepL [(0 : Fin 2), (1 : Fin 2)] (by decide) (by decide) _

theorem word0_spec {defs : Defs nD τ sig (Elt F) Λ₀} (𝒱 : Variants) (c : Dev nD) (bd : Option 𝒱.V) (E : Set ℕ) (g : grid0.Coords) (q : PosShare TreeShare) {α : Type}
    (k : Elt F .i32 → Prog (TpuEff nD τ sig (Elt F) Λ₀ .tc) α) (Q : α → sProp (MT nD τ sig Unit (Elt F) ℕ (UR sig nD τ) ℕ)) :
    (((c : Thread nD τ).loc main_c) ↦{q} tab (F := F) 0)
      ⊢ iprop(((((c : Thread nD τ).loc main_c) ↦{q} tab (F := F) 0) -∗ wp frame (wpE defs 𝒱 (c : Thread nD τ) bd) E (k (BitVec.ofNat 32 (iL (pC g)).val)) Q)
        -∗ wp frame (wpE defs 𝒱 (c : Thread nD τ) bd) E (smemLoad (Memref.whole main_c) (Rect.unit (s := S36) (k0_off1 g) S1.size (k0_off1_inb g)) numel1_S1 rfl >>= k) Q) := by
  have e : (tab (F := F)).at 0 (Rect.unit (s := S36) (k0_off1 g) S1.size (k0_off1_inb g)) numel1_S1 = BitVec.ofNat 32 (iL (pC g)).val := tab0_at g _ rfl (k0_off1_inb g) numel1_S1
  rw [← e]
  exact wp_smemLoadElt 𝒱 (c : Thread nD τ) bd E (m := Memref.whole main_c) (r := Rect.unit (s := S36) (k0_off1 g) S1.size (k0_off1_inb g)) (hw := View.loads_smem_one rfl numel1_S1) (S := Finset.univ) (f := tab (F := F) 0) (Finset.subset_univ _)

theorem word1_spec {defs : Defs nD τ sig (Elt F) Λ₀} (𝒱 : Variants) (c : Dev nD) (bd : Option 𝒱.V) (E : Set ℕ) (g : grid0.Coords) (q : PosShare TreeShare) {α : Type}
    (k : Elt F .i32 → Prog (TpuEff nD τ sig (Elt F) Λ₀ .tc) α) (Q : α → sProp (MT nD τ sig Unit (Elt F) ℕ (UR sig nD τ) ℕ)) :
    (((c : Thread nD τ).loc main_c_0) ↦{q} tab (F := F) 1)
      ⊢ iprop(((((c : Thread nD τ).loc main_c_0) ↦{q} tab (F := F) 1) -∗ wp frame (wpE defs 𝒱 (c : Thread nD τ) bd) E (k (BitVec.ofNat 32 (jL (pC g)).val)) Q)
        -∗ wp frame (wpE defs 𝒱 (c : Thread nD τ) bd) E (smemLoad (Memref.whole main_c_0) (Rect.unit (s := S36) (k0_off1 g) S1.size (k0_off1_inb g)) numel1_S1 rfl >>= k) Q) := by
  have e : (tab (F := F)).at 1 (Rect.unit (s := S36) (k0_off1 g) S1.size (k0_off1_inb g)) numel1_S1 = BitVec.ofNat 32 (jL (pC g)).val := tab1_at g _ rfl (k0_off1_inb g) numel1_S1
  rw [← e]
  exact wp_smemLoadElt 𝒱 (c : Thread nD τ) bd E (m := Memref.whole main_c_0) (r := Rect.unit (s := S36) (k0_off1 g) S1.size (k0_off1_inb g)) (hw := View.loads_smem_one rfl numel1_S1) (S := Finset.univ) (f := tab (F := F) 1) (Finset.subset_univ _)

theorem body_spec {defs : Defs nD τ sig (Elt F) Λ₀} (𝒱 : Variants) (c : Dev nD) (bd : Option 𝒱.V) (E : Set ℕ) (g : grid0.Coords)
    (arg4 : Memref sig .tc .vmem S2x1024x128 .bf16) (harg4 : arg4.IsWhole)
    (arg5 : Memref sig .tc .vmem S2x1024x128 .bf16) (harg5 : arg5.IsWhole)
    (arg6 : Memref sig .tc .vmem S2x128x1024 .bf16) (harg6 : arg6.IsWhole)
    (arg7 : Memref sig .tc .vmem S2x1024x128 .bf16) (harg7 : arg7.IsWhole)
    (arg8 : Memref sig .tc .vmem S1024x256 .f32) (harg8 : arg8.IsWhole)
    (arg9 : Memref sig .tc .vmem S2x1x1024 .f32) (harg9 : arg9.IsWhole)
    (arg10 : Memref sig .tc .vmem S2x1x1024 .f32) (harg10 : arg10.IsWhole)
    (arg11 : Memref sig .tc .vmem S2x128x8192 .f32) (harg11 : arg11.IsWhole)
    (arg12 : Memref sig .tc .vmem S2x1024x128 .f32) (harg12 : arg12.IsWhole)
    (arg13 : Memref sig .tc .vmem S2x1024x128 .f32) (harg13 : arg13.IsWhole)
    (arg14 : Memref sig .tc .vmem S2x1024x128 .f32) (harg14 : arg14.IsWhole)
    (arg15 : Memref sig .tc .vmem S2x1024x128 .f32) (harg15 : arg15.IsWhole)
    (q : PosShare TreeShare) (I : Inp F) (A : Acc F) (Y Z : Vec F S2x1024x128 .f32) :
    iprop(tabOwn (F := F) c q ∗ held c arg4 arg5 arg6 arg7 arg8 arg9 arg10 arg11 arg14 arg15 I A ∗ owns (c : Thread nD τ) arg12 fullShare Y ∗ owns (c : Thread nD τ) arg13 fullShare Z)
      ⊢ wp frame (wpE defs 𝒱 (c : Thread nD τ) bd) E (cc0_attn_bwd (F := F) g (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15)
      (fun _ => iprop(tabOwn (F := F) c q ∗ held c arg4 arg5 arg6 arg7 arg8 arg9 arg10 arg11 arg14 arg15 I (bodyF (k0_cond1 g == 1#1) (iL (pC g)) (jL (pC g)) I A)
        ∗ owns (c : Thread nD τ) arg12 fullShare (if jL (pC g) = 7 then k0_pay4 (bodyF (k0_cond1 g == 1#1) (iL (pC g)) (jL (pC g)) I A).k else Y)
        ∗ owns (c : Thread nD τ) arg13 fullShare (if jL (pC g) = 7 then (bodyF (k0_cond1 g == 1#1) (iL (pC g)) (jL (pC g)) I A).v else Z))) := by
  rw [body_eq, tabOwn_eq]
  iintro ⟨⟨H0, H1⟩, HR⟩
  iapply (word0_spec 𝒱 c bd E g q _ _) $$ H0
  iintro H0
  iapply (word1_spec 𝒱 c bd E g q _ _) $$ H1
  iintro H1
  iapply (wp_assume 𝒱 (c : Thread nD τ) bd E (chk_tab _ _))
  iapply ((sep_mono .rfl (restS_spec (defs := defs) 𝒱 c bd E g (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15 _ _ (chk_tab (iL (pC g)) (jL (pC g))) (iL (pC g)) (jL (pC g)) rfl rfl I A Y Z)).trans (wp_frame_l _ _ _))
  isplitl [H0 H1]
  · isplitl [H0]
    · iexact H0
    · iexact H1
  · iexact HR

end Cert.KernelIdeal.Attn
end
-- ==== Proof.Sched.lean ====
module

public import proofs.«01_k».proof.Proof.Point
public import Idealize.ShloMosaic.Lib.Pipeline.Frame

@[expose] public section

set_option maxRecDepth 65536

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F] [Named F]

/-- The call's pipeline at the tables' contents. -/
abbrev cfgA : Pipeline.Cfg sig Λ₀ := cfg0 (F := F) (adm 0)

theorem pC_val : ∀ t : Fin grid0.N, (pC (grid0.coords t)).val = t.val % 36 := by decide +kernel
theorem gC_val : ∀ t : Fin grid0.N, (gC (grid0.coords t)).val = t.val / 36 := by decide +kernel
theorem cond1_val : ∀ t : Fin grid0.N, (k0_cond1 (grid0.coords t) == 1#1) = decide (t.val % 36 = 0) := by decide +kernel

theorem index0 (t : Fin grid0.N) : ((cfgA (F := F)).win 0).index t = ![(gC (grid0.coords t)).val, (jL (pC (grid0.coords t))).val, 0] := tr0 _
theorem index1 (t : Fin grid0.N) : ((cfgA (F := F)).win 1).index t = ![(gC (grid0.coords t)).val, (iL (pC (grid0.coords t))).val, 0] := tr1 _
theorem index2 (t : Fin grid0.N) : ((cfgA (F := F)).win 2).index t = ![(gC (grid0.coords t)).val, 0, (iL (pC (grid0.coords t))).val] := tr2 _
theorem index3 (t : Fin grid0.N) : ((cfgA (F := F)).win 3).index t = ![(gC (grid0.coords t)).val, (iL (pC (grid0.coords t))).val, 0] := tr3 _
theorem index4 (t : Fin grid0.N) : ((cfgA (F := F)).win 4).index t = ![(jL (pC (grid0.coords t))).val, (gC (grid0.coords t)).val] := tr4 _
theorem index5 (t : Fin grid0.N) : ((cfgA (F := F)).win 5).index t = ![(gC (grid0.coords t)).val, 0, (jL (pC (grid0.coords t))).val] := tr5 _
theorem index6 (t : Fin grid0.N) : ((cfgA (F := F)).win 6).index t = ![(gC (grid0.coords t)).val, 0, (jL (pC (grid0.coords t))).val] := tr6 _
theorem index7 (t : Fin grid0.N) : ((cfgA (F := F)).win 7).index t = ![(gC (grid0.coords t)).val, 0, 0] := tr7 _
theorem index8 (t : Fin grid0.N) : ((cfgA (F := F)).win 8).index t = ![(gC (grid0.coords t)).val, (iL (pC (grid0.coords t))).val, 0] := tr8 _
theorem index9 (t : Fin grid0.N) : ((cfgA (F := F)).win 9).index t = ![(gC (grid0.coords t)).val, (iL (pC (grid0.coords t))).val, 0] := tr9 _

/-- Whether a block that follows `f` is written back after point `t`. -/
theorem flush_of (w : Fin 10) (hw : ((cfgA (F := F)).win w).isOut = true) (f : Fin grid0.N → Fin (spec0 w).shape.rank → ℕ) (hf : ∀ t, ((cfgA (F := F)).win w).index t = f t) (t : Fin grid0.N) :
    ((cfgA (F := F)).win w).flush t = (decide (t.val + 1 = grid0.N) || decide (∃ h : t.val + 1 < grid0.N, f ⟨t.val + 1, h⟩ ≠ f t)) := by
  unfold Pipeline.Window.flush
  rw [hw, Bool.true_and]
  simp only [hf]

theorem sched7 : ∀ t : Fin grid0.N, (decide (t.val + 1 = grid0.N) || decide (∃ h : t.val + 1 < grid0.N, (![(gC (grid0.coords ⟨t.val + 1, h⟩)).val, 0, 0] : Fin 3 → ℕ) ≠ ![(gC (grid0.coords t)).val, 0, 0]))
    = decide (t.val % 36 = 35) := by decide +kernel
theorem sched8 : ∀ t : Fin grid0.N, (decide (t.val + 1 = grid0.N) || decide (∃ h : t.val + 1 < grid0.N, (![(gC (grid0.coords ⟨t.val + 1, h⟩)).val, (iL (pC (grid0.coords ⟨t.val + 1, h⟩))).val, 0] : Fin 3 → ℕ) ≠ ![(gC (grid0.coords t)).val, (iL (pC (grid0.coords t))).val, 0]))
    = decide (jL (pC (grid0.coords t)) = 7) := by decide +kernel

theorem flush7 (t : Fin grid0.N) : ((cfgA (F := F)).win 7).flush t = decide (t.val % 36 = 35) :=
  (flush_of (F := F) 7 rfl _ index7 t).trans (sched7 t)
theorem flush8 (t : Fin grid0.N) : ((cfgA (F := F)).win 8).flush t = decide (jL (pC (grid0.coords t)) = 7) :=
  (flush_of (F := F) 8 rfl _ index8 t).trans (sched8 t)
theorem flush9 (t : Fin grid0.N) : ((cfgA (F := F)).win 9).flush t = decide (jL (pC (grid0.coords t)) = 7) :=
  (flush_of (F := F) 9 rfl _ index9 t).trans (sched8 t)

theorem idle8 (g : grid0.Coords) : (cfgA (F := F)).idle 8 g = !decide (jL (pC g) = 7) := by
  show (!(k0_cond5 ((tab (F := F)).atD 1 (k0_off1 g)) == 1#1)) = _
  rw [tab1_atD]
  exact congrArg _ (decide_eq_decide.mpr (cond5_iff (jL (pC g))))
theorem idle9 (g : grid0.Coords) : (cfgA (F := F)).idle 9 g = !decide (jL (pC g) = 7) := idle8 (F := F) g

theorem le_tab : ∀ p : Fin 36, iL p ≤ jL p := by decide
theorem idle7 (g : grid0.Coords) : (cfgA (F := F)).idle 7 g = false := by
  show (!(k0_cond1 g == 1#1) && !(k0_cond3 ((tab (F := F)).atD 0 (k0_off1 g)) ((tab (F := F)).atD 1 (k0_off1 g)) == 1#1) && !(k0_cond4 ((tab (F := F)).atD 0 (k0_off1 g)) ((tab (F := F)).atD 1 (k0_off1 g)) == 1#1)) = false
  rw [tab0_atD, tab1_atD]
  rcases lt_or_eq_of_le (le_tab (pC g)) with h | h
  · rw [(cond3_iff _ _).mpr h]; simp
  · rw [(cond4_iff _ _).mpr h]; simp

end Cert.KernelIdeal.Attn
end
-- ==== Proof.Data.lean ====
module

public import proofs.«01_k».proof.Proof.Sched
public import Idealize.ShloMosaic.Lib.Pipeline.Frame

@[expose] public section

set_option maxRecDepth 65536

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F] [Named F]

variable (V : (c : Dev nD) → (b : Ref sig .tc) → Buf (Elt F) ((c : Thread nD τ).loc b))

/-- The windows' arrays at the call, of the buffers' contents `V` there. -/
def arrs (c : Dev nD) : (w : Fin (cfgA (F := F)).W) → Buf (Elt F) (((cfgA (F := F)).win w).arr.view.loc (c.tc : Thread nD τ)) :=
  fun w => V c (Pipeline.arrRef (cfgA (F := F)).spec w)

/-- What the body reads at point `n`. -/
def inp (c : Dev nD) (n : ℕ) (h : n < grid0.N) : Inp F where
  q := Pipeline.heldIn (cfgA (F := F)) (arrs V c) 0 n h
  k := Pipeline.heldIn (cfgA (F := F)) (arrs V c) 1 n h
  kt := Pipeline.heldIn (cfgA (F := F)) (arrs V c) 2 n h
  v := Pipeline.heldIn (cfgA (F := F)) (arrs V c) 3 n h
  d := Pipeline.heldIn (cfgA (F := F)) (arrs V c) 4 n h
  l := Pipeline.heldIn (cfgA (F := F)) (arrs V c) 5 n h
  e := Pipeline.heldIn (cfgA (F := F)) (arrs V c) 6 n h

/-- The accumulators before point `n`. -/
def acc (c : Dev nD) : ℕ → Acc F
  | 0 => ⟨k0_pay1, k0_pay2, k0_pay3⟩
  | n + 1 => if h : n < grid0.N then
      bodyF (decide (n % 36 = 0)) (iL (pC (grid0.coords ⟨n, h⟩))) (jL (pC (grid0.coords ⟨n, h⟩))) (inp V c n h) (acc c n)
    else acc c n

theorem acc_succ (c : Dev nD) (t : Fin grid0.N) : acc V c (t.val + 1)
    = bodyF (k0_cond1 (grid0.coords t) == 1#1) (iL (pC (grid0.coords t))) (jL (pC (grid0.coords t))) (inp V c t.val t.isLt) (acc V c t.val) := by
  rw [cond1_val]
  exact dif_pos t.isLt

/-- A head group's first point takes nothing from the accumulators. -/
theorem bodyF_reset (i j : Fin 8) (h : i = j) (I : Inp F) (A B : Acc F) : bodyF true i j I A = bodyF true i j I B := by
  unfold bodyF; simp only [if_pos h, if_true]

/-- The call's data. -/
def dat0 (c : Dev nD) : Pipeline.Dat τ (Elt F) Unit ℕ (UR sig nD τ) ℕ (cfgA (F := F)) c where
  A := arrs V c
  after := fun
    | 0 => fun t => Pipeline.heldIn (cfgA (F := F)) (arrs V c) 0 t.val t.isLt
    | 1 => fun t => Pipeline.heldIn (cfgA (F := F)) (arrs V c) 1 t.val t.isLt
    | 2 => fun t => Pipeline.heldIn (cfgA (F := F)) (arrs V c) 2 t.val t.isLt
    | 3 => fun t => Pipeline.heldIn (cfgA (F := F)) (arrs V c) 3 t.val t.isLt
    | 4 => fun t => Pipeline.heldIn (cfgA (F := F)) (arrs V c) 4 t.val t.isLt
    | 5 => fun t => Pipeline.heldIn (cfgA (F := F)) (arrs V c) 5 t.val t.isLt
    | 6 => fun t => Pipeline.heldIn (cfgA (F := F)) (arrs V c) 6 t.val t.isLt
    | 7 => fun t => (acc V c (t.val + 1)).t
    | 8 => fun t => k0_pay4 (acc V c (t.val + 1)).k
    | 9 => fun t => (acc V c (t.val + 1)).v
    | ⟨_ + 10, h⟩ => absurd h (Nat.not_lt.2 (Nat.le_add_left _ _))
  Φ := fun t => iprop(∃ X Y : Vec F S2x1024x128 .f32, ⌜t.val ≠ 0 → X = (acc V c t.val).k ∧ Y = (acc V c t.val).v⌝
    ∗ owns (c : Thread nD τ) (Memref.whole cc0_scratch0) fullShare X ∗ owns (c : Thread nD τ) (Memref.whole cc0_scratch1) fullShare Y
    ∗ (∃ r, prngReg c r) ∗ Pipeline.ΦT pre0 (tab (F := F)) c)
  q := fun _ => fullShare
  owed := fun _ => 0

theorem before_in (c : Dev nD) (w : Fin (cfgA (F := F)).W) (hw : ((cfgA (F := F)).win w).isOut = false) (hl : ∀ i, (cfgA (F := F)).idle w i = false)
    (ha : ∀ t, (dat0 V c).after w t = Pipeline.heldIn (cfgA (F := F)) (arrs V c) w t.val t.isLt) (t : Fin (cfgA (F := F)).N) (d) :
    (dat0 V c).before w t d = Pipeline.heldIn (cfgA (F := F)) (arrs V c) w t.val t.isLt :=
  Pipeline.Dat.before_eq_heldIn (dat0 V c) w hw hl (fun _ _ => rfl) ha t d

theorem before7 (c : Dev nD) (t : Fin grid0.N) (ht : t.val % 36 ≠ 0) (d) : (dat0 V c).before 7 t d = (acc V c t.val).t := by
  have hf : ((cfgA (F := F)).win 7).fetch t = false := Pipeline.Window.fetch_out _ rfl _
  have h0 : t.val ≠ 0 := fun h => ht (by rw [h])
  rw [Pipeline.Dat.before_of_pos (dat0 V c) 7 t h0 hf d, flush7, decide_eq_false (by show ¬ (t.val - 1) % 36 = 35; omega), if_neg Bool.false_ne_true]
  unfold Pipeline.Dat.left
  rw [idle7]
  show (dat0 V c).kept 7 _ d = _
  unfold Pipeline.Dat.kept
  rw [Pipeline.fill_of_clip_none 7 _ (fun _ => rfl) d ((dat0 V c).after 7 _), Pipeline.Window.fill_cut]
  show (acc V c (t.val - 1 + 1)).t = _
  rw [Nat.sub_add_cancel (Nat.one_le_iff_ne_zero.mpr h0)]

theorem tab_zero : iL 0 = jL 0 := by decide

/-- What the body makes of what it finds at a point. -/
theorem acc_found (c : Dev nD) (t : Fin grid0.N) (T : Vec F S2x128x8192 .f32) (X Y : Vec F S2x1024x128 .f32)
    (hT : t.val % 36 ≠ 0 → T = (acc V c t.val).t) (hX : t.val ≠ 0 → X = (acc V c t.val).k ∧ Y = (acc V c t.val).v) :
    bodyF (k0_cond1 (grid0.coords t) == 1#1) (iL (pC (grid0.coords t))) (jL (pC (grid0.coords t))) (inp V c t.val t.isLt) ⟨T, X, Y⟩ = acc V c (t.val + 1) := by
  rw [acc_succ]
  by_cases hz : t.val % 36 = 0
  · rw [cond1_val, decide_eq_true hz]
    have hp : pC (grid0.coords t) = 0 := Fin.ext ((pC_val t).trans hz)
    have he : iL (pC (grid0.coords t)) = jL (pC (grid0.coords t)) := by rw [hp]; exact tab_zero
    generalize iL (pC (grid0.coords t)) = a at he ⊢
    generalize jL (pC (grid0.coords t)) = b at he ⊢
    generalize inp V c t.val t.isLt = I
    exact bodyF_reset a b he I _ _
  · obtain ⟨h1, h2⟩ := hX (fun h => hz (by rw [h]))
    rw [hT hz, h1, h2]

theorem Φ_eq (c : Dev nD) (t : Fin ((cfgA (F := F)).N + 1)) : (dat0 V c).Φ t = iprop(∃ X Y : Vec F S2x1024x128 .f32, ⌜t.val ≠ 0 → X = (acc V c t.val).k ∧ Y = (acc V c t.val).v⌝
    ∗ owns (c : Thread nD τ) (Memref.whole cc0_scratch0) fullShare X ∗ owns (c : Thread nD τ) (Memref.whole cc0_scratch1) fullShare Y
    ∗ (∃ r, prngReg c r) ∗ Pipeline.ΦT pre0 (tab (F := F)) c) := rfl

/-- The window's buffer after the body: `after` where it is written back, else as found. -/
theorem leave_of (c : Dev nD) (w : Fin (cfgA (F := F)).W) (t : Fin (cfgA (F := F)).N) (p : Prop) [Decidable p] (hi : (cfgA (F := F)).idle w ((cfgA (F := F)).grid.coords t) = !decide p)
    (hf : ((cfgA (F := F)).win w).flush t = decide p) (d) :
    owns (c : Thread nD τ) (((cfgA (F := F)).win w).stage ((cfgA (F := F)).slots t w)) fullShare (if p then (dat0 V c).after w t else (dat0 V c).before w t d) ⊢ (dat0 V c).leavesExact w t := by
  unfold Pipeline.Dat.leavesExact
  rw [hi, hf]
  by_cases h : p
  · simp only [h, if_true, decide_true, Bool.not_true]; exact .rfl
  · simp only [h, if_false, decide_false, Bool.not_false]; iintro H; iexists d; iexact H

theorem leave_live (c : Dev nD) (w : Fin (cfgA (F := F)).W) (t : Fin (cfgA (F := F)).N) (hi : (cfgA (F := F)).idle w ((cfgA (F := F)).grid.coords t) = false) :
    owns (c : Thread nD τ) (((cfgA (F := F)).win w).stage ((cfgA (F := F)).slots t w)) fullShare ((dat0 V c).after w t) ⊢ (dat0 V c).leavesExact w t := by
  unfold Pipeline.Dat.leavesExact
  rw [hi]

set_option maxHeartbeats 1000000 in
theorem body_obligation (c : Dev nD) : Pipeline.BodyObligation (dat0 V c) (defs₀ (F := F)) Variants.none () Set.univ := by
  intro t
  have hb := fun q I A Y Z => body_spec (defs := defs₀ (F := F)) Variants.none c none Set.univ (grid0.coords t) _ (hstage0_0 (((cfgA (F := F)).slots t 0).cast nbuf0_0)) _ (hstage0_1 (((cfgA (F := F)).slots t 1).cast nbuf0_1)) _ (hstage0_2 (((cfgA (F := F)).slots t 2).cast nbuf0_2)) _ (hstage0_3 (((cfgA (F := F)).slots t 3).cast nbuf0_3)) _ (hstage0_4 (((cfgA (F := F)).slots t 4).cast nbuf0_4)) _ (hstage0_5 (((cfgA (F := F)).slots t 5).cast nbuf0_5)) _ (hstage0_6 (((cfgA (F := F)).slots t 6).cast nbuf0_6)) _ (hstage0_7 (((cfgA (F := F)).slots t 7).cast nbuf0_7)) _ (hstage0_8 (((cfgA (F := F)).slots t 8).cast nbuf0_8)) _ (hstage0_9 (((cfgA (F := F)).slots t 9).cast nbuf0_9)) (Memref.whole cc0_scratch0) (Memref.isWhole_whole _) (Memref.whole cc0_scratch1) (Memref.isWhole_whole _) q I A Y Z
  unfold held at hb
  rw [bigSep_W0, bigSep_W0, Φ_eq, Φ_eq]
  iintro ⟨⟨%X, %Y, %hX, HX, HY, HP, HT⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  simp only [Fin.val_castSucc] at hX
  have hA := acc_found V c t ((dat0 V c).before 7 t d7) X Y (fun h => before7 V c t h d7) hX
  have e0 := before_in V c 0 rfl (fun _ => rfl) (fun _ => rfl) t d0
  have e1 := before_in V c 1 rfl (fun _ => rfl) (fun _ => rfl) t d1
  have e2 := before_in V c 2 rfl (fun _ => rfl) (fun _ => rfl) t d2
  have e3 := before_in V c 3 rfl (fun _ => rfl) (fun _ => rfl) t d3
  have e4 := before_in V c 4 rfl (fun _ => rfl) (fun _ => rfl) t d4
  have e5 := before_in V c 5 rfl (fun _ => rfl) (fun _ => rfl) t d5
  have e6 := before_in V c 6 rfl (fun _ => rfl) (fun _ => rfl) t d6
  rw [e0, e1, e2, e3, e4, e5, e6]
  iapply (wp_wand_r _ _)
  isplitl [HX HY HT H0 H1 H2 H3 H4 H5 H6 H7 H8 H9]
  · iapply (hb fullShare.right (inp V c t.val t.isLt) ⟨(dat0 V c).before 7 t d7, X, Y⟩ ((dat0 V c).before 8 t d8) ((dat0 V c).before 9 t d9))
    isplitl [HT]; · iexact HT
    isplitr [H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HX]; · iexact HX
      iexact HY
    · isplitl [H8]; · iexact H8
      iexact H9
  · rw [hA]
    simp only [Fin.val_succ]
    iintro %_ ⟨HT, ⟨H0, H1, H2, H3, H4, H5, H6, H7, HX, HY⟩, H8, H9⟩
    isplitl [HX HY HP HT]
    · iexists (acc V c (t.val + 1)).k, (acc V c (t.val + 1)).v
      isplitr
      · ipureintro; exact fun _ => ⟨rfl, rfl⟩
      isplitl [HX]; · iexact HX
      isplitl [HY]; · iexact HY
      isplitl [HP]; · iexact HP
      iexact HT
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leave_live V c 7 t (idle7 _)); iexact H7
    isplitl [H8]; · iapply (leave_of V c 8 t _ (idle8 _) (flush8 t) d8); iexact H8
    iapply (leave_of V c 9 t _ (idle9 _) (flush9 t) d9); iexact H9

end Cert.KernelIdeal.Attn
end
-- ==== Proof.Run.lean ====
module

public import proofs.«01_k».proof.Proof.Data
public import Idealize.ShloMosaic.Lib.StableHlo.RunRead

@[expose] public section

set_option maxRecDepth 65536

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F] [Named F]

/-- The host's operations before the call, by stretches. -/
abbrev opss : List (List (HloOp τ sig (Elt F))) := [hostOps0, hostOps0_1, hostOps0_2]

variable (m : (ℓ : Loc nD τ sig) → Buf (Elt F) ℓ)

/-- The buffers' contents at the call. -/
abbrev entry (c : Dev nD) (b : Ref sig .tc) : Buf (Elt F) ((c : Thread nD τ).loc b) :=
  StableHlo.after (opss (F := F)).flatten (fun b => m (c, b)) b

theorem entry_tab (c : Dev nD) (k : Fin 2) : entry m c (pre0.ref k) = tab (F := F) k := by
  match k with
  | 0 =>
    show StableHlo.after (opss (F := F)).flatten (fun b => m (c, b)) (Proc.devRef .tc main_c) = _
    after_reads_simp
    rfl
  | 1 =>
    show StableHlo.after (opss (F := F)).flatten (fun b => m (c, b)) (Proc.devRef .tc main_c_0) = _
    after_reads_simp
    rfl

theorem entry_arg0 (c : Dev nD) : entry m c main_arg0 = m ((c.tc : Thread nD τ).loc main_arg0) := by
  show StableHlo.after (opss (F := F)).flatten (fun b => m (c, b)) (Proc.devRef .tc main_arg0) = _
  after_reads_simp
theorem entry_arg1 (c : Dev nD) : entry m c main_arg1 = m ((c.tc : Thread nD τ).loc main_arg1) := by
  show StableHlo.after (opss (F := F)).flatten (fun b => m (c, b)) (Proc.devRef .tc main_arg1) = _
  after_reads_simp
theorem entry_arg2 (c : Dev nD) : entry m c main_arg2 = m ((c.tc : Thread nD τ).loc main_arg2) := by
  show StableHlo.after (opss (F := F)).flatten (fun b => m (c, b)) (Proc.devRef .tc main_arg2) = _
  after_reads_simp
theorem entry_arg3 (c : Dev nD) : entry m c main_arg3 = m ((c.tc : Thread nD τ).loc main_arg3) := by
  show StableHlo.after (opss (F := F)).flatten (fun b => m (c, b)) (Proc.devRef .tc main_arg3) = _
  after_reads_simp

abbrev dats : (p : Fin 1) → (c : Dev nD) → Pipeline.Dat τ (Elt F) Unit ℕ (UR sig nD τ) ℕ (Pipeline.pin (pcfgs (F := F)) (fun p => adm p) p) c := fun _ c => dat0 (entry m) c

theorem share_full (V : (c : Dev nD) → (b : Ref sig .tc) → Buf (Elt F) ((c : Thread nD τ).loc b)) (c : Dev nD) (w) : (dat0 V c).share w = fullShare := by
  unfold Pipeline.Dat.share; split <;> rfl

theorem start_inv (c : Dev nD) : iprop(Pipeline.ΦA spec0 c ∗ Pipeline.ΦT pre0 (tab (F := F)) c) ⊢ (dat0 (entry m) c).Φ 0 := by
  rw [Φ_eq]
  unfold Pipeline.ΦA
  rw [scopedRest0_eq]
  iintro ⟨⟨⟨⟨%X, HX⟩, ⟨%Y, HY⟩⟩, HP⟩, HT⟩
  iexists X, Y
  isplitr
  · ipureintro; exact fun h => absurd rfl h
  rw [owns_whole, owns_whole]
  isplitl [HX]; · iexact HX
  isplitl [HY]; · iexact HY
  isplitl [HP]; · iexact HP
  iexact HT

theorem end_inv (c : Dev nD) : (dat0 (entry m) c).Φ (Fin.last _) ⊢ Pipeline.ΦA spec0 c := by
  rw [Φ_eq]
  unfold Pipeline.ΦA
  rw [scopedRest0_eq]
  simp only [owns_whole]
  iintro ⟨%X, %Y, -, HX, HY, HP, -⟩
  isplitr [HP]
  · isplitl [HX]
    · iexists X; iexact HX
    · iexists Y; iexact HY
  iexact HP

set_option backward.isDefEq.respectTransparency.types false in
/-- The whole run: every window's array ends at what the pipeline leaves, every other buffer unchanged. -/
theorem run (ρ : Dev nD → PrngReg) :
    θ_run (defs (F := F)) (onTc (τ := τ) (main (F := F))) ⟨m, fun _ => 0, ρ⟩ (fun r => Pipeline.FramePost (Pipeline.pin (pcfgs (F := F)) (fun p => adm p)) (dats m) 0 (entry m) r ∧ r.2.sem = fun _ => 0) :=
  Pipeline.θ_run_frameP_track pcfgs (fun p => adm p) (dats m) (0 : Fin 1) launch0 defs₀ Variants.none m ρ main
    (hbody := fun c => (body_obligation (entry m) c).loose) (hshare := fun c w => share_full (entry m) c w)
    (howed := fun _ _ => rfl) (V := entry m)
    (hmain := Pipeline.hmainP_prefixes pcfgs 0 defs₀ Variants.none m main opss ⟨hostOps0_sub, hostOps0_1_sub, hostOps0_2_sub⟩
      ⟨by simp only [List.Forall]; repeat' constructor, by simp only [List.Forall]; repeat' constructor, by simp only [List.Forall]; repeat' constructor⟩ main_chain)
    (hA := fun _ _ => rfl) (hpf := fun c k => entry_tab m c k)
    (hin := start_inv m) (hout := end_inv m) _ (fun _ h => h)

theorem rest0 : main_arg0 ∈ Pipeline.restRefs sig spec0 := by decide
theorem rest1 : main_arg1 ∈ Pipeline.restRefs sig spec0 := by decide
theorem rest2 : main_arg2 ∈ Pipeline.restRefs sig spec0 := by decide

/-- A buffer that no window and no host operation writes ends as it began. -/
theorem run_frame (ρ : Dev nD → PrngReg) :
    θ_run (defs (F := F)) (onTc (τ := τ) (main (F := F))) ⟨m, fun _ => 0, ρ⟩ (fun r => (∀ c : Dev nD,
      (r.2.mem ((c.tc : Thread nD τ).loc main_v38_0) = (dat0 (entry m) c).arrAt 7 (cfgA (F := F)).N
      ∧ r.2.mem ((c.tc : Thread nD τ).loc main_v38_1) = (dat0 (entry m) c).arrAt 8 (cfgA (F := F)).N
      ∧ r.2.mem ((c.tc : Thread nD τ).loc main_v38_2) = (dat0 (entry m) c).arrAt 9 (cfgA (F := F)).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run (defs (F := F)) _ _).mono (fun r h => ⟨fun c => ?_, h.2⟩) (run m ρ)
  obtain ⟨ha, hb⟩ := h.1 c
  refine ⟨⟨ha 7, ha 8, ha 9⟩, ?_, ?_, ?_, ?_⟩
  · exact (hb main_arg0 rest0).trans (entry_arg0 m c)
  · exact (hb main_arg1 rest1).trans (entry_arg1 m c)
  · exact (hb main_arg2 rest2).trans (entry_arg2 m c)
  · exact ((ha 4).trans ((dat0 (entry m) c).arrAt_in 4 rfl _)).trans (entry_arg3 m c)

end Cert.KernelIdeal.Attn
end
-- ==== Proof.BitsRun.lean ====
module

public import proofs.«01_k».proof.Proof.Gen.Kernel
public import proofs.«01_k».proof.Proof.Run
public import proofs.«01_k».proof.Defs

/-! The kernel's runs over words, from the idealized kernel's: its named constant read as the word it was printed from,
    the idealized kernel is the kernel. -/

@[expose] public section

set_option maxRecDepth 65536
set_option maxHeartbeats 4000000

noncomputable section

namespace Cert.Kernel.Attn

open Idealize.ShloMosaic Idealize.ShloMosaic.TcCoe Idealize.SL.Sem
open Cert.Kernel.Gen

/-- The named constants read as the words they stand for. -/
@[reducible] def words : Named Bits := ⟨fun _ _ {φ} b => Scalar.ofBits φ b⟩

theorem body_eq : @Cert.KernelIdeal.cc0_attn_bwd Bits _ words inferInstance = @Cert.Kernel.cc0_attn_bwd Bits _ inferInstance := by
  unfold Cert.KernelIdeal.cc0_attn_bwd Cert.Kernel.cc0_attn_bwd
  rfl

theorem tc_eq (l : Cert.Kernel.Λ₀.Label) (a : Cert.Kernel.Λ₀.Args l) :
    @Cert.KernelIdeal.defs₀ Bits _ words inferInstance .tc l a = @Cert.Kernel.defs₀ Bits _ inferInstance .tc l a := by
  match l, a with
  | 0, (t, s) =>
    unfold Cert.KernelIdeal.defs₀ Cert.Kernel.defs₀
    dsimp only [Defs.onTc]
    rw [body_eq]
    rfl
  | ⟨n + 1, h⟩, _ => exact absurd h (Nat.not_lt.2 (Nat.le_add_left _ _))

theorem defs0_eq : @Cert.KernelIdeal.defs₀ Bits _ words inferInstance = @Cert.Kernel.defs₀ Bits _ inferInstance := by
  funext p
  match p with
  | .tc => funext l a; exact tc_eq l a
  | .scScalar _ => rfl
  | .scVector _ _ => rfl

theorem defs_eq : @Cert.KernelIdeal.defs Bits _ words inferInstance = Cert.Kernel.defs (F := Bits) := by
  unfold Cert.KernelIdeal.defs Cert.Kernel.defs
  rw [← defs0_eq]
  rfl

theorem main_eq : @Cert.KernelIdeal.main Bits _ words inferInstance = Cert.Kernel.main (F := Bits) := by
  unfold Cert.KernelIdeal.main Cert.Kernel.main
  rfl

/-- Equal tables and programs have the same runs. -/
theorem transfer {Λ : Labels} {D D' : Defs nD τ sig (Elt Bits) Λ} {P P' : Dev nD → Prog (TpuEff nD τ sig (Elt Bits) Λ .tc) PUnit}
    (hD : D = D') (hP : P = P') {s} {Q} (h : θ_run D (onTc (τ := τ) P) s Q) : θ_run D' (onTc (τ := τ) P') s Q := by
  subst hD hP
  exact h

/-- A buffer that no window and no host operation writes ends as it began. -/
theorem run_frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine transfer defs_eq main_eq ?_
  exact (θ_run (@Cert.KernelIdeal.defs Bits _ words inferInstance) _ _).mono (fun _ h => ⟨fun c => (h.1 c).2, h.2⟩)
    (@Cert.KernelIdeal.Attn.run_frame Bits _ words m ρ)

end Cert.Kernel.Attn
end
-- ==== Proof.Ref.lean ====
module

public import proofs.«01_k».proof.Proof.Gen.ReferenceIdeal
public import Idealize.ShloMosaic.Lib.StableHlo.RunRead
public import Idealize.ShloMosaic.Lib.Quiescent

@[expose] public section

set_option maxRecDepth 16384

noncomputable section

namespace Cert.ReferenceIdeal.Plain

open Idealize.ShloMosaic Idealize.ShloMosaic.TcCoe Idealize.SL.Sem
open Cert.ReferenceIdeal Cert.ReferenceIdeal.Gen

variable {F : FTy → Type} [FloatOps F]

/-- The reference's operations in order, the two masking functions written in place: through the softmax's denominators … -/
abbrev opsA : List (HloOp τ sig (Elt F)) :=
  [ StableHlo.binary main_arg0 main_arg1 main_v0 ((fun l r => Host.dotGeneral dot_S4x8192x128_S4x8192x128_S4x8192x8192_2_2_1_1_0_0 none l r) : (⟨S4x8192x128, .f32⟩ : BufTy).Contents (Elt F) → (⟨S4x8192x128, .f32⟩ : BufTy).Contents (Elt F) → (⟨S4x8192x8192, .f32⟩ : BufTy).Contents (Elt F)),
    StableHlo.nullary main_v1 (iotaInDim S8192 32 0),
    StableHlo.nullary main_v2 (iotaInDim S8192 32 0),
    StableHlo.unary main_v1 main_v3 (broadcastInDim S1x8192 ![1] bcast_S8192_S1x8192_1 : (⟨S8192, .i32⟩ : BufTy).Contents (Elt F) → (⟨S1x8192, .i32⟩ : BufTy).Contents (Elt F)),
    StableHlo.unary main_v2 main_v4 (broadcastInDim S8192x1 ![0] bcast_S8192_S8192x1_0 : (⟨S8192, .i32⟩ : BufTy).Contents (Elt F) → (⟨S8192x1, .i32⟩ : BufTy).Contents (Elt F)),
    StableHlo.unary main_v3 main_v5 (broadcastInDim S8192x8192 ![0, 1] bcast_S1x8192_S8192x8192_0_1 : (⟨S1x8192, .i32⟩ : BufTy).Contents (Elt F) → (⟨S8192x8192, .i32⟩ : BufTy).Contents (Elt F)),
    StableHlo.unary main_v4 main_v6 (broadcastInDim S8192x8192 ![0, 1] bcast_S8192x1_S8192x8192_0_1 : (⟨S8192x1, .i32⟩ : BufTy).Contents (Elt F) → (⟨S8192x8192, .i32⟩ : BufTy).Contents (Elt F)),
    StableHlo.binary main_v5 main_v6 main_v7 (cmpi .sle : (⟨S8192x8192, .i32⟩ : BufTy).Contents (Elt F) → (⟨S8192x8192, .i32⟩ : BufTy).Contents (Elt F) → (⟨S8192x8192, .i1⟩ : BufTy).Contents (Elt F)),
    StableHlo.unary main_v7 main_v8 (broadcastInDim S1x8192x8192 ![1, 2] bcast_S8192x8192_S1x8192x8192_1_2 : (⟨S8192x8192, .i1⟩ : BufTy).Contents (Elt F) → (⟨S1x8192x8192, .i1⟩ : BufTy).Contents (Elt F)),
    StableHlo.nullary main_cst (constant S_ .f32 0xFF800000#32),
    StableHlo.TRef.unary (.of main_cst : StableHlo.TRef sig ⟨S_, .f32⟩) (.of main_call0_v0 : StableHlo.TRef sig ⟨S_, .f32⟩) id,
    StableHlo.TRef.unary (.of main_v8 : StableHlo.TRef sig ⟨S1x8192x8192, .i1⟩) (.of main_v9_1 : StableHlo.TRef sig ⟨S4x8192x8192, .i1⟩) (broadcastInDim S4x8192x8192 ![0, 1, 2] bcast_S1x8192x8192_S4x8192x8192_0_1_2),
    StableHlo.TRef.unary (.of main_call0_v0 : StableHlo.TRef sig ⟨S_, .f32⟩) (.of main_call0_v2 : StableHlo.TRef sig ⟨S4x8192x8192, .f32⟩) (broadcastInDim S4x8192x8192 ![] bcast_S_S4x8192x8192),
    StableHlo.TRef.ternary (.of main_v9_1 : StableHlo.TRef sig ⟨S4x8192x8192, .i1⟩) (.of main_v0 : StableHlo.TRef sig ⟨S4x8192x8192, .f32⟩) (.of main_call0_v2 : StableHlo.TRef sig ⟨S4x8192x8192, .f32⟩) (.of main_v9_0 : StableHlo.TRef sig ⟨S4x8192x8192, .f32⟩) select,
    StableHlo.TRef.nullary (.of main_call0_cst : StableHlo.TRef sig ⟨S_, .f32⟩) (constant S_ .f32 0x00000000#32),
    StableHlo.TRef.unary (.of main_call0_cst : StableHlo.TRef sig ⟨S_, .f32⟩) (.of main_v9_2 : StableHlo.TRef sig ⟨S4x8192x8192, .f32⟩) (broadcastInDim S4x8192x8192 ![] bcast_S_S4x8192x8192),
    StableHlo.nullary main_cst_0 (constant S_ .f32 0xFF800000#32),
    StableHlo.binary main_v9_0 main_cst_0 main_v10 ((fun x v => Host.reduce FloatOps.maximumf x v reducesTo_S4x8192x8192_S4x8192_d2 h_S_) : (⟨S4x8192x8192, .f32⟩ : BufTy).Contents (Elt F) → (⟨S_, .f32⟩ : BufTy).Contents (Elt F) → (⟨S4x8192, .f32⟩ : BufTy).Contents (Elt F)),
    StableHlo.reshape main_v10 main_v11 (rfl : (.f32 : EltTy) = .f32) shapeCasts_S4x8192_S4x8192x1,
    StableHlo.unary main_v11 main_v12 (broadcastInDim S4x8192x8192 ![0, 1, 2] bcast_S4x8192x1_S4x8192x8192_0_1_2 : (⟨S4x8192x1, .f32⟩ : BufTy).Contents (Elt F) → (⟨S4x8192x8192, .f32⟩ : BufTy).Contents (Elt F)),
    StableHlo.binary main_v9_0 main_v12 main_v13 (cmpf .oeq : (⟨S4x8192x8192, .f32⟩ : BufTy).Contents (Elt F) → (⟨S4x8192x8192, .f32⟩ : BufTy).Contents (Elt F) → (⟨S4x8192x8192, .i1⟩ : BufTy).Contents (Elt F)),
    StableHlo.unary main_v13 main_v14 (uitofp .f32 : (⟨S4x8192x8192, .i1⟩ : BufTy).Contents (Elt F) → (⟨S4x8192x8192, .f32⟩ : BufTy).Contents (Elt F)),
    StableHlo.nullary main_cst_1 (constant S_ .f32 0x00000000#32),
    StableHlo.binary main_v14 main_cst_1 main_v15 ((fun x v => Host.reduceAdd x v reducesTo_S4x8192x8192_S4x8192_d2 h_S_) : (⟨S4x8192x8192, .f32⟩ : BufTy).Contents (Elt F) → (⟨S_, .f32⟩ : BufTy).Contents (Elt F) → (⟨S4x8192, .f32⟩ : BufTy).Contents (Elt F)),
    StableHlo.nullary main_cst_2 (constant S_ .f32 0xFF800000#32),
    StableHlo.unary main_cst_2 main_v16 (broadcastInDim S4x8192 ![] bcast_S_S4x8192 : (⟨S_, .f32⟩ : BufTy).Contents (Elt F) → (⟨S4x8192, .f32⟩ : BufTy).Contents (Elt F)),
    StableHlo.binary main_v16 main_v10 main_v17 (maximumf : (⟨S4x8192, .f32⟩ : BufTy).Contents (Elt F) → (⟨S4x8192, .f32⟩ : BufTy).Contents (Elt F) → (⟨S4x8192, .f32⟩ : BufTy).Contents (Elt F)),
    StableHlo.nullary main_cst_3 (constant S_ .f32 0xFF800000#32),
    StableHlo.unary main_cst_3 main_v18 (broadcastInDim S4x8192 ![] bcast_S_S4x8192 : (⟨S_, .f32⟩ : BufTy).Contents (Elt F) → (⟨S4x8192, .f32⟩ : BufTy).Contents (Elt F)),
    StableHlo.binary main_v10 main_v18 main_v19 (cmpf .ogt : (⟨S4x8192, .f32⟩ : BufTy).Contents (Elt F) → (⟨S4x8192, .f32⟩ : BufTy).Contents (Elt F) → (⟨S4x8192, .i1⟩ : BufTy).Contents (Elt F)),
    StableHlo.nullary main_cst_4 (constant S_ .f32 0xFF800000#32),
    StableHlo.unary main_cst_4 main_v20 (broadcastInDim S4x8192 ![] bcast_S_S4x8192 : (⟨S_, .f32⟩ : BufTy).Contents (Elt F) → (⟨S4x8192, .f32⟩ : BufTy).Contents (Elt F)),
    StableHlo.binary main_v10 main_v20 main_v21 (cmpf .oeq : (⟨S4x8192, .f32⟩ : BufTy).Contents (Elt F) → (⟨S4x8192, .f32⟩ : BufTy).Contents (Elt F) → (⟨S4x8192, .i1⟩ : BufTy).Contents (Elt F)),
    StableHlo.nullary main_cst_5 (constant S_ .f32 0x3F800000#32),
    StableHlo.unary main_cst_5 main_v22 (broadcastInDim S4x8192 ![] bcast_S_S4x8192 : (⟨S_, .f32⟩ : BufTy).Contents (Elt F) → (⟨S4x8192, .f32⟩ : BufTy).Contents (Elt F)),
    StableHlo.nullary main_cst_6 (constant S_ .f32 0x00000000#32),
    StableHlo.unary main_cst_6 main_v23 (broadcastInDim S4x8192 ![] bcast_S_S4x8192 : (⟨S_, .f32⟩ : BufTy).Contents (Elt F) → (⟨S4x8192, .f32⟩ : BufTy).Contents (Elt F)),
    StableHlo.nullary main_cst_7 (constant S_ .f32 0x3F000000#32),
    StableHlo.unary main_cst_7 main_v24 (broadcastInDim S4x8192 ![] bcast_S_S4x8192 : (⟨S_, .f32⟩ : BufTy).Contents (Elt F) → (⟨S4x8192, .f32⟩ : BufTy).Contents (Elt F)),
    StableHlo.ternary main_v21 main_v24 main_v23 main_v25 (select : (⟨S4x8192, .i1⟩ : BufTy).Contents (Elt F) → (⟨S4x8192, .f32⟩ : BufTy).Contents (Elt F) → (⟨S4x8192, .f32⟩ : BufTy).Contents (Elt F) → (⟨S4x8192, .f32⟩ : BufTy).Contents (Elt F)),
    StableHlo.ternary main_v19 main_v22 main_v25 main_v26 (select : (⟨S4x8192, .i1⟩ : BufTy).Contents (Elt F) → (⟨S4x8192, .f32⟩ : BufTy).Contents (Elt F) → (⟨S4x8192, .f32⟩ : BufTy).Contents (Elt F) → (⟨S4x8192, .f32⟩ : BufTy).Contents (Elt F)),
    StableHlo.unary main_v17 main_v27 (broadcastInDim S4x8192x1 ![0, 1] bcast_S4x8192_S4x8192x1_0_1 : (⟨S4x8192, .f32⟩ : BufTy).Contents (Elt F) → (⟨S4x8192x1, .f32⟩ : BufTy).Contents (Elt F)),
    StableHlo.unary main_v27 main_v28 (broadcastInDim S4x8192x8192 ![0, 1, 2] bcast_S4x8192x1_S4x8192x8192_0_1_2 : (⟨S4x8192x1, .f32⟩ : BufTy).Contents (Elt F) → (⟨S4x8192x8192, .f32⟩ : BufTy).Contents (Elt F)),
    StableHlo.binary main_v9_0 main_v28 main_v29 (subf : (⟨S4x8192x8192, .f32⟩ : BufTy).Contents (Elt F) → (⟨S4x8192x8192, .f32⟩ : BufTy).Contents (Elt F) → (⟨S4x8192x8192, .f32⟩ : BufTy).Contents (Elt F)),
    StableHlo.unary main_v29 main_v30 (Host.exp : (⟨S4x8192x8192, .f32⟩ : BufTy).Contents (Elt F) → (⟨S4x8192x8192, .f32⟩ : BufTy).Contents (Elt F)),
    StableHlo.nullary main_cst_8 (constant S_ .f32 0x00000000#32),
    StableHlo.binary main_v30 main_cst_8 main_v31 ((fun x v => Host.reduceAdd x v reducesTo_S4x8192x8192_S4x8192_d2 h_S_) : (⟨S4x8192x8192, .f32⟩ : BufTy).Contents (Elt F) → (⟨S_, .f32⟩ : BufTy).Contents (Elt F) → (⟨S4x8192, .f32⟩ : BufTy).Contents (Elt F)),
    StableHlo.unary main_v31 main_v32 (broadcastInDim S4x8192x1 ![0, 1] bcast_S4x8192_S4x8192x1_0_1 : (⟨S4x8192, .f32⟩ : BufTy).Contents (Elt F) → (⟨S4x8192x1, .f32⟩ : BufTy).Contents (Elt F)) ]
/-- … and after them. -/
abbrev opsB : List (HloOp τ sig (Elt F)) :=
  [ StableHlo.unary main_v32 main_v33 (broadcastInDim S4x8192x8192 ![0, 1, 2] bcast_S4x8192x1_S4x8192x8192_0_1_2 : (⟨S4x8192x1, .f32⟩ : BufTy).Contents (Elt F) → (⟨S4x8192x8192, .f32⟩ : BufTy).Contents (Elt F)),
    StableHlo.binary main_v30 main_v33 main_v34 (Host.divf : (⟨S4x8192x8192, .f32⟩ : BufTy).Contents (Elt F) → (⟨S4x8192x8192, .f32⟩ : BufTy).Contents (Elt F) → (⟨S4x8192x8192, .f32⟩ : BufTy).Contents (Elt F)),
    StableHlo.binary main_v32 main_v32 main_v35 (mulf : (⟨S4x8192x1, .f32⟩ : BufTy).Contents (Elt F) → (⟨S4x8192x1, .f32⟩ : BufTy).Contents (Elt F) → (⟨S4x8192x1, .f32⟩ : BufTy).Contents (Elt F)),
    StableHlo.nullary main_cst_9 (constant S_ .f32 0x3F800000#32),
    StableHlo.unary main_cst_9 main_v36 (broadcastInDim S4x8192x1 ![] bcast_S_S4x8192x1 : (⟨S_, .f32⟩ : BufTy).Contents (Elt F) → (⟨S4x8192x1, .f32⟩ : BufTy).Contents (Elt F)),
    StableHlo.binary main_v36 main_v35 main_v37 (Host.divf : (⟨S4x8192x1, .f32⟩ : BufTy).Contents (Elt F) → (⟨S4x8192x1, .f32⟩ : BufTy).Contents (Elt F) → (⟨S4x8192x1, .f32⟩ : BufTy).Contents (Elt F)),
    StableHlo.binary main_v34 main_arg2 main_v38 ((fun l r => Host.dotGeneral dot_S4x8192x8192_S4x8192x128_S4x8192x128_2_1_1_2_0_0 none l r) : (⟨S4x8192x8192, .f32⟩ : BufTy).Contents (Elt F) → (⟨S4x8192x128, .f32⟩ : BufTy).Contents (Elt F) → (⟨S4x8192x128, .f32⟩ : BufTy).Contents (Elt F)),
    StableHlo.reshape main_arg3 main_v39 (rfl : (.f32 : EltTy) = .f32) shapeCasts_S8192x512_S8192x4x128,
    StableHlo.unary main_v39 main_v40 ((transpose S4x8192x128 [1, 0, 2] · transposes_S8192x4x128_S4x8192x128_1_0_2) : (⟨S8192x4x128, .f32⟩ : BufTy).Contents (Elt F) → (⟨S4x8192x128, .f32⟩ : BufTy).Contents (Elt F)),
    StableHlo.binary main_v40 main_v34 main_v41 ((fun l r => Host.dotGeneral dot_S4x8192x128_S4x8192x8192_S4x128x8192_1_1_2_2_0_0 none l r) : (⟨S4x8192x128, .f32⟩ : BufTy).Contents (Elt F) → (⟨S4x8192x8192, .f32⟩ : BufTy).Contents (Elt F) → (⟨S4x128x8192, .f32⟩ : BufTy).Contents (Elt F)),
    StableHlo.unary main_v41 main_v42 ((transpose S4x8192x128 [0, 2, 1] · transposes_S4x128x8192_S4x8192x128_0_2_1) : (⟨S4x128x8192, .f32⟩ : BufTy).Contents (Elt F) → (⟨S4x8192x128, .f32⟩ : BufTy).Contents (Elt F)),
    StableHlo.binary main_v40 main_arg2 main_v43 ((fun l r => Host.dotGeneral dot_S4x8192x128_S4x8192x128_S4x8192x8192_2_2_1_1_0_0 none l r) : (⟨S4x8192x128, .f32⟩ : BufTy).Contents (Elt F) → (⟨S4x8192x128, .f32⟩ : BufTy).Contents (Elt F) → (⟨S4x8192x8192, .f32⟩ : BufTy).Contents (Elt F)),
    StableHlo.unary main_v37 main_v44 (broadcastInDim S4x8192x8192 ![0, 1, 2] bcast_S4x8192x1_S4x8192x8192_0_1_2 : (⟨S4x8192x1, .f32⟩ : BufTy).Contents (Elt F) → (⟨S4x8192x8192, .f32⟩ : BufTy).Contents (Elt F)),
    StableHlo.binary main_v43 main_v44 main_v45 (mulf : (⟨S4x8192x8192, .f32⟩ : BufTy).Contents (Elt F) → (⟨S4x8192x8192, .f32⟩ : BufTy).Contents (Elt F) → (⟨S4x8192x8192, .f32⟩ : BufTy).Contents (Elt F)),
    StableHlo.binary main_v45 main_v30 main_v46 (mulf : (⟨S4x8192x8192, .f32⟩ : BufTy).Contents (Elt F) → (⟨S4x8192x8192, .f32⟩ : BufTy).Contents (Elt F) → (⟨S4x8192x8192, .f32⟩ : BufTy).Contents (Elt F)),
    StableHlo.nullary main_cst_10 (constant S_ .f32 0x00000000#32),
    StableHlo.binary main_v46 main_cst_10 main_v47 ((fun x v => Host.reduceAdd x v reducesTo_S4x8192x8192_S4x8192_d2 h_S_) : (⟨S4x8192x8192, .f32⟩ : BufTy).Contents (Elt F) → (⟨S_, .f32⟩ : BufTy).Contents (Elt F) → (⟨S4x8192, .f32⟩ : BufTy).Contents (Elt F)),
    StableHlo.reshape main_v47 main_v48 (rfl : (.f32 : EltTy) = .f32) shapeCasts_S4x8192_S4x8192x1,
    StableHlo.unary main_v48 main_v49 (Host.negf : (⟨S4x8192x1, .f32⟩ : BufTy).Contents (Elt F) → (⟨S4x8192x1, .f32⟩ : BufTy).Contents (Elt F)),
    StableHlo.unary main_v32 main_v50 (broadcastInDim S4x8192x8192 ![0, 1, 2] bcast_S4x8192x1_S4x8192x8192_0_1_2 : (⟨S4x8192x1, .f32⟩ : BufTy).Contents (Elt F) → (⟨S4x8192x8192, .f32⟩ : BufTy).Contents (Elt F)),
    StableHlo.binary main_v43 main_v50 main_v51 (Host.divf : (⟨S4x8192x8192, .f32⟩ : BufTy).Contents (Elt F) → (⟨S4x8192x8192, .f32⟩ : BufTy).Contents (Elt F) → (⟨S4x8192x8192, .f32⟩ : BufTy).Contents (Elt F)),
    StableHlo.nullary main_cst_11 (constant S_ .f32 0x00000000#32),
    StableHlo.binary main_v49 main_cst_11 main_v52 ((fun x v => Host.reduceAdd x v reducesTo_S4x8192x1_S4x8192_d2 h_S_) : (⟨S4x8192x1, .f32⟩ : BufTy).Contents (Elt F) → (⟨S_, .f32⟩ : BufTy).Contents (Elt F) → (⟨S4x8192, .f32⟩ : BufTy).Contents (Elt F)),
    StableHlo.unary main_v52 main_v53 (broadcastInDim S4x8192x8192 ![0, 1] bcast_S4x8192_S4x8192x8192_0_1 : (⟨S4x8192, .f32⟩ : BufTy).Contents (Elt F) → (⟨S4x8192x8192, .f32⟩ : BufTy).Contents (Elt F)),
    StableHlo.binary main_v51 main_v53 main_v54 (addf : (⟨S4x8192x8192, .f32⟩ : BufTy).Contents (Elt F) → (⟨S4x8192x8192, .f32⟩ : BufTy).Contents (Elt F) → (⟨S4x8192x8192, .f32⟩ : BufTy).Contents (Elt F)),
    StableHlo.binary main_v54 main_v30 main_v55 (mulf : (⟨S4x8192x8192, .f32⟩ : BufTy).Contents (Elt F) → (⟨S4x8192x8192, .f32⟩ : BufTy).Contents (Elt F) → (⟨S4x8192x8192, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S4x8192x8192, .f32⟩) (broadcastInDim S4x8192x8192 ![] bcast_S_S4x8192x8192),
    StableHlo.TRef.ternary (.of main_v9_1 : StableHlo.TRef sig ⟨S4x8192x8192, .i1⟩) (.of main_v55 : StableHlo.TRef sig ⟨S4x8192x8192, .f32⟩) (.of main_call1_v0 : StableHlo.TRef sig ⟨S4x8192x8192, .f32⟩) (.of main_v56 : StableHlo.TRef sig ⟨S4x8192x8192, .f32⟩) select,
    StableHlo.binary main_v56 main_arg0 main_v57 ((fun l r => Host.dotGeneral dot_S4x8192x8192_S4x8192x128_S4x8192x128_1_1_2_2_0_0 none l r) : (⟨S4x8192x8192, .f32⟩ : BufTy).Contents (Elt F) → (⟨S4x8192x128, .f32⟩ : BufTy).Contents (Elt F) → (⟨S4x8192x128, .f32⟩ : BufTy).Contents (Elt F)),
    StableHlo.binary main_v56 main_arg1 main_v58 ((fun l r => Host.dotGeneral dot_S4x8192x8192_S4x8192x128_S4x8192x128_2_1_1_2_0_0 none l r) : (⟨S4x8192x8192, .f32⟩ : BufTy).Contents (Elt F) → (⟨S4x8192x128, .f32⟩ : BufTy).Contents (Elt F) → (⟨S4x8192x128, .f32⟩ : BufTy).Contents (Elt F)),
    StableHlo.unary main_v58 main_v59 ((transpose S4x128x8192 [0, 2, 1] · transposes_S4x8192x128_S4x128x8192_0_2_1) : (⟨S4x8192x128, .f32⟩ : BufTy).Contents (Elt F) → (⟨S4x128x8192, .f32⟩ : BufTy).Contents (Elt F)) ]
/-- All of them. -/
abbrev ops : List (HloOp τ sig (Elt F)) := opsA ++ opsB

theorem ops_sub : (ops : List (HloOp τ sig (Elt F))).Forall fun op => op.bufs ⊆ StableHlo.tcRefs τ sig :=
  ⟨StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.nullary_bufs_sub .., StableHlo.binary_bufs_sub .., StableHlo.reshape_bufs_sub .., StableHlo.unary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.ternary_bufs_sub .., StableHlo.ternary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.reshape_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.nullary_bufs_sub .., StableHlo.unary_bufs_sub .., StableHlo.ternary_bufs_sub .., StableHlo.binary_bufs_sub .., StableHlo.binary_bufs_sub .., StableHlo.unary_bufs_sub ..⟩

set_option maxHeartbeats 4000000 in
theorem main_eq (c : Dev nD) : main (F := F) c = StableHlo.seq ops := by
  simp only [main, main_part0, main_part1, fn_where.body, fn_where_0.body, List.cons_append, List.nil_append, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every buffer ends at the operations' fold over the contents at the start. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

variable (V : Valuation τ sig (Elt F))
theorem arg0_eq : StableHlo.after ops V (main_arg0 : DevRef τ sig) = V (main_arg0 : DevRef τ sig) := by after_reads_simp
theorem arg1_eq : StableHlo.after ops V (main_arg1 : DevRef τ sig) = V (main_arg1 : DevRef τ sig) := by after_reads_simp
theorem arg2_eq : StableHlo.after ops V (main_arg2 : DevRef τ sig) = V (main_arg2 : DevRef τ sig) := by after_reads_simp
theorem arg3_eq : StableHlo.after ops V (main_arg3 : DevRef τ sig) = V (main_arg3 : DevRef τ sig) := by after_reads_simp

/-- The arguments end unchanged and no counter is left. -/
theorem run_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := F)) _ _).mono (fun r h => ⟨fun c => ⟨(h c main_arg0).trans (arg0_eq _), (h c main_arg1).trans (arg1_eq _),
    (h c main_arg2).trans (arg2_eq _), (h c main_arg3).trans (arg3_eq _)⟩, sem_eq_zero_of_no_sems rfl r.2⟩) (run m ρ)

end Cert.ReferenceIdeal.Plain
end
-- ==== Proof.ValPay.lean ====
/- The kernel's payloads read at an index, over the extended reals. -/
module

public import proofs.«01_k».proof.Proof.Rest
public import Idealize.ShloMosaic.Lib.Pointwise
public import Idealize.ShloMosaic.Lib.IdealHost
public import Idealize.ShloMosaic.Lib.WordCmp

@[expose] public section

set_option maxRecDepth 16384

noncomputable section

namespace Cert.KernelIdeal.Attn

open Idealize.ShloMosaic Idealize.ShloMosaic.TcCoe
open Cert.KernelIdeal Cert.KernelIdeal.Gen
open scoped BigOperators

theorem ptU_at (q k : Vec Ideal S1x512x128 .bf16) (l : Vec Ideal S1x1x512 .f32) (r c : Fin 512) :
    ptU q k l (ix2 r c) = Ideal.exp2 ((∑ x : Fin 128, k (ix3 0 r x) * q (ix3 0 c x)) - l (ix3 0 0 c)) := by
  pointwise [ptU]
  rfl

theorem dsOf_at (pt : FVec Ideal S512x512 .f32) (d : Vec Ideal S512x128 .f32) (v : Vec Ideal S1x512x128 .bf16) (e : Vec Ideal S1x1x512 .f32) (r c : Fin 512) :
    dsOf pt d v e (ix2 r c) = pt (ix2 r c) * ((∑ x : Fin 128, v (ix3 0 r x) * d (ix2 c x)) - e (ix3 0 0 c)) := by
  pointwise [dsOf]

theorem ptM_at (q k : Vec Ideal S1x512x128 .bf16) (l : Vec Ideal S1x1x512 .f32) (r c : Fin 512) :
    ptM q k l (ix2 r c) = if r ≤ c then ptU q k l (ix2 r c) else 0 := by
  pointwise [ptM]
  have h := WordCmp.cmpi_sle_ofNat_eq_one_iff (w := 32) (a := r.val) (b := c.val) (by have := r.isLt; omega) (by have := c.isLt; omega)
  unfold Scalar.select
  exact if_congr (h.trans Iff.rfl) rfl rfl

theorem payV_at (pt : FVec Ideal S512x512 .f32) (d : Vec Ideal S512x128 .f32) (x : Vec Ideal S1x512x128 .f32) (r : Fin 512) (c : Fin 128) :
    payV pt d x (ix3 0 r c) = x (ix3 0 r c) + ∑ y : Fin 512, pt (ix2 r y) * d (ix2 y c) := by
  pointwise [payV]

theorem payK_at (q : Vec Ideal S1x512x128 .bf16) (ds : FVec Ideal S512x512 .bf16) (x : Vec Ideal S1x512x128 .f32) (r : Fin 512) (c : Fin 128) :
    payK q ds x (ix3 0 r c) = x (ix3 0 r c) + ∑ y : Fin 512, ds (ix2 r y) * q (ix3 0 y c) := by
  pointwise [payK]

theorem payT_at (ds : FVec Ideal S512x512 .bf16) (kt : Vec Ideal S1x128x512 .bf16) (x : Vec Ideal S1x128x512 .f32) (r : Fin 128) (c : Fin 512) :
    payT ds kt x (ix3 0 r c) = x (ix3 0 r c) + ∑ y : Fin 512, kt (ix3 0 r y) * ds (ix2 y c) := by
  pointwise [payT]

theorem pay1_at (i) : k0_pay1 (F := Ideal) i = 0 := by
  pointwise [k0_pay1]
theorem pay2_at (i) : k0_pay2 (F := Ideal) i = 0 := by
  pointwise [k0_pay2]
theorem pay3_at (i) : k0_pay3 (F := Ideal) i = 0 := by
  pointwise [k0_pay3]
theorem pay4_at (x : Vec Ideal S2x1024x128 .f32) (i) : k0_pay4 x i = x i * ((Real.log 2 : ℝ) : EReal) := by
  pointwise [k0_pay4]
  rfl

/-- A window read at an index. -/
theorem window_at {α : Type} {s : Shape} (x : s.Idx → α) (off size : Fin s.rank → ℕ) (inb : ∀ a, off a + size a ≤ s.size a)
    (y : (Rect.unit off size inb).shape.Idx) (z : s.Idx) (h : ∀ a, (z a).val = off a + (y a).val) : VecWindow.window x off size inb y = x z := by
  refine congrArg x (funext fun a => Fin.ext ?_)
  rw [h a]
  exact (Rect.emb_apply _ _ _).trans (by show off a + 1 * (y a).val = _; omega)

theorem put_in {α : Type} {s : Shape} (x : s.Idx → α) (off size : Fin s.rank → ℕ) (w : ((a : Fin s.rank) → Fin (size a)) → α)
    (y : (a : Fin s.rank) → Fin (size a)) (z : s.Idx) (h : ∀ a, (z a).val = off a + (y a).val) : VecWindow.put x off size w z = w y := by
  unfold VecWindow.put
  rw [dif_pos (fun a => by have := (y a).isLt; have := h a; omega)]
  refine congrArg w (funext fun a => Fin.ext ?_)
  show (z a).val - off a = _
  have := h a; omega

theorem put_out {α : Type} {s : Shape} (x : s.Idx → α) (off size : Fin s.rank → ℕ) (w : ((a : Fin s.rank) → Fin (size a)) → α)
    (z : s.Idx) (a : Fin s.rank) (h : (z a).val < off a ∨ off a + size a ≤ (z a).val) : VecWindow.put x off size w z = x z := by
  unfold VecWindow.put
  exact dif_neg (fun hh => by have := hh a; omega)

end Cert.KernelIdeal.Attn
end
-- ==== Proof.ValStep.lean ====
/- One sub-block's step, and a grid point's, read at an index. -/
module

public import proofs.«01_k».proof.Proof.ValPay

@[expose] public section

set_option maxRecDepth 16384

noncomputable section

namespace Cert.KernelIdeal.Attn

open Idealize.ShloMosaic Idealize.ShloMosaic.TcCoe
open Cert.KernelIdeal Cert.KernelIdeal.Gen
open scoped BigOperators

/-- Row `r` of half `a` of a block. -/
def hf (a : Fin 2) (r : Fin 512) : Fin 1024 := ⟨512 * a.val + r.val, by have := a.isLt; have := r.isLt; omega⟩
/-- Row `r` of half `a` of block `j`. -/
def col (j : Fin 8) (a : Fin 2) (r : Fin 512) : Fin 8192 := ⟨1024 * j.val + (512 * a.val + r.val), by have := j.isLt; have := a.isLt; have := r.isLt; omega⟩
/-- Column `x` of head `h` of a pair of heads. -/
def hd (h : Fin 2) (x : Fin 128) : Fin 256 := ⟨128 * h.val + x.val, by have := h.isLt; have := x.isLt; omega⟩

/-- The probability of key `k` at query `q` of a block pair. -/
def pB (I : Inp Ideal) (h : Fin 2) (k q : Fin 1024) : EReal :=
  Ideal.exp2 ((∑ x : Fin 128, I.k (ix3 h k x) * I.q (ix3 h q x)) - I.l (ix3 h 0 q))
/-- What the probability is multiplied by in the gradient of the score. -/
def uB (I : Inp Ideal) (h : Fin 2) (k q : Fin 1024) : EReal :=
  (∑ x : Fin 128, I.v (ix3 h k x) * I.d (ix2 q (hd h x))) - I.e (ix3 h 0 q)

theorem ptF_at (msk : Bool) (I : Inp Ideal) (h a b : Fin 2) (r c : Fin 512) :
    ptF msk I (oR h a) (oR h b) (oC h a) (inR h a) (inR h b) (inL h a) (ix2 r c)
      = if msk = true → r ≤ c then pB I h (hf b r) (hf a c) else 0 := by
  have hw : ptU (VecWindow.window I.q (oR h a) S1x512x128.size (inR h a)) (VecWindow.window I.k (oR h b) S1x512x128.size (inR h b))
      (VecWindow.window I.l (oC h a) S1x1x512.size (inL h a)) (ix2 r c) = pB I h (hf b r) (hf a c) := by
    rw [ptU_at]
    unfold pB
    refine congrArg Ideal.exp2 (congrArg₂ (· - ·) (Finset.sum_congr rfl fun x _ => congrArg₂ (· * ·) ?_ ?_) ?_)
    · refine window_at _ _ _ _ _ _ fun ax => ?_
      match ax with
      | ⟨0, _⟩ => rfl
      | ⟨1, _⟩ => rfl
      | ⟨2, _⟩ => exact (Nat.zero_add _).symm
    · refine window_at _ _ _ _ _ _ fun ax => ?_
      match ax with
      | ⟨0, _⟩ => rfl
      | ⟨1, _⟩ => rfl
      | ⟨2, _⟩ => exact (Nat.zero_add _).symm
    · refine window_at _ _ _ _ _ _ fun ax => ?_
      match ax with
      | ⟨0, _⟩ => rfl
      | ⟨1, _⟩ => rfl
      | ⟨2, _⟩ => rfl
  unfold ptF
  cases msk
  · simpa using hw
  · rw [cond_true, ptM_at, hw]; simp

theorem dsF_at (msk : Bool) (I : Inp Ideal) (h a b : Fin 2) (r c : Fin 512) :
    dsF msk I (oR h a) (oR h b) (oD h a) (oC h a) (inR h a) (inR h b) (inD h a) (inL h a) (ix2 r c)
      = (if msk = true → r ≤ c then pB I h (hf b r) (hf a c) else 0) * uB I h (hf b r) (hf a c) := by
  unfold dsF
  rw [dsOf_at, ptF_at]
  unfold uB
  refine congrArg _ (congrArg₂ (· - ·) (Finset.sum_congr rfl fun x _ => congrArg₂ (· * ·) ?_ ?_) ?_)
  · refine window_at _ _ _ _ _ _ fun ax => ?_
    match ax with
    | ⟨0, _⟩ => rfl
    | ⟨1, _⟩ => rfl
    | ⟨2, _⟩ => exact (Nat.zero_add _).symm
  · refine window_at _ _ _ _ _ _ fun ax => ?_
    match ax with
    | ⟨0, _⟩ => rfl
    | ⟨1, _⟩ => rfl
  · refine window_at _ _ _ _ _ _ fun ax => ?_
    match ax with
    | ⟨0, _⟩ => rfl
    | ⟨1, _⟩ => rfl
    | ⟨2, _⟩ => rfl

theorem fin1 (x : Fin 1) : x = 0 := Subsingleton.elim _ _

theorem step_t (msk : Bool) (h a b : Fin 2) (I : Inp Ideal) (j : Fin 8) (A : Acc Ideal) (h' : Fin 2) (x : Fin 128) (j' : Fin 8) (a' : Fin 2) (c : Fin 512) :
    (stepF msk h a b I j A).t (ix3 h' x (col j' a' c)) = A.t (ix3 h' x (col j' a' c))
      + if h' = h ∧ j' = j ∧ a' = a then ∑ r : Fin 512, I.kt (ix3 h x (hf b r)) * ((if msk = true → r ≤ c then pB I h (hf b r) (hf a c) else 0) * uB I h (hf b r) (hf a c)) else 0 := by
  show VecWindow.put A.t (oT h j a) S1x128x512.size _ _ = _
  by_cases hc : h' = h ∧ j' = j ∧ a' = a
  · rw [if_pos hc]
    obtain ⟨rfl, rfl, rfl⟩ := hc
    rw [put_in A.t (oT h' j' a') S1x128x512.size _ (ix3 (0 : Fin 1) x c) _ (fun ax => by
      match ax with
      | ⟨0, _⟩ => rfl
      | ⟨1, _⟩ => exact (Nat.zero_add _).symm
      | ⟨2, _⟩ => exact (Nat.add_assoc _ _ _).symm), payT_at]
    refine congrArg₂ (· + ·) ?_ (Finset.sum_congr rfl fun r _ => congrArg₂ (· * ·) ?_ (dsF_at msk I h' a' b r c))
    · refine window_at _ _ _ _ _ _ fun ax => ?_
      match ax with
      | ⟨0, _⟩ => rfl
      | ⟨1, _⟩ => exact (Nat.zero_add _).symm
      | ⟨2, _⟩ => exact (Nat.add_assoc _ _ _).symm
    · refine window_at _ _ _ _ _ _ fun ax => ?_
      match ax with
      | ⟨0, _⟩ => rfl
      | ⟨1, _⟩ => exact (Nat.zero_add _).symm
      | ⟨2, _⟩ => rfl
  · rw [if_neg hc, add_zero]
    have hx : h'.val ≠ h.val ∨ j'.val ≠ j.val ∨ a'.val ≠ a.val := by
      by_contra hn; push Not at hn; exact hc ⟨Fin.ext hn.1, Fin.ext hn.2.1, Fin.ext hn.2.2⟩
    by_cases h0 : h'.val = h.val
    · refine put_out _ _ _ _ _ (2 : Fin 3) ?_
      show 1024 * j'.val + (512 * a'.val + c.val) < 1024 * j.val + 512 * a.val ∨ 1024 * j.val + 512 * a.val + 512 ≤ 1024 * j'.val + (512 * a'.val + c.val)
      have := c.isLt; have := a.isLt; have := a'.isLt; omega
    · refine put_out _ _ _ _ _ (0 : Fin 3) ?_
      show h'.val < h.val ∨ h.val + 1 ≤ h'.val
      omega

theorem step_k (msk : Bool) (h a b : Fin 2) (I : Inp Ideal) (j : Fin 8) (A : Acc Ideal) (h' : Fin 2) (b' : Fin 2) (r : Fin 512) (x : Fin 128) :
    (stepF msk h a b I j A).k (ix3 h' (hf b' r) x) = A.k (ix3 h' (hf b' r) x)
      + if h' = h ∧ b' = b then ∑ c : Fin 512, ((if msk = true → r ≤ c then pB I h (hf b r) (hf a c) else 0) * uB I h (hf b r) (hf a c)) * I.q (ix3 h (hf a c) x) else 0 := by
  show VecWindow.put A.k (oR h b) S1x512x128.size _ _ = _
  by_cases hc : h' = h ∧ b' = b
  · rw [if_pos hc]
    obtain ⟨rfl, rfl⟩ := hc
    rw [put_in A.k (oR h' b') S1x512x128.size _ (ix3 (0 : Fin 1) r x) _ (fun ax => by
      match ax with
      | ⟨0, _⟩ => rfl
      | ⟨1, _⟩ => rfl
      | ⟨2, _⟩ => exact (Nat.zero_add _).symm), payK_at]
    refine congrArg₂ (· + ·) ?_ (Finset.sum_congr rfl fun c _ => congrArg₂ (· * ·) (dsF_at msk I h' a b' r c) ?_)
    · refine window_at _ _ _ _ _ _ fun ax => ?_
      match ax with
      | ⟨0, _⟩ => rfl
      | ⟨1, _⟩ => rfl
      | ⟨2, _⟩ => exact (Nat.zero_add _).symm
    · refine window_at _ _ _ _ _ _ fun ax => ?_
      match ax with
      | ⟨0, _⟩ => rfl
      | ⟨1, _⟩ => rfl
      | ⟨2, _⟩ => exact (Nat.zero_add _).symm
  · rw [if_neg hc, add_zero]
    have hx : h'.val ≠ h.val ∨ b'.val ≠ b.val := by
      by_contra hn; push Not at hn; exact hc ⟨Fin.ext hn.1, Fin.ext hn.2⟩
    by_cases h0 : h'.val = h.val
    · refine put_out _ _ _ _ _ (1 : Fin 3) ?_
      show 512 * b'.val + r.val < 512 * b.val ∨ 512 * b.val + 512 ≤ 512 * b'.val + r.val
      have := r.isLt; omega
    · refine put_out _ _ _ _ _ (0 : Fin 3) ?_
      show h'.val < h.val ∨ h.val + 1 ≤ h'.val
      omega

theorem step_v (msk : Bool) (h a b : Fin 2) (I : Inp Ideal) (j : Fin 8) (A : Acc Ideal) (h' : Fin 2) (b' : Fin 2) (r : Fin 512) (x : Fin 128) :
    (stepF msk h a b I j A).v (ix3 h' (hf b' r) x) = A.v (ix3 h' (hf b' r) x)
      + if h' = h ∧ b' = b then ∑ c : Fin 512, (if msk = true → r ≤ c then pB I h (hf b r) (hf a c) else 0) * I.d (ix2 (hf a c) (hd h x)) else 0 := by
  show VecWindow.put A.v (oR h b) S1x512x128.size _ _ = _
  by_cases hc : h' = h ∧ b' = b
  · rw [if_pos hc]
    obtain ⟨rfl, rfl⟩ := hc
    rw [put_in A.v (oR h' b') S1x512x128.size _ (ix3 (0 : Fin 1) r x) _ (fun ax => by
      match ax with
      | ⟨0, _⟩ => rfl
      | ⟨1, _⟩ => rfl
      | ⟨2, _⟩ => exact (Nat.zero_add _).symm), payV_at]
    refine congrArg₂ (· + ·) ?_ (Finset.sum_congr rfl fun c _ => congrArg₂ (· * ·) (ptF_at msk I h' a b' r c) ?_)
    · refine window_at _ _ _ _ _ _ fun ax => ?_
      match ax with
      | ⟨0, _⟩ => rfl
      | ⟨1, _⟩ => rfl
      | ⟨2, _⟩ => exact (Nat.zero_add _).symm
    · refine window_at _ _ _ _ _ _ fun ax => ?_
      match ax with
      | ⟨0, _⟩ => rfl
      | ⟨1, _⟩ => rfl
  · rw [if_neg hc, add_zero]
    have hx : h'.val ≠ h.val ∨ b'.val ≠ b.val := by
      by_contra hn; push Not at hn; exact hc ⟨Fin.ext hn.1, Fin.ext hn.2⟩
    by_cases h0 : h'.val = h.val
    · refine put_out _ _ _ _ _ (1 : Fin 3) ?_
      show 512 * b'.val + r.val < 512 * b.val ∨ 512 * b.val + 512 ≤ 512 * b'.val + r.val
      have := r.isLt; omega
    · refine put_out _ _ _ _ _ (0 : Fin 3) ?_
      show h'.val < h.val ∨ h.val + 1 ≤ h'.val
      omega

/-- A sum over a block is a sum over its halves. -/
theorem sum_hf (f : Fin 1024 → EReal) : ∑ y, f y = (∑ r : Fin 512, f (hf 0 r)) + ∑ r : Fin 512, f (hf 1 r) := by
  rw [show (∑ y, f y) = ∑ y : Fin (512 + 512), f y from rfl, Fin.sum_univ_add]
  refine congrArg₂ (· + ·) (Finset.sum_congr rfl fun r _ => congrArg f (Fin.ext ?_)) (Finset.sum_congr rfl fun r _ => congrArg f (Fin.ext ?_))
  · show r.val = 512 * 0 + r.val; omega
  · show 512 + r.val = 512 * 1 + r.val; omega

end Cert.KernelIdeal.Attn
end
-- ==== Proof.ValBody.lean ====
/- What a grid point adds to each accumulator, read at an index. -/
module

public import proofs.«01_k».proof.Proof.ValStep

@[expose] public section

set_option maxRecDepth 16384

noncomputable section

namespace Cert.KernelIdeal.Attn

open Idealize.ShloMosaic Idealize.ShloMosaic.TcCoe
open Cert.KernelIdeal Cert.KernelIdeal.Gen
open scoped BigOperators

theorem fin2 (a : Fin 2) : a = 0 ∨ a = 1 := by omega
theorem le_same (a : Fin 2) (r c : Fin 512) : hf a r ≤ hf a c ↔ r ≤ c := by
  show 512 * a.val + r.val ≤ 512 * a.val + c.val ↔ r.val ≤ c.val; omega
theorem le_01 (r c : Fin 512) : hf 0 r ≤ hf 1 c := by
  show 512 * 0 + r.val ≤ 512 * 1 + c.val; have := r.isLt; omega
theorem not_le_10 (r c : Fin 512) : ¬ hf 1 r ≤ hf 0 c := by
  show ¬ 512 * 1 + r.val ≤ 512 * 0 + c.val; have := c.isLt; omega

/-- The probability within the pair, zero where the key comes after the query. -/
def wB (i j : Fin 8) (I : Inp Ideal) (h : Fin 2) (k q : Fin 1024) : EReal := if i = j → k ≤ q then pB I h k q else 0

theorem body_t (z : Bool) (i j : Fin 8) (hij : i ≤ j) (I : Inp Ideal) (A : Acc Ideal) (h : Fin 2) (x : Fin 128) (j' : Fin 8) (a : Fin 2) (c : Fin 512) :
    (bodyF z i j I A).t (ix3 h x (col j' a c)) = (if z = true then 0 else A.t (ix3 h x (col j' a c)))
      + if j' = j then ∑ k : Fin 1024, I.kt (ix3 h x k) * (wB i j I h k (hf a c) * uB I h k (hf a c)) else 0 := by
  have h0 : (if z = true then { A with t := k0_pay1 (F := Ideal) } else A : Acc Ideal).t (ix3 h x (col j' a c))
      = if z = true then 0 else A.t (ix3 h x (col j' a c)) := by
    cases z
    · rfl
    · exact pay1_at (ix3 h x (col j' a c))
  rcases lt_or_eq_of_le hij with hlt | heq
  · have hne : i ≠ j := ne_of_lt hlt
    unfold bodyF
    simp only [if_neg hne, if_pos hlt]
    by_cases hj : j' = j
    · subst hj
      rw [if_pos rfl]
      rcases fin2 h with rfl | rfl <;> rcases fin2 a with rfl | rfl <;>
        simp [offF, step_t, h0, sum_hf, wB, hne, add_assoc]
    · rw [if_neg hj]
      simp [offF, step_t, h0, hj]
  · have hnlt : ¬ i < j := fun hl => ne_of_lt hl heq
    unfold bodyF
    simp only [if_neg hnlt, if_pos heq]
    by_cases hj : j' = j
    · subst hj
      rw [if_pos rfl]
      rcases fin2 h with rfl | rfl <;> rcases fin2 a with rfl | rfl <;>
        simp [diagF, step_t, h0, sum_hf, wB, heq, add_assoc, le_same, le_01, not_le_10]
    · rw [if_neg hj]
      simp [diagF, step_t, h0, hj]

theorem body_k (z : Bool) (i j : Fin 8) (hij : i ≤ j) (I : Inp Ideal) (A : Acc Ideal) (h b : Fin 2) (r : Fin 512) (x : Fin 128) :
    (bodyF z i j I A).k (ix3 h (hf b r) x) = (if i = j then 0 else A.k (ix3 h (hf b r) x))
      + ∑ q : Fin 1024, (wB i j I h (hf b r) q * uB I h (hf b r) q) * I.q (ix3 h q x) := by
  rcases lt_or_eq_of_le hij with hlt | heq
  · have hne : i ≠ j := ne_of_lt hlt
    unfold bodyF
    simp only [if_neg hne, if_pos hlt]
    have h0 : (if z = true then { A with t := k0_pay1 (F := Ideal) } else A : Acc Ideal).k = A.k := by cases z <;> rfl
    rcases fin2 h with rfl | rfl <;> rcases fin2 b with rfl | rfl <;>
      simp [offF, step_k, h0, sum_hf, wB, hne, add_assoc]
  · have hnlt : ¬ i < j := fun hl => ne_of_lt hl heq
    unfold bodyF
    simp only [if_neg hnlt, if_pos heq]
    rcases fin2 h with rfl | rfl <;> rcases fin2 b with rfl | rfl <;>
      simp [diagF, step_k, pay2_at, sum_hf, wB, heq, add_assoc, le_same, le_01, not_le_10]

theorem body_v (z : Bool) (i j : Fin 8) (hij : i ≤ j) (I : Inp Ideal) (A : Acc Ideal) (h b : Fin 2) (r : Fin 512) (x : Fin 128) :
    (bodyF z i j I A).v (ix3 h (hf b r) x) = (if i = j then 0 else A.v (ix3 h (hf b r) x))
      + ∑ q : Fin 1024, wB i j I h (hf b r) q * I.d (ix2 q (hd h x)) := by
  rcases lt_or_eq_of_le hij with hlt | heq
  · have hne : i ≠ j := ne_of_lt hlt
    unfold bodyF
    simp only [if_neg hne, if_pos hlt]
    have h0 : (if z = true then { A with t := k0_pay1 (F := Ideal) } else A : Acc Ideal).v = A.v := by cases z <;> rfl
    rcases fin2 h with rfl | rfl <;> rcases fin2 b with rfl | rfl <;>
      simp [offF, step_v, h0, sum_hf, wB, hne, add_assoc]
  · have hnlt : ¬ i < j := fun hl => ne_of_lt hl heq
    unfold bodyF
    simp only [if_neg hnlt, if_pos heq]
    rcases fin2 h with rfl | rfl <;> rcases fin2 b with rfl | rfl <;>
      simp [diagF, step_v, pay3_at, sum_hf, wB, heq, add_assoc, le_same, le_01, not_le_10]

end Cert.KernelIdeal.Attn
end
-- ==== Proof.ValInp.lean ====
/- The input windows at a grid point, read from the whole arrays. -/
module

public import proofs.«01_k».proof.Proof.ValBody
public import proofs.«01_k».proof.Proof.Data
public import Idealize.ShloMosaic.Lib.Pipeline.ValueKit

@[expose] public section

set_option maxRecDepth 16384

noncomputable section

namespace Cert.KernelIdeal.Attn

open Idealize.ShloMosaic Idealize.ShloMosaic.TcCoe
open Cert.KernelIdeal Cert.KernelIdeal.Gen
open scoped BigOperators

variable (V : (c : Dev nD) → (b : Ref sig .tc) → Buf (Elt Ideal) ((c.tc : Thread nD τ).loc b))

/-- What an input window holds at a point is its block there, whether fetched there or not. -/
theorem held_eq (c : Dev nD) (w : Fin (cfgA (F := Ideal)).W) (hc : ∀ i a, ((cfgA (F := Ideal)).win w).clip i a = none) (hw : ((cfgA (F := Ideal)).win w).isOut = false) :
    ∀ (n : ℕ) (h : n < grid0.N), Pipeline.heldIn (cfgA (F := Ideal)) (arrs V c) w n h = (dat0 V c).fetched w ⟨n, h⟩ (fun _ => Classical.arbitrary _)
  | 0, h => rfl
  | n + 1, h => by
    by_cases hf : ((cfgA (F := Ideal)).win w).fetch ⟨n + 1, h⟩ = true
    · exact Pipeline.heldIn_of_fetch (arrs V c) w ⟨n + 1, h⟩ hf
    · rw [Pipeline.heldIn_of_not_fetch (arrs V c) w n h (by simpa using hf), held_eq c w hc hw n (Nat.lt_of_succ_lt h)]
      refine Pipeline.Dat.fetched_congr (dat0 V c) w ?_ (funext fun a => (hc _ a).trans (hc _ a).symm) _
      rw [Pipeline.Window.fetch_eq_fetchF] at hf
      unfold Pipeline.Window.fetchF at hf
      rw [hw] at hf
      by_contra hne
      refine hf ?_
      obtain ⟨a, ha⟩ := Function.ne_iff.mp hne
      simp only [Bool.not_false, Bool.true_and, Bool.or_eq_true, decide_eq_true_eq]
      exact .inr ⟨Nat.succ_pos n, a, fun e => ha e.symm⟩

theorem held_at (c : Dev nD) (w : Fin (cfgA (F := Ideal)).W) (hc : ∀ i a, ((cfgA (F := Ideal)).win w).clip i a = none) (hw : ((cfgA (F := Ideal)).win w).isOut = false)
    (t : Fin grid0.N) (y : ((cfgA (F := Ideal)).win w).block.Idx) (y' : (((cfgA (F := Ideal)).win w).xblock ((cfgA (F := Ideal)).grid.coords t)).Idx)
    (hy : ∀ a, (y' a).val = (y a).val) :
    Pipeline.heldIn (cfgA (F := Ideal)) (arrs V c) w t.val t.isLt y = (dat0 V c).blockOf w t y' := by
  rw [held_eq V c w hc hw]
  unfold Pipeline.Dat.fetched Pipeline.Window.fill
  have hm : ((cfgA (F := Ideal)).win w).moved ((cfgA (F := Ideal)).grid.coords t) y = true :=
    (Pipeline.Window.moved_iff _ _ y).mpr fun a => hy a ▸ (y' a).isLt
  rw [dif_pos hm]
  exact congrArg _ (funext fun a => Fin.ext (hy a).symm)

/-- The whole arrays the windows read. -/
def gQ (c : Dev nD) : Vec Ideal S4x8192x128 .bf16 := V c main_v31
def gK (c : Dev nD) : Vec Ideal S4x8192x128 .bf16 := V c main_v34
def gKT (c : Dev nD) : Vec Ideal S4x128x8192 .bf16 := V c main_v33
def gV (c : Dev nD) : Vec Ideal S4x8192x128 .bf16 := V c main_v35
def gD (c : Dev nD) : Vec Ideal S8192x512 .f32 := V c main_arg3
def gL (c : Dev nD) : Vec Ideal S4x1x8192 .f32 := V c main_v36
def gE (c : Dev nD) : Vec Ideal S4x1x8192 .f32 := V c main_v37

/-- Head `h` of head pair `g`. -/
def hx (g h : Fin 2) : Fin 4 := ⟨2 * g.val + h.val, by have := g.isLt; have := h.isLt; omega⟩
/-- Row `r` of block `j`. -/
def bx (j : Fin 8) (r : Fin 1024) : Fin 8192 := ⟨1024 * j.val + r.val, by have := j.isLt; have := r.isLt; omega⟩
/-- Column `x` of head pair `g`. -/
def cx (g : Fin 2) (x : Fin 256) : Fin 512 := ⟨256 * g.val + x.val, by have := g.isLt; have := x.isLt; omega⟩

abbrev gT (t : Fin grid0.N) : Fin 2 := gC (grid0.coords t)
abbrev iT (t : Fin grid0.N) : Fin 8 := iL (pC (grid0.coords t))
abbrev jT (t : Fin grid0.N) : Fin 8 := jL (pC (grid0.coords t))

theorem inp_q (c : Dev nD) (t : Fin grid0.N) (h : Fin 2) (r : Fin 1024) (x : Fin 128) :
    (inp V c t.val t.isLt).q (ix3 h r x) = gQ V c (ix3 (hx (gT t) h) (bx (jT t) r) x) := by
  refine (held_at V c 0 (fun _ _ => rfl) rfl t (ix3 h r x) (ix3 h r x) (fun _ => rfl)).trans ?_
  rw [Pipeline.Dat.blockOf_apply]
  refine congrArg (gQ V c) (funext fun a => Fin.ext ?_)
  blk_simp
  have e := congrFun (index0 (F := Ideal) t) a
  refine (congrArg (fun n : ℕ => n * _ + _) e).trans ?_
  match a with
  | ⟨0, _⟩ => show (gT t).val * 2 + h.val = 2 * (gT t).val + h.val; omega
  | ⟨1, _⟩ => show (jT t).val * 1024 + r.val = 1024 * (jT t).val + r.val; omega
  | ⟨2, _⟩ => show 0 * 128 + x.val = x.val; omega

theorem inp_k (c : Dev nD) (t : Fin grid0.N) (h : Fin 2) (r : Fin 1024) (x : Fin 128) :
    (inp V c t.val t.isLt).k (ix3 h r x) = gK V c (ix3 (hx (gT t) h) (bx (iT t) r) x) := by
  refine (held_at V c 1 (fun _ _ => rfl) rfl t (ix3 h r x) (ix3 h r x) (fun _ => rfl)).trans ?_
  rw [Pipeline.Dat.blockOf_apply]
  refine congrArg (gK V c) (funext fun a => Fin.ext ?_)
  blk_simp
  have e := congrFun (index1 (F := Ideal) t) a
  refine (congrArg (fun n : ℕ => n * _ + _) e).trans ?_
  match a with
  | ⟨0, _⟩ => show (gT t).val * 2 + h.val = 2 * (gT t).val + h.val; omega
  | ⟨1, _⟩ => show (iT t).val * 1024 + r.val = 1024 * (iT t).val + r.val; omega
  | ⟨2, _⟩ => show 0 * 128 + x.val = x.val; omega

theorem inp_kt (c : Dev nD) (t : Fin grid0.N) (h : Fin 2) (x : Fin 128) (r : Fin 1024) :
    (inp V c t.val t.isLt).kt (ix3 h x r) = gKT V c (ix3 (hx (gT t) h) x (bx (iT t) r)) := by
  refine (held_at V c 2 (fun _ _ => rfl) rfl t (ix3 h x r) (ix3 h x r) (fun _ => rfl)).trans ?_
  rw [Pipeline.Dat.blockOf_apply]
  refine congrArg (gKT V c) (funext fun a => Fin.ext ?_)
  blk_simp
  have e := congrFun (index2 (F := Ideal) t) a
  refine (congrArg (fun n : ℕ => n * _ + _) e).trans ?_
  match a with
  | ⟨0, _⟩ => show (gT t).val * 2 + h.val = 2 * (gT t).val + h.val; omega
  | ⟨1, _⟩ => show 0 * 128 + x.val = x.val; omega
  | ⟨2, _⟩ => show (iT t).val * 1024 + r.val = 1024 * (iT t).val + r.val; omega

theorem inp_v (c : Dev nD) (t : Fin grid0.N) (h : Fin 2) (r : Fin 1024) (x : Fin 128) :
    (inp V c t.val t.isLt).v (ix3 h r x) = gV V c (ix3 (hx (gT t) h) (bx (iT t) r) x) := by
  refine (held_at V c 3 (fun _ _ => rfl) rfl t (ix3 h r x) (ix3 h r x) (fun _ => rfl)).trans ?_
  rw [Pipeline.Dat.blockOf_apply]
  refine congrArg (gV V c) (funext fun a => Fin.ext ?_)
  blk_simp
  have e := congrFun (index3 (F := Ideal) t) a
  refine (congrArg (fun n : ℕ => n * _ + _) e).trans ?_
  match a with
  | ⟨0, _⟩ => show (gT t).val * 2 + h.val = 2 * (gT t).val + h.val; omega
  | ⟨1, _⟩ => show (iT t).val * 1024 + r.val = 1024 * (iT t).val + r.val; omega
  | ⟨2, _⟩ => show 0 * 128 + x.val = x.val; omega

theorem inp_d (c : Dev nD) (t : Fin grid0.N) (r : Fin 1024) (x : Fin 256) :
    (inp V c t.val t.isLt).d (ix2 r x) = gD V c (ix2 (bx (jT t) r) (cx (gT t) x)) := by
  refine (held_at V c 4 (fun _ _ => rfl) rfl t (ix2 r x) (ix2 r x) (fun _ => rfl)).trans ?_
  rw [Pipeline.Dat.blockOf_apply]
  refine congrArg (gD V c) (funext fun a => Fin.ext ?_)
  blk_simp
  have e := congrFun (index4 (F := Ideal) t) a
  refine (congrArg (fun n : ℕ => n * _ + _) e).trans ?_
  match a with
  | ⟨0, _⟩ => show (jT t).val * 1024 + r.val = 1024 * (jT t).val + r.val; omega
  | ⟨1, _⟩ => show (gT t).val * 256 + x.val = 256 * (gT t).val + x.val; omega

theorem inp_l (c : Dev nD) (t : Fin grid0.N) (h : Fin 2) (r : Fin 1024) :
    (inp V c t.val t.isLt).l (ix3 h 0 r) = gL V c (ix3 (hx (gT t) h) 0 (bx (jT t) r)) := by
  refine (held_at V c 5 (fun _ _ => rfl) rfl t (ix3 h 0 r) (ix3 h 0 r) (fun _ => rfl)).trans ?_
  rw [Pipeline.Dat.blockOf_apply]
  refine congrArg (gL V c) (funext fun a => Fin.ext ?_)
  blk_simp
  have e := congrFun (index5 (F := Ideal) t) a
  refine (congrArg (fun n : ℕ => n * _ + _) e).trans ?_
  match a with
  | ⟨0, _⟩ => show (gT t).val * 2 + h.val = 2 * (gT t).val + h.val; omega
  | ⟨1, _⟩ => show 0 * 1 + (0 : ℕ) = 0; omega
  | ⟨2, _⟩ => show (jT t).val * 1024 + r.val = 1024 * (jT t).val + r.val; omega

theorem inp_e (c : Dev nD) (t : Fin grid0.N) (h : Fin 2) (r : Fin 1024) :
    (inp V c t.val t.isLt).e (ix3 h 0 r) = gE V c (ix3 (hx (gT t) h) 0 (bx (jT t) r)) := by
  refine (held_at V c 6 (fun _ _ => rfl) rfl t (ix3 h 0 r) (ix3 h 0 r) (fun _ => rfl)).trans ?_
  rw [Pipeline.Dat.blockOf_apply]
  refine congrArg (gE V c) (funext fun a => Fin.ext ?_)
  blk_simp
  have e := congrFun (index6 (F := Ideal) t) a
  refine (congrArg (fun n : ℕ => n * _ + _) e).trans ?_
  match a with
  | ⟨0, _⟩ => show (gT t).val * 2 + h.val = 2 * (gT t).val + h.val; omega
  | ⟨1, _⟩ => show 0 * 1 + (0 : ℕ) = 0; omega
  | ⟨2, _⟩ => show (jT t).val * 1024 + r.val = 1024 * (jT t).val + r.val; omega

end Cert.KernelIdeal.Attn
end
-- ==== Proof.ValSum.lean ====
/- The accumulators at the points where they are written back, as sums over all keys and over all queries. -/
module

public import proofs.«01_k».proof.Proof.ValInp

@[expose] public section

set_option maxRecDepth 16384

noncomputable section

namespace Cert.KernelIdeal.Attn

open Idealize.ShloMosaic Idealize.ShloMosaic.TcCoe
open Cert.KernelIdeal Cert.KernelIdeal.Gen
open scoped BigOperators

/-- Column `x` of head `H` among the columns of all heads. -/
def dc (H : Fin 4) (x : Fin 128) : Fin 512 := ⟨128 * H.val + x.val, by have := H.isLt; have := x.isLt; omega⟩

theorem cx_hd (g h : Fin 2) (x : Fin 128) : cx g (hd h x) = dc (hx g h) x :=
  Fin.ext (by show 256 * g.val + (128 * h.val + x.val) = 128 * (2 * g.val + h.val) + x.val; omega)

theorem sum_bx (f : Fin 8192 → EReal) : ∑ y, f y = ∑ i : Fin 8, ∑ r : Fin 1024, f (bx i r) := by
  rw [← Fintype.sum_prod_type']
  refine (Fintype.sum_equiv (finProdFinEquiv (m := 8) (n := 1024)) _ (fun y : Fin (8 * 1024) => f y) fun z => congrArg f (Fin.ext ?_)).symm
  show 1024 * z.1.val + z.2.val = z.2.val + 1024 * z.1.val
  omega

variable (V : (c : Dev nD) → (b : Ref sig .tc) → Buf (Elt Ideal) ((c.tc : Thread nD τ).loc b))

/-- The probability of key `k` at query `q`, zero where the key comes after. -/
def PG (c : Dev nD) (H : Fin 4) (k q : Fin 8192) : EReal :=
  if k ≤ q then Ideal.exp2 ((∑ x : Fin 128, gK V c (ix3 H k x) * gQ V c (ix3 H q x)) - gL V c (ix3 H 0 q)) else 0
/-- What it is multiplied by in the gradient of the score. -/
def UG (c : Dev nD) (H : Fin 4) (k q : Fin 8192) : EReal :=
  (∑ x : Fin 128, gV V c (ix3 H k x) * gD V c (ix2 q (dc H x))) - gE V c (ix3 H 0 q)

theorem bx_le (i : Fin 8) (k q : Fin 1024) : bx i k ≤ bx i q ↔ k ≤ q := by
  show 1024 * i.val + k.val ≤ 1024 * i.val + q.val ↔ k.val ≤ q.val; omega
theorem bx_lt (i j : Fin 8) (h : i < j) (k q : Fin 1024) : bx i k ≤ bx j q := by
  show 1024 * i.val + k.val ≤ 1024 * j.val + q.val
  have h' : i.val < j.val := h
  have := k.isLt; omega
theorem bx_gt (i j : Fin 8) (h : j < i) (k q : Fin 1024) : ¬ bx i k ≤ bx j q := by
  show ¬ 1024 * i.val + k.val ≤ 1024 * j.val + q.val
  have h' : j.val < i.val := h
  have := q.isLt; omega

theorem wB_eq (c : Dev nD) (t : Fin grid0.N) (h : Fin 2) (k q : Fin 1024) :
    wB (iT t) (jT t) (inp V c t.val t.isLt) h k q = PG V c (hx (gT t) h) (bx (iT t) k) (bx (jT t) q) := by
  have hp : pB (inp V c t.val t.isLt) h k q = Ideal.exp2 ((∑ x : Fin 128, gK V c (ix3 (hx (gT t) h) (bx (iT t) k) x) * gQ V c (ix3 (hx (gT t) h) (bx (jT t) q) x))
      - gL V c (ix3 (hx (gT t) h) 0 (bx (jT t) q))) := by
    unfold pB
    simp only [inp_q, inp_k, inp_l]
  unfold wB PG
  rw [hp]
  refine if_congr ?_ rfl rfl
  rcases lt_or_eq_of_le (le_tab (pC (grid0.coords t))) with hl | he
  · exact ⟨fun _ => bx_lt _ _ hl _ _, fun _ e => absurd e (ne_of_lt hl)⟩
  · have he' : iT t = jT t := he
    rw [he']
    exact ⟨fun e => (bx_le _ _ _).mpr (e rfl), fun e _ => (bx_le _ _ _).mp e⟩

theorem uB_eq (c : Dev nD) (t : Fin grid0.N) (h : Fin 2) (k q : Fin 1024) :
    uB (inp V c t.val t.isLt) h k q = UG V c (hx (gT t) h) (bx (iT t) k) (bx (jT t) q) := by
  unfold uB UG
  simp only [inp_v, inp_d, inp_e, cx_hd]

/-- What key block `i` gives the queries' gradient, what query block `j` gives the keys' and the values'. -/
def tT (c : Dev nD) (H : Fin 4) (x : Fin 128) (q : Fin 8192) (i : Fin 8) : EReal :=
  ∑ k : Fin 1024, gKT V c (ix3 H x (bx i k)) * (PG V c H (bx i k) q * UG V c H (bx i k) q)
def tK (c : Dev nD) (H : Fin 4) (x : Fin 128) (k : Fin 8192) (j : Fin 8) : EReal :=
  ∑ q : Fin 1024, (PG V c H k (bx j q) * UG V c H k (bx j q)) * gQ V c (ix3 H (bx j q) x)
def tV (c : Dev nD) (H : Fin 4) (x : Fin 128) (k : Fin 8192) (j : Fin 8) : EReal :=
  ∑ q : Fin 1024, PG V c H k (bx j q) * gD V c (ix2 (bx j q) (dc H x))

theorem col_eq (j : Fin 8) (a : Fin 2) (r : Fin 512) : col j a r = bx j (hf a r) := rfl

theorem acc_t (c : Dev nD) (t : Fin grid0.N) (h : Fin 2) (x : Fin 128) (j' : Fin 8) (a : Fin 2) (r : Fin 512) :
    (acc V c (t.val + 1)).t (ix3 h x (bx j' (hf a r))) = (if t.val % 36 = 0 then 0 else (acc V c t.val).t (ix3 h x (bx j' (hf a r))))
      + if j' = jT t then tT V c (hx (gT t) h) x (bx j' (hf a r)) (iT t) else 0 := by
  rw [acc_succ, ← col_eq, body_t _ _ _ (le_tab _), cond1_val]
  refine congrArg₂ (· + ·) (if_congr decide_eq_true_iff rfl rfl) ?_
  by_cases hj : j' = jT t
  · rw [if_pos hj, if_pos hj]
    unfold tT
    subst hj
    simp only [inp_kt, wB_eq, uB_eq, col_eq]
  · rw [if_neg hj, if_neg hj]

theorem acc_k (c : Dev nD) (t : Fin grid0.N) (h b : Fin 2) (r : Fin 512) (x : Fin 128) :
    (acc V c (t.val + 1)).k (ix3 h (hf b r) x) = (if iT t = jT t then 0 else (acc V c t.val).k (ix3 h (hf b r) x))
      + tK V c (hx (gT t) h) x (bx (iT t) (hf b r)) (jT t) := by
  rw [acc_succ, body_k _ _ _ (le_tab _)]
  refine congrArg₂ (· + ·) rfl ?_
  unfold tK
  simp only [inp_q, wB_eq, uB_eq]

theorem acc_v (c : Dev nD) (t : Fin grid0.N) (h b : Fin 2) (r : Fin 512) (x : Fin 128) :
    (acc V c (t.val + 1)).v (ix3 h (hf b r) x) = (if iT t = jT t then 0 else (acc V c t.val).v (ix3 h (hf b r) x))
      + tV V c (hx (gT t) h) x (bx (iT t) (hf b r)) (jT t) := by
  rw [acc_succ, body_v _ _ _ (le_tab _)]
  refine congrArg₂ (· + ·) rfl ?_
  unfold tV
  simp only [inp_d, wB_eq, cx_hd]

/-- A value reset at `a` and added to after it is a sum from `a` on. -/
theorem sum_from (f u : ℕ → EReal) (a : ℕ) (h0 : f (a + 1) = 0 + u a) : ∀ m : ℕ, (∀ l, l < m → f (a + (l + 1) + 1) = f (a + (l + 1)) + u (a + (l + 1))) →
    f (a + m + 1) = ∑ l : Fin (m + 1), u (a + l.val)
  | 0, _ => by simpa using h0
  | m + 1, hs => by
    rw [Fin.sum_univ_castSucc, show a + (m + 1) + 1 = a + (m + 1) + 1 from rfl, hs m (Nat.lt_succ_self m)]
    exact congrArg₂ (· + ·) (sum_from f u a h0 m fun l hl => hs l (Nat.lt_succ_of_lt hl)) rfl

end Cert.KernelIdeal.Attn
end
-- ==== Proof.ValEnd.lean ====
/- The accumulators at the points where they are written back. -/
module

public import proofs.«01_k».proof.Proof.ValSum

@[expose] public section

set_option maxRecDepth 16384

noncomputable section

namespace Cert.KernelIdeal.Attn

open Idealize.ShloMosaic Idealize.ShloMosaic.TcCoe
open Cert.KernelIdeal Cert.KernelIdeal.Gen
open scoped BigOperators

theorem pairs_img : ∀ j : Fin 8, (Finset.univ.filter (fun l : Fin 36 => j = jL l)).image iL = Finset.univ.filter (fun i : Fin 8 => i ≤ j) := by decide +kernel
theorem pairs_inj : ∀ l m : Fin 36, iL l = iL m → jL l = jL m → l = m := by decide +kernel

theorem sum_pairs (j : Fin 8) (f : Fin 8 → EReal) (hf : ∀ i, j < i → f i = 0) :
    (∑ l : Fin 36, if j = jL l then f (iL l) else 0) = ∑ i, f i := by
  rw [← Finset.sum_filter, ← Finset.sum_image (f := f) (g := iL) (fun l hl m hm e => ?_), pairs_img, Finset.sum_filter]
  · refine Finset.sum_congr rfl fun i _ => ?_
    by_cases h : i ≤ j
    · rw [if_pos h]
    · rw [if_neg h, hf i (not_le.mp h)]
  · have hl' := (Finset.mem_filter.mp (Finset.mem_coe.mp hl)).2
    have hm' := (Finset.mem_filter.mp (Finset.mem_coe.mp hm)).2
    exact pairs_inj l m e (hl'.symm.trans hm')

theorem sum_after (i : Fin 8) (f : ℕ → EReal) (hf : ∀ n, n < i.val → f n = 0) :
    (∑ l : Fin (7 - i.val + 1), f (i.val + l.val)) = ∑ j : Fin 8, f j.val := by
  rw [Fin.sum_univ_eq_sum_range (fun l => f (i.val + l)), Fin.sum_univ_eq_sum_range (fun l => f l)]
  have hi := i.isLt
  have key : ∀ n m : ℕ, n + m = 8 → (∀ k, k < n → f k = 0) → ∑ l ∈ Finset.range m, f (n + l) = ∑ l ∈ Finset.range 8, f l := fun n m h h0 => by
    rw [← h, Finset.sum_range_add, Finset.sum_eq_zero (s := Finset.range n) (fun k hk => h0 k (Finset.mem_range.mp hk)), zero_add]
  exact key _ _ (by omega) hf

/-- The points of a key block's run that ends at point `p`. -/
theorem run_pairs : ∀ p : Fin 36, jL p = 7 → ∀ l : Fin 8, (iL p).val + l.val ≤ 7 →
    ∃ p' : Fin 36, p'.val + (7 - (iL p).val) = p.val + l.val ∧ iL p' = iL p ∧ (jL p').val = (iL p).val + l.val := by decide +kernel

variable (V : (c : Dev nD) → (b : Ref sig .tc) → Buf (Elt Ideal) ((c.tc : Thread nD τ).loc b))

theorem tT_zero (c : Dev nD) (H : Fin 4) (x : Fin 128) (j i : Fin 8) (r : Fin 1024) (h : j < i) : tT V c H x (bx j r) i = 0 := by
  unfold tT PG
  exact Finset.sum_eq_zero fun k _ => by rw [if_neg (bx_gt i j h k r), zero_mul, mul_zero]
theorem tK_zero (c : Dev nD) (H : Fin 4) (x : Fin 128) (i j : Fin 8) (r : Fin 1024) (h : j < i) : tK V c H x (bx i r) j = 0 := by
  unfold tK PG
  exact Finset.sum_eq_zero fun k _ => by rw [if_neg (bx_gt i j h r k), zero_mul, zero_mul]
theorem tV_zero (c : Dev nD) (H : Fin 4) (x : Fin 128) (i j : Fin 8) (r : Fin 1024) (h : j < i) : tV V c H x (bx i r) j = 0 := by
  unfold tV PG
  exact Finset.sum_eq_zero fun k _ => by rw [if_neg (bx_gt i j h r k), zero_mul]

theorem end_t (c : Dev nD) (t : Fin grid0.N) (ht : t.val % 36 = 35) (h : Fin 2) (x : Fin 128) (j' : Fin 8) (a : Fin 2) (r : Fin 512) :
    (acc V c (t.val + 1)).t (ix3 h x (bx j' (hf a r)))
      = ∑ y : Fin 8192, gKT V c (ix3 (hx (gT t) h) x y) * (PG V c (hx (gT t) h) y (bx j' (hf a r)) * UG V c (hx (gT t) h) y (bx j' (hf a r))) := by
  have htN : t.val < 72 := t.isLt
  let u : ℕ → EReal := fun n => if hn : n < grid0.N then (if j' = jT ⟨n, hn⟩ then tT V c (hx (gT ⟨n, hn⟩) h) x (bx j' (hf a r)) (iT ⟨n, hn⟩) else 0) else 0
  have hstep : ∀ n, n < 72 → (acc V c (n + 1)).t (ix3 h x (bx j' (hf a r))) = (if n % 36 = 0 then 0 else (acc V c n).t (ix3 h x (bx j' (hf a r)))) + u n := fun n hn => by
    have := acc_t V c ⟨n, hn⟩ h x j' a r
    rw [this]
    show _ = _ + dite _ _ _
    rw [dif_pos (show n < grid0.N from hn)]
  have hsum := sum_from (fun n => (acc V c n).t (ix3 h x (bx j' (hf a r)))) u (t.val - 35)
    (by have := hstep (t.val - 35) (by omega); rw [if_pos (by omega)] at this; exact this) 35
    (fun l hl => by have := hstep (t.val - 35 + (l + 1)) (by omega); rw [if_neg (by omega)] at this; exact this)
  have hn : t.val - 35 + 35 + 1 = t.val + 1 := by omega
  have hu : ∀ l : Fin 36, u (t.val - 35 + l.val) = if j' = jL l then tT V c (hx (gT t) h) x (bx j' (hf a r)) (iL l) else 0 := fun l => by
    have hl := l.isLt
    have hN : t.val - 35 + l.val < grid0.N := by show _ < 72; omega
    show dite _ _ _ = _
    rw [dif_pos hN]
    have hp : pC (grid0.coords ⟨t.val - 35 + l.val, hN⟩) = l := Fin.ext ((pC_val _).trans (by show (t.val - 35 + l.val) % 36 = l.val; omega))
    have hg : gC (grid0.coords ⟨t.val - 35 + l.val, hN⟩) = gC (grid0.coords t) :=
      Fin.ext ((gC_val _).trans ((show (t.val - 35 + l.val) / 36 = t.val / 36 by omega).trans (gC_val t).symm))
    unfold iT jT gT
    rw [hp, hg]
  rw [sum_bx]
  refine ((congrArg (fun n => (acc V c n).t (ix3 h x (bx j' (hf a r)))) hn).symm.trans hsum).trans ?_
  refine (Finset.sum_congr rfl fun l _ => hu l).trans ?_
  exact sum_pairs j' (fun i => tT V c (hx (gT t) h) x (bx j' (hf a r)) i) fun i hi => tT_zero V c _ x j' i _ hi

/-- A value that a key block's first point resets and its others add to, at the block's last point. -/
theorem end_run (t : Fin grid0.N) (ht : jT t = 7) (f : ℕ → EReal) (w : Fin 2 → Fin 8 → Fin 8 → EReal)
    (hs : ∀ s : Fin grid0.N, f (s.val + 1) = (if iT s = jT s then 0 else f s.val) + w (gT s) (iT s) (jT s))
    (hw : ∀ j, j < iT t → w (gT t) (iT t) j = 0) : f (t.val + 1) = ∑ j, w (gT t) (iT t) j := by
  have htN : t.val < 72 := t.isLt
  have hi := (iT t).isLt
  have hpv : (pC (grid0.coords t)).val = t.val % 36 := pC_val t
  have hle : 7 - (iT t).val ≤ t.val % 36 := by
    obtain ⟨p', h1', _, _⟩ := run_pairs (pC (grid0.coords t)) ht 0 (by show (iT t).val + 0 ≤ 7; omega)
    have h1'' : p'.val + (7 - (iT t).val) = t.val % 36 + 0 := by rw [← hpv]; exact h1'
    have hp0 : p'.val + (7 - (iT t).val) = t.val % 36 := h1''
    omega
  have hpt : ∀ l : ℕ, l ≤ 7 - (iT t).val → ∃ s : Fin grid0.N, s.val = t.val - (7 - (iT t).val) + l ∧ gT s = gT t ∧ iT s = iT t ∧ (jT s).val = (iT t).val + l := fun l hl => by
    obtain ⟨p', h1, h2, h3⟩ := run_pairs (pC (grid0.coords t)) ht ⟨l, by omega⟩ (by show (iT t).val + l ≤ 7; omega)
    have h1' : p'.val + (7 - (iT t).val) = t.val % 36 + l := by rw [← hpv]; exact h1
    have hp' := p'.isLt
    have hN : t.val - (7 - (iT t).val) + l < grid0.N := by show _ < 72; omega
    have hp : pC (grid0.coords ⟨t.val - (7 - (iT t).val) + l, hN⟩) = p' :=
      Fin.ext ((pC_val _).trans (by show (t.val - (7 - (iT t).val) + l) % 36 = p'.val; omega))
    have hg : gC (grid0.coords ⟨t.val - (7 - (iT t).val) + l, hN⟩) = gC (grid0.coords t) :=
      Fin.ext ((gC_val _).trans ((show (t.val - (7 - (iT t).val) + l) / 36 = t.val / 36 by omega).trans (gC_val t).symm))
    refine ⟨⟨_, hN⟩, rfl, hg, ?_, ?_⟩
    · unfold iT; rw [hp]; exact h2
    · unfold jT; rw [hp]; exact h3
  let u : ℕ → EReal := fun n => if hn : n < grid0.N then w (gT ⟨n, hn⟩) (iT ⟨n, hn⟩) (jT ⟨n, hn⟩) else 0
  let v : ℕ → EReal := fun n => if hn : n < 8 then w (gT t) (iT t) ⟨n, hn⟩ else 0
  have hu : ∀ l : ℕ, l ≤ 7 - (iT t).val → u (t.val - (7 - (iT t).val) + l) = v ((iT t).val + l) := fun l hl => by
    obtain ⟨s, h1, h2, h3, h4⟩ := hpt l hl
    rw [← h1, ← h4]
    show dite _ _ _ = dite _ _ _
    rw [dif_pos s.isLt, dif_pos (jT s).isLt]
    show w (gT s) (iT s) (jT s) = w (gT t) (iT t) (jT s)
    rw [h2, h3]
  have hst : ∀ l : ℕ, l ≤ 7 - (iT t).val → f (t.val - (7 - (iT t).val) + l + 1) = (if l = 0 then 0 else f (t.val - (7 - (iT t).val) + l)) + u (t.val - (7 - (iT t).val) + l) := fun l hl => by
    obtain ⟨s, h1, h2, h3, h4⟩ := hpt l hl
    rw [← h1, hs s]
    refine congrArg₂ (· + ·) (if_congr ?_ rfl rfl) ?_
    · rw [Fin.ext_iff, h4, h3]; omega
    · show _ = dite _ _ _
      rw [dif_pos s.isLt]
  have hsum := sum_from f u (t.val - (7 - (iT t).val)) (by have := hst 0 (Nat.zero_le _); rw [if_pos rfl] at this; exact this) (7 - (iT t).val)
    (fun l hl => by have := hst (l + 1) (by omega); rw [if_neg (Nat.succ_ne_zero l)] at this; exact this)
  rw [show t.val - (7 - (iT t).val) + (7 - (iT t).val) + 1 = t.val + 1 by omega] at hsum
  rw [hsum]
  refine (Finset.sum_congr rfl fun l _ => hu l.val (by have := l.isLt; omega)).trans ?_
  refine (sum_after (iT t) v fun n hn => ?_).trans (Finset.sum_congr rfl fun j _ => dif_pos j.isLt)
  show dite _ _ _ = _
  rw [dif_pos (by omega)]
  exact hw _ hn

theorem end_k (c : Dev nD) (t : Fin grid0.N) (ht : jT t = 7) (h b : Fin 2) (r : Fin 512) (x : Fin 128) :
    (acc V c (t.val + 1)).k (ix3 h (hf b r) x)
      = ∑ y : Fin 8192, (PG V c (hx (gT t) h) (bx (iT t) (hf b r)) y * UG V c (hx (gT t) h) (bx (iT t) (hf b r)) y) * gQ V c (ix3 (hx (gT t) h) y x) := by
  rw [sum_bx]
  exact end_run t ht (fun n => (acc V c n).k (ix3 h (hf b r) x)) (fun g i j => tK V c (hx g h) x (bx i (hf b r)) j)
    (fun s => acc_k V c s h b r x) fun j hj => tK_zero V c _ x _ _ _ hj

theorem end_v (c : Dev nD) (t : Fin grid0.N) (ht : jT t = 7) (h b : Fin 2) (r : Fin 512) (x : Fin 128) :
    (acc V c (t.val + 1)).v (ix3 h (hf b r) x)
      = ∑ y : Fin 8192, PG V c (hx (gT t) h) (bx (iT t) (hf b r)) y * gD V c (ix2 y (dc (hx (gT t) h) x)) := by
  rw [sum_bx]
  exact end_run t ht (fun n => (acc V c n).v (ix3 h (hf b r) x)) (fun g i j => tV V c (hx g h) x (bx i (hf b r)) j)
    (fun s => acc_v V c s h b r x) fun j hj => tV_zero V c _ x _ _ _ hj

end Cert.KernelIdeal.Attn
end
-- ==== Proof.ValArr.lean ====
/- The three results' whole arrays after the call. -/
module

public import proofs.«01_k».proof.Proof.ValEnd

@[expose] public section

set_option maxRecDepth 65536

noncomputable section

namespace Cert.KernelIdeal.Attn

open Idealize.ShloMosaic Idealize.ShloMosaic.TcCoe
open Cert.KernelIdeal Cert.KernelIdeal.Gen
open scoped BigOperators

theorem ends7 : ∀ g : Fin 2, ∃ t : Fin grid0.N, t.val % 36 = 35 ∧ (gC (grid0.coords t)).val = g.val := by decide +kernel
theorem ends8 : ∀ (g : Fin 2) (i : Fin 8), ∃ t : Fin grid0.N, jL (pC (grid0.coords t)) = 7 ∧ (gC (grid0.coords t)).val = g.val ∧ (iL (pC (grid0.coords t))).val = i.val := by decide +kernel

theorem covers7 : ((cfgA (F := Ideal)).win 7).Covers := by
  refine ⟨by decide, fun β => ?_⟩
  obtain ⟨t, h1, h2⟩ := ends7 (β (0 : Fin 3))
  refine ⟨t, (flush7 t).trans (decide_eq_true h1), fun a => ⟨?_, .inl rfl⟩⟩
  rw [index7]
  match a with
  | ⟨0, _⟩ => exact h2
  | ⟨1, _⟩ => have := (β (1 : Fin 3)).isLt; exact (Nat.lt_one_iff.mp this).symm
  | ⟨2, _⟩ => have := (β (2 : Fin 3)).isLt; exact (Nat.lt_one_iff.mp this).symm
theorem covers8 : ((cfgA (F := Ideal)).win 8).Covers := by
  refine ⟨by decide, fun β => ?_⟩
  obtain ⟨t, h1, h2, h3⟩ := ends8 (β (0 : Fin 3)) (β (1 : Fin 3))
  refine ⟨t, (flush8 t).trans (decide_eq_true h1), fun a => ⟨?_, .inl rfl⟩⟩
  rw [index8]
  match a with
  | ⟨0, _⟩ => exact h2
  | ⟨1, _⟩ => exact h3
  | ⟨2, _⟩ => have := (β (2 : Fin 3)).isLt; exact (Nat.lt_one_iff.mp this).symm
theorem covers9 : ((cfgA (F := Ideal)).win 9).Covers := by
  refine ⟨by decide, fun β => ?_⟩
  obtain ⟨t, h1, h2, h3⟩ := ends8 (β (0 : Fin 3)) (β (1 : Fin 3))
  refine ⟨t, (flush9 t).trans (decide_eq_true h1), fun a => ⟨?_, .inl rfl⟩⟩
  rw [index9]
  match a with
  | ⟨0, _⟩ => exact h2
  | ⟨1, _⟩ => exact h3
  | ⟨2, _⟩ => have := (β (2 : Fin 3)).isLt; exact (Nat.lt_one_iff.mp this).symm

variable (V : (c : Dev nD) → (b : Ref sig .tc) → Buf (Elt Ideal) ((c.tc : Thread nD τ).loc b))

/-- The queries', the keys' and the values' gradients of the arrays that the call reads. -/
def rT (c : Dev nD) (H : Fin 4) (x : Fin 128) (q : Fin 8192) : EReal := ∑ y : Fin 8192, gKT V c (ix3 H x y) * (PG V c H y q * UG V c H y q)
def rK (c : Dev nD) (H : Fin 4) (k : Fin 8192) (x : Fin 128) : EReal := (∑ y : Fin 8192, (PG V c H k y * UG V c H k y) * gQ V c (ix3 H y x)) * ((Real.log 2 : ℝ) : EReal)
def rV (c : Dev nD) (H : Fin 4) (k : Fin 8192) (x : Fin 128) : EReal := ∑ y : Fin 8192, PG V c H k y * gD V c (ix2 y (dc H x))

theorem exists_hf (r : Fin 1024) : ∃ a b, r = hf a b :=
  ⟨⟨r.val / 512, by have := r.isLt; omega⟩, ⟨r.val % 512, Nat.mod_lt _ (by norm_num)⟩, Fin.ext (by show r.val = 512 * (r.val / 512) + r.val % 512; omega)⟩
theorem exists_bx (r : Fin 8192) : ∃ a b, r = bx a b :=
  ⟨⟨r.val / 1024, by have := r.isLt; omega⟩, ⟨r.val % 1024, Nat.mod_lt _ (by norm_num)⟩, Fin.ext (by show r.val = 1024 * (r.val / 1024) + r.val % 1024; omega)⟩

theorem arr7 (c : Dev nD) : (dat0 V c).arrAt 7 (cfgA (F := Ideal)).N = (fun i => rT V c (i (0 : Fin 3)) (i (1 : Fin 3)) (i (2 : Fin 3)) : Vec Ideal S4x128x8192 .f32) := by
  refine (dat0 V c).arrAt_eq_of_covers 7 _ covers7 fun t hf' y => ?_
  rw [flush7] at hf'
  obtain ⟨j', r', hq⟩ := exists_bx (y (2 : Fin 3))
  obtain ⟨a, r, rfl⟩ := exists_hf r'
  have key := end_t V c t (of_decide_eq_true hf') (y (0 : Fin 3)) (y (1 : Fin 3)) j' a r
  have hy : y = ix3 (y (0 : Fin 3)) (y (1 : Fin 3)) (bx j' (hf a r)) := by
    rw [← hq]; exact funext fun b => match b with | ⟨0, _⟩ => rfl | ⟨1, _⟩ => rfl | ⟨2, _⟩ => rfl
  refine Eq.trans (congrArg (acc V c (t.val + 1)).t hy) (key.trans ?_)
  have e : ∀ b, _ := fun b => congrFun (index7 (F := Ideal) t) b
  show rT V c (hx (gT t) (y (0 : Fin 3))) (y (1 : Fin 3)) (bx j' (hf a r)) = rT V c _ _ _
  congr 1
  · refine Fin.ext ?_
    blk_simp
    refine Eq.trans ?_ (congrArg (fun n : ℕ => n * _ + _) (e (0 : Fin 3)).symm)
    show 2 * (gT t).val + (y (0 : Fin 3)).val = (gT t).val * 2 + (y (0 : Fin 3)).val; omega
  · refine Fin.ext ?_
    blk_simp
    refine Eq.trans ?_ (congrArg (fun n : ℕ => n * _ + _) (e (1 : Fin 3)).symm)
    show (y (1 : Fin 3)).val = 0 * 128 + (y (1 : Fin 3)).val; omega
  · rw [← hq]
    refine Fin.ext ?_
    blk_simp
    refine Eq.trans ?_ (congrArg (fun n : ℕ => n * _ + _) (e (2 : Fin 3)).symm)
    show (y (2 : Fin 3)).val = 0 * 8192 + (y (2 : Fin 3)).val; omega

theorem arr8 (c : Dev nD) : (dat0 V c).arrAt 8 (cfgA (F := Ideal)).N = (fun i => rK V c (i (0 : Fin 3)) (i (1 : Fin 3)) (i (2 : Fin 3)) : Vec Ideal S4x8192x128 .f32) := by
  refine (dat0 V c).arrAt_eq_of_covers 8 _ covers8 fun t hf' y => ?_
  rw [flush8] at hf'
  obtain ⟨b, r, hq⟩ := exists_hf (y (1 : Fin 3))
  have key := end_k V c t (of_decide_eq_true hf') (y (0 : Fin 3)) b r (y (2 : Fin 3))
  have hy : y = ix3 (y (0 : Fin 3)) (hf b r) (y (2 : Fin 3)) := by
    rw [← hq]; exact funext fun b => match b with | ⟨0, _⟩ => rfl | ⟨1, _⟩ => rfl | ⟨2, _⟩ => rfl
  refine Eq.trans (congrArg (k0_pay4 (acc V c (t.val + 1)).k) hy) ((pay4_at _ _).trans ((congrArg (· * ((Real.log 2 : ℝ) : EReal)) key).trans ?_))
  have e : ∀ b, _ := fun b => congrFun (index8 (F := Ideal) t) b
  show rK V c (hx (gT t) (y (0 : Fin 3))) (bx (iT t) (hf b r)) (y (2 : Fin 3)) = rK V c _ _ _
  congr 1
  · refine Fin.ext ?_
    blk_simp
    refine Eq.trans ?_ (congrArg (fun n : ℕ => n * _ + _) (e (0 : Fin 3)).symm)
    show 2 * (gT t).val + (y (0 : Fin 3)).val = (gT t).val * 2 + (y (0 : Fin 3)).val; omega
  · rw [← hq]
    refine Fin.ext ?_
    blk_simp
    refine Eq.trans ?_ (congrArg (fun n : ℕ => n * _ + _) (e (1 : Fin 3)).symm)
    show 1024 * (iT t).val + (y (1 : Fin 3)).val = (iT t).val * 1024 + (y (1 : Fin 3)).val; omega
  · refine Fin.ext ?_
    blk_simp
    refine Eq.trans ?_ (congrArg (fun n : ℕ => n * _ + _) (e (2 : Fin 3)).symm)
    show (y (2 : Fin 3)).val = 0 * 128 + (y (2 : Fin 3)).val; omega

theorem arr9 (c : Dev nD) : (dat0 V c).arrAt 9 (cfgA (F := Ideal)).N = (fun i => rV V c (i (0 : Fin 3)) (i (1 : Fin 3)) (i (2 : Fin 3)) : Vec Ideal S4x8192x128 .f32) := by
  refine (dat0 V c).arrAt_eq_of_covers 9 _ covers9 fun t hf' y => ?_
  rw [flush9] at hf'
  obtain ⟨b, r, hq⟩ := exists_hf (y (1 : Fin 3))
  have key := end_v V c t (of_decide_eq_true hf') (y (0 : Fin 3)) b r (y (2 : Fin 3))
  have hy : y = ix3 (y (0 : Fin 3)) (hf b r) (y (2 : Fin 3)) := by
    rw [← hq]; exact funext fun b => match b with | ⟨0, _⟩ => rfl | ⟨1, _⟩ => rfl | ⟨2, _⟩ => rfl
  refine Eq.trans (congrArg (acc V c (t.val + 1)).v hy) (key.trans ?_)
  have e : ∀ b, _ := fun b => congrFun (index9 (F := Ideal) t) b
  show rV V c (hx (gT t) (y (0 : Fin 3))) (bx (iT t) (hf b r)) (y (2 : Fin 3)) = rV V c _ _ _
  congr 1
  · refine Fin.ext ?_
    blk_simp
    refine Eq.trans ?_ (congrArg (fun n : ℕ => n * _ + _) (e (0 : Fin 3)).symm)
    show 2 * (gT t).val + (y (0 : Fin 3)).val = (gT t).val * 2 + (y (0 : Fin 3)).val; omega
  · rw [← hq]
    refine Fin.ext ?_
    blk_simp
    refine Eq.trans ?_ (congrArg (fun n : ℕ => n * _ + _) (e (1 : Fin 3)).symm)
    show 1024 * (iT t).val + (y (1 : Fin 3)).val = (iT t).val * 1024 + (y (1 : Fin 3)).val; omega
  · refine Fin.ext ?_
    blk_simp
    refine Eq.trans ?_ (congrArg (fun n : ℕ => n * _ + _) (e (2 : Fin 3)).symm)
    show (y (2 : Fin 3)).val = 0 * 128 + (y (2 : Fin 3)).val; omega

end Cert.KernelIdeal.Attn
end
-- ==== Proof.ValHost.lean ====
/- What the host's operations before the call compute, read at an index. -/
module

public import proofs.«01_k».proof.Proof.Run
public import proofs.«01_k».proof.Proof.ValArr

@[expose] public section

set_option maxRecDepth 16384

noncomputable section

namespace Cert.KernelIdeal.Attn

open Idealize.ShloMosaic Idealize.ShloMosaic.TcCoe
open Cert.KernelIdeal Cert.KernelIdeal.Gen Cert.KernelIdeal.Facts
open scoped BigOperators

/-- The masked scores. -/
def hS (a b : Vec Ideal S4x8192x128 .f32) : Vec Ideal S4x8192x8192 .f32 :=
  select (broadcastInDim S4x8192x8192 ![0, 1, 2] bcast_S1x8192x8192_S4x8192x8192_0_1_2
      (broadcastInDim S1x8192x8192 ![1, 2] bcast_S8192x8192_S1x8192x8192_1_2
        (cmpi .sle (broadcastInDim S8192x8192 ![0, 1] bcast_S1x8192_S8192x8192_0_1 (broadcastInDim S1x8192 ![1] bcast_S8192_S1x8192_1 (iotaInDim S8192 32 0)))
          (broadcastInDim S8192x8192 ![0, 1] bcast_S8192x1_S8192x8192_0_1 (broadcastInDim S8192x1 ![0] bcast_S8192_S8192x1_0 (iotaInDim S8192 32 0))))))
    (Host.dotGeneral (F := Ideal) (φ₁ := .f32) (φ₂ := .f32) dot_S4x8192x128_S4x8192x128_S4x8192x8192_2_2_1_1_0_0 none a b)
    (broadcastInDim S4x8192x8192 ![] bcast_S_S4x8192x8192 (id (constant (F := Ideal) S_ .f32 0xFF800000#32)))

/-- Their largest along the keys. -/
def hM (s : Vec Ideal S4x8192x8192 .f32) : Vec Ideal S4x8192 .f32 :=
  Host.reduce (FloatOps.maximumf (F := Ideal) (φ := .f32)) s (constant (F := Ideal) S_ .f32 0xFF800000#32) reducesTo_S4x8192x8192_S4x8192_d2 h_S_

/-- The exponentials of what is left of the scores. -/
def hX (s : Vec Ideal S4x8192x8192 .f32) (mx : Vec Ideal S4x8192 .f32) : Vec Ideal S4x8192x8192 .f32 :=
  Host.exp (F := Ideal) (φ := .f32) (subf s (broadcastInDim S4x8192x8192 ![0, 1, 2] bcast_S4x8192x1_S4x8192x8192_0_1_2 (broadcastInDim S4x8192x1 ![0, 1] bcast_S4x8192_S4x8192x1_0_1 mx)))

/-- Their sums. -/
def hN (x : Vec Ideal S4x8192x8192 .f32) : Vec Ideal S4x8192 .f32 :=
  Host.reduceAdd (F := Ideal) (φ := .f32) x (constant (F := Ideal) S_ .f32 0x00000000#32) reducesTo_S4x8192x8192_S4x8192_d2 h_S_

/-- The logarithm of the softmax's denominator, in base 2. -/
def hL (mx n : Vec Ideal S4x8192 .f32) : Vec Ideal S4x1x8192 .f32 :=
  broadcastInDim S4x1x8192 ![0, 2] bcast_S4x8192_S4x1x8192_0_2
    (Host.divf (F := Ideal) (φ := .f32) (addf mx (Host.log (F := Ideal) (φ := .f32) n)) (broadcastInDim S4x8192 ![] bcast_S_S4x8192 (Host.log (F := Ideal) (φ := .f32) (constant (F := Ideal) S_ .f32 0x40000000#32))))

/-- The attention's output. -/
def hO (x : Vec Ideal S4x8192x8192 .f32) (n : Vec Ideal S4x8192 .f32) (v : Vec Ideal S4x8192x128 .f32) : Vec Ideal S4x8192x128 .f32 :=
  Host.dotGeneral (F := Ideal) (φ₁ := .f32) (φ₂ := .f32) dot_S4x8192x8192_S4x8192x128_S4x8192x128_2_1_1_2_0_0 none
    (Host.divf (F := Ideal) (φ := .f32) x (broadcastInDim S4x8192x8192 ![0, 1, 2] bcast_S4x8192x1_S4x8192x8192_0_1_2 (broadcastInDim S4x8192x1 ![0, 1] bcast_S4x8192_S4x8192x1_0_1 n))) v

/-- The output against its gradient. -/
def hE (d : Vec Ideal S8192x512 .f32) (o : Vec Ideal S4x8192x128 .f32) : Vec Ideal S4x1x8192 .f32 :=
  broadcastInDim S4x1x8192 ![0, 2] bcast_S4x8192_S4x1x8192_0_2
    (Host.reduceAdd (F := Ideal) (φ := .f32) (mulf (transpose S4x8192x128 [1, 0, 2] (shapeCast S8192x4x128 d shapeCasts_S8192x512_S8192x4x128) transposes_S8192x4x128_S4x8192x128_1_0_2) o)
      (constant (F := Ideal) S_ .f32 0x00000000#32) reducesTo_S4x8192x128_S4x8192_d2 h_S_)

def hQ (a : Vec Ideal S4x8192x128 .f32) : Vec Ideal S4x8192x128 .bf16 :=
  truncf (F := Ideal) (φ := .f32) .bf16 (Host.divf (F := Ideal) (φ := .f32) a (broadcastInDim S4x8192x128 ![] bcast_S_S4x8192x128 (Host.log (F := Ideal) (φ := .f32) (constant (F := Ideal) S_ .f32 0x40000000#32)))) bitsLt_bf16_f32

variable (m : (ℓ : Loc nD τ sig) → Buf (Elt Ideal) ℓ)

abbrev A0 (c : Dev nD) : Vec Ideal S4x8192x128 .f32 := m ((c.tc : Thread nD τ).loc main_arg0)
abbrev A1 (c : Dev nD) : Vec Ideal S4x8192x128 .f32 := m ((c.tc : Thread nD τ).loc main_arg1)
abbrev A2 (c : Dev nD) : Vec Ideal S4x8192x128 .f32 := m ((c.tc : Thread nD τ).loc main_arg2)
abbrev A3 (c : Dev nD) : Vec Ideal S8192x512 .f32 := m ((c.tc : Thread nD τ).loc main_arg3)
abbrev AX (c : Dev nD) := hX (hS (A0 m c) (A1 m c)) (hM (hS (A0 m c) (A1 m c)))

theorem entry_q (c : Dev nD) : entry m c main_v31 = hQ (A0 m c) := by
  show StableHlo.after (opss (F := Ideal)).flatten (fun b => m (c, b)) (Proc.devRef .tc main_v31) = _
  after_reads_simp
  rfl
theorem entry_kt (c : Dev nD) : entry m c main_v33 = (truncf (F := Ideal) (φ := .f32) .bf16 (transpose S4x128x8192 [0, 2, 1] (A1 m c) transposes_S4x8192x128_S4x128x8192_0_2_1) bitsLt_bf16_f32 : Vec Ideal S4x128x8192 .bf16) := by
  show StableHlo.after (opss (F := Ideal)).flatten (fun b => m (c, b)) (Proc.devRef .tc main_v33) = _
  after_reads_simp
theorem entry_k (c : Dev nD) : entry m c main_v34 = (truncf (F := Ideal) (φ := .f32) .bf16 (A1 m c) bitsLt_bf16_f32 : Vec Ideal S4x8192x128 .bf16) := by
  show StableHlo.after (opss (F := Ideal)).flatten (fun b => m (c, b)) (Proc.devRef .tc main_v34) = _
  after_reads_simp
theorem entry_v (c : Dev nD) : entry m c main_v35 = (truncf (F := Ideal) (φ := .f32) .bf16 (A2 m c) bitsLt_bf16_f32 : Vec Ideal S4x8192x128 .bf16) := by
  show StableHlo.after (opss (F := Ideal)).flatten (fun b => m (c, b)) (Proc.devRef .tc main_v35) = _
  after_reads_simp
theorem entry_l (c : Dev nD) : entry m c main_v36 = hL (hM (hS (A0 m c) (A1 m c))) (hN (AX m c)) := by
  show StableHlo.after (opss (F := Ideal)).flatten (fun b => m (c, b)) (Proc.devRef .tc main_v36) = _
  after_reads_simp
  rfl
theorem entry_e (c : Dev nD) : entry m c main_v37 = hE (A3 m c) (hO (AX m c) (hN (AX m c)) (A2 m c)) := by
  show StableHlo.after (opss (F := Ideal)).flatten (fun b => m (c, b)) (Proc.devRef .tc main_v37) = _
  after_reads_simp
  rfl

/-- The logarithm of 2. -/
def lg : EReal := Ideal.log ((2 : ℝ) : EReal)

theorem two_eq : Ideal.ofBits .f32 0x40000000#32 = ((2 : ℝ) : EReal) := by
  simp [Ideal.ofBits, Ideal.ieee]
  rw [← EReal.coe_mul]
  norm_num
theorem ninf_eq : Ideal.ofBits .f32 0xFF800000#32 = ⊥ := by
  simp [Ideal.ofBits, Ideal.ieee]

theorem hS_at (a b : Vec Ideal S4x8192x128 .f32) (h : Fin 4) (q k : Fin 8192) :
    hS a b (ix3 h q k) = if k ≤ q then ∑ x : Fin 128, a (ix3 h q x) * b (ix3 h k x) else ⊥ := by
  pointwise [hS]
  have hh := WordCmp.cmpi_sle_ofNat_eq_one_iff (w := 32) (a := k.val) (b := q.val) (by have := k.isLt; omega) (by have := q.isLt; omega)
  unfold Scalar.select
  exact if_congr (hh.trans Iff.rfl) rfl ninf_eq
theorem hM_at (s : Vec Ideal S4x8192x8192 .f32) (h : Fin 4) (q : Fin 8192) :
    hM s (ix2 h q) = Finset.univ.fold max ⊥ (fun k : Fin 8192 => s (ix3 h q k)) := by
  pointwise [hM]
  rw [ninf_eq]
theorem hX_at (s : Vec Ideal S4x8192x8192 .f32) (mx : Vec Ideal S4x8192 .f32) (h : Fin 4) (q k : Fin 8192) :
    hX s mx (ix3 h q k) = Ideal.exp (s (ix3 h q k) - mx (ix2 h q)) := by
  pointwise [hX]
theorem hN_at (x : Vec Ideal S4x8192x8192 .f32) (h : Fin 4) (q : Fin 8192) :
    hN x (ix2 h q) = ∑ k : Fin 8192, x (ix3 h q k) := by
  pointwise [hN]
theorem hL_at (mx n : Vec Ideal S4x8192 .f32) (h : Fin 4) (q : Fin 8192) :
    hL mx n (ix3 h 0 q) = Ideal.div (mx (ix2 h q) + Ideal.log (n (ix2 h q))) lg := by
  pointwise [hL]
  unfold lg
  rw [two_eq]
theorem hO_at (x : Vec Ideal S4x8192x8192 .f32) (n : Vec Ideal S4x8192 .f32) (v : Vec Ideal S4x8192x128 .f32) (h : Fin 4) (q : Fin 8192) (d : Fin 128) :
    hO x n v (ix3 h q d) = ∑ k : Fin 8192, Ideal.div (x (ix3 h q k)) (n (ix2 h q)) * v (ix3 h k d) := by
  pointwise [hO]
theorem hE_at (d : Vec Ideal S8192x512 .f32) (o : Vec Ideal S4x8192x128 .f32) (h : Fin 4) (q : Fin 8192) :
    hE d o (ix3 h 0 q) = ∑ x : Fin 128, d (ix2 q (dc h x)) * o (ix3 h q x) := by
  pointwise [hE]
  exact Finset.sum_congr rfl fun x _ => congrArg (fun z => d (ix2 q z) * o (ix3 h q x)) (Fin.ext (by show h.val * 128 + x.val = 128 * h.val + x.val; omega))
theorem hQ_at (a : Vec Ideal S4x8192x128 .f32) (h : Fin 4) (q : Fin 8192) (x : Fin 128) :
    hQ a (ix3 h q x) = Ideal.div (a (ix3 h q x)) lg := by
  pointwise [hQ]
  unfold lg
  rw [two_eq]

end Cert.KernelIdeal.Attn
end
-- ==== Proof.ValRef.lean ====
/- What the reference's operations compute, read at an index. -/
module

public import proofs.«01_k».proof.Proof.Ref
public import Idealize.ShloMosaic.Lib.Pipeline.Frame
public import Idealize.ShloMosaic.Lib.Pointwise
public import Idealize.ShloMosaic.Lib.IdealHost
public import Idealize.ShloMosaic.Lib.WordCmp

@[expose] public section

set_option maxRecDepth 16384

noncomputable section

namespace Cert.ReferenceIdeal.Plain

open Idealize.ShloMosaic Idealize.ShloMosaic.TcCoe
open Cert.ReferenceIdeal Cert.ReferenceIdeal.Gen Cert.ReferenceIdeal.Facts
open scoped BigOperators

/-- Where a key is no later than a query. -/
def rB : Vec Ideal S4x8192x8192 .i1 :=
  broadcastInDim S4x8192x8192 ![0, 1, 2] bcast_S1x8192x8192_S4x8192x8192_0_1_2
    (broadcastInDim S1x8192x8192 ![1, 2] bcast_S8192x8192_S1x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))

/-- The masked scores. -/
def rS (a b : Vec Ideal S4x8192x128 .f32) : Vec Ideal S4x8192x8192 .f32 :=
  select rB (Host.dotGeneral (F := Ideal) (φ₁ := .f32) (φ₂ := .f32) dot_S4x8192x128_S4x8192x128_S4x8192x8192_2_2_1_1_0_0 none a b)
    (broadcastInDim S4x8192x8192 ![] bcast_S_S4x8192x8192 (id (constant (F := Ideal) S_ .f32 0xFF800000#32)))

/-- Their largest along the keys. -/
def rM0 (s : Vec Ideal S4x8192x8192 .f32) : Vec Ideal S4x8192 .f32 :=
  Host.reduce (FloatOps.maximumf (F := Ideal) (φ := .f32)) s (constant (F := Ideal) S_ .f32 0xFF800000#32) reducesTo_S4x8192x8192_S4x8192_d2 h_S_
def rM1 (s : Vec Ideal S4x8192 .f32) : Vec Ideal S4x8192 .f32 :=
  maximumf (F := Ideal) (φ := .f32) (broadcastInDim S4x8192 ![] bcast_S_S4x8192 (constant (F := Ideal) S_ .f32 0xFF800000#32)) s
def rM (s : Vec Ideal S4x8192x8192 .f32) : Vec Ideal S4x8192 .f32 := rM1 (rM0 s)

/-- The exponentials of what is left of the scores. -/
def rX (s : Vec Ideal S4x8192x8192 .f32) (mx : Vec Ideal S4x8192 .f32) : Vec Ideal S4x8192x8192 .f32 :=
  Host.exp (F := Ideal) (φ := .f32) (subf s (broadcastInDim S4x8192x8192 ![0, 1, 2] bcast_S4x8192x1_S4x8192x8192_0_1_2 (broadcastInDim S4x8192x1 ![0, 1] bcast_S4x8192_S4x8192x1_0_1 mx)))

/-- Their sums, once per query. -/
def rN (x : Vec Ideal S4x8192x8192 .f32) : Vec Ideal S4x8192x1 .f32 :=
  broadcastInDim S4x8192x1 ![0, 1] bcast_S4x8192_S4x8192x1_0_1
    (Host.reduceAdd (F := Ideal) (φ := .f32) x (constant (F := Ideal) S_ .f32 0x00000000#32) reducesTo_S4x8192x8192_S4x8192_d2 h_S_)

/-- An array over its queries' sums. -/
def rP (x : Vec Ideal S4x8192x8192 .f32) (n : Vec Ideal S4x8192x1 .f32) : Vec Ideal S4x8192x8192 .f32 :=
  Host.divf (F := Ideal) (φ := .f32) x (broadcastInDim S4x8192x8192 ![0, 1, 2] bcast_S4x8192x1_S4x8192x8192_0_1_2 n)

/-- The output's gradient, by heads. -/
def rD (d : Vec Ideal S8192x512 .f32) : Vec Ideal S4x8192x128 .f32 :=
  transpose S4x8192x128 [1, 0, 2] (shapeCast S8192x4x128 d shapeCasts_S8192x512_S8192x4x128) transposes_S8192x4x128_S4x8192x128_1_0_2

/-- The values' gradient. -/
def rGV (d : Vec Ideal S4x8192x128 .f32) (p : Vec Ideal S4x8192x8192 .f32) : Vec Ideal S4x8192x128 .f32 :=
  transpose S4x8192x128 [0, 2, 1] (Host.dotGeneral (F := Ideal) (φ₁ := .f32) (φ₂ := .f32) dot_S4x8192x128_S4x8192x8192_S4x128x8192_1_1_2_2_0_0 none d p) transposes_S4x128x8192_S4x8192x128_0_2_1

/-- The probabilities' gradient. -/
def rU (d v : Vec Ideal S4x8192x128 .f32) : Vec Ideal S4x8192x8192 .f32 :=
  Host.dotGeneral (F := Ideal) (φ₁ := .f32) (φ₂ := .f32) dot_S4x8192x128_S4x8192x128_S4x8192x8192_2_2_1_1_0_0 none d v

/-- The sums' gradient. -/
def rC (u x : Vec Ideal S4x8192x8192 .f32) (n : Vec Ideal S4x8192x1 .f32) : Vec Ideal S4x8192 .f32 :=
  Host.reduceAdd (F := Ideal) (φ := .f32) (Host.negf (F := Ideal) (φ := .f32) (shapeCast S4x8192x1
    (Host.reduceAdd (F := Ideal) (φ := .f32) (mulf (mulf u (broadcastInDim S4x8192x8192 ![0, 1, 2] bcast_S4x8192x1_S4x8192x8192_0_1_2
      (Host.divf (F := Ideal) (φ := .f32) (broadcastInDim S4x8192x1 ![] bcast_S_S4x8192x1 (constant (F := Ideal) S_ .f32 0x3F800000#32)) (mulf n n)))) x)
      (constant (F := Ideal) S_ .f32 0x00000000#32) reducesTo_S4x8192x8192_S4x8192_d2 h_S_) shapeCasts_S4x8192_S4x8192x1))
    (constant (F := Ideal) S_ .f32 0x00000000#32) reducesTo_S4x8192x1_S4x8192_d2 h_S_

/-- The scores' gradient. -/
def rG (b : Vec Ideal S4x8192x8192 .i1) (u x : Vec Ideal S4x8192x8192 .f32) (n : Vec Ideal S4x8192x1 .f32) (c : Vec Ideal S4x8192 .f32) : Vec Ideal S4x8192x8192 .f32 :=
  select b (mulf (F := Ideal) (φ := .f32) (addf (rP u n) (broadcastInDim S4x8192x8192 ![0, 1] bcast_S4x8192_S4x8192x8192_0_1 c)) x)
    (broadcastInDim S4x8192x8192 ![] bcast_S_S4x8192x8192 (constant (F := Ideal) S_ .f32 0x00000000#32))

def rGK (g : Vec Ideal S4x8192x8192 .f32) (q : Vec Ideal S4x8192x128 .f32) : Vec Ideal S4x8192x128 .f32 :=
  Host.dotGeneral (F := Ideal) (φ₁ := .f32) (φ₂ := .f32) dot_S4x8192x8192_S4x8192x128_S4x8192x128_1_1_2_2_0_0 none g q
def rGQ (g : Vec Ideal S4x8192x8192 .f32) (k : Vec Ideal S4x8192x128 .f32) : Vec Ideal S4x128x8192 .f32 :=
  transpose S4x128x8192 [0, 2, 1] (Host.dotGeneral (F := Ideal) (φ₁ := .f32) (φ₂ := .f32) dot_S4x8192x8192_S4x8192x128_S4x8192x128_2_1_1_2_0_0 none g k) transposes_S4x8192x128_S4x128x8192_0_2_1

/-- The exponentials, of the arguments. -/
def bX (a0 a1 : Vec Ideal S4x8192x128 .f32) : Vec Ideal S4x8192x8192 .f32 := rX (rS a0 a1) (rM (rS a0 a1))

variable (V : Valuation τ sig (Elt Ideal))

theorem pre_x : StableHlo.after opsA V (main_v30 : DevRef τ sig) = bX (V (main_arg0 : DevRef τ sig)) (V (main_arg1 : DevRef τ sig)) := by
  after_reads_simp
  rfl
theorem pre_n : StableHlo.after opsA V (main_v32 : DevRef τ sig) = rN (bX (V (main_arg0 : DevRef τ sig)) (V (main_arg1 : DevRef τ sig))) := by
  after_reads_simp
  rfl
theorem pre_b : StableHlo.after opsA V (main_v9_1 : DevRef τ sig) = rB := by
  after_reads_simp
  rfl
theorem pre_0 : StableHlo.after opsA V (main_arg0 : DevRef τ sig) = V (main_arg0 : DevRef τ sig) := by after_reads_simp
theorem pre_1 : StableHlo.after opsA V (main_arg1 : DevRef τ sig) = V (main_arg1 : DevRef τ sig) := by after_reads_simp
theorem pre_2 : StableHlo.after opsA V (main_arg2 : DevRef τ sig) = V (main_arg2 : DevRef τ sig) := by after_reads_simp
theorem pre_3 : StableHlo.after opsA V (main_arg3 : DevRef τ sig) = V (main_arg3 : DevRef τ sig) := by after_reads_simp

/-- The scores' gradient, of the exponentials, their sums and the arguments. -/
def bG (b : Vec Ideal S4x8192x8192 .i1) (x : Vec Ideal S4x8192x8192 .f32) (n : Vec Ideal S4x8192x1 .f32) (a2 : Vec Ideal S4x8192x128 .f32) (a3 : Vec Ideal S8192x512 .f32) : Vec Ideal S4x8192x8192 .f32 :=
  rG b (rU (rD a3) a2) x n (rC (rU (rD a3) a2) x n)

theorem post_v : StableHlo.after opsB V (main_v42 : DevRef τ sig) = rGV (rD (V (main_arg3 : DevRef τ sig))) (rP (V (main_v30 : DevRef τ sig)) (V (main_v32 : DevRef τ sig))) := by
  after_reads_simp
  rfl
theorem post_k : StableHlo.after opsB V (main_v57 : DevRef τ sig)
    = rGK (bG (V (main_v9_1 : DevRef τ sig)) (V (main_v30 : DevRef τ sig)) (V (main_v32 : DevRef τ sig)) (V (main_arg2 : DevRef τ sig)) (V (main_arg3 : DevRef τ sig))) (V (main_arg0 : DevRef τ sig)) := by
  after_reads_simp
  rfl
theorem post_q : StableHlo.after opsB V (main_v59 : DevRef τ sig)
    = rGQ (bG (V (main_v9_1 : DevRef τ sig)) (V (main_v30 : DevRef τ sig)) (V (main_v32 : DevRef τ sig)) (V (main_arg2 : DevRef τ sig)) (V (main_arg3 : DevRef τ sig))) (V (main_arg1 : DevRef τ sig)) := by
  after_reads_simp
  rfl

theorem after_two (b : DevRef τ sig) : StableHlo.after ops V b = StableHlo.after opsB (StableHlo.after opsA V) b :=
  congrFun (StableHlo.after_append opsA opsB V) b

theorem res_v : StableHlo.after ops V (main_v42 : DevRef τ sig)
    = rGV (rD (V (main_arg3 : DevRef τ sig))) (rP (bX (V (main_arg0 : DevRef τ sig)) (V (main_arg1 : DevRef τ sig))) (rN (bX (V (main_arg0 : DevRef τ sig)) (V (main_arg1 : DevRef τ sig))))) := by
  rw [after_two, post_v, pre_x, pre_n, pre_3]
theorem res_k : StableHlo.after ops V (main_v57 : DevRef τ sig)
    = rGK (bG rB (bX (V (main_arg0 : DevRef τ sig)) (V (main_arg1 : DevRef τ sig))) (rN (bX (V (main_arg0 : DevRef τ sig)) (V (main_arg1 : DevRef τ sig)))) (V (main_arg2 : DevRef τ sig)) (V (main_arg3 : DevRef τ sig)))
        (V (main_arg0 : DevRef τ sig)) := by
  rw [after_two, post_k, pre_b, pre_x, pre_n, pre_0, pre_2, pre_3]
theorem res_q : StableHlo.after ops V (main_v59 : DevRef τ sig)
    = rGQ (bG rB (bX (V (main_arg0 : DevRef τ sig)) (V (main_arg1 : DevRef τ sig))) (rN (bX (V (main_arg0 : DevRef τ sig)) (V (main_arg1 : DevRef τ sig)))) (V (main_arg2 : DevRef τ sig)) (V (main_arg3 : DevRef τ sig)))
        (V (main_arg1 : DevRef τ sig)) := by
  rw [after_two, post_q, pre_b, pre_x, pre_n, pre_1, pre_2, pre_3]

/-- Column `x` of head `h` among the columns of all heads. -/
def dx (h : Fin 4) (x : Fin 128) : Fin 512 := ⟨128 * h.val + x.val, by have := h.isLt; have := x.isLt; omega⟩

theorem ninf_eq : Ideal.ofBits .f32 0xFF800000#32 = ⊥ := by
  simp [Ideal.ofBits, Ideal.ieee]

theorem rB_iff (k q : Fin 8192) : IntOp.cmpi .sle (BitVec.ofNat 32 k.val) (BitVec.ofNat 32 q.val) = 1 ↔ k ≤ q :=
  WordCmp.cmpi_sle_ofNat_eq_one_iff (w := 32) (a := k.val) (b := q.val) (by have := k.isLt; omega) (by have := q.isLt; omega)

theorem rS_at (a b : Vec Ideal S4x8192x128 .f32) (h : Fin 4) (q k : Fin 8192) :
    rS a b (ix3 h q k) = if k ≤ q then ∑ x : Fin 128, a (ix3 h q x) * b (ix3 h k x) else ⊥ := by
  pointwise [rS, rB]
  unfold Scalar.select
  exact if_congr (rB_iff k q) rfl ninf_eq
theorem rM0_at (s : Vec Ideal S4x8192x8192 .f32) (h : Fin 4) (q : Fin 8192) :
    rM0 s (ix2 h q) = Finset.univ.fold max ⊥ (fun k : Fin 8192 => s (ix3 h q k)) := by
  pointwise [rM0]
  rw [ninf_eq]
theorem rM1_at (s : Vec Ideal S4x8192 .f32) (i : S4x8192.Idx) : rM1 s i = s i := by
  unfold rM1
  show max (Ideal.ofBits .f32 0xFF800000#32) (s i) = s i
  rw [ninf_eq]
  exact max_eq_right bot_le
theorem rM_at (s : Vec Ideal S4x8192x8192 .f32) (h : Fin 4) (q : Fin 8192) :
    rM s (ix2 h q) = Finset.univ.fold max ⊥ (fun k : Fin 8192 => s (ix3 h q k)) :=
  (rM1_at (rM0 s) (ix2 h q)).trans (rM0_at s h q)
theorem rX_at (s : Vec Ideal S4x8192x8192 .f32) (mx : Vec Ideal S4x8192 .f32) (h : Fin 4) (q k : Fin 8192) :
    rX s mx (ix3 h q k) = Ideal.exp (s (ix3 h q k) - mx (ix2 h q)) := by
  pointwise [rX]
theorem rN_at (x : Vec Ideal S4x8192x8192 .f32) (h : Fin 4) (q : Fin 8192) :
    rN x (ix3 h q 0) = ∑ k : Fin 8192, x (ix3 h q k) := by
  pointwise [rN]
theorem rP_at (x : Vec Ideal S4x8192x8192 .f32) (n : Vec Ideal S4x8192x1 .f32) (h : Fin 4) (q k : Fin 8192) :
    rP x n (ix3 h q k) = Ideal.div (x (ix3 h q k)) (n (ix3 h q 0)) := by
  pointwise [rP]
theorem rD_at (d : Vec Ideal S8192x512 .f32) (h : Fin 4) (q : Fin 8192) (x : Fin 128) :
    rD d (ix3 h q x) = d (ix2 q (dx h x)) := by
  pointwise [rD]
  exact congrArg (fun z => d (ix2 q z)) (Fin.ext (by show h.val * 128 + x.val = 128 * h.val + x.val; omega))
theorem rGV_at (d : Vec Ideal S4x8192x128 .f32) (p : Vec Ideal S4x8192x8192 .f32) (h : Fin 4) (k : Fin 8192) (x : Fin 128) :
    rGV d p (ix3 h k x) = ∑ q : Fin 8192, d (ix3 h q x) * p (ix3 h q k) := by
  pointwise [rGV]
theorem rU_at (d v : Vec Ideal S4x8192x128 .f32) (h : Fin 4) (q k : Fin 8192) :
    rU d v (ix3 h q k) = ∑ x : Fin 128, d (ix3 h q x) * v (ix3 h k x) := by
  pointwise [rU]
theorem rC_at (u x : Vec Ideal S4x8192x8192 .f32) (n : Vec Ideal S4x8192x1 .f32) (h : Fin 4) (q : Fin 8192) :
    rC u x n (ix2 h q) = -∑ y : Fin 8192, u (ix3 h q y) * Ideal.div 1 (n (ix3 h q 0) * n (ix3 h q 0)) * x (ix3 h q y) := by
  pointwise [rC]
  rw [Fin.sum_univ_one]
theorem rG_at (u x : Vec Ideal S4x8192x8192 .f32) (n : Vec Ideal S4x8192x1 .f32) (c : Vec Ideal S4x8192 .f32) (h : Fin 4) (q k : Fin 8192) :
    rG rB u x n c (ix3 h q k) = if k ≤ q then (Ideal.div (u (ix3 h q k)) (n (ix3 h q 0)) + c (ix2 h q)) * x (ix3 h q k) else 0 := by
  pointwise [rG, rB, rP]
  unfold Scalar.select
  exact if_congr (rB_iff k q) rfl rfl
theorem rGK_at (g : Vec Ideal S4x8192x8192 .f32) (a : Vec Ideal S4x8192x128 .f32) (h : Fin 4) (k : Fin 8192) (x : Fin 128) :
    rGK g a (ix3 h k x) = ∑ q : Fin 8192, g (ix3 h q k) * a (ix3 h q x) := by
  pointwise [rGK]
theorem rGQ_at (g : Vec Ideal S4x8192x8192 .f32) (a : Vec Ideal S4x8192x128 .f32) (h : Fin 4) (x : Fin 128) (q : Fin 8192) :
    rGQ g a (ix3 h x q) = ∑ k : Fin 8192, g (ix3 h q k) * a (ix3 h k x) := by
  pointwise [rGQ]

end Cert.ReferenceIdeal.Plain
end
-- ==== Proof.ValMath.lean ====
/- Causal attention's gradients over the reals, one head: what the two programs compute of finite arrays. -/
module

public import Idealize.ShloMosaic.Lib.Pointwise
public import Idealize.ShloMosaic.Lib.IdealHost

@[expose] public section

noncomputable section

namespace Cert.AttnMath

open Idealize.ShloMosaic
open scoped BigOperators

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]
theorem log_real (x : ℝ) (h : 0 < x) : Ideal.log (x : EReal) = ((Real.log x : ℝ) : EReal) := by
  rw [Ideal.log_coe, if_neg (not_le.mpr h)]
theorem lg_ne : Real.log 2 ≠ 0 := (Real.log_pos (by norm_num)).ne'
theorem lg_eq : Ideal.log ((2 : ℝ) : EReal) = ((Real.log 2 : ℝ) : EReal) := log_real 2 (by norm_num)

variable {n e : ℕ} (a0 a1 a2 a3 : Fin n → Fin e → ℝ) (mu : Fin n → ℝ)

/-- The largest of the scores that a query is allowed to see is a real number. -/
theorem exists_max (f : Fin n → ℝ) (q : Fin n) :
    ∃ r : ℝ, Finset.univ.fold max (⊥ : EReal) (fun k => if k ≤ q then ((f k : ℝ) : EReal) else ⊥) = (r : EReal) := by
  have h1 : Finset.univ.fold max (⊥ : EReal) (fun k => if k ≤ q then ((f k : ℝ) : EReal) else ⊥) < ⊤ :=
    (Finset.fold_max_lt _).mpr ⟨bot_lt_top, fun k _ => by
      by_cases h : k ≤ q
      · simp only [if_pos h]; exact EReal.coe_lt_top _
      · simp only [if_neg h]; exact bot_lt_top⟩
  have h2 : ((f q : ℝ) : EReal) ≤ Finset.univ.fold max (⊥ : EReal) (fun k => if k ≤ q then ((f k : ℝ) : EReal) else ⊥) :=
    (Finset.le_fold_max _).mpr (.inr ⟨q, Finset.mem_univ _, by simp⟩)
  exact ⟨_, (EReal.coe_toReal h1.ne (fun h => absurd (h ▸ h2) (not_le.mpr (EReal.bot_lt_coe _)))).symm⟩

/-- A score, its weight, the weights' sum, a probability, its gradient and the mean of the gradients. -/
def sR (q k : Fin n) : ℝ := ∑ x, a0 q x * a1 k x
def wR (q k : Fin n) : ℝ := if k ≤ q then Real.exp (sR a0 a1 q k - mu q) else 0
def nR (q : Fin n) : ℝ := ∑ k, wR a0 a1 mu q k
def pR (q k : Fin n) : ℝ := wR a0 a1 mu q k / nR a0 a1 mu q
def uR (q k : Fin n) : ℝ := ∑ x, a3 q x * a2 k x
def cR (q : Fin n) : ℝ := ∑ k, pR a0 a1 mu q k * uR a2 a3 q k
def dR (q k : Fin n) : ℝ := pR a0 a1 mu q k * (uR a2 a3 q k - cR a0 a1 a2 a3 mu q)

theorem wR_nonneg (q k : Fin n) : 0 ≤ wR a0 a1 mu q k := by
  unfold wR; split
  · exact (Real.exp_pos _).le
  · exact le_rfl
theorem nR_pos (q : Fin n) : 0 < nR a0 a1 mu q :=
  Finset.sum_pos' (fun k _ => wR_nonneg a0 a1 mu q k) ⟨q, Finset.mem_univ _, by unfold wR; rw [if_pos le_rfl]; exact Real.exp_pos _⟩

theorem score_eq (q k : Fin n) : ∑ x, ((a0 q x : ℝ) : EReal) * ((a1 k x : ℝ) : EReal) = ((sR a0 a1 q k : ℝ) : EReal) := by
  simp only [← EReal.coe_mul]
  exact coe_sum _ _

theorem weight_eq (q k : Fin n) : Ideal.exp ((if k ≤ q then ((sR a0 a1 q k : ℝ) : EReal) else ⊥) - ((mu q : ℝ) : EReal)) = ((wR a0 a1 mu q k : ℝ) : EReal) := by
  unfold wR
  by_cases h : k ≤ q
  · rw [if_pos h, if_pos h, ← EReal.coe_sub, Ideal.exp_coe]
  · rw [if_neg h, if_neg h, EReal.bot_sub, Ideal.exp_bot, EReal.coe_zero]

theorem sum_weight (q : Fin n) : ∑ k, ((wR a0 a1 mu q k : ℝ) : EReal) = ((nR a0 a1 mu q : ℝ) : EReal) := coe_sum _ _

theorem prob_eq (q k : Fin n) : Ideal.div ((wR a0 a1 mu q k : ℝ) : EReal) ((nR a0 a1 mu q : ℝ) : EReal) = ((pR a0 a1 mu q k : ℝ) : EReal) :=
  div_real _ _ (nR_pos a0 a1 mu q).ne'

/-- The kernel's probability, from the logarithm of the denominator in base 2. -/
theorem prob2_eq (q k : Fin n) :
    (if k ≤ q then Ideal.exp2 ((∑ x, ((a1 k x : ℝ) : EReal) * Ideal.div ((a0 q x : ℝ) : EReal) (Ideal.log ((2 : ℝ) : EReal)))
        - Ideal.div (((mu q : ℝ) : EReal) + Ideal.log ((nR a0 a1 mu q : ℝ) : EReal)) (Ideal.log ((2 : ℝ) : EReal))) else 0)
      = ((pR a0 a1 mu q k : ℝ) : EReal) := by
  unfold pR wR
  by_cases h : k ≤ q
  · rw [if_pos h, if_pos h]
    have hn := nR_pos a0 a1 mu q
    simp only [lg_eq, log_real _ hn, div_real _ _ lg_ne, ← EReal.coe_mul, ← EReal.coe_add]
    rw [coe_sum, ← EReal.coe_sub, Ideal.exp2_coe]
    refine congrArg _ ?_
    have hs : (∑ x, a1 k x * (a0 q x / Real.log 2)) = sR a0 a1 q k / Real.log 2 := by
      unfold sR
      rw [Finset.sum_div]
      exact Finset.sum_congr rfl fun x _ => by ring
    rw [hs]
    show (2 : ℝ) ^ (_ : ℝ) = _
    rw [Real.rpow_def_of_pos (by norm_num : (0 : ℝ) < 2)]
    have hr : Real.log 2 * (sR a0 a1 q k / Real.log 2 - (mu q + Real.log (nR a0 a1 mu q)) / Real.log 2) = (sR a0 a1 q k - mu q) - Real.log (nR a0 a1 mu q) := by
      have := lg_ne
      field_simp
      ring
    rw [hr, Real.exp_sub, Real.exp_log hn]
  · rw [if_neg h, if_neg h, zero_div, EReal.coe_zero]

/-- The output against its gradient is the mean of the probabilities' gradients. -/
theorem mean_eq (q : Fin n) :
    ∑ x, ((a3 q x : ℝ) : EReal) * ∑ k, ((pR a0 a1 mu q k : ℝ) : EReal) * ((a2 k x : ℝ) : EReal) = ((cR a0 a1 a2 a3 mu q : ℝ) : EReal) := by
  simp only [← EReal.coe_mul, coe_sum]
  refine congrArg _ ?_
  unfold cR uR
  simp only [Finset.mul_sum]
  rw [Finset.sum_comm]
  exact Finset.sum_congr rfl fun k _ => Finset.sum_congr rfl fun x _ => by ring

theorem grad_eq (q k : Fin n) : ∑ x, ((a3 q x : ℝ) : EReal) * ((a2 k x : ℝ) : EReal) = ((uR a2 a3 q k : ℝ) : EReal) := by
  simp only [← EReal.coe_mul]
  exact coe_sum _ _

theorem diff_eq (q k : Fin n) : (∑ x, ((a2 k x : ℝ) : EReal) * ((a3 q x : ℝ) : EReal)) - ((cR a0 a1 a2 a3 mu q : ℝ) : EReal)
    = ((uR a2 a3 q k - cR a0 a1 a2 a3 mu q : ℝ) : EReal) := by
  simp only [mul_comm ((a2 k _ : ℝ) : EReal)]
  rw [grad_eq, ← EReal.coe_sub]

/-- The reference's gradient of a score. -/
theorem rscore_eq (q k : Fin n) :
    (if k ≤ q then (Ideal.div ((uR a2 a3 q k : ℝ) : EReal) ((nR a0 a1 mu q : ℝ) : EReal)
        + -∑ y, ((uR a2 a3 q y : ℝ) : EReal) * Ideal.div 1 (((nR a0 a1 mu q : ℝ) : EReal) * ((nR a0 a1 mu q : ℝ) : EReal)) * ((wR a0 a1 mu q y : ℝ) : EReal))
        * ((wR a0 a1 mu q k : ℝ) : EReal) else 0) = ((dR a0 a1 a2 a3 mu q k : ℝ) : EReal) := by
  have hn := (nR_pos a0 a1 mu q).ne'
  by_cases h : k ≤ q
  · rw [if_pos h]
    rw [← EReal.coe_one]
    simp only [← EReal.coe_mul, div_real _ _ hn, div_real _ _ (mul_ne_zero hn hn)]
    rw [coe_sum, ← EReal.coe_neg, ← EReal.coe_add, ← EReal.coe_mul]
    refine congrArg _ ?_
    unfold dR cR pR
    have hs : ∑ y, uR a2 a3 q y * (1 / (nR a0 a1 mu q * nR a0 a1 mu q)) * wR a0 a1 mu q y
        = (∑ y, wR a0 a1 mu q y / nR a0 a1 mu q * uR a2 a3 q y) / nR a0 a1 mu q := by
      rw [Finset.sum_div]
      exact Finset.sum_congr rfl fun y _ => by field_simp
    rw [hs]
    field_simp
    ring
  · rw [if_neg h]
    unfold dR pR wR
    rw [if_neg h, zero_div, zero_mul, EReal.coe_zero]

/-- The three results. -/
def qR (x : Fin e) (q : Fin n) : ℝ := ∑ k, dR a0 a1 a2 a3 mu q k * a1 k x
def kR (k : Fin n) (x : Fin e) : ℝ := ∑ q, dR a0 a1 a2 a3 mu q k * a0 q x
def vR (k : Fin n) (x : Fin e) : ℝ := ∑ q, a3 q x * pR a0 a1 mu q k

theorem rq_eq (x : Fin e) (q : Fin n) : ∑ k, ((dR a0 a1 a2 a3 mu q k : ℝ) : EReal) * ((a1 k x : ℝ) : EReal) = ((qR a0 a1 a2 a3 mu x q : ℝ) : EReal) := by
  simp only [← EReal.coe_mul]
  exact coe_sum _ _
theorem rk_eq (k : Fin n) (x : Fin e) : ∑ q, ((dR a0 a1 a2 a3 mu q k : ℝ) : EReal) * ((a0 q x : ℝ) : EReal) = ((kR a0 a1 a2 a3 mu k x : ℝ) : EReal) := by
  simp only [← EReal.coe_mul]
  exact coe_sum _ _
theorem rv_eq (k : Fin n) (x : Fin e) : ∑ q, ((a3 q x : ℝ) : EReal) * ((pR a0 a1 mu q k : ℝ) : EReal) = ((vR a0 a1 a3 mu k x : ℝ) : EReal) := by
  simp only [← EReal.coe_mul]
  exact coe_sum _ _

theorem kq_eq (x : Fin e) (q : Fin n) : ∑ k, ((a1 k x : ℝ) : EReal) * (((pR a0 a1 mu q k : ℝ) : EReal) * ((uR a2 a3 q k - cR a0 a1 a2 a3 mu q : ℝ) : EReal))
    = ((qR a0 a1 a2 a3 mu x q : ℝ) : EReal) := by
  rw [← rq_eq]
  exact Finset.sum_congr rfl fun k _ => by rw [← EReal.coe_mul, mul_comm]; rfl
theorem kk_eq (k : Fin n) (x : Fin e) : (∑ q, (((pR a0 a1 mu q k : ℝ) : EReal) * ((uR a2 a3 q k - cR a0 a1 a2 a3 mu q : ℝ) : EReal)) * Ideal.div ((a0 q x : ℝ) : EReal) (Ideal.log ((2 : ℝ) : EReal)))
      * ((Real.log 2 : ℝ) : EReal) = ((kR a0 a1 a2 a3 mu k x : ℝ) : EReal) := by
  simp only [lg_eq, div_real _ _ lg_ne, ← EReal.coe_mul]
  rw [coe_sum, ← EReal.coe_mul]
  refine congrArg _ ?_
  unfold kR dR
  rw [Finset.sum_mul]
  have := lg_ne
  exact Finset.sum_congr rfl fun q _ => by field_simp
theorem kv_eq (k : Fin n) (x : Fin e) : ∑ q, ((pR a0 a1 mu q k : ℝ) : EReal) * ((a3 q x : ℝ) : EReal) = ((vR a0 a1 a3 mu k x : ℝ) : EReal) := by
  rw [← rv_eq]
  exact Finset.sum_congr rfl fun q _ => mul_comm _ _

end Cert.AttnMath
end
-- ==== Proof.ValEq.lean ====
/- The kernel's results and the reference's, of finite arguments, are the same real numbers. -/
module

public import proofs.«01_k».proof.Proof.ValHost
public import proofs.«01_k».proof.Proof.ValRef
public import proofs.«01_k».proof.Proof.ValMath

@[expose] public section

set_option maxRecDepth 16384

noncomputable section

namespace Cert.KernelIdeal.Attn

open Idealize.ShloMosaic Idealize.ShloMosaic.TcCoe
open Cert.KernelIdeal Cert.KernelIdeal.Gen Cert.AttnMath
open scoped BigOperators

/-- One head of an argument's real numbers. -/
abbrev hd3 (r : S4x8192x128.Idx → ℝ) (H : Fin 4) (q : Fin 8192) (x : Fin 128) : ℝ := r (ix3 H q x)
abbrev hd2 (r : S8192x512.Idx → ℝ) (H : Fin 4) (q : Fin 8192) (x : Fin 128) : ℝ := r (ix2 q (dc H x))

variable (a0 a1 a2 : Vec Ideal S4x8192x128 .f32) (a3 : Vec Ideal S8192x512 .f32)
variable (r0 r1 r2 : S4x8192x128.Idx → ℝ) (r3 : S8192x512.Idx → ℝ) (mu : Fin 4 → Fin 8192 → ℝ)
variable (e0 : ∀ i, a0 i = (r0 i : EReal)) (e1 : ∀ i, a1 i = (r1 i : EReal)) (e2 : ∀ i, a2 i = (r2 i : EReal)) (e3 : ∀ i, a3 i = (r3 i : EReal))
variable (hmu : ∀ H q, Finset.univ.fold max (⊥ : EReal) (fun k => if k ≤ q then ((sR (hd3 r0 H) (hd3 r1 H) q k : ℝ) : EReal) else ⊥) = (mu H q : EReal))

include e0 e1 in
theorem hS_real (H : Fin 4) (q k : Fin 8192) : hS a0 a1 (ix3 H q k) = if k ≤ q then ((sR (hd3 r0 H) (hd3 r1 H) q k : ℝ) : EReal) else ⊥ := by
  rw [hS_at]
  simp only [e0, e1]
  rw [score_eq (hd3 r0 H) (hd3 r1 H)]

include e0 e1 hmu in
theorem hM_real (H : Fin 4) (q : Fin 8192) : hM (hS a0 a1) (ix2 H q) = (mu H q : EReal) := by
  rw [hM_at, ← hmu H q]
  refine congrArg (fun f => Finset.univ.fold max (⊥ : EReal) f) (funext fun k => ?_)
  exact hS_real a0 a1 r0 r1 e0 e1 H q k

include e0 e1 hmu in
theorem hX_real (H : Fin 4) (q k : Fin 8192) : hX (hS a0 a1) (hM (hS a0 a1)) (ix3 H q k) = ((wR (hd3 r0 H) (hd3 r1 H) (mu H) q k : ℝ) : EReal) := by
  rw [hX_at, hM_real a0 a1 r0 r1 mu e0 e1 hmu, hS_real a0 a1 r0 r1 e0 e1]
  exact weight_eq (hd3 r0 H) (hd3 r1 H) (mu H) q k

include e0 e1 hmu in
theorem hN_real (H : Fin 4) (q : Fin 8192) : hN (hX (hS a0 a1) (hM (hS a0 a1))) (ix2 H q) = ((nR (hd3 r0 H) (hd3 r1 H) (mu H) q : ℝ) : EReal) := by
  rw [hN_at]
  simp only [hX_real a0 a1 r0 r1 mu e0 e1 hmu]
  exact sum_weight (hd3 r0 H) (hd3 r1 H) (mu H) q

include e0 e1 e2 e3 hmu in
theorem hE_real (H : Fin 4) (q : Fin 8192) : hE a3 (hO (hX (hS a0 a1) (hM (hS a0 a1))) (hN (hX (hS a0 a1) (hM (hS a0 a1)))) a2) (ix3 H 0 q)
    = ((cR (hd3 r0 H) (hd3 r1 H) (hd3 r2 H) (hd2 r3 H) (mu H) q : ℝ) : EReal) := by
  rw [hE_at, ← mean_eq (hd3 r0 H) (hd3 r1 H) (hd3 r2 H) (hd2 r3 H) (mu H) q]
  refine Finset.sum_congr rfl fun x _ => congrArg₂ (· * ·) (e3 _) ?_
  rw [hO_at]
  refine Finset.sum_congr rfl fun k _ => congrArg₂ (· * ·) ?_ (e2 _)
  rw [hX_real a0 a1 r0 r1 mu e0 e1 hmu, hN_real a0 a1 r0 r1 mu e0 e1 hmu]
  exact prob_eq (hd3 r0 H) (hd3 r1 H) (mu H) q k

section Kernel
variable (m : (ℓ : Loc nD τ sig) → Buf (Elt Ideal) ℓ) (c : Dev nD)

theorem gQ_at (H : Fin 4) (q : Fin 8192) (x : Fin 128) : gQ (entry m) c (ix3 H q x) = Ideal.div (A0 m c (ix3 H q x)) lg :=
  (congrFun (entry_q m c) _).trans (hQ_at _ _ _ _)
theorem gK_at (H : Fin 4) (q : Fin 8192) (x : Fin 128) : gK (entry m) c (ix3 H q x) = A1 m c (ix3 H q x) :=
  (congrFun (entry_k m c) _).trans rfl
theorem gKT_at (H : Fin 4) (x : Fin 128) (q : Fin 8192) : gKT (entry m) c (ix3 H x q) = A1 m c (ix3 H q x) := by
  refine (congrFun (entry_kt m c) _).trans ?_
  pointwise
theorem gV_at (H : Fin 4) (q : Fin 8192) (x : Fin 128) : gV (entry m) c (ix3 H q x) = A2 m c (ix3 H q x) :=
  (congrFun (entry_v m c) _).trans rfl
theorem gD_at (q : Fin 8192) (x : Fin 512) : gD (entry m) c (ix2 q x) = A3 m c (ix2 q x) := congrFun (entry_arg3 m c) _

variable (f0 : ∀ i, A0 m c i = (r0 i : EReal)) (f1 : ∀ i, A1 m c i = (r1 i : EReal)) (f2 : ∀ i, A2 m c i = (r2 i : EReal)) (f3 : ∀ i, A3 m c i = (r3 i : EReal))

include f0 f1 hmu in
theorem gL_at (H : Fin 4) (q : Fin 8192) : gL (entry m) c (ix3 H 0 q) = Ideal.div ((mu H q : EReal) + Ideal.log ((nR (hd3 r0 H) (hd3 r1 H) (mu H) q : ℝ) : EReal)) lg := by
  refine (congrFun (entry_l m c) _).trans ((hL_at _ _ _ _).trans ?_)
  rw [hM_real _ _ r0 r1 mu f0 f1 hmu, hN_real _ _ r0 r1 mu f0 f1 hmu]

include f0 f1 f2 f3 hmu in
theorem gE_at (H : Fin 4) (q : Fin 8192) : gE (entry m) c (ix3 H 0 q) = ((cR (hd3 r0 H) (hd3 r1 H) (hd3 r2 H) (hd2 r3 H) (mu H) q : ℝ) : EReal) :=
  (congrFun (entry_e m c) _).trans (hE_real _ _ _ _ r0 r1 r2 r3 mu f0 f1 f2 f3 hmu H q)

include f0 f1 hmu in
theorem PG_real (H : Fin 4) (k q : Fin 8192) : PG (entry m) c H k q = ((pR (hd3 r0 H) (hd3 r1 H) (mu H) q k : ℝ) : EReal) := by
  unfold PG
  rw [gL_at r0 r1 mu hmu m c f0 f1]
  simp only [gK_at, gQ_at, f0, f1]
  exact prob2_eq (hd3 r0 H) (hd3 r1 H) (mu H) q k

include f0 f1 f2 f3 hmu in
theorem UG_real (H : Fin 4) (k q : Fin 8192) : UG (entry m) c H k q = ((uR (hd3 r2 H) (hd2 r3 H) q k - cR (hd3 r0 H) (hd3 r1 H) (hd3 r2 H) (hd2 r3 H) (mu H) q : ℝ) : EReal) := by
  unfold UG
  rw [gE_at r0 r1 r2 r3 mu hmu m c f0 f1 f2 f3]
  simp only [gV_at, gD_at, f2, f3]
  exact diff_eq (hd3 r0 H) (hd3 r1 H) (hd3 r2 H) (hd2 r3 H) (mu H) q k

include f0 f1 f2 f3 hmu in
theorem kernel_q (H : Fin 4) (x : Fin 128) (q : Fin 8192) : rT (entry m) c H x q = ((qR (hd3 r0 H) (hd3 r1 H) (hd3 r2 H) (hd2 r3 H) (mu H) x q : ℝ) : EReal) := by
  unfold rT
  simp only [gKT_at, PG_real r0 r1 mu hmu m c f0 f1, UG_real r0 r1 r2 r3 mu hmu m c f0 f1 f2 f3, f1]
  exact kq_eq (hd3 r0 H) (hd3 r1 H) (hd3 r2 H) (hd2 r3 H) (mu H) x q

include f0 f1 f2 f3 hmu in
theorem kernel_k (H : Fin 4) (k : Fin 8192) (x : Fin 128) : rK (entry m) c H k x = ((kR (hd3 r0 H) (hd3 r1 H) (hd3 r2 H) (hd2 r3 H) (mu H) k x : ℝ) : EReal) := by
  unfold rK
  simp only [gQ_at, PG_real r0 r1 mu hmu m c f0 f1, UG_real r0 r1 r2 r3 mu hmu m c f0 f1 f2 f3, f0]
  exact kk_eq (hd3 r0 H) (hd3 r1 H) (hd3 r2 H) (hd2 r3 H) (mu H) k x

include f0 f1 f3 hmu in
theorem kernel_v (H : Fin 4) (k : Fin 8192) (x : Fin 128) : rV (entry m) c H k x = ((vR (hd3 r0 H) (hd3 r1 H) (hd2 r3 H) (mu H) k x : ℝ) : EReal) := by
  unfold rV
  simp only [gD_at, PG_real r0 r1 mu hmu m c f0 f1, f3]
  exact kv_eq (hd3 r0 H) (hd3 r1 H) (hd2 r3 H) (mu H) k x

end Kernel

section Reference
open Cert.ReferenceIdeal.Plain

include e0 e1 in
theorem rS_real (H : Fin 4) (q k : Fin 8192) : rS a0 a1 (ix3 H q k) = if k ≤ q then ((sR (hd3 r0 H) (hd3 r1 H) q k : ℝ) : EReal) else ⊥ := by
  rw [rS_at]
  simp only [e0, e1]
  rw [score_eq (hd3 r0 H) (hd3 r1 H)]

include e0 e1 hmu in
theorem rM_real (H : Fin 4) (q : Fin 8192) : rM (rS a0 a1) (ix2 H q) = (mu H q : EReal) := by
  rw [rM_at, ← hmu H q]
  refine congrArg (fun f => Finset.univ.fold max (⊥ : EReal) f) (funext fun k => ?_)
  exact rS_real a0 a1 r0 r1 e0 e1 H q k

include e0 e1 hmu in
theorem rX_real (H : Fin 4) (q k : Fin 8192) : bX a0 a1 (ix3 H q k) = ((wR (hd3 r0 H) (hd3 r1 H) (mu H) q k : ℝ) : EReal) := by
  unfold bX
  rw [rX_at, rM_real a0 a1 r0 r1 mu e0 e1 hmu, rS_real a0 a1 r0 r1 e0 e1]
  exact weight_eq (hd3 r0 H) (hd3 r1 H) (mu H) q k

include e0 e1 hmu in
theorem rN_real (H : Fin 4) (q : Fin 8192) : rN (bX a0 a1) (ix3 H q 0) = ((nR (hd3 r0 H) (hd3 r1 H) (mu H) q : ℝ) : EReal) := by
  rw [rN_at]
  simp only [rX_real a0 a1 r0 r1 mu e0 e1 hmu]
  exact sum_weight (hd3 r0 H) (hd3 r1 H) (mu H) q

include e2 e3 in
theorem rU_real (H : Fin 4) (q k : Fin 8192) : rU (rD a3) a2 (ix3 H q k) = ((uR (hd3 r2 H) (hd2 r3 H) q k : ℝ) : EReal) := by
  rw [rU_at, ← grad_eq (hd3 r2 H) (hd2 r3 H) q k]
  exact Finset.sum_congr rfl fun x _ => congrArg₂ (· * ·) ((rD_at a3 H q x).trans (e3 _)) (e2 _)

include e0 e1 e2 e3 hmu in
theorem rG_real (H : Fin 4) (q k : Fin 8192) : bG rB (bX a0 a1) (rN (bX a0 a1)) a2 a3 (ix3 H q k)
    = ((dR (hd3 r0 H) (hd3 r1 H) (hd3 r2 H) (hd2 r3 H) (mu H) q k : ℝ) : EReal) := by
  unfold bG
  rw [rG_at, rC_at]
  simp only [rX_real a0 a1 r0 r1 mu e0 e1 hmu, rN_real a0 a1 r0 r1 mu e0 e1 hmu, rU_real a2 a3 r2 r3 e2 e3]
  exact rscore_eq (hd3 r0 H) (hd3 r1 H) (hd3 r2 H) (hd2 r3 H) (mu H) q k

include e0 e1 e2 e3 hmu in
theorem ref_q (H : Fin 4) (x : Fin 128) (q : Fin 8192) : rGQ (bG rB (bX a0 a1) (rN (bX a0 a1)) a2 a3) a1 (ix3 H x q)
    = ((qR (hd3 r0 H) (hd3 r1 H) (hd3 r2 H) (hd2 r3 H) (mu H) x q : ℝ) : EReal) := by
  rw [rGQ_at]
  simp only [rG_real a0 a1 a2 a3 r0 r1 r2 r3 mu e0 e1 e2 e3 hmu, e1]
  exact rq_eq (hd3 r0 H) (hd3 r1 H) (hd3 r2 H) (hd2 r3 H) (mu H) x q

include e0 e1 e2 e3 hmu in
theorem ref_k (H : Fin 4) (k : Fin 8192) (x : Fin 128) : rGK (bG rB (bX a0 a1) (rN (bX a0 a1)) a2 a3) a0 (ix3 H k x)
    = ((kR (hd3 r0 H) (hd3 r1 H) (hd3 r2 H) (hd2 r3 H) (mu H) k x : ℝ) : EReal) := by
  rw [rGK_at]
  simp only [rG_real a0 a1 a2 a3 r0 r1 r2 r3 mu e0 e1 e2 e3 hmu, e0]
  exact rk_eq (hd3 r0 H) (hd3 r1 H) (hd3 r2 H) (hd2 r3 H) (mu H) k x

include e0 e1 e3 hmu in
theorem ref_v (H : Fin 4) (k : Fin 8192) (x : Fin 128) : rGV (rD a3) (rP (bX a0 a1) (rN (bX a0 a1))) (ix3 H k x)
    = ((vR (hd3 r0 H) (hd3 r1 H) (hd2 r3 H) (mu H) k x : ℝ) : EReal) := by
  rw [rGV_at, ← rv_eq (hd3 r0 H) (hd3 r1 H) (hd2 r3 H) (mu H) k x]
  refine Finset.sum_congr rfl fun q _ => congrArg₂ (· * ·) ((rD_at a3 H q x).trans (e3 _)) ?_
  rw [rP_at, rX_real a0 a1 r0 r1 mu e0 e1 hmu, rN_real a0 a1 r0 r1 mu e0 e1 hmu]
  exact prob_eq (hd3 r0 H) (hd3 r1 H) (mu H) q k

end Reference

open Cert.ReferenceIdeal.Plain in
/-- The three results, of memories whose arguments agree and are real. -/
theorem results_eq (m : (ℓ : Loc nD τ sig) → Buf (Elt Ideal) ℓ) (c : Dev nD)
    (f0 : ∀ i, A0 m c i = (r0 i : EReal)) (f1 : ∀ i, A1 m c i = (r1 i : EReal)) (f2 : ∀ i, A2 m c i = (r2 i : EReal)) (f3 : ∀ i, A3 m c i = (r3 i : EReal)) :
    (dat0 (entry m) c).arrAt 7 (cfgA (F := Ideal)).N = rGQ (bG rB (bX (A0 m c) (A1 m c)) (rN (bX (A0 m c) (A1 m c))) (A2 m c) (A3 m c)) (A1 m c)
    ∧ (dat0 (entry m) c).arrAt 8 (cfgA (F := Ideal)).N = rGK (bG rB (bX (A0 m c) (A1 m c)) (rN (bX (A0 m c) (A1 m c))) (A2 m c) (A3 m c)) (A0 m c)
    ∧ (dat0 (entry m) c).arrAt 9 (cfgA (F := Ideal)).N = rGV (rD (A3 m c)) (rP (bX (A0 m c) (A1 m c)) (rN (bX (A0 m c) (A1 m c)))) := by
  choose mu hmu using fun H q => exists_max (fun k => sR (hd3 r0 H) (hd3 r1 H) q k) q
  refine ⟨(arr7 (entry m) c).trans (funext fun i => ?_), (arr8 (entry m) c).trans (funext fun i => ?_), (arr9 (entry m) c).trans (funext fun i => ?_)⟩
  · obtain ⟨H, x, q, rfl⟩ : ∃ H x q, i = ix3 H x q := ⟨i (0 : Fin 3), i (1 : Fin 3), i (2 : Fin 3), funext fun b => match b with | ⟨0, _⟩ => rfl | ⟨1, _⟩ => rfl | ⟨2, _⟩ => rfl⟩
    exact (kernel_q r0 r1 r2 r3 mu hmu m c f0 f1 f2 f3 H x q).trans (ref_q _ _ _ _ r0 r1 r2 r3 mu f0 f1 f2 f3 hmu H x q).symm
  · obtain ⟨H, x, q, rfl⟩ : ∃ H x q, i = ix3 H x q := ⟨i (0 : Fin 3), i (1 : Fin 3), i (2 : Fin 3), funext fun b => match b with | ⟨0, _⟩ => rfl | ⟨1, _⟩ => rfl | ⟨2, _⟩ => rfl⟩
    exact (kernel_k r0 r1 r2 r3 mu hmu m c f0 f1 f2 f3 H x q).trans (ref_k _ _ _ _ r0 r1 r2 r3 mu f0 f1 f2 f3 hmu H x q).symm
  · obtain ⟨H, x, q, rfl⟩ : ∃ H x q, i = ix3 H x q := ⟨i (0 : Fin 3), i (1 : Fin 3), i (2 : Fin 3), funext fun b => match b with | ⟨0, _⟩ => rfl | ⟨1, _⟩ => rfl | ⟨2, _⟩ => rfl⟩
    exact (kernel_v r0 r1 r3 mu hmu m c f0 f1 f3 H x q).trans (ref_v _ _ _ r0 r1 r3 mu f0 f1 f3 hmu H x q).symm

end Cert.KernelIdeal.Attn
end
-- ==== Proof.ValPre.lean ====
/- What the precondition says: every argument's elements are real numbers. -/
module

public import proofs.«01_k».proof.Defs
public import Idealize.ShloMosaic.Lib.ReduceAll
public import Idealize.ShloMosaic.Lib.Pointwise
public import Idealize.ShloMosaic.Lib.IdealHost

@[expose] public section

set_option maxRecDepth 16384

noncomputable section

namespace Cert.AttnPre

open Idealize.ShloMosaic Idealize.ShloMosaic.TcCoe
open Cert.Pre_finite Cert.Pre_finite.Facts

instance facts : Cert.Pre_finite.Facts where
  bcast_S_S4x8192x128 := by decide
  reducesTo_S4x8192x128_S_d0_1_2 := by decide
  h_S_ := by decide
  bcast_S_S8192x512 := by decide
  reducesTo_S8192x512_S_d0_1 := by decide

theorem real_of_abs (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

theorem inf_eq : Ideal.ofBits .f32 0x7F800000#32 = ⊤ := by
  simp [Ideal.ofBits, Ideal.ieee]

instance : Subsingleton S_.Idx := ⟨fun a b => funext fun i => i.elim0⟩

theorem one_of_andi (x y : IVec S_ 1) (h : andi x y = fun _ => 1#1) : x = (fun _ => 1#1) ∧ y = (fun _ => 1#1) :=
  ⟨funext fun i => (IntOp.andi_eq_one.1 (congrFun h i)).1, funext fun i => (IntOp.andi_eq_one.1 (congrFun h i)).2⟩

theorem all3 (x : FVec Ideal S4x8192x128 .f32)
    (h : Host.reduce IntOp.andi (cmpf (F := Ideal) .olt (Host.absf x) (broadcastInDim S4x8192x128 ![] bcast_S_S4x8192x128 (constant (F := Ideal) S_ .f32 0x7F800000#32))) (constantI S_ 1 1#1) reducesTo_S4x8192x128_S_d0_1_2 h_S_ = fun _ => 1#1)
    (i : S4x8192x128.Idx) : ∃ r : ℝ, x i = (r : EReal) := by
  have := Host.reduce_andi_all _ _ _ _ (fun a => a.elim0) (congrFun h _) i
  refine real_of_abs (x i) ?_
  rw [← inf_eq]
  exact this
theorem all2 (x : FVec Ideal S8192x512 .f32)
    (h : Host.reduce IntOp.andi (cmpf (F := Ideal) .olt (Host.absf x) (broadcastInDim S8192x512 ![] bcast_S_S8192x512 (constant (F := Ideal) S_ .f32 0x7F800000#32))) (constantI S_ 1 1#1) reducesTo_S8192x512_S_d0_1 h_S_ = fun _ => 1#1)
    (i : S8192x512.Idx) : ∃ r : ℝ, x i = (r : EReal) := by
  have := Host.reduce_andi_all _ _ _ _ (fun a => a.elim0) (congrFun h _) i
  refine real_of_abs (x i) ?_
  rw [← inf_eq]
  exact this

theorem reals (a0 a1 a2 : FVec Ideal S4x8192x128 .f32) (a3 : FVec Ideal S8192x512 .f32) (h : Cert.Pre_finite.fn (F := Ideal) a0 a1 a2 a3 = fun _ => 1#1) :
    ∃ (r0 r1 r2 : S4x8192x128.Idx → ℝ) (r3 : S8192x512.Idx → ℝ),
      (∀ i, a0 i = (r0 i : EReal)) ∧ (∀ i, a1 i = (r1 i : EReal)) ∧ (∀ i, a2 i = (r2 i : EReal)) ∧ (∀ i, a3 i = (r3 i : EReal)) := by
  unfold Cert.Pre_finite.fn Cert.Pre_finite.fn_part1 at h
  obtain ⟨h, h3⟩ := one_of_andi _ _ h
  obtain ⟨h, h2⟩ := one_of_andi _ _ h
  obtain ⟨h0, h1⟩ := one_of_andi _ _ h
  choose r0 e0 using all3 a0 h0
  choose r1 e1 using all3 a1 h1
  choose r2 e2 using all3 a2 h2
  choose r3 e3 using all2 a3 h3
  exact ⟨r0, r1, r2, r3, e0, e1, e2, e3⟩

end Cert.AttnPre
end
-- ==== Proof.MatDown.lean ====
/- The gradient of the down projection: the product of two arrays over their 8192 rows, added up in four blocks of 2048 rows. -/
module

public import proofs.«01_k».proof.Proof.Gen.Kernel3Ideal.Value
public import proofs.«01_k».proof.Proof.Gen.Reference3Ideal.Run
public import Idealize.ShloMosaic.Lib.Pointwise
public import Idealize.ShloMosaic.Lib.IdealHost
public import Idealize.ShloMosaic.Lib.Pipeline.ValueKit

@[expose] public section

set_option maxRecDepth 16384

noncomputable section

namespace Cert.Reference3Ideal.Tn

open Idealize.ShloMosaic Cert.Reference3Ideal Cert.Reference3Ideal.Gen
open scoped BigOperators

/-- The product of two arrays over their rows, as the reference writes it. -/
def prod (a : Vec Ideal S8192x2816 .f32) (b : Vec Ideal S8192x1024 .f32) : Vec Ideal S2816x1024 .bf16 :=
  truncf (F := Ideal) (φ := .f32) .bf16 (Host.dotGeneral (F := Ideal) (φ₁ := .f32) (φ₂ := .f32) dot_S2816x8192_S8192x1024_S2816x1024_1_0_0_1_n_n none (transpose S2816x8192 [1, 0] a transposes_S8192x2816_S2816x8192_1_0) b) bitsLt_bf16_f32

theorem prod_at (a : Vec Ideal S8192x2816 .f32) (b : Vec Ideal S8192x1024 .f32) (i : Fin 2816) (j : Fin 1024) :
    prod a b (ix2 i j) = ∑ k : Fin 8192, a (ix2 k i) * b (ix2 k j) := by
  pointwise [prod]

end Cert.Reference3Ideal.Tn

namespace Cert.Kernel3Ideal.Tn

open Idealize.ShloMosaic Idealize.ShloMosaic.TcCoe
open Cert.Kernel3Ideal Cert.Kernel3Ideal.Gen
open scoped BigOperators

theorem off0 : (![0, 0] : Fin 2 → ℕ) = fun _ => 0 := by
  funext a
  match a with
  | ⟨0, _⟩ => rfl
  | ⟨1, _⟩ => rfl

section Points
variable {F : FTy → Type} [FloatOps F]
variable (c : Dev nD) (i : grid0.Coords) (arg3 : Memref sig .tc .vmem S2048x1408 .bf16) (harg3 : arg3.IsWhole) (arg4 : Memref sig .tc .vmem S2048x1024 .f32) (harg4 : arg4.IsWhole)
  (arg5 : Memref sig .tc .vmem S1408x1024 .bf16) (harg5 : arg5.IsWhole) (arg6 : Memref sig .tc .vmem S1408x1024 .f32) (harg6 : arg6.IsWhole)
variable (x0 : Vec F S2048x1408 .bf16) (x1 : Vec F S2048x1024 .f32) (xs : Vec F S1408x1024 .f32)

/-- The first block of rows: the sum starts from zero. -/
theorem first_sum (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1408x1024) off0, View.readCov_unit_zero (S := S1408x1024) _ off0]
  simp only [View.readAt_eq_ld, harg3.read_unread, harg4.read_unread, View.ld_unit_zero (S := S2048x1408) off0, View.ld_unit_zero (S := S2048x1024) off0]

/-- A block of rows in the middle adds to the sum. -/
theorem next_sum (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  rw [View.canon_unit_zero (S := S1408x1024) off0]
  simp only [View.readAt_eq_ld, harg3.read_unread, harg4.read_unread, harg6.read_unread, View.ld_unit_zero (S := S2048x1408) off0, View.ld_unit_zero (S := S2048x1024) off0, View.ld_unit_zero (S := S1408x1024) off0]

/-- The last block of rows: the sum so far and its product go out. -/
theorem last_out (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero (S := S1408x1024) off0, View.readCov_unit_zero (S := S1408x1024) _ off0]
  simp only [View.readAt_eq_ld, harg3.read_unread, harg4.read_unread, harg6.read_unread, View.ld_unit_zero (S := S2048x1408) off0, View.ld_unit_zero (S := S2048x1024) off0, View.ld_unit_zero (S := S1408x1024) off0]

end Points

theorem pay_at (s : Vec Ideal S1408x1024 .f32) (a : Vec Ideal S2048x1408 .bf16) (b : Vec Ideal S2048x1024 .f32) (p : Fin 1408) (q : Fin 1024) :
    k0_pay2 s a b (ix2 p q) = s (ix2 p q) + ∑ x : Fin 2048, a (ix2 x p) * b (ix2 x q) := by
  pointwise [k0_pay2]

theorem cast_at (s : Vec Ideal S1408x1024 .f32) (i) : k0_pay3 s i = s i := rfl

theorem zero_at (i) : k0_pay1 (F := Ideal) i = 0 := by
  pointwise [k0_pay1]

/-- Row `x` of block `r`, and column `p` of half `g`. -/
def row (r : Fin 4) (x : Fin 2048) : Fin 8192 := ⟨2048 * r.val + x.val, by have := r.isLt; have := x.isLt; omega⟩
def col (g : Fin 2) (p : Fin 1408) : Fin 2816 := ⟨1408 * g.val + p.val, by have := g.isLt; have := p.isLt; omega⟩

variable (m : (ℓ : Loc nD τ sig) → Buf (Elt Ideal) ℓ) (c : Dev nD)

def lhs : Vec Ideal S8192x2816 .bf16 := V m c main_v0
def rhs : Vec Ideal S8192x1024 .f32 := V m c main_arg1

def rB (t : Fin cfg0.N) : Fin 4 := ⟨t.val % 4, Nat.mod_lt _ (by decide)⟩
def gB (t : Fin cfg0.N) : Fin 2 := ⟨t.val / 4, by have h := lt_of_lt_of_eq t.isLt (show cfg0.N = 8 from N_0); omega⟩

theorem index_l : ∀ t : Fin cfg0.N, win0_0.index t = ![(rB t).val, (gB t).val] := (by decide +kernel : ∀ t : Fin grid0.N, _)
theorem index_r : ∀ t : Fin cfg0.N, win0_1.index t = ![(rB t).val, 0] := (by decide +kernel : ∀ t : Fin grid0.N, _)

theorem blk_l (t : Fin cfg0.N) (x : Fin 2048) (p : Fin 1408) : (iblk m c 0 t : Vec Ideal S2048x1408 .bf16) (ix2 x p) = lhs m c (ix2 (row (rB t) x) (col (gB t) p)) := by
  unfold iblk
  rw [View.read_apply]
  refine congrArg (lhs m c) (funext fun a => Fin.ext ?_)
  have e0 : win0_0.index t 0 = (rB t).val := congrFun (index_l t) 0
  have e1 : win0_0.index t 1 = (gB t).val := congrFun (index_l t) 1
  match a with
  | ⟨0, _⟩ => show win0_0.index t 0 * 2048 + 1 * x.val = 2048 * (rB t).val + x.val; rw [e0]; omega
  | ⟨1, _⟩ => show win0_0.index t 1 * 1408 + 1 * p.val = 1408 * (gB t).val + p.val; rw [e1]; omega

theorem blk_r (t : Fin cfg0.N) (x : Fin 2048) (q : Fin 1024) : (iblk m c 1 t : Vec Ideal S2048x1024 .f32) (ix2 x q) = rhs m c (ix2 (row (rB t) x) q) := by
  unfold iblk
  rw [View.read_apply]
  refine congrArg (rhs m c) (funext fun a => Fin.ext ?_)
  have e0 : win0_1.index t 0 = (rB t).val := congrFun (index_r t) 0
  have e1 : win0_1.index t 1 = 0 := congrFun (index_r t) 1
  match a with
  | ⟨0, _⟩ => show win0_1.index t 0 * 2048 + 1 * x.val = 2048 * (rB t).val + x.val; rw [e0]; omega
  | ⟨1, _⟩ => show win0_1.index t 1 * 1024 + 1 * q.val = q.val; rw [e1]; omega

/-- One block of rows' part of an entry. -/
def part (g : Fin 2) (p : Fin 1408) (q : Fin 1024) (r : ℕ) : EReal :=
  if h : r < 4 then ∑ x : Fin 2048, lhs m c (ix2 (row ⟨r, h⟩ x) (col g p)) * rhs m c (ix2 (row ⟨r, h⟩ x) q) else 0

theorem step_at (t : Fin cfg0.N) (s : Vec Ideal S1408x1024 .f32) (p : Fin 1408) (q : Fin 1024) :
    k0_pay2 s (iblk m c 0 t) (iblk m c 1 t) (ix2 p q) = s (ix2 p q) + part m c (gB t) p q (t.val % 4) := by
  rw [pay_at]
  have e : part m c (gB t) p q (t.val % 4) = ∑ x : Fin 2048, lhs m c (ix2 (row (rB t) x) (col (gB t) p)) * rhs m c (ix2 (row (rB t) x) q) :=
    dif_pos (rB t).isLt
  rw [e]
  refine congrArg (s (ix2 p q) + ·) (Finset.sum_congr rfl fun x _ => ?_)
  exact congrArg₂ (· * ·) (blk_l m c t x p) (blk_r m c t x q)

/-- After a point that is no last block, the sum holds the blocks up to its own. -/
theorem sum_at (p : Fin 1408) (q : Fin 1024) : ∀ (n : ℕ) (h : n < cfg0.N), n % 4 ≠ 3 →
    (outsAt0 m c n h).2 (ix2 p q) = ∑ r ∈ Finset.range (n % 4 + 1), part m c (gB ⟨n, h⟩) p q r := by
  intro n
  induction n with
  | zero =>
    intro h hn
    rw [outsAt0_A m c ⟨0, h⟩ rfl hn]
    dsimp only
    rw [first_sum, step_at, zero_at, zero_add]
    exact (Finset.sum_range_one _).symm
  | succ n ih =>
    intro h hn
    by_cases h0 : (n + 1) % 4 = 0
    · rw [outsAt0_A m c ⟨n + 1, h⟩ h0 hn]
      dsimp only
      rw [first_sum, step_at, zero_at, zero_add, h0]
      exact (Finset.sum_range_one _).symm
    · rw [outsAt0_B m c ⟨n + 1, h⟩ h0 hn]
      dsimp only
      rw [next_sum, step_at]
      have e : (n + 1) % 4 = n % 4 + 1 := by omega
      have hg : gB ⟨n + 1, h⟩ = gB ⟨n, Nat.lt_of_succ_lt h⟩ := Fin.ext (show (n + 1) / 4 = n / 4 by omega)
      rw [hg]
      show (outsAt0 m c n _).2 (ix2 p q) + part m c _ p q ((n + 1) % 4) = _
      rw [ih (Nat.lt_of_succ_lt h) (by omega), e, Finset.sum_range_succ _ (n % 4 + 1)]

theorem out_at (p : Fin 1408) (q : Fin 1024) (t : Fin cfg0.N) (h : t.val % 4 = 3) :
    (outsAt0 m c t.val t.isLt).1 (ix2 p q) = ∑ r ∈ Finset.range 4, part m c (gB t) p q r := by
  rw [outsAt0_C m c t (by omega) h]
  dsimp only
  rw [last_out]
  rw [cast_at, step_at, sum_at m c p q (t.val - 1) _ (by omega), h, Finset.sum_range_succ _ 3]
  have e : (t.val - 1) % 4 + 1 = 3 := by omega
  have hg : gB ⟨t.val - 1, Nat.lt_of_le_of_lt (Nat.sub_le _ _) t.isLt⟩ = gB t := Fin.ext (show (t.val - 1) / 4 = t.val / 4 by omega)
  rw [e, hg]

/-- The four blocks of rows are all the rows. -/
theorem rows_sum (f : Fin 8192 → EReal) : ∑ r ∈ Finset.range 4, (if h : r < 4 then ∑ x : Fin 2048, f (row ⟨r, h⟩ x) else 0) = ∑ k, f k := by
  rw [Finset.sum_range]
  have e : ∀ r : Fin 4, (if h : r.val < 4 then ∑ x : Fin 2048, f (row ⟨r.val, h⟩ x) else 0) = ∑ x : Fin 2048, f (row r x) := fun r => dif_pos r.isLt
  rw [Finset.sum_congr rfl fun r _ => e r, ← Fintype.sum_prod_type' (f := fun r x => f (row r x))]
  refine Fintype.sum_bijective (fun y : Fin 4 × Fin 2048 => row y.1 y.2) ⟨?_, ?_⟩ _ _ fun _ => rfl
  · rintro ⟨a, x⟩ ⟨b, y⟩ h
    have h' : 2048 * a.val + x.val = 2048 * b.val + y.val := congrArg Fin.val h
    have hx := x.isLt
    have hy := y.isLt
    clear h
    exact Prod.ext (Fin.ext (show a.val = b.val by omega)) (Fin.ext (show x.val = y.val by omega))
  · intro k
    have := k.isLt
    exact ⟨(⟨k.val / 2048, by omega⟩, ⟨k.val % 2048, by omega⟩), Fin.ext (show 2048 * (k.val / 2048) + k.val % 2048 = k.val by omega)⟩

/-- The array the call returns: the product of the two arrays over their rows. -/
theorem result_at (i : Fin 2816) (j : Fin 1024) : Value.G2 m c (ix2 i j) = ∑ k : Fin 8192, lhs m c (ix2 k i) * rhs m c (ix2 k j) := by
  have hi := i.isLt
  have hj := j.isLt
  have hp : Value.pt2Of (ix2 i j) = 4 * (i.val / 1408) + 3 := by
    show 4 * (1 * (i.val / 1408 - 0) + 1 * (j.val / 1024 - 0)) + 3 = _
    omega
  have hN : cfg0.N = 8 := N_0
  have hlt : Value.pt2Of (ix2 i j) < cfg0.N := by rw [hp, hN]; omega
  unfold Value.G2
  rw [dif_pos hlt, ← Value.outsAt0_sweep m c _ hlt]
  have hl : Value.loc2Of (ix2 i j) = ix2 (⟨i.val % 1408, Nat.mod_lt _ (by decide)⟩ : Fin 1408) j := by
    funext a
    match a with
    | ⟨0, _⟩ => rfl
    | ⟨1, _⟩ => exact Fin.ext (Nat.mod_eq_of_lt hj)
  rw [hl]
  refine (out_at m c _ _ ⟨_, hlt⟩ (by show Value.pt2Of (ix2 i j) % 4 = 3; rw [hp]; omega)).trans ?_
  have hc : col (gB ⟨Value.pt2Of (ix2 i j), hlt⟩) ⟨i.val % 1408, Nat.mod_lt _ (by decide)⟩ = i := by
    refine Fin.ext ?_
    show 1408 * (Value.pt2Of (ix2 i j) / 4) + i.val % 1408 = i.val
    rw [hp]
    omega
  unfold part
  rw [hc]
  exact rows_sum (fun k => lhs m c (ix2 k i) * rhs m c (ix2 k j))

theorem lhs_at (i) : lhs m c i = m ((c : Thread nD τ).loc main_arg0) i := by
  show (V m c main_v0 : Vec Ideal S8192x2816 .bf16) i = _
  have e : (V m c main_v0 : Vec Ideal S8192x2816 .bf16) = (truncf (F := Ideal) (φ := .f32) .bf16 (m ((c : Thread nD τ).loc main_arg0) : Vec Ideal S8192x2816 .f32) bitsLt_bf16_f32 : Vec Ideal S8192x2816 .bf16) := by
    dsimp only [V, hostOps0]
    after_results
  rw [e]
  rfl

theorem rhs_at (i) : rhs m c i = m ((c : Thread nD τ).loc main_arg1) i := congrFun (V_main_arg1 m c) i

/-- The kernel's result is the reference's. -/
theorem result_eq : Value.G2 m c = Cert.Reference3Ideal.Tn.prod (m ((c : Thread nD τ).loc main_arg0)) (m ((c : Thread nD τ).loc main_arg1)) := by
  funext i
  have h : i = ix2 (i 0) (i 1) := by
    funext a
    match a with
    | ⟨0, _⟩ => rfl
    | ⟨1, _⟩ => rfl
  rw [h]
  refine (result_at m c (i 0) (i 1)).trans ((Cert.Reference3Ideal.Tn.prod_at _ _ (i 0) (i 1)).trans ?_).symm
  exact Finset.sum_congr rfl fun k _ => congrArg₂ (· * ·) (lhs_at m c _).symm (rhs_at m c _).symm

end Cert.Kernel3Ideal.Tn
end
-- ==== Proof.MatGate.lean ====
/- The gradient of the gate projection (and of the up projection): the product of two arrays over their 8192 rows, added up in four blocks of 2048 rows. -/
module

public import proofs.«01_k».proof.Proof.Gen.Kernel5Ideal.Value
public import proofs.«01_k».proof.Proof.Gen.Reference5Ideal.Run
public import Idealize.ShloMosaic.Lib.Pointwise
public import Idealize.ShloMosaic.Lib.IdealHost
public import Idealize.ShloMosaic.Lib.Pipeline.ValueKit

@[expose] public section

set_option maxRecDepth 16384

noncomputable section

namespace Cert.Reference5Ideal.Tn

open Idealize.ShloMosaic Cert.Reference5Ideal Cert.Reference5Ideal.Gen
open scoped BigOperators

/-- The product of two arrays over their rows, as the reference writes it. -/
def prod (a : Vec Ideal S8192x2816 .f32) (b : Vec Ideal S8192x1024 .f32) : Vec Ideal S2816x1024 .bf16 :=
  truncf (F := Ideal) (φ := .f32) .bf16 (Host.dotGeneral (F := Ideal) (φ₁ := .f32) (φ₂ := .f32) dot_S2816x8192_S8192x1024_S2816x1024_1_0_0_1_n_n none (transpose S2816x8192 [1, 0] a transposes_S8192x2816_S2816x8192_1_0) b) bitsLt_bf16_f32

theorem prod_at (a : Vec Ideal S8192x2816 .f32) (b : Vec Ideal S8192x1024 .f32) (i : Fin 2816) (j : Fin 1024) :
    prod a b (ix2 i j) = ∑ k : Fin 8192, a (ix2 k i) * b (ix2 k j) := by
  pointwise [prod]

end Cert.Reference5Ideal.Tn

namespace Cert.Kernel5Ideal.Tn

open Idealize.ShloMosaic Idealize.ShloMosaic.TcCoe
open Cert.Kernel5Ideal Cert.Kernel5Ideal.Gen
open scoped BigOperators

theorem off0 : (![0, 0] : Fin 2 → ℕ) = fun _ => 0 := by
  funext a
  match a with
  | ⟨0, _⟩ => rfl
  | ⟨1, _⟩ => rfl

section Points
variable {F : FTy → Type} [FloatOps F]
variable (c : Dev nD) (i : grid0.Coords) (arg3 : Memref sig .tc .vmem S2048x1408 .bf16) (harg3 : arg3.IsWhole) (arg4 : Memref sig .tc .vmem S2048x1024 .bf16) (harg4 : arg4.IsWhole)
  (arg5 : Memref sig .tc .vmem S1408x1024 .bf16) (harg5 : arg5.IsWhole) (arg6 : Memref sig .tc .vmem S1408x1024 .f32) (harg6 : arg6.IsWhole)
variable (x0 : Vec F S2048x1408 .bf16) (x1 : Vec F S2048x1024 .bf16) (xs : Vec F S1408x1024 .f32)

/-- The first block of rows: the sum starts from zero. -/
theorem first_sum (hc0 : cond0_0 i) (hc1 : ¬cond0_1 i) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1408x1024) off0, View.readCov_unit_zero (S := S1408x1024) _ off0]
  simp only [View.readAt_eq_ld, harg3.read_unread, harg4.read_unread, View.ld_unit_zero (S := S2048x1408) off0, View.ld_unit_zero (S := S2048x1024) off0]

/-- A block of rows in the middle adds to the sum. -/
theorem next_sum (hc0 : ¬cond0_0 i) (hc1 : ¬cond0_1 i) :
    sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  rw [View.canon_unit_zero (S := S1408x1024) off0]
  simp only [View.readAt_eq_ld, harg3.read_unread, harg4.read_unread, harg6.read_unread, View.ld_unit_zero (S := S2048x1408) off0, View.ld_unit_zero (S := S2048x1024) off0, View.ld_unit_zero (S := S1408x1024) off0]

/-- The last block of rows: the sum so far and its product go out. -/
theorem last_out (hc0 : ¬cond0_0 i) (hc1 : cond0_1 i) :
    out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero (S := S1408x1024) off0, View.readCov_unit_zero (S := S1408x1024) _ off0]
  simp only [View.readAt_eq_ld, harg3.read_unread, harg4.read_unread, harg6.read_unread, View.ld_unit_zero (S := S2048x1408) off0, View.ld_unit_zero (S := S2048x1024) off0, View.ld_unit_zero (S := S1408x1024) off0]

end Points

theorem pay_at (s : Vec Ideal S1408x1024 .f32) (a : Vec Ideal S2048x1408 .bf16) (b : Vec Ideal S2048x1024 .bf16) (p : Fin 1408) (q : Fin 1024) :
    k0_pay2 s a b (ix2 p q) = s (ix2 p q) + ∑ x : Fin 2048, a (ix2 x p) * b (ix2 x q) := by
  pointwise [k0_pay2]

theorem cast_at (s : Vec Ideal S1408x1024 .f32) (i) : k0_pay3 s i = s i := rfl

theorem zero_at (i) : k0_pay1 (F := Ideal) i = 0 := by
  pointwise [k0_pay1]

/-- Row `x` of block `r`, and column `p` of half `g`. -/
def row (r : Fin 4) (x : Fin 2048) : Fin 8192 := ⟨2048 * r.val + x.val, by have := r.isLt; have := x.isLt; omega⟩
def col (g : Fin 2) (p : Fin 1408) : Fin 2816 := ⟨1408 * g.val + p.val, by have := g.isLt; have := p.isLt; omega⟩

variable (m : (ℓ : Loc nD τ sig) → Buf (Elt Ideal) ℓ) (c : Dev nD)

def lhs : Vec Ideal S8192x2816 .bf16 := V m c main_v0
def rhs : Vec Ideal S8192x1024 .bf16 := V m c main_v1

def rB (t : Fin cfg0.N) : Fin 4 := ⟨t.val % 4, Nat.mod_lt _ (by decide)⟩
def gB (t : Fin cfg0.N) : Fin 2 := ⟨t.val / 4, by have h := lt_of_lt_of_eq t.isLt (show cfg0.N = 8 from N_0); omega⟩

theorem index_l : ∀ t : Fin cfg0.N, win0_0.index t = ![(rB t).val, (gB t).val] := (by decide +kernel : ∀ t : Fin grid0.N, _)
theorem index_r : ∀ t : Fin cfg0.N, win0_1.index t = ![(rB t).val, 0] := (by decide +kernel : ∀ t : Fin grid0.N, _)

theorem blk_l (t : Fin cfg0.N) (x : Fin 2048) (p : Fin 1408) : (iblk m c 0 t : Vec Ideal S2048x1408 .bf16) (ix2 x p) = lhs m c (ix2 (row (rB t) x) (col (gB t) p)) := by
  unfold iblk
  rw [View.read_apply]
  refine congrArg (lhs m c) (funext fun a => Fin.ext ?_)
  have e0 : win0_0.index t 0 = (rB t).val := congrFun (index_l t) 0
  have e1 : win0_0.index t 1 = (gB t).val := congrFun (index_l t) 1
  match a with
  | ⟨0, _⟩ => show win0_0.index t 0 * 2048 + 1 * x.val = 2048 * (rB t).val + x.val; rw [e0]; omega
  | ⟨1, _⟩ => show win0_0.index t 1 * 1408 + 1 * p.val = 1408 * (gB t).val + p.val; rw [e1]; omega

theorem blk_r (t : Fin cfg0.N) (x : Fin 2048) (q : Fin 1024) : (iblk m c 1 t : Vec Ideal S2048x1024 .bf16) (ix2 x q) = rhs m c (ix2 (row (rB t) x) q) := by
  unfold iblk
  rw [View.read_apply]
  refine congrArg (rhs m c) (funext fun a => Fin.ext ?_)
  have e0 : win0_1.index t 0 = (rB t).val := congrFun (index_r t) 0
  have e1 : win0_1.index t 1 = 0 := congrFun (index_r t) 1
  match a with
  | ⟨0, _⟩ => show win0_1.index t 0 * 2048 + 1 * x.val = 2048 * (rB t).val + x.val; rw [e0]; omega
  | ⟨1, _⟩ => show win0_1.index t 1 * 1024 + 1 * q.val = q.val; rw [e1]; omega

/-- One block of rows' part of an entry. -/
def part (g : Fin 2) (p : Fin 1408) (q : Fin 1024) (r : ℕ) : EReal :=
  if h : r < 4 then ∑ x : Fin 2048, lhs m c (ix2 (row ⟨r, h⟩ x) (col g p)) * rhs m c (ix2 (row ⟨r, h⟩ x) q) else 0

theorem step_at (t : Fin cfg0.N) (s : Vec Ideal S1408x1024 .f32) (p : Fin 1408) (q : Fin 1024) :
    k0_pay2 s (iblk m c 0 t) (iblk m c 1 t) (ix2 p q) = s (ix2 p q) + part m c (gB t) p q (t.val % 4) := by
  rw [pay_at]
  have e : part m c (gB t) p q (t.val % 4) = ∑ x : Fin 2048, lhs m c (ix2 (row (rB t) x) (col (gB t) p)) * rhs m c (ix2 (row (rB t) x) q) :=
    dif_pos (rB t).isLt
  rw [e]
  refine congrArg (s (ix2 p q) + ·) (Finset.sum_congr rfl fun x _ => ?_)
  exact congrArg₂ (· * ·) (blk_l m c t x p) (blk_r m c t x q)

/-- After a point that is no last block, the sum holds the blocks up to its own. -/
theorem sum_at (p : Fin 1408) (q : Fin 1024) : ∀ (n : ℕ) (h : n < cfg0.N), n % 4 ≠ 3 →
    (outsAt0 m c n h).2 (ix2 p q) = ∑ r ∈ Finset.range (n % 4 + 1), part m c (gB ⟨n, h⟩) p q r := by
  intro n
  induction n with
  | zero =>
    intro h hn
    rw [outsAt0_A m c ⟨0, h⟩ rfl hn]
    dsimp only
    rw [first_sum, step_at, zero_at, zero_add]
    exact (Finset.sum_range_one _).symm
  | succ n ih =>
    intro h hn
    by_cases h0 : (n + 1) % 4 = 0
    · rw [outsAt0_A m c ⟨n + 1, h⟩ h0 hn]
      dsimp only
      rw [first_sum, step_at, zero_at, zero_add, h0]
      exact (Finset.sum_range_one _).symm
    · rw [outsAt0_B m c ⟨n + 1, h⟩ h0 hn]
      dsimp only
      rw [next_sum, step_at]
      have e : (n + 1) % 4 = n % 4 + 1 := by omega
      have hg : gB ⟨n + 1, h⟩ = gB ⟨n, Nat.lt_of_succ_lt h⟩ := Fin.ext (show (n + 1) / 4 = n / 4 by omega)
      rw [hg]
      show (outsAt0 m c n _).2 (ix2 p q) + part m c _ p q ((n + 1) % 4) = _
      rw [ih (Nat.lt_of_succ_lt h) (by omega), e, Finset.sum_range_succ _ (n % 4 + 1)]

theorem out_at (p : Fin 1408) (q : Fin 1024) (t : Fin cfg0.N) (h : t.val % 4 = 3) :
    (outsAt0 m c t.val t.isLt).1 (ix2 p q) = ∑ r ∈ Finset.range 4, part m c (gB t) p q r := by
  rw [outsAt0_C m c t (by omega) h]
  dsimp only
  rw [last_out]
  rw [cast_at, step_at, sum_at m c p q (t.val - 1) _ (by omega), h, Finset.sum_range_succ _ 3]
  have e : (t.val - 1) % 4 + 1 = 3 := by omega
  have hg : gB ⟨t.val - 1, Nat.lt_of_le_of_lt (Nat.sub_le _ _) t.isLt⟩ = gB t := Fin.ext (show (t.val - 1) / 4 = t.val / 4 by omega)
  rw [e, hg]

/-- The four blocks of rows are all the rows. -/
theorem rows_sum (f : Fin 8192 → EReal) : ∑ r ∈ Finset.range 4, (if h : r < 4 then ∑ x : Fin 2048, f (row ⟨r, h⟩ x) else 0) = ∑ k, f k := by
  rw [Finset.sum_range]
  have e : ∀ r : Fin 4, (if h : r.val < 4 then ∑ x : Fin 2048, f (row ⟨r.val, h⟩ x) else 0) = ∑ x : Fin 2048, f (row r x) := fun r => dif_pos r.isLt
  rw [Finset.sum_congr rfl fun r _ => e r, ← Fintype.sum_prod_type' (f := fun r x => f (row r x))]
  refine Fintype.sum_bijective (fun y : Fin 4 × Fin 2048 => row y.1 y.2) ⟨?_, ?_⟩ _ _ fun _ => rfl
  · rintro ⟨a, x⟩ ⟨b, y⟩ h
    have h' : 2048 * a.val + x.val = 2048 * b.val + y.val := congrArg Fin.val h
    have hx := x.isLt
    have hy := y.isLt
    clear h
    exact Prod.ext (Fin.ext (show a.val = b.val by omega)) (Fin.ext (show x.val = y.val by omega))
  · intro k
    have := k.isLt
    exact ⟨(⟨k.val / 2048, by omega⟩, ⟨k.val % 2048, by omega⟩), Fin.ext (show 2048 * (k.val / 2048) + k.val % 2048 = k.val by omega)⟩

/-- The array the call returns: the product of the two arrays over their rows. -/
theorem result_at (i : Fin 2816) (j : Fin 1024) : Value.G2 m c (ix2 i j) = ∑ k : Fin 8192, lhs m c (ix2 k i) * rhs m c (ix2 k j) := by
  have hi := i.isLt
  have hj := j.isLt
  have hp : Value.pt2Of (ix2 i j) = 4 * (i.val / 1408) + 3 := by
    show 4 * (1 * (i.val / 1408 - 0) + 1 * (j.val / 1024 - 0)) + 3 = _
    omega
  have hN : cfg0.N = 8 := N_0
  have hlt : Value.pt2Of (ix2 i j) < cfg0.N := by rw [hp, hN]; omega
  unfold Value.G2
  rw [dif_pos hlt, ← Value.outsAt0_sweep m c _ hlt]
  have hl : Value.loc2Of (ix2 i j) = ix2 (⟨i.val % 1408, Nat.mod_lt _ (by decide)⟩ : Fin 1408) j := by
    funext a
    match a with
    | ⟨0, _⟩ => rfl
    | ⟨1, _⟩ => exact Fin.ext (Nat.mod_eq_of_lt hj)
  rw [hl]
  refine (out_at m c _ _ ⟨_, hlt⟩ (by show Value.pt2Of (ix2 i j) % 4 = 3; rw [hp]; omega)).trans ?_
  have hc : col (gB ⟨Value.pt2Of (ix2 i j), hlt⟩) ⟨i.val % 1408, Nat.mod_lt _ (by decide)⟩ = i := by
    refine Fin.ext ?_
    show 1408 * (Value.pt2Of (ix2 i j) / 4) + i.val % 1408 = i.val
    rw [hp]
    omega
  unfold part
  rw [hc]
  exact rows_sum (fun k => lhs m c (ix2 k i) * rhs m c (ix2 k j))

theorem lhs_at (i) : lhs m c i = m ((c : Thread nD τ).loc main_arg0) i := by
  show (V m c main_v0 : Vec Ideal S8192x2816 .bf16) i = _
  have e : (V m c main_v0 : Vec Ideal S8192x2816 .bf16) = (truncf (F := Ideal) (φ := .f32) .bf16 (m ((c : Thread nD τ).loc main_arg0) : Vec Ideal S8192x2816 .f32) bitsLt_bf16_f32 : Vec Ideal S8192x2816 .bf16) := by
    dsimp only [V, hostOps0]
    after_results
  rw [e]
  rfl

theorem rhs_at (i) : rhs m c i = m ((c : Thread nD τ).loc main_arg1) i := by
  show (V m c main_v1 : Vec Ideal S8192x1024 .bf16) i = _
  have e : (V m c main_v1 : Vec Ideal S8192x1024 .bf16) = (truncf (F := Ideal) (φ := .f32) .bf16 (m ((c : Thread nD τ).loc main_arg1) : Vec Ideal S8192x1024 .f32) bitsLt_bf16_f32 : Vec Ideal S8192x1024 .bf16) := by
    dsimp only [V, hostOps0]
    after_results
  rw [e]
  rfl

/-- The kernel's result is the reference's. -/
theorem result_eq : Value.G2 m c = Cert.Reference5Ideal.Tn.prod (m ((c : Thread nD τ).loc main_arg0)) (m ((c : Thread nD τ).loc main_arg1)) := by
  funext i
  have h : i = ix2 (i 0) (i 1) := by
    funext a
    match a with
    | ⟨0, _⟩ => rfl
    | ⟨1, _⟩ => rfl
  rw [h]
  refine (result_at m c (i 0) (i 1)).trans ((Cert.Reference5Ideal.Tn.prod_at _ _ (i 0) (i 1)).trans ?_).symm
  exact Finset.sum_congr rfl fun k _ => congrArg₂ (· * ·) (lhs_at m c _).symm (rhs_at m c _).symm

end Cert.Kernel5Ideal.Tn
end
-- ==== Proof.Ffn.lean ====
/- The feed-forward step's mathematics on one row, and the hidden axis in eleven chunks of 256. -/
module

public import Idealize.ShloMosaic.Lib.IdealHost
public import Idealize.ShloMosaic.Lib.Pointwise

@[expose] public section

noncomputable section

namespace Cert.Ffn

open Idealize.ShloMosaic
open scoped BigOperators

/-- One over the root of the mean square, with the small constant under the root. -/
def inv (x : Fin 1024 → EReal) : EReal := Ideal.rsqrt ((∑ k, x k * x k) * ((1 / 1024 : ℝ) : EReal) + Ideal.ofBits .f32 0x358637BD#32)

/-- The normalised row times the gain. -/
def hid (x γ : Fin 1024 → EReal) (k : Fin 1024) : EReal := x k * inv x * γ k

/-- Its product with row `n` of a weight. -/
def lin (x γ : Fin 1024 → EReal) (w : Fin 2816 → Fin 1024 → EReal) (n : Fin 2816) : EReal := ∑ k, hid x γ k * w n k

def sig (g : EReal) : EReal := Ideal.div 1 (1 + Ideal.exp (-g))

/-- `silu g * u` -/
def glu (g u : EReal) : EReal := g * sig g * u

/-- Entry `n` of chunk `s` of the hidden axis. -/
def ch (s : Fin 11) (n : Fin 256) : Fin 2816 := ⟨256 * s.val + n.val, by have := s.isLt; have := n.isLt; omega⟩

theorem exists_ch (n : Fin 2816) : ∃ s k, ch s k = n := by
  have := n.isLt
  exact ⟨⟨n.val / 256, by omega⟩, ⟨n.val % 256, by omega⟩, Fin.ext (show 256 * (n.val / 256) + n.val % 256 = n.val by omega)⟩

theorem sum_ch (f : Fin 2816 → EReal) : ∑ s : Fin 11, ∑ n : Fin 256, f (ch s n) = ∑ n, f n := by
  rw [← Fintype.sum_prod_type' (f := fun s n => f (ch s n))]
  refine Fintype.sum_bijective (fun y : Fin 11 × Fin 256 => ch y.1 y.2) ⟨?_, ?_⟩ _ _ fun _ => rfl
  · rintro ⟨a, x⟩ ⟨b, y⟩ h
    have h' : 256 * a.val + x.val = 256 * b.val + y.val := congrArg Fin.val h
    have hx := x.isLt
    have hy := y.isLt
    clear h
    exact Prod.ext (Fin.ext (show a.val = b.val by omega)) (Fin.ext (show x.val = y.val by omega))
  · intro n
    obtain ⟨s, k, h⟩ := exists_ch n
    exact ⟨(s, k), h⟩

/-- The eleven chunks' sums, added to `x` one after another. -/
theorem eleven (x : EReal) (f : Fin 2816 → EReal) (p : Fin 11 → EReal) (hp : ∀ s, p s = ∑ n : Fin 256, f (ch s n)) :
    x + p 0 + p 1 + p 2 + p 3 + p 4 + p 5 + p 6 + p 7 + p 8 + p 9 + p 10 = x + ∑ n, f n := by
  rw [← sum_ch f, ← Finset.sum_congr rfl fun s _ => hp s]
  simp only [Fin.sum_univ_succ, Fin.sum_univ_zero, add_assoc, add_zero]
  rfl

theorem ofBits_1024th : Ideal.ofBits .f32 0x3A800000#32 = ((1 / 1024 : ℝ) : EReal) := by
  simp [Ideal.ofBits, Ideal.ieee]
  rw [← EReal.coe_mul]
  norm_num

theorem ofBits_1024 : Ideal.ofBits .f32 0x44800000#32 = ((1024 : ℝ) : EReal) := by
  simp [Ideal.ofBits, Ideal.ieee]
  rw [← EReal.coe_mul]
  norm_num

theorem div_1024 (x : EReal) : Ideal.div x (Ideal.ofBits .f32 0x44800000#32) = x * ((1 / 1024 : ℝ) : EReal) := by
  rw [ofBits_1024, Ideal.div_coe (by norm_num)]

end Cert.Ffn
end
-- ==== Proof.FwdTile.lean ====
/- The feed-forward step, one tile of 512 rows: what one grid point leaves. -/
module

public import proofs.«01_k».proof.Proof.Gen.Kernel4Ideal.Value
public import proofs.«01_k».proof.Proof.Ffn
public import Idealize.ShloMosaic.Lib.Pointwise
public import Idealize.ShloMosaic.Lib.IdealHost
public import Idealize.ShloMosaic.Lib.Pipeline.ValueKit

@[expose] public section

set_option maxRecDepth 16384

noncomputable section

namespace Cert.Kernel4Ideal.Fwd

open Idealize.ShloMosaic Idealize.ShloMosaic.TcCoe
open Cert.Kernel4Ideal Cert.Kernel4Ideal.Gen
open Cert.Ffn (inv hid lin sig glu ch)
open scoped BigOperators

theorem off0 : (![0, 0] : Fin 2 → ℕ) = fun _ => 0 := by
  funext a
  match a with
  | ⟨0, _⟩ => rfl
  | ⟨1, _⟩ => rfl

section Vectors
variable {F : FTy → Type} [FloatOps F]

/-- The rows of `h` times 256 rows of a weight. -/
def proj (h : FVec F S512x1024 .bf16) (w : Vec F S256x1024 .bf16) : FVec F S512x256 .f32 := k0_pay8 h w

/-- `silu g * u` -/
def act (g u : FVec F S512x256 .f32) : FVec F S512x256 .bf16 :=
  truncf .bf16 (mulf (mulf g (divf (broadcast S512x256 (Scalar.ofBits .f32 0x3F800000#32)) (addf (broadcast S512x256 (Scalar.ofBits .f32 0x3F800000#32)) (exp (subf (broadcast S512x256 (Scalar.ofBits .f32 0x00000000#32)) g))))) u) bitsLt_bf16_f32

/-- One more chunk of the hidden axis. -/
def more (acc : FVec F S512x1024 .f32) (h : FVec F S512x1024 .bf16) (wg wu wd : Vec F S256x1024 .bf16) : FVec F S512x1024 .f32 :=
  k0_pay1 acc (act (proj h wg) (proj h wu)) wd

variable (x0 : Vec F S512x1024 .f32) (x1 : Vec F S1x1024 .f32) (x2 x3 x4 : Vec F S2816x1024 .bf16)

def chunks (h : FVec F S512x1024 .bf16) : FVec F S512x1024 .f32 :=
  more (more (more (more (more (more (more (more (more (more (more (View.ld x0 r0_0) h (View.ld x2 r0_2) (View.ld x3 r0_2) (View.ld x4 r0_2))
    h (View.ld x2 r0_4) (View.ld x3 r0_4) (View.ld x4 r0_4)) h (View.ld x2 r0_6) (View.ld x3 r0_6) (View.ld x4 r0_6))
    h (View.ld x2 r0_8) (View.ld x3 r0_8) (View.ld x4 r0_8)) h (View.ld x2 r0_10) (View.ld x3 r0_10) (View.ld x4 r0_10))
    h (View.ld x2 r0_12) (View.ld x3 r0_12) (View.ld x4 r0_12)) h (View.ld x2 r0_14) (View.ld x3 r0_14) (View.ld x4 r0_14))
    h (View.ld x2 r0_16) (View.ld x3 r0_16) (View.ld x4 r0_16)) h (View.ld x2 r0_18) (View.ld x3 r0_18) (View.ld x4 r0_18))
    h (View.ld x2 r0_20) (View.ld x3 r0_20) (View.ld x4 r0_20)) h (View.ld x2 r0_22) (View.ld x3 r0_22) (View.ld x4 r0_22)

theorem out5_chunks : out0_5 x0 x1 x2 x3 x4 = View.canon [⟨r0_0, chunks x0 x2 x3 x4 (k0_pay59 x0 x1 x2 x3 x4)⟩] := rfl

end Vectors

theorem norm_at (x : Vec Ideal S512x1024 .f32) (g : Vec Ideal S1x1024 .f32) (r : Fin 512) (k : Fin 1024) :
    k0_pay2 x g (ix2 r k) = hid (fun k => x (ix2 r k)) (fun k => g (ix2 0 k)) k := by
  pointwise [k0_pay2]
  rw [Cert.Ffn.ofBits_1024th]
  rfl

theorem proj_at (h : Vec Ideal S512x1024 .bf16) (w : Vec Ideal S256x1024 .bf16) (r : Fin 512) (n : Fin 256) :
    proj h w (ix2 r n) = ∑ k : Fin 1024, h (ix2 r k) * w (ix2 n k) := by
  pointwise [proj, k0_pay8]

theorem act_at (g u : Vec Ideal S512x256 .f32) (i) : act (F := Ideal) g u i = glu (g i) (u i) := by
  pointwise [act]
  rw [zero_sub]
  rfl

theorem pay1_at (s : Vec Ideal S512x1024 .f32) (a : Vec Ideal S512x256 .bf16) (w : Vec Ideal S256x1024 .bf16) (r : Fin 512) (c : Fin 1024) :
    k0_pay1 s a w (ix2 r c) = s (ix2 r c) + ∑ n : Fin 256, a (ix2 r n) * w (ix2 n c) := by
  pointwise [k0_pay1]

/-- Rows `256 * s` on of a weight. -/
theorem ld_rows (X : Vec Ideal S2816x1024 .bf16) (s : Fin 11) {off : Fin 2 → ℕ} (h : off = ![256 * s.val, 0]) (inb) (n : Fin 256) (k : Fin 1024) :
    View.ld X (Rect.unit (s := S2816x1024) off S256x1024.size inb) (ix2 n k) = X (ix2 (ch s n) k) := by
  subst h
  refine congrArg X (funext fun a => Fin.ext ?_)
  match a with
  | ⟨0, _⟩ => show 256 * s.val + 1 * n.val = 256 * s.val + n.val; omega
  | ⟨1, _⟩ => show 0 + 1 * k.val = k.val; omega

/-- An entry's place in the chunk of columns stored. -/
theorem emb_cols (s : Fin 11) {off : Fin 2 → ℕ} (h : off = ![0, 256 * s.val]) (inb) (r : Fin 512) (n : Fin 256) :
    (Rect.unit (s := S512x2816) off S512x256.size inb).emb (ix2 r n) = ix2 r (ch s n) := by
  subst h
  funext a
  refine Fin.ext ?_
  match a with
  | ⟨0, _⟩ => show 0 + 1 * r.val = r.val; omega
  | ⟨1, _⟩ => show 256 * s.val + 1 * n.val = 256 * s.val + n.val; omega

section Tile
variable (x0 : Vec Ideal S512x1024 .f32) (x1 : Vec Ideal S1x1024 .f32) (x2 x3 x4 : Vec Ideal S2816x1024 .bf16)

def X (r : Fin 512) (k : Fin 1024) : EReal := x0 (ix2 r k)
def Γ (k : Fin 1024) : EReal := x1 (ix2 0 k)
def W (w : Vec Ideal S2816x1024 .bf16) (n : Fin 2816) (k : Fin 1024) : EReal := w (ix2 n k)

theorem hid_at (r : Fin 512) (k : Fin 1024) : k0_pay59 x0 x1 x2 x3 x4 (ix2 r k) = hid (X x0 r) (Γ x1) k := by
  unfold k0_pay59
  rw [View.ld_unit_zero (S := S512x1024) off0, View.ld_unit_zero (S := S1x1024) off0]
  exact norm_at x0 x1 r k

theorem lin_at (w : Vec Ideal S2816x1024 .bf16) (s : Fin 11) {off : Fin 2 → ℕ} (h : off = ![256 * s.val, 0]) (inb) (r : Fin 512) (n : Fin 256) :
    proj (F := Ideal) (k0_pay59 x0 x1 x2 x3 x4) (View.ld w (Rect.unit (s := S2816x1024) off S256x1024.size inb)) (ix2 r n) = lin (X x0 r) (Γ x1) (W w) (ch s n) := by
  rw [proj_at]
  exact Finset.sum_congr rfl fun k _ => congrArg₂ (· * ·) (hid_at x0 x1 x2 x3 x4 r k) (ld_rows w s h inb n k)

def term (r : Fin 512) (c : Fin 1024) (n : Fin 2816) : EReal := glu (lin (X x0 r) (Γ x1) (W x2) n) (lin (X x0 r) (Γ x1) (W x3) n) * W x4 n c

theorem more_at (acc : Vec Ideal S512x1024 .f32) (s : Fin 11) {off : Fin 2 → ℕ} (h : off = ![256 * s.val, 0]) (inb) (r : Fin 512) (c : Fin 1024) :
    more (F := Ideal) acc (k0_pay59 x0 x1 x2 x3 x4) (View.ld x2 (Rect.unit (s := S2816x1024) off S256x1024.size inb)) (View.ld x3 (Rect.unit (s := S2816x1024) off S256x1024.size inb))
      (View.ld x4 (Rect.unit (s := S2816x1024) off S256x1024.size inb)) (ix2 r c) = acc (ix2 r c) + ∑ n : Fin 256, term x0 x1 x2 x3 x4 r c (ch s n) := by
  unfold more
  rw [pay1_at]
  refine congrArg (acc (ix2 r c) + ·) (Finset.sum_congr rfl fun n _ => congrArg₂ (· * ·) ?_ (ld_rows x4 s h inb n c))
  rw [act_at]
  exact congrArg₂ glu (lin_at x0 x1 x2 x3 x4 x2 s h inb r n) (lin_at x0 x1 x2 x3 x4 x3 s h inb r n)

theorem out5_at (r : Fin 512) (c : Fin 1024) : out0_5 x0 x1 x2 x3 x4 (ix2 r c) = X x0 r c + ∑ n, term x0 x1 x2 x3 x4 r c n := by
  rw [out5_chunks, View.canon_unit_zero (S := S512x1024) off0]
  unfold chunks
  rw [more_at x0 x1 x2 x3 x4 _ 10 (off := ![2560, 0]) rfl inb_S2816x1024_S256x1024_2560_0, more_at x0 x1 x2 x3 x4 _ 9 (off := ![2304, 0]) rfl inb_S2816x1024_S256x1024_2304_0, more_at x0 x1 x2 x3 x4 _ 8 (off := ![2048, 0]) rfl inb_S2816x1024_S256x1024_2048_0, more_at x0 x1 x2 x3 x4 _ 7 (off := ![1792, 0]) rfl inb_S2816x1024_S256x1024_1792_0,
    more_at x0 x1 x2 x3 x4 _ 6 (off := ![1536, 0]) rfl inb_S2816x1024_S256x1024_1536_0, more_at x0 x1 x2 x3 x4 _ 5 (off := ![1280, 0]) rfl inb_S2816x1024_S256x1024_1280_0, more_at x0 x1 x2 x3 x4 _ 4 (off := ![1024, 0]) rfl inb_S2816x1024_S256x1024_1024_0, more_at x0 x1 x2 x3 x4 _ 3 (off := ![768, 0]) rfl inb_S2816x1024_S256x1024_768_0,
    more_at x0 x1 x2 x3 x4 _ 2 (off := ![512, 0]) rfl inb_S2816x1024_S256x1024_512_0, more_at x0 x1 x2 x3 x4 _ 1 (off := ![256, 0]) rfl inb_S2816x1024_S256x1024_256_0, more_at x0 x1 x2 x3 x4 _ 0 (off := ![0, 0]) rfl inb_S2816x1024_S256x1024_0_0, View.ld_unit_zero (S := S512x1024) off0]
  exact Cert.Ffn.eleven (x0 (ix2 r c)) (term x0 x1 x2 x3 x4 r c) (fun s => ∑ n : Fin 256, term x0 x1 x2 x3 x4 r c (ch s n)) fun _ => rfl

/-- One stored chunk is the whole function's. -/
theorem piece_at (w : Vec Ideal S2816x1024 .bf16) (s : Fin 11) {off off' : Fin 2 → ℕ} (h : off = ![256 * s.val, 0]) (h' : off' = ![0, 256 * s.val]) (inb) (inb')
    (p : Vec Ideal S512x256 .bf16) (hp : p = proj (F := Ideal) (k0_pay59 x0 x1 x2 x3 x4) (View.ld w (Rect.unit (s := S2816x1024) off S256x1024.size inb)))
    (x : (Rect.unit (s := S512x2816) off' S512x256.size inb').shape.Idx) :
    p x = (fun y : S512x2816.Idx => lin (X x0 (y 0)) (Γ x1) (W w) (y 1)) ((Rect.unit (s := S512x2816) off' S512x256.size inb').emb x) := by
  subst hp
  have e : x = ix2 (x 0) (x 1) := by
    funext a
    match a with
    | ⟨0, _⟩ => rfl
    | ⟨1, _⟩ => rfl
  rw [e]
  refine (lin_at x0 x1 x2 x3 x4 w s h inb (x 0) (x 1)).trans ?_
  exact (congrArg (fun y : S512x2816.Idx => lin (X x0 (y 0)) (Γ x1) (W w) (y 1)) (emb_cols s h' inb' (x 0) (x 1))).symm

theorem out6_at (r : Fin 512) (n : Fin 2816) : out0_6 x0 x1 x2 x3 x4 (ix2 r n) = lin (X x0 r) (Γ x1) (W x2) n := by
  unfold out0_6
  refine (View.canon_apply_of_pieces (fun y : S512x2816.Idx => lin (X x0 (y 0)) (Γ x1) (W x2) (y 1)) _ ?_ (ix2 r n) (cover0_6 _ _ _ _ _ _ _ _ _ _ _ _)).trans rfl
  intro p hp
  simp only [List.mem_cons, List.not_mem_nil, or_false] at hp
  rcases hp with rfl | rfl | rfl | rfl | rfl | rfl | rfl | rfl | rfl | rfl | rfl
  · exact piece_at x0 x1 x2 x3 x4 x2 10 rfl rfl inb_S2816x1024_S256x1024_2560_0 inb_S512x2816_S512x256_0_2560 _ rfl
  · exact piece_at x0 x1 x2 x3 x4 x2 9 rfl rfl inb_S2816x1024_S256x1024_2304_0 inb_S512x2816_S512x256_0_2304 _ rfl
  · exact piece_at x0 x1 x2 x3 x4 x2 8 rfl rfl inb_S2816x1024_S256x1024_2048_0 inb_S512x2816_S512x256_0_2048 _ rfl
  · exact piece_at x0 x1 x2 x3 x4 x2 7 rfl rfl inb_S2816x1024_S256x1024_1792_0 inb_S512x2816_S512x256_0_1792 _ rfl
  · exact piece_at x0 x1 x2 x3 x4 x2 6 rfl rfl inb_S2816x1024_S256x1024_1536_0 inb_S512x2816_S512x256_0_1536 _ rfl
  · exact piece_at x0 x1 x2 x3 x4 x2 5 rfl rfl inb_S2816x1024_S256x1024_1280_0 inb_S512x2816_S512x256_0_1280 _ rfl
  · exact piece_at x0 x1 x2 x3 x4 x2 4 rfl rfl inb_S2816x1024_S256x1024_1024_0 inb_S512x2816_S512x256_0_1024 _ rfl
  · exact piece_at x0 x1 x2 x3 x4 x2 3 rfl rfl inb_S2816x1024_S256x1024_768_0 inb_S512x2816_S512x256_0_768 _ rfl
  · exact piece_at x0 x1 x2 x3 x4 x2 2 rfl rfl inb_S2816x1024_S256x1024_512_0 inb_S512x2816_S512x256_0_512 _ rfl
  · exact piece_at x0 x1 x2 x3 x4 x2 1 rfl rfl inb_S2816x1024_S256x1024_256_0 inb_S512x2816_S512x256_0_256 _ rfl
  · exact piece_at x0 x1 x2 x3 x4 x2 0 rfl rfl inb_S2816x1024_S256x1024_0_0 inb_S512x2816_S512x256_0_0 _ rfl

theorem out7_at (r : Fin 512) (n : Fin 2816) : out0_7 x0 x1 x2 x3 x4 (ix2 r n) = lin (X x0 r) (Γ x1) (W x3) n := by
  unfold out0_7
  refine (View.canon_apply_of_pieces (fun y : S512x2816.Idx => lin (X x0 (y 0)) (Γ x1) (W x3) (y 1)) _ ?_ (ix2 r n) (cover0_7 _ _ _ _ _ _ _ _ _ _ _ _)).trans rfl
  intro p hp
  simp only [List.mem_cons, List.not_mem_nil, or_false] at hp
  rcases hp with rfl | rfl | rfl | rfl | rfl | rfl | rfl | rfl | rfl | rfl | rfl
  · exact piece_at x0 x1 x2 x3 x4 x3 10 rfl rfl inb_S2816x1024_S256x1024_2560_0 inb_S512x2816_S512x256_0_2560 _ rfl
  · exact piece_at x0 x1 x2 x3 x4 x3 9 rfl rfl inb_S2816x1024_S256x1024_2304_0 inb_S512x2816_S512x256_0_2304 _ rfl
  · exact piece_at x0 x1 x2 x3 x4 x3 8 rfl rfl inb_S2816x1024_S256x1024_2048_0 inb_S512x2816_S512x256_0_2048 _ rfl
  · exact piece_at x0 x1 x2 x3 x4 x3 7 rfl rfl inb_S2816x1024_S256x1024_1792_0 inb_S512x2816_S512x256_0_1792 _ rfl
  · exact piece_at x0 x1 x2 x3 x4 x3 6 rfl rfl inb_S2816x1024_S256x1024_1536_0 inb_S512x2816_S512x256_0_1536 _ rfl
  · exact piece_at x0 x1 x2 x3 x4 x3 5 rfl rfl inb_S2816x1024_S256x1024_1280_0 inb_S512x2816_S512x256_0_1280 _ rfl
  · exact piece_at x0 x1 x2 x3 x4 x3 4 rfl rfl inb_S2816x1024_S256x1024_1024_0 inb_S512x2816_S512x256_0_1024 _ rfl
  · exact piece_at x0 x1 x2 x3 x4 x3 3 rfl rfl inb_S2816x1024_S256x1024_768_0 inb_S512x2816_S512x256_0_768 _ rfl
  · exact piece_at x0 x1 x2 x3 x4 x3 2 rfl rfl inb_S2816x1024_S256x1024_512_0 inb_S512x2816_S512x256_0_512 _ rfl
  · exact piece_at x0 x1 x2 x3 x4 x3 1 rfl rfl inb_S2816x1024_S256x1024_256_0 inb_S512x2816_S512x256_0_256 _ rfl
  · exact piece_at x0 x1 x2 x3 x4 x3 0 rfl rfl inb_S2816x1024_S256x1024_0_0 inb_S512x2816_S512x256_0_0 _ rfl

end Tile

end Cert.Kernel4Ideal.Fwd
end
-- ==== Proof.FwdEq.lean ====
/- The feed-forward step's three result arrays, and the reference's, entry by entry. -/
module

public import proofs.«01_k».proof.Proof.FwdTile
public import proofs.«01_k».proof.Proof.Gen.Reference4Ideal.Run

@[expose] public section

set_option maxRecDepth 16384

noncomputable section

namespace Cert.Reference4Ideal.Fwd

open Idealize.ShloMosaic Cert.Reference4Ideal Cert.Reference4Ideal.Gen
open Cert.Ffn (inv hid lin sig glu ch)
open scoped BigOperators

variable (x : Vec Ideal S8192x1024 .f32) (γ : Vec Ideal S1x1024 .f32) (w wu wd : Vec Ideal S2816x1024 .f32)

def rH : Vec Ideal S8192x1024 .f32 :=
  mulf (F := Ideal) (φ := .f32) (mulf (F := Ideal) (φ := .f32) x (broadcastInDim S8192x1024 ![0, 1] bcast_S8192x1_S8192x1024_0_1 (Host.rsqrt (F := Ideal) (φ := .f32) (addf (F := Ideal) (φ := .f32) (Host.divf (F := Ideal) (φ := .f32) (broadcastInDim S8192x1 ![0] bcast_S8192_S8192x1_0 (Host.reduceAdd (F := Ideal) (φ := .f32) (mulf (F := Ideal) (φ := .f32) x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 γ)

def rL (h : Vec Ideal S8192x1024 .f32) : Vec Ideal S8192x2816 .f32 :=
  Host.dotGeneral (F := Ideal) (φ₁ := .f32) (φ₂ := .f32) dot_S8192x1024_S1024x2816_S8192x2816_1_0_0_1_n_n none h (transpose S1024x2816 [1, 0] w transposes_S2816x1024_S1024x2816_1_0)

def rA (g u : Vec Ideal S8192x2816 .f32) : Vec Ideal S8192x2816 .f32 :=
  mulf (F := Ideal) (φ := .f32) (mulf (F := Ideal) (φ := .f32) g (Host.divf (F := Ideal) (φ := .f32) (broadcastInDim S8192x2816 ![] bcast_S_S8192x2816 (constant S_ .f32 0x3F800000#32)) (addf (F := Ideal) (φ := .f32) (broadcastInDim S8192x2816 ![] bcast_S_S8192x2816 (constant S_ .f32 0x3F800000#32)) (Host.exp (F := Ideal) (φ := .f32) (Host.negf (F := Ideal) (φ := .f32) g))))) u

def rY (a : Vec Ideal S8192x2816 .f32) : Vec Ideal S8192x1024 .f32 :=
  addf (F := Ideal) (φ := .f32) x (Host.dotGeneral (F := Ideal) (φ₁ := .f32) (φ₂ := .f32) dot_S8192x2816_S2816x1024_S8192x1024_1_0_0_1_n_n none a wd)

theorem rH_at (i : Fin 8192) (k : Fin 1024) : rH x γ (ix2 i k) = hid (fun k => x (ix2 i k)) (fun k => γ (ix2 0 k)) k := by
  pointwise [rH]
  rw [Cert.Ffn.div_1024]
  rfl

theorem rL_at (h : Vec Ideal S8192x1024 .f32) (i : Fin 8192) (n : Fin 2816) : rL w h (ix2 i n) = ∑ k : Fin 1024, h (ix2 i k) * w (ix2 n k) := by
  pointwise [rL]

theorem rA_at (g u : Vec Ideal S8192x2816 .f32) (i) : rA g u i = glu (g i) (u i) := by
  pointwise [rA]
  rfl

theorem rY_at (a : Vec Ideal S8192x2816 .f32) (i : Fin 8192) (c : Fin 1024) : rY x wd a (ix2 i c) = x (ix2 i c) + ∑ n : Fin 2816, a (ix2 i n) * wd (ix2 n c) := by
  pointwise [rY]

theorem lin_at (i : Fin 8192) (n : Fin 2816) : rL w (rH x γ) (ix2 i n) = lin (fun k => x (ix2 i k)) (fun k => γ (ix2 0 k)) (fun n k => w (ix2 n k)) n := by
  rw [rL_at]
  exact Finset.sum_congr rfl fun k _ => congrArg (· * w (ix2 n k)) (rH_at x γ i k)

theorem out_at (i : Fin 8192) (c : Fin 1024) : rY x wd (rA (rL w (rH x γ)) (rL wu (rH x γ))) (ix2 i c) = x (ix2 i c)
    + ∑ n : Fin 2816, glu (lin (fun k => x (ix2 i k)) (fun k => γ (ix2 0 k)) (fun n k => w (ix2 n k)) n) (lin (fun k => x (ix2 i k)) (fun k => γ (ix2 0 k)) (fun n k => wu (ix2 n k)) n) * wd (ix2 n c) := by
  rw [rY_at]
  refine congrArg (x (ix2 i c) + ·) (Finset.sum_congr rfl fun n _ => congrArg (· * wd (ix2 n c)) ?_)
  rw [rA_at, lin_at, lin_at]

end Cert.Reference4Ideal.Fwd

namespace Cert.Kernel4Ideal.Fwd

open Idealize.ShloMosaic Idealize.ShloMosaic.TcCoe
open Cert.Kernel4Ideal Cert.Kernel4Ideal.Gen
open Cert.Ffn (inv hid lin sig glu ch)
open scoped BigOperators

variable (m : (ℓ : Loc nD τ sig) → Buf (Elt Ideal) ℓ) (c : Dev nD)

abbrev A0 : Vec Ideal S8192x1024 .f32 := m ((c : Thread nD τ).loc main_arg0)
abbrev A1 : Vec Ideal S1x1024 .f32 := m ((c : Thread nD τ).loc main_arg1)
abbrev A2 : Vec Ideal S2816x1024 .f32 := m ((c : Thread nD τ).loc main_arg2)
abbrev A3 : Vec Ideal S2816x1024 .f32 := m ((c : Thread nD τ).loc main_arg3)
abbrev A4 : Vec Ideal S2816x1024 .f32 := m ((c : Thread nD τ).loc main_arg4)

theorem v0_at (i) : (V m c main_v0 : Vec Ideal S2816x1024 .bf16) i = A2 m c i := by
  have e : (V m c main_v0 : Vec Ideal S2816x1024 .bf16) = (truncf (F := Ideal) (φ := .f32) .bf16 (A2 m c) bitsLt_bf16_f32 : Vec Ideal S2816x1024 .bf16) := by
    dsimp only [V, hostOps0]
    after_results
  rw [e]
  rfl
theorem v1_at (i) : (V m c main_v1 : Vec Ideal S2816x1024 .bf16) i = A3 m c i := by
  have e : (V m c main_v1 : Vec Ideal S2816x1024 .bf16) = (truncf (F := Ideal) (φ := .f32) .bf16 (A3 m c) bitsLt_bf16_f32 : Vec Ideal S2816x1024 .bf16) := by
    dsimp only [V, hostOps0]
    after_results
  rw [e]
  rfl
theorem v2_at (i) : (V m c main_v2 : Vec Ideal S2816x1024 .bf16) i = A4 m c i := by
  have e : (V m c main_v2 : Vec Ideal S2816x1024 .bf16) = (truncf (F := Ideal) (φ := .f32) .bf16 (A4 m c) bitsLt_bf16_f32 : Vec Ideal S2816x1024 .bf16) := by
    dsimp only [V, hostOps0]
    after_results
  rw [e]
  rfl

def row (t : Fin cfg0.N) (r : Fin 512) : Fin 8192 := ⟨512 * t.val + r.val, by have h := lt_of_lt_of_eq t.isLt (show cfg0.N = 16 from N_0); have := r.isLt; omega⟩

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

theorem blk0 (t : Fin cfg0.N) (r : Fin 512) (k : Fin 1024) : (iblk m c 0 t : Vec Ideal S512x1024 .f32) (ix2 r k) = A0 m c (ix2 (row t r) k) := by
  rw [← show V m c main_arg0 = A0 m c from V_main_arg0 m c]
  unfold iblk
  rw [View.read_apply]
  refine congrArg (V m c main_arg0 : Vec Ideal S8192x1024 .f32) (funext fun a => Fin.ext ?_)
  have e0 : win0_0.index t 0 = t.val := congrFun (index0 t) 0
  have e1 : win0_0.index t 1 = 0 := congrFun (index0 t) 1
  match a with
  | ⟨0, _⟩ => show win0_0.index t 0 * 512 + 1 * r.val = 512 * t.val + r.val; rw [e0]; omega
  | ⟨1, _⟩ => show win0_0.index t 1 * 1024 + 1 * k.val = k.val; rw [e1]; omega

theorem blk1 (t : Fin cfg0.N) (k : Fin 1024) : (iblk m c 1 t : Vec Ideal S1x1024 .f32) (ix2 0 k) = A1 m c (ix2 0 k) := by
  rw [← show V m c main_arg1 = A1 m c from V_main_arg1 m c]
  unfold iblk
  rw [View.read_apply]
  refine congrArg (V m c main_arg1 : Vec Ideal S1x1024 .f32) (funext fun a => Fin.ext ?_)
  have e0 : win0_1.index t 0 = 0 := congrFun (index1 t) 0
  have e1 : win0_1.index t 1 = 0 := congrFun (index1 t) 1
  match a with
  | ⟨0, _⟩ => show win0_1.index t 0 * 1 + 1 * 0 = 0; rw [e0]
  | ⟨1, _⟩ => show win0_1.index t 1 * 1024 + 1 * k.val = k.val; rw [e1]; omega

theorem blk2 (t : Fin cfg0.N) (n : Fin 2816) (k : Fin 1024) : (iblk m c 2 t : Vec Ideal S2816x1024 .bf16) (ix2 n k) = A2 m c (ix2 n k) := by
  rw [← v0_at m c]
  unfold iblk
  rw [View.read_apply]
  refine congrArg (V m c main_v0 : Vec Ideal S2816x1024 .bf16) (funext fun a => Fin.ext ?_)
  have e0 : win0_2.index t 0 = 0 := congrFun (index2 t) 0
  have e1 : win0_2.index t 1 = 0 := congrFun (index2 t) 1
  match a with
  | ⟨0, _⟩ => show win0_2.index t 0 * 2816 + 1 * n.val = n.val; rw [e0]; omega
  | ⟨1, _⟩ => show win0_2.index t 1 * 1024 + 1 * k.val = k.val; rw [e1]; omega

theorem blk3 (t : Fin cfg0.N) (n : Fin 2816) (k : Fin 1024) : (iblk m c 3 t : Vec Ideal S2816x1024 .bf16) (ix2 n k) = A3 m c (ix2 n k) := by
  rw [← v1_at m c]
  unfold iblk
  rw [View.read_apply]
  refine congrArg (V m c main_v1 : Vec Ideal S2816x1024 .bf16) (funext fun a => Fin.ext ?_)
  have e0 : win0_3.index t 0 = 0 := congrFun (index3 t) 0
  have e1 : win0_3.index t 1 = 0 := congrFun (index3 t) 1
  match a with
  | ⟨0, _⟩ => show win0_3.index t 0 * 2816 + 1 * n.val = n.val; rw [e0]; omega
  | ⟨1, _⟩ => show win0_3.index t 1 * 1024 + 1 * k.val = k.val; rw [e1]; omega

theorem blk4 (t : Fin cfg0.N) (n : Fin 2816) (k : Fin 1024) : (iblk m c 4 t : Vec Ideal S2816x1024 .bf16) (ix2 n k) = A4 m c (ix2 n k) := by
  rw [← v2_at m c]
  unfold iblk
  rw [View.read_apply]
  refine congrArg (V m c main_v2 : Vec Ideal S2816x1024 .bf16) (funext fun a => Fin.ext ?_)
  have e0 : win0_4.index t 0 = 0 := congrFun (index4 t) 0
  have e1 : win0_4.index t 1 = 0 := congrFun (index4 t) 1
  match a with
  | ⟨0, _⟩ => show win0_4.index t 0 * 2816 + 1 * n.val = n.val; rw [e0]; omega
  | ⟨1, _⟩ => show win0_4.index t 1 * 1024 + 1 * k.val = k.val; rw [e1]; omega

theorem covers5 : (cfg0.win 5).Covers := by decide +kernel
theorem covers6 : (cfg0.win 6).Covers := by decide +kernel
theorem covers7 : (cfg0.win 7).Covers := by decide +kernel

open Cert.Reference4Ideal.Fwd (rH rL rA rY)

theorem X_eq (t : Fin cfg0.N) (r : Fin 512) : X (iblk m c 0 t) r = fun k => A0 m c (ix2 (row t r) k) := funext fun k => blk0 m c t r k
theorem Γ_eq (t : Fin cfg0.N) : Γ (iblk m c 1 t) = fun k => A1 m c (ix2 0 k) := funext fun k => blk1 m c t k
theorem W2_eq (t : Fin cfg0.N) : W (iblk m c 2 t) = fun n k => A2 m c (ix2 n k) := funext fun n => funext fun k => blk2 m c t n k
theorem W3_eq (t : Fin cfg0.N) : W (iblk m c 3 t) = fun n k => A3 m c (ix2 n k) := funext fun n => funext fun k => blk3 m c t n k
theorem W4_eq (t : Fin cfg0.N) : W (iblk m c 4 t) = fun n k => A4 m c (ix2 n k) := funext fun n => funext fun k => blk4 m c t n k

theorem tile5 (t : Fin cfg0.N) (r : Fin 512) (q : Fin 1024) : out0_5 (iblk m c 0 t) (iblk m c 1 t) (iblk m c 2 t) (iblk m c 3 t) (iblk m c 4 t) (ix2 r q)
    = rY (A0 m c) (A4 m c) (rA (rL (A2 m c) (rH (A0 m c) (A1 m c))) (rL (A3 m c) (rH (A0 m c) (A1 m c)))) (ix2 (row t r) q) := by
  rw [out5_at, Cert.Reference4Ideal.Fwd.out_at]
  unfold term
  rw [X_eq, Γ_eq, W2_eq, W3_eq, W4_eq]

theorem tile6 (t : Fin cfg0.N) (r : Fin 512) (n : Fin 2816) : out0_6 (iblk m c 0 t) (iblk m c 1 t) (iblk m c 2 t) (iblk m c 3 t) (iblk m c 4 t) (ix2 r n)
    = rL (A2 m c) (rH (A0 m c) (A1 m c)) (ix2 (row t r) n) := by
  rw [out6_at, Cert.Reference4Ideal.Fwd.lin_at, X_eq, Γ_eq, W2_eq]

theorem tile7 (t : Fin cfg0.N) (r : Fin 512) (n : Fin 2816) : out0_7 (iblk m c 0 t) (iblk m c 1 t) (iblk m c 2 t) (iblk m c 3 t) (iblk m c 4 t) (ix2 r n)
    = rL (A3 m c) (rH (A0 m c) (A1 m c)) (ix2 (row t r) n) := by
  rw [out7_at, Cert.Reference4Ideal.Fwd.lin_at, X_eq, Γ_eq, W3_eq]

theorem arr5 : (dats m 0 c).arrAt 5 cfg0.N = rY (A0 m c) (A4 m c) (rA (rL (A2 m c) (rH (A0 m c) (A1 m c))) (rL (A3 m c) (rH (A0 m c) (A1 m c)))) := by
  refine (dats m 0 c).arrAt_eq_of_covers 5 _ covers5 fun t hf y => ?_
  have hy : y = ix2 (y (0 : Fin 2)) (y (1 : Fin 2)) := funext fun b => match b with | ⟨0, _⟩ => rfl | ⟨1, _⟩ => rfl
  have he : ((cfg0.win 5).blk t).view.emb y = (ix2 (row t (y (0 : Fin 2))) (y (1 : Fin 2)) : S8192x1024.Idx) := by
    funext a
    refine Fin.ext ?_
    have e0 : win0_5.index t 0 = t.val := congrFun (index5 t) 0
    have e1 : win0_5.index t 1 = 0 := congrFun (index5 t) 1
    match a with
    | ⟨0, _⟩ => show win0_5.index t 0 * 512 + 1 * (y (0 : Fin 2)).val = 512 * t.val + (y (0 : Fin 2)).val; rw [e0]; omega
    | ⟨1, _⟩ => show win0_5.index t 1 * 1024 + 1 * (y (1 : Fin 2)).val = (y (1 : Fin 2)).val; rw [e1]; omega
  refine Eq.trans ?_ ((tile5 m c t (y (0 : Fin 2)) (y (1 : Fin 2))).trans (congrArg (rY (A0 m c) (A4 m c) (rA (rL (A2 m c) (rH (A0 m c) (A1 m c))) (rL (A3 m c) (rH (A0 m c) (A1 m c)))) : S8192x1024.Idx → EReal) he.symm))
  exact (congrFun (after0_5 m c t) y).trans (congrArg (out0_5 (iblk m c 0 t) (iblk m c 1 t) (iblk m c 2 t) (iblk m c 3 t) (iblk m c 4 t)) hy)

theorem arr6 : (dats m 0 c).arrAt 6 cfg0.N = (rL (A2 m c) (rH (A0 m c) (A1 m c)) : Vec Ideal S8192x2816 .f32) := by
  refine (dats m 0 c).arrAt_eq_of_covers 6 _ covers6 fun t hf y => ?_
  have hy : y = ix2 (y (0 : Fin 2)) (y (1 : Fin 2)) := funext fun b => match b with | ⟨0, _⟩ => rfl | ⟨1, _⟩ => rfl
  have he : ((cfg0.win 6).blk t).view.emb y = (ix2 (row t (y (0 : Fin 2))) (y (1 : Fin 2)) : S8192x2816.Idx) := by
    funext a
    refine Fin.ext ?_
    have e0 : win0_6.index t 0 = t.val := congrFun (index6 t) 0
    have e1 : win0_6.index t 1 = 0 := congrFun (index6 t) 1
    match a with
    | ⟨0, _⟩ => show win0_6.index t 0 * 512 + 1 * (y (0 : Fin 2)).val = 512 * t.val + (y (0 : Fin 2)).val; rw [e0]; omega
    | ⟨1, _⟩ => show win0_6.index t 1 * 2816 + 1 * (y (1 : Fin 2)).val = (y (1 : Fin 2)).val; rw [e1]; omega
  refine Eq.trans ?_ ((tile6 m c t (y (0 : Fin 2)) (y (1 : Fin 2))).trans (congrArg ((rL (A2 m c) (rH (A0 m c) (A1 m c)) : Vec Ideal S8192x2816 .f32) : S8192x2816.Idx → EReal) he.symm))
  exact (congrFun (after0_6 m c t) y).trans (congrArg (out0_6 (iblk m c 0 t) (iblk m c 1 t) (iblk m c 2 t) (iblk m c 3 t) (iblk m c 4 t)) hy)

theorem arr7 : (dats m 0 c).arrAt 7 cfg0.N = (rL (A3 m c) (rH (A0 m c) (A1 m c)) : Vec Ideal S8192x2816 .f32) := by
  refine (dats m 0 c).arrAt_eq_of_covers 7 _ covers7 fun t hf y => ?_
  have hy : y = ix2 (y (0 : Fin 2)) (y (1 : Fin 2)) := funext fun b => match b with | ⟨0, _⟩ => rfl | ⟨1, _⟩ => rfl
  have he : ((cfg0.win 7).blk t).view.emb y = (ix2 (row t (y (0 : Fin 2))) (y (1 : Fin 2)) : S8192x2816.Idx) := by
    funext a
    refine Fin.ext ?_
    have e0 : win0_7.index t 0 = t.val := congrFun (index7 t) 0
    have e1 : win0_7.index t 1 = 0 := congrFun (index7 t) 1
    match a with
    | ⟨0, _⟩ => show win0_7.index t 0 * 512 + 1 * (y (0 : Fin 2)).val = 512 * t.val + (y (0 : Fin 2)).val; rw [e0]; omega
    | ⟨1, _⟩ => show win0_7.index t 1 * 2816 + 1 * (y (1 : Fin 2)).val = (y (1 : Fin 2)).val; rw [e1]; omega
  refine Eq.trans ?_ ((tile7 m c t (y (0 : Fin 2)) (y (1 : Fin 2))).trans (congrArg ((rL (A3 m c) (rH (A0 m c) (A1 m c)) : Vec Ideal S8192x2816 .f32) : S8192x2816.Idx → EReal) he.symm))
  exact (congrFun (after0_7 m c t) y).trans (congrArg (out0_7 (iblk m c 0 t) (iblk m c 1 t) (iblk m c 2 t) (iblk m c 3 t) (iblk m c 4 t)) hy)

end Cert.Kernel4Ideal.Fwd
end
-- ==== Proof.BwdTile.lean ====
/- The backward feed-forward step, one tile of 256 rows: what one grid point leaves. -/
module

public import proofs.«01_k».proof.Proof.Gen.Kernel2Ideal.Value
public import proofs.«01_k».proof.Proof.Ffn
public import Idealize.ShloMosaic.Lib.Pointwise
public import Idealize.ShloMosaic.Lib.IdealHost
public import Idealize.ShloMosaic.Lib.Pipeline.ValueKit

@[expose] public section

set_option maxRecDepth 16384

noncomputable section

namespace Cert.Ffn

open Idealize.ShloMosaic
open scoped BigOperators

/-- The hidden row's adjoint: `dy` against row `n` of the down weight. -/
def dact (y : Fin 1024 → EReal) (wd : Fin 2816 → Fin 1024 → EReal) (n : Fin 2816) : EReal := ∑ c, y c * wd n c

/-- The adjoints of the gate's and of the up product's entry. -/
def dgate (a g u : EReal) : EReal := a * u * (sig g * (1 + g * (1 - sig g)))
def dup (a g : EReal) : EReal := a * (g * sig g)

/-- The normalised row's adjoint. -/
def dhid (dg du : Fin 2816 → EReal) (wg wu : Fin 2816 → Fin 1024 → EReal) (k : Fin 1024) : EReal := ∑ n, dg n * wg n k + ∑ n, du n * wu n k

/-- The row's adjoint through the normalisation, and its part of the gain's. -/
def dx (x γ d : Fin 1024 → EReal) (k : Fin 1024) : EReal :=
  inv x * (d k * γ k) - x k * (inv x * inv x * inv x) * ((∑ j, x j * (d j * γ j)) * ((1 / 1024 : ℝ) : EReal))
def dgain (x d : Fin 1024 → EReal) (k : Fin 1024) : EReal := d k * (x k * inv x)

end Cert.Ffn

namespace Cert.Kernel2Ideal.Bwd

open Idealize.ShloMosaic Idealize.ShloMosaic.TcCoe
open Cert.Kernel2Ideal Cert.Kernel2Ideal.Gen
open Cert.Ffn (inv hid glu ch dact dgate dup dhid dx dgain)
open scoped BigOperators

theorem off0 : (![0, 0] : Fin 2 → ℕ) = fun _ => 0 := by
  funext a
  match a with
  | ⟨0, _⟩ => rfl
  | ⟨1, _⟩ => rfl

section Vectors
variable {F : FTy → Type} [FloatOps F]

def wide (g : Vec F S256x256 .bf16) : FVec F S256x256 .f32 := extf .f32 (shapeCast S256x256 g shapeCasts_S256x256_S256x256) bitsLt_bf16_f32

/-- The logistic function of a chunk. -/
def sgv (g : Vec F S256x256 .bf16) : FVec F S256x256 .f32 :=
  divf (broadcast S256x256 (Scalar.ofBits .f32 0x3F800000#32)) (addf (broadcast S256x256 (Scalar.ofBits .f32 0x3F800000#32)) (exp (subf (broadcast S256x256 (Scalar.ofBits .f32 0x00000000#32)) (wide g))))

/-- `dy` times 256 rows of the down weight. -/
def dactv (y : Vec F S256x1024 .f32) (w : Vec F S256x1024 .bf16) : FVec F S256x256 .f32 := k0_pay9 y w

def actv (g u : Vec F S256x256 .bf16) : FVec F S256x256 .bf16 := truncf .bf16 (mulf (mulf (wide g) (sgv g)) (wide u)) bitsLt_bf16_f32

def dgv (y : Vec F S256x1024 .f32) (w : Vec F S256x1024 .bf16) (g u : Vec F S256x256 .bf16) : FVec F S256x256 .bf16 :=
  truncf .bf16 (mulf (mulf (dactv y w) (wide u)) (mulf (sgv g) (addf (broadcast S256x256 (Scalar.ofBits .f32 0x3F800000#32))
    (mulf (wide g) (subf (broadcast S256x256 (Scalar.ofBits .f32 0x3F800000#32)) (sgv g)))))) bitsLt_bf16_f32

def duv (y : Vec F S256x1024 .f32) (w : Vec F S256x1024 .bf16) (g : Vec F S256x256 .bf16) : FVec F S256x256 .bf16 :=
  truncf .bf16 (mulf (dactv y w) (mulf (wide g) (sgv g))) bitsLt_bf16_f32

end Vectors

theorem wide_at (g : Vec Ideal S256x256 .bf16) (i) : wide (F := Ideal) g i = g i := by
  pointwise [wide]

theorem sgv_at (g : Vec Ideal S256x256 .bf16) (i) : sgv (F := Ideal) g i = Cert.Ffn.sig (g i) := by
  pointwise [sgv, wide]
  rw [zero_sub]
  rfl

theorem dactv_at (y : Vec Ideal S256x1024 .f32) (w : Vec Ideal S256x1024 .bf16) (r n : Fin 256) :
    dactv (F := Ideal) y w (ix2 r n) = ∑ k : Fin 1024, y (ix2 r k) * w (ix2 n k) := by
  pointwise [dactv, k0_pay9, k0_pay4]

theorem actv_at (g u : Vec Ideal S256x256 .bf16) (i) : actv (F := Ideal) g u i = glu (g i) (u i) := by
  show wide (F := Ideal) g i * sgv (F := Ideal) g i * wide (F := Ideal) u i = _
  rw [wide_at, wide_at, sgv_at]
  rfl

theorem one_at : Ideal.ofBits .f32 0x3F800000#32 = 1 := by
  simp [Ideal.ofBits, Ideal.ieee]
  rw [← EReal.coe_mul]
  norm_num

theorem dgv_at (y : Vec Ideal S256x1024 .f32) (w : Vec Ideal S256x1024 .bf16) (g u : Vec Ideal S256x256 .bf16) (i) :
    dgv (F := Ideal) y w g u i = dgate (dactv (F := Ideal) y w i) (g i) (u i) := by
  show dactv (F := Ideal) y w i * wide (F := Ideal) u i * (sgv (F := Ideal) g i * (Ideal.ofBits .f32 0x3F800000#32 + wide (F := Ideal) g i * (Ideal.ofBits .f32 0x3F800000#32 - sgv (F := Ideal) g i))) = _
  rw [wide_at, wide_at, sgv_at, one_at]
  rfl

theorem duv_at (y : Vec Ideal S256x1024 .f32) (w : Vec Ideal S256x1024 .bf16) (g : Vec Ideal S256x256 .bf16) (i) :
    duv (F := Ideal) y w g i = dup (dactv (F := Ideal) y w i) (g i) := by
  show dactv (F := Ideal) y w i * (wide (F := Ideal) g i * sgv (F := Ideal) g i) = _
  rw [wide_at, sgv_at]
  rfl

theorem inv_at (x : Vec Ideal S256x1024 .f32) (r : Fin 256) : k0_pay5 x (ix2 r 0) = inv fun k => x (ix2 r k) := by
  pointwise [k0_pay5]
  rw [Cert.Ffn.ofBits_1024th]
  rfl

theorem norm_at (x : Vec Ideal S256x1024 .f32) (g : Vec Ideal S1x1024 .f32) (r : Fin 256) (k : Fin 1024) :
    k0_pay6 x g (ix2 r k) = hid (fun k => x (ix2 r k)) (fun k => g (ix2 0 k)) k := by
  pointwise [k0_pay6, k0_pay5]
  rw [Cert.Ffn.ofBits_1024th]
  rfl

theorem dh_at (a b : Vec Ideal S256x2816 .bf16) (p q : Vec Ideal S2816x1024 .bf16) (r : Fin 256) (k : Fin 1024) :
    k0_pay100 a p b q (ix2 r k) = dhid (fun n => a (ix2 r n)) (fun n => b (ix2 r n)) (fun n k => p (ix2 n k)) (fun n k => q (ix2 n k)) k := by
  pointwise [k0_pay100]
  rfl

theorem gdy_at (a b : Vec Ideal S256x2816 .bf16) (p q : Vec Ideal S2816x1024 .bf16) (γ : Vec Ideal S1x1024 .f32) (r : Fin 256) (k : Fin 1024) :
    k0_pay101 a p b q γ (ix2 r k) = k0_pay100 a p b q (ix2 r k) * γ (ix2 0 k) := by
  unfold k0_pay101
  generalize k0_pay100 a p b q = d
  pointwise []

/-- `dy` plus the row's adjoint. -/
theorem dx_at (y x : Vec Ideal S256x1024 .f32) (a b : Vec Ideal S256x2816 .bf16) (p q : Vec Ideal S2816x1024 .bf16) (γ : Vec Ideal S1x1024 .f32) (r : Fin 256) (k : Fin 1024) :
    k0_pay1 y x (k0_pay5 x) (k0_pay101 a p b q γ) (k0_pay102 (k0_pay5 x) a p b q γ) (k0_pay103 (k0_pay5 x)) (ix2 r k)
      = y (ix2 r k) + dx (fun k => x (ix2 r k)) (fun k => γ (ix2 0 k)) (fun k => k0_pay100 a p b q (ix2 r k)) k := by
  unfold k0_pay102 k0_pay103
  have e := gdy_at a b p q γ
  generalize k0_pay101 a p b q γ = d at e ⊢
  generalize k0_pay100 a p b q = d' at e ⊢
  have i := inv_at x r
  generalize k0_pay5 x = v at i ⊢
  pointwise [k0_pay1]
  rw [Cert.Ffn.ofBits_1024th]
  simp only [e, i]
  rfl

theorem dgain_at (x : Vec Ideal S256x1024 .f32) (d : Vec Ideal S256x1024 .f32) (s : Vec Ideal S1x1024 .f32) (k : Fin 1024) :
    k0_pay2 x (k0_pay5 x) d s (ix2 0 k) = s (ix2 0 k) + ∑ r : Fin 256, dgain (fun k => x (ix2 r k)) (fun k => d (ix2 r k)) k := by
  have i := inv_at x
  generalize k0_pay5 x = v at i ⊢
  pointwise [k0_pay2]
  simp only [i]
  rfl

/-- Rows `256 * s` on of a weight. -/
theorem ld_rows (X : Vec Ideal S2816x1024 .bf16) (s : Fin 11) {off : Fin 2 → ℕ} (h : off = ![256 * s.val, 0]) (inb) (n : Fin 256) (k : Fin 1024) :
    View.ld X (Rect.unit (s := S2816x1024) off S256x1024.size inb) (ix2 n k) = X (ix2 (ch s n) k) := by
  subst h
  refine congrArg X (funext fun a => Fin.ext ?_)
  match a with
  | ⟨0, _⟩ => show 256 * s.val + 1 * n.val = 256 * s.val + n.val; omega
  | ⟨1, _⟩ => show 0 + 1 * k.val = k.val; omega

/-- An entry's place in a chunk of columns. -/
theorem emb_cols (s : Fin 11) {off : Fin 2 → ℕ} (h : off = ![0, 256 * s.val]) (inb) (r n : Fin 256) :
    (Rect.unit (s := S256x2816) off S256x256.size inb).emb (ix2 r n) = ix2 r (ch s n) := by
  subst h
  funext a
  refine Fin.ext ?_
  match a with
  | ⟨0, _⟩ => show 0 + 1 * r.val = r.val; omega
  | ⟨1, _⟩ => show 256 * s.val + 1 * n.val = 256 * s.val + n.val; omega

theorem ld_cols (X : Vec Ideal S256x2816 .bf16) (s : Fin 11) {off : Fin 2 → ℕ} (h : off = ![0, 256 * s.val]) (inb) (r n : Fin 256) :
    View.ld X (Rect.unit (s := S256x2816) off S256x256.size inb) (ix2 r n) = X (ix2 r (ch s n)) := by
  subst h
  refine congrArg X (funext fun a => Fin.ext ?_)
  match a with
  | ⟨0, _⟩ => show 0 + 1 * r.val = r.val; omega
  | ⟨1, _⟩ => show 256 * s.val + 1 * n.val = 256 * s.val + n.val; omega

section Tile
variable (x0 x1 : Vec Ideal S256x1024 .f32) (x2 x3 : Vec Ideal S256x2816 .bf16) (x4 : Vec Ideal S1x1024 .f32) (x5 x6 x7 : Vec Ideal S2816x1024 .bf16)

def Y (r : Fin 256) (k : Fin 1024) : EReal := x0 (ix2 r k)
def Γ (k : Fin 1024) : EReal := x4 (ix2 0 k)
def W (w : Vec Ideal S2816x1024 .bf16) (n : Fin 2816) (k : Fin 1024) : EReal := w (ix2 n k)

/-- The stored hidden rows: `silu g * u` and the two adjoints. -/
def ACT (r : Fin 256) (n : Fin 2816) : EReal := glu (x2 (ix2 r n)) (x3 (ix2 r n))
def DG (r : Fin 256) (n : Fin 2816) : EReal := dgate (dact (Y x0 r) (W x7) n) (x2 (ix2 r n)) (x3 (ix2 r n))
def DU (r : Fin 256) (n : Fin 2816) : EReal := dup (dact (Y x0 r) (W x7) n) (x2 (ix2 r n))

theorem piece_of (G : Fin 256 → Fin 2816 → EReal) (s : Fin 11) {off' : Fin 2 → ℕ} (h' : off' = ![0, 256 * s.val]) (inb')
    (p : Vec Ideal S256x256 .bf16) (hp : ∀ r n, p (ix2 r n) = G r (ch s n)) (x : (Rect.unit (s := S256x2816) off' S256x256.size inb').shape.Idx) :
    p x = (fun y : S256x2816.Idx => G (y 0) (y 1)) ((Rect.unit (s := S256x2816) off' S256x256.size inb').emb x) := by
  have e : x = ix2 (x 0) (x 1) := by
    funext a
    match a with
    | ⟨0, _⟩ => rfl
    | ⟨1, _⟩ => rfl
  rw [e]
  refine (hp (x 0) (x 1)).trans ?_
  exact (congrArg (fun y : S256x2816.Idx => G (y 0) (y 1)) (emb_cols s h' inb' (x 0) (x 1))).symm

theorem dact_at (s : Fin 11) {off : Fin 2 → ℕ} (h : off = ![256 * s.val, 0]) (inb) (r n : Fin 256) :
    dactv (F := Ideal) x0 (View.ld x7 (Rect.unit (s := S2816x1024) off S256x1024.size inb)) (ix2 r n) = dact (Y x0 r) (W x7) (ch s n) := by
  rw [dactv_at]
  exact Finset.sum_congr rfl fun k _ => congrArg (x0 (ix2 r k) * ·) (ld_rows x7 s h inb n k)

theorem act_piece (s : Fin 11) {off' : Fin 2 → ℕ} (h' : off' = ![0, 256 * s.val]) (inb')
    (p : Vec Ideal S256x256 .bf16) (hp : p = actv (F := Ideal) (View.ld x2 (Rect.unit (s := S256x2816) off' S256x256.size inb')) (View.ld x3 (Rect.unit (s := S256x2816) off' S256x256.size inb')))
    (x : (Rect.unit (s := S256x2816) off' S256x256.size inb').shape.Idx) :
    p x = (fun y : S256x2816.Idx => ACT x2 x3 (y 0) (y 1)) ((Rect.unit (s := S256x2816) off' S256x256.size inb').emb x) := by
  subst hp
  refine piece_of (ACT x2 x3) s h' inb' _ (fun r n => ?_) x
  rw [actv_at, ld_cols x2 s h', ld_cols x3 s h']
  rfl

theorem dg_piece (s : Fin 11) {off off' : Fin 2 → ℕ} (h : off = ![256 * s.val, 0]) (h' : off' = ![0, 256 * s.val]) (inb) (inb')
    (p : Vec Ideal S256x256 .bf16) (hp : p = dgv (F := Ideal) x0 (View.ld x7 (Rect.unit (s := S2816x1024) off S256x1024.size inb)) (View.ld x2 (Rect.unit (s := S256x2816) off' S256x256.size inb')) (View.ld x3 (Rect.unit (s := S256x2816) off' S256x256.size inb')))
    (x : (Rect.unit (s := S256x2816) off' S256x256.size inb').shape.Idx) :
    p x = (fun y : S256x2816.Idx => DG x0 x2 x3 x7 (y 0) (y 1)) ((Rect.unit (s := S256x2816) off' S256x256.size inb').emb x) := by
  subst hp
  refine piece_of (DG x0 x2 x3 x7) s h' inb' _ (fun r n => ?_) x
  rw [dgv_at, dact_at x0 x7 s h, ld_cols x2 s h', ld_cols x3 s h']
  rfl

theorem du_piece (s : Fin 11) {off off' : Fin 2 → ℕ} (h : off = ![256 * s.val, 0]) (h' : off' = ![0, 256 * s.val]) (inb) (inb')
    (p : Vec Ideal S256x256 .bf16) (hp : p = duv (F := Ideal) x0 (View.ld x7 (Rect.unit (s := S2816x1024) off S256x1024.size inb)) (View.ld x2 (Rect.unit (s := S256x2816) off' S256x256.size inb')))
    (x : (Rect.unit (s := S256x2816) off' S256x256.size inb').shape.Idx) :
    p x = (fun y : S256x2816.Idx => DU x0 x2 x7 (y 0) (y 1)) ((Rect.unit (s := S256x2816) off' S256x256.size inb').emb x) := by
  subst hp
  refine piece_of (DU x0 x2 x7) s h' inb' _ (fun r n => ?_) x
  rw [duv_at, dact_at x0 x7 s h, ld_cols x2 s h']
  rfl

def DGv : Vec Ideal S256x2816 .bf16 := fun y => DG x0 x2 x3 x7 (y 0) (y 1)
def DUv : Vec Ideal S256x2816 .bf16 := fun y => DU x0 x2 x7 (y 0) (y 1)

/-- The normalised row's adjoint. -/
def DH (r : Fin 256) (k : Fin 1024) : EReal := dhid (DG x0 x2 x3 x7 r) (DU x0 x2 x7 r) (W x5) (W x6) k

theorem vec_ext {G : Fin 256 → Fin 2816 → EReal} {v : Vec Ideal S256x2816 .bf16} (h : ∀ r n, v (ix2 r n) = G r n) : v = fun y => G (y 0) (y 1) := by
  funext y
  have e : y = ix2 (y 0) (y 1) := by
    funext a
    match a with
    | ⟨0, _⟩ => rfl
    | ⟨1, _⟩ => rfl
  rw [e]
  exact h (y 0) (y 1)

theorem idx_full (v : Vec Ideal S256x2816 .bf16) :
    (fun j => v ((Rect.unit (s := S256x2816) ![0, 0] S256x2816.size inb_S256x2816_S256x2816_0_0).toLoadRect.idx j)) = v :=
  View.ld_unit_zero (S := S256x2816) off0 _ v

theorem zero_at : Ideal.ofBits .f32 0x00000000#32 = 0 := by
  simp [Ideal.ofBits, Ideal.ieee]

end Tile

section Points
variable (c : Dev nD) (i : grid0.Coords) (arg1 : Memref sig .tc .vmem S256x1024 .f32) (harg1 : arg1.IsWhole) (arg2 : Memref sig .tc .vmem S256x1024 .f32) (harg2 : arg2.IsWhole)
  (arg3 : Memref sig .tc .vmem S256x2816 .bf16) (harg3 : arg3.IsWhole) (arg4 : Memref sig .tc .vmem S256x2816 .bf16) (harg4 : arg4.IsWhole) (arg5 : Memref sig .tc .vmem S1x1024 .f32) (harg5 : arg5.IsWhole)
  (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole)
  (arg9 : Memref sig .tc .vmem S256x1024 .f32) (harg9 : arg9.IsWhole) (arg10 : Memref sig .tc .vmem S256x1024 .bf16) (harg10 : arg10.IsWhole) (arg11 : Memref sig .tc .vmem S256x2816 .bf16) (harg11 : arg11.IsWhole)
  (arg12 : Memref sig .tc .vmem S256x2816 .bf16) (harg12 : arg12.IsWhole) (arg13 : Memref sig .tc .vmem S256x2816 .bf16) (harg13 : arg13.IsWhole) (arg14 : Memref sig .tc .vmem S1x1024 .f32) (harg14 : arg14.IsWhole)
variable (x0 x1 : Vec Ideal S256x1024 .f32) (x2 x3 : Vec Ideal S256x2816 .bf16) (x4 : Vec Ideal S1x1024 .f32) (x5 x6 x7 : Vec Ideal S2816x1024 .bf16) (xo : Vec Ideal S1x1024 .f32)

theorem canon10_A (hc0 : cond0_0 i) (r : Fin 256) (n : Fin 2816) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 (ix2 r n) = ACT x2 x3 r n := by
  refine (View.canon_apply_of_pieces (fun y : S256x2816.Idx => ACT x2 x3 (y 0) (y 1)) _ ?_ (ix2 r n) (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 _)).trans rfl
  unfold kernelRun0_A
  dsimp only
  sl_unfold_words
  simp only [View.readAt_eq_ld, harg1.read_unread, harg2.read_unread, harg3.read_unread, harg4.read_unread, harg5.read_unread, harg6.read_unread, harg7.read_unread, harg8.read_unread, harg14.read_unread, View.ld_unit_zero (S := S256x1024) off0, View.ld_unit_zero (S := S1x1024) off0, View.ld_unit_zero (S := S2816x1024) off0]
  intro p hp
  simp only [List.mem_cons, List.not_mem_nil, or_false] at hp
  rcases hp with rfl | rfl | rfl | rfl | rfl | rfl | rfl | rfl | rfl | rfl | rfl
  · exact act_piece x2 x3 10 rfl inb_S256x2816_S256x256_0_2560 _ rfl
  · exact act_piece x2 x3 9 rfl inb_S256x2816_S256x256_0_2304 _ rfl
  · exact act_piece x2 x3 8 rfl inb_S256x2816_S256x256_0_2048 _ rfl
  · exact act_piece x2 x3 7 rfl inb_S256x2816_S256x256_0_1792 _ rfl
  · exact act_piece x2 x3 6 rfl inb_S256x2816_S256x256_0_1536 _ rfl
  · exact act_piece x2 x3 5 rfl inb_S256x2816_S256x256_0_1280 _ rfl
  · exact act_piece x2 x3 4 rfl inb_S256x2816_S256x256_0_1024 _ rfl
  · exact act_piece x2 x3 3 rfl inb_S256x2816_S256x256_0_768 _ rfl
  · exact act_piece x2 x3 2 rfl inb_S256x2816_S256x256_0_512 _ rfl
  · exact act_piece x2 x3 1 rfl inb_S256x2816_S256x256_0_256 _ rfl
  · exact act_piece x2 x3 0 rfl inb_S256x2816_S256x256_0_0 _ rfl

theorem out10_A (hc0 : cond0_0 i) (r : Fin 256) (n : Fin 2816) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r n) = ACT x2 x3 r n := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  exact canon10_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 r n

theorem canon11_A (hc0 : cond0_0 i) (r : Fin 256) (n : Fin 2816) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1 (ix2 r n) = DG x0 x2 x3 x7 r n := by
  refine (View.canon_apply_of_pieces (fun y : S256x2816.Idx => DG x0 x2 x3 x7 (y 0) (y 1)) _ ?_ (ix2 r n) (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 _)).trans rfl
  unfold kernelRun0_A
  dsimp only
  sl_unfold_words
  simp only [View.readAt_eq_ld, harg1.read_unread, harg2.read_unread, harg3.read_unread, harg4.read_unread, harg5.read_unread, harg6.read_unread, harg7.read_unread, harg8.read_unread, harg14.read_unread, View.ld_unit_zero (S := S256x1024) off0, View.ld_unit_zero (S := S1x1024) off0, View.ld_unit_zero (S := S2816x1024) off0]
  intro p hp
  simp only [List.mem_cons, List.not_mem_nil, or_false] at hp
  rcases hp with rfl | rfl | rfl | rfl | rfl | rfl | rfl | rfl | rfl | rfl | rfl
  · exact dg_piece x0 x2 x3 x7 10 rfl rfl inb_S2816x1024_S256x1024_2560_0 inb_S256x2816_S256x256_0_2560 _ rfl
  · exact dg_piece x0 x2 x3 x7 9 rfl rfl inb_S2816x1024_S256x1024_2304_0 inb_S256x2816_S256x256_0_2304 _ rfl
  · exact dg_piece x0 x2 x3 x7 8 rfl rfl inb_S2816x1024_S256x1024_2048_0 inb_S256x2816_S256x256_0_2048 _ rfl
  · exact dg_piece x0 x2 x3 x7 7 rfl rfl inb_S2816x1024_S256x1024_1792_0 inb_S256x2816_S256x256_0_1792 _ rfl
  · exact dg_piece x0 x2 x3 x7 6 rfl rfl inb_S2816x1024_S256x1024_1536_0 inb_S256x2816_S256x256_0_1536 _ rfl
  · exact dg_piece x0 x2 x3 x7 5 rfl rfl inb_S2816x1024_S256x1024_1280_0 inb_S256x2816_S256x256_0_1280 _ rfl
  · exact dg_piece x0 x2 x3 x7 4 rfl rfl inb_S2816x1024_S256x1024_1024_0 inb_S256x2816_S256x256_0_1024 _ rfl
  · exact dg_piece x0 x2 x3 x7 3 rfl rfl inb_S2816x1024_S256x1024_768_0 inb_S256x2816_S256x256_0_768 _ rfl
  · exact dg_piece x0 x2 x3 x7 2 rfl rfl inb_S2816x1024_S256x1024_512_0 inb_S256x2816_S256x256_0_512 _ rfl
  · exact dg_piece x0 x2 x3 x7 1 rfl rfl inb_S2816x1024_S256x1024_256_0 inb_S256x2816_S256x256_0_256 _ rfl
  · exact dg_piece x0 x2 x3 x7 0 rfl rfl inb_S2816x1024_S256x1024_0_0 inb_S256x2816_S256x256_0_0 _ rfl

theorem out11_A (hc0 : cond0_0 i) (r : Fin 256) (n : Fin 2816) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r n) = DG x0 x2 x3 x7 r n := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  exact canon11_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 r n

theorem canon12_A (hc0 : cond0_0 i) (r : Fin 256) (n : Fin 2816) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1 (ix2 r n) = DU x0 x2 x7 r n := by
  refine (View.canon_apply_of_pieces (fun y : S256x2816.Idx => DU x0 x2 x7 (y 0) (y 1)) _ ?_ (ix2 r n) (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 _)).trans rfl
  unfold kernelRun0_A
  dsimp only
  sl_unfold_words
  simp only [View.readAt_eq_ld, harg1.read_unread, harg2.read_unread, harg3.read_unread, harg4.read_unread, harg5.read_unread, harg6.read_unread, harg7.read_unread, harg8.read_unread, harg14.read_unread, View.ld_unit_zero (S := S256x1024) off0, View.ld_unit_zero (S := S1x1024) off0, View.ld_unit_zero (S := S2816x1024) off0]
  intro p hp
  simp only [List.mem_cons, List.not_mem_nil, or_false] at hp
  rcases hp with rfl | rfl | rfl | rfl | rfl | rfl | rfl | rfl | rfl | rfl | rfl
  · exact du_piece x0 x2 x7 10 rfl rfl inb_S2816x1024_S256x1024_2560_0 inb_S256x2816_S256x256_0_2560 _ rfl
  · exact du_piece x0 x2 x7 9 rfl rfl inb_S2816x1024_S256x1024_2304_0 inb_S256x2816_S256x256_0_2304 _ rfl
  · exact du_piece x0 x2 x7 8 rfl rfl inb_S2816x1024_S256x1024_2048_0 inb_S256x2816_S256x256_0_2048 _ rfl
  · exact du_piece x0 x2 x7 7 rfl rfl inb_S2816x1024_S256x1024_1792_0 inb_S256x2816_S256x256_0_1792 _ rfl
  · exact du_piece x0 x2 x7 6 rfl rfl inb_S2816x1024_S256x1024_1536_0 inb_S256x2816_S256x256_0_1536 _ rfl
  · exact du_piece x0 x2 x7 5 rfl rfl inb_S2816x1024_S256x1024_1280_0 inb_S256x2816_S256x256_0_1280 _ rfl
  · exact du_piece x0 x2 x7 4 rfl rfl inb_S2816x1024_S256x1024_1024_0 inb_S256x2816_S256x256_0_1024 _ rfl
  · exact du_piece x0 x2 x7 3 rfl rfl inb_S2816x1024_S256x1024_768_0 inb_S256x2816_S256x256_0_768 _ rfl
  · exact du_piece x0 x2 x7 2 rfl rfl inb_S2816x1024_S256x1024_512_0 inb_S256x2816_S256x256_0_512 _ rfl
  · exact du_piece x0 x2 x7 1 rfl rfl inb_S2816x1024_S256x1024_256_0 inb_S256x2816_S256x256_0_256 _ rfl
  · exact du_piece x0 x2 x7 0 rfl rfl inb_S2816x1024_S256x1024_0_0 inb_S256x2816_S256x256_0_0 _ rfl

theorem out12_A (hc0 : cond0_0 i) (r : Fin 256) (n : Fin 2816) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r n) = DU x0 x2 x7 r n := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  exact canon12_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 r n

theorem out9_A (hc0 : cond0_0 i) (r : Fin 256) (k : Fin 1024) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r k) = hid (Y x1 r) (Γ x4) k := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg14.read_unread, View.ld_unit_zero (S := S256x1024) off0, View.ld_unit_zero (S := S1x1024) off0, View.ld_unit_zero (S := S2816x1024) off0]
  rw [View.canon_unit_zero (S := S256x1024) off0]
  exact norm_at x1 x4 r k

theorem out8_A (hc0 : cond0_0 i) (r : Fin 256) (k : Fin 1024) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r k) = Y x0 r k + dx (Y x1 r) (Γ x4) (DH x0 x2 x3 x5 x6 x7 r) k := by
  have ha : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1 = DGv x0 x2 x3 x7 := vec_ext fun r n => canon11_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 r n
  have hb : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1 = DUv x0 x2 x7 := vec_ext fun r n => canon12_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 r n
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  revert ha hb
  unfold kernelRun0_A
  dsimp only
  sl_unfold_words
  simp only [View.readCov_eq_canon']
  simp only [View.readAt_eq_ld, harg1.read_unread, harg2.read_unread, harg3.read_unread, harg4.read_unread, harg5.read_unread, harg6.read_unread, harg7.read_unread, harg8.read_unread, harg14.read_unread, View.ld_unit_zero (S := S256x1024) off0, View.ld_unit_zero (S := S1x1024) off0, View.ld_unit_zero (S := S2816x1024) off0]
  intro ha hb
  rw [View.canon_unit_zero (S := S256x1024) off0, ha, hb, idx_full (DGv x0 x2 x3 x7), idx_full (DUv x0 x2 x7), dx_at]
  simp only [dh_at]
  rfl

theorem out13_A (hc0 : cond0_0 i) (k : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 0 k) = 0 + ∑ r : Fin 256, dgain (Y x1 r) (DH x0 x2 x3 x5 x6 x7 r) k := by
  have ha : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1 = DGv x0 x2 x3 x7 := vec_ext fun r n => canon11_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 r n
  have hb : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1 = DUv x0 x2 x7 := vec_ext fun r n => canon12_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc0 r n
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  revert ha hb
  unfold kernelRun0_A
  dsimp only
  sl_unfold_words
  simp only [View.readCov_eq_canon']
  simp only [View.readAt_eq_ld, harg1.read_unread, harg2.read_unread, harg3.read_unread, harg4.read_unread, harg5.read_unread, harg6.read_unread, harg7.read_unread, harg8.read_unread, harg14.read_unread, View.ld_unit_zero (S := S256x1024) off0, View.ld_unit_zero (S := S1x1024) off0, View.ld_unit_zero (S := S2816x1024) off0]
  intro ha hb
  rw [View.canon_cons_unit_zero (S := S1x1024) off0, ha, hb, idx_full (DGv x0 x2 x3 x7), idx_full (DUv x0 x2 x7), View.canon_unit_zero (S := S1x1024) off0, dgain_at]
  refine congrArg₂ (· + ·) zero_at ?_
  simp only [dh_at]
  rfl

theorem canon10_B (hc0 : ¬cond0_0 i) (r : Fin 256) (n : Fin 2816) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo).2.2.1 (ix2 r n) = ACT x2 x3 r n := by
  refine (View.canon_apply_of_pieces (fun y : S256x2816.Idx => ACT x2 x3 (y 0) (y 1)) _ ?_ (ix2 r n) (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo _)).trans rfl
  unfold kernelRun0_B
  dsimp only
  sl_unfold_words
  simp only [View.readAt_eq_ld, harg1.read_unread, harg2.read_unread, harg3.read_unread, harg4.read_unread, harg5.read_unread, harg6.read_unread, harg7.read_unread, harg8.read_unread, harg14.read_unread, View.ld_unit_zero (S := S256x1024) off0, View.ld_unit_zero (S := S1x1024) off0, View.ld_unit_zero (S := S2816x1024) off0]
  intro p hp
  simp only [List.mem_cons, List.not_mem_nil, or_false] at hp
  rcases hp with rfl | rfl | rfl | rfl | rfl | rfl | rfl | rfl | rfl | rfl | rfl
  · exact act_piece x2 x3 10 rfl inb_S256x2816_S256x256_0_2560 _ rfl
  · exact act_piece x2 x3 9 rfl inb_S256x2816_S256x256_0_2304 _ rfl
  · exact act_piece x2 x3 8 rfl inb_S256x2816_S256x256_0_2048 _ rfl
  · exact act_piece x2 x3 7 rfl inb_S256x2816_S256x256_0_1792 _ rfl
  · exact act_piece x2 x3 6 rfl inb_S256x2816_S256x256_0_1536 _ rfl
  · exact act_piece x2 x3 5 rfl inb_S256x2816_S256x256_0_1280 _ rfl
  · exact act_piece x2 x3 4 rfl inb_S256x2816_S256x256_0_1024 _ rfl
  · exact act_piece x2 x3 3 rfl inb_S256x2816_S256x256_0_768 _ rfl
  · exact act_piece x2 x3 2 rfl inb_S256x2816_S256x256_0_512 _ rfl
  · exact act_piece x2 x3 1 rfl inb_S256x2816_S256x256_0_256 _ rfl
  · exact act_piece x2 x3 0 rfl inb_S256x2816_S256x256_0_0 _ rfl

theorem out10_B (hc0 : ¬cond0_0 i) (r : Fin 256) (n : Fin 2816) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo (ix2 r n) = ACT x2 x3 r n := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo)]
  exact canon10_B c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo hc0 r n

theorem canon11_B (hc0 : ¬cond0_0 i) (r : Fin 256) (n : Fin 2816) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo).2.2.2.1 (ix2 r n) = DG x0 x2 x3 x7 r n := by
  refine (View.canon_apply_of_pieces (fun y : S256x2816.Idx => DG x0 x2 x3 x7 (y 0) (y 1)) _ ?_ (ix2 r n) (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo _)).trans rfl
  unfold kernelRun0_B
  dsimp only
  sl_unfold_words
  simp only [View.readAt_eq_ld, harg1.read_unread, harg2.read_unread, harg3.read_unread, harg4.read_unread, harg5.read_unread, harg6.read_unread, harg7.read_unread, harg8.read_unread, harg14.read_unread, View.ld_unit_zero (S := S256x1024) off0, View.ld_unit_zero (S := S1x1024) off0, View.ld_unit_zero (S := S2816x1024) off0]
  intro p hp
  simp only [List.mem_cons, List.not_mem_nil, or_false] at hp
  rcases hp with rfl | rfl | rfl | rfl | rfl | rfl | rfl | rfl | rfl | rfl | rfl
  · exact dg_piece x0 x2 x3 x7 10 rfl rfl inb_S2816x1024_S256x1024_2560_0 inb_S256x2816_S256x256_0_2560 _ rfl
  · exact dg_piece x0 x2 x3 x7 9 rfl rfl inb_S2816x1024_S256x1024_2304_0 inb_S256x2816_S256x256_0_2304 _ rfl
  · exact dg_piece x0 x2 x3 x7 8 rfl rfl inb_S2816x1024_S256x1024_2048_0 inb_S256x2816_S256x256_0_2048 _ rfl
  · exact dg_piece x0 x2 x3 x7 7 rfl rfl inb_S2816x1024_S256x1024_1792_0 inb_S256x2816_S256x256_0_1792 _ rfl
  · exact dg_piece x0 x2 x3 x7 6 rfl rfl inb_S2816x1024_S256x1024_1536_0 inb_S256x2816_S256x256_0_1536 _ rfl
  · exact dg_piece x0 x2 x3 x7 5 rfl rfl inb_S2816x1024_S256x1024_1280_0 inb_S256x2816_S256x256_0_1280 _ rfl
  · exact dg_piece x0 x2 x3 x7 4 rfl rfl inb_S2816x1024_S256x1024_1024_0 inb_S256x2816_S256x256_0_1024 _ rfl
  · exact dg_piece x0 x2 x3 x7 3 rfl rfl inb_S2816x1024_S256x1024_768_0 inb_S256x2816_S256x256_0_768 _ rfl
  · exact dg_piece x0 x2 x3 x7 2 rfl rfl inb_S2816x1024_S256x1024_512_0 inb_S256x2816_S256x256_0_512 _ rfl
  · exact dg_piece x0 x2 x3 x7 1 rfl rfl inb_S2816x1024_S256x1024_256_0 inb_S256x2816_S256x256_0_256 _ rfl
  · exact dg_piece x0 x2 x3 x7 0 rfl rfl inb_S2816x1024_S256x1024_0_0 inb_S256x2816_S256x256_0_0 _ rfl

theorem out11_B (hc0 : ¬cond0_0 i) (r : Fin 256) (n : Fin 2816) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo (ix2 r n) = DG x0 x2 x3 x7 r n := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo)]
  exact canon11_B c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo hc0 r n

theorem canon12_B (hc0 : ¬cond0_0 i) (r : Fin 256) (n : Fin 2816) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo).2.2.2.2.1 (ix2 r n) = DU x0 x2 x7 r n := by
  refine (View.canon_apply_of_pieces (fun y : S256x2816.Idx => DU x0 x2 x7 (y 0) (y 1)) _ ?_ (ix2 r n) (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo _)).trans rfl
  unfold kernelRun0_B
  dsimp only
  sl_unfold_words
  simp only [View.readAt_eq_ld, harg1.read_unread, harg2.read_unread, harg3.read_unread, harg4.read_unread, harg5.read_unread, harg6.read_unread, harg7.read_unread, harg8.read_unread, harg14.read_unread, View.ld_unit_zero (S := S256x1024) off0, View.ld_unit_zero (S := S1x1024) off0, View.ld_unit_zero (S := S2816x1024) off0]
  intro p hp
  simp only [List.mem_cons, List.not_mem_nil, or_false] at hp
  rcases hp with rfl | rfl | rfl | rfl | rfl | rfl | rfl | rfl | rfl | rfl | rfl
  · exact du_piece x0 x2 x7 10 rfl rfl inb_S2816x1024_S256x1024_2560_0 inb_S256x2816_S256x256_0_2560 _ rfl
  · exact du_piece x0 x2 x7 9 rfl rfl inb_S2816x1024_S256x1024_2304_0 inb_S256x2816_S256x256_0_2304 _ rfl
  · exact du_piece x0 x2 x7 8 rfl rfl inb_S2816x1024_S256x1024_2048_0 inb_S256x2816_S256x256_0_2048 _ rfl
  · exact du_piece x0 x2 x7 7 rfl rfl inb_S2816x1024_S256x1024_1792_0 inb_S256x2816_S256x256_0_1792 _ rfl
  · exact du_piece x0 x2 x7 6 rfl rfl inb_S2816x1024_S256x1024_1536_0 inb_S256x2816_S256x256_0_1536 _ rfl
  · exact du_piece x0 x2 x7 5 rfl rfl inb_S2816x1024_S256x1024_1280_0 inb_S256x2816_S256x256_0_1280 _ rfl
  · exact du_piece x0 x2 x7 4 rfl rfl inb_S2816x1024_S256x1024_1024_0 inb_S256x2816_S256x256_0_1024 _ rfl
  · exact du_piece x0 x2 x7 3 rfl rfl inb_S2816x1024_S256x1024_768_0 inb_S256x2816_S256x256_0_768 _ rfl
  · exact du_piece x0 x2 x7 2 rfl rfl inb_S2816x1024_S256x1024_512_0 inb_S256x2816_S256x256_0_512 _ rfl
  · exact du_piece x0 x2 x7 1 rfl rfl inb_S2816x1024_S256x1024_256_0 inb_S256x2816_S256x256_0_256 _ rfl
  · exact du_piece x0 x2 x7 0 rfl rfl inb_S2816x1024_S256x1024_0_0 inb_S256x2816_S256x256_0_0 _ rfl

theorem out12_B (hc0 : ¬cond0_0 i) (r : Fin 256) (n : Fin 2816) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo (ix2 r n) = DU x0 x2 x7 r n := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo)]
  exact canon12_B c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo hc0 r n

theorem out9_B (hc0 : ¬cond0_0 i) (r : Fin 256) (k : Fin 1024) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo (ix2 r k) = hid (Y x1 r) (Γ x4) k := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo)]
  unfold kernelRun0_B
  dsimp only
  sl_unfold_words
  simp only [View.readAt_eq_ld, harg1.read_unread, harg2.read_unread, harg3.read_unread, harg4.read_unread, harg5.read_unread, harg6.read_unread, harg7.read_unread, harg8.read_unread, harg14.read_unread, View.ld_unit_zero (S := S256x1024) off0, View.ld_unit_zero (S := S1x1024) off0, View.ld_unit_zero (S := S2816x1024) off0]
  rw [View.canon_unit_zero (S := S256x1024) off0]
  exact norm_at x1 x4 r k

theorem out8_B (hc0 : ¬cond0_0 i) (r : Fin 256) (k : Fin 1024) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo (ix2 r k) = Y x0 r k + dx (Y x1 r) (Γ x4) (DH x0 x2 x3 x5 x6 x7 r) k := by
  have ha : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo).2.2.2.1 = DGv x0 x2 x3 x7 := vec_ext fun r n => canon11_B c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo hc0 r n
  have hb : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo).2.2.2.2.1 = DUv x0 x2 x7 := vec_ext fun r n => canon12_B c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo hc0 r n
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo)]
  revert ha hb
  unfold kernelRun0_B
  dsimp only
  sl_unfold_words
  simp only [View.readCov_eq_canon']
  simp only [View.readAt_eq_ld, harg1.read_unread, harg2.read_unread, harg3.read_unread, harg4.read_unread, harg5.read_unread, harg6.read_unread, harg7.read_unread, harg8.read_unread, harg14.read_unread, View.ld_unit_zero (S := S256x1024) off0, View.ld_unit_zero (S := S1x1024) off0, View.ld_unit_zero (S := S2816x1024) off0]
  intro ha hb
  rw [View.canon_unit_zero (S := S256x1024) off0, ha, hb, idx_full (DGv x0 x2 x3 x7), idx_full (DUv x0 x2 x7), dx_at]
  simp only [dh_at]
  rfl

theorem out13_B (hc0 : ¬cond0_0 i) (k : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo (ix2 0 k) = xo (ix2 0 k) + ∑ r : Fin 256, dgain (Y x1 r) (DH x0 x2 x3 x5 x6 x7 r) k := by
  have ha : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo).2.2.2.1 = DGv x0 x2 x3 x7 := vec_ext fun r n => canon11_B c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo hc0 r n
  have hb : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo).2.2.2.2.1 = DUv x0 x2 x7 := vec_ext fun r n => canon12_B c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xo hc0 r n
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo)]
  revert ha hb
  unfold kernelRun0_B
  dsimp only
  sl_unfold_words
  simp only [View.readCov_eq_canon']
  simp only [View.readAt_eq_ld, harg1.read_unread, harg2.read_unread, harg3.read_unread, harg4.read_unread, harg5.read_unread, harg6.read_unread, harg7.read_unread, harg8.read_unread, harg14.read_unread, View.ld_unit_zero (S := S256x1024) off0, View.ld_unit_zero (S := S1x1024) off0, View.ld_unit_zero (S := S2816x1024) off0]
  intro ha hb
  rw [View.canon_unit_zero (S := S1x1024) off0, ha, hb, idx_full (DGv x0 x2 x3 x7), idx_full (DUv x0 x2 x7), dgain_at]
  refine congrArg (xo (ix2 0 k) + ·) ?_
  simp only [dh_at]
  rfl

end Points

end Cert.Kernel2Ideal.Bwd
end
-- ==== Proof.BwdMath.lean ====
/- The backward feed-forward step's mathematics on finite rows: the reference's derivative and the kernel's are the same numbers. -/
module

public import proofs.«01_k».proof.Proof.BwdTile
public import proofs.«01_k».proof.Proof.ValMath

@[expose] public section

noncomputable section

namespace Cert.Ffn

open Idealize.ShloMosaic
open Cert.AttnMath (coe_sum div_real)
open scoped BigOperators

/-- A number, neither infinity. -/
def Fine (x : EReal) : Prop := ∃ r : ℝ, x = (r : EReal)

theorem fine_add {x y : EReal} (hx : Fine x) (hy : Fine y) : Fine (x + y) := by
  obtain ⟨a, rfl⟩ := hx
  obtain ⟨b, rfl⟩ := hy
  exact ⟨a + b, (EReal.coe_add _ _).symm⟩
theorem fine_mul {x y : EReal} (hx : Fine x) (hy : Fine y) : Fine (x * y) := by
  obtain ⟨a, rfl⟩ := hx
  obtain ⟨b, rfl⟩ := hy
  exact ⟨a * b, (EReal.coe_mul _ _).symm⟩
theorem fine_sum {ι : Type} [Fintype ι] {f : ι → EReal} (h : ∀ i, Fine (f i)) : Fine (∑ i, f i) := by
  choose r e using h
  exact ⟨∑ i, r i, by rw [Finset.sum_congr rfl fun i _ => e i, coe_sum]⟩

/-- The small constant under the root is a positive number. -/
theorem small : ∃ ε : ℝ, 0 < ε ∧ Ideal.ofBits .f32 0x358637BD#32 = (ε : EReal) := by
  refine ⟨8796093 * (2 ^ 43)⁻¹, by positivity, ?_⟩
  simp [Ideal.ofBits, Ideal.ieee]

/-- The mean square and the small constant. -/
def ms (x : Fin 1024 → EReal) : EReal := (∑ k, x k * x k) * ((1 / 1024 : ℝ) : EReal) + Ideal.ofBits .f32 0x358637BD#32

theorem inv_eq (x : Fin 1024 → EReal) : inv x = Ideal.rsqrt (ms x) := rfl

theorem ms_real {x : Fin 1024 → EReal} (h : ∀ k, Fine (x k)) : ∃ s : ℝ, 0 < s ∧ ms x = (s : EReal) := by
  choose r e using h
  obtain ⟨ε, hε, he⟩ := small
  refine ⟨(∑ k, r k * r k) * (1 / 1024) + ε, ?_, ?_⟩
  · have : 0 ≤ ∑ k, r k * r k := Finset.sum_nonneg fun k _ => mul_self_nonneg _
    positivity
  · unfold ms
    rw [he, Finset.sum_congr rfl fun k _ => (show x k * x k = ((r k * r k : ℝ) : EReal) by rw [e k, EReal.coe_mul]), coe_sum, ← EReal.coe_mul, ← EReal.coe_add]

theorem rsqrt_pos {s : ℝ} (h : 0 < s) : Ideal.rsqrt (s : EReal) = (((Real.sqrt s)⁻¹ : ℝ) : EReal) := by
  rw [Ideal.rsqrt_coe, if_neg (not_lt.mpr h.le), if_neg h.ne']

theorem fine_inv {x : Fin 1024 → EReal} (h : ∀ k, Fine (x k)) : Fine (inv x) := by
  obtain ⟨s, hs, e⟩ := ms_real h
  exact ⟨_, by rw [inv_eq, e, rsqrt_pos hs]⟩

theorem fine_lin {x γ : Fin 1024 → EReal} {w : Fin 2816 → Fin 1024 → EReal} (hx : ∀ k, Fine (x k)) (hγ : ∀ k, Fine (γ k)) (hw : ∀ n k, Fine (w n k)) (n : Fin 2816) :
    Fine (lin x γ w n) :=
  fine_sum fun k => fine_mul (fine_mul (fine_mul (hx k) (fine_inv hx)) (hγ k)) (hw n k)

theorem fine_sig {g : EReal} (h : Fine g) : Fine (sig g) := by
  obtain ⟨r, rfl⟩ := h
  refine ⟨1 / (1 + Real.exp (-r)), ?_⟩
  unfold sig
  rw [← EReal.coe_neg, Ideal.exp_coe, ← EReal.coe_one, ← EReal.coe_add, div_real]
  have := Real.exp_pos (-r)
  positivity

theorem fine_one : Fine 1 := ⟨1, EReal.coe_one.symm⟩
theorem fine_sub {x y : EReal} (hx : Fine x) (hy : Fine y) : Fine (x - y) := by
  obtain ⟨a, rfl⟩ := hx
  obtain ⟨b, rfl⟩ := hy
  exact ⟨a - b, (EReal.coe_sub _ _).symm⟩

theorem fine_dact {y : Fin 1024 → EReal} {w : Fin 2816 → Fin 1024 → EReal} (hy : ∀ k, Fine (y k)) (hw : ∀ n k, Fine (w n k)) (n : Fin 2816) : Fine (dact y w n) :=
  fine_sum fun k => fine_mul (hy k) (hw n k)
theorem fine_dgate {a g u : EReal} (ha : Fine a) (hg : Fine g) (hu : Fine u) : Fine (dgate a g u) :=
  fine_mul (fine_mul ha hu) (fine_mul (fine_sig hg) (fine_add fine_one (fine_mul hg (fine_sub fine_one (fine_sig hg)))))
theorem fine_dup {a g : EReal} (ha : Fine a) (hg : Fine g) : Fine (dup a g) := fine_mul ha (fine_mul hg (fine_sig hg))
theorem fine_dhid {dg du : Fin 2816 → EReal} {wg wu : Fin 2816 → Fin 1024 → EReal} (hg : ∀ n, Fine (dg n)) (hu : ∀ n, Fine (du n)) (hwg : ∀ n k, Fine (wg n k)) (hwu : ∀ n k, Fine (wu n k)) (k : Fin 1024) :
    Fine (dhid dg du wg wu k) :=
  fine_add (fine_sum fun n => fine_mul (hg n) (hwg n k)) (fine_sum fun n => fine_mul (hu n) (hwu n k))

/-- The gate's adjoint as the reference takes it, by the product rule. -/
theorem dgate_eq {a g u : EReal} (ha : Fine a) (hg : Fine g) (hu : Fine u) :
    a * u * sig g + g * (a * u) * (sig g * (1 - sig g)) = dgate a g u := by
  unfold dgate
  obtain ⟨s, e⟩ := fine_sig hg
  rw [e]
  obtain ⟨a, rfl⟩ := ha
  obtain ⟨g, rfl⟩ := hg
  obtain ⟨u, rfl⟩ := hu
  have h : a * u * s + g * (a * u) * (s * (1 - s)) = a * u * (s * (1 + g * (1 - s))) := by ring
  exact_mod_cast h

/-- The row's adjoint as the reference takes it: the root's own derivative, and the square's in two halves. -/
theorem dx_eq {y : EReal} {x γ d : Fin 1024 → EReal} (hy : Fine y) (hx : ∀ k, Fine (x k)) (hγ : ∀ k, Fine (γ k)) (hd : ∀ k, Fine (d k)) (k : Fin 1024) :
    y + d k * γ k * inv x + x k * ((∑ j, x j * (d j * γ j)) * (((-1 / 2 : ℝ) : EReal) * Ideal.div (inv x) (ms x)) * ((1 / 1024 : ℝ) : EReal))
      + (∑ j, x j * (d j * γ j)) * (((-1 / 2 : ℝ) : EReal) * Ideal.div (inv x) (ms x)) * ((1 / 1024 : ℝ) : EReal) * x k = y + dx x γ d k := by
  unfold dx
  obtain ⟨q, eq⟩ : Fine (∑ j, x j * (d j * γ j)) := fine_sum fun j => fine_mul (hx j) (fine_mul (hd j) (hγ j))
  obtain ⟨s, hs, es⟩ := ms_real hx
  rw [eq, inv_eq, es, rsqrt_pos hs, div_real _ _ hs.ne']
  obtain ⟨y, rfl⟩ := hy
  obtain ⟨xk, ex⟩ := hx k
  obtain ⟨γk, eγ⟩ := hγ k
  obtain ⟨dk, ed⟩ := hd k
  rw [ex, eγ, ed]
  have hr : (Real.sqrt s)⁻¹ / s = (Real.sqrt s)⁻¹ * (Real.sqrt s)⁻¹ * (Real.sqrt s)⁻¹ := by
    have h2 : Real.sqrt s * Real.sqrt s = s := Real.mul_self_sqrt hs.le
    have h0 : Real.sqrt s ≠ 0 := (Real.sqrt_pos.mpr hs).ne'
    nth_rewrite 2 [← h2]
    field_simp
  rw [hr]
  generalize (Real.sqrt s)⁻¹ = r
  have h : y + dk * γk * r + xk * (q * (-1 / 2 * (r * r * r)) * (1 / 1024)) + q * (-1 / 2 * (r * r * r)) * (1 / 1024) * xk
      = y + (r * (dk * γk) - xk * (r * r * r) * (q * (1 / 1024))) := by ring
  simp only [← EReal.coe_mul, ← EReal.coe_add, ← EReal.coe_sub]
  rw [h]

end Cert.Ffn
end
-- ==== Proof.BwdRef.lean ====
/- The backward feed-forward step's six result arrays as the reference writes them, entry by entry. -/
module

public import proofs.«01_k».proof.Proof.BwdMath
public import proofs.«01_k».proof.Proof.Gen.Reference2Ideal.Run

@[expose] public section

set_option maxRecDepth 16384

noncomputable section

namespace Cert.Reference2Ideal.Bwd

open Idealize.ShloMosaic Cert.Reference2Ideal Cert.Reference2Ideal.Gen
open Cert.Ffn (inv hid lin glu ch dact dgate dup dhid dx dgain ms)
open scoped BigOperators

variable (y x : Vec Ideal S8192x1024 .f32) (γ : Vec Ideal S1x1024 .f32) (wg wu wd : Vec Ideal S2816x1024 .f32)

def rS : Vec Ideal S8192x1 .f32 :=
  addf (F := Ideal) (φ := .f32) (Host.divf (F := Ideal) (φ := .f32) (broadcastInDim S8192x1 ![0] bcast_S8192_S8192x1_0 (Host.reduceAdd (F := Ideal) (φ := .f32) (mulf (F := Ideal) (φ := .f32) x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

def rR : Vec Ideal S8192x1 .f32 := Host.rsqrt (F := Ideal) (φ := .f32) (rS x)

def rX : Vec Ideal S8192x1024 .f32 := mulf (F := Ideal) (φ := .f32) x (broadcastInDim S8192x1024 ![0, 1] bcast_S8192x1_S8192x1024_0_1 (rR x))

def rH : Vec Ideal S8192x1024 .f32 := mulf (F := Ideal) (φ := .f32) (rX x) (broadcastInDim S8192x1024 ![0, 1] bcast_S1x1024_S8192x1024_0_1 γ)

def rT (w : Vec Ideal S2816x1024 .f32) : Vec Ideal S1024x2816 .f32 := transpose S1024x2816 [1, 0] w transposes_S2816x1024_S1024x2816_1_0

def rL (w : Vec Ideal S2816x1024 .f32) (h : Vec Ideal S8192x1024 .f32) : Vec Ideal S8192x2816 .f32 :=
  Host.dotGeneral (F := Ideal) (φ₁ := .f32) (φ₂ := .f32) dot_S8192x1024_S1024x2816_S8192x2816_1_0_0_1_n_n none h (rT w)

def one : Vec Ideal S8192x2816 .f32 := broadcastInDim S8192x2816 ![] bcast_S_S8192x2816 (constant (F := Ideal) S_ .f32 0x3F800000#32)

def rG (g : Vec Ideal S8192x2816 .f32) : Vec Ideal S8192x2816 .f32 :=
  Host.divf (F := Ideal) (φ := .f32) one (addf (F := Ideal) (φ := .f32) one (Host.exp (F := Ideal) (φ := .f32) (Host.negf (F := Ideal) (φ := .f32) g)))

def rZ (g : Vec Ideal S8192x2816 .f32) : Vec Ideal S8192x2816 .f32 := mulf (F := Ideal) (φ := .f32) g (rG g)

def rA (g u : Vec Ideal S8192x2816 .f32) : Vec Ideal S8192x2816 .f32 := mulf (F := Ideal) (φ := .f32) (rZ g) u

/-- The hidden row's adjoint, and the two products' adjoints. -/
def rD : Vec Ideal S8192x2816 .f32 := Host.dotGeneral (F := Ideal) (φ₁ := .f32) (φ₂ := .f32) dot_S8192x1024_S2816x1024_S8192x2816_1_1_0_0_n_n none y wd

def rU (g a : Vec Ideal S8192x2816 .f32) : Vec Ideal S8192x2816 .f32 := mulf (F := Ideal) (φ := .f32) (rZ g) a

def rDg (g a u : Vec Ideal S8192x2816 .f32) : Vec Ideal S8192x2816 .f32 :=
  addf (F := Ideal) (φ := .f32) (mulf (F := Ideal) (φ := .f32) (mulf (F := Ideal) (φ := .f32) a u) (rG g)) (mulf (F := Ideal) (φ := .f32) (mulf (F := Ideal) (φ := .f32) g (mulf (F := Ideal) (φ := .f32) a u)) (mulf (F := Ideal) (φ := .f32) (rG g) (subf (F := Ideal) (φ := .f32) one (rG g))))

/-- The normalised row's adjoint. -/
def rN (du dg : Vec Ideal S8192x2816 .f32) : Vec Ideal S8192x1024 .f32 :=
  addf (F := Ideal) (φ := .f32) (Host.dotGeneral (F := Ideal) (φ₁ := .f32) (φ₂ := .f32) dot_S8192x2816_S1024x2816_S8192x1024_1_1_0_0_n_n none du (rT wu)) (Host.dotGeneral (F := Ideal) (φ₁ := .f32) (φ₂ := .f32) dot_S8192x2816_S1024x2816_S8192x1024_1_1_0_0_n_n none dg (rT wg))

def rGain (d : Vec Ideal S8192x1024 .f32) : Vec Ideal S1x1024 .f32 :=
  shapeCast S1x1024 (Host.reduceAdd (F := Ideal) (φ := .f32) (mulf (F := Ideal) (φ := .f32) (rX x) d) (constant S_ .f32 0x00000000#32) reducesTo_S8192x1024_S1024_d0 h_S_) shapeCasts_S1024_S1x1024

def rP (d : Vec Ideal S8192x1024 .f32) : Vec Ideal S8192x1024 .f32 := mulf (F := Ideal) (φ := .f32) d (broadcastInDim S8192x1024 ![0, 1] bcast_S1x1024_S8192x1024_0_1 γ)

def rQ (p : Vec Ideal S8192x1024 .f32) : Vec Ideal S8192x1 .f32 :=
  shapeCast S8192x1 (Host.reduceAdd (F := Ideal) (φ := .f32) (mulf (F := Ideal) (φ := .f32) x p) (constant S_ .f32 0x00000000#32) reducesTo_S8192x1024_S8192_d1 h_S_) shapeCasts_S8192_S8192x1

def rK (q : Vec Ideal S8192x1 .f32) : Vec Ideal S8192x1 .f32 :=
  Host.divf (F := Ideal) (φ := .f32) (mulf (F := Ideal) (φ := .f32) q (mulf (F := Ideal) (φ := .f32) (broadcastInDim S8192x1 ![] bcast_S_S8192x1 (constant S_ .f32 0xBF000000#32)) (Host.divf (F := Ideal) (φ := .f32) (rR x) (rS x)))) (broadcastInDim S8192x1 ![] bcast_S_S8192x1 (constant S_ .f32 0x44800000#32))

def rE (k : Vec Ideal S8192x1 .f32) : Vec Ideal S8192x1024 .f32 :=
  broadcastInDim S8192x1024 ![0] bcast_S8192_S8192x1024_0 (Host.reduceAdd (F := Ideal) (φ := .f32) k (constant S_ .f32 0x00000000#32) reducesTo_S8192x1_S8192_d1 h_S_)

def rDx (p e : Vec Ideal S8192x1024 .f32) : Vec Ideal S8192x1024 .f32 :=
  addf (F := Ideal) (φ := .f32) (addf (F := Ideal) (φ := .f32) (addf (F := Ideal) (φ := .f32) y (mulf (F := Ideal) (φ := .f32) p (broadcastInDim S8192x1024 ![0, 1] bcast_S8192x1_S8192x1024_0_1 (rR x)))) (mulf (F := Ideal) (φ := .f32) x e)) (mulf (F := Ideal) (φ := .f32) e x)

theorem rS_at (i : Fin 8192) : rS x (ix2 i 0) = ms fun k => x (ix2 i k) := by
  pointwise [rS]
  rw [Cert.Ffn.div_1024]
  rfl
theorem rR_at (i : Fin 8192) : rR x (ix2 i 0) = inv fun k => x (ix2 i k) := by
  rw [Cert.Ffn.inv_eq, ← rS_at]
  rfl
theorem rX_at (i : Fin 8192) (k : Fin 1024) : rX x (ix2 i k) = x (ix2 i k) * inv fun k => x (ix2 i k) := by
  have e := rR_at x i
  unfold rX
  generalize rR x = v at e ⊢
  pointwise []
  rw [e]
theorem rH_at (i : Fin 8192) (k : Fin 1024) : rH x γ (ix2 i k) = hid (fun k => x (ix2 i k)) (fun k => γ (ix2 0 k)) k := by
  have e := rX_at x i k
  unfold rH
  generalize rX x = v at e ⊢
  pointwise []
  rw [e]
  rfl
theorem rL_at (w : Vec Ideal S2816x1024 .f32) (h : Vec Ideal S8192x1024 .f32) (i : Fin 8192) (n : Fin 2816) : rL w h (ix2 i n) = ∑ k : Fin 1024, h (ix2 i k) * w (ix2 n k) := by
  pointwise [rL, rT]
theorem lin_at (w : Vec Ideal S2816x1024 .f32) (i : Fin 8192) (n : Fin 2816) : rL w (rH x γ) (ix2 i n) = lin (fun k => x (ix2 i k)) (fun k => γ (ix2 0 k)) (fun n k => w (ix2 n k)) n := by
  rw [rL_at]
  exact Finset.sum_congr rfl fun k _ => congrArg (· * w (ix2 n k)) (rH_at x γ i k)
theorem rG_at (g : Vec Ideal S8192x2816 .f32) (i) : rG g i = Cert.Ffn.sig (g i) := by
  pointwise [rG, one]
  rfl
theorem rA_at (g u : Vec Ideal S8192x2816 .f32) (i) : rA g u i = glu (g i) (u i) := by
  show g i * rG g i * u i = _
  rw [rG_at]
  rfl
theorem rD_at (i : Fin 8192) (n : Fin 2816) : rD y wd (ix2 i n) = dact (fun k => y (ix2 i k)) (fun n k => wd (ix2 n k)) n := by
  pointwise [rD]
  rfl
theorem rU_at (g a : Vec Ideal S8192x2816 .f32) (i) : rU g a i = dup (a i) (g i) := by
  show g i * rG g i * a i = _
  rw [rG_at, mul_comm]
  rfl
theorem rDg_at (g a u : Vec Ideal S8192x2816 .f32) (i) : rDg g a u i = a i * u i * Cert.Ffn.sig (g i) + g i * (a i * u i) * (Cert.Ffn.sig (g i) * (1 - Cert.Ffn.sig (g i))) := by
  show a i * u i * rG g i + g i * (a i * u i) * (rG g i * (Ideal.ofBits .f32 0x3F800000#32 - rG g i)) = _
  rw [rG_at, Cert.Kernel2Ideal.Bwd.one_at]
theorem rN_at (du dg : Vec Ideal S8192x2816 .f32) (i : Fin 8192) (k : Fin 1024) :
    rN wg wu du dg (ix2 i k) = dhid (fun n => dg (ix2 i n)) (fun n => du (ix2 i n)) (fun n k => wg (ix2 n k)) (fun n k => wu (ix2 n k)) k := by
  pointwise [rN, rT]
  exact add_comm _ _
theorem rGain_at (d : Vec Ideal S8192x1024 .f32) (k : Fin 1024) : rGain x d (ix2 0 k) = ∑ i : Fin 8192, dgain (fun k => x (ix2 i k)) (fun k => d (ix2 i k)) k := by
  have e := rX_at x
  unfold rGain
  generalize rX x = v at e ⊢
  pointwise []
  refine Finset.sum_congr rfl fun i _ => ?_
  rw [e, mul_comm]
  rfl
theorem rP_at (d : Vec Ideal S8192x1024 .f32) (i : Fin 8192) (k : Fin 1024) : rP γ d (ix2 i k) = d (ix2 i k) * γ (ix2 0 k) := by
  pointwise [rP]
theorem rQ_at (p : Vec Ideal S8192x1024 .f32) (i : Fin 8192) : rQ x p (ix2 i 0) = ∑ k : Fin 1024, x (ix2 i k) * p (ix2 i k) := by
  pointwise [rQ]

theorem half_at : Ideal.ofBits .f32 0xBF000000#32 = ((-1 / 2 : ℝ) : EReal) := by
  simp [Ideal.ofBits, Ideal.ieee]
  rw [← EReal.coe_mul, ← EReal.coe_neg]
  norm_num

theorem rK_at (q : Vec Ideal S8192x1 .f32) (i : Fin 8192) :
    rK x q (ix2 i 0) = q (ix2 i 0) * (((-1 / 2 : ℝ) : EReal) * Ideal.div (inv fun k => x (ix2 i k)) (ms fun k => x (ix2 i k))) * ((1 / 1024 : ℝ) : EReal) := by
  have e := rS_at x i
  have e' := rR_at x i
  unfold rK
  generalize rS x = s at e ⊢
  generalize rR x = r at e' ⊢
  pointwise []
  rw [Cert.Ffn.div_1024, half_at, e, e']
theorem rE_at (k : Vec Ideal S8192x1 .f32) (i : Fin 8192) (j : Fin 1024) : rE k (ix2 i j) = k (ix2 i 0) := by
  pointwise [rE]
  exact Fin.sum_univ_one _
theorem rDx_at (p e : Vec Ideal S8192x1024 .f32) (i : Fin 8192) (k : Fin 1024) :
    rDx y x p e (ix2 i k) = y (ix2 i k) + p (ix2 i k) * (inv fun k => x (ix2 i k)) + x (ix2 i k) * e (ix2 i k) + e (ix2 i k) * x (ix2 i k) := by
  have h := rR_at x i
  unfold rDx
  generalize rR x = r at h ⊢
  pointwise []
  rw [h]

end Cert.Reference2Ideal.Bwd
end
-- ==== Proof.BwdEq.lean ====
/- The backward feed-forward step's six result arrays: the kernel's and the reference's are the same. -/
module

public import proofs.«01_k».proof.Proof.BwdRef

@[expose] public section

set_option maxRecDepth 16384

noncomputable section

namespace Cert.Reference2Ideal.Bwd

open Idealize.ShloMosaic Cert.Reference2Ideal Cert.Reference2Ideal.Gen
open Cert.Ffn (inv hid lin glu ch dact dgate dup dhid dx dgain ms Fine)
open scoped BigOperators

variable (y x : Vec Ideal S8192x1024 .f32) (γ : Vec Ideal S1x1024 .f32) (wg wu wd : Vec Ideal S2816x1024 .f32)

def row (v : Vec Ideal S8192x1024 .f32) (i : Fin 8192) (k : Fin 1024) : EReal := v (ix2 i k)
def gain (k : Fin 1024) : EReal := γ (ix2 0 k)
def mat (w : Vec Ideal S2816x1024 .f32) (n : Fin 2816) (k : Fin 1024) : EReal := w (ix2 n k)

/-- One row's hidden values, their adjoints and the normalised row's adjoint. -/
def eL (w : Vec Ideal S2816x1024 .f32) (i : Fin 8192) (n : Fin 2816) : EReal := lin (row x i) (gain γ) (mat w) n
def eDg (i : Fin 8192) (n : Fin 2816) : EReal := dgate (dact (row y i) (mat wd) n) (eL x γ wg i n) (eL x γ wu i n)
def eDu (i : Fin 8192) (n : Fin 2816) : EReal := dup (dact (row y i) (mat wd) n) (eL x γ wg i n)
def eN (i : Fin 8192) (k : Fin 1024) : EReal := dhid (eDg y x γ wg wu wd i) (eDu y x γ wg wd i) (mat wg) (mat wu) k
def eDx (i : Fin 8192) (k : Fin 1024) : EReal := y (ix2 i k) + dx (row x i) (gain γ) (eN y x γ wg wu wd i) k
def eGain (k : Fin 1024) : EReal := ∑ i : Fin 8192, dgain (row x i) (eN y x γ wg wu wd i) k

/-- The same arrays as the reference composes them. -/
def tL (w : Vec Ideal S2816x1024 .f32) : Vec Ideal S8192x2816 .f32 := rL w (rH x γ)
def tDg : Vec Ideal S8192x2816 .f32 := rDg (tL x γ wg) (rD y wd) (tL x γ wu)
def tDu : Vec Ideal S8192x2816 .f32 := rU (tL x γ wg) (rD y wd)
def tN : Vec Ideal S8192x1024 .f32 := rN wg wu (tDu y x γ wg wd) (tDg y x γ wg wu wd)
def tDx : Vec Ideal S8192x1024 .f32 := rDx y x (rP γ (tN y x γ wg wu wd)) (rE (rK x (rQ x (rP γ (tN y x γ wg wu wd)))))
def tGain : Vec Ideal S1x1024 .f32 := rGain x (tN y x γ wg wu wd)

theorem cast_eq : (shapeCast S8192x1024 y shapeCasts_S8192x1024_S8192x1024 : Vec Ideal S8192x1024 .f32) = y := shapeCast_id y _

theorem tL_at (w : Vec Ideal S2816x1024 .f32) (i : Fin 8192) (n : Fin 2816) : tL x γ w (ix2 i n) = eL x γ w i n := lin_at x γ w i n

theorem tDu_at (i : Fin 8192) (n : Fin 2816) : tDu y x γ wg wd (ix2 i n) = eDu y x γ wg wd i n := by
  unfold tDu
  rw [rU_at, rD_at, tL_at]
  rfl

/-- Every entry of every array is a number. -/
structure Num : Prop where
  y : ∀ i, Fine (y i)
  x : ∀ i, Fine (x i)
  γ : ∀ i, Fine (γ i)
  wg : ∀ i, Fine (wg i)
  wu : ∀ i, Fine (wu i)
  wd : ∀ i, Fine (wd i)

variable {y x γ wg wu wd}
variable (h : Num y x γ wg wu wd)
include h

theorem fineG (i : Fin 8192) (n : Fin 2816) : Fine (eL x γ wg i n) := Cert.Ffn.fine_lin (fun k => h.x _) (fun k => h.γ _) (fun n k => h.wg _) n
theorem fineU (i : Fin 8192) (n : Fin 2816) : Fine (eL x γ wu i n) := Cert.Ffn.fine_lin (fun k => h.x _) (fun k => h.γ _) (fun n k => h.wu _) n
theorem fineA (i : Fin 8192) (n : Fin 2816) : Fine (dact (row y i) (mat wd) n) := Cert.Ffn.fine_dact (fun k => h.y _) (fun n k => h.wd _) n
theorem fineN (i : Fin 8192) (k : Fin 1024) : Fine (eN y x γ wg wu wd i k) :=
  Cert.Ffn.fine_dhid (fun n => Cert.Ffn.fine_dgate (fineA h i n) (fineG h i n) (fineU h i n)) (fun n => Cert.Ffn.fine_dup (fineA h i n) (fineG h i n)) (fun n k => h.wg _) (fun n k => h.wu _) k

theorem tDg_at (i : Fin 8192) (n : Fin 2816) : tDg y x γ wg wu wd (ix2 i n) = eDg y x γ wg wu wd i n := by
  unfold tDg
  rw [rDg_at, rD_at, tL_at, tL_at]
  exact Cert.Ffn.dgate_eq (fineA h i n) (fineG h i n) (fineU h i n)

theorem tN_at (i : Fin 8192) (k : Fin 1024) : tN y x γ wg wu wd (ix2 i k) = eN y x γ wg wu wd i k := by
  unfold tN
  rw [rN_at]
  unfold eN
  simp only [tDg_at h, tDu_at]
  rfl

theorem tDx_at (i : Fin 8192) (k : Fin 1024) : tDx y x γ wg wu wd (ix2 i k) = eDx y x γ wg wu wd i k := by
  unfold tDx
  rw [rDx_at, rE_at, rK_at, rQ_at]
  simp only [rP_at, tN_at h]
  exact Cert.Ffn.dx_eq (h.y _) (fun k => h.x _) (fun k => h.γ _) (fineN h i) k

theorem tGain_at (k : Fin 1024) : tGain y x γ wg wu wd (ix2 0 k) = eGain y x γ wg wu wd k := by
  unfold tGain
  rw [rGain_at]
  simp only [tN_at h]
  rfl

end Cert.Reference2Ideal.Bwd

namespace Cert.Kernel2Ideal.Bwd

open Idealize.ShloMosaic Idealize.ShloMosaic.TcCoe
open Cert.Kernel2Ideal Cert.Kernel2Ideal.Gen
open Cert.Ffn (inv hid lin glu ch dact dgate dup dhid dx dgain Fine)
open Cert.Reference2Ideal.Bwd (rH rL rA row gain mat eL eDg eDu eN eDx eGain tL tDg tDu tN tDx tGain Num)
open scoped BigOperators

variable (m : (ℓ : Loc nD τ sig) → Buf (Elt Ideal) ℓ) (c : Dev nD)

abbrev A0 : Vec Ideal S8192x1024 .f32 := m ((c : Thread nD τ).loc main_arg0)
abbrev A1 : Vec Ideal S8192x1024 .f32 := m ((c : Thread nD τ).loc main_arg1)
abbrev A2 : Vec Ideal S1x1024 .f32 := m ((c : Thread nD τ).loc main_arg2)
abbrev A3 : Vec Ideal S2816x1024 .f32 := m ((c : Thread nD τ).loc main_arg3)
abbrev A4 : Vec Ideal S2816x1024 .f32 := m ((c : Thread nD τ).loc main_arg4)
abbrev A5 : Vec Ideal S2816x1024 .f32 := m ((c : Thread nD τ).loc main_arg5)

theorem v16_at (i) : (V m c main_v16 : Vec Ideal S8192x2816 .bf16) i = tL (A1 m c) (A2 m c) (A3 m c) i := by
  have e : (V m c main_v16 : Vec Ideal S8192x2816 .bf16) = (truncf (F := Ideal) (φ := .f32) .bf16 (tL (A1 m c) (A2 m c) (A3 m c)) bitsLt_bf16_f32 : Vec Ideal S8192x2816 .bf16) := by
    dsimp only [V, hostOps0]
    after_results
    rfl
  rw [e]
  rfl
theorem v17_at (i) : (V m c main_v17 : Vec Ideal S8192x2816 .bf16) i = tL (A1 m c) (A2 m c) (A4 m c) i := by
  have e : (V m c main_v17 : Vec Ideal S8192x2816 .bf16) = (truncf (F := Ideal) (φ := .f32) .bf16 (tL (A1 m c) (A2 m c) (A4 m c)) bitsLt_bf16_f32 : Vec Ideal S8192x2816 .bf16) := by
    dsimp only [V, hostOps0]
    after_results
    rfl
  rw [e]
  rfl
theorem v18_at (i) : (V m c main_v18 : Vec Ideal S2816x1024 .bf16) i = A3 m c i := by
  have e : (V m c main_v18 : Vec Ideal S2816x1024 .bf16) = (truncf (F := Ideal) (φ := .f32) .bf16 (A3 m c) bitsLt_bf16_f32 : Vec Ideal S2816x1024 .bf16) := by
    dsimp only [V, hostOps0]
    after_results
  rw [e]
  rfl
theorem v19_at (i) : (V m c main_v19 : Vec Ideal S2816x1024 .bf16) i = A4 m c i := by
  have e : (V m c main_v19 : Vec Ideal S2816x1024 .bf16) = (truncf (F := Ideal) (φ := .f32) .bf16 (A4 m c) bitsLt_bf16_f32 : Vec Ideal S2816x1024 .bf16) := by
    dsimp only [V, hostOps0]
    after_results
  rw [e]
  rfl
theorem v20_at (i) : (V m c main_v20 : Vec Ideal S2816x1024 .bf16) i = A5 m c i := by
  have e : (V m c main_v20 : Vec Ideal S2816x1024 .bf16) = (truncf (F := Ideal) (φ := .f32) .bf16 (A5 m c) bitsLt_bf16_f32 : Vec Ideal S2816x1024 .bf16) := by
    dsimp only [V, hostOps0]
    after_results
  rw [e]
  rfl

/-- Row `r` of tile `t`. -/
def at_ (t : Fin cfg0.N) (r : Fin 256) : Fin 8192 := ⟨256 * t.val + r.val, by have h := lt_of_lt_of_eq t.isLt (show cfg0.N = 32 from N_0); have := r.isLt; omega⟩

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![t.val, 0] := (by decide +kernel : ∀ t : Fin grid0.N, _)
theorem index13 : ∀ t : Fin cfg0.N, win0_13.index t = ![0, 0] := (by decide +kernel : ∀ t : Fin grid0.N, _)

theorem blk0 (t : Fin cfg0.N) (r : Fin 256) (k : Fin 1024) : (iblk m c 0 t : Vec Ideal S256x1024 .f32) (ix2 r k) = A0 m c (ix2 (at_ t r) k) := by
  rw [← show V m c main_arg0 = A0 m c from V_main_arg0 m c]
  unfold iblk
  rw [View.read_apply]
  refine congrArg (V m c main_arg0 : Vec Ideal S8192x1024 .f32) (funext fun a => Fin.ext ?_)
  have e0 : win0_0.index t 0 = t.val := congrFun (index0 t) 0
  have e1 : win0_0.index t 1 = 0 := congrFun (index0 t) 1
  match a with
  | ⟨0, _⟩ => show win0_0.index t 0 * 256 + 1 * r.val = 256 * t.val + r.val; rw [e0]; omega
  | ⟨1, _⟩ => show win0_0.index t 1 * 1024 + 1 * k.val = k.val; rw [e1]; omega
theorem blk1 (t : Fin cfg0.N) (r : Fin 256) (k : Fin 1024) : (iblk m c 1 t : Vec Ideal S256x1024 .f32) (ix2 r k) = A1 m c (ix2 (at_ t r) k) := by
  rw [← show V m c main_arg1 = A1 m c from V_main_arg1 m c]
  unfold iblk
  rw [View.read_apply]
  refine congrArg (V m c main_arg1 : Vec Ideal S8192x1024 .f32) (funext fun a => Fin.ext ?_)
  have e0 : win0_1.index t 0 = t.val := congrFun (index1 t) 0
  have e1 : win0_1.index t 1 = 0 := congrFun (index1 t) 1
  match a with
  | ⟨0, _⟩ => show win0_1.index t 0 * 256 + 1 * r.val = 256 * t.val + r.val; rw [e0]; omega
  | ⟨1, _⟩ => show win0_1.index t 1 * 1024 + 1 * k.val = k.val; rw [e1]; omega
theorem blk2 (t : Fin cfg0.N) (r : Fin 256) (k : Fin 2816) : (iblk m c 2 t : Vec Ideal S256x2816 .bf16) (ix2 r k) = tL (A1 m c) (A2 m c) (A3 m c) (ix2 (at_ t r) k) := by
  rw [← v16_at m c]
  unfold iblk
  rw [View.read_apply]
  refine congrArg (V m c main_v16 : Vec Ideal S8192x2816 .bf16) (funext fun a => Fin.ext ?_)
  have e0 : win0_2.index t 0 = t.val := congrFun (index2 t) 0
  have e1 : win0_2.index t 1 = 0 := congrFun (index2 t) 1
  match a with
  | ⟨0, _⟩ => show win0_2.index t 0 * 256 + 1 * r.val = 256 * t.val + r.val; rw [e0]; omega
  | ⟨1, _⟩ => show win0_2.index t 1 * 2816 + 1 * k.val = k.val; rw [e1]; omega
theorem blk3 (t : Fin cfg0.N) (r : Fin 256) (k : Fin 2816) : (iblk m c 3 t : Vec Ideal S256x2816 .bf16) (ix2 r k) = tL (A1 m c) (A2 m c) (A4 m c) (ix2 (at_ t r) k) := by
  rw [← v17_at m c]
  unfold iblk
  rw [View.read_apply]
  refine congrArg (V m c main_v17 : Vec Ideal S8192x2816 .bf16) (funext fun a => Fin.ext ?_)
  have e0 : win0_3.index t 0 = t.val := congrFun (index3 t) 0
  have e1 : win0_3.index t 1 = 0 := congrFun (index3 t) 1
  match a with
  | ⟨0, _⟩ => show win0_3.index t 0 * 256 + 1 * r.val = 256 * t.val + r.val; rw [e0]; omega
  | ⟨1, _⟩ => show win0_3.index t 1 * 2816 + 1 * k.val = k.val; rw [e1]; omega
theorem blk4 (t : Fin cfg0.N) (k : Fin 1024) : (iblk m c 4 t : Vec Ideal S1x1024 .f32) (ix2 0 k) = A2 m c (ix2 0 k) := by
  rw [← show V m c main_arg2 = A2 m c from V_main_arg2 m c]
  unfold iblk
  rw [View.read_apply]
  refine congrArg (V m c main_arg2 : Vec Ideal S1x1024 .f32) (funext fun a => Fin.ext ?_)
  have e0 : win0_4.index t 0 = 0 := congrFun (index4 t) 0
  have e1 : win0_4.index t 1 = 0 := congrFun (index4 t) 1
  match a with
  | ⟨0, _⟩ => show win0_4.index t 0 * 1 + 1 * 0 = 0; rw [e0]
  | ⟨1, _⟩ => show win0_4.index t 1 * 1024 + 1 * k.val = k.val; rw [e1]; omega
theorem blk5 (t : Fin cfg0.N) (n : Fin 2816) (k : Fin 1024) : (iblk m c 5 t : Vec Ideal S2816x1024 .bf16) (ix2 n k) = A3 m c (ix2 n k) := by
  rw [← v18_at m c]
  unfold iblk
  rw [View.read_apply]
  refine congrArg (V m c main_v18 : Vec Ideal S2816x1024 .bf16) (funext fun a => Fin.ext ?_)
  have e0 : win0_5.index t 0 = 0 := congrFun (index5 t) 0
  have e1 : win0_5.index t 1 = 0 := congrFun (index5 t) 1
  match a with
  | ⟨0, _⟩ => show win0_5.index t 0 * 2816 + 1 * n.val = n.val; rw [e0]; omega
  | ⟨1, _⟩ => show win0_5.index t 1 * 1024 + 1 * k.val = k.val; rw [e1]; omega
theorem blk6 (t : Fin cfg0.N) (n : Fin 2816) (k : Fin 1024) : (iblk m c 6 t : Vec Ideal S2816x1024 .bf16) (ix2 n k) = A4 m c (ix2 n k) := by
  rw [← v19_at m c]
  unfold iblk
  rw [View.read_apply]
  refine congrArg (V m c main_v19 : Vec Ideal S2816x1024 .bf16) (funext fun a => Fin.ext ?_)
  have e0 : win0_6.index t 0 = 0 := congrFun (index6 t) 0
  have e1 : win0_6.index t 1 = 0 := congrFun (index6 t) 1
  match a with
  | ⟨0, _⟩ => show win0_6.index t 0 * 2816 + 1 * n.val = n.val; rw [e0]; omega
  | ⟨1, _⟩ => show win0_6.index t 1 * 1024 + 1 * k.val = k.val; rw [e1]; omega
theorem blk7 (t : Fin cfg0.N) (n : Fin 2816) (k : Fin 1024) : (iblk m c 7 t : Vec Ideal S2816x1024 .bf16) (ix2 n k) = A5 m c (ix2 n k) := by
  rw [← v20_at m c]
  unfold iblk
  rw [View.read_apply]
  refine congrArg (V m c main_v20 : Vec Ideal S2816x1024 .bf16) (funext fun a => Fin.ext ?_)
  have e0 : win0_7.index t 0 = 0 := congrFun (index7 t) 0
  have e1 : win0_7.index t 1 = 0 := congrFun (index7 t) 1
  match a with
  | ⟨0, _⟩ => show win0_7.index t 0 * 2816 + 1 * n.val = n.val; rw [e0]; omega
  | ⟨1, _⟩ => show win0_7.index t 1 * 1024 + 1 * k.val = k.val; rw [e1]; omega

theorem Y0_eq (t : Fin cfg0.N) (r : Fin 256) : Y (iblk m c 0 t) r = row (A0 m c) (at_ t r) := funext fun k => blk0 m c t r k
theorem Y1_eq (t : Fin cfg0.N) (r : Fin 256) : Y (iblk m c 1 t) r = row (A1 m c) (at_ t r) := funext fun k => blk1 m c t r k
theorem Γ_eq (t : Fin cfg0.N) : Γ (iblk m c 4 t) = gain (A2 m c) := funext fun k => blk4 m c t k
theorem W5_eq (t : Fin cfg0.N) : W (iblk m c 5 t) = mat (A3 m c) := funext fun n => funext fun k => blk5 m c t n k
theorem W6_eq (t : Fin cfg0.N) : W (iblk m c 6 t) = mat (A4 m c) := funext fun n => funext fun k => blk6 m c t n k
theorem W7_eq (t : Fin cfg0.N) : W (iblk m c 7 t) = mat (A5 m c) := funext fun n => funext fun k => blk7 m c t n k

theorem ACT_eq (t : Fin cfg0.N) (r : Fin 256) (n : Fin 2816) : ACT (iblk m c 2 t) (iblk m c 3 t) r n = rA (tL (A1 m c) (A2 m c) (A3 m c)) (tL (A1 m c) (A2 m c) (A4 m c)) (ix2 (at_ t r) n) := by
  rw [Cert.Reference2Ideal.Bwd.rA_at]
  exact congrArg₂ glu (blk2 m c t r n) (blk3 m c t r n)

theorem DG_eq (t : Fin cfg0.N) (r : Fin 256) : DG (iblk m c 0 t) (iblk m c 2 t) (iblk m c 3 t) (iblk m c 7 t) r = eDg (A0 m c) (A1 m c) (A2 m c) (A3 m c) (A4 m c) (A5 m c) (at_ t r) := by
  funext n
  unfold DG eDg
  rw [Y0_eq, W7_eq, blk2, blk3, Cert.Reference2Ideal.Bwd.tL_at, Cert.Reference2Ideal.Bwd.tL_at]

theorem DU_eq (t : Fin cfg0.N) (r : Fin 256) : DU (iblk m c 0 t) (iblk m c 2 t) (iblk m c 7 t) r = eDu (A0 m c) (A1 m c) (A2 m c) (A3 m c) (A5 m c) (at_ t r) := by
  funext n
  unfold DU eDu
  rw [Y0_eq, W7_eq, blk2, Cert.Reference2Ideal.Bwd.tL_at]

theorem DH_eq (t : Fin cfg0.N) (r : Fin 256) : DH (iblk m c 0 t) (iblk m c 2 t) (iblk m c 3 t) (iblk m c 5 t) (iblk m c 6 t) (iblk m c 7 t) r = eN (A0 m c) (A1 m c) (A2 m c) (A3 m c) (A4 m c) (A5 m c) (at_ t r) := by
  funext k
  unfold DH eN
  rw [DG_eq, DU_eq, W5_eq, W6_eq]

theorem tile8 (t : Fin cfg0.N) (r : Fin 256) (k : Fin 1024) : (outsAt0 m c t.val t.isLt).1 (ix2 r k) = eDx (A0 m c) (A1 m c) (A2 m c) (A3 m c) (A4 m c) (A5 m c) (at_ t r) k := by
  by_cases h0 : t.val % 32 = 0
  · rw [outsAt0_A m c t h0]
    dsimp only
    rw [out8_A]
    rw [Y1_eq, Γ_eq, DH_eq]
    exact congrArg (· + _) (blk0 m c t r k)
  · rw [outsAt0_B m c t h0]
    dsimp only
    rw [out8_B]
    rw [Y1_eq, Γ_eq, DH_eq]
    exact congrArg (· + _) (blk0 m c t r k)

theorem tile9 (t : Fin cfg0.N) (r : Fin 256) (k : Fin 1024) : (outsAt0 m c t.val t.isLt).2.1 (ix2 r k) = hid (row (A1 m c) (at_ t r)) (gain (A2 m c)) k := by
  by_cases h0 : t.val % 32 = 0
  · rw [outsAt0_A m c t h0]
    dsimp only
    rw [out9_A]
    rw [Y1_eq, Γ_eq]
  · rw [outsAt0_B m c t h0]
    dsimp only
    rw [out9_B]
    rw [Y1_eq, Γ_eq]

theorem tile10 (t : Fin cfg0.N) (r : Fin 256) (k : Fin 2816) : (outsAt0 m c t.val t.isLt).2.2.1 (ix2 r k) = rA (tL (A1 m c) (A2 m c) (A3 m c)) (tL (A1 m c) (A2 m c) (A4 m c)) (ix2 (at_ t r) k) := by
  by_cases h0 : t.val % 32 = 0
  · rw [outsAt0_A m c t h0]
    dsimp only
    rw [out10_A]
    exact ACT_eq m c t r k
  · rw [outsAt0_B m c t h0]
    dsimp only
    rw [out10_B]
    exact ACT_eq m c t r k

theorem tile11 (t : Fin cfg0.N) (r : Fin 256) (k : Fin 2816) : (outsAt0 m c t.val t.isLt).2.2.2.1 (ix2 r k) = eDg (A0 m c) (A1 m c) (A2 m c) (A3 m c) (A4 m c) (A5 m c) (at_ t r) k := by
  by_cases h0 : t.val % 32 = 0
  · rw [outsAt0_A m c t h0]
    dsimp only
    rw [out11_A]
    exact congrFun (DG_eq m c t r) k
  · rw [outsAt0_B m c t h0]
    dsimp only
    rw [out11_B]
    exact congrFun (DG_eq m c t r) k

theorem tile12 (t : Fin cfg0.N) (r : Fin 256) (k : Fin 2816) : (outsAt0 m c t.val t.isLt).2.2.2.2.1 (ix2 r k) = eDu (A0 m c) (A1 m c) (A2 m c) (A3 m c) (A5 m c) (at_ t r) k := by
  by_cases h0 : t.val % 32 = 0
  · rw [outsAt0_A m c t h0]
    dsimp only
    rw [out12_A]
    exact congrFun (DU_eq m c t r) k
  · rw [outsAt0_B m c t h0]
    dsimp only
    rw [out12_B]
    exact congrFun (DU_eq m c t r) k

/-- One tile's part of the gain's gradient. -/
def part (k : Fin 1024) (n : ℕ) : EReal := if h : n < 32 then ∑ r : Fin 256, dgain (row (A1 m c) ⟨256 * n + r.val, by have := r.isLt; omega⟩) (eN (A0 m c) (A1 m c) (A2 m c) (A3 m c) (A4 m c) (A5 m c) ⟨256 * n + r.val, by have := r.isLt; omega⟩) k else 0

theorem part_eq (t : Fin cfg0.N) (k : Fin 1024) :
    ∑ r : Fin 256, dgain (Y (iblk m c 1 t) r) (DH (iblk m c 0 t) (iblk m c 2 t) (iblk m c 3 t) (iblk m c 5 t) (iblk m c 6 t) (iblk m c 7 t) r) k = part m c k t.val := by
  have h := lt_of_lt_of_eq t.isLt (show cfg0.N = 32 from N_0)
  unfold part
  rw [dif_pos h]
  refine Finset.sum_congr rfl fun r _ => ?_
  rw [Y1_eq, DH_eq]
  rfl

/-- The gain's gradient after the tiles up to `n`. -/
theorem acc_at (k : Fin 1024) : ∀ (n : ℕ) (h : n < cfg0.N), (outsAt0 m c n h).2.2.2.2.2 (ix2 0 k) = ∑ j ∈ Finset.range (n + 1), part m c k j := by
  intro n
  induction n with
  | zero =>
    intro h
    rw [outsAt0_A m c ⟨0, h⟩ rfl]
    dsimp only
    rw [out13_A, zero_add, part_eq]
    exact (Finset.sum_range_one _).symm
  | succ n ih =>
    intro h
    have hN : cfg0.N = 32 := N_0
    rw [outsAt0_B m c ⟨n + 1, h⟩ (show ¬(n + 1) % 32 = 0 by omega)]
    dsimp only
    rw [out13_B, part_eq]
    show (outsAt0 m c n _).2.2.2.2.2 (ix2 0 k) + part m c k (n + 1) = _
    rw [ih (Nat.lt_of_succ_lt h), Finset.sum_range_succ _ (n + 1)]

/-- The tiles' rows are all the rows. -/
theorem tiles_sum (f : Fin 8192 → EReal) : ∑ j : Fin 32, ∑ r : Fin 256, f ⟨256 * j.val + r.val, by have := j.isLt; have := r.isLt; omega⟩ = ∑ i, f i := by
  rw [← Fintype.sum_prod_type' (f := fun (j : Fin 32) (r : Fin 256) => f ⟨256 * j.val + r.val, by have := j.isLt; have := r.isLt; omega⟩)]
  refine Fintype.sum_bijective (fun y : Fin 32 × Fin 256 => (⟨256 * y.1.val + y.2.val, by have := y.1.isLt; have := y.2.isLt; omega⟩ : Fin 8192)) ⟨?_, ?_⟩ _ _ fun _ => rfl
  · rintro ⟨a, x⟩ ⟨b, y⟩ h
    have h' : 256 * a.val + x.val = 256 * b.val + y.val := congrArg Fin.val h
    have hx := x.isLt
    have hy := y.isLt
    clear h
    exact Prod.ext (Fin.ext (show a.val = b.val by omega)) (Fin.ext (show x.val = y.val by omega))
  · intro k
    have := k.isLt
    exact ⟨(⟨k.val / 256, by omega⟩, ⟨k.val % 256, by omega⟩), Fin.ext (show 256 * (k.val / 256) + k.val % 256 = k.val by omega)⟩

theorem parts (k : Fin 1024) : ∑ j ∈ Finset.range 32, part m c k j = eGain (A0 m c) (A1 m c) (A2 m c) (A3 m c) (A4 m c) (A5 m c) k := by
  rw [Finset.sum_range]
  have e : ∀ j : Fin 32, part m c k j.val = ∑ r : Fin 256, dgain (row (A1 m c) ⟨256 * j.val + r.val, by have := j.isLt; have := r.isLt; omega⟩) (eN (A0 m c) (A1 m c) (A2 m c) (A3 m c) (A4 m c) (A5 m c) ⟨256 * j.val + r.val, by have := j.isLt; have := r.isLt; omega⟩) k := fun j => dif_pos j.isLt
  rw [Finset.sum_congr rfl fun j _ => e j]
  unfold eGain
  exact tiles_sum fun i => dgain (row (A1 m c) i) (eN (A0 m c) (A1 m c) (A2 m c) (A3 m c) (A4 m c) (A5 m c) i) k

theorem covers8 : (cfg0.win 8).Covers := by decide +kernel

theorem arr8 (h : Num (A0 m c) (A1 m c) (A2 m c) (A3 m c) (A4 m c) (A5 m c)) : (dats m 0 c).arrAt 8 cfg0.N = (tDx (A0 m c) (A1 m c) (A2 m c) (A3 m c) (A4 m c) (A5 m c) : Vec Ideal S8192x1024 .f32) := by
  refine (dats m 0 c).arrAt_eq_of_covers 8 _ covers8 fun t hf y => ?_
  have hy : y = ix2 (y (0 : Fin 2)) (y (1 : Fin 2)) := funext fun b => match b with | ⟨0, _⟩ => rfl | ⟨1, _⟩ => rfl
  have he : ((cfg0.win 8).blk t).view.emb y = (ix2 (at_ t (y (0 : Fin 2))) (y (1 : Fin 2)) : S8192x1024.Idx) := by
    funext a
    refine Fin.ext ?_
    have e0 : win0_8.index t 0 = t.val := congrFun (index8 t) 0
    have e1 : win0_8.index t 1 = 0 := congrFun (index8 t) 1
    match a with
    | ⟨0, _⟩ => show win0_8.index t 0 * 256 + 1 * (y (0 : Fin 2)).val = 256 * t.val + (y (0 : Fin 2)).val; rw [e0]; omega
    | ⟨1, _⟩ => show win0_8.index t 1 * 1024 + 1 * (y (1 : Fin 2)).val = (y (1 : Fin 2)).val; rw [e1]; omega
  refine Eq.trans ?_ (((tile8 m c t (y (0 : Fin 2)) (y (1 : Fin 2))).trans (Cert.Reference2Ideal.Bwd.tDx_at h (at_ t (y (0 : Fin 2))) (y (1 : Fin 2))).symm).trans (congrArg (tDx (A0 m c) (A1 m c) (A2 m c) (A3 m c) (A4 m c) (A5 m c) : S8192x1024.Idx → EReal) he.symm))
  exact (congrFun (after0_8 m c t) y).trans (congrArg (outsAt0 m c t.val t.isLt).1 hy)

theorem covers9 : (cfg0.win 9).Covers := by decide +kernel

theorem arr9 : (dats m 0 c).arrAt 9 cfg0.N = (rH (A1 m c) (A2 m c) : Vec Ideal S8192x1024 .f32) := by
  refine (dats m 0 c).arrAt_eq_of_covers 9 _ covers9 fun t hf y => ?_
  have hy : y = ix2 (y (0 : Fin 2)) (y (1 : Fin 2)) := funext fun b => match b with | ⟨0, _⟩ => rfl | ⟨1, _⟩ => rfl
  have he : ((cfg0.win 9).blk t).view.emb y = (ix2 (at_ t (y (0 : Fin 2))) (y (1 : Fin 2)) : S8192x1024.Idx) := by
    funext a
    refine Fin.ext ?_
    have e0 : win0_9.index t 0 = t.val := congrFun (index9 t) 0
    have e1 : win0_9.index t 1 = 0 := congrFun (index9 t) 1
    match a with
    | ⟨0, _⟩ => show win0_9.index t 0 * 256 + 1 * (y (0 : Fin 2)).val = 256 * t.val + (y (0 : Fin 2)).val; rw [e0]; omega
    | ⟨1, _⟩ => show win0_9.index t 1 * 1024 + 1 * (y (1 : Fin 2)).val = (y (1 : Fin 2)).val; rw [e1]; omega
  refine Eq.trans ?_ (((tile9 m c t (y (0 : Fin 2)) (y (1 : Fin 2))).trans (Cert.Reference2Ideal.Bwd.rH_at (A1 m c) (A2 m c) (at_ t (y (0 : Fin 2))) (y (1 : Fin 2))).symm).trans (congrArg (rH (A1 m c) (A2 m c) : S8192x1024.Idx → EReal) he.symm))
  exact (congrFun (after0_9 m c t) y).trans (congrArg (outsAt0 m c t.val t.isLt).2.1 hy)

theorem covers10 : (cfg0.win 10).Covers := by decide +kernel

theorem arr10 : (dats m 0 c).arrAt 10 cfg0.N = (rA (tL (A1 m c) (A2 m c) (A3 m c)) (tL (A1 m c) (A2 m c) (A4 m c)) : Vec Ideal S8192x2816 .f32) := by
  refine (dats m 0 c).arrAt_eq_of_covers 10 _ covers10 fun t hf y => ?_
  have hy : y = ix2 (y (0 : Fin 2)) (y (1 : Fin 2)) := funext fun b => match b with | ⟨0, _⟩ => rfl | ⟨1, _⟩ => rfl
  have he : ((cfg0.win 10).blk t).view.emb y = (ix2 (at_ t (y (0 : Fin 2))) (y (1 : Fin 2)) : S8192x2816.Idx) := by
    funext a
    refine Fin.ext ?_
    have e0 : win0_10.index t 0 = t.val := congrFun (index10 t) 0
    have e1 : win0_10.index t 1 = 0 := congrFun (index10 t) 1
    match a with
    | ⟨0, _⟩ => show win0_10.index t 0 * 256 + 1 * (y (0 : Fin 2)).val = 256 * t.val + (y (0 : Fin 2)).val; rw [e0]; omega
    | ⟨1, _⟩ => show win0_10.index t 1 * 2816 + 1 * (y (1 : Fin 2)).val = (y (1 : Fin 2)).val; rw [e1]; omega
  refine Eq.trans ?_ (((tile10 m c t (y (0 : Fin 2)) (y (1 : Fin 2))).trans rfl).trans (congrArg (rA (tL (A1 m c) (A2 m c) (A3 m c)) (tL (A1 m c) (A2 m c) (A4 m c)) : S8192x2816.Idx → EReal) he.symm))
  exact (congrFun (after0_10 m c t) y).trans (congrArg (outsAt0 m c t.val t.isLt).2.2.1 hy)

theorem covers11 : (cfg0.win 11).Covers := by decide +kernel

theorem arr11 (h : Num (A0 m c) (A1 m c) (A2 m c) (A3 m c) (A4 m c) (A5 m c)) : (dats m 0 c).arrAt 11 cfg0.N = (tDg (A0 m c) (A1 m c) (A2 m c) (A3 m c) (A4 m c) (A5 m c) : Vec Ideal S8192x2816 .f32) := by
  refine (dats m 0 c).arrAt_eq_of_covers 11 _ covers11 fun t hf y => ?_
  have hy : y = ix2 (y (0 : Fin 2)) (y (1 : Fin 2)) := funext fun b => match b with | ⟨0, _⟩ => rfl | ⟨1, _⟩ => rfl
  have he : ((cfg0.win 11).blk t).view.emb y = (ix2 (at_ t (y (0 : Fin 2))) (y (1 : Fin 2)) : S8192x2816.Idx) := by
    funext a
    refine Fin.ext ?_
    have e0 : win0_11.index t 0 = t.val := congrFun (index11 t) 0
    have e1 : win0_11.index t 1 = 0 := congrFun (index11 t) 1
    match a with
    | ⟨0, _⟩ => show win0_11.index t 0 * 256 + 1 * (y (0 : Fin 2)).val = 256 * t.val + (y (0 : Fin 2)).val; rw [e0]; omega
    | ⟨1, _⟩ => show win0_11.index t 1 * 2816 + 1 * (y (1 : Fin 2)).val = (y (1 : Fin 2)).val; rw [e1]; omega
  refine Eq.trans ?_ (((tile11 m c t (y (0 : Fin 2)) (y (1 : Fin 2))).trans (Cert.Reference2Ideal.Bwd.tDg_at h (at_ t (y (0 : Fin 2))) (y (1 : Fin 2))).symm).trans (congrArg (tDg (A0 m c) (A1 m c) (A2 m c) (A3 m c) (A4 m c) (A5 m c) : S8192x2816.Idx → EReal) he.symm))
  exact (congrFun (after0_11 m c t) y).trans (congrArg (outsAt0 m c t.val t.isLt).2.2.2.1 hy)

theorem covers12 : (cfg0.win 12).Covers := by decide +kernel

theorem arr12 : (dats m 0 c).arrAt 12 cfg0.N = (tDu (A0 m c) (A1 m c) (A2 m c) (A3 m c) (A5 m c) : Vec Ideal S8192x2816 .f32) := by
  refine (dats m 0 c).arrAt_eq_of_covers 12 _ covers12 fun t hf y => ?_
  have hy : y = ix2 (y (0 : Fin 2)) (y (1 : Fin 2)) := funext fun b => match b with | ⟨0, _⟩ => rfl | ⟨1, _⟩ => rfl
  have he : ((cfg0.win 12).blk t).view.emb y = (ix2 (at_ t (y (0 : Fin 2))) (y (1 : Fin 2)) : S8192x2816.Idx) := by
    funext a
    refine Fin.ext ?_
    have e0 : win0_12.index t 0 = t.val := congrFun (index12 t) 0
    have e1 : win0_12.index t 1 = 0 := congrFun (index12 t) 1
    match a with
    | ⟨0, _⟩ => show win0_12.index t 0 * 256 + 1 * (y (0 : Fin 2)).val = 256 * t.val + (y (0 : Fin 2)).val; rw [e0]; omega
    | ⟨1, _⟩ => show win0_12.index t 1 * 2816 + 1 * (y (1 : Fin 2)).val = (y (1 : Fin 2)).val; rw [e1]; omega
  refine Eq.trans ?_ (((tile12 m c t (y (0 : Fin 2)) (y (1 : Fin 2))).trans (Cert.Reference2Ideal.Bwd.tDu_at (A0 m c) (A1 m c) (A2 m c) (A3 m c) (A5 m c) (at_ t (y (0 : Fin 2))) (y (1 : Fin 2))).symm).trans (congrArg (tDu (A0 m c) (A1 m c) (A2 m c) (A3 m c) (A5 m c) : S8192x2816.Idx → EReal) he.symm))
  exact (congrFun (after0_12 m c t) y).trans (congrArg (outsAt0 m c t.val t.isLt).2.2.2.2.1 hy)

theorem covers13 : (cfg0.win 13).Covers := by decide +kernel
theorem last13 : ∀ t : Fin cfg0.N, (cfg0.win 13).flush t = true → t.val = 31 := (by decide +kernel : ∀ t : Fin grid0.N, _)

theorem arr13 (h : Num (A0 m c) (A1 m c) (A2 m c) (A3 m c) (A4 m c) (A5 m c)) : (dats m 0 c).arrAt 13 cfg0.N = (tGain (A0 m c) (A1 m c) (A2 m c) (A3 m c) (A4 m c) (A5 m c) : Vec Ideal S1x1024 .f32) := by
  refine (dats m 0 c).arrAt_eq_of_covers 13 _ covers13 fun t hf y => ?_
  have hy : y = ix2 (0 : Fin 1) (y (1 : Fin 2)) := funext fun b => match b with | ⟨0, _⟩ => Subsingleton.elim (α := Fin 1) _ _ | ⟨1, _⟩ => rfl
  have he : ((cfg0.win 13).blk t).view.emb y = (ix2 (0 : Fin 1) (y (1 : Fin 2)) : S1x1024.Idx) := by
    funext a
    refine Fin.ext ?_
    have e1 : win0_13.index t 1 = 0 := congrFun (index13 t) 1
    match a with
    | ⟨0, _⟩ => exact congrArg Fin.val (Subsingleton.elim (α := Fin 1) _ _)
    | ⟨1, _⟩ => show win0_13.index t 1 * 1024 + 1 * (y (1 : Fin 2)).val = (y (1 : Fin 2)).val; rw [e1]; omega
  have hs : (outsAt0 m c t.val t.isLt).2.2.2.2.2 (ix2 0 (y (1 : Fin 2))) = tGain (A0 m c) (A1 m c) (A2 m c) (A3 m c) (A4 m c) (A5 m c) (ix2 0 (y (1 : Fin 2))) := by
    refine (acc_at m c (y (1 : Fin 2)) t.val t.isLt).trans ?_
    rw [last13 t hf]
    exact (parts m c _).trans (Cert.Reference2Ideal.Bwd.tGain_at h _).symm
  refine Eq.trans ?_ (hs.trans (congrArg (tGain (A0 m c) (A1 m c) (A2 m c) (A3 m c) (A4 m c) (A5 m c) : S1x1024.Idx → EReal) he.symm))
  exact (congrFun (after0_13 m c t) y).trans (congrArg (outsAt0 m c t.val t.isLt).2.2.2.2.2 hy)

end Cert.Kernel2Ideal.Bwd
end
-- ==== Proof.BwdPre.lean ====
/- What the precondition of the backward feed-forward step says: every argument's elements are numbers. -/
module

public import proofs.«01_k».proof.Proof.ValPre
public import proofs.«01_k».proof.Proof.BwdEq

@[expose] public section

set_option maxRecDepth 16384

noncomputable section

namespace Cert.FfnPre

open Idealize.ShloMosaic Idealize.ShloMosaic.TcCoe
open Cert.Pre_finite2 Cert.Pre_finite2.Facts
open Cert.Ffn (Fine)

instance facts : Cert.Pre_finite2.Facts where
  bcast_S_S8192x1024 := by decide
  reducesTo_S8192x1024_S_d0_1 := by decide
  h_S_ := by decide
  bcast_S_S1x1024 := by decide
  reducesTo_S1x1024_S_d0_1 := by decide
  bcast_S_S2816x1024 := by decide
  reducesTo_S2816x1024_S_d0_1 := by decide

instance : Subsingleton S_.Idx := ⟨fun a b => funext fun i => i.elim0⟩

theorem rows (x : FVec Ideal S8192x1024 .f32)
    (h : Host.reduce IntOp.andi (cmpf (F := Ideal) .olt (Host.absf x) (broadcastInDim S8192x1024 ![] bcast_S_S8192x1024 (constant (F := Ideal) S_ .f32 0x7F800000#32))) (constantI S_ 1 1#1) reducesTo_S8192x1024_S_d0_1 h_S_ = fun _ => 1#1)
    (i : S8192x1024.Idx) : Fine (x i) := by
  have := Host.reduce_andi_all _ _ _ _ (fun a => a.elim0) (congrFun h _) i
  refine Cert.AttnPre.real_of_abs (x i) ?_
  rw [← Cert.AttnPre.inf_eq]
  exact this
theorem gain (x : FVec Ideal S1x1024 .f32)
    (h : Host.reduce IntOp.andi (cmpf (F := Ideal) .olt (Host.absf x) (broadcastInDim S1x1024 ![] bcast_S_S1x1024 (constant (F := Ideal) S_ .f32 0x7F800000#32))) (constantI S_ 1 1#1) reducesTo_S1x1024_S_d0_1 h_S_ = fun _ => 1#1)
    (i : S1x1024.Idx) : Fine (x i) := by
  have := Host.reduce_andi_all _ _ _ _ (fun a => a.elim0) (congrFun h _) i
  refine Cert.AttnPre.real_of_abs (x i) ?_
  rw [← Cert.AttnPre.inf_eq]
  exact this
theorem mats (x : FVec Ideal S2816x1024 .f32)
    (h : Host.reduce IntOp.andi (cmpf (F := Ideal) .olt (Host.absf x) (broadcastInDim S2816x1024 ![] bcast_S_S2816x1024 (constant (F := Ideal) S_ .f32 0x7F800000#32))) (constantI S_ 1 1#1) reducesTo_S2816x1024_S_d0_1 h_S_ = fun _ => 1#1)
    (i : S2816x1024.Idx) : Fine (x i) := by
  have := Host.reduce_andi_all _ _ _ _ (fun a => a.elim0) (congrFun h _) i
  refine Cert.AttnPre.real_of_abs (x i) ?_
  rw [← Cert.AttnPre.inf_eq]
  exact this

theorem num (a0 a1 : FVec Ideal S8192x1024 .f32) (a2 : FVec Ideal S1x1024 .f32) (a3 a4 a5 : FVec Ideal S2816x1024 .f32)
    (h : Cert.Pre_finite2.fn (F := Ideal) a0 a1 a2 a3 a4 a5 = fun _ => 1#1) : Cert.Reference2Ideal.Bwd.Num a0 a1 a2 a3 a4 a5 := by
  unfold Cert.Pre_finite2.fn Cert.Pre_finite2.fn_part1 at h
  obtain ⟨h, h5⟩ := Cert.AttnPre.one_of_andi _ _ h
  obtain ⟨h, h4⟩ := Cert.AttnPre.one_of_andi _ _ h
  obtain ⟨h, h3⟩ := Cert.AttnPre.one_of_andi _ _ h
  obtain ⟨h, h2⟩ := Cert.AttnPre.one_of_andi _ _ h
  obtain ⟨h0, h1⟩ := Cert.AttnPre.one_of_andi _ _ h
  exact ⟨rows a0 h0, rows a1 h1, gain a2 h2, mats a3 h3, mats a4 h4, mats a5 h5⟩

end Cert.FfnPre
end
-- ==== Proof.LossTile.lean ====
/- The second layer's feed-forward step with the loss, one tile of 512 rows: what one grid point leaves. -/
module

public import proofs.«01_k».proof.Proof.Gen.Kernel6Ideal.Value
public import proofs.«01_k».proof.Proof.FwdTile

@[expose] public section

set_option maxRecDepth 16384

noncomputable section

namespace Cert.Kernel6Ideal.Loss

open Idealize.ShloMosaic Idealize.ShloMosaic.TcCoe Idealize.ShloMosaic.Tactic
open Cert.Kernel6Ideal Cert.Kernel6Ideal.Gen
open Cert.Kernel4Ideal.Fwd (chunks X term off0)
open scoped BigOperators

section Vectors
variable {F : FTy → Type} [FloatOps F]
variable (x0 : Vec F S512x1024 .f32) (x1 : Vec F S1x1024 .f32) (x2 x3 x4 : Vec F S2816x1024 .bf16) (x5 : Vec F S512x1024 .f32)

/-- The step's output less the target. -/
def err : FVec F S512x1024 .f32 :=
  subf (chunks x0 x2 x3 x4 (Cert.Kernel4Ideal.Gen.k0_pay59 x0 x1 x2 x3 x4)) (View.ld x5 (Rect.unit ![0, 0] S512x1024.size inb_S512x1024_S512x1024_0_0))

/-- The loss's gradient with respect to the step's output. -/
def dyv (e : FVec F S512x1024 .f32) : FVec F S512x1024 .f32 := mulf e (broadcast S512x1024 (Scalar.ofBits .f32 0x3A800000#32))

/-- The tile's part of the loss, added to `s`. -/
def lossv (e : FVec F S512x1024 .f32) (s : Vec F S1x1 .f32) : FVec F S1x1 .f32 :=
  addf (shapeCast S1x1 s shapeCasts_S1x1_S1x1) (mulf (broadcast S1x1 (Scalar.ofBits .f32 0x3F000000#32))
    (shapeCast S1x1 (multiReduction .add [0] S1 (mulf (shapeCast S512x1 (multiReduction .add [1] S512 (mulf e e) 0x00000000#32 reduces_S512x1024_S512 (.inl rfl) rfl) shapeCasts_S512_S512x1)
      (broadcast S512x1 (Scalar.ofBits .f32 0x3A800000#32))) 0x00000000#32 reduces_S512x1_S1 (.inl rfl) rfl) shapeCasts_S1_S1x1))

end Vectors

section Points
variable {F : FTy → Type} [FloatOps F]
variable (c : Dev nD) (i : grid0.Coords)
variable (arg1 : Memref sig .tc .vmem S512x1024 .f32) (harg1 : arg1.IsWhole)
variable (arg2 : Memref sig .tc .vmem S1x1024 .f32) (harg2 : arg2.IsWhole)
variable (arg3 : Memref sig .tc .vmem S2816x1024 .bf16) (harg3 : arg3.IsWhole)
variable (arg4 : Memref sig .tc .vmem S2816x1024 .bf16) (harg4 : arg4.IsWhole)
variable (arg5 : Memref sig .tc .vmem S2816x1024 .bf16) (harg5 : arg5.IsWhole)
variable (arg6 : Memref sig .tc .vmem S512x1024 .f32) (harg6 : arg6.IsWhole)
variable (arg7 : Memref sig .tc .vmem S512x1024 .f32) (harg7 : arg7.IsWhole)
variable (arg8 : Memref sig .tc .vmem S1x1 .f32) (harg8 : arg8.IsWhole)
variable (arg9 : Memref sig .tc .vmem S512x2816 .bf16) (harg9 : arg9.IsWhole)
variable (arg10 : Memref sig .tc .vmem S512x2816 .bf16) (harg10 : arg10.IsWhole)
variable (x0 : Vec F S512x1024 .f32) (x1 : Vec F S1x1024 .f32) (x2 x3 x4 : Vec F S2816x1024 .bf16) (x5 : Vec F S512x1024 .f32) (xo : Vec F S1x1 .f32)

theorem out6_A (hc0 : cond0_0 i) :
    out0_A_6 c i arg1 harg1 arg2 harg2 arg3 harg3 arg4 harg4 arg5 harg5 arg6 harg6 arg7 harg7 arg8 harg8 arg9 harg9 arg10 harg10 hc0 x0 x1 x2 x3 x4 x5 = dyv (err x0 x1 x2 x3 x4 x5) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readCov_eq_canon', View.readAt_eq_ld, harg1.read_unread, harg2.read_unread, harg3.read_unread, harg4.read_unread, harg5.read_unread, harg6.read_unread, harg8.read_unread]
  rw [View.canon_unit_zero (S := S512x1024) off0]
  rfl

theorem out7_A (hc0 : cond0_0 i) :
    out0_A_7 c i arg1 harg1 arg2 harg2 arg3 harg3 arg4 harg4 arg5 harg5 arg6 harg6 arg7 harg7 arg8 harg8 arg9 harg9 arg10 harg10 hc0 x0 x1 x2 x3 x4 x5 = lossv (err x0 x1 x2 x3 x4 x5) (broadcast S1x1 (Scalar.ofBits .f32 0x00000000#32)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readCov_eq_canon', View.readAt_eq_ld, harg1.read_unread, harg2.read_unread, harg3.read_unread, harg4.read_unread, harg5.read_unread, harg6.read_unread, harg8.read_unread]
  rw [View.canon_cons_unit_zero (S := S1x1) off0, View.canon_unit_zero (S := S1x1) off0]
  rfl

theorem out8_A (hc0 : cond0_0 i) :
    out0_A_8 c i arg1 harg1 arg2 harg2 arg3 harg3 arg4 harg4 arg5 harg5 arg6 harg6 arg7 harg7 arg8 harg8 arg9 harg9 arg10 harg10 hc0 x0 x1 x2 x3 x4 x5 = Cert.Kernel4Ideal.Gen.out0_6 x0 x1 x2 x3 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readCov_eq_canon', View.readAt_eq_ld, harg1.read_unread, harg2.read_unread, harg3.read_unread, harg4.read_unread, harg5.read_unread, harg6.read_unread, harg8.read_unread]
  rfl

theorem out9_A (hc0 : cond0_0 i) :
    out0_A_9 c i arg1 harg1 arg2 harg2 arg3 harg3 arg4 harg4 arg5 harg5 arg6 harg6 arg7 harg7 arg8 harg8 arg9 harg9 arg10 harg10 hc0 x0 x1 x2 x3 x4 x5 = Cert.Kernel4Ideal.Gen.out0_7 x0 x1 x2 x3 x4 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readCov_eq_canon', View.readAt_eq_ld, harg1.read_unread, harg2.read_unread, harg3.read_unread, harg4.read_unread, harg5.read_unread, harg6.read_unread, harg8.read_unread]
  rfl

theorem out6_B (hc0 : ¬cond0_0 i) :
    out0_B_6 c i arg1 harg1 arg2 harg2 arg3 harg3 arg4 harg4 arg5 harg5 arg6 harg6 arg7 harg7 arg8 harg8 arg9 harg9 arg10 harg10 hc0 x0 x1 x2 x3 x4 x5 xo = dyv (err x0 x1 x2 x3 x4 x5) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 xo)]
  unfold kernelRun0_B
  dsimp only
  sl_unfold_words
  simp only [View.readCov_eq_canon', View.readAt_eq_ld, harg1.read_unread, harg2.read_unread, harg3.read_unread, harg4.read_unread, harg5.read_unread, harg6.read_unread, harg8.read_unread]
  rw [View.canon_unit_zero (S := S512x1024) off0]
  rfl

theorem out7_B (hc0 : ¬cond0_0 i) :
    out0_B_7 c i arg1 harg1 arg2 harg2 arg3 harg3 arg4 harg4 arg5 harg5 arg6 harg6 arg7 harg7 arg8 harg8 arg9 harg9 arg10 harg10 hc0 x0 x1 x2 x3 x4 x5 xo = lossv (err x0 x1 x2 x3 x4 x5) xo := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 xo)]
  unfold kernelRun0_B
  dsimp only
  sl_unfold_words
  simp only [View.readCov_eq_canon', View.readAt_eq_ld, harg1.read_unread, harg2.read_unread, harg3.read_unread, harg4.read_unread, harg5.read_unread, harg6.read_unread, harg8.read_unread]
  rw [View.canon_unit_zero (S := S1x1) off0, View.ld_unit_zero (S := S1x1) off0]
  rfl

theorem out8_B (hc0 : ¬cond0_0 i) :
    out0_B_8 c i arg1 harg1 arg2 harg2 arg3 harg3 arg4 harg4 arg5 harg5 arg6 harg6 arg7 harg7 arg8 harg8 arg9 harg9 arg10 harg10 hc0 x0 x1 x2 x3 x4 x5 xo = Cert.Kernel4Ideal.Gen.out0_6 x0 x1 x2 x3 x4 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 xo)]
  unfold kernelRun0_B
  dsimp only
  sl_unfold_words
  simp only [View.readCov_eq_canon', View.readAt_eq_ld, harg1.read_unread, harg2.read_unread, harg3.read_unread, harg4.read_unread, harg5.read_unread, harg6.read_unread, harg8.read_unread]
  rfl

theorem out9_B (hc0 : ¬cond0_0 i) :
    out0_B_9 c i arg1 harg1 arg2 harg2 arg3 harg3 arg4 harg4 arg5 harg5 arg6 harg6 arg7 harg7 arg8 harg8 arg9 harg9 arg10 harg10 hc0 x0 x1 x2 x3 x4 x5 xo = Cert.Kernel4Ideal.Gen.out0_7 x0 x1 x2 x3 x4 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 xo)]
  unfold kernelRun0_B
  dsimp only
  sl_unfold_words
  simp only [View.readCov_eq_canon', View.readAt_eq_ld, harg1.read_unread, harg2.read_unread, harg3.read_unread, harg4.read_unread, harg5.read_unread, harg6.read_unread, harg8.read_unread]
  rfl

end Points

section Tile
variable (x0 : Vec Ideal S512x1024 .f32) (x1 : Vec Ideal S1x1024 .f32) (x2 x3 x4 : Vec Ideal S2816x1024 .bf16) (x5 : Vec Ideal S512x1024 .f32)

theorem err_at (r : Fin 512) (q : Fin 1024) : err x0 x1 x2 x3 x4 x5 (ix2 r q) = Cert.Kernel4Ideal.Gen.out0_5 x0 x1 x2 x3 x4 (ix2 r q) - x5 (ix2 r q) := by
  unfold err
  rw [Cert.Kernel4Ideal.Fwd.out5_chunks, View.canon_unit_zero (S := S512x1024) off0, View.ld_unit_zero (S := S512x1024) off0]
  rfl

theorem dyv_at (e : Vec Ideal S512x1024 .f32) (y) : dyv (F := Ideal) e y = e y * ((1 / 1024 : ℝ) : EReal) := by
  pointwise [dyv]
  rw [Cert.Ffn.ofBits_1024th]

theorem lossv_at (e : Vec Ideal S512x1024 .f32) (s : Vec Ideal S1x1 .f32) :
    lossv (F := Ideal) e s (ix2 0 0) = s (ix2 0 0) + Ideal.ofBits .f32 0x3F000000#32 * ∑ r : Fin 512, (∑ q : Fin 1024, e (ix2 r q) * e (ix2 r q)) * ((1 / 1024 : ℝ) : EReal) := by
  pointwise [lossv]
  rw [Cert.Ffn.ofBits_1024th]

end Tile

end Cert.Kernel6Ideal.Loss
end
-- ==== Proof.LossEq.lean ====
/- The second layer's feed-forward step with the loss: its four result arrays, and the reference's, entry by entry. -/
module

public import proofs.«01_k».proof.Proof.LossTile
public import proofs.«01_k».proof.Proof.FwdEq
public import proofs.«01_k».proof.Proof.Gen.Reference6Ideal.Run

@[expose] public section

set_option maxRecDepth 16384

noncomputable section

namespace Cert.Reference6Ideal.Loss

open Idealize.ShloMosaic Cert.Reference6Ideal Cert.Reference6Ideal.Gen
open scoped BigOperators

variable (e : Vec Ideal S8192x1024 .f32)

def rDy : Vec Ideal S8192x1024 .f32 :=
  mulf (F := Ideal) (φ := .f32) (broadcastInDim S8192x1024 ![0] bcast_S8192_S8192x1024_0 (Host.divf (F := Ideal) (φ := .f32) (broadcastInDim S8192 ![] bcast_S_S8192 (mulf (F := Ideal) (φ := .f32) (constant (F := Ideal) S_ .f32 0x3F000000#32) (constant (F := Ideal) S_ .f32 0x3F800000#32))) (broadcastInDim S8192 ![] bcast_S_S8192 (constant (F := Ideal) S_ .f32 0x44800000#32))))
    (mulf (F := Ideal) (φ := .f32) (broadcastInDim S8192x1024 ![] bcast_S_S8192x1024 (constant (F := Ideal) S_ .f32 0x40000000#32)) e)

def rRow : Vec Ideal S8192 .f32 :=
  Host.divf (F := Ideal) (φ := .f32) (Host.reduceAdd (F := Ideal) (φ := .f32) (mulf (F := Ideal) (φ := .f32) e e) (constant (F := Ideal) S_ .f32 0x00000000#32) reducesTo_S8192x1024_S8192_d1 h_S_) (broadcastInDim S8192 ![] bcast_S_S8192 (constant (F := Ideal) S_ .f32 0x44800000#32))

def rPart (p : Vec Ideal S8192 .f32) : Vec Ideal S1x1 .f32 :=
  shapeCast S1x1 (mulf (F := Ideal) (φ := .f32) (constant (F := Ideal) S_ .f32 0x3F000000#32) (Host.reduceAdd (F := Ideal) (φ := .f32) p (constant (F := Ideal) S_ .f32 0x00000000#32) reducesTo_S8192_S_d0 h_S_)) shapeCasts_S_S1x1

theorem half : Ideal.ofBits .f32 0x3F000000#32 = ((1 / 2 : ℝ) : EReal) := by
  simp [Ideal.ofBits, Ideal.ieee]
  rw [← EReal.coe_mul]
  norm_num

theorem one : Ideal.ofBits .f32 0x3F800000#32 = ((1 : ℝ) : EReal) := by
  simp [Ideal.ofBits, Ideal.ieee]
  rw [← EReal.coe_mul]
  norm_num

theorem two : Ideal.ofBits .f32 0x40000000#32 = ((2 : ℝ) : EReal) := by
  simp [Ideal.ofBits, Ideal.ieee]
  rw [← EReal.coe_mul]
  norm_num

theorem rDy_at (i : Fin 8192) (q : Fin 1024) : rDy e (ix2 i q) = e (ix2 i q) * ((1 / 1024 : ℝ) : EReal) := by
  have h : rDy e (ix2 i q) = Ideal.div (Ideal.ofBits .f32 0x3F000000#32 * Ideal.ofBits .f32 0x3F800000#32) (Ideal.ofBits .f32 0x44800000#32) * (Ideal.ofBits .f32 0x40000000#32 * e (ix2 i q)) := by
    pointwise [rDy]
  rw [h, Cert.Ffn.div_1024, half, two, one, ← mul_assoc, ← EReal.coe_mul, ← EReal.coe_mul, ← EReal.coe_mul, mul_comm]
  norm_num

theorem rRow_at (i : Fin 8192) : rRow e (ix1 i) = (∑ q : Fin 1024, e (ix2 i q) * e (ix2 i q)) * ((1 / 1024 : ℝ) : EReal) := by
  pointwise [rRow]
  rw [Cert.Ffn.div_1024]

theorem rPart_at (p : Vec Ideal S8192 .f32) : rPart p (ix2 0 0) = Ideal.ofBits .f32 0x3F000000#32 * ∑ i : Fin 8192, p (ix1 i) := by
  pointwise [rPart]

/-- A half times a sum is the sum of the halves. -/
theorem half_sum {ι : Type} [DecidableEq ι] (s : Finset ι) (f : ι → EReal) : Ideal.ofBits .f32 0x3F000000#32 * ∑ j ∈ s, f j = ∑ j ∈ s, Ideal.ofBits .f32 0x3F000000#32 * f j := by
  induction s using Finset.induction_on with
  | empty => rw [Finset.sum_empty, Finset.sum_empty, mul_zero]
  | insert a s ha ih =>
    rw [Finset.sum_insert ha, Finset.sum_insert ha, ← ih, half]
    exact EReal.left_distrib_of_nonneg_of_ne_top (EReal.coe_nonneg.mpr (by norm_num)) (EReal.coe_ne_top _) _ _

end Cert.Reference6Ideal.Loss

namespace Cert.Kernel6Ideal.Loss

open Idealize.ShloMosaic Idealize.ShloMosaic.TcCoe
open Cert.Kernel6Ideal Cert.Kernel6Ideal.Gen
open Cert.Kernel4Ideal.Fwd (X Γ W term)
open Cert.Reference4Ideal.Fwd (rH rL rA rY)
open Cert.Reference6Ideal.Loss (rDy rRow rPart)
open scoped BigOperators

variable (m : (ℓ : Loc nD τ sig) → Buf (Elt Ideal) ℓ) (c : Dev nD)

abbrev A0 : Vec Ideal S8192x1024 .f32 := m ((c : Thread nD τ).loc main_arg0)
abbrev A1 : Vec Ideal S1x1024 .f32 := m ((c : Thread nD τ).loc main_arg1)
abbrev A2 : Vec Ideal S2816x1024 .f32 := m ((c : Thread nD τ).loc main_arg2)
abbrev A3 : Vec Ideal S2816x1024 .f32 := m ((c : Thread nD τ).loc main_arg3)
abbrev A4 : Vec Ideal S2816x1024 .f32 := m ((c : Thread nD τ).loc main_arg4)
abbrev A5 : Vec Ideal S8192x1024 .f32 := m ((c : Thread nD τ).loc main_arg5)

theorem v0_at (i) : (V m c main_v0 : Vec Ideal S2816x1024 .bf16) i = A2 m c i := by
  have e : (V m c main_v0 : Vec Ideal S2816x1024 .bf16) = (truncf (F := Ideal) (φ := .f32) .bf16 (A2 m c) bitsLt_bf16_f32 : Vec Ideal S2816x1024 .bf16) := by
    dsimp only [V, hostOps0]
    after_results
  rw [e]
  rfl

theorem v1_at (i) : (V m c main_v1 : Vec Ideal S2816x1024 .bf16) i = A3 m c i := by
  have e : (V m c main_v1 : Vec Ideal S2816x1024 .bf16) = (truncf (F := Ideal) (φ := .f32) .bf16 (A3 m c) bitsLt_bf16_f32 : Vec Ideal S2816x1024 .bf16) := by
    dsimp only [V, hostOps0]
    after_results
  rw [e]
  rfl

theorem v2_at (i) : (V m c main_v2 : Vec Ideal S2816x1024 .bf16) i = A4 m c i := by
  have e : (V m c main_v2 : Vec Ideal S2816x1024 .bf16) = (truncf (F := Ideal) (φ := .f32) .bf16 (A4 m c) bitsLt_bf16_f32 : Vec Ideal S2816x1024 .bf16) := by
    dsimp only [V, hostOps0]
    after_results
  rw [e]
  rfl

def row (t : Fin cfg0.N) (r : Fin 512) : Fin 8192 := ⟨512 * t.val + r.val, by have h := lt_of_lt_of_eq t.isLt (show cfg0.N = 16 from N_0); have := r.isLt; omega⟩

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)

theorem blk0 (t : Fin cfg0.N) (r : Fin 512) (k : Fin 1024) : (iblk m c 0 t : Vec Ideal S512x1024 .f32) (ix2 r k) = A0 m c (ix2 (row t r) k) := by
  rw [← show V m c main_arg0 = A0 m c from V_main_arg0 m c]
  unfold iblk
  rw [View.read_apply]
  refine congrArg (V m c main_arg0 : Vec Ideal S8192x1024 .f32) (funext fun a => Fin.ext ?_)
  have e0 : win0_0.index t 0 = t.val := congrFun (index0 t) 0
  have e1 : win0_0.index t 1 = 0 := congrFun (index0 t) 1
  match a with
  | ⟨0, _⟩ => show win0_0.index t 0 * 512 + 1 * r.val = 512 * t.val + r.val; rw [e0]; omega
  | ⟨1, _⟩ => show win0_0.index t 1 * 1024 + 1 * k.val = k.val; rw [e1]; omega

theorem blk5 (t : Fin cfg0.N) (r : Fin 512) (k : Fin 1024) : (iblk m c 5 t : Vec Ideal S512x1024 .f32) (ix2 r k) = A5 m c (ix2 (row t r) k) := by
  rw [← show V m c main_arg5 = A5 m c from V_main_arg5 m c]
  unfold iblk
  rw [View.read_apply]
  refine congrArg (V m c main_arg5 : Vec Ideal S8192x1024 .f32) (funext fun a => Fin.ext ?_)
  have e0 : win0_5.index t 0 = t.val := congrFun (index5 t) 0
  have e1 : win0_5.index t 1 = 0 := congrFun (index5 t) 1
  match a with
  | ⟨0, _⟩ => show win0_5.index t 0 * 512 + 1 * r.val = 512 * t.val + r.val; rw [e0]; omega
  | ⟨1, _⟩ => show win0_5.index t 1 * 1024 + 1 * k.val = k.val; rw [e1]; omega

theorem blk1 (t : Fin cfg0.N) (k : Fin 1024) : (iblk m c 1 t : Vec Ideal S1x1024 .f32) (ix2 0 k) = A1 m c (ix2 0 k) := by
  rw [← show V m c main_arg1 = A1 m c from V_main_arg1 m c]
  unfold iblk
  rw [View.read_apply]
  refine congrArg (V m c main_arg1 : Vec Ideal S1x1024 .f32) (funext fun a => Fin.ext ?_)
  have e0 : win0_1.index t 0 = 0 := congrFun (index1 t) 0
  have e1 : win0_1.index t 1 = 0 := congrFun (index1 t) 1
  match a with
  | ⟨0, _⟩ => show win0_1.index t 0 * 1 + 1 * 0 = 0; rw [e0]
  | ⟨1, _⟩ => show win0_1.index t 1 * 1024 + 1 * k.val = k.val; rw [e1]; omega

theorem blk2 (t : Fin cfg0.N) (n : Fin 2816) (k : Fin 1024) : (iblk m c 2 t : Vec Ideal S2816x1024 .bf16) (ix2 n k) = A2 m c (ix2 n k) := by
  rw [← v0_at m c]
  unfold iblk
  rw [View.read_apply]
  refine congrArg (V m c main_v0 : Vec Ideal S2816x1024 .bf16) (funext fun a => Fin.ext ?_)
  have e0 : win0_2.index t 0 = 0 := congrFun (index2 t) 0
  have e1 : win0_2.index t 1 = 0 := congrFun (index2 t) 1
  match a with
  | ⟨0, _⟩ => show win0_2.index t 0 * 2816 + 1 * n.val = n.val; rw [e0]; omega
  | ⟨1, _⟩ => show win0_2.index t 1 * 1024 + 1 * k.val = k.val; rw [e1]; omega

theorem blk3 (t : Fin cfg0.N) (n : Fin 2816) (k : Fin 1024) : (iblk m c 3 t : Vec Ideal S2816x1024 .bf16) (ix2 n k) = A3 m c (ix2 n k) := by
  rw [← v1_at m c]
  unfold iblk
  rw [View.read_apply]
  refine congrArg (V m c main_v1 : Vec Ideal S2816x1024 .bf16) (funext fun a => Fin.ext ?_)
  have e0 : win0_3.index t 0 = 0 := congrFun (index3 t) 0
  have e1 : win0_3.index t 1 = 0 := congrFun (index3 t) 1
  match a with
  | ⟨0, _⟩ => show win0_3.index t 0 * 2816 + 1 * n.val = n.val; rw [e0]; omega
  | ⟨1, _⟩ => show win0_3.index t 1 * 1024 + 1 * k.val = k.val; rw [e1]; omega

theorem blk4 (t : Fin cfg0.N) (n : Fin 2816) (k : Fin 1024) : (iblk m c 4 t : Vec Ideal S2816x1024 .bf16) (ix2 n k) = A4 m c (ix2 n k) := by
  rw [← v2_at m c]
  unfold iblk
  rw [View.read_apply]
  refine congrArg (V m c main_v2 : Vec Ideal S2816x1024 .bf16) (funext fun a => Fin.ext ?_)
  have e0 : win0_4.index t 0 = 0 := congrFun (index4 t) 0
  have e1 : win0_4.index t 1 = 0 := congrFun (index4 t) 1
  match a with
  | ⟨0, _⟩ => show win0_4.index t 0 * 2816 + 1 * n.val = n.val; rw [e0]; omega
  | ⟨1, _⟩ => show win0_4.index t 1 * 1024 + 1 * k.val = k.val; rw [e1]; omega

theorem X_eq (t : Fin cfg0.N) (r : Fin 512) : X (iblk m c 0 t) r = fun k => A0 m c (ix2 (row t r) k) := funext fun k => blk0 m c t r k
theorem Γ_eq (t : Fin cfg0.N) : Γ (iblk m c 1 t) = fun k => A1 m c (ix2 0 k) := funext fun k => blk1 m c t k
theorem W2_eq (t : Fin cfg0.N) : W (iblk m c 2 t) = fun n k => A2 m c (ix2 n k) := funext fun n => funext fun k => blk2 m c t n k
theorem W3_eq (t : Fin cfg0.N) : W (iblk m c 3 t) = fun n k => A3 m c (ix2 n k) := funext fun n => funext fun k => blk3 m c t n k
theorem W4_eq (t : Fin cfg0.N) : W (iblk m c 4 t) = fun n k => A4 m c (ix2 n k) := funext fun n => funext fun k => blk4 m c t n k

def rG : Vec Ideal S8192x2816 .f32 := rL (A2 m c) (rH (A0 m c) (A1 m c))
def rU : Vec Ideal S8192x2816 .f32 := rL (A3 m c) (rH (A0 m c) (A1 m c))

/-- The whole step's output less the target. -/
def rE : Vec Ideal S8192x1024 .f32 := subf (F := Ideal) (φ := .f32) (rY (A0 m c) (A4 m c) (rA (rG m c) (rU m c))) (A5 m c)

def tErr (t : Fin cfg0.N) : Vec Ideal S512x1024 .f32 := err (iblk m c 0 t) (iblk m c 1 t) (iblk m c 2 t) (iblk m c 3 t) (iblk m c 4 t) (iblk m c 5 t)

theorem tErr_at (t : Fin cfg0.N) (r : Fin 512) (q : Fin 1024) : tErr m c t (ix2 r q) = rE m c (ix2 (row t r) q) := by
  unfold tErr
  rw [err_at, Cert.Kernel4Ideal.Fwd.out5_at]
  have e : rE m c (ix2 (row t r) q) = rY (A0 m c) (A4 m c) (rA (rG m c) (rU m c)) (ix2 (row t r) q) - A5 m c (ix2 (row t r) q) := rfl
  rw [e, blk5]
  unfold rG rU
  rw [Cert.Reference4Ideal.Fwd.out_at]
  unfold term
  rw [X_eq, Γ_eq, W2_eq, W3_eq, W4_eq]

theorem tile8 (t : Fin cfg0.N) (r : Fin 512) (n : Fin 2816) : Cert.Kernel4Ideal.Gen.out0_6 (iblk m c 0 t) (iblk m c 1 t) (iblk m c 2 t) (iblk m c 3 t) (iblk m c 4 t) (ix2 r n)
    = rG m c (ix2 (row t r) n) := by
  unfold rG
  rw [Cert.Kernel4Ideal.Fwd.out6_at, Cert.Reference4Ideal.Fwd.lin_at, X_eq, Γ_eq, W2_eq]

theorem tile9 (t : Fin cfg0.N) (r : Fin 512) (n : Fin 2816) : Cert.Kernel4Ideal.Gen.out0_7 (iblk m c 0 t) (iblk m c 1 t) (iblk m c 2 t) (iblk m c 3 t) (iblk m c 4 t) (ix2 r n)
    = rU m c (ix2 (row t r) n) := by
  unfold rU
  rw [Cert.Kernel4Ideal.Fwd.out7_at, Cert.Reference4Ideal.Fwd.lin_at, X_eq, Γ_eq, W3_eq]

theorem at6 (t : Fin cfg0.N) : (outsAt0 m c t.val t.isLt).1 = dyv (F := Ideal) (tErr m c t) := by
  by_cases h : t.val % 16 = 0
  · rw [outsAt0_A m c t h]
    dsimp only
    rw [out6_A]
    rfl
  · rw [outsAt0_B m c t h]
    dsimp only
    rw [out6_B]
    rfl

theorem at8 (t : Fin cfg0.N) : (outsAt0 m c t.val t.isLt).2.2.1 = Cert.Kernel4Ideal.Gen.out0_6 (iblk m c 0 t) (iblk m c 1 t) (iblk m c 2 t) (iblk m c 3 t) (iblk m c 4 t) := by
  by_cases h : t.val % 16 = 0
  · rw [outsAt0_A m c t h]
    dsimp only
    rw [out8_A]
  · rw [outsAt0_B m c t h]
    dsimp only
    rw [out8_B]

theorem at9 (t : Fin cfg0.N) : (outsAt0 m c t.val t.isLt).2.2.2 = Cert.Kernel4Ideal.Gen.out0_7 (iblk m c 0 t) (iblk m c 1 t) (iblk m c 2 t) (iblk m c 3 t) (iblk m c 4 t) := by
  by_cases h : t.val % 16 = 0
  · rw [outsAt0_A m c t h]
    dsimp only
    rw [out9_A]
  · rw [outsAt0_B m c t h]
    dsimp only
    rw [out9_B]

/-- Tile `j`'s part of the loss. -/
def part (j : ℕ) : EReal :=
  if h : j < 16 then Ideal.ofBits .f32 0x3F000000#32 * ∑ r : Fin 512, rRow (rE m c) (ix1 (⟨512 * j + r.val, by have := r.isLt; omega⟩ : Fin 8192)) else 0

theorem part_eq (t : Fin cfg0.N) : Ideal.ofBits .f32 0x3F000000#32 * ∑ r : Fin 512, (∑ q : Fin 1024, tErr m c t (ix2 r q) * tErr m c t (ix2 r q)) * ((1 / 1024 : ℝ) : EReal) = part m c t.val := by
  have h := lt_of_lt_of_eq t.isLt (show cfg0.N = 16 from N_0)
  unfold part
  rw [dif_pos h]
  refine congrArg (_ * ·) (Finset.sum_congr rfl fun r _ => ?_)
  rw [Cert.Reference6Ideal.Loss.rRow_at]
  refine congrArg (· * _) (Finset.sum_congr rfl fun q _ => ?_)
  rw [tErr_at]
  rfl

theorem zero_at : (broadcast S1x1 (Scalar.ofBits (F := Ideal) .f32 0x00000000#32) : Vec Ideal S1x1 .f32) (ix2 0 0) = 0 := by
  pointwise []

/-- The loss after the tiles up to `n`. -/
theorem acc_at : ∀ (n : ℕ) (h : n < cfg0.N), (outsAt0 m c n h).2.1 (ix2 0 0) = ∑ j ∈ Finset.range (n + 1), part m c j := by
  intro n
  induction n with
  | zero =>
    intro h
    rw [outsAt0_A m c ⟨0, h⟩ rfl]
    dsimp only
    rw [out7_A, lossv_at, zero_at, zero_add]
    exact (part_eq m c ⟨0, h⟩).trans (Finset.sum_range_one _).symm
  | succ n ih =>
    intro h
    have hN : cfg0.N = 16 := N_0
    rw [outsAt0_B m c ⟨n + 1, h⟩ (show ¬(n + 1) % 16 = 0 by omega)]
    dsimp only
    rw [out7_B, lossv_at]
    show (outsAt0 m c n _).2.1 (ix2 0 0) + _ = _
    rw [ih (Nat.lt_of_succ_lt h), Finset.sum_range_succ _ (n + 1)]
    exact congrArg (_ + ·) (part_eq m c ⟨n + 1, h⟩)

/-- The tiles' rows are all the rows. -/
theorem rows_sum (f : Fin 8192 → EReal) : ∑ j : Fin 16, ∑ r : Fin 512, f ⟨512 * j.val + r.val, by have := j.isLt; have := r.isLt; omega⟩ = ∑ i, f i := by
  rw [← Fintype.sum_prod_type' (f := fun (j : Fin 16) (r : Fin 512) => f ⟨512 * j.val + r.val, by have := j.isLt; have := r.isLt; omega⟩)]
  refine Fintype.sum_bijective (fun y : Fin 16 × Fin 512 => (⟨512 * y.1.val + y.2.val, by have := y.1.isLt; have := y.2.isLt; omega⟩ : Fin 8192)) ⟨?_, ?_⟩ _ _ fun _ => rfl
  · rintro ⟨a, x⟩ ⟨b, y⟩ h
    have h' : 512 * a.val + x.val = 512 * b.val + y.val := congrArg Fin.val h
    have hx := x.isLt
    have hy := y.isLt
    clear h
    exact Prod.ext (Fin.ext (show a.val = b.val by omega)) (Fin.ext (show x.val = y.val by omega))
  · intro k
    have := k.isLt
    exact ⟨(⟨k.val / 512, by omega⟩, ⟨k.val % 512, by omega⟩), Fin.ext (show 512 * (k.val / 512) + k.val % 512 = k.val by omega)⟩

theorem parts : ∑ j ∈ Finset.range 16, part m c j = rPart (rRow (rE m c)) (ix2 0 0) := by
  rw [Finset.sum_range]
  have e : ∀ j : Fin 16, part m c j.val = Ideal.ofBits .f32 0x3F000000#32 * ∑ r : Fin 512, rRow (rE m c) (ix1 (⟨512 * j.val + r.val, by have := j.isLt; have := r.isLt; omega⟩ : Fin 8192)) := fun j => dif_pos j.isLt
  rw [Finset.sum_congr rfl fun j _ => e j, ← Cert.Reference6Ideal.Loss.half_sum, Cert.Reference6Ideal.Loss.rPart_at]
  exact congrArg (_ * ·) (rows_sum fun i => rRow (rE m c) (ix1 i))

theorem tile6 (t : Fin cfg0.N) (r : Fin 512) (q : Fin 1024) : dyv (F := Ideal) (tErr m c t) (ix2 r q) = rDy (rE m c) (ix2 (row t r) q) := by
  rw [dyv_at, tErr_at, Cert.Reference6Ideal.Loss.rDy_at]

theorem covers6 : (cfg0.win 6).Covers := by decide +kernel

theorem arr6 : (dats m 0 c).arrAt 6 cfg0.N = (rDy (rE m c) : Vec Ideal S8192x1024 .f32) := by
  refine (dats m 0 c).arrAt_eq_of_covers 6 _ covers6 fun t hf y => ?_
  have hy : y = ix2 (y (0 : Fin 2)) (y (1 : Fin 2)) := funext fun b => match b with | ⟨0, _⟩ => rfl | ⟨1, _⟩ => rfl
  have he : ((cfg0.win 6).blk t).view.emb y = (ix2 (row t (y (0 : Fin 2))) (y (1 : Fin 2)) : S8192x1024.Idx) := by
    funext a
    refine Fin.ext ?_
    have e0 : win0_6.index t 0 = t.val := congrFun (index6 t) 0
    have e1 : win0_6.index t 1 = 0 := congrFun (index6 t) 1
    match a with
    | ⟨0, _⟩ => show win0_6.index t 0 * 512 + 1 * (y (0 : Fin 2)).val = 512 * t.val + (y (0 : Fin 2)).val; rw [e0]; omega
    | ⟨1, _⟩ => show win0_6.index t 1 * 1024 + 1 * (y (1 : Fin 2)).val = (y (1 : Fin 2)).val; rw [e1]; omega
  refine Eq.trans ?_ ((tile6 m c t (y (0 : Fin 2)) (y (1 : Fin 2))).trans (congrArg (rDy (rE m c) : S8192x1024.Idx → EReal) he.symm))
  exact ((congrFun (after0_6 m c t) y).trans (congrFun (at6 m c t) y)).trans (congrArg _ hy)

theorem covers8 : (cfg0.win 8).Covers := by decide +kernel

theorem arr8 : (dats m 0 c).arrAt 8 cfg0.N = (rG m c : Vec Ideal S8192x2816 .f32) := by
  refine (dats m 0 c).arrAt_eq_of_covers 8 _ covers8 fun t hf y => ?_
  have hy : y = ix2 (y (0 : Fin 2)) (y (1 : Fin 2)) := funext fun b => match b with | ⟨0, _⟩ => rfl | ⟨1, _⟩ => rfl
  have he : ((cfg0.win 8).blk t).view.emb y = (ix2 (row t (y (0 : Fin 2))) (y (1 : Fin 2)) : S8192x2816.Idx) := by
    funext a
    refine Fin.ext ?_
    have e0 : win0_8.index t 0 = t.val := congrFun (index8 t) 0
    have e1 : win0_8.index t 1 = 0 := congrFun (index8 t) 1
    match a with
    | ⟨0, _⟩ => show win0_8.index t 0 * 512 + 1 * (y (0 : Fin 2)).val = 512 * t.val + (y (0 : Fin 2)).val; rw [e0]; omega
    | ⟨1, _⟩ => show win0_8.index t 1 * 2816 + 1 * (y (1 : Fin 2)).val = (y (1 : Fin 2)).val; rw [e1]; omega
  refine Eq.trans ?_ ((tile8 m c t (y (0 : Fin 2)) (y (1 : Fin 2))).trans (congrArg (rG m c : S8192x2816.Idx → EReal) he.symm))
  exact ((congrFun (after0_8 m c t) y).trans (congrFun (at8 m c t) y)).trans (congrArg _ hy)

theorem covers9 : (cfg0.win 9).Covers := by decide +kernel

theorem arr9 : (dats m 0 c).arrAt 9 cfg0.N = (rU m c : Vec Ideal S8192x2816 .f32) := by
  refine (dats m 0 c).arrAt_eq_of_covers 9 _ covers9 fun t hf y => ?_
  have hy : y = ix2 (y (0 : Fin 2)) (y (1 : Fin 2)) := funext fun b => match b with | ⟨0, _⟩ => rfl | ⟨1, _⟩ => rfl
  have he : ((cfg0.win 9).blk t).view.emb y = (ix2 (row t (y (0 : Fin 2))) (y (1 : Fin 2)) : S8192x2816.Idx) := by
    funext a
    refine Fin.ext ?_
    have e0 : win0_9.index t 0 = t.val := congrFun (index9 t) 0
    have e1 : win0_9.index t 1 = 0 := congrFun (index9 t) 1
    match a with
    | ⟨0, _⟩ => show win0_9.index t 0 * 512 + 1 * (y (0 : Fin 2)).val = 512 * t.val + (y (0 : Fin 2)).val; rw [e0]; omega
    | ⟨1, _⟩ => show win0_9.index t 1 * 2816 + 1 * (y (1 : Fin 2)).val = (y (1 : Fin 2)).val; rw [e1]; omega
  refine Eq.trans ?_ ((tile9 m c t (y (0 : Fin 2)) (y (1 : Fin 2))).trans (congrArg (rU m c : S8192x2816.Idx → EReal) he.symm))
  exact ((congrFun (after0_9 m c t) y).trans (congrFun (at9 m c t) y)).trans (congrArg _ hy)

theorem covers7 : (cfg0.win 7).Covers := by decide +kernel
theorem last7 : ∀ t : Fin cfg0.N, (cfg0.win 7).flush t = true → t.val = 15 := (by decide +kernel : ∀ t : Fin grid0.N, _)

theorem arr7 : (dats m 0 c).arrAt 7 cfg0.N = (rPart (rRow (rE m c)) : Vec Ideal S1x1 .f32) := by
  refine (dats m 0 c).arrAt_eq_of_covers 7 _ covers7 fun t hf y => ?_
  have hy : y = ix2 (0 : Fin 1) (0 : Fin 1) := funext fun b => match b with | ⟨0, _⟩ => Subsingleton.elim (α := Fin 1) _ _ | ⟨1, _⟩ => Subsingleton.elim (α := Fin 1) _ _
  have he : ((cfg0.win 7).blk t).view.emb y = (ix2 (0 : Fin 1) (0 : Fin 1) : S1x1.Idx) := by
    funext a
    match a with
    | ⟨0, _⟩ => exact Subsingleton.elim (α := Fin 1) _ _
    | ⟨1, _⟩ => exact Subsingleton.elim (α := Fin 1) _ _
  have hs : (outsAt0 m c t.val t.isLt).2.1 (ix2 0 0) = rPart (rRow (rE m c)) (ix2 0 0) := by
    refine (acc_at m c t.val t.isLt).trans ?_
    rw [last7 t hf]
    exact parts m c
  refine Eq.trans ?_ (hs.trans (congrArg (rPart (rRow (rE m c)) : S1x1.Idx → EReal) he.symm))
  exact (congrFun (after0_7 m c t) y).trans (congrArg (outsAt0 m c t.val t.isLt).2.1 hy)

end Cert.Kernel6Ideal.Loss
end
-- ==== Proof.Tn.lean ====
/- Sums over 8192 rows, taken in four blocks of 2048 rows one after another: the part shared by the weight gradients. -/
module

public import Idealize.ShloMosaic.Lib.IdealHost
public import Idealize.ShloMosaic.Lib.Pointwise

@[expose] public section

noncomputable section

namespace Cert.Tn

open scoped BigOperators

theorem off0 : (![0, 0] : Fin 2 → ℕ) = fun _ => 0 := by
  funext a
  match a with
  | ⟨0, _⟩ => rfl
  | ⟨1, _⟩ => rfl

/-- Row `x` of block `r`. -/
def row (r : Fin 4) (x : Fin 2048) : Fin 8192 := ⟨2048 * r.val + x.val, by have := r.isLt; have := x.isLt; omega⟩

/-- Block `r`'s part of the sum of `f`. -/
def part (f : Fin 8192 → EReal) (r : ℕ) : EReal := if h : r < 4 then ∑ x : Fin 2048, f (row ⟨r, h⟩ x) else 0

/-- The four blocks of rows are all the rows. -/
theorem parts (f : Fin 8192 → EReal) : ∑ r ∈ Finset.range 4, part f r = ∑ k, f k := by
  unfold part
  rw [Finset.sum_range]
  have e : ∀ r : Fin 4, (if h : r.val < 4 then ∑ x : Fin 2048, f (row ⟨r.val, h⟩ x) else 0) = ∑ x : Fin 2048, f (row r x) := fun r => dif_pos r.isLt
  rw [Finset.sum_congr rfl fun r _ => e r, ← Fintype.sum_prod_type' (f := fun r x => f (row r x))]
  refine Fintype.sum_bijective (fun y : Fin 4 × Fin 2048 => row y.1 y.2) ⟨?_, ?_⟩ _ _ fun _ => rfl
  · rintro ⟨a, x⟩ ⟨b, y⟩ h
    have h' : 2048 * a.val + x.val = 2048 * b.val + y.val := congrArg Fin.val h
    have hx := x.isLt
    have hy := y.isLt
    clear h
    exact Prod.ext (Fin.ext (show a.val = b.val by omega)) (Fin.ext (show x.val = y.val by omega))
  · intro k
    have := k.isLt
    exact ⟨(⟨k.val / 2048, by omega⟩, ⟨k.val % 2048, by omega⟩), Fin.ext (show 2048 * (k.val / 2048) + k.val % 2048 = k.val by omega)⟩

/-- A sum kept over the points of a block of columns, four points to a block: after a point that is not the block's last,
    it holds the parts up to that point's. -/
theorem kept {N : ℕ} (S : (n : ℕ) → n < N → EReal) (P : ℕ → ℕ → EReal)
    (first : ∀ n h, n % 4 = 0 → S n h = P (n / 4) 0)
    (next : ∀ n h, (n + 1) % 4 ≠ 0 → (n + 1) % 4 ≠ 3 → S (n + 1) h = S n (Nat.lt_of_succ_lt h) + P ((n + 1) / 4) ((n + 1) % 4)) :
    ∀ n h, n % 4 ≠ 3 → S n h = ∑ r ∈ Finset.range (n % 4 + 1), P (n / 4) r := by
  intro n
  induction n with
  | zero =>
    intro h _
    exact (first 0 h rfl).trans (Finset.sum_range_one _).symm
  | succ n ih =>
    intro h hn
    by_cases h0 : (n + 1) % 4 = 0
    · rw [first _ h h0, h0]
      exact (Finset.sum_range_one _).symm
    · have e : (n + 1) % 4 = n % 4 + 1 := by omega
      have hg : (n + 1) / 4 = n / 4 := by omega
      rw [next n h h0 hn, ih (Nat.lt_of_succ_lt h) (by omega), hg, e, Finset.sum_range_succ _ (n % 4 + 1)]

/-- The block's last point adds the fourth part. -/
theorem last {N : ℕ} (S : (n : ℕ) → n < N → EReal) (P : ℕ → ℕ → EReal)
    (hk : ∀ n h, n % 4 ≠ 3 → S n h = ∑ r ∈ Finset.range (n % 4 + 1), P (n / 4) r) (n : ℕ) (h : n < N) (h3 : n % 4 = 3) :
    S (n - 1) (Nat.lt_of_le_of_lt (Nat.sub_le _ _) h) + P (n / 4) 3 = ∑ r ∈ Finset.range 4, P (n / 4) r := by
  have e : (n - 1) % 4 + 1 = 3 := by omega
  have hg : (n - 1) / 4 = n / 4 := by omega
  rw [hk (n - 1) _ (by omega), e, hg, Finset.sum_range_succ _ 3]

end Cert.Tn
end
-- ==== Proof.MatOut.lean ====
/- The gradient of the output projection: the product of two arrays over their 8192 rows. -/
module

public import proofs.«01_k».proof.Proof.Tn
public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

namespace Cert.Reference7Ideal.Tn

open Idealize.ShloMosaic Cert.Reference7Ideal Cert.Reference7Ideal.Gen
open scoped BigOperators

def prod (a : Vec Ideal S8192x1024 .f32) (b : Vec Ideal S8192x1024 .f32) : Vec Ideal S1024x1024 .bf16 :=
  truncf (F := Ideal) (φ := .f32) .bf16 (Host.dotGeneral (F := Ideal) (φ₁ := .f32) (φ₂ := .f32) dot_S1024x8192_S8192x1024_S1024x1024_1_0_0_1_n_n none (transpose S1024x8192 [1, 0] a transposes_S8192x1024_S1024x8192_1_0) b) bitsLt_bf16_f32

theorem prod_at (a : Vec Ideal S8192x1024 .f32) (b : Vec Ideal S8192x1024 .f32) (i : Fin 1024) (j : Fin 1024) :
    prod a b (ix2 i j) = ∑ k : Fin 8192, a (ix2 k i) * b (ix2 k j) := by
  pointwise [prod]

end Cert.Reference7Ideal.Tn

namespace Cert.Kernel7Ideal.Tn

open Idealize.ShloMosaic Idealize.ShloMosaic.TcCoe
open Cert.Kernel7Ideal Cert.Kernel7Ideal.Gen
open Cert.Tn (off0 row part)
open scoped BigOperators

section Points
variable {F : FTy → Type} [FloatOps F]
variable (c : Dev nD) (i : grid0.Coords) (arg3 : Memref sig .tc .vmem S2048x1024 .bf16) (harg3 : arg3.IsWhole) (arg4 : Memref sig .tc .vmem S2048x1024 .f32) (harg4 : arg4.IsWhole)
  (arg5 : Memref sig .tc .vmem S1024x1024 .bf16) (harg5 : arg5.IsWhole) (arg6 : Memref sig .tc .vmem S1024x1024 .f32) (harg6 : arg6.IsWhole)
variable (x0 : Vec F S2048x1024 .bf16) (x1 : Vec F S2048x1024 .f32) (xs : Vec F S1024x1024 .f32)

theorem first_sum (hc0 : cond0_0 i) (hc1 : ¬cond0_1 i) : sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) off0, View.readCov_unit_zero (S := S1024x1024) _ off0]
  simp only [View.readAt_eq_ld, harg3.read_unread, harg4.read_unread, View.ld_unit_zero (S := S2048x1024) off0]

theorem next_sum (hc0 : ¬cond0_0 i) (hc1 : ¬cond0_1 i) : sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  rw [View.canon_unit_zero (S := S1024x1024) off0]
  simp only [View.readAt_eq_ld, harg3.read_unread, harg4.read_unread, harg6.read_unread, View.ld_unit_zero (S := S2048x1024) off0, View.ld_unit_zero (S := S1024x1024) off0]

theorem last_out (hc0 : ¬cond0_0 i) (hc1 : cond0_1 i) : out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero (S := S1024x1024) off0, View.readCov_unit_zero (S := S1024x1024) _ off0]
  simp only [View.readAt_eq_ld, harg3.read_unread, harg4.read_unread, harg6.read_unread, View.ld_unit_zero (S := S2048x1024) off0, View.ld_unit_zero (S := S1024x1024) off0]

end Points

theorem pay_at (s : Vec Ideal S1024x1024 .f32) (a : Vec Ideal S2048x1024 .bf16) (b : Vec Ideal S2048x1024 .f32) (p : Fin 1024) (q : Fin 1024) :
    k0_pay2 s a b (ix2 p q) = s (ix2 p q) + ∑ x : Fin 2048, a (ix2 x p) * b (ix2 x q) := by
  pointwise [k0_pay2]

theorem zero_at (i) : k0_pay1 (F := Ideal) i = 0 := by
  pointwise [k0_pay1]

def col (g : ℕ) (p : Fin 1024) : Fin 1024 := ⟨(1024 * g + p.val) % 1024, Nat.mod_lt _ (by decide)⟩

variable (m : (ℓ : Loc nD τ sig) → Buf (Elt Ideal) ℓ) (c : Dev nD)

def lhs : Vec Ideal S8192x1024 .bf16 := V m c main_v0
def rhs : Vec Ideal S8192x1024 .f32 := V m c main_arg1

def rB (t : Fin cfg0.N) : Fin 4 := ⟨t.val % 4, Nat.mod_lt _ (by decide)⟩

theorem index_l : ∀ t : Fin cfg0.N, win0_0.index t = ![t.val % 4, t.val / 4] := (by decide +kernel : ∀ t : Fin grid0.N, _)
theorem index_r : ∀ t : Fin cfg0.N, win0_1.index t = ![t.val % 4, 0] := (by decide +kernel : ∀ t : Fin grid0.N, _)

theorem blk_l (t : Fin cfg0.N) (x : Fin 2048) (p : Fin 1024) : (iblk m c 0 t : Vec Ideal S2048x1024 .bf16) (ix2 x p) = lhs m c (ix2 (row (rB t) x) (col (t.val / 4) p)) := by
  unfold iblk
  rw [View.read_apply]
  refine congrArg (lhs m c) (funext fun a => Fin.ext ?_)
  have e0 : win0_0.index t 0 = t.val % 4 := congrFun (index_l t) 0
  have e1 : win0_0.index t 1 = t.val / 4 := congrFun (index_l t) 1
  have h := lt_of_lt_of_eq t.isLt (show cfg0.N = 4 from N_0)
  have hp := p.isLt
  match a with
  | ⟨0, _⟩ => show win0_0.index t 0 * 2048 + 1 * x.val = 2048 * (t.val % 4) + x.val; rw [e0]; omega
  | ⟨1, _⟩ => show win0_0.index t 1 * 1024 + 1 * p.val = (1024 * (t.val / 4) + p.val) % 1024; rw [e1]; omega

theorem blk_r (t : Fin cfg0.N) (x : Fin 2048) (q : Fin 1024) : (iblk m c 1 t : Vec Ideal S2048x1024 .f32) (ix2 x q) = rhs m c (ix2 (row (rB t) x) q) := by
  unfold iblk
  rw [View.read_apply]
  refine congrArg (rhs m c) (funext fun a => Fin.ext ?_)
  have e0 : win0_1.index t 0 = t.val % 4 := congrFun (index_r t) 0
  have e1 : win0_1.index t 1 = 0 := congrFun (index_r t) 1
  match a with
  | ⟨0, _⟩ => show win0_1.index t 0 * 2048 + 1 * x.val = 2048 * (t.val % 4) + x.val; rw [e0]; omega
  | ⟨1, _⟩ => show win0_1.index t 1 * 1024 + 1 * q.val = q.val; rw [e1]; omega

/-- The products an entry of block `g` of columns sums. -/
def term (p : Fin 1024) (q : Fin 1024) (g : ℕ) (k : Fin 8192) : EReal := lhs m c (ix2 k (col g p)) * rhs m c (ix2 k q)

theorem step_at (t : Fin cfg0.N) (s : Vec Ideal S1024x1024 .f32) (p : Fin 1024) (q : Fin 1024) :
    k0_pay2 s (iblk m c 0 t) (iblk m c 1 t) (ix2 p q) = s (ix2 p q) + part (term m c p q (t.val / 4)) (t.val % 4) := by
  rw [pay_at]
  have e : part (term m c p q (t.val / 4)) (t.val % 4) = ∑ x : Fin 2048, term m c p q (t.val / 4) (row (rB t) x) := dif_pos (rB t).isLt
  rw [e]
  refine congrArg (s (ix2 p q) + ·) (Finset.sum_congr rfl fun x _ => ?_)
  exact congrArg₂ (· * ·) (blk_l m c t x p) (blk_r m c t x q)

theorem sum_at (p : Fin 1024) (q : Fin 1024) : ∀ (n : ℕ) (h : n < cfg0.N), n % 4 ≠ 3 →
    (outsAt0 m c n h).2 (ix2 p q) = ∑ r ∈ Finset.range (n % 4 + 1), part (term m c p q (n / 4)) r := by
  refine Cert.Tn.kept (fun n h => (outsAt0 m c n h).2 (ix2 p q)) (fun g r => part (term m c p q g) r) (fun n h h0 => ?_) fun n h h0 h3 => ?_
  · show (outsAt0 m c n h).2 (ix2 p q) = _
    rw [outsAt0_A m c ⟨n, h⟩ h0 (show ¬n % 4 = 3 by omega)]
    dsimp only
    rw [first_sum, step_at, zero_at, zero_add]
    exact congrArg (part (term m c p q (n / 4))) h0
  · show (outsAt0 m c (n + 1) h).2 (ix2 p q) = _
    rw [outsAt0_B m c ⟨n + 1, h⟩ h0 h3]
    dsimp only
    rw [next_sum, step_at]
    rfl

theorem out_at (p : Fin 1024) (q : Fin 1024) (t : Fin cfg0.N) (h : t.val % 4 = 3) : (outsAt0 m c t.val t.isLt).1 (ix2 p q) = ∑ k, term m c p q (t.val / 4) k := by
  rw [outsAt0_C m c t (by omega) h]
  dsimp only
  rw [last_out]
  refine (step_at m c t _ p q).trans ?_
  rw [h, ← Cert.Tn.parts]
  exact Cert.Tn.last (fun n h => (outsAt0 m c n h).2 (ix2 p q)) (fun g r => part (term m c p q g) r) (sum_at m c p q) t.val t.isLt h

theorem result_at (i : Fin 1024) (j : Fin 1024) : Value.G2 m c (ix2 i j) = ∑ k : Fin 8192, lhs m c (ix2 k i) * rhs m c (ix2 k j) := by
  have hi := i.isLt
  have hj := j.isLt
  have hp : Value.pt2Of (ix2 i j) = 4 * (i.val / 1024) + 3 := by
    show 4 * (1 * (i.val / 1024 - 0) + 1 * (j.val / 1024 - 0)) + 3 = _
    omega
  have hN : cfg0.N = 4 := N_0
  have hlt : Value.pt2Of (ix2 i j) < cfg0.N := by rw [hp, hN]; omega
  unfold Value.G2
  rw [dif_pos hlt, ← Value.outsAt0_sweep m c _ hlt]
  have hl : Value.loc2Of (ix2 i j) = ix2 (⟨i.val % 1024, Nat.mod_lt _ (by decide)⟩ : Fin 1024) j := by
    funext a
    match a with
    | ⟨0, _⟩ => rfl
    | ⟨1, _⟩ => exact Fin.ext (Nat.mod_eq_of_lt hj)
  rw [hl]
  refine (out_at m c _ _ ⟨_, hlt⟩ (by show Value.pt2Of (ix2 i j) % 4 = 3; rw [hp]; omega)).trans ?_
  have hc : col (Value.pt2Of (ix2 i j) / 4) ⟨i.val % 1024, Nat.mod_lt _ (by decide)⟩ = i := by
    refine Fin.ext ?_
    show (1024 * (Value.pt2Of (ix2 i j) / 4) + i.val % 1024) % 1024 = i.val
    rw [hp]
    omega
  unfold term
  rw [hc]

theorem lhs_at (i) : lhs m c i = m ((c : Thread nD τ).loc main_arg0) i := by
  have e : (V m c main_v0 : Vec Ideal S8192x1024 .bf16) = (truncf (F := Ideal) (φ := .f32) .bf16 (m ((c : Thread nD τ).loc main_arg0) : Vec Ideal S8192x1024 .f32) bitsLt_bf16_f32 : Vec Ideal S8192x1024 .bf16) := by
    dsimp only [V, hostOps0]
    after_results
  unfold lhs
  rw [e]
  rfl

theorem rhs_at (i) : rhs m c i = m ((c : Thread nD τ).loc main_arg1) i := congrFun (V_main_arg1 m c) i

/-- The kernel's result is the reference's. -/
theorem result_eq : Value.G2 m c = Cert.Reference7Ideal.Tn.prod (m ((c : Thread nD τ).loc main_arg0)) (m ((c : Thread nD τ).loc main_arg1)) := by
  funext i
  have h : i = ix2 (i 0) (i 1) := by
    funext a
    match a with
    | ⟨0, _⟩ => rfl
    | ⟨1, _⟩ => rfl
  rw [h]
  refine (result_at m c (i 0) (i 1)).trans ((Cert.Reference7Ideal.Tn.prod_at _ _ (i 0) (i 1)).trans ?_).symm
  exact Finset.sum_congr rfl fun k _ => congrArg₂ (· * ·) (lhs_at m c _).symm (rhs_at m c _).symm

end Cert.Kernel7Ideal.Tn
end
-- ==== Proof.MatIn.lean ====
/- The gradient of the input projection: the product of two arrays over their 8192 rows. -/
module

public import proofs.«01_k».proof.Proof.Tn
public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

namespace Cert.Reference8Ideal.Tn

open Idealize.ShloMosaic Cert.Reference8Ideal Cert.Reference8Ideal.Gen
open scoped BigOperators

def prod (a : Vec Ideal S8192x1280 .f32) (b : Vec Ideal S8192x1024 .f32) : Vec Ideal S1280x1024 .bf16 :=
  truncf (F := Ideal) (φ := .f32) .bf16 (Host.dotGeneral (F := Ideal) (φ₁ := .f32) (φ₂ := .f32) dot_S1280x8192_S8192x1024_S1280x1024_1_0_0_1_n_n none (transpose S1280x8192 [1, 0] a transposes_S8192x1280_S1280x8192_1_0) b) bitsLt_bf16_f32

theorem prod_at (a : Vec Ideal S8192x1280 .f32) (b : Vec Ideal S8192x1024 .f32) (i : Fin 1280) (j : Fin 1024) :
    prod a b (ix2 i j) = ∑ k : Fin 8192, a (ix2 k i) * b (ix2 k j) := by
  pointwise [prod]

end Cert.Reference8Ideal.Tn

namespace Cert.Kernel8Ideal.Tn

open Idealize.ShloMosaic Idealize.ShloMosaic.TcCoe
open Cert.Kernel8Ideal Cert.Kernel8Ideal.Gen
open Cert.Tn (off0 row part)
open scoped BigOperators

section Points
variable {F : FTy → Type} [FloatOps F]
variable (c : Dev nD) (i : grid0.Coords) (arg3 : Memref sig .tc .vmem S2048x640 .bf16) (harg3 : arg3.IsWhole) (arg4 : Memref sig .tc .vmem S2048x1024 .bf16) (harg4 : arg4.IsWhole)
  (arg5 : Memref sig .tc .vmem S640x1024 .bf16) (harg5 : arg5.IsWhole) (arg6 : Memref sig .tc .vmem S640x1024 .f32) (harg6 : arg6.IsWhole)
variable (x0 : Vec F S2048x640 .bf16) (x1 : Vec F S2048x1024 .bf16) (xs : Vec F S640x1024 .f32)

theorem first_sum (hc0 : cond0_0 i) (hc1 : ¬cond0_1 i) : sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S640x1024) off0, View.readCov_unit_zero (S := S640x1024) _ off0]
  simp only [View.readAt_eq_ld, harg3.read_unread, harg4.read_unread, View.ld_unit_zero (S := S2048x640) off0, View.ld_unit_zero (S := S2048x1024) off0]

theorem next_sum (hc0 : ¬cond0_0 i) (hc1 : ¬cond0_1 i) : sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  rw [View.canon_unit_zero (S := S640x1024) off0]
  simp only [View.readAt_eq_ld, harg3.read_unread, harg4.read_unread, harg6.read_unread, View.ld_unit_zero (S := S2048x640) off0, View.ld_unit_zero (S := S2048x1024) off0, View.ld_unit_zero (S := S640x1024) off0]

theorem last_out (hc0 : ¬cond0_0 i) (hc1 : cond0_1 i) : out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero (S := S640x1024) off0, View.readCov_unit_zero (S := S640x1024) _ off0]
  simp only [View.readAt_eq_ld, harg3.read_unread, harg4.read_unread, harg6.read_unread, View.ld_unit_zero (S := S2048x640) off0, View.ld_unit_zero (S := S2048x1024) off0, View.ld_unit_zero (S := S640x1024) off0]

end Points

theorem pay_at (s : Vec Ideal S640x1024 .f32) (a : Vec Ideal S2048x640 .bf16) (b : Vec Ideal S2048x1024 .bf16) (p : Fin 640) (q : Fin 1024) :
    k0_pay2 s a b (ix2 p q) = s (ix2 p q) + ∑ x : Fin 2048, a (ix2 x p) * b (ix2 x q) := by
  pointwise [k0_pay2]

theorem zero_at (i) : k0_pay1 (F := Ideal) i = 0 := by
  pointwise [k0_pay1]

def col (g : ℕ) (p : Fin 640) : Fin 1280 := ⟨(640 * g + p.val) % 1280, Nat.mod_lt _ (by decide)⟩

variable (m : (ℓ : Loc nD τ sig) → Buf (Elt Ideal) ℓ) (c : Dev nD)

def lhs : Vec Ideal S8192x1280 .bf16 := V m c main_v0
def rhs : Vec Ideal S8192x1024 .bf16 := V m c main_v1

def rB (t : Fin cfg0.N) : Fin 4 := ⟨t.val % 4, Nat.mod_lt _ (by decide)⟩

theorem index_l : ∀ t : Fin cfg0.N, win0_0.index t = ![t.val % 4, t.val / 4] := (by decide +kernel : ∀ t : Fin grid0.N, _)
theorem index_r : ∀ t : Fin cfg0.N, win0_1.index t = ![t.val % 4, 0] := (by decide +kernel : ∀ t : Fin grid0.N, _)

theorem blk_l (t : Fin cfg0.N) (x : Fin 2048) (p : Fin 640) : (iblk m c 0 t : Vec Ideal S2048x640 .bf16) (ix2 x p) = lhs m c (ix2 (row (rB t) x) (col (t.val / 4) p)) := by
  unfold iblk
  rw [View.read_apply]
  refine congrArg (lhs m c) (funext fun a => Fin.ext ?_)
  have e0 : win0_0.index t 0 = t.val % 4 := congrFun (index_l t) 0
  have e1 : win0_0.index t 1 = t.val / 4 := congrFun (index_l t) 1
  have h := lt_of_lt_of_eq t.isLt (show cfg0.N = 8 from N_0)
  have hp := p.isLt
  match a with
  | ⟨0, _⟩ => show win0_0.index t 0 * 2048 + 1 * x.val = 2048 * (t.val % 4) + x.val; rw [e0]; omega
  | ⟨1, _⟩ => show win0_0.index t 1 * 640 + 1 * p.val = (640 * (t.val / 4) + p.val) % 1280; rw [e1]; omega

theorem blk_r (t : Fin cfg0.N) (x : Fin 2048) (q : Fin 1024) : (iblk m c 1 t : Vec Ideal S2048x1024 .bf16) (ix2 x q) = rhs m c (ix2 (row (rB t) x) q) := by
  unfold iblk
  rw [View.read_apply]
  refine congrArg (rhs m c) (funext fun a => Fin.ext ?_)
  have e0 : win0_1.index t 0 = t.val % 4 := congrFun (index_r t) 0
  have e1 : win0_1.index t 1 = 0 := congrFun (index_r t) 1
  match a with
  | ⟨0, _⟩ => show win0_1.index t 0 * 2048 + 1 * x.val = 2048 * (t.val % 4) + x.val; rw [e0]; omega
  | ⟨1, _⟩ => show win0_1.index t 1 * 1024 + 1 * q.val = q.val; rw [e1]; omega

/-- The products an entry of block `g` of columns sums. -/
def term (p : Fin 640) (q : Fin 1024) (g : ℕ) (k : Fin 8192) : EReal := lhs m c (ix2 k (col g p)) * rhs m c (ix2 k q)

theorem step_at (t : Fin cfg0.N) (s : Vec Ideal S640x1024 .f32) (p : Fin 640) (q : Fin 1024) :
    k0_pay2 s (iblk m c 0 t) (iblk m c 1 t) (ix2 p q) = s (ix2 p q) + part (term m c p q (t.val / 4)) (t.val % 4) := by
  rw [pay_at]
  have e : part (term m c p q (t.val / 4)) (t.val % 4) = ∑ x : Fin 2048, term m c p q (t.val / 4) (row (rB t) x) := dif_pos (rB t).isLt
  rw [e]
  refine congrArg (s (ix2 p q) + ·) (Finset.sum_congr rfl fun x _ => ?_)
  exact congrArg₂ (· * ·) (blk_l m c t x p) (blk_r m c t x q)

theorem sum_at (p : Fin 640) (q : Fin 1024) : ∀ (n : ℕ) (h : n < cfg0.N), n % 4 ≠ 3 →
    (outsAt0 m c n h).2 (ix2 p q) = ∑ r ∈ Finset.range (n % 4 + 1), part (term m c p q (n / 4)) r := by
  refine Cert.Tn.kept (fun n h => (outsAt0 m c n h).2 (ix2 p q)) (fun g r => part (term m c p q g) r) (fun n h h0 => ?_) fun n h h0 h3 => ?_
  · show (outsAt0 m c n h).2 (ix2 p q) = _
    rw [outsAt0_A m c ⟨n, h⟩ h0 (show ¬n % 4 = 3 by omega)]
    dsimp only
    rw [first_sum, step_at, zero_at, zero_add]
    exact congrArg (part (term m c p q (n / 4))) h0
  · show (outsAt0 m c (n + 1) h).2 (ix2 p q) = _
    rw [outsAt0_B m c ⟨n + 1, h⟩ h0 h3]
    dsimp only
    rw [next_sum, step_at]
    rfl

theorem out_at (p : Fin 640) (q : Fin 1024) (t : Fin cfg0.N) (h : t.val % 4 = 3) : (outsAt0 m c t.val t.isLt).1 (ix2 p q) = ∑ k, term m c p q (t.val / 4) k := by
  rw [outsAt0_C m c t (by omega) h]
  dsimp only
  rw [last_out]
  refine (step_at m c t _ p q).trans ?_
  rw [h, ← Cert.Tn.parts]
  exact Cert.Tn.last (fun n h => (outsAt0 m c n h).2 (ix2 p q)) (fun g r => part (term m c p q g) r) (sum_at m c p q) t.val t.isLt h

theorem result_at (i : Fin 1280) (j : Fin 1024) : Value.G2 m c (ix2 i j) = ∑ k : Fin 8192, lhs m c (ix2 k i) * rhs m c (ix2 k j) := by
  have hi := i.isLt
  have hj := j.isLt
  have hp : Value.pt2Of (ix2 i j) = 4 * (i.val / 640) + 3 := by
    show 4 * (1 * (i.val / 640 - 0) + 1 * (j.val / 1024 - 0)) + 3 = _
    omega
  have hN : cfg0.N = 8 := N_0
  have hlt : Value.pt2Of (ix2 i j) < cfg0.N := by rw [hp, hN]; omega
  unfold Value.G2
  rw [dif_pos hlt, ← Value.outsAt0_sweep m c _ hlt]
  have hl : Value.loc2Of (ix2 i j) = ix2 (⟨i.val % 640, Nat.mod_lt _ (by decide)⟩ : Fin 640) j := by
    funext a
    match a with
    | ⟨0, _⟩ => rfl
    | ⟨1, _⟩ => exact Fin.ext (Nat.mod_eq_of_lt hj)
  rw [hl]
  refine (out_at m c _ _ ⟨_, hlt⟩ (by show Value.pt2Of (ix2 i j) % 4 = 3; rw [hp]; omega)).trans ?_
  have hc : col (Value.pt2Of (ix2 i j) / 4) ⟨i.val % 640, Nat.mod_lt _ (by decide)⟩ = i := by
    refine Fin.ext ?_
    show (640 * (Value.pt2Of (ix2 i j) / 4) + i.val % 640) % 1280 = i.val
    rw [hp]
    omega
  unfold term
  rw [hc]

theorem lhs_at (i) : lhs m c i = m ((c : Thread nD τ).loc main_arg0) i := by
  have e : (V m c main_v0 : Vec Ideal S8192x1280 .bf16) = (truncf (F := Ideal) (φ := .f32) .bf16 (m ((c : Thread nD τ).loc main_arg0) : Vec Ideal S8192x1280 .f32) bitsLt_bf16_f32 : Vec Ideal S8192x1280 .bf16) := by
    dsimp only [V, hostOps0]
    after_results
  unfold lhs
  rw [e]
  rfl

theorem rhs_at (i) : rhs m c i = m ((c : Thread nD τ).loc main_arg1) i := by
  have e : (V m c main_v1 : Vec Ideal S8192x1024 .bf16) = (truncf (F := Ideal) (φ := .f32) .bf16 (m ((c : Thread nD τ).loc main_arg1) : Vec Ideal S8192x1024 .f32) bitsLt_bf16_f32 : Vec Ideal S8192x1024 .bf16) := by
    dsimp only [V, hostOps0]
    after_results
  unfold rhs
  rw [e]
  rfl

/-- The kernel's result is the reference's. -/
theorem result_eq : Value.G2 m c = Cert.Reference8Ideal.Tn.prod (m ((c : Thread nD τ).loc main_arg0)) (m ((c : Thread nD τ).loc main_arg1)) := by
  funext i
  have h : i = ix2 (i 0) (i 1) := by
    funext a
    match a with
    | ⟨0, _⟩ => rfl
    | ⟨1, _⟩ => rfl
  rw [h]
  refine (result_at m c (i 0) (i 1)).trans ((Cert.Reference8Ideal.Tn.prod_at _ _ (i 0) (i 1)).trans ?_).symm
  exact Finset.sum_congr rfl fun k _ => congrArg₂ (· * ·) (lhs_at m c _).symm (rhs_at m c _).symm

end Cert.Kernel8Ideal.Tn
end
-- ==== Proof.MatQ.lean ====
/- The gradient of the queries' projection from their latents: the product of two arrays over their 8192 rows. -/
module

public import proofs.«01_k».proof.Proof.Tn
public import proofs.«01_k».proof.Proof.Gen.Kernel9Ideal.Value
public import proofs.«01_k».proof.Proof.Gen.Reference9Ideal.Run
public import Idealize.ShloMosaic.Lib.Pipeline.ValueKit

@[expose] public section

set_option maxRecDepth 16384

noncomputable section

namespace Cert.Reference9Ideal.Tn

open Idealize.ShloMosaic Cert.Reference9Ideal Cert.Reference9Ideal.Gen
open scoped BigOperators

def prod (a : Vec Ideal S8192x512 .f32) (b : Vec Ideal S8192x256 .f32) : Vec Ideal S512x256 .bf16 :=
  truncf (F := Ideal) (φ := .f32) .bf16 (Host.dotGeneral (F := Ideal) (φ₁ := .f32) (φ₂ := .f32) dot_S512x8192_S8192x256_S512x256_1_0_0_1_n_n none (transpose S512x8192 [1, 0] a transposes_S8192x512_S512x8192_1_0) b) bitsLt_bf16_f32

theorem prod_at (a : Vec Ideal S8192x512 .f32) (b : Vec Ideal S8192x256 .f32) (i : Fin 512) (j : Fin 256) :
    prod a b (ix2 i j) = ∑ k : Fin 8192, a (ix2 k i) * b (ix2 k j) := by
  pointwise [prod]

end Cert.Reference9Ideal.Tn

namespace Cert.Kernel9Ideal.Tn

open Idealize.ShloMosaic Idealize.ShloMosaic.TcCoe
open Cert.Kernel9Ideal Cert.Kernel9Ideal.Gen
open Cert.Tn (off0 row part)
open scoped BigOperators

section Points
variable {F : FTy → Type} [FloatOps F]
variable (c : Dev nD) (i : grid0.Coords) (arg3 : Memref sig .tc .vmem S2048x512 .bf16) (harg3 : arg3.IsWhole) (arg4 : Memref sig .tc .vmem S2048x256 .bf16) (harg4 : arg4.IsWhole)
  (arg5 : Memref sig .tc .vmem S512x256 .bf16) (harg5 : arg5.IsWhole) (arg6 : Memref sig .tc .vmem S512x256 .f32) (harg6 : arg6.IsWhole)
variable (x0 : Vec F S2048x512 .bf16) (x1 : Vec F S2048x256 .bf16) (xs : Vec F S512x256 .f32)

theorem first_sum (hc0 : cond0_0 i) (hc1 : ¬cond0_1 i) : sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S512x256) off0, View.readCov_unit_zero (S := S512x256) _ off0]
  simp only [View.readAt_eq_ld, harg3.read_unread, harg4.read_unread, View.ld_unit_zero (S := S2048x512) off0, View.ld_unit_zero (S := S2048x256) off0]

theorem next_sum (hc0 : ¬cond0_0 i) (hc1 : ¬cond0_1 i) : sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  rw [View.canon_unit_zero (S := S512x256) off0]
  simp only [View.readAt_eq_ld, harg3.read_unread, harg4.read_unread, harg6.read_unread, View.ld_unit_zero (S := S2048x512) off0, View.ld_unit_zero (S := S2048x256) off0, View.ld_unit_zero (S := S512x256) off0]

theorem last_out (hc0 : ¬cond0_0 i) (hc1 : cond0_1 i) : out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero (S := S512x256) off0, View.readCov_unit_zero (S := S512x256) _ off0]
  simp only [View.readAt_eq_ld, harg3.read_unread, harg4.read_unread, harg6.read_unread, View.ld_unit_zero (S := S2048x512) off0, View.ld_unit_zero (S := S2048x256) off0, View.ld_unit_zero (S := S512x256) off0]

end Points

theorem pay_at (s : Vec Ideal S512x256 .f32) (a : Vec Ideal S2048x512 .bf16) (b : Vec Ideal S2048x256 .bf16) (p : Fin 512) (q : Fin 256) :
    k0_pay2 s a b (ix2 p q) = s (ix2 p q) + ∑ x : Fin 2048, a (ix2 x p) * b (ix2 x q) := by
  pointwise [k0_pay2]

theorem zero_at (i) : k0_pay1 (F := Ideal) i = 0 := by
  pointwise [k0_pay1]

def col (g : ℕ) (p : Fin 512) : Fin 512 := ⟨(512 * g + p.val) % 512, Nat.mod_lt _ (by decide)⟩

variable (m : (ℓ : Loc nD τ sig) → Buf (Elt Ideal) ℓ) (c : Dev nD)

def lhs : Vec Ideal S8192x512 .bf16 := V m c main_v0
def rhs : Vec Ideal S8192x256 .bf16 := V m c main_v1

def rB (t : Fin cfg0.N) : Fin 4 := ⟨t.val % 4, Nat.mod_lt _ (by decide)⟩

theorem index_l : ∀ t : Fin cfg0.N, win0_0.index t = ![t.val % 4, t.val / 4] := (by decide +kernel : ∀ t : Fin grid0.N, _)
theorem index_r : ∀ t : Fin cfg0.N, win0_1.index t = ![t.val % 4, 0] := (by decide +kernel : ∀ t : Fin grid0.N, _)

theorem blk_l (t : Fin cfg0.N) (x : Fin 2048) (p : Fin 512) : (iblk m c 0 t : Vec Ideal S2048x512 .bf16) (ix2 x p) = lhs m c (ix2 (row (rB t) x) (col (t.val / 4) p)) := by
  unfold iblk
  rw [View.read_apply]
  refine congrArg (lhs m c) (funext fun a => Fin.ext ?_)
  have e0 : win0_0.index t 0 = t.val % 4 := congrFun (index_l t) 0
  have e1 : win0_0.index t 1 = t.val / 4 := congrFun (index_l t) 1
  have h := lt_of_lt_of_eq t.isLt (show cfg0.N = 4 from N_0)
  have hp := p.isLt
  match a with
  | ⟨0, _⟩ => show win0_0.index t 0 * 2048 + 1 * x.val = 2048 * (t.val % 4) + x.val; rw [e0]; omega
  | ⟨1, _⟩ => show win0_0.index t 1 * 512 + 1 * p.val = (512 * (t.val / 4) + p.val) % 512; rw [e1]; omega

theorem blk_r (t : Fin cfg0.N) (x : Fin 2048) (q : Fin 256) : (iblk m c 1 t : Vec Ideal S2048x256 .bf16) (ix2 x q) = rhs m c (ix2 (row (rB t) x) q) := by
  unfold iblk
  rw [View.read_apply]
  refine congrArg (rhs m c) (funext fun a => Fin.ext ?_)
  have e0 : win0_1.index t 0 = t.val % 4 := congrFun (index_r t) 0
  have e1 : win0_1.index t 1 = 0 := congrFun (index_r t) 1
  match a with
  | ⟨0, _⟩ => show win0_1.index t 0 * 2048 + 1 * x.val = 2048 * (t.val % 4) + x.val; rw [e0]; omega
  | ⟨1, _⟩ => show win0_1.index t 1 * 256 + 1 * q.val = q.val; rw [e1]; omega

/-- The products an entry of block `g` of columns sums. -/
def term (p : Fin 512) (q : Fin 256) (g : ℕ) (k : Fin 8192) : EReal := lhs m c (ix2 k (col g p)) * rhs m c (ix2 k q)

theorem step_at (t : Fin cfg0.N) (s : Vec Ideal S512x256 .f32) (p : Fin 512) (q : Fin 256) :
    k0_pay2 s (iblk m c 0 t) (iblk m c 1 t) (ix2 p q) = s (ix2 p q) + part (term m c p q (t.val / 4)) (t.val % 4) := by
  rw [pay_at]
  have e : part (term m c p q (t.val / 4)) (t.val % 4) = ∑ x : Fin 2048, term m c p q (t.val / 4) (row (rB t) x) := dif_pos (rB t).isLt
  rw [e]
  refine congrArg (s (ix2 p q) + ·) (Finset.sum_congr rfl fun x _ => ?_)
  exact congrArg₂ (· * ·) (blk_l m c t x p) (blk_r m c t x q)

theorem sum_at (p : Fin 512) (q : Fin 256) : ∀ (n : ℕ) (h : n < cfg0.N), n % 4 ≠ 3 →
    (outsAt0 m c n h).2 (ix2 p q) = ∑ r ∈ Finset.range (n % 4 + 1), part (term m c p q (n / 4)) r := by
  refine Cert.Tn.kept (fun n h => (outsAt0 m c n h).2 (ix2 p q)) (fun g r => part (term m c p q g) r) (fun n h h0 => ?_) fun n h h0 h3 => ?_
  · show (outsAt0 m c n h).2 (ix2 p q) = _
    rw [outsAt0_A m c ⟨n, h⟩ h0 (show ¬n % 4 = 3 by omega)]
    dsimp only
    rw [first_sum, step_at, zero_at, zero_add]
    exact congrArg (part (term m c p q (n / 4))) h0
  · show (outsAt0 m c (n + 1) h).2 (ix2 p q) = _
    rw [outsAt0_B m c ⟨n + 1, h⟩ h0 h3]
    dsimp only
    rw [next_sum, step_at]
    rfl

theorem out_at (p : Fin 512) (q : Fin 256) (t : Fin cfg0.N) (h : t.val % 4 = 3) : (outsAt0 m c t.val t.isLt).1 (ix2 p q) = ∑ k, term m c p q (t.val / 4) k := by
  rw [outsAt0_C m c t (by omega) h]
  dsimp only
  rw [last_out]
  refine (step_at m c t _ p q).trans ?_
  rw [h, ← Cert.Tn.parts]
  exact Cert.Tn.last (fun n h => (outsAt0 m c n h).2 (ix2 p q)) (fun g r => part (term m c p q g) r) (sum_at m c p q) t.val t.isLt h

theorem result_at (i : Fin 512) (j : Fin 256) : Value.G2 m c (ix2 i j) = ∑ k : Fin 8192, lhs m c (ix2 k i) * rhs m c (ix2 k j) := by
  have hi := i.isLt
  have hj := j.isLt
  have hp : Value.pt2Of (ix2 i j) = 4 * (i.val / 512) + 3 := by
    show 4 * (1 * (i.val / 512 - 0) + 1 * (j.val / 256 - 0)) + 3 = _
    omega
  have hN : cfg0.N = 4 := N_0
  have hlt : Value.pt2Of (ix2 i j) < cfg0.N := by rw [hp, hN]; omega
  unfold Value.G2
  rw [dif_pos hlt, ← Value.outsAt0_sweep m c _ hlt]
  have hl : Value.loc2Of (ix2 i j) = ix2 (⟨i.val % 512, Nat.mod_lt _ (by decide)⟩ : Fin 512) j := by
    funext a
    match a with
    | ⟨0, _⟩ => rfl
    | ⟨1, _⟩ => exact Fin.ext (Nat.mod_eq_of_lt hj)
  rw [hl]
  refine (out_at m c _ _ ⟨_, hlt⟩ (by show Value.pt2Of (ix2 i j) % 4 = 3; rw [hp]; omega)).trans ?_
  have hc : col (Value.pt2Of (ix2 i j) / 4) ⟨i.val % 512, Nat.mod_lt _ (by decide)⟩ = i := by
    refine Fin.ext ?_
    show (512 * (Value.pt2Of (ix2 i j) / 4) + i.val % 512) % 512 = i.val
    rw [hp]
    omega
  unfold term
  rw [hc]

theorem lhs_at (i) : lhs m c i = m ((c : Thread nD τ).loc main_arg0) i := by
  have e : (V m c main_v0 : Vec Ideal S8192x512 .bf16) = (truncf (F := Ideal) (φ := .f32) .bf16 (m ((c : Thread nD τ).loc main_arg0) : Vec Ideal S8192x512 .f32) bitsLt_bf16_f32 : Vec Ideal S8192x512 .bf16) := by
    dsimp only [V, hostOps0]
    after_results
  unfold lhs
  rw [e]
  rfl

theorem rhs_at (i) : rhs m c i = m ((c : Thread nD τ).loc main_arg1) i := by
  have e : (V m c main_v1 : Vec Ideal S8192x256 .bf16) = (truncf (F := Ideal) (φ := .f32) .bf16 (m ((c : Thread nD τ).loc main_arg1) : Vec Ideal S8192x256 .f32) bitsLt_bf16_f32 : Vec Ideal S8192x256 .bf16) := by
    dsimp only [V, hostOps0]
    after_results
  unfold rhs
  rw [e]
  rfl

/-- The kernel's result is the reference's. -/
theorem result_eq : Value.G2 m c = Cert.Reference9Ideal.Tn.prod (m ((c : Thread nD τ).loc main_arg0)) (m ((c : Thread nD τ).loc main_arg1)) := by
  funext i
  have h : i = ix2 (i 0) (i 1) := by
    funext a
    match a with
    | ⟨0, _⟩ => rfl
    | ⟨1, _⟩ => rfl
  rw [h]
  refine (result_at m c (i 0) (i 1)).trans ((Cert.Reference9Ideal.Tn.prod_at _ _ (i 0) (i 1)).trans ?_).symm
  exact Finset.sum_congr rfl fun k _ => congrArg₂ (· * ·) (lhs_at m c _).symm (rhs_at m c _).symm

end Cert.Kernel9Ideal.Tn
end
-- ==== Proof.MatKv.lean ====
/- The gradient of the keys' and values' projection from their latents: the product of two arrays over their 8192 rows. -/
module

public import proofs.«01_k».proof.Proof.Tn
public import proofs.«01_k».proof.Proof.Gen.Kernel10Ideal.Value
public import proofs.«01_k».proof.Proof.Gen.Reference10Ideal.Run
public import Idealize.ShloMosaic.Lib.Pipeline.ValueKit

@[expose] public section

set_option maxRecDepth 16384

noncomputable section

namespace Cert.Reference10Ideal.Tn

open Idealize.ShloMosaic Cert.Reference10Ideal Cert.Reference10Ideal.Gen
open scoped BigOperators

def prod (a : Vec Ideal S8192x1024 .f32) (b : Vec Ideal S8192x128 .f32) : Vec Ideal S1024x128 .bf16 :=
  truncf (F := Ideal) (φ := .f32) .bf16 (Host.dotGeneral (F := Ideal) (φ₁ := .f32) (φ₂ := .f32) dot_S1024x8192_S8192x128_S1024x128_1_0_0_1_n_n none (transpose S1024x8192 [1, 0] a transposes_S8192x1024_S1024x8192_1_0) b) bitsLt_bf16_f32

theorem prod_at (a : Vec Ideal S8192x1024 .f32) (b : Vec Ideal S8192x128 .f32) (i : Fin 1024) (j : Fin 128) :
    prod a b (ix2 i j) = ∑ k : Fin 8192, a (ix2 k i) * b (ix2 k j) := by
  pointwise [prod]

end Cert.Reference10Ideal.Tn

namespace Cert.Kernel10Ideal.Tn

open Idealize.ShloMosaic Idealize.ShloMosaic.TcCoe
open Cert.Kernel10Ideal Cert.Kernel10Ideal.Gen
open Cert.Tn (off0 row part)
open scoped BigOperators

section Points
variable {F : FTy → Type} [FloatOps F]
variable (c : Dev nD) (i : grid0.Coords) (arg3 : Memref sig .tc .vmem S2048x1024 .bf16) (harg3 : arg3.IsWhole) (arg4 : Memref sig .tc .vmem S2048x128 .bf16) (harg4 : arg4.IsWhole)
  (arg5 : Memref sig .tc .vmem S1024x128 .bf16) (harg5 : arg5.IsWhole) (arg6 : Memref sig .tc .vmem S1024x128 .f32) (harg6 : arg6.IsWhole)
variable (x0 : Vec F S2048x1024 .bf16) (x1 : Vec F S2048x128 .bf16) (xs : Vec F S1024x128 .f32)

theorem first_sum (hc0 : cond0_0 i) (hc1 : ¬cond0_1 i) : sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x128) off0, View.readCov_unit_zero (S := S1024x128) _ off0]
  simp only [View.readAt_eq_ld, harg3.read_unread, harg4.read_unread, View.ld_unit_zero (S := S2048x1024) off0, View.ld_unit_zero (S := S2048x128) off0]

theorem next_sum (hc0 : ¬cond0_0 i) (hc1 : ¬cond0_1 i) : sout0_B_0 c i arg3 harg3 arg4 harg4 arg5 harg5 arg6 harg6 hc0 hc1 x0 x1 xs = k0_pay2 xs x0 x1 := by
  unfold sout0_B_0
  rw [View.read_writes_eq_canon _ _ _ (scover0_B_0 c i arg3 harg3 arg4 harg4 arg5 harg5 arg6 harg6 hc0 hc1 x0 x1 xs)]
  unfold kernelRun0_B
  dsimp only
  rw [View.canon_unit_zero (S := S1024x128) off0]
  simp only [View.readAt_eq_ld, harg3.read_unread, harg4.read_unread, harg6.read_unread, View.ld_unit_zero (S := S2048x1024) off0, View.ld_unit_zero (S := S2048x128) off0, View.ld_unit_zero (S := S1024x128) off0]

theorem last_out (hc0 : ¬cond0_0 i) (hc1 : cond0_1 i) : out0_C_2 c i arg3 harg3 arg4 harg4 arg5 harg5 arg6 harg6 hc0 hc1 x0 x1 xs = k0_pay3 (k0_pay2 xs x0 x1) := by
  unfold out0_C_2
  rw [View.read_writes_eq_canon _ _ _ (cover0_C_2 c i arg3 harg3 arg4 harg4 arg5 harg5 arg6 harg6 hc0 hc1 x0 x1 xs)]
  unfold kernelRun0_C
  dsimp only
  sl_unfold_words
  rw [View.canon_unit_zero (S := S1024x128) off0, View.readCov_unit_zero (S := S1024x128) _ off0]
  simp only [View.readAt_eq_ld, harg3.read_unread, harg4.read_unread, harg6.read_unread, View.ld_unit_zero (S := S2048x1024) off0, View.ld_unit_zero (S := S2048x128) off0, View.ld_unit_zero (S := S1024x128) off0]

end Points

theorem pay_at (s : Vec Ideal S1024x128 .f32) (a : Vec Ideal S2048x1024 .bf16) (b : Vec Ideal S2048x128 .bf16) (p : Fin 1024) (q : Fin 128) :
    k0_pay2 s a b (ix2 p q) = s (ix2 p q) + ∑ x : Fin 2048, a (ix2 x p) * b (ix2 x q) := by
  pointwise [k0_pay2]

theorem zero_at (i) : k0_pay1 (F := Ideal) i = 0 := by
  pointwise [k0_pay1]

def col (g : ℕ) (p : Fin 1024) : Fin 1024 := ⟨(1024 * g + p.val) % 1024, Nat.mod_lt _ (by decide)⟩

variable (m : (ℓ : Loc nD τ sig) → Buf (Elt Ideal) ℓ) (c : Dev nD)

def lhs : Vec Ideal S8192x1024 .bf16 := V m c main_v0
def rhs : Vec Ideal S8192x128 .bf16 := V m c main_v1

def rB (t : Fin cfg0.N) : Fin 4 := ⟨t.val % 4, Nat.mod_lt _ (by decide)⟩

theorem index_l : ∀ t : Fin cfg0.N, win0_0.index t = ![t.val % 4, t.val / 4] := (by decide +kernel : ∀ t : Fin grid0.N, _)
theorem index_r : ∀ t : Fin cfg0.N, win0_1.index t = ![t.val % 4, 0] := (by decide +kernel : ∀ t : Fin grid0.N, _)

theorem blk_l (t : Fin cfg0.N) (x : Fin 2048) (p : Fin 1024) : (iblk m c 0 t : Vec Ideal S2048x1024 .bf16) (ix2 x p) = lhs m c (ix2 (row (rB t) x) (col (t.val / 4) p)) := by
  unfold iblk
  rw [View.read_apply]
  refine congrArg (lhs m c) (funext fun a => Fin.ext ?_)
  have e0 : win0_0.index t 0 = t.val % 4 := congrFun (index_l t) 0
  have e1 : win0_0.index t 1 = t.val / 4 := congrFun (index_l t) 1
  have h := lt_of_lt_of_eq t.isLt (show cfg0.N = 4 from N_0)
  have hp := p.isLt
  match a with
  | ⟨0, _⟩ => show win0_0.index t 0 * 2048 + 1 * x.val = 2048 * (t.val % 4) + x.val; rw [e0]; omega
  | ⟨1, _⟩ => show win0_0.index t 1 * 1024 + 1 * p.val = (1024 * (t.val / 4) + p.val) % 1024; rw [e1]; omega

theorem blk_r (t : Fin cfg0.N) (x : Fin 2048) (q : Fin 128) : (iblk m c 1 t : Vec Ideal S2048x128 .bf16) (ix2 x q) = rhs m c (ix2 (row (rB t) x) q) := by
  unfold iblk
  rw [View.read_apply]
  refine congrArg (rhs m c) (funext fun a => Fin.ext ?_)
  have e0 : win0_1.index t 0 = t.val % 4 := congrFun (index_r t) 0
  have e1 : win0_1.index t 1 = 0 := congrFun (index_r t) 1
  match a with
  | ⟨0, _⟩ => show win0_1.index t 0 * 2048 + 1 * x.val = 2048 * (t.val % 4) + x.val; rw [e0]; omega
  | ⟨1, _⟩ => show win0_1.index t 1 * 128 + 1 * q.val = q.val; rw [e1]; omega

/-- The products an entry of block `g` of columns sums. -/
def term (p : Fin 1024) (q : Fin 128) (g : ℕ) (k : Fin 8192) : EReal := lhs m c (ix2 k (col g p)) * rhs m c (ix2 k q)

theorem step_at (t : Fin cfg0.N) (s : Vec Ideal S1024x128 .f32) (p : Fin 1024) (q : Fin 128) :
    k0_pay2 s (iblk m c 0 t) (iblk m c 1 t) (ix2 p q) = s (ix2 p q) + part (term m c p q (t.val / 4)) (t.val % 4) := by
  rw [pay_at]
  have e : part (term m c p q (t.val / 4)) (t.val % 4) = ∑ x : Fin 2048, term m c p q (t.val / 4) (row (rB t) x) := dif_pos (rB t).isLt
  rw [e]
  refine congrArg (s (ix2 p q) + ·) (Finset.sum_congr rfl fun x _ => ?_)
  exact congrArg₂ (· * ·) (blk_l m c t x p) (blk_r m c t x q)

theorem sum_at (p : Fin 1024) (q : Fin 128) : ∀ (n : ℕ) (h : n < cfg0.N), n % 4 ≠ 3 →
    (outsAt0 m c n h).2 (ix2 p q) = ∑ r ∈ Finset.range (n % 4 + 1), part (term m c p q (n / 4)) r := by
  refine Cert.Tn.kept (fun n h => (outsAt0 m c n h).2 (ix2 p q)) (fun g r => part (term m c p q g) r) (fun n h h0 => ?_) fun n h h0 h3 => ?_
  · show (outsAt0 m c n h).2 (ix2 p q) = _
    rw [outsAt0_A m c ⟨n, h⟩ h0 (show ¬n % 4 = 3 by omega)]
    dsimp only
    rw [first_sum, step_at, zero_at, zero_add]
    exact congrArg (part (term m c p q (n / 4))) h0
  · show (outsAt0 m c (n + 1) h).2 (ix2 p q) = _
    rw [outsAt0_B m c ⟨n + 1, h⟩ h0 h3]
    dsimp only
    rw [next_sum, step_at]
    rfl

theorem out_at (p : Fin 1024) (q : Fin 128) (t : Fin cfg0.N) (h : t.val % 4 = 3) : (outsAt0 m c t.val t.isLt).1 (ix2 p q) = ∑ k, term m c p q (t.val / 4) k := by
  rw [outsAt0_C m c t (by omega) h]
  dsimp only
  rw [last_out]
  refine (step_at m c t _ p q).trans ?_
  rw [h, ← Cert.Tn.parts]
  exact Cert.Tn.last (fun n h => (outsAt0 m c n h).2 (ix2 p q)) (fun g r => part (term m c p q g) r) (sum_at m c p q) t.val t.isLt h

theorem result_at (i : Fin 1024) (j : Fin 128) : Value.G2 m c (ix2 i j) = ∑ k : Fin 8192, lhs m c (ix2 k i) * rhs m c (ix2 k j) := by
  have hi := i.isLt
  have hj := j.isLt
  have hp : Value.pt2Of (ix2 i j) = 4 * (i.val / 1024) + 3 := by
    show 4 * (1 * (i.val / 1024 - 0) + 1 * (j.val / 128 - 0)) + 3 = _
    omega
  have hN : cfg0.N = 4 := N_0
  have hlt : Value.pt2Of (ix2 i j) < cfg0.N := by rw [hp, hN]; omega
  unfold Value.G2
  rw [dif_pos hlt, ← Value.outsAt0_sweep m c _ hlt]
  have hl : Value.loc2Of (ix2 i j) = ix2 (⟨i.val % 1024, Nat.mod_lt _ (by decide)⟩ : Fin 1024) j := by
    funext a
    match a with
    | ⟨0, _⟩ => rfl
    | ⟨1, _⟩ => exact Fin.ext (Nat.mod_eq_of_lt hj)
  rw [hl]
  refine (out_at m c _ _ ⟨_, hlt⟩ (by show Value.pt2Of (ix2 i j) % 4 = 3; rw [hp]; omega)).trans ?_
  have hc : col (Value.pt2Of (ix2 i j) / 4) ⟨i.val % 1024, Nat.mod_lt _ (by decide)⟩ = i := by
    refine Fin.ext ?_
    show (1024 * (Value.pt2Of (ix2 i j) / 4) + i.val % 1024) % 1024 = i.val
    rw [hp]
    omega
  unfold term
  rw [hc]

theorem lhs_at (i) : lhs m c i = m ((c : Thread nD τ).loc main_arg0) i := by
  have e : (V m c main_v0 : Vec Ideal S8192x1024 .bf16) = (truncf (F := Ideal) (φ := .f32) .bf16 (m ((c : Thread nD τ).loc main_arg0) : Vec Ideal S8192x1024 .f32) bitsLt_bf16_f32 : Vec Ideal S8192x1024 .bf16) := by
    dsimp only [V, hostOps0]
    after_results
  unfold lhs
  rw [e]
  rfl

theorem rhs_at (i) : rhs m c i = m ((c : Thread nD τ).loc main_arg1) i := by
  have e : (V m c main_v1 : Vec Ideal S8192x128 .bf16) = (truncf (F := Ideal) (φ := .f32) .bf16 (m ((c : Thread nD τ).loc main_arg1) : Vec Ideal S8192x128 .f32) bitsLt_bf16_f32 : Vec Ideal S8192x128 .bf16) := by
    dsimp only [V, hostOps0]
    after_results
  unfold rhs
  rw [e]
  rfl

/-- The kernel's result is the reference's. -/
theorem result_eq : Value.G2 m c = Cert.Reference10Ideal.Tn.prod (m ((c : Thread nD τ).loc main_arg0)) (m ((c : Thread nD τ).loc main_arg1)) := by
  funext i
  have h : i = ix2 (i 0) (i 1) := by
    funext a
    match a with
    | ⟨0, _⟩ => rfl
    | ⟨1, _⟩ => rfl
  rw [h]
  refine (result_at m c (i 0) (i 1)).trans ((Cert.Reference10Ideal.Tn.prod_at _ _ (i 0) (i 1)).trans ?_).symm
  exact Finset.sum_congr rfl fun k _ => congrArg₂ (· * ·) (lhs_at m c _).symm (rhs_at m c _).symm

end Cert.Kernel10Ideal.Tn
end
-- ==== Proof.MixTile.lean ====
/- The mixers' input projection, one tile of 1024 rows in four parts: the projected rows and the attention's values. -/
module

public import proofs.«01_k».proof.Proof.Gen.Kernel11Ideal.Value
public import proofs.«01_k».proof.Proof.Ffn
public import Idealize.ShloMosaic.Lib.Pointwise
public import Idealize.ShloMosaic.Lib.IdealHost
public import Idealize.ShloMosaic.Lib.Pipeline.ValueKit

@[expose] public section

set_option maxRecDepth 16384

noncomputable section

namespace Cert.Mix

open Idealize.ShloMosaic
open Cert.Ffn (inv hid)
open scoped BigOperators

/-- One over the root of the mean square of a row of the key/value latent. -/
def linv (y : Fin 128 → EReal) : EReal := Ideal.rsqrt ((∑ k, y k * y k) * ((1 / 128 : ℝ) : EReal) + Ideal.ofBits .f32 0x358637BD#32)

/-- The normalised latent times the gain. -/
def nrm (y γ : Fin 128 → EReal) (j : Fin 128) : EReal := y j * linv y * γ j

/-- The key/value latent's columns in the projected row. -/
def lat (j : Fin 128) : Fin 1280 := ⟨256 + j.val, by have := j.isLt; omega⟩

/-- The columns of head `h`'s values. -/
def hv (h : Fin 4) (d : Fin 128) : Fin 1024 := ⟨512 + 128 * h.val + d.val, by have := h.isLt; have := d.isLt; omega⟩

/-- The normalised row's product with row `n` of the input weights. -/
def zz (x γ : Fin 1024 → EReal) (w : Fin 1280 → Fin 1024 → EReal) (n : Fin 1280) : EReal := ∑ k, hid x γ k * w n k

/-- The normalised latent's product with row `n` of the key/value weights. -/
def kv (z : Fin 1280 → EReal) (γ : Fin 128 → EReal) (w : Fin 1024 → Fin 128 → EReal) (n : Fin 1024) : EReal := ∑ j, nrm (fun j => z (lat j)) γ j * w n j

theorem ofBits_128th : Ideal.ofBits .f32 0x3C000000#32 = ((1 / 128 : ℝ) : EReal) := by
  simp [Ideal.ofBits, Ideal.ieee]
  rw [← EReal.coe_mul]
  norm_num

theorem ofBits_128 : Ideal.ofBits .f32 0x43000000#32 = ((128 : ℝ) : EReal) := by
  simp [Ideal.ofBits, Ideal.ieee]
  rw [← EReal.coe_mul]
  norm_num

theorem div_128 (x : EReal) : Ideal.div x (Ideal.ofBits .f32 0x43000000#32) = x * ((1 / 128 : ℝ) : EReal) := by
  rw [ofBits_128, Ideal.div_coe (by norm_num)]

end Cert.Mix

namespace Cert.Kernel11Ideal.Mix

open Idealize.ShloMosaic Idealize.ShloMosaic.TcCoe
open Cert.Kernel11Ideal Cert.Kernel11Ideal.Gen
open Cert.Ffn (inv hid)
open Cert.Mix
open scoped BigOperators

theorem off0 : (![0, 0] : Fin 2 → ℕ) = fun _ => 0 := by
  funext a
  match a with
  | ⟨0, _⟩ => rfl
  | ⟨1, _⟩ => rfl

theorem proj_at (x : Vec Ideal S256x1024 .f32) (g : Vec Ideal S1x1024 .f32) (w : Vec Ideal S1280x1024 .bf16) (r : Fin 256) (n : Fin 1280) :
    k0_pay4 x g w (ix2 r n) = zz (fun k => x (ix2 r k)) (fun k => g (ix2 0 k)) (fun n k => w (ix2 n k)) n := by
  pointwise [k0_pay4]
  rw [Cert.Ffn.ofBits_1024th]
  rfl

theorem up_at (z : Vec Ideal S256x1280 .f32) (g : Vec Ideal S1x128 .f32) (w : Vec Ideal S1024x128 .bf16) (r : Fin 256) (n : Fin 1024) :
    k0_pay56 z g w (ix2 r n) = kv (fun n => z (ix2 r n)) (fun k => g (ix2 0 k)) (fun n k => w (ix2 n k)) n := by
  pointwise [k0_pay56]
  rw [ofBits_128th]
  rfl

theorem v0_at (K : Vec Ideal S256x1024 .f32) (r : Fin 256) (d : Fin 128) : ((k0_pay22 (F := Ideal) K : Vec Ideal S1x256x128 .bf16) (ix3 0 r d) : EReal) = K (ix2 r (hv 0 d)) := by
  pointwise [k0_pay22, k0_pay21]
  exact congrArg (fun z => K (ix2 r z)) (Fin.ext (by simp [hv]))

theorem v1_at (K : Vec Ideal S256x1024 .f32) (r : Fin 256) (d : Fin 128) : ((k0_pay33 (F := Ideal) K : Vec Ideal S1x256x128 .bf16) (ix3 0 r d) : EReal) = K (ix2 r (hv 1 d)) := by
  pointwise [k0_pay33, k0_pay32]
  exact congrArg (fun z => K (ix2 r z)) (Fin.ext (by simp [hv]))

theorem v2_at (K : Vec Ideal S256x1024 .f32) (r : Fin 256) (d : Fin 128) : ((k0_pay44 (F := Ideal) (k0_pay43 (F := Ideal) K) : Vec Ideal S1x256x128 .bf16) (ix3 0 r d) : EReal) = K (ix2 r (hv 2 d)) := by
  pointwise [k0_pay44, k0_pay43, k0_pay42]
  exact congrArg (fun z => K (ix2 r z)) (Fin.ext (by simp [hv]))

theorem v3_at (K : Vec Ideal S256x1024 .f32) (r : Fin 256) (d : Fin 128) : ((k0_pay52 (F := Ideal) K : Vec Ideal S1x256x128 .bf16) (ix3 0 r d) : EReal) = K (ix2 r (hv 3 d)) := by
  pointwise [k0_pay52, k0_pay51]
  exact congrArg (fun z => K (ix2 r z)) (Fin.ext (by simp [hv]))

theorem t0_at (K : Vec Ideal S256x1024 .f32) (d : Fin 128) (r : Fin 256) : ((k0_pay23 (F := Ideal) K : Vec Ideal S1x128x256 .bf16) (ix3 0 d r) : EReal) = K (ix2 r (hv 0 d)) := by
  pointwise [k0_pay23, k0_pay21]
  exact congrArg (fun z => K (ix2 r z)) (Fin.ext (by simp [hv]))

theorem t1_at (K : Vec Ideal S256x1024 .f32) (d : Fin 128) (r : Fin 256) : ((k0_pay34 (F := Ideal) K : Vec Ideal S1x128x256 .bf16) (ix3 0 d r) : EReal) = K (ix2 r (hv 1 d)) := by
  pointwise [k0_pay34, k0_pay32]
  exact congrArg (fun z => K (ix2 r z)) (Fin.ext (by simp [hv]))

theorem t2_at (K : Vec Ideal S256x1024 .f32) (d : Fin 128) (r : Fin 256) : ((k0_pay45 (F := Ideal) (k0_pay42 (F := Ideal) K) : Vec Ideal S1x128x256 .bf16) (ix3 0 d r) : EReal) = K (ix2 r (hv 2 d)) := by
  pointwise [k0_pay45, k0_pay42]
  exact congrArg (fun z => K (ix2 r z)) (Fin.ext (by simp [hv]))

theorem t3_at (K : Vec Ideal S256x1024 .f32) (d : Fin 128) (r : Fin 256) : ((k0_pay53 (F := Ideal) K : Vec Ideal S1x128x256 .bf16) (ix3 0 d r) : EReal) = K (ix2 r (hv 3 d)) := by
  pointwise [k0_pay53, k0_pay51]
  exact congrArg (fun z => K (ix2 r z)) (Fin.ext (by simp [hv]))

/-- Row `r` of part `s` of the tile. -/
def pr (s : Fin 4) (r : Fin 256) : Fin 1024 := ⟨256 * s.val + r.val, by have := s.isLt; have := r.isLt; omega⟩

theorem ld_rows (X : Vec Ideal S1024x1024 .f32) (s : Fin 4) {off : Fin 2 → ℕ} (h : off = ![256 * s.val, 0]) (inb) (r : Fin 256) (k : Fin 1024) :
    View.ld X (Rect.unit (s := S1024x1024) off S256x1024.size inb) (ix2 r k) = X (ix2 (pr s r) k) := by
  subst h
  refine congrArg X (funext fun a => Fin.ext ?_)
  match a with
  | ⟨0, _⟩ => show 256 * s.val + 1 * r.val = 256 * s.val + r.val; omega
  | ⟨1, _⟩ => show 0 + 1 * k.val = k.val; omega

section Tile
variable (x0 : Vec Ideal S1024x1024 .f32) (x1 x2 x3 : Vec Ideal S1024x128 .f32) (x4 : Vec Ideal S1x1024 .f32) (x5 : Vec Ideal S1280x1024 .bf16)
  (x6 : Vec Ideal S1x256 .f32) (x7 : Vec Ideal S512x256 .bf16) (x8 : Vec Ideal S1x128 .f32) (x9 : Vec Ideal S1024x128 .bf16) (x10 x11 : Vec Ideal S1x128 .f32)

/-- The tile's projected row, and its row of keys and values. -/
def Z (r : Fin 1024) : Fin 1280 → EReal := zz (fun k => x0 (ix2 r k)) (fun k => x4 (ix2 0 k)) (fun n k => x5 (ix2 n k))
def Kv (r : Fin 1024) : Fin 1024 → EReal := kv (Z x0 x4 x5 r) (fun k => x8 (ix2 0 k)) (fun n k => x9 (ix2 n k))

/-- One part's projected rows, and its keys and values. -/
abbrev zp (X : Vec Ideal S256x1024 .f32) : Vec Ideal S256x1280 .f32 := k0_pay4 X (View.ld x4 r0_1) (View.ld x5 r0_2)
abbrev kp (X : Vec Ideal S256x1024 .f32) : Vec Ideal S256x1024 .f32 := k0_pay56 (zp x4 x5 X) (View.ld x8 r0_6) (View.ld x9 r0_7)

/-- `X` is part `s` of the tile. -/
abbrev Part (s : Fin 4) (X : Vec Ideal S256x1024 .f32) : Prop := ∀ r k, X (ix2 r k) = x0 (ix2 (pr s r) k)

theorem zp_at (s : Fin 4) (X) (h : Part x0 s X) (r : Fin 256) (n : Fin 1280) : zp x4 x5 X (ix2 r n) = Z x0 x4 x5 (pr s r) n := by
  unfold zp
  rw [View.ld_unit_zero (S := S1x1024) off0, View.ld_unit_zero (S := S1280x1024) off0, proj_at]
  exact congrArg (fun q => zz q (fun k => x4 (ix2 0 k)) (fun n k => x5 (ix2 n k)) n) (funext fun k => h r k)

theorem kp_at (s : Fin 4) (X) (h : Part x0 s X) (r : Fin 256) (n : Fin 1024) : kp x4 x5 x8 x9 X (ix2 r n) = Kv x0 x4 x5 x8 x9 (pr s r) n := by
  unfold kp
  rw [View.ld_unit_zero (S := S1x128) off0, View.ld_unit_zero (S := S1024x128) off0, up_at]
  exact congrArg (fun q => kv q (fun k => x8 (ix2 0 k)) (fun n k => x9 (ix2 n k)) n) (funext fun k => zp_at x0 x4 x5 s X h r k)

def G12 (y : S1024x1280.Idx) : EReal := Z x0 x4 x5 (y 0) (y 1)
def G15 (y : S4x1024x128.Idx) : EReal := Kv x0 x4 x5 x8 x9 (y 1) (hv (y 0) (y 2))
def G17 (y : S4x128x1024.Idx) : EReal := Kv x0 x4 x5 x8 x9 (y 2) (hv (y 0) (y 1))

theorem piece12 (s : Fin 4) {off : Fin 2 → ℕ} (h : off = ![256 * s.val, 0]) (inb') (X) (hX : Part x0 s X) (p : Vec Ideal S256x1280 .f32) (hp : p = zp x4 x5 X)
    (x : (Rect.unit (s := S1024x1280) off S256x1280.size inb').shape.Idx) : p x = G12 x0 x4 x5 ((Rect.unit (s := S1024x1280) off S256x1280.size inb').emb x) := by
  subst hp
  have e : x = ix2 (x 0) (x 1) := funext fun a => match a with | ⟨0, _⟩ => rfl | ⟨1, _⟩ => rfl
  have he : (Rect.unit (s := S1024x1280) off S256x1280.size inb').emb (ix2 (x 0) (x 1)) = ix2 (pr s (x 0)) (x 1) := by
    subst h
    funext a
    refine Fin.ext ?_
    match a with
    | ⟨0, _⟩ => show 256 * s.val + 1 * (x 0).val = 256 * s.val + (x 0).val; omega
    | ⟨1, _⟩ => show 0 + 1 * (x 1).val = (x 1).val; omega
  rw [e]
  exact (zp_at x0 x4 x5 s X hX (x 0) (x 1)).trans (congrArg (G12 x0 x4 x5) he).symm

theorem piece15 (s h : Fin 4) (X) (hX : Part x0 s X) {off' : Fin 3 → ℕ} (ho' : off' = ![h.val, 256 * s.val, 0]) (inb') (p : Vec Ideal S1x256x128 .bf16)
    (hp : ∀ r d, (p (ix3 0 r d) : EReal) = kp x4 x5 x8 x9 X (ix2 r (hv h d)))
    (x : (Rect.unit (s := S4x1024x128) off' S1x256x128.size inb').shape.Idx) : p x = G15 x0 x4 x5 x8 x9 ((Rect.unit (s := S4x1024x128) off' S1x256x128.size inb').emb x) := by
  have z : x 0 = (0 : Fin 1) := Subsingleton.elim (α := Fin 1) _ _
  have e : x = ix3 0 (x 1) (x 2) := funext fun a => match a with | ⟨0, _⟩ => z | ⟨1, _⟩ => rfl | ⟨2, _⟩ => rfl
  have he : (Rect.unit (s := S4x1024x128) off' S1x256x128.size inb').emb (ix3 0 (x 1) (x 2)) = ix3 h (pr s (x 1)) (x 2) := by
    subst ho'
    funext a
    refine Fin.ext ?_
    match a with
    | ⟨0, _⟩ => show h.val + 1 * 0 = h.val; omega
    | ⟨1, _⟩ => show 256 * s.val + 1 * (x 1).val = 256 * s.val + (x 1).val; omega
    | ⟨2, _⟩ => show 0 + 1 * (x 2).val = (x 2).val; omega
  rw [e]
  exact ((hp (x 1) (x 2)).trans (kp_at x0 x4 x5 x8 x9 s X hX (x 1) (hv h (x 2)))).trans (congrArg (G15 x0 x4 x5 x8 x9) he).symm

theorem piece17 (s h : Fin 4) (X) (hX : Part x0 s X) {off' : Fin 3 → ℕ} (ho' : off' = ![h.val, 0, 256 * s.val]) (inb') (p : Vec Ideal S1x128x256 .bf16)
    (hp : ∀ d r, (p (ix3 0 d r) : EReal) = kp x4 x5 x8 x9 X (ix2 r (hv h d)))
    (x : (Rect.unit (s := S4x128x1024) off' S1x128x256.size inb').shape.Idx) : p x = G17 x0 x4 x5 x8 x9 ((Rect.unit (s := S4x128x1024) off' S1x128x256.size inb').emb x) := by
  have z : x 0 = (0 : Fin 1) := Subsingleton.elim (α := Fin 1) _ _
  have e : x = ix3 0 (x 1) (x 2) := funext fun a => match a with | ⟨0, _⟩ => z | ⟨1, _⟩ => rfl | ⟨2, _⟩ => rfl
  have he : (Rect.unit (s := S4x128x1024) off' S1x128x256.size inb').emb (ix3 0 (x 1) (x 2)) = ix3 h (x 1) (pr s (x 2)) := by
    subst ho'
    funext a
    refine Fin.ext ?_
    match a with
    | ⟨0, _⟩ => show h.val + 1 * 0 = h.val; omega
    | ⟨1, _⟩ => show 0 + 1 * (x 1).val = (x 1).val; omega
    | ⟨2, _⟩ => show 256 * s.val + 1 * (x 2).val = 256 * s.val + (x 2).val; omega
  rw [e]
  exact ((hp (x 1) (x 2)).trans (kp_at x0 x4 x5 x8 x9 s X hX (x 2) (hv h (x 1)))).trans (congrArg (G17 x0 x4 x5 x8 x9) he).symm

theorem out12_at (r : Fin 1024) (n : Fin 1280) : out0_12 x0 x1 x2 x3 x4 x5 x6 x7 x8 x9 x10 x11 (ix2 r n) = Z x0 x4 x5 r n := by
  unfold out0_12
  refine (View.canon_apply_of_pieces (G12 x0 x4 x5) _ ?_ (ix2 r n) (cover0_12 _ _ _ _ _)).trans rfl
  intro p hp
  simp only [List.mem_cons, List.not_mem_nil, or_false] at hp
  rcases hp with rfl | rfl | rfl | rfl
  · exact piece12 x0 x4 x5 3 rfl inb_S1024x1280_S256x1280_768_0 (View.ld x0 r0_30) (ld_rows x0 3 rfl _) _ rfl
  · exact piece12 x0 x4 x5 2 rfl inb_S1024x1280_S256x1280_512_0 (View.ld x0 r0_19) (ld_rows x0 2 rfl _) _ rfl
  · exact piece12 x0 x4 x5 1 rfl inb_S1024x1280_S256x1280_256_0 (View.ld x0 r0_8) (ld_rows x0 1 rfl _) _ rfl
  · exact piece12 x0 x4 x5 0 rfl inb_S1024x1280_S256x1280_0_0 (View.ld x0 r0_0) (ld_rows x0 0 rfl _) _ rfl

theorem kp0 : k0_pay187 x0 x1 x2 x3 x4 x5 x6 x7 x8 x9 x10 x11 = kp x4 x5 x8 x9 (View.ld x0 r0_0) := rfl
theorem kp1 : k0_pay195 x0 x1 x2 x3 x4 x5 x6 x7 x8 x9 x10 x11 = kp x4 x5 x8 x9 (View.ld x0 r0_8) := rfl
theorem kp2 : k0_pay205 x0 x1 x2 x3 x4 x5 x6 x7 x8 x9 x10 x11 = kp x4 x5 x8 x9 (View.ld x0 r0_19) := rfl
theorem kp3 : k0_pay214 x0 x1 x2 x3 x4 x5 x6 x7 x8 x9 x10 x11 = kp x4 x5 x8 x9 (View.ld x0 r0_30) := rfl

theorem out15_at (h : Fin 4) (r : Fin 1024) (d : Fin 128) : out0_15 x0 x1 x2 x3 x4 x5 x6 x7 x8 x9 x10 x11 (ix3 h r d) = Kv x0 x4 x5 x8 x9 r (hv h d) := by
  unfold out0_15
  rw [kp0, kp1, kp2, kp3]
  refine (View.canon_apply_of_pieces (G15 x0 x4 x5 x8 x9) _ ?_ (ix3 h r d) (cover0_15 _ _ _ _ _ _ _ _ _ _ _ _ _ _ _ _ _)).trans rfl
  intro p hp
  simp only [List.mem_cons, List.not_mem_nil, or_false] at hp
  rcases hp with rfl | rfl | rfl | rfl | rfl | rfl | rfl | rfl | rfl | rfl | rfl | rfl | rfl | rfl | rfl | rfl
  · exact piece15 x0 x4 x5 x8 x9 3 3 (View.ld x0 r0_30) (ld_rows x0 3 rfl _) rfl inb_S4x1024x128_S1x256x128_3_768_0 _ (v3_at _)
  · exact piece15 x0 x4 x5 x8 x9 3 2 (View.ld x0 r0_30) (ld_rows x0 3 rfl _) rfl inb_S4x1024x128_S1x256x128_2_768_0 _ (v2_at _)
  · exact piece15 x0 x4 x5 x8 x9 3 1 (View.ld x0 r0_30) (ld_rows x0 3 rfl _) rfl inb_S4x1024x128_S1x256x128_1_768_0 _ (v1_at _)
  · exact piece15 x0 x4 x5 x8 x9 3 0 (View.ld x0 r0_30) (ld_rows x0 3 rfl _) rfl inb_S4x1024x128_S1x256x128_0_768_0 _ (v0_at _)
  · exact piece15 x0 x4 x5 x8 x9 2 3 (View.ld x0 r0_19) (ld_rows x0 2 rfl _) rfl inb_S4x1024x128_S1x256x128_3_512_0 _ (v3_at _)
  · exact piece15 x0 x4 x5 x8 x9 2 2 (View.ld x0 r0_19) (ld_rows x0 2 rfl _) rfl inb_S4x1024x128_S1x256x128_2_512_0 _ (v2_at _)
  · exact piece15 x0 x4 x5 x8 x9 2 1 (View.ld x0 r0_19) (ld_rows x0 2 rfl _) rfl inb_S4x1024x128_S1x256x128_1_512_0 _ (v1_at _)
  · exact piece15 x0 x4 x5 x8 x9 2 0 (View.ld x0 r0_19) (ld_rows x0 2 rfl _) rfl inb_S4x1024x128_S1x256x128_0_512_0 _ (v0_at _)
  · exact piece15 x0 x4 x5 x8 x9 1 3 (View.ld x0 r0_8) (ld_rows x0 1 rfl _) rfl inb_S4x1024x128_S1x256x128_3_256_0 _ (v3_at _)
  · exact piece15 x0 x4 x5 x8 x9 1 2 (View.ld x0 r0_8) (ld_rows x0 1 rfl _) rfl inb_S4x1024x128_S1x256x128_2_256_0 _ (v2_at _)
  · exact piece15 x0 x4 x5 x8 x9 1 1 (View.ld x0 r0_8) (ld_rows x0 1 rfl _) rfl inb_S4x1024x128_S1x256x128_1_256_0 _ (v1_at _)
  · exact piece15 x0 x4 x5 x8 x9 1 0 (View.ld x0 r0_8) (ld_rows x0 1 rfl _) rfl inb_S4x1024x128_S1x256x128_0_256_0 _ (v0_at _)
  · exact piece15 x0 x4 x5 x8 x9 0 3 (View.ld x0 r0_0) (ld_rows x0 0 rfl _) rfl inb_S4x1024x128_S1x256x128_3_0_0 _ (v3_at _)
  · exact piece15 x0 x4 x5 x8 x9 0 2 (View.ld x0 r0_0) (ld_rows x0 0 rfl _) rfl inb_S4x1024x128_S1x256x128_2_0_0 _ (v2_at _)
  · exact piece15 x0 x4 x5 x8 x9 0 1 (View.ld x0 r0_0) (ld_rows x0 0 rfl _) rfl inb_S4x1024x128_S1x256x128_1_0_0 _ (v1_at _)
  · exact piece15 x0 x4 x5 x8 x9 0 0 (View.ld x0 r0_0) (ld_rows x0 0 rfl _) rfl inb_S4x1024x128_S1x256x128_0_0_0 _ (v0_at _)

theorem out17_at (h : Fin 4) (d : Fin 128) (r : Fin 1024) : out0_17 x0 x1 x2 x3 x4 x5 x6 x7 x8 x9 x10 x11 (ix3 h d r) = Kv x0 x4 x5 x8 x9 r (hv h d) := by
  unfold out0_17
  rw [kp0, kp1, kp2, kp3]
  refine (View.canon_apply_of_pieces (G17 x0 x4 x5 x8 x9) _ ?_ (ix3 h d r) (cover0_17 _ _ _ _ _ _ _ _ _ _ _ _ _ _ _ _ _)).trans rfl
  intro p hp
  simp only [List.mem_cons, List.not_mem_nil, or_false] at hp
  rcases hp with rfl | rfl | rfl | rfl | rfl | rfl | rfl | rfl | rfl | rfl | rfl | rfl | rfl | rfl | rfl | rfl
  · exact piece17 x0 x4 x5 x8 x9 3 3 (View.ld x0 r0_30) (ld_rows x0 3 rfl _) rfl inb_S4x128x1024_S1x128x256_3_0_768 _ (t3_at (kp x4 x5 x8 x9 (View.ld x0 r0_30)))
  · exact piece17 x0 x4 x5 x8 x9 3 2 (View.ld x0 r0_30) (ld_rows x0 3 rfl _) rfl inb_S4x128x1024_S1x128x256_2_0_768 _ (t2_at (kp x4 x5 x8 x9 (View.ld x0 r0_30)))
  · exact piece17 x0 x4 x5 x8 x9 3 1 (View.ld x0 r0_30) (ld_rows x0 3 rfl _) rfl inb_S4x128x1024_S1x128x256_1_0_768 _ (t1_at (kp x4 x5 x8 x9 (View.ld x0 r0_30)))
  · exact piece17 x0 x4 x5 x8 x9 3 0 (View.ld x0 r0_30) (ld_rows x0 3 rfl _) rfl inb_S4x128x1024_S1x128x256_0_0_768 _ (t0_at (kp x4 x5 x8 x9 (View.ld x0 r0_30)))
  · exact piece17 x0 x4 x5 x8 x9 2 3 (View.ld x0 r0_19) (ld_rows x0 2 rfl _) rfl inb_S4x128x1024_S1x128x256_3_0_512 _ (t3_at (kp x4 x5 x8 x9 (View.ld x0 r0_19)))
  · exact piece17 x0 x4 x5 x8 x9 2 2 (View.ld x0 r0_19) (ld_rows x0 2 rfl _) rfl inb_S4x128x1024_S1x128x256_2_0_512 _ (t2_at (kp x4 x5 x8 x9 (View.ld x0 r0_19)))
  · exact piece17 x0 x4 x5 x8 x9 2 1 (View.ld x0 r0_19) (ld_rows x0 2 rfl _) rfl inb_S4x128x1024_S1x128x256_1_0_512 _ (t1_at (kp x4 x5 x8 x9 (View.ld x0 r0_19)))
  · exact piece17 x0 x4 x5 x8 x9 2 0 (View.ld x0 r0_19) (ld_rows x0 2 rfl _) rfl inb_S4x128x1024_S1x128x256_0_0_512 _ (t0_at (kp x4 x5 x8 x9 (View.ld x0 r0_19)))
  · exact piece17 x0 x4 x5 x8 x9 1 3 (View.ld x0 r0_8) (ld_rows x0 1 rfl _) rfl inb_S4x128x1024_S1x128x256_3_0_256 _ (t3_at (kp x4 x5 x8 x9 (View.ld x0 r0_8)))
  · exact piece17 x0 x4 x5 x8 x9 1 2 (View.ld x0 r0_8) (ld_rows x0 1 rfl _) rfl inb_S4x128x1024_S1x128x256_2_0_256 _ (t2_at (kp x4 x5 x8 x9 (View.ld x0 r0_8)))
  · exact piece17 x0 x4 x5 x8 x9 1 1 (View.ld x0 r0_8) (ld_rows x0 1 rfl _) rfl inb_S4x128x1024_S1x128x256_1_0_256 _ (t1_at (kp x4 x5 x8 x9 (View.ld x0 r0_8)))
  · exact piece17 x0 x4 x5 x8 x9 1 0 (View.ld x0 r0_8) (ld_rows x0 1 rfl _) rfl inb_S4x128x1024_S1x128x256_0_0_256 _ (t0_at (kp x4 x5 x8 x9 (View.ld x0 r0_8)))
  · exact piece17 x0 x4 x5 x8 x9 0 3 (View.ld x0 r0_0) (ld_rows x0 0 rfl _) rfl inb_S4x128x1024_S1x128x256_3_0_0 _ (t3_at (kp x4 x5 x8 x9 (View.ld x0 r0_0)))
  · exact piece17 x0 x4 x5 x8 x9 0 2 (View.ld x0 r0_0) (ld_rows x0 0 rfl _) rfl inb_S4x128x1024_S1x128x256_2_0_0 _ (t2_at (kp x4 x5 x8 x9 (View.ld x0 r0_0)))
  · exact piece17 x0 x4 x5 x8 x9 0 1 (View.ld x0 r0_0) (ld_rows x0 0 rfl _) rfl inb_S4x128x1024_S1x128x256_1_0_0 _ (t1_at (kp x4 x5 x8 x9 (View.ld x0 r0_0)))
  · exact piece17 x0 x4 x5 x8 x9 0 0 (View.ld x0 r0_0) (ld_rows x0 0 rfl _) rfl inb_S4x128x1024_S1x128x256_0_0_0 _ (t0_at (kp x4 x5 x8 x9 (View.ld x0 r0_0)))

end Tile

end Cert.Kernel11Ideal.Mix
end
-- ==== Proof.MixEq.lean ====
/- The input projection's result arrays, and the reference's, entry by entry. -/
module

public import proofs.«01_k».proof.Proof.MixTile
public import proofs.«01_k».proof.Proof.Gen.Reference11Ideal.Run

@[expose] public section

set_option maxRecDepth 16384

noncomputable section

namespace Cert.Reference11Ideal.Mix

open Idealize.ShloMosaic Cert.Reference11Ideal Cert.Reference11Ideal.Gen
open Cert.Ffn (inv hid)
open Cert.Mix
open scoped BigOperators

variable (x : Vec Ideal S8192x1024 .f32) (γ : Vec Ideal S1x1024 .f32) (w : Vec Ideal S1280x1024 .f32) (g : Vec Ideal S1x128 .f32) (u : Vec Ideal S1024x128 .f32)

def rH : Vec Ideal S8192x1024 .f32 :=
  mulf (F := Ideal) (φ := .f32) (mulf (F := Ideal) (φ := .f32) x (broadcastInDim S8192x1024 ![0, 1] bcast_S8192x1_S8192x1024_0_1 (Host.rsqrt (F := Ideal) (φ := .f32) (addf (F := Ideal) (φ := .f32) (Host.divf (F := Ideal) (φ := .f32) (broadcastInDim S8192x1 ![0] bcast_S8192_S8192x1_0 (Host.reduceAdd (F := Ideal) (φ := .f32) (mulf (F := Ideal) (φ := .f32) x x) (constant (F := Ideal) S_ .f32 0x00000000#32) reducesTo_S8192x1024_S8192_d1 h_S_)) (broadcastInDim S8192x1 ![] bcast_S_S8192x1 (constant (F := Ideal) S_ .f32 0x44800000#32))) (broadcastInDim S8192x1 ![] bcast_S_S8192x1 (constant (F := Ideal) S_ .f32 0x358637BD#32)))))) (broadcastInDim S8192x1024 ![0, 1] bcast_S1x1024_S8192x1024_0_1 γ)

/-- The projected rows. -/
def rZ : Vec Ideal S8192x1280 .f32 :=
  Host.dotGeneral (F := Ideal) (φ₁ := .f32) (φ₂ := .f32) dot_S8192x1024_S1024x1280_S8192x1280_1_0_0_1_n_n none (rH x γ) (transpose S1024x1280 [1, 0] w transposes_S1280x1024_S1024x1280_1_0)

def rL (y : Vec Ideal S8192x128 .f32) : Vec Ideal S8192x128 .f32 :=
  mulf (F := Ideal) (φ := .f32) (mulf (F := Ideal) (φ := .f32) y (broadcastInDim S8192x128 ![0, 1] bcast_S8192x1_S8192x128_0_1 (Host.rsqrt (F := Ideal) (φ := .f32) (addf (F := Ideal) (φ := .f32) (Host.divf (F := Ideal) (φ := .f32) (broadcastInDim S8192x1 ![0] bcast_S8192_S8192x1_0 (Host.reduceAdd (F := Ideal) (φ := .f32) (mulf (F := Ideal) (φ := .f32) y y) (constant (F := Ideal) S_ .f32 0x00000000#32) reducesTo_S8192x128_S8192_d1 h_S_)) (broadcastInDim S8192x1 ![] bcast_S_S8192x1 (constant (F := Ideal) S_ .f32 0x43000000#32))) (broadcastInDim S8192x1 ![] bcast_S_S8192x1 (constant (F := Ideal) S_ .f32 0x358637BD#32)))))) (broadcastInDim S8192x128 ![0, 1] bcast_S1x128_S8192x128_0_1 g)

/-- The keys and values before the heads are told apart. -/
def rU (z : Vec Ideal S8192x1280 .f32) : Vec Ideal S8192x1024 .f32 :=
  Host.dotGeneral (F := Ideal) (φ₁ := .f32) (φ₂ := .f32) dot_S8192x128_S128x1024_S8192x1024_1_0_0_1_n_n none (rL g (extractStridedSlice S8192x128 ![0, 256] z slices_S8192x1280_S8192x128_0_256)) (transpose S128x1024 [1, 0] u transposes_S1024x128_S128x1024_1_0)

/-- The heads' values. -/
def rV (k : Vec Ideal S8192x1024 .f32) : Vec Ideal S4x8192x128 .f32 :=
  transpose S4x8192x128 [1, 0, 2] (shapeCast S8192x4x128 (extractStridedSlice S8192x512 ![0, 512] k slices_S8192x1024_S8192x512_0_512) shapeCasts_S8192x512_S8192x4x128) transposes_S8192x4x128_S4x8192x128_1_0_2
def rT (v : Vec Ideal S4x8192x128 .f32) : Vec Ideal S4x128x8192 .f32 := transpose S4x128x8192 [0, 2, 1] v transposes_S4x8192x128_S4x128x8192_0_2_1

theorem rH_at (i : Fin 8192) (k : Fin 1024) : rH x γ (ix2 i k) = hid (fun k => x (ix2 i k)) (fun k => γ (ix2 0 k)) k := by
  pointwise [rH]
  rw [Cert.Ffn.div_1024]
  rfl

theorem rZ_at (i : Fin 8192) (n : Fin 1280) : rZ x γ w (ix2 i n) = zz (fun k => x (ix2 i k)) (fun k => γ (ix2 0 k)) (fun n k => w (ix2 n k)) n := by
  have e : rZ x γ w (ix2 i n) = ∑ k : Fin 1024, rH x γ (ix2 i k) * w (ix2 n k) := by pointwise [rZ]
  rw [e]
  exact Finset.sum_congr rfl fun k _ => congrArg (· * w (ix2 n k)) (rH_at x γ i k)

theorem rL_at (y : Vec Ideal S8192x128 .f32) (i : Fin 8192) (j : Fin 128) : rL g y (ix2 i j) = nrm (fun j => y (ix2 i j)) (fun k => g (ix2 0 k)) j := by
  pointwise [rL]
  rw [div_128]
  rfl

theorem cut_at (z : Vec Ideal S8192x1280 .f32) (i : Fin 8192) (j : Fin 128) : extractStridedSlice S8192x128 ![0, 256] z slices_S8192x1280_S8192x128_0_256 (ix2 i j) = z (ix2 i (lat j)) := by
  pointwise
  exact congrArg (fun q => z (ix2 i q)) (Fin.ext (by simp [lat]))

theorem rU_at (z : Vec Ideal S8192x1280 .f32) (i : Fin 8192) (n : Fin 1024) : rU g u z (ix2 i n) = kv (fun n => z (ix2 i n)) (fun k => g (ix2 0 k)) (fun n k => u (ix2 n k)) n := by
  have e : rU g u z (ix2 i n) = ∑ k : Fin 128, rL g (extractStridedSlice S8192x128 ![0, 256] z slices_S8192x1280_S8192x128_0_256) (ix2 i k) * u (ix2 n k) := by
    unfold rU
    generalize rL g _ = l
    pointwise
  rw [e]
  refine Finset.sum_congr rfl fun k _ => congrArg (· * u (ix2 n k)) ?_
  rw [rL_at]
  exact congrArg (fun q => nrm q (fun k => g (ix2 0 k)) k) (funext fun j => cut_at z i j)

theorem rV_at (k : Vec Ideal S8192x1024 .f32) (h : Fin 4) (i : Fin 8192) (d : Fin 128) : rV k (ix3 h i d) = k (ix2 i (hv h d)) := by
  pointwise [rV]
  exact congrArg (fun q => k (ix2 i q)) (Fin.ext (by simp [hv]; omega))

theorem rT_at (v : Vec Ideal S4x8192x128 .f32) (h : Fin 4) (d : Fin 128) (i : Fin 8192) : rT v (ix3 h d i) = v (ix3 h i d) := by
  pointwise [rT]

/-- The reference's three results. -/
abbrev oZ := rZ x γ w
abbrev oV := rV (rU g u (rZ x γ w))
abbrev oT := rT (oV x γ w g u)

theorem oV_at (h : Fin 4) (i : Fin 8192) (d : Fin 128) : oV x γ w g u (ix3 h i d)
    = kv (zz (fun k => x (ix2 i k)) (fun k => γ (ix2 0 k)) (fun n k => w (ix2 n k))) (fun k => g (ix2 0 k)) (fun n k => u (ix2 n k)) (hv h d) := by
  refine (rV_at _ h i d).trans ((rU_at g u _ i _).trans ?_)
  exact congrArg (fun q => kv q (fun k => g (ix2 0 k)) (fun n k => u (ix2 n k)) (hv h d)) (funext fun n => rZ_at x γ w i n)

end Cert.Reference11Ideal.Mix

namespace Cert.Kernel11Ideal.Mix

open Idealize.ShloMosaic Idealize.ShloMosaic.TcCoe
open Cert.Kernel11Ideal Cert.Kernel11Ideal.Gen
open Cert.Ffn (inv hid)
open Cert.Mix
open Cert.Reference11Ideal.Mix (oZ oV oT)
open scoped BigOperators

variable (m : (ℓ : Loc nD τ sig) → Buf (Elt Ideal) ℓ) (c : Dev nD)

abbrev A0 : Vec Ideal S8192x1024 .f32 := m ((c : Thread nD τ).loc main_arg0)
abbrev A4 : Vec Ideal S1x1024 .f32 := m ((c : Thread nD τ).loc main_arg4)
abbrev A5 : Vec Ideal S1280x1024 .f32 := m ((c : Thread nD τ).loc main_arg5)
abbrev A8 : Vec Ideal S1x128 .f32 := m ((c : Thread nD τ).loc main_arg8)
abbrev A9 : Vec Ideal S1024x128 .f32 := m ((c : Thread nD τ).loc main_arg9)

theorem main_v0_at (i) : (V m c main_v0 : Vec Ideal S1280x1024 .bf16) i = A5 m c i := by
  have e : (V m c main_v0 : Vec Ideal S1280x1024 .bf16) = (truncf (F := Ideal) (φ := .f32) .bf16 (A5 m c) bitsLt_bf16_f32 : Vec Ideal S1280x1024 .bf16) := by
    dsimp only [V, hostOps0]
    after_results
  rw [e]
  rfl
theorem main_v2_at (i) : (V m c main_v2 : Vec Ideal S1024x128 .bf16) i = A9 m c i := by
  have e : (V m c main_v2 : Vec Ideal S1024x128 .bf16) = (truncf (F := Ideal) (φ := .f32) .bf16 (A9 m c) bitsLt_bf16_f32 : Vec Ideal S1024x128 .bf16) := by
    dsimp only [V, hostOps0]
    after_results
  rw [e]
  rfl

def row (t : Fin cfg0.N) (r : Fin 1024) : Fin 8192 := ⟨1024 * t.val + r.val, by have h := lt_of_lt_of_eq t.isLt (show cfg0.N = 8 from N_0); have := r.isLt; omega⟩

theorem index0 : ∀ t : Fin cfg0.N, win0_0.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index12 : ∀ t : Fin cfg0.N, win0_12.index t = ![t.val, 0] := (by decide +kernel : ∀ t : Fin grid0.N, _)
theorem index15 : ∀ t : Fin cfg0.N, win0_15.index t = ![0, t.val, 0] := (by decide +kernel : ∀ t : Fin grid0.N, _)
theorem index17 : ∀ t : Fin cfg0.N, win0_17.index t = ![0, 0, t.val] := (by decide +kernel : ∀ t : Fin grid0.N, _)

theorem blk0 (t : Fin cfg0.N) (r : Fin 1024) (k : Fin 1024) : (iblk m c 0 t : Vec Ideal S1024x1024 .f32) (ix2 r k) = A0 m c (ix2 (row t r) k) := by
  rw [← show V m c main_arg0 = A0 m c from V_main_arg0 m c]
  unfold iblk
  rw [View.read_apply]
  refine congrArg (V m c main_arg0 : Vec Ideal S8192x1024 .f32) (funext fun a => Fin.ext ?_)
  have e0 : win0_0.index t 0 = t.val := congrFun (index0 t) 0
  have e1 : win0_0.index t 1 = 0 := congrFun (index0 t) 1
  match a with
  | ⟨0, _⟩ => show win0_0.index t 0 * 1024 + 1 * r.val = 1024 * t.val + r.val; rw [e0]; omega
  | ⟨1, _⟩ => show win0_0.index t 1 * 1024 + 1 * k.val = k.val; rw [e1]; omega

theorem blk4 (t : Fin cfg0.N) (k : Fin 1024) : (iblk m c 4 t : Vec Ideal S1x1024 .f32) (ix2 0 k) = A4 m c (ix2 0 k) := by
  rw [← show V m c main_arg4 = A4 m c from V_main_arg4 m c]
  unfold iblk
  rw [View.read_apply]
  refine congrArg (V m c main_arg4 : Vec Ideal S1x1024 .f32) (funext fun a => Fin.ext ?_)
  have e0 : win0_4.index t 0 = 0 := congrFun (index4 t) 0
  have e1 : win0_4.index t 1 = 0 := congrFun (index4 t) 1
  match a with
  | ⟨0, _⟩ => show win0_4.index t 0 * 1 + 1 * 0 = 0; rw [e0]
  | ⟨1, _⟩ => show win0_4.index t 1 * 1024 + 1 * k.val = k.val; rw [e1]; omega

theorem blk8 (t : Fin cfg0.N) (k : Fin 128) : (iblk m c 8 t : Vec Ideal S1x128 .f32) (ix2 0 k) = A8 m c (ix2 0 k) := by
  rw [← show V m c main_arg8 = A8 m c from V_main_arg8 m c]
  unfold iblk
  rw [View.read_apply]
  refine congrArg (V m c main_arg8 : Vec Ideal S1x128 .f32) (funext fun a => Fin.ext ?_)
  have e0 : win0_8.index t 0 = 0 := congrFun (index8 t) 0
  have e1 : win0_8.index t 1 = 0 := congrFun (index8 t) 1
  match a with
  | ⟨0, _⟩ => show win0_8.index t 0 * 1 + 1 * 0 = 0; rw [e0]
  | ⟨1, _⟩ => show win0_8.index t 1 * 128 + 1 * k.val = k.val; rw [e1]; omega

theorem blk5 (t : Fin cfg0.N) (n : Fin 1280) (k : Fin 1024) : (iblk m c 5 t : Vec Ideal S1280x1024 .bf16) (ix2 n k) = A5 m c (ix2 n k) := by
  rw [← main_v0_at m c]
  unfold iblk
  rw [View.read_apply]
  refine congrArg (V m c main_v0 : Vec Ideal S1280x1024 .bf16) (funext fun a => Fin.ext ?_)
  have e0 : win0_5.index t 0 = 0 := congrFun (index5 t) 0
  have e1 : win0_5.index t 1 = 0 := congrFun (index5 t) 1
  match a with
  | ⟨0, _⟩ => show win0_5.index t 0 * 1280 + 1 * n.val = n.val; rw [e0]; omega
  | ⟨1, _⟩ => show win0_5.index t 1 * 1024 + 1 * k.val = k.val; rw [e1]; omega

theorem blk9 (t : Fin cfg0.N) (n : Fin 1024) (k : Fin 128) : (iblk m c 9 t : Vec Ideal S1024x128 .bf16) (ix2 n k) = A9 m c (ix2 n k) := by
  rw [← main_v2_at m c]
  unfold iblk
  rw [View.read_apply]
  refine congrArg (V m c main_v2 : Vec Ideal S1024x128 .bf16) (funext fun a => Fin.ext ?_)
  have e0 : win0_9.index t 0 = 0 := congrFun (index9 t) 0
  have e1 : win0_9.index t 1 = 0 := congrFun (index9 t) 1
  match a with
  | ⟨0, _⟩ => show win0_9.index t 0 * 1024 + 1 * n.val = n.val; rw [e0]; omega
  | ⟨1, _⟩ => show win0_9.index t 1 * 128 + 1 * k.val = k.val; rw [e1]; omega

theorem Z_eq (t : Fin cfg0.N) (r : Fin 1024) : Z (iblk m c 0 t) (iblk m c 4 t) (iblk m c 5 t) r
    = zz (fun k => A0 m c (ix2 (row t r) k)) (fun k => A4 m c (ix2 0 k)) (fun n k => A5 m c (ix2 n k)) := by
  have e0 : (fun k => (iblk m c 0 t : Vec Ideal S1024x1024 .f32) (ix2 r k)) = fun k => A0 m c (ix2 (row t r) k) := funext fun k => blk0 m c t r k
  have e4 : (fun k => (iblk m c 4 t : Vec Ideal S1x1024 .f32) (ix2 0 k)) = fun k => A4 m c (ix2 0 k) := funext fun k => blk4 m c t k
  have e5 : (fun n k => (iblk m c 5 t : Vec Ideal S1280x1024 .bf16) (ix2 n k)) = fun n k => A5 m c (ix2 n k) := funext fun n => funext fun k => blk5 m c t n k
  unfold Z
  rw [e0, e4, e5]

theorem Kv_eq (t : Fin cfg0.N) (r : Fin 1024) : Kv (iblk m c 0 t) (iblk m c 4 t) (iblk m c 5 t) (iblk m c 8 t) (iblk m c 9 t) r
    = kv (zz (fun k => A0 m c (ix2 (row t r) k)) (fun k => A4 m c (ix2 0 k)) (fun n k => A5 m c (ix2 n k))) (fun k => A8 m c (ix2 0 k)) (fun n k => A9 m c (ix2 n k)) := by
  have e8 : (fun k => (iblk m c 8 t : Vec Ideal S1x128 .f32) (ix2 0 k)) = fun k => A8 m c (ix2 0 k) := funext fun k => blk8 m c t k
  have e9 : (fun n k => (iblk m c 9 t : Vec Ideal S1024x128 .bf16) (ix2 n k)) = fun n k => A9 m c (ix2 n k) := funext fun n => funext fun k => blk9 m c t n k
  unfold Kv
  rw [Z_eq, e8, e9]

theorem covers12 : (cfg0.win 12).Covers := by decide +kernel
theorem covers15 : (cfg0.win 15).Covers := by decide +kernel
theorem covers17 : (cfg0.win 17).Covers := by decide +kernel

theorem tile12 (t : Fin cfg0.N) (r : Fin 1024) (n : Fin 1280) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n) = oZ (A0 m c) (A4 m c) (A5 m c) (ix2 (row t r) n) := by
  rw [out12_at, Z_eq]
  exact (Cert.Reference11Ideal.Mix.rZ_at _ _ _ _ _).symm

theorem tile15 (t : Fin cfg0.N) (h : Fin 4) (r : Fin 1024) (d : Fin 128) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 h r d) = oV (A0 m c) (A4 m c) (A5 m c) (A8 m c) (A9 m c) (ix3 h (row t r) d) := by
  rw [out15_at, Kv_eq]
  exact (Cert.Reference11Ideal.Mix.oV_at _ _ _ _ _ _ _ _).symm

theorem tile17 (t : Fin cfg0.N) (h : Fin 4) (d : Fin 128) (r : Fin 1024) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 h d r) = oT (A0 m c) (A4 m c) (A5 m c) (A8 m c) (A9 m c) (ix3 h d (row t r)) := by
  rw [out17_at, Kv_eq]
  exact ((Cert.Reference11Ideal.Mix.rT_at _ _ _ _).trans (Cert.Reference11Ideal.Mix.oV_at _ _ _ _ _ _ _ _)).symm

theorem arr12 : (dats m 0 c).arrAt 12 cfg0.N = oZ (A0 m c) (A4 m c) (A5 m c) := by
  refine (dats m 0 c).arrAt_eq_of_covers 12 _ covers12 fun t hf y => ?_
  have hy : y = ix2 (y (0 : Fin 2)) (y (1 : Fin 2)) := funext fun b => match b with | ⟨0, _⟩ => rfl | ⟨1, _⟩ => rfl
  have he : ((cfg0.win 12).blk t).view.emb y = (ix2 (row t (y (0 : Fin 2))) (y (1 : Fin 2)) : S8192x1280.Idx) := by
    funext a
    refine Fin.ext ?_
    have e0 : win0_12.index t 0 = t.val := congrFun (index12 t) 0
    have e1 : win0_12.index t 1 = 0 := congrFun (index12 t) 1
    match a with
    | ⟨0, _⟩ => show win0_12.index t 0 * 1024 + 1 * (y (0 : Fin 2)).val = 1024 * t.val + (y (0 : Fin 2)).val; rw [e0]; omega
    | ⟨1, _⟩ => show win0_12.index t 1 * 1280 + 1 * (y (1 : Fin 2)).val = (y (1 : Fin 2)).val; rw [e1]; omega
  refine Eq.trans ?_ ((tile12 m c t (y (0 : Fin 2)) (y (1 : Fin 2))).trans (congrArg ((oZ (A0 m c) (A4 m c) (A5 m c)) : S8192x1280.Idx → EReal) he.symm))
  exact (congrFun (after0_12 m c t) y).trans (congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy)

theorem arr15 : (dats m 0 c).arrAt 15 cfg0.N = oV (A0 m c) (A4 m c) (A5 m c) (A8 m c) (A9 m c) := by
  refine (dats m 0 c).arrAt_eq_of_covers 15 _ covers15 fun t hf y => ?_
  have hy : y = ix3 (y (0 : Fin 3)) (y (1 : Fin 3)) (y (2 : Fin 3)) := funext fun b => match b with | ⟨0, _⟩ => rfl | ⟨1, _⟩ => rfl | ⟨2, _⟩ => rfl
  have he : ((cfg0.win 15).blk t).view.emb y = (ix3 (y (0 : Fin 3)) (row t (y (1 : Fin 3))) (y (2 : Fin 3)) : S4x8192x128.Idx) := by
    funext a
    refine Fin.ext ?_
    have e0 : win0_15.index t 0 = 0 := congrFun (index15 t) 0
    have e1 : win0_15.index t 1 = t.val := congrFun (index15 t) 1
    have e2 : win0_15.index t 2 = 0 := congrFun (index15 t) 2
    match a with
    | ⟨0, _⟩ => show win0_15.index t 0 * 4 + 1 * (y (0 : Fin 3)).val = (y (0 : Fin 3)).val; rw [e0]; omega
    | ⟨1, _⟩ => show win0_15.index t 1 * 1024 + 1 * (y (1 : Fin 3)).val = 1024 * t.val + (y (1 : Fin 3)).val; rw [e1]; omega
    | ⟨2, _⟩ => show win0_15.index t 2 * 128 + 1 * (y (2 : Fin 3)).val = (y (2 : Fin 3)).val; rw [e2]; omega
  refine Eq.trans ?_ ((tile15 m c t (y (0 : Fin 3)) (y (1 : Fin 3)) (y (2 : Fin 3))).trans (congrArg ((oV (A0 m c) (A4 m c) (A5 m c) (A8 m c) (A9 m c)) : S4x8192x128.Idx → EReal) he.symm))
  exact (congrFun (after0_15 m c t) y).trans (congrArg (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy)

theorem arr17 : (dats m 0 c).arrAt 17 cfg0.N = oT (A0 m c) (A4 m c) (A5 m c) (A8 m c) (A9 m c) := by
  refine (dats m 0 c).arrAt_eq_of_covers 17 _ covers17 fun t hf y => ?_
  have hy : y = ix3 (y (0 : Fin 3)) (y (1 : Fin 3)) (y (2 : Fin 3)) := funext fun b => match b with | ⟨0, _⟩ => rfl | ⟨1, _⟩ => rfl | ⟨2, _⟩ => rfl
  have he : ((cfg0.win 17).blk t).view.emb y = (ix3 (y (0 : Fin 3)) (y (1 : Fin 3)) (row t (y (2 : Fin 3))) : S4x128x8192.Idx) := by
    funext a
    refine Fin.ext ?_
    have e0 : win0_17.index t 0 = 0 := congrFun (index17 t) 0
    have e1 : win0_17.index t 1 = 0 := congrFun (index17 t) 1
    have e2 : win0_17.index t 2 = t.val := congrFun (index17 t) 2
    match a with
    | ⟨0, _⟩ => show win0_17.index t 0 * 4 + 1 * (y (0 : Fin 3)).val = (y (0 : Fin 3)).val; rw [e0]; omega
    | ⟨1, _⟩ => show win0_17.index t 1 * 128 + 1 * (y (1 : Fin 3)).val = (y (1 : Fin 3)).val; rw [e1]; omega
    | ⟨2, _⟩ => show win0_17.index t 2 * 1024 + 1 * (y (2 : Fin 3)).val = 1024 * t.val + (y (2 : Fin 3)).val; rw [e2]; omega
  refine Eq.trans ?_ ((tile17 m c t (y (0 : Fin 3)) (y (1 : Fin 3)) (y (2 : Fin 3))).trans (congrArg ((oT (A0 m c) (A4 m c) (A5 m c) (A8 m c) (A9 m c)) : S4x128x8192.Idx → EReal) he.symm))
  exact (congrFun (after0_17 m c t) y).trans (congrArg (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hy)

end Cert.Kernel11Ideal.Mix
end
-- ==== Proof.OutMath.lean ====
/- The mixers' mathematics, entry by entry: the gated mixer, the pooled mixer, the three normalised branches and the output projection. -/
module

public import Idealize.ShloMosaic.Lib.IdealHost
public import Idealize.ShloMosaic.Lib.Pointwise

@[expose] public section

noncomputable section

namespace Cert.Out

open Idealize.ShloMosaic
open scoped BigOperators

/-- A row over the root of its mean square, with the small constant under the root, times the gain; `c` is one over the row's length. -/
def nz {n : ℕ} (c : ℝ) (y γ : Fin n → EReal) (j : Fin n) : EReal :=
  y j * Ideal.rsqrt ((∑ k, y k * y k) * (c : EReal) + Ideal.ofBits .f32 0x358637BD#32) * γ j

/-- The arguments of the call, entry by entry. -/
structure Args where
  x : Fin 8192 → Fin 1024 → EReal
  a : Fin 8192 → Fin 512 → EReal
  z : Fin 8192 → Fin 1280 → EReal
  gs : Fin 256 → EReal
  wc : Fin 128 → Fin 512 → EReal
  bz : Fin 128 → Fin 256 → EReal
  wp : Fin 256 → Fin 256 → EReal
  ps : Fin 256 → EReal
  ga : Fin 512 → EReal
  go : Fin 256 → EReal
  gp : Fin 256 → EReal
  wo : Fin 1024 → Fin 1024 → EReal

/-- The columns of the gate, of what it gates, and of what is pooled. -/
def cU (c : Fin 256) : Fin 1280 := ⟨512 + c.val, by have := c.isLt; omega⟩
def cV (c : Fin 256) : Fin 1280 := ⟨768 + c.val, by have := c.isLt; omega⟩
def cP (c : Fin 256) : Fin 1280 := ⟨1024 + c.val, by have := c.isLt; omega⟩

/-- Column `s` of head `h`'s weights, and of the head of column `c`. -/
def hcol (h : Fin 4) (s : Fin 128) : Fin 512 := ⟨128 * h.val + s.val, by have := h.isLt; have := s.isLt; omega⟩
def head (c : Fin 256) : Fin 4 := ⟨c.val / 64, by have := c.isLt; omega⟩

/-- A row's place in its chunk, and row `s` of the chunk. -/
def inC (R : Fin 8192) : Fin 128 := ⟨R.val % 128, by omega⟩
def chk (R : Fin 8192) (s : Fin 128) : Fin 8192 := ⟨128 * (R.val / 128) + s.val, by have := R.isLt; have := s.isLt; omega⟩

/-- A running sum doubled: with the same one `d` rows before. -/
def dbl (d : ℕ) (f : ℕ → EReal) (n : ℕ) : EReal := f n + f (n - d)

/-- Which of four a column takes, by its group. -/
def pick {α : Type} (c : Fin 256) (p q r s : α) : α := if c.val < 64 then p else if c.val < 128 then q else if c.val < 192 then r else s

variable (A : Args)

def vn (R : Fin 8192) (c : Fin 256) : EReal := nz (1 / 256) (fun c => A.z R (cV c)) A.gs c
def gt (R : Fin 8192) (c : Fin 256) : EReal := A.z R (cU c) * ((∑ s, A.wc (inC R) (hcol (head c) s) * vn A (chk R s) c) + A.bz (inC R) c)

/-- The pooled column with sixteen zeros before it. -/
def bef (c : Fin 256) (n : ℕ) : EReal := if h : 16 ≤ n ∧ n < 8208 then A.z ⟨n - 16, by omega⟩ (cP c) else 0

def s2 (c : Fin 256) : ℕ → EReal := dbl 1 (bef A c)
def s4 (c : Fin 256) : ℕ → EReal := dbl 2 (s2 A c)
def s8 (c : Fin 256) : ℕ → EReal := dbl 4 (s4 A c)
def s16 (c : Fin 256) : ℕ → EReal := dbl 8 (s8 A c)

def wid (c : Fin 256) : EReal := pick c (Ideal.ofBits .f32 0x40000000#32) (Ideal.ofBits .f32 0x40800000#32) (Ideal.ofBits .f32 0x41000000#32) (Ideal.ofBits .f32 0x41800000#32)
def cnt (R : Fin 8192) : EReal := ((R.val + 1 : ℝ) : EReal)
def mn (R : Fin 8192) (c : Fin 256) : EReal :=
  Ideal.div (pick c (s2 A c (16 + R.val)) (s4 A c (16 + R.val)) (s8 A c (16 + R.val)) (s16 A c (16 + R.val))) (min (cnt R) (wid c)) - A.z R (cP c)
def pl (R : Fin 8192) (c : Fin 256) : EReal := (∑ k, mn A R k * A.wp k c) * A.ps c

/-- A row of three parts: 512, 256 and 256 entries. -/
def three (p : Fin 512 → EReal) (q r : Fin 256 → EReal) (k : Fin 1024) : EReal :=
  if h : k.val < 512 then p ⟨k.val, h⟩ else if h' : k.val - 512 < 256 then q ⟨k.val - 512, h'⟩ else r ⟨k.val - 512 - 256, by have := k.isLt; omega⟩

def mix (R : Fin 8192) : Fin 1024 → EReal := three (nz (1 / 512) (A.a R) A.ga) (nz (1 / 256) (gt A R) A.go) (nz (1 / 256) (pl A R) A.gp)
def out (R : Fin 8192) (c : Fin 1024) : EReal := A.x R c + ∑ k, mix A R k * A.wo k c

theorem ofBits_256th : Ideal.ofBits .f32 0x3B800000#32 = ((1 / 256 : ℝ) : EReal) := by
  simp [Ideal.ofBits, Ideal.ieee]
  rw [← EReal.coe_mul]
  norm_num

theorem ofBits_512th : Ideal.ofBits .f32 0x3B000000#32 = ((1 / 512 : ℝ) : EReal) := by
  simp [Ideal.ofBits, Ideal.ieee]
  rw [← EReal.coe_mul]
  norm_num

theorem div_256 (x : EReal) : Ideal.div x (Ideal.ofBits .f32 0x43800000#32) = x * ((1 / 256 : ℝ) : EReal) := by
  have e : Ideal.ofBits .f32 0x43800000#32 = ((256 : ℝ) : EReal) := by
    simp [Ideal.ofBits, Ideal.ieee]
    rw [← EReal.coe_mul]
    norm_num
  rw [e, Ideal.div_coe (by norm_num)]

theorem div_512 (x : EReal) : Ideal.div x (Ideal.ofBits .f32 0x44000000#32) = x * ((1 / 512 : ℝ) : EReal) := by
  have e : Ideal.ofBits .f32 0x44000000#32 = ((512 : ℝ) : EReal) := by
    simp [Ideal.ofBits, Ideal.ieee]
    rw [← EReal.coe_mul]
    norm_num
  rw [e, Ideal.div_coe (by norm_num)]

theorem ofBits_one : Ideal.ofBits .f32 0x3F800000#32 = ((1 : ℝ) : EReal) := by
  simp [Ideal.ofBits, Ideal.ieee]
  rw [← EReal.coe_mul]
  norm_num

theorem exists_hcol (n : Fin 512) : ∃ h s, hcol h s = n := by
  have := n.isLt
  exact ⟨⟨n.val / 128, by omega⟩, ⟨n.val % 128, by omega⟩, Fin.ext (show 128 * (n.val / 128) + n.val % 128 = n.val by omega)⟩

theorem sum_hcol (f : Fin 512 → EReal) : ∑ n, f n = ∑ h : Fin 4, ∑ s : Fin 128, f (hcol h s) := by
  rw [← Fintype.sum_prod_type' (f := fun h s => f (hcol h s))]
  refine (Fintype.sum_bijective (fun y : Fin 4 × Fin 128 => hcol y.1 y.2) ⟨?_, ?_⟩ _ _ fun _ => rfl).symm
  · rintro ⟨a, x⟩ ⟨b, y⟩ h
    have h' : 128 * a.val + x.val = 128 * b.val + y.val := congrArg Fin.val h
    have hx := x.isLt
    have hy := y.isLt
    clear h
    exact Prod.ext (Fin.ext (show a.val = b.val by omega)) (Fin.ext (show x.val = y.val by omega))
  · intro n
    obtain ⟨h, s, e⟩ := exists_hcol n
    exact ⟨(h, s), e⟩

/-- Where only head `g`'s block is kept, the sum over all heads is that head's own. -/
theorem sum_head (g : Fin 4) (w v : Fin 512 → EReal) (u : Fin 128 → EReal) (hv : ∀ h s, v (hcol h s) = if g = h then u s else 0) :
    ∑ n, w n * v n = ∑ s, w (hcol g s) * u s := by
  rw [sum_hcol, Finset.sum_eq_single g]
  · exact Finset.sum_congr rfl fun s _ => by rw [hv, if_pos rfl]
  · intro h _ hg
    exact Finset.sum_eq_zero fun s _ => by rw [hv, if_neg fun e => hg e.symm, mul_zero]
  · exact fun h => absurd (Finset.mem_univ _) h

theorem sum_split (f : ℕ → EReal) (n d : ℕ) : (∑ i ∈ Finset.range n, f (d + i)) + ∑ i ∈ Finset.range n, f (d + n + i) = ∑ i ∈ Finset.range (n + n), f (d + i) := by
  rw [Finset.sum_range_add]
  simp only [add_assoc]

/-- `g` is the sum of `f` over the last `w` rows. -/
def Last (w : ℕ) (f g : ℕ → EReal) : Prop := ∀ n, w ≤ n + 1 → g n = ∑ i ∈ Finset.range w, f (n + 1 - w + i)

theorem last_one (f : ℕ → EReal) : Last 1 f f := fun n _ => by
  rw [Finset.sum_range_one]
  rfl

theorem last_dbl (w : ℕ) (f g : ℕ → EReal) (h : Last w f g) : Last (w + w) f (dbl w g) := fun n hn => by
  rw [dbl, h n (by omega), h (n - w) (by omega), add_comm, ← sum_split, show n - w + 1 - w = n + 1 - (w + w) by omega, show n + 1 - (w + w) + w = n + 1 - w by omega]

/-- The doubled sums are the sums over the last 2, 4, 8 and 16 rows. -/
theorem s2_last (c : Fin 256) : Last 2 (bef A c) (s2 A c) := last_dbl 1 _ _ (last_one _)
theorem s4_last (c : Fin 256) : Last 4 (bef A c) (s4 A c) := last_dbl 2 _ _ (s2_last A c)
theorem s8_last (c : Fin 256) : Last 8 (bef A c) (s8 A c) := last_dbl 4 _ _ (s4_last A c)
theorem s16_last (c : Fin 256) : Last 16 (bef A c) (s16 A c) := last_dbl 8 _ _ (s8_last A c)

end Cert.Out
end
-- ==== Proof.OutTile.lean ====
/- The mixers' output, one tile of 512 rows: the masked chunk products, the rolled sums, the normalised branches and the projection. -/
module

public import proofs.«01_k».proof.Proof.Gen.Kernel12Ideal.Value
public import proofs.«01_k».proof.Proof.OutMath
public import Idealize.ShloMosaic.Lib.Pointwise
public import Idealize.ShloMosaic.Lib.IdealHost
public import Idealize.ShloMosaic.Lib.KernelVsHost
public import Idealize.ShloMosaic.Lib.Pipeline.ValueKit

@[expose] public section

set_option maxRecDepth 16384

noncomputable section

namespace Cert.Kernel12Ideal.Out

open Idealize.ShloMosaic Idealize.ShloMosaic.TcCoe
open Cert.Kernel12Ideal Cert.Kernel12Ideal.Gen
open Cert.Out
open scoped BigOperators

theorem off0 : (![0, 0] : Fin 2 → ℕ) = fun _ => 0 := by
  funext a
  match a with
  | ⟨0, _⟩ => rfl
  | ⟨1, _⟩ => rfl

theorem vn_at (v : Vec Ideal S512x256 .f32) (g : Vec Ideal S1x256 .f32) (r : Fin 512) (c : Fin 256) :
    k0_pay3 v g (ix2 r c) = nz (1 / 256) (fun c => v (ix2 r c)) (fun c => g (ix2 0 c)) c := by
  pointwise [k0_pay3]
  rw [ofBits_256th]
  rfl

abbrev lane : IVec S128x256 32 := iota .tc S128x256 32 [1] iota_S128x256_d1_w32

/-- The lanes from `lo` on and below `hi`. -/
def mask (lo hi : BitVec 32) : IVec S128x256 1 := andi (cmpi .sge lane (broadcast S128x256 lo)) (cmpi .slt lane (broadcast S128x256 hi))

theorem lanes : ∀ (h : Fin 4) (c : Fin 256), IntOp.andi (IntOp.cmpi .sge (BitVec.ofNat 32 c.val) (BitVec.ofNat 32 (64 * h.val))) (IntOp.cmpi .slt (BitVec.ofNat 32 c.val) (BitVec.ofNat 32 (64 * h.val + 64)))
    = if head c = h then 1#1 else 0#1 := by decide +kernel

/-- A chunk's rows with the lanes of one head kept and zeros elsewhere. -/
def piece (lo hi : BitVec 32) (V : Vec Ideal S128x256 .f32) : FVec Ideal S128x256 .bf16 :=
  truncf (F := Ideal) (φ := .f32) .bf16 (select (mask lo hi) V (broadcast S128x256 (Scalar.ofBits (F := Ideal) .f32 0x00000000#32))) bitsLt_bf16_f32

theorem piece_at (lo hi : BitVec 32) (h : Fin 4) (hl : lo = BitVec.ofNat 32 (64 * h.val)) (hh : hi = BitVec.ofNat 32 (64 * h.val + 64)) (V : Vec Ideal S128x256 .f32) (s : Fin 128) (c : Fin 256) :
    (piece lo hi V (ix2 s c) : EReal) = if head c = h then V (ix2 s c) else 0 := by
  have e : mask lo hi (ix2 s c) = if head c = h then 1#1 else 0#1 := by
    rw [← lanes h c, ← hl, ← hh]
    pointwise [mask]
  have e' : (piece lo hi V (ix2 s c) : EReal) = if mask lo hi (ix2 s c) = 1#1 then V (ix2 s c) else Ideal.ofBits .f32 0x00000000#32 := rfl
  rw [e', e]
  by_cases hc : head c = h
  · rw [if_pos hc, if_pos rfl, if_pos hc]
  · rw [if_neg hc, if_neg (by decide), if_neg hc]
    simp [Ideal.ofBits, Ideal.ieee]

/-- Four chunks one under another. -/
theorem cat_at {φ : FTy} (p q u v : FVec Ideal S128x256 φ) (P : Fin 4 → Fin 128 → Fin 256 → EReal)
    (hp : ∀ s c, (p (ix2 s c) : EReal) = P 0 s c) (hq : ∀ s c, (q (ix2 s c) : EReal) = P 1 s c) (hu : ∀ s c, (u (ix2 s c) : EReal) = P 2 s c) (hv : ∀ s c, (v (ix2 s c) : EReal) = P 3 s c)
    (h : Fin 4) (s : Fin 128) (c : Fin 256) :
    (concatenate S512x256 0 [⟨S128x256, p⟩, ⟨S128x256, q⟩, ⟨S128x256, u⟩, ⟨S128x256, v⟩] concatenates_S128x256_S128x256_S128x256_S128x256_S512x256_d0 (ix2 (hcol h s) c) : EReal) = P h s c := by
  have hs := s.isLt
  match h with
  | ⟨0, _⟩ =>
    refine Eq.trans ?_ (hp s c)
    pointwise [hcol]
  | ⟨1, _⟩ =>
    refine Eq.trans ?_ (hq s c)
    pointwise [hcol]
  | ⟨2, _⟩ =>
    refine Eq.trans ?_ (hu s c)
    pointwise [hcol]
    rw [dif_neg (by omega), dif_neg (by omega), dif_pos (by omega)]
    exact congrArg (fun k => u (ix2 k c)) (Fin.ext (show 256 + s.val - 128 - 128 = s.val by omega))
  | ⟨3, _⟩ =>
    refine Eq.trans ?_ (hv s c)
    pointwise [hcol]
    rw [dif_neg (by omega), dif_neg (by omega), dif_neg (by omega)]
    exact congrArg (fun k => v (ix2 k c)) (Fin.ext (show 384 + s.val - 128 - 128 - 128 = s.val by omega))

/-- One chunk: every head's weights times the rows of its lanes, plus the chunk's own addend. -/
def chunk (w : FVec Ideal S128x512 .bf16) (bz : Vec Ideal S128x256 .f32) (V : Vec Ideal S128x256 .f32) : FVec Ideal S128x256 .f32 :=
  addf (matmul (F := Ideal) dot_S128x512_S512x256_S128x256_1_0_0_1_n_n none w (concatenate S512x256 0 [⟨S128x256, piece 0#32 64#32 V⟩, ⟨S128x256, piece 64#32 128#32 V⟩, ⟨S128x256, piece 128#32 192#32 V⟩, ⟨S128x256, piece 192#32 256#32 V⟩] concatenates_S128x256_S128x256_S128x256_S128x256_S512x256_d0) (constant S128x256 .f32 0x00000000#32)) bz

theorem chunk_at (w : FVec Ideal S128x512 .bf16) (bz V : Vec Ideal S128x256 .f32) (s : Fin 128) (c : Fin 256) :
    chunk w bz V (ix2 s c) = (∑ k : Fin 128, (w (ix2 s (hcol (head c) k)) : EReal) * V (ix2 k c)) + bz (ix2 s c) := by
  rw [← sum_head (head c) (fun n => w (ix2 s n)) (fun n => concatenate S512x256 0 [⟨S128x256, piece 0#32 64#32 V⟩, ⟨S128x256, piece 64#32 128#32 V⟩, ⟨S128x256, piece 128#32 192#32 V⟩, ⟨S128x256, piece 192#32 256#32 V⟩] concatenates_S128x256_S128x256_S128x256_S128x256_S512x256_d0 (ix2 n c)) (fun k => V (ix2 k c))
    (fun h k => cat_at _ _ _ _ (fun h s c => if head c = h then V (ix2 s c) else 0) (piece_at _ _ 0 rfl rfl V) (piece_at _ _ 1 rfl rfl V) (piece_at _ _ 2 rfl rfl V) (piece_at _ _ 3 rfl rfl V) h k c)]
  unfold chunk
  generalize concatenate S512x256 0 _ _ = K
  pointwise

/-- Row `s` of chunk `q` of the tile. -/
theorem part_at (v : Vec Ideal S512x256 .f32) (q : Fin 4) {off : Fin 2 → ℕ} (h : off = ![128 * q.val, 0]) (hs) (s : Fin 128) (c : Fin 256) :
    extractStridedSlice S128x256 off v hs (ix2 s c) = v (ix2 (hcol q s) c) := by
  subst h
  pointwise
  rfl

theorem gated_at (u v : Vec Ideal S512x256 .f32) (w : FVec Ideal S128x512 .bf16) (b : Vec Ideal S128x256 .f32) (q : Fin 4) (s : Fin 128) (c : Fin 256) :
    k0_pay14 u w b v (k0_pay5 lane k0_pay4) (k0_pay6 lane) (k0_pay7 lane) (k0_pay8 lane) (k0_pay9 w b v lane k0_pay4) (k0_pay10 v) (k0_pay11 v lane k0_pay4) (k0_pay12 v lane) (k0_pay13 v lane) (ix2 (hcol q s) c)
      = u (ix2 (hcol q s) c) * ((∑ k : Fin 128, (w (ix2 s (hcol (head c) k)) : EReal) * v (ix2 (hcol q k) c)) + b (ix2 s c)) := by
  refine congrArg (u (ix2 (hcol q s) c) * ·) ?_
  refine cat_at (chunk w b (extractStridedSlice S128x256 ![0, 0] v slices_S512x256_o0_0_S128x256)) (chunk w b (extractStridedSlice S128x256 ![128, 0] v slices_S512x256_o128_0_S128x256))
    (chunk w b (extractStridedSlice S128x256 ![256, 0] v slices_S512x256_o256_0_S128x256)) (chunk w b (extractStridedSlice S128x256 ![384, 0] v slices_S512x256_o384_0_S128x256))
    (fun q s c => (∑ k : Fin 128, (w (ix2 s (hcol (head c) k)) : EReal) * v (ix2 (hcol q k) c)) + b (ix2 s c)) ?_ ?_ ?_ ?_ q s c
  all_goals
    intro s c
    rw [chunk_at]
    refine congrArg (· + b (ix2 s c)) (Finset.sum_congr rfl fun k _ => congrArg (w (ix2 s (hcol (head c) k)) * ·) ?_)
  · exact part_at v 0 rfl _ k c
  · exact part_at v 1 rfl _ k c
  · exact part_at v 2 rfl _ k c
  · exact part_at v 3 rfl _ k c

theorem rot_at (X : FVec Ideal S528x256 .f32) (d : ℕ) (sb : BitVec 32) (hs : sb.toNat = d) (y : Fin 528) (hd : d ≤ y.val) (c : Fin 256) :
    dynamicRotate 0 sb none X rotates_S528x256_d0 (ix2 y c) = X (ix2 ⟨y.val - d, by have := y.isLt; omega⟩ c) := by
  have hy := y.isLt
  refine dynamicRotate_apply 0 sb X _ _ _ fun b => ?_
  match b with
  | ⟨0, _⟩ =>
    show y.val - d = (y.val + 528 - sb.toNat % 528) % 528
    rw [hs]
    omega
  | ⟨1, _⟩ => rfl

theorem dbl_at (X : FVec Ideal S528x256 .f32) (f : Fin 256 → ℕ → EReal) (o a d : ℕ) (sb : BitVec 32) (hs : sb.toNat = d) (hX : ∀ (y : Fin 528) c, a ≤ y.val → X (ix2 y c) = f c (o + y.val))
    (y : Fin 528) (c : Fin 256) (hy : a + d ≤ y.val) : addf X (dynamicRotate 0 sb none X rotates_S528x256_d0) (ix2 y c) = dbl d (f c) (o + y.val) := by
  have e : addf X (dynamicRotate 0 sb none X rotates_S528x256_d0) (ix2 y c) = X (ix2 y c) + dynamicRotate 0 sb none X rotates_S528x256_d0 (ix2 y c) := rfl
  rw [e, rot_at X d sb hs y (by omega), hX y c (by omega), hX _ c (show a ≤ y.val - d by omega), dbl, show o + y.val - d = o + (y.val - d) by omega]

theorem first : ∀ t : Fin 16, Scalar.cmpi .sgt (BitVec.ofNat 32 t.val) 0#32 = if 0 < t.val then 1#1 else 0#1 := by decide +kernel

theorem lt64 : ∀ c : Fin 256, IntOp.cmpi .slt (BitVec.ofNat 32 c.val) 64#32 = if c.val < 64 then 1#1 else 0#1 := by decide +kernel
theorem lt128 : ∀ c : Fin 256, IntOp.cmpi .slt (BitVec.ofNat 32 c.val) 128#32 = if c.val < 128 then 1#1 else 0#1 := by decide +kernel
theorem lt192 : ∀ c : Fin 256, IntOp.cmpi .slt (BitVec.ofNat 32 c.val) 192#32 = if c.val < 192 then 1#1 else 0#1 := by decide +kernel

theorem sel (b : Prop) [Decidable b] (x y : EReal) : Scalar.select (if b then 1#1 else 0#1) x y = if b then x else y := by
  by_cases h : b
  · rw [if_pos h, if_pos h]; rfl
  · rw [if_neg h, if_neg h]; rfl

/-- The number of rows seen, counted in whole numbers. -/
theorem count (t r : ℕ) (ht : t < 16) (hr : r < 512) : (IntOp.addi (Scalar.addi (Scalar.muli (BitVec.ofNat 32 t) 512#32) 1#32) (BitVec.ofNat 32 r)).toInt = (512 * t + r + 1 : ℕ) := by
  have e : (IntOp.addi (Scalar.addi (Scalar.muli (BitVec.ofNat 32 t) 512#32) 1#32) (BitVec.ofNat 32 r)) = BitVec.ofNat 32 (512 * t + r + 1) := by
    apply BitVec.eq_of_toNat_eq
    show ((BitVec.ofNat 32 t * 512#32 + 1#32) + BitVec.ofNat 32 r).toNat = _
    simp only [BitVec.toNat_add, BitVec.toNat_mul, BitVec.toNat_ofNat]
    omega
  rw [e, BitVec.toInt_eq_toNat_of_lt (by rw [BitVec.toNat_ofNat]; omega), BitVec.toNat_ofNat]
  omega

section Tile
variable (A : Args) (t : Fin 16)

def row (r : Fin 512) : Fin 8192 := ⟨512 * t.val + r.val, by have := t.isLt; have := r.isLt; omega⟩

theorem s1_at (p : Vec Ideal S512x256 .f32) (o : Vec Ideal S16x256 .f32) (hp : ∀ r c, p (ix2 r c) = A.z (row t r) (cP c))
    (ho : ∀ (h : 0 < t.val) (y : Fin 16) c, o (ix2 y c) = A.z ⟨512 * t.val - 16 + y.val, by have := t.isLt; have := y.isLt; omega⟩ (cP c)) (y : Fin 528) (c : Fin 256) :
    k0_pay15 (BitVec.ofNat 32 t.val) p o (ix2 y c) = bef A c (512 * t.val + y.val) := by
  have ht := t.isLt
  have hy := y.isLt
  unfold bef
  by_cases h : y.val < 16
  · have e : k0_pay15 (BitVec.ofNat 32 t.val) p o (ix2 y c) = Scalar.select (Scalar.cmpi .sgt (BitVec.ofNat 32 t.val) 0#32) (o (ix2 ⟨y.val, h⟩ c)) 0 := by
      pointwise [k0_pay15]
      rw [dif_pos h]
    rw [e, first t]
    by_cases h0 : 0 < t.val
    · rw [if_pos h0, dif_pos ⟨by omega, by omega⟩]
      refine (ho h0 ⟨y.val, h⟩ c).trans (congrArg (fun q => A.z q (cP c)) (Fin.ext (show 512 * t.val - 16 + y.val = 512 * t.val + y.val - 16 by omega)))
    · rw [if_neg h0, dif_neg (by omega)]
      rfl
  · have e : k0_pay15 (BitVec.ofNat 32 t.val) p o (ix2 y c) = p (ix2 ⟨y.val - 16, by omega⟩ c) := by
      pointwise [k0_pay15]
      rw [dif_neg h]
    rw [e, hp, dif_pos ⟨by omega, by omega⟩]
    exact congrArg (fun q => A.z q (cP c)) (Fin.ext (show 512 * t.val + (y.val - 16) = 512 * t.val + y.val - 16 by omega))

theorem mean_at (p : Vec Ideal S512x256 .f32) (X : FVec Ideal S528x256 .f32) (hX : ∀ (y : Fin 528) c, 0 ≤ y.val → X (ix2 y c) = bef A c (512 * t.val + y.val)) (hp : ∀ r c, p (ix2 r c) = A.z (row t r) (cP c)) (r : Fin 512) (c : Fin 256) :
    (k0_pay17 (F := Ideal) (BitVec.ofNat 32 t.val) p X (dynamicRotate 0 1#32 none X rotates_S528x256_d0) (ix2 r c) : EReal) = mn A (row t r) c := by
  have d1 := dbl_at X (bef A) (512 * t.val) 0 1 1#32 rfl hX
  unfold k0_pay17
  generalize addf X _ = X1 at d1 ⊢
  have d2 := dbl_at X1 (s2 A) (512 * t.val) _ 2 2#32 rfl d1
  generalize addf X1 _ = X2 at d2 ⊢
  have d3 := dbl_at X2 (s4 A) (512 * t.val) _ 4 4#32 rfl d2
  generalize addf X2 _ = X3 at d3 ⊢
  have d4 := dbl_at X3 (s8 A) (512 * t.val) _ 8 8#32 rfl d3
  generalize addf X3 _ = X4 at d4 ⊢
  pointwise
  have e : (512 * t.val + (16 + r.val)) = 16 + (row t r).val := by show _ = 16 + (512 * t.val + r.val); omega
  have hr : 16 + r.val < 528 := by have := r.isLt; omega
  have q (Y : FVec Ideal S528x256 .f32) (f : ℕ → EReal) (a : ℕ) (ha : a ≤ 16) (h : ∀ (y : Fin 528), a ≤ y.val → Y (ix2 y c) = f (512 * t.val + y.val)) : Y (ix2 ⟨16 + r.val, hr⟩ c) = f (16 + (row t r).val) :=
    (h ⟨16 + r.val, hr⟩ (by show a ≤ 16 + r.val; omega)).trans (congrArg f e)
  rw [q X1 _ _ (by omega) fun y => d1 y c, q X2 _ _ (by omega) fun y => d2 y c, q X3 _ _ (by omega) fun y => d3 y c, q X4 _ _ (by omega) fun y => d4 y c, lt64, lt128, lt192, hp]
  simp only [sel]
  refine congrArg (fun n => Ideal.div _ (min n _) - _) ?_
  show (((IntOp.addi (Scalar.addi (Scalar.muli (BitVec.ofNat 32 t.val) 512#32) 1#32) (BitVec.ofNat 32 r.val)).toInt : ℝ) : EReal) = cnt (row t r)
  rw [count t.val r.val t.isLt r.isLt]
  refine congrArg Real.toEReal ?_
  simp [row]

theorem last_at (a : Vec Ideal S512x512 .f32) (wp : FVec Ideal S256x256 .bf16) (ps : Vec Ideal S1x256 .f32) (ga : Vec Ideal S1x512 .f32) (go gp : Vec Ideal S1x256 .f32)
    (g : FVec Ideal S512x256 .f32) (n : FVec Ideal S512x256 .bf16) (x : Vec Ideal S512x1024 .f32) (wo : Vec Ideal S1024x1024 .bf16) (r : Fin 512) (c : Fin 1024) :
    k0_pay18 a wp ps ga go gp g n (constant S512x256 .f32 0x00000000#32) x wo (ix2 r c)
      = x (ix2 r c) + ∑ k, three (nz (1 / 512) (fun k => a (ix2 r k)) fun k => ga (ix2 0 k)) (nz (1 / 256) (fun k => g (ix2 r k)) fun k => go (ix2 0 k))
          (nz (1 / 256) (fun k => (∑ j, (n (ix2 r j) : EReal) * wp (ix2 j k)) * ps (ix2 0 k)) fun k => gp (ix2 0 k)) k * wo (ix2 k c) := by
  pointwise [k0_pay18]
  rw [ofBits_256th, ofBits_512th]
  rfl

variable (x0 : Vec Ideal S512x1024 .f32) (x1 : Vec Ideal S512x512 .f32) (x2 x3 x4 : Vec Ideal S512x256 .f32) (x5 : Vec Ideal S16x256 .f32) (x6 : Vec Ideal S1x256 .f32)
  (x7 : Vec Ideal S128x512 .bf16) (x8 : Vec Ideal S128x256 .f32) (x9 : Vec Ideal S256x256 .bf16) (x10 : Vec Ideal S1x256 .f32) (x11 : Vec Ideal S1x512 .f32) (x12 x13 : Vec Ideal S1x256 .f32)
  (x14 : Vec Ideal S1024x1024 .bf16)

/-- The tile's blocks are the arguments' rows and the weights. -/
structure Blocks : Prop where
  h0 : ∀ r c, x0 (ix2 r c) = A.x (row t r) c
  h1 : ∀ r c, x1 (ix2 r c) = A.a (row t r) c
  h2 : ∀ r c, x2 (ix2 r c) = A.z (row t r) (cU c)
  h3 : ∀ r c, x3 (ix2 r c) = A.z (row t r) (cV c)
  h4 : ∀ r c, x4 (ix2 r c) = A.z (row t r) (cP c)
  h5 : ∀ (h : 0 < t.val) (y : Fin 16) c, x5 (ix2 y c) = A.z ⟨512 * t.val - 16 + y.val, by have := t.isLt; have := y.isLt; omega⟩ (cP c)
  h6 : ∀ c, x6 (ix2 0 c) = A.gs c
  h7 : ∀ s k, (x7 (ix2 s k) : EReal) = A.wc s k
  h8 : ∀ s c, x8 (ix2 s c) = A.bz s c
  h9 : ∀ k c, (x9 (ix2 k c) : EReal) = A.wp k c
  h10 : ∀ c, x10 (ix2 0 c) = A.ps c
  h11 : ∀ c, x11 (ix2 0 c) = A.ga c
  h12 : ∀ c, x12 (ix2 0 c) = A.go c
  h13 : ∀ c, x13 (ix2 0 c) = A.gp c
  h14 : ∀ k c, (x14 (ix2 k c) : EReal) = A.wo k c

theorem gate_at (H : Blocks A t x0 x1 x2 x3 x4 x5 x6 x7 x8 x9 x10 x11 x12 x13 x14) (v : Vec Ideal S512x256 .f32) (hv : v = k0_pay3 x3 x6) (w : FVec Ideal S128x512 .bf16) (hw : w = k0_pay1 x7) (r : Fin 512) (c : Fin 256) :
    k0_pay14 x2 w x8 v (k0_pay5 lane k0_pay4) (k0_pay6 lane) (k0_pay7 lane) (k0_pay8 lane) (k0_pay9 w x8 v lane k0_pay4) (k0_pay10 v) (k0_pay11 v lane k0_pay4) (k0_pay12 v lane) (k0_pay13 v lane) (ix2 r c)
      = gt A (row t r) c := by
  obtain ⟨q, s, rfl⟩ := exists_hcol r
  have hq := q.isLt
  have hs := s.isLt
  have e1 : inC (row t (hcol q s)) = s := Fin.ext (by show (512 * t.val + (128 * q.val + s.val)) % 128 = s.val; omega)
  have e2 (k : Fin 128) : chk (row t (hcol q s)) k = row t (hcol q k) := Fin.ext (by show 128 * ((512 * t.val + (128 * q.val + s.val)) / 128) + k.val = 512 * t.val + (128 * q.val + k.val); omega)
  have ev (k : Fin 128) : v (ix2 (hcol q k) c) = vn A (row t (hcol q k)) c := by
    rw [hv, vn_at, vn]
    exact congrArg₂ (fun y g => nz (1 / 256) y g c) (funext fun c => H.h3 _ c) (funext H.h6)
  have ew (k : Fin 512) : (w (ix2 s k) : EReal) = A.wc s k := by
    rw [hw, ← H.h7 s k]
    pointwise [k0_pay1]
  rw [gated_at, gt, e1, H.h2, H.h8]
  simp only [e2, ev, ew]

/-- What the tile writes. -/
def body : Vec Ideal S512x1024 .f32 :=
  k0_pay18 (F := Ideal) x1 (k0_pay2 x9) x10 x11 x12 x13
    (k0_pay14 x2 (k0_pay1 x7) x8 (k0_pay3 x3 x6) (k0_pay5 lane k0_pay4) (k0_pay6 lane) (k0_pay7 lane) (k0_pay8 lane) (k0_pay9 (k0_pay1 x7) x8 (k0_pay3 x3 x6) lane k0_pay4)
      (k0_pay10 (k0_pay3 x3 x6)) (k0_pay11 (k0_pay3 x3 x6) lane k0_pay4) (k0_pay12 (k0_pay3 x3 x6) lane) (k0_pay13 (k0_pay3 x3 x6) lane))
    (k0_pay17 (BitVec.ofNat 32 t.val) x4 (k0_pay15 (BitVec.ofNat 32 t.val) x4 x5) (k0_pay16 (BitVec.ofNat 32 t.val) x4 x5)) (constant S512x256 .f32 0x00000000#32) x0 x14

theorem body_at (H : Blocks A t x0 x1 x2 x3 x4 x5 x6 x7 x8 x9 x10 x11 x12 x13 x14) (r : Fin 512) (c : Fin 1024) :
    body t x0 x1 x2 x3 x4 x5 x6 x7 x8 x9 x10 x11 x12 x13 x14 (ix2 r c) = out A (row t r) c := by
  unfold body
  rw [last_at]
  have E1 : nz (1 / 512) (fun k => x1 (ix2 r k)) (fun k => x11 (ix2 0 k)) = nz (1 / 512) (A.a (row t r)) A.ga :=
    congrArg₂ (nz (1 / 512)) (funext (H.h1 r)) (funext H.h11)
  have E2 := congrArg₂ (nz (1 / 256)) (funext fun k => gate_at A t x0 x1 x2 x3 x4 x5 x6 x7 x8 x9 x10 x11 x12 x13 x14 H _ rfl _ rfl r k) (funext H.h12)
  have E3 : nz (1 / 256) (fun k => (∑ j, (k0_pay17 (F := Ideal) (BitVec.ofNat 32 t.val) x4 (k0_pay15 (BitVec.ofNat 32 t.val) x4 x5) (k0_pay16 (BitVec.ofNat 32 t.val) x4 x5) (ix2 r j) : EReal)
        * (k0_pay2 (F := Ideal) x9 : FVec Ideal S256x256 .bf16) (ix2 j k)) * x10 (ix2 0 k)) (fun k => x13 (ix2 0 k)) = nz (1 / 256) (pl A (row t r)) A.gp := by
    refine congrArg₂ (nz (1 / 256)) (funext fun k => ?_) (funext H.h13)
    rw [pl, H.h10]
    refine congrArg (· * A.ps k) (Finset.sum_congr rfl fun j _ => congrArg₂ (· * ·) ?_ ?_)
    · exact mean_at A t x4 _ (fun y c _ => s1_at A t x4 x5 H.h4 H.h5 y c) H.h4 r j
    · rw [← H.h9 j k]
      pointwise [k0_pay2]
  rw [E1, E3, H.h0]
  refine congrArg (A.x (row t r) c + ·) (Finset.sum_congr rfl fun k _ => congrArg₂ (· * ·) ?_ (H.h14 k c))
  exact congrArg (fun q => three (nz (1 / 512) (A.a (row t r)) A.ga) q (nz (1 / 256) (pl A (row t r)) A.gp) k) E2

theorem out_eq (i : grid0.Coords) (hi : (i 0).val = t.val) :
    out0_15 i x0 x1 x2 x3 x4 x5 x6 x7 x8 x9 x10 x11 x12 x13 x14 = View.canon [⟨r0_8, body t x0 x1 x2 x3 x4 x5 x6 x7 x8 x9 x10 x11 x12 x13 x14⟩] := by
  unfold out0_15 k0_pay22 k0_pay21 k0_pay20 k0_pay19
  rw [hi, View.ld_unit_zero (S := S512x1024) off0, View.ld_unit_zero (S := S512x512) off0, View.ld_unit_zero (S := S512x256) off0, View.ld_unit_zero (S := S512x256) off0, View.ld_unit_zero (S := S512x256) off0,
    View.ld_unit_zero (S := S16x256) off0, View.ld_unit_zero (S := S1x256) off0, View.ld_unit_zero (S := S128x512) off0, View.ld_unit_zero (S := S128x256) off0, View.ld_unit_zero (S := S256x256) off0,
    View.ld_unit_zero (S := S1x256) off0, View.ld_unit_zero (S := S1x512) off0, View.ld_unit_zero (S := S1x256) off0, View.ld_unit_zero (S := S1x256) off0, View.ld_unit_zero (S := S1024x1024) off0]
  rfl

theorem piece_emb (p : Vec Ideal S512x1024 .f32) (x : r0_8.shape.Idx) : p x = p (r0_8.emb x) := by
  refine congrArg p (funext fun a => Fin.ext ?_)
  match a with
  | ⟨0, _⟩ => show (x 0).val = 0 + 1 * (x 0).val; omega
  | ⟨1, _⟩ => show (x 1).val = 0 + 1 * (x 1).val; omega

theorem tile_at (i : grid0.Coords) (hi : (i 0).val = t.val) (H : Blocks A t x0 x1 x2 x3 x4 x5 x6 x7 x8 x9 x10 x11 x12 x13 x14) (r : Fin 512) (c : Fin 1024) :
    out0_15 i x0 x1 x2 x3 x4 x5 x6 x7 x8 x9 x10 x11 x12 x13 x14 (ix2 r c) = out A (row t r) c := by
  rw [out_eq t x0 x1 x2 x3 x4 x5 x6 x7 x8 x9 x10 x11 x12 x13 x14 i hi, ← body_at A t x0 x1 x2 x3 x4 x5 x6 x7 x8 x9 x10 x11 x12 x13 x14 H]
  refine View.canon_apply_of_pieces (body t x0 x1 x2 x3 x4 x5 x6 x7 x8 x9 x10 x11 x12 x13 x14) _ ?_ (ix2 r c) (cover0_15 _ _)
  intro p hp
  simp only [List.mem_cons, List.not_mem_nil, or_false] at hp
  subst hp
  exact piece_emb _

end Tile

end Cert.Kernel12Ideal.Out
end
-- ==== Proof.OutRef.lean ====
/- The reference's mixers' output, entry by entry. -/
module

public import proofs.«01_k».proof.Proof.Gen.Reference12Ideal.Run
public import proofs.«01_k».proof.Proof.OutMath
public import Idealize.ShloMosaic.Lib.Pointwise
public import Idealize.ShloMosaic.Lib.IdealHost
public import Idealize.ShloMosaic.Lib.Routing.OpsOne

@[expose] public section

set_option maxRecDepth 16384

noncomputable section

namespace Cert.Reference12Ideal.Out

open Idealize.ShloMosaic Cert.Reference12Ideal Cert.Reference12Ideal.Gen
open Idealize.ShloMosaic.Routing (symm_col numel_col shape2)
open Cert.Out
open scoped BigOperators

def rA (y : Vec Ideal S8192x512 .f32) (g : Vec Ideal S1x512 .f32) : Vec Ideal S8192x512 .f32 :=
  mulf (F := Ideal) (φ := .f32) (mulf (F := Ideal) (φ := .f32) y (broadcastInDim S8192x512 ![0, 1] bcast_S8192x1_S8192x512_0_1 (Host.rsqrt (F := Ideal) (φ := .f32) (addf (F := Ideal) (φ := .f32) (Host.divf (F := Ideal) (φ := .f32) (broadcastInDim S8192x1 ![0] bcast_S8192_S8192x1_0 (Host.reduceAdd (F := Ideal) (φ := .f32) (mulf (F := Ideal) (φ := .f32) y y) (constant (F := Ideal) S_ .f32 0x00000000#32) reducesTo_S8192x512_S8192_d1 h_S_)) (broadcastInDim S8192x1 ![] bcast_S_S8192x1 (constant (F := Ideal) S_ .f32 0x44000000#32))) (broadcastInDim S8192x1 ![] bcast_S_S8192x1 (constant (F := Ideal) S_ .f32 0x358637BD#32)))))) (broadcastInDim S8192x512 ![0, 1] bcast_S1x512_S8192x512_0_1 g)

def rN (y : Vec Ideal S8192x256 .f32) (g : Vec Ideal S1x256 .f32) : Vec Ideal S8192x256 .f32 :=
  mulf (F := Ideal) (φ := .f32) (mulf (F := Ideal) (φ := .f32) y (broadcastInDim S8192x256 ![0, 1] bcast_S8192x1_S8192x256_0_1 (Host.rsqrt (F := Ideal) (φ := .f32) (addf (F := Ideal) (φ := .f32) (Host.divf (F := Ideal) (φ := .f32) (broadcastInDim S8192x1 ![0] bcast_S8192_S8192x1_0 (Host.reduceAdd (F := Ideal) (φ := .f32) (mulf (F := Ideal) (φ := .f32) y y) (constant (F := Ideal) S_ .f32 0x00000000#32) reducesTo_S8192x256_S8192_d1 h_S_)) (broadcastInDim S8192x1 ![] bcast_S_S8192x1 (constant (F := Ideal) S_ .f32 0x43800000#32))) (broadcastInDim S8192x1 ![] bcast_S_S8192x1 (constant (F := Ideal) S_ .f32 0x358637BD#32)))))) (broadcastInDim S8192x256 ![0, 1] bcast_S1x256_S8192x256_0_1 g)

theorem rA_at (y : Vec Ideal S8192x512 .f32) (g : Vec Ideal S1x512 .f32) (R : Fin 8192) (j : Fin 512) : rA y g (ix2 R j) = nz (1 / 512) (fun k => y (ix2 R k)) (fun k => g (ix2 0 k)) j := by
  pointwise [rA]
  rw [div_512]
  rfl

theorem rN_at (y : Vec Ideal S8192x256 .f32) (g : Vec Ideal S1x256 .f32) (R : Fin 8192) (j : Fin 256) : rN y g (ix2 R j) = nz (1 / 256) (fun k => y (ix2 R k)) (fun k => g (ix2 0 k)) j := by
  pointwise [rN]
  rw [div_256]
  rfl

/-- The chunks' products over the heads. -/
def rC (v : Vec Ideal S8192x256 .f32) (wc : Vec Ideal S128x512 .f32) : Vec Ideal S64x128x4x64 .f32 :=
  transpose S64x128x4x64 [1, 3, 0, 2] (Host.dotGeneral (F := Ideal) (φ₁ := .f32) (φ₂ := .f32) dot_S64x128x4x64_S128x4x128_S4x64x64x128_1_2_03_0_2_1 none (shapeCast S64x128x4x64 v shapeCasts_S8192x256_S64x128x4x64) (shapeCast S128x4x128 wc shapeCasts_S128x512_S128x4x128)) transposes_S4x64x64x128_S64x128x4x64_1_3_0_2

/-- The mixed chunks with their offsets, by rows. -/
def rB (k : Vec Ideal S64x128x4x64 .f32) (bz : Vec Ideal S128x256 .f32) : Vec Ideal S8192x256 .f32 :=
  shapeCast S8192x256 (addf (F := Ideal) (φ := .f32) (shapeCast S64x128x256 k shapeCasts_S64x128x4x64_S64x128x256) (broadcastInDim S64x128x256 ![0, 1, 2] bcast_S1x128x256_S64x128x256_0_1_2 (broadcastInDim S1x128x256 ![1, 2] bcast_S128x256_S1x128x256_1_2 bz))) shapeCasts_S64x128x256_S8192x256

theorem rC_at (v : Vec Ideal S8192x256 .f32) (wc : Vec Ideal S128x512 .f32) (n : Fin 64) (t : Fin 128) (h : Fin 4) (d : Fin 64) :
    rC v wc (ix4 n t h d) = ∑ s : Fin 128, wc (ix2 t (hcol h s)) * v (ix2 ⟨128 * n.val + s.val, by have := n.isLt; have := s.isLt; omega⟩ ⟨64 * h.val + d.val, by have := h.isLt; have := d.isLt; omega⟩) := by
  pointwise [rC]
  refine Finset.sum_congr rfl fun s _ => (mul_comm _ _).trans (congrArg₂ (· * ·) (congrArg (fun q => wc (ix2 t q)) (Fin.ext ?_)) (congrArg₂ (fun p q => v (ix2 p q)) (Fin.ext ?_) (Fin.ext ?_)))
  · show h.val * 128 + s.val = 128 * h.val + s.val
    omega
  · show n.val * 128 + s.val = 128 * n.val + s.val
    omega
  · show h.val * 64 + d.val = 64 * h.val + d.val
    omega

theorem rB_at (k : Vec Ideal S64x128x4x64 .f32) (bz : Vec Ideal S128x256 .f32) (R : Fin 8192) (c : Fin 256) :
    rB k bz (ix2 R c) = k (ix4 ⟨R.val / 128, by have := R.isLt; omega⟩ (inC R) (head c) ⟨c.val % 64, by omega⟩) + bz (ix2 (inC R) c) := by
  pointwise [rB]
  rfl

/-- A sum over the rows of a window: `f` holds the column with its zeros before it. -/
theorem win_at {w m : ℕ} (hw : m + 1 = w) (h16 : w ≤ 16) (x : Vec Ideal S8192x64 .f32) (v : Vec Ideal S_ .f32) (f : ℕ → EReal) (d : Fin 64)
    (hv : ∀ i, v i = (0 : EReal)) (hx : ∀ i : Fin 8192, x (ix2 i d) = f (16 + i.val)) (hf : ∀ n, n < 16 → f n = 0)
    (h : S8192x64.ReduceWindows (![w, 1] : Fin 2 → Nat) ![1, 1] ![m, 0] ![0, 0] S8192x64) (R : Fin 8192) :
    Host.reduceWindowAdd (F := Ideal) (φ := .f32) ![w, 1] ![1, 1] ![m, 0] ![0, 0] x v h h_S_ (ix2 R d) = ∑ i ∈ Finset.range w, f (16 + R.val + 1 - w + i) := by
  have add : ∀ {N : ℕ} (g : Fin N → EReal) (l : List (Fin N)) (r : EReal), l.foldl (fun r n => r + g n) r = r + (l.map g).sum := fun g l => by
    induction l with
    | nil => intro r; simp
    | cons a l ih => intro r; rw [List.foldl_cons, ih, List.map_cons, List.sum_cons, add_assoc]
  have hR := R.isLt
  refine (add (fun n => _) _ _).trans ?_
  rw [hv, zero_add, ← Fin.sum_univ_def]
  refine (Finset.sum_congr rfl fun n _ => ?_).trans ((Fin.sum_univ_eq_sum_range (fun i => f (16 + R.val + 1 - w + i)) _).trans (congrArg (fun N => ∑ i ∈ Finset.range N, f (16 + R.val + 1 - w + i)) (numel_col w)))
  have hw0 : ((shape2 w 1).rowMajor.symm n 0).val = n.val := by rw [symm_col]; rfl
  have hw1 : ((shape2 w 1).rowMajor.symm n 1).val = 0 := by rw [symm_col]; rfl
  have hn : n.val < w := (n.cast (numel_col _)).isLt
  split
  · next hin =>
    have h0 := hin 0
    change m ≤ R.val * 1 + ((shape2 w 1).rowMajor.symm n 0).val ∧ R.val * 1 + ((shape2 w 1).rowMajor.symm n 0).val - m < 8192 at h0
    rw [hw0] at h0
    refine (congrArg x (funext fun a => Fin.ext ?_)).trans ((hx ⟨R.val + n.val - m, by omega⟩).trans (congrArg f (by show 16 + (R.val + n.val - m) = 16 + R.val + 1 - w + n.val; omega)))
    match a with
    | ⟨0, _⟩ =>
      show R.val * 1 + ((shape2 w 1).rowMajor.symm n 0).val - m = R.val + n.val - m
      rw [hw0, Nat.mul_one]
    | ⟨1, _⟩ =>
      show d.val * 1 + ((shape2 w 1).rowMajor.symm n 1).val - 0 = d.val
      rw [hw1]
      omega
  · next hin =>
    refine (hf _ ?_).symm
    by_contra hc
    refine hin fun a => ?_
    match a with
    | ⟨0, _⟩ =>
      show m ≤ R.val * 1 + ((shape2 w 1).rowMajor.symm n 0).val ∧ R.val * 1 + ((shape2 w 1).rowMajor.symm n 0).val - m < 8192
      rw [hw0]
      omega
    | ⟨1, _⟩ =>
      have := d.isLt
      show 0 ≤ d.val * 1 + ((shape2 w 1).rowMajor.symm n 1).val ∧ d.val * 1 + ((shape2 w 1).rowMajor.symm n 1).val - 0 < 64
      rw [hw1]
      omega

/-- One group's term: its window sums over the rows there are, less the row itself. -/
def rD (s q : Vec Ideal S8192x64 .f32) (b : BitVec 32) : Vec Ideal S8192x64 .f32 :=
  subf (F := Ideal) (φ := .f32) (Host.divf (F := Ideal) (φ := .f32) s (broadcastInDim S8192x64 ![0, 1] bcast_S8192x1_S8192x64_0_1 (minimumf (F := Ideal) (φ := .f32) (broadcastInDim S8192x1 ![0] bcast_S8192_S8192x1_0 (addf (F := Ideal) (φ := .f32) (broadcastInDim S8192 ![] bcast_S_S8192 (constant (F := Ideal) S_ .f32 0x3F800000#32)) (sitofp (F := Ideal) .f32 (iotaInDim S8192 32 0)))) (broadcastInDim S8192x1 ![] bcast_S_S8192x1 (constant (F := Ideal) S_ .f32 b))))) q

theorem count_at (R : Fin 8192) : Ideal.ofBits .f32 0x3F800000#32 + ((((BitVec.ofNat 32 R.val).toInt : ℝ)) : EReal) = cnt R := by
  have hR := R.isLt
  have e : (BitVec.ofNat 32 R.val).toInt = (R.val : Int) := by
    rw [BitVec.toInt_eq_toNat_of_lt (by rw [BitVec.toNat_ofNat, Nat.mod_eq_of_lt (by omega)]; omega), BitVec.toNat_ofNat, Nat.mod_eq_of_lt (by omega)]
  rw [ofBits_one, e, ← EReal.coe_add]
  show (((1 : ℝ) + ((R.val : Int) : ℝ) : ℝ) : EReal) = ((R.val + 1 : ℝ) : EReal)
  rw [Int.cast_natCast, add_comm]

theorem rD_at (s q : Vec Ideal S8192x64 .f32) (b : BitVec 32) (R : Fin 8192) (d : Fin 64) : rD s q b (ix2 R d) = Ideal.div (s (ix2 R d)) (min (cnt R) (Ideal.ofBits .f32 b)) - q (ix2 R d) := by
  rw [← count_at]
  pointwise [rD]
  rfl

/-- Four blocks of 64 columns side by side. -/
def rQ (p q r s : Vec Ideal S8192x64 .f32) : Vec Ideal S8192x256 .f32 :=
  concatenate S8192x256 1 [⟨S8192x64, p⟩, ⟨S8192x64, q⟩, ⟨S8192x64, r⟩, ⟨S8192x64, s⟩] concatenates_S8192x64_S8192x64_S8192x64_S8192x64_S8192x256_d1

theorem rQ_at (p q r s : Vec Ideal S8192x64 .f32) (R : Fin 8192) (c : Fin 256) : rQ p q r s (ix2 R c)
    = if h : c.val < 64 then p (ix2 R ⟨c.val, h⟩) else if h : c.val - 64 < 64 then q (ix2 R ⟨c.val - 64, h⟩) else if h : c.val - 64 - 64 < 64 then r (ix2 R ⟨c.val - 64 - 64, h⟩)
      else s (ix2 R ⟨c.val - 64 - 64 - 64, by have := c.isLt; omega⟩) := by
  pointwise [rQ]

/-- The pooled columns, and the value the window sums start from. -/
def rE (z : Vec Ideal S8192x1280 .f32) : Vec Ideal S8192x256 .f32 := extractStridedSlice S8192x256 ![0, 1024] z slices_S8192x1280_S8192x256_0_1024
def r0 : Vec Ideal S_ .f32 := broadcastInDim S_ ![] bcast_S_S_ (constant (F := Ideal) S_ .f32 0x00000000#32)

theorem r0_at (i : S_.Idx) : r0 i = (0 : EReal) := by
  show Ideal.ofBits .f32 0x00000000#32 = 0
  simp [Ideal.ofBits, Ideal.ieee]

variable (x : Vec Ideal S8192x1024 .f32) (a : Vec Ideal S8192x512 .f32) (z : Vec Ideal S8192x1280 .f32) (gs : Vec Ideal S1x256 .f32) (wc : Vec Ideal S128x512 .f32) (bz : Vec Ideal S128x256 .f32)
  (wp : Vec Ideal S256x256 .f32) (ps : Vec Ideal S1x256 .f32) (ga : Vec Ideal S1x512 .f32) (go gp : Vec Ideal S1x256 .f32) (wo : Vec Ideal S1024x1024 .f32)

/-- The call's arguments. -/
def args : Args where
  x R c := x (ix2 R c)
  a R c := a (ix2 R c)
  z R c := z (ix2 R c)
  gs c := gs (ix2 0 c)
  wc s k := wc (ix2 s k)
  bz s c := bz (ix2 s c)
  wp k c := wp (ix2 k c)
  ps c := ps (ix2 0 c)
  ga c := ga (ix2 0 c)
  go c := go (ix2 0 c)
  gp c := gp (ix2 0 c)
  wo k c := wo (ix2 k c)

/-- The gated mixer. -/
def rV : Vec Ideal S8192x256 .f32 := rN (extractStridedSlice S8192x256 ![0, 768] z slices_S8192x1280_S8192x256_0_768) gs
def rG : Vec Ideal S8192x256 .f32 :=
  mulf (F := Ideal) (φ := .f32) (extractStridedSlice S8192x256 ![0, 512] z slices_S8192x1280_S8192x256_0_512) (rB (rC (rV z gs) wc) bz)

/-- The pooled mixer before and after its product. -/
def rM : Vec Ideal S8192x256 .f32 :=
  rQ (rD (Host.reduceWindowAdd (F := Ideal) (φ := .f32) ![2, 1] ![1, 1] ![1, 0] ![0, 0] (extractStridedSlice S8192x64 ![0, 0] (rE z) slices_S8192x256_S8192x64_0_0) r0 reduceWindows_S8192x64_S8192x64_w2s1p1_0_w1s1p0_0 h_S_) (extractStridedSlice S8192x64 ![0, 0] (rE z) slices_S8192x256_S8192x64_0_0) 0x40000000#32)
    (rD (Host.reduceWindowAdd (F := Ideal) (φ := .f32) ![4, 1] ![1, 1] ![3, 0] ![0, 0] (extractStridedSlice S8192x64 ![0, 64] (rE z) slices_S8192x256_S8192x64_0_64) r0 reduceWindows_S8192x64_S8192x64_w4s1p3_0_w1s1p0_0 h_S_) (extractStridedSlice S8192x64 ![0, 64] (rE z) slices_S8192x256_S8192x64_0_64) 0x40800000#32)
    (rD (Host.reduceWindowAdd (F := Ideal) (φ := .f32) ![8, 1] ![1, 1] ![7, 0] ![0, 0] (extractStridedSlice S8192x64 ![0, 128] (rE z) slices_S8192x256_S8192x64_0_128) r0 reduceWindows_S8192x64_S8192x64_w8s1p7_0_w1s1p0_0 h_S_) (extractStridedSlice S8192x64 ![0, 128] (rE z) slices_S8192x256_S8192x64_0_128) 0x41000000#32)
    (rD (Host.reduceWindowAdd (F := Ideal) (φ := .f32) ![16, 1] ![1, 1] ![15, 0] ![0, 0] (extractStridedSlice S8192x64 ![0, 192] (rE z) slices_S8192x256_S8192x64_0_192) r0 reduceWindows_S8192x64_S8192x64_w16s1p15_0_w1s1p0_0 h_S_) (extractStridedSlice S8192x64 ![0, 192] (rE z) slices_S8192x256_S8192x64_0_192) 0x41800000#32)
def rP : Vec Ideal S8192x256 .f32 :=
  mulf (F := Ideal) (φ := .f32) (Host.dotGeneral (F := Ideal) (φ₁ := .f32) (φ₂ := .f32) dot_S8192x256_S256x256_S8192x256_1_0_0_1_n_n none (rM z) wp) (broadcastInDim S8192x256 ![0, 1] bcast_S1x256_S8192x256_0_1 ps)

/-- The branches side by side. -/
def rK (p : Vec Ideal S8192x512 .f32) (q r : Vec Ideal S8192x256 .f32) : Vec Ideal S8192x1024 .f32 :=
  concatenate S8192x1024 1 [⟨S8192x512, p⟩, ⟨S8192x256, q⟩, ⟨S8192x256, r⟩] concatenates_S8192x512_S8192x256_S8192x256_S8192x1024_d1

/-- The reference's result. -/
def rO : Vec Ideal S8192x1024 .f32 :=
  addf (F := Ideal) (φ := .f32) x (Host.dotGeneral (F := Ideal) (φ₁ := .f32) (φ₂ := .f32) dot_S8192x1024_S1024x1024_S8192x1024_1_0_0_1_n_n none (rK (rA a ga) (rN (rG z gs wc bz) go) (rN (rP z wp ps) gp)) wo)

theorem rE_at (R : Fin 8192) (c : Fin 256) : rE z (ix2 R c) = z (ix2 R (cP c)) := by
  pointwise [rE]
  exact congrArg (fun q => z (ix2 R q)) (Fin.ext (by simp [cP]))

theorem rV_at (R : Fin 8192) (c : Fin 256) : rV z gs (ix2 R c) = vn (args x a z gs wc bz wp ps ga go gp wo) R c := by
  refine (rN_at _ _ R c).trans (congrArg (fun q => nz (1 / 256) q (fun k => gs (ix2 0 k)) c) (funext fun k => ?_))
  pointwise
  exact congrArg (fun q => z (ix2 R q)) (Fin.ext (by simp [cV]))

theorem rG_at (R : Fin 8192) (c : Fin 256) : rG z gs wc bz (ix2 R c) = gt (args x a z gs wc bz wp ps ga go gp wo) R c := by
  have e : rG z gs wc bz (ix2 R c) = z (ix2 R (cU c)) * rB (rC (rV z gs) wc) bz (ix2 R c) := by
    unfold rG
    generalize rB _ _ = b
    pointwise
    exact congrArg (fun q => z (ix2 R q) * b (ix2 R c)) (Fin.ext (by simp [cU]))
  rw [e, rB_at, rC_at]
  refine congrArg (fun q => z (ix2 R (cU c)) * (q + bz (ix2 (inC R) c))) (Finset.sum_congr rfl fun s _ => congrArg (wc (ix2 (inC R) (hcol (head c) s)) * ·) ?_)
  rw [← rV_at x a z gs wc bz wp ps ga go gp wo]
  refine congrArg (fun q => rV z gs (ix2 (chk R s) q)) (Fin.ext ?_)
  show 64 * (c.val / 64) + c.val % 64 = c.val
  omega

/-- One group of columns: where its window sum is the sum `G` over the last rows. -/
theorem group_at {w m : ℕ} (hw : m + 1 = w) (h16 : w ≤ 16) (off : ℕ) (b : BitVec 32) (hs : S8192x256.Slices ![0, off] S8192x64)
    (h : S8192x64.ReduceWindows (![w, 1] : Fin 2 → Nat) ![1, 1] ![m, 0] ![0, 0] S8192x64) (c : Fin 256) (d : Fin 64) (hc : c.val = off + d.val) (G : ℕ → EReal) (hG : Last w (bef (args x a z gs wc bz wp ps ga go gp wo) c) G) (R : Fin 8192) :
    rD (Host.reduceWindowAdd (F := Ideal) (φ := .f32) ![w, 1] ![1, 1] ![m, 0] ![0, 0] (extractStridedSlice S8192x64 ![0, off] (rE z) hs) r0 h h_S_) (extractStridedSlice S8192x64 ![0, off] (rE z) hs) b (ix2 R d)
      = Ideal.div (G (16 + R.val)) (min (cnt R) (Ideal.ofBits .f32 b)) - z (ix2 R (cP c)) := by
  have hq : ∀ i : Fin 8192, extractStridedSlice S8192x64 ![0, off] (rE z) hs (ix2 i d) = z (ix2 i (cP c)) := fun i => by
    rw [← rE_at z]
    refine congrArg (rE z) (funext fun k => Fin.ext ?_)
    match k with
    | ⟨0, _⟩ => show 0 + i.val = i.val; omega
    | ⟨1, _⟩ => show off + d.val = c.val; omega
  rw [rD_at, hq, hG _ (by omega), win_at hw h16 _ r0 (bef (args x a z gs wc bz wp ps ga go gp wo) c) d r0_at (fun i => ?_) (fun n hn => ?_) h R]
  · have hi := i.isLt
    rw [hq, bef, dif_pos ⟨by omega, by omega⟩]
    exact congrArg (fun q => z (ix2 q (cP c))) (Fin.ext (by show i.val = 16 + i.val - 16; omega))
  · rw [bef, dif_neg (by omega)]

theorem rM_at (R : Fin 8192) (c : Fin 256) : rM z (ix2 R c) = mn (args x a z gs wc bz wp ps ga go gp wo) R c := by
  have hc := c.isLt
  have g := @group_at x a z gs wc bz wp ps ga go gp wo
  unfold rM mn wid pick
  rw [rQ_at]
  split
  · exact g (w := 2) rfl (by omega) 0 _ _ _ c _ (by simp) _ (s2_last _ c) R
  · next h1 =>
    split
    · simp only [if_neg h1, if_pos (show c.val < 128 by omega)]
      exact g (w := 4) rfl (by omega) 64 _ _ _ c _ (by show c.val = 64 + (c.val - 64); omega) _ (s4_last _ c) R
    · split
      · simp only [if_neg h1, if_neg (show ¬c.val < 128 by omega), if_pos (show c.val < 192 by omega)]
        exact g (w := 8) rfl (by omega) 128 _ _ _ c _ (by show c.val = 128 + (c.val - 64 - 64); omega) _ (s8_last _ c) R
      · simp only [if_neg h1, if_neg (show ¬c.val < 128 by omega), if_neg (show ¬c.val < 192 by omega)]
        exact g (w := 16) rfl (by omega) 192 _ _ _ c _ (by show c.val = 192 + (c.val - 64 - 64 - 64); omega) _ (s16_last _ c) R

theorem rP_at (R : Fin 8192) (c : Fin 256) : rP z wp ps (ix2 R c) = pl (args x a z gs wc bz wp ps ga go gp wo) R c := by
  have e : rP z wp ps (ix2 R c) = (∑ k : Fin 256, rM z (ix2 R k) * wp (ix2 k c)) * ps (ix2 0 c) := by
    unfold rP
    generalize rM z = b
    pointwise
  rw [e]
  exact congrArg (· * ps (ix2 0 c)) (Finset.sum_congr rfl fun k _ => congrArg (· * wp (ix2 k c)) (rM_at x a z gs wc bz wp ps ga go gp wo R k))

theorem rK_at (p : Vec Ideal S8192x512 .f32) (q r : Vec Ideal S8192x256 .f32) (R : Fin 8192) (k : Fin 1024) :
    rK p q r (ix2 R k) = three (fun j => p (ix2 R j)) (fun j => q (ix2 R j)) (fun j => r (ix2 R j)) k := by
  pointwise [rK]
  rfl

theorem rO_at (R : Fin 8192) (c : Fin 1024) : rO x a z gs wc bz wp ps ga go gp wo (ix2 R c) = out (args x a z gs wc bz wp ps ga go gp wo) R c := by
  have e : rO x a z gs wc bz wp ps ga go gp wo (ix2 R c) = x (ix2 R c) + ∑ k : Fin 1024, rK (rA a ga) (rN (rG z gs wc bz) go) (rN (rP z wp ps) gp) (ix2 R k) * wo (ix2 k c) := by
    unfold rO
    generalize rK _ _ _ = b
    pointwise
  rw [e]
  refine congrArg (x (ix2 R c) + ·) (Finset.sum_congr rfl fun k _ => congrArg (· * wo (ix2 k c)) ?_)
  rw [rK_at]
  have e1 : (fun j => rA a ga (ix2 R j)) = nz (1 / 512) (fun k => a (ix2 R k)) (fun k => ga (ix2 0 k)) := funext fun j => rA_at a ga R j
  have e2 : (fun j => rN (rG z gs wc bz) go (ix2 R j)) = nz (1 / 256) (gt (args x a z gs wc bz wp ps ga go gp wo) R) (fun k => go (ix2 0 k)) := funext fun j => by
    rw [rN_at]
    exact congrArg (fun q => nz (1 / 256) q (fun k => go (ix2 0 k)) j) (funext fun k => rG_at x a z gs wc bz wp ps ga go gp wo R k)
  have e3 : (fun j => rN (rP z wp ps) gp (ix2 R j)) = nz (1 / 256) (pl (args x a z gs wc bz wp ps ga go gp wo) R) (fun k => gp (ix2 0 k)) := funext fun j => by
    rw [rN_at]
    exact congrArg (fun q => nz (1 / 256) q (fun k => gp (ix2 0 k)) j) (funext fun k => rP_at x a z gs wc bz wp ps ga go gp wo R k)
  rw [e1, e2, e3]
  rfl

theorem res_eq (m : (ℓ : Loc nD τ sig) → Buf (Elt Ideal) ℓ) (c : Dev nD) :
    (Cert.Reference12Ideal.Value.res_out0 (F := Ideal) m c : Vec Ideal S8192x1024 .f32)
      = rO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

end Cert.Reference12Ideal.Out
end
-- ==== Proof.OutEq.lean ====
/- The mixers' result array, and the reference's, entry by entry. -/
module

public import proofs.«01_k».proof.Proof.OutTile
public import proofs.«01_k».proof.Proof.OutRef

@[expose] public section

set_option maxRecDepth 16384

noncomputable section

namespace Cert.Kernel12Ideal.Out

open Idealize.ShloMosaic Idealize.ShloMosaic.TcCoe
open Cert.Kernel12Ideal Cert.Kernel12Ideal.Gen
open Cert.Out
open Cert.Reference12Ideal.Out (args rO rO_at)
open scoped BigOperators

variable (m : (ℓ : Loc nD τ sig) → Buf (Elt Ideal) ℓ) (c : Dev nD)

abbrev A0 : Vec Ideal S8192x1024 .f32 := m ((c : Thread nD τ).loc main_arg0)
abbrev A1 : Vec Ideal S8192x512 .f32 := m ((c : Thread nD τ).loc main_arg1)
abbrev A2 : Vec Ideal S8192x1280 .f32 := m ((c : Thread nD τ).loc main_arg2)
abbrev A3 : Vec Ideal S1x256 .f32 := m ((c : Thread nD τ).loc main_arg3)
abbrev A4 : Vec Ideal S128x512 .f32 := m ((c : Thread nD τ).loc main_arg4)
abbrev A5 : Vec Ideal S128x256 .f32 := m ((c : Thread nD τ).loc main_arg5)
abbrev A6 : Vec Ideal S256x256 .f32 := m ((c : Thread nD τ).loc main_arg6)
abbrev A7 : Vec Ideal S1x256 .f32 := m ((c : Thread nD τ).loc main_arg7)
abbrev A8 : Vec Ideal S1x512 .f32 := m ((c : Thread nD τ).loc main_arg8)
abbrev A9 : Vec Ideal S1x256 .f32 := m ((c : Thread nD τ).loc main_arg9)
abbrev A10 : Vec Ideal S1x256 .f32 := m ((c : Thread nD τ).loc main_arg10)
abbrev A11 : Vec Ideal S1024x1024 .f32 := m ((c : Thread nD τ).loc main_arg11)

/-- The call's arguments, and what it is to end with. -/
abbrev ar : Args := args (A0 m c) (A1 m c) (A2 m c) (A3 m c) (A4 m c) (A5 m c) (A6 m c) (A7 m c) (A8 m c) (A9 m c) (A10 m c) (A11 m c)
abbrev oX : Vec Ideal S8192x1024 .f32 := rO (A0 m c) (A1 m c) (A2 m c) (A3 m c) (A4 m c) (A5 m c) (A6 m c) (A7 m c) (A8 m c) (A9 m c) (A10 m c) (A11 m c)

theorem main_v0_at (i) : (V m c main_v0 : Vec Ideal S128x512 .bf16) i = A4 m c i := by
  have e : (V m c main_v0 : Vec Ideal S128x512 .bf16) = (truncf (F := Ideal) (φ := .f32) .bf16 (A4 m c) bitsLt_bf16_f32 : Vec Ideal S128x512 .bf16) := by
    dsimp only [V, hostOps0]
    after_results
  rw [e]
  rfl
theorem main_v1_at (i) : (V m c main_v1 : Vec Ideal S256x256 .bf16) i = A6 m c i := by
  have e : (V m c main_v1 : Vec Ideal S256x256 .bf16) = (truncf (F := Ideal) (φ := .f32) .bf16 (A6 m c) bitsLt_bf16_f32 : Vec Ideal S256x256 .bf16) := by
    dsimp only [V, hostOps0]
    after_results
  rw [e]
  rfl
theorem main_v2_at (i) : (V m c main_v2 : Vec Ideal S1024x1024 .bf16) i = A11 m c i := by
  have e : (V m c main_v2 : Vec Ideal S1024x1024 .bf16) = (truncf (F := Ideal) (φ := .f32) .bf16 (A11 m c) bitsLt_bf16_f32 : Vec Ideal S1024x1024 .bf16) := by
    dsimp only [V, hostOps0]
    after_results
  rw [e]
  rfl

/-- The tile's number. -/
def tl (t : Fin cfg0.N) : Fin 16 := ⟨t.val, lt_of_lt_of_eq t.isLt (show cfg0.N = 16 from N_0)⟩

/-- Where a block's entry lies, when the block is one of those laid end to end. -/
theorem place {i k n r q : ℕ} (h : i = k) (e : k * n + r = q) : i * n + 1 * r = q := by
  rw [h, Nat.one_mul, e]

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 2] := (by decide +kernel : ∀ t : Fin grid0.N, _)
theorem index3 : ∀ t : Fin cfg0.N, win0_3.index t = ![t.val, 3] := (by decide +kernel : ∀ t : Fin grid0.N, _)
theorem index4 : ∀ t : Fin cfg0.N, win0_4.index t = ![t.val, 4] := (by decide +kernel : ∀ t : Fin grid0.N, _)
theorem index5 : ∀ t : Fin cfg0.N, win0_5.index t = ![32 * t.val - 1, 4] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![0, 0] := (by decide +kernel : ∀ t : Fin grid0.N, _)
theorem index15 : ∀ t : Fin cfg0.N, win0_15.index t = ![t.val, 0] := (by decide +kernel : ∀ t : Fin grid0.N, _)
theorem coord : ∀ t : Fin cfg0.N, (grid0.coords t 0).val = t.val := (by decide +kernel : ∀ t : Fin grid0.N, _)
theorem covers : (cfg0.win 15).Covers := by decide +kernel

theorem blk0 (t : Fin cfg0.N) (r : Fin 512) (k : Fin 1024) : (iblk m c 0 t : Vec Ideal S512x1024 .f32) (ix2 r k) = A0 m c (ix2 (row (tl t) r) k) := by
  rw [← show V m c main_arg0 = A0 m c from V_main_arg0 m c]
  unfold iblk
  rw [View.read_apply]
  refine congrArg (V m c main_arg0 : Vec Ideal S8192x1024 .f32) (funext fun a => Fin.ext ?_)
  match a with
  | ⟨0, _⟩ => exact place (congrFun (index0 t) 0) (by show t.val * 512 + r.val = 512 * t.val + r.val; omega)
  | ⟨1, _⟩ => exact place (congrFun (index0 t) 1) (by show 0 * 1024 + k.val = k.val; omega)

theorem blk1 (t : Fin cfg0.N) (r : Fin 512) (k : Fin 512) : (iblk m c 1 t : Vec Ideal S512x512 .f32) (ix2 r k) = A1 m c (ix2 (row (tl t) r) k) := by
  rw [← show V m c main_arg1 = A1 m c from V_main_arg1 m c]
  unfold iblk
  rw [View.read_apply]
  refine congrArg (V m c main_arg1 : Vec Ideal S8192x512 .f32) (funext fun a => Fin.ext ?_)
  match a with
  | ⟨0, _⟩ => exact place (congrFun (index1 t) 0) (by show t.val * 512 + r.val = 512 * t.val + r.val; omega)
  | ⟨1, _⟩ => exact place (congrFun (index1 t) 1) (by show 0 * 512 + k.val = k.val; omega)

theorem blk2 (t : Fin cfg0.N) (r : Fin 512) (k : Fin 256) : (iblk m c 2 t : Vec Ideal S512x256 .f32) (ix2 r k) = A2 m c (ix2 (row (tl t) r) (cU k)) := by
  rw [← show V m c main_arg2 = A2 m c from V_main_arg2 m c]
  unfold iblk
  rw [View.read_apply]
  refine congrArg (V m c main_arg2 : Vec Ideal S8192x1280 .f32) (funext fun a => Fin.ext ?_)
  match a with
  | ⟨0, _⟩ => exact place (congrFun (index2 t) 0) (by show t.val * 512 + r.val = 512 * t.val + r.val; omega)
  | ⟨1, _⟩ => exact place (congrFun (index2 t) 1) (by show 2 * 256 + k.val = 512 + k.val; omega)

theorem blk3 (t : Fin cfg0.N) (r : Fin 512) (k : Fin 256) : (iblk m c 3 t : Vec Ideal S512x256 .f32) (ix2 r k) = A2 m c (ix2 (row (tl t) r) (cV k)) := by
  rw [← show V m c main_arg2 = A2 m c from V_main_arg2 m c]
  unfold iblk
  rw [View.read_apply]
  refine congrArg (V m c main_arg2 : Vec Ideal S8192x1280 .f32) (funext fun a => Fin.ext ?_)
  match a with
  | ⟨0, _⟩ => exact place (congrFun (index3 t) 0) (by show t.val * 512 + r.val = 512 * t.val + r.val; omega)
  | ⟨1, _⟩ => exact place (congrFun (index3 t) 1) (by show 3 * 256 + k.val = 768 + k.val; omega)

theorem blk4 (t : Fin cfg0.N) (r : Fin 512) (k : Fin 256) : (iblk m c 4 t : Vec Ideal S512x256 .f32) (ix2 r k) = A2 m c (ix2 (row (tl t) r) (cP k)) := by
  rw [← show V m c main_arg2 = A2 m c from V_main_arg2 m c]
  unfold iblk
  rw [View.read_apply]
  refine congrArg (V m c main_arg2 : Vec Ideal S8192x1280 .f32) (funext fun a => Fin.ext ?_)
  match a with
  | ⟨0, _⟩ => exact place (congrFun (index4 t) 0) (by show t.val * 512 + r.val = 512 * t.val + r.val; omega)
  | ⟨1, _⟩ => exact place (congrFun (index4 t) 1) (by show 4 * 256 + k.val = 1024 + k.val; omega)

theorem blk5 (t : Fin cfg0.N) (h : 0 < t.val) (y : Fin 16) (k : Fin 256) : (iblk m c 5 t : Vec Ideal S16x256 .f32) (ix2 y k) = A2 m c (ix2 ⟨512 * t.val - 16 + y.val, by have := (tl t).isLt; have : (tl t).val = t.val := rfl; have := y.isLt; omega⟩ (cP k)) := by
  rw [← show V m c main_arg2 = A2 m c from V_main_arg2 m c]
  unfold iblk
  rw [View.read_apply]
  refine congrArg (V m c main_arg2 : Vec Ideal S8192x1280 .f32) (funext fun a => Fin.ext ?_)
  match a with
  | ⟨0, _⟩ => exact place (congrFun (index5 t) 0) (by show (32 * t.val - 1) * 16 + y.val = 512 * t.val - 16 + y.val; omega)
  | ⟨1, _⟩ => exact place (congrFun (index5 t) 1) (by show 4 * 256 + k.val = 1024 + k.val; omega)

theorem blk6 (t : Fin cfg0.N) (k : Fin 256) : (iblk m c 6 t : Vec Ideal S1x256 .f32) (ix2 0 k) = A3 m c (ix2 0 k) := by
  rw [← show V m c main_arg3 = A3 m c from V_main_arg3 m c]
  unfold iblk
  rw [View.read_apply]
  refine congrArg (V m c main_arg3 : Vec Ideal S1x256 .f32) (funext fun a => Fin.ext ?_)
  match a with
  | ⟨0, _⟩ => exact place (congrFun (index6 t) 0) rfl
  | ⟨1, _⟩ => exact place (congrFun (index6 t) 1) (by show 0 * 256 + k.val = k.val; omega)

theorem blk7 (t : Fin cfg0.N) (s : Fin 128) (k : Fin 512) : (iblk m c 7 t : Vec Ideal S128x512 .bf16) (ix2 s k) = A4 m c (ix2 s k) := by
  rw [← main_v0_at m c]
  unfold iblk
  rw [View.read_apply]
  refine congrArg (V m c main_v0 : Vec Ideal S128x512 .bf16) (funext fun a => Fin.ext ?_)
  match a with
  | ⟨0, _⟩ => exact place (congrFun (index7 t) 0) (by show 0 * 128 + s.val = s.val; omega)
  | ⟨1, _⟩ => exact place (congrFun (index7 t) 1) (by show 0 * 512 + k.val = k.val; omega)

theorem blk8 (t : Fin cfg0.N) (s : Fin 128) (k : Fin 256) : (iblk m c 8 t : Vec Ideal S128x256 .f32) (ix2 s k) = A5 m c (ix2 s k) := by
  rw [← show V m c main_arg5 = A5 m c from V_main_arg5 m c]
  unfold iblk
  rw [View.read_apply]
  refine congrArg (V m c main_arg5 : Vec Ideal S128x256 .f32) (funext fun a => Fin.ext ?_)
  match a with
  | ⟨0, _⟩ => exact place (congrFun (index8 t) 0) (by show 0 * 128 + s.val = s.val; omega)
  | ⟨1, _⟩ => exact place (congrFun (index8 t) 1) (by show 0 * 256 + k.val = k.val; omega)

theorem blk9 (t : Fin cfg0.N) (s : Fin 256) (k : Fin 256) : (iblk m c 9 t : Vec Ideal S256x256 .bf16) (ix2 s k) = A6 m c (ix2 s k) := by
  rw [← main_v1_at m c]
  unfold iblk
  rw [View.read_apply]
  refine congrArg (V m c main_v1 : Vec Ideal S256x256 .bf16) (funext fun a => Fin.ext ?_)
  match a with
  | ⟨0, _⟩ => exact place (congrFun (index9 t) 0) (by show 0 * 256 + s.val = s.val; omega)
  | ⟨1, _⟩ => exact place (congrFun (index9 t) 1) (by show 0 * 256 + k.val = k.val; omega)

theorem blk10 (t : Fin cfg0.N) (k : Fin 256) : (iblk m c 10 t : Vec Ideal S1x256 .f32) (ix2 0 k) = A7 m c (ix2 0 k) := by
  rw [← show V m c main_arg7 = A7 m c from V_main_arg7 m c]
  unfold iblk
  rw [View.read_apply]
  refine congrArg (V m c main_arg7 : Vec Ideal S1x256 .f32) (funext fun a => Fin.ext ?_)
  match a with
  | ⟨0, _⟩ => exact place (congrFun (index10 t) 0) rfl
  | ⟨1, _⟩ => exact place (congrFun (index10 t) 1) (by show 0 * 256 + k.val = k.val; omega)

theorem blk11 (t : Fin cfg0.N) (k : Fin 512) : (iblk m c 11 t : Vec Ideal S1x512 .f32) (ix2 0 k) = A8 m c (ix2 0 k) := by
  rw [← show V m c main_arg8 = A8 m c from V_main_arg8 m c]
  unfold iblk
  rw [View.read_apply]
  refine congrArg (V m c main_arg8 : Vec Ideal S1x512 .f32) (funext fun a => Fin.ext ?_)
  match a with
  | ⟨0, _⟩ => exact place (congrFun (index11 t) 0) rfl
  | ⟨1, _⟩ => exact place (congrFun (index11 t) 1) (by show 0 * 512 + k.val = k.val; omega)

theorem blk12 (t : Fin cfg0.N) (k : Fin 256) : (iblk m c 12 t : Vec Ideal S1x256 .f32) (ix2 0 k) = A9 m c (ix2 0 k) := by
  rw [← show V m c main_arg9 = A9 m c from V_main_arg9 m c]
  unfold iblk
  rw [View.read_apply]
  refine congrArg (V m c main_arg9 : Vec Ideal S1x256 .f32) (funext fun a => Fin.ext ?_)
  match a with
  | ⟨0, _⟩ => exact place (congrFun (index12 t) 0) rfl
  | ⟨1, _⟩ => exact place (congrFun (index12 t) 1) (by show 0 * 256 + k.val = k.val; omega)

theorem blk13 (t : Fin cfg0.N) (k : Fin 256) : (iblk m c 13 t : Vec Ideal S1x256 .f32) (ix2 0 k) = A10 m c (ix2 0 k) := by
  rw [← show V m c main_arg10 = A10 m c from V_main_arg10 m c]
  unfold iblk
  rw [View.read_apply]
  refine congrArg (V m c main_arg10 : Vec Ideal S1x256 .f32) (funext fun a => Fin.ext ?_)
  match a with
  | ⟨0, _⟩ => exact place (congrFun (index13 t) 0) rfl
  | ⟨1, _⟩ => exact place (congrFun (index13 t) 1) (by show 0 * 256 + k.val = k.val; omega)

theorem blk14 (t : Fin cfg0.N) (s : Fin 1024) (k : Fin 1024) : (iblk m c 14 t : Vec Ideal S1024x1024 .bf16) (ix2 s k) = A11 m c (ix2 s k) := by
  rw [← main_v2_at m c]
  unfold iblk
  rw [View.read_apply]
  refine congrArg (V m c main_v2 : Vec Ideal S1024x1024 .bf16) (funext fun a => Fin.ext ?_)
  match a with
  | ⟨0, _⟩ => exact place (congrFun (index14 t) 0) (by show 0 * 1024 + s.val = s.val; omega)
  | ⟨1, _⟩ => exact place (congrFun (index14 t) 1) (by show 0 * 1024 + k.val = k.val; omega)

theorem blocks (t : Fin cfg0.N) : Blocks (ar m c) (tl t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) :=
  ⟨blk0 m c t, blk1 m c t, blk2 m c t, blk3 m c t, blk4 m c t, blk5 m c t, blk6 m c t, blk7 m c t, blk8 m c t, blk9 m c t, blk10 m c t, blk11 m c t, blk12 m c t, blk13 m c t, blk14 m c t⟩

theorem tile15 (t : Fin cfg0.N) (r : Fin 512) (n : Fin 1024) : out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r n) = oX m c (ix2 (row (tl t) r) n) := by
  rw [tile_at (ar m c) (tl t) _ _ _ _ _ _ _ _ _ _ _ _ _ _ _ (grid0.coords t) (coord t) (blocks m c t)]
  exact (rO_at _ _ _ _ _ _ _ _ _ _ _ _ _ _).symm

theorem arr15 : (dats m 0 c).arrAt 15 cfg0.N = oX m c := by
  refine (dats m 0 c).arrAt_eq_of_covers 15 _ covers fun t hf y => ?_
  have hy : y = ix2 (y (0 : Fin 2)) (y (1 : Fin 2)) := funext fun b => match b with | ⟨0, _⟩ => rfl | ⟨1, _⟩ => rfl
  have he : ((cfg0.win 15).blk t).view.emb y = (ix2 (row (tl t) (y (0 : Fin 2))) (y (1 : Fin 2)) : S8192x1024.Idx) := by
    funext a
    refine Fin.ext ?_
    match a with
    | ⟨0, _⟩ => exact place (congrFun (index15 t) 0) (by show t.val * 512 + (y (0 : Fin 2)).val = 512 * t.val + (y (0 : Fin 2)).val; omega)
    | ⟨1, _⟩ => exact place (congrFun (index15 t) 1) (by show 0 * 1024 + (y (1 : Fin 2)).val = (y (1 : Fin 2)).val; omega)
  refine Eq.trans ?_ ((tile15 m c t (y (0 : Fin 2)) (y (1 : Fin 2))).trans (congrArg ((oX m c) : S8192x1024.Idx → EReal) he.symm))
  exact (congrFun (after0_15 m c t) y).trans (congrArg (out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) hy)

end Cert.Kernel12Ideal.Out
end
-- ==== Proof.lean ====
module

public import proofs.«01_k».proof.Defs
public import proofs.«01_k».proof.Proof.Run
public import proofs.«01_k».proof.Proof.BitsRun
public import proofs.«01_k».proof.Proof.Ref
public import proofs.«01_k».proof.Proof.ValEq
public import proofs.«01_k».proof.Proof.ValPre
public import proofs.«01_k».proof.Proof.MatDown
public import proofs.«01_k».proof.Proof.MatGate
public import proofs.«01_k».proof.Proof.FwdEq
public import proofs.«01_k».proof.Proof.BwdEq
public import proofs.«01_k».proof.Proof.BwdPre
public import proofs.«01_k».proof.Proof.LossEq
public import proofs.«01_k».proof.Proof.MatOut
public import proofs.«01_k».proof.Proof.MatIn
public import proofs.«01_k».proof.Proof.MatQ
public import proofs.«01_k».proof.Proof.MatKv

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference2Ideal
public import proofs.«01_k».proof.Proof.Gen.Reference2Ideal.Run
public import proofs.«01_k».proof.Proof.Gen.Reference3Ideal.Run
public import proofs.«01_k».proof.Proof.Gen.Reference4Ideal.Run

public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.MixEq
public import proofs.«01_k».proof.Proof.OutEq
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run

@[expose] public section

set_option maxRecDepth 16384

noncomputable section

namespace Cert.Proof

open Idealize.ShloMosaic Idealize.ShloMosaic.TcCoe Idealize.SL.Sem

theorem frame_p : Cert.quiescent_Kernel := fun m ρ _ => Cert.Kernel.Attn.run_frame m ρ

theorem frame_pi : Cert.quiescent_KernelIdeal := fun m ρ _ =>
  (θ_run Cert.KernelIdeal.defs _ _).mono (fun _ h => ⟨fun c => (h.1 c).2, h.2⟩) (Cert.KernelIdeal.Attn.run_frame (F := Ideal) m ρ)

theorem frame_pi_finite : Cert.quiescent_KernelIdeal_pre_finite := fun m ρ _ =>
  (θ_run Cert.KernelIdeal.defs _ _).mono (fun _ h => ⟨fun c => (h.1 c).2, h.2⟩) (Cert.KernelIdeal.Attn.run_frame (F := Ideal) m ρ)

theorem frame_ri : Cert.quiescent_ReferenceIdeal := fun m ρ _ => Cert.ReferenceIdeal.Plain.run_frame (F := Ideal) m ρ

theorem frame_ri_finite : Cert.quiescent_ReferenceIdeal_pre_finite := fun m ρ _ => Cert.ReferenceIdeal.Plain.run_frame (F := Ideal) m ρ

theorem preserves : Cert.preserves_Kernel_KernelIdeal :=
  IdealRules.named_const.statement Cert.KernelIdeal.κ "ln2" .f32 0x3F317218#32 ((Real.log 2 : ℝ) : EReal) rfl

open Cert.KernelIdeal.Attn in
/-- The kernel's three result arrays are the reference's: each device's, of its own arguments. -/
theorem algebraic : Cert.algebraic_KernelIdeal_ReferenceIdeal_pre_finite := fun m g m' g' hpre hag => by
  refine ⟨fun c => (dat0 (entry m) c).arrAt 7 (cfgA (F := Ideal)).N, fun c => (dat0 (entry m) c).arrAt 8 (cfgA (F := Ideal)).N,
    fun c => (dat0 (entry m) c).arrAt 9 (cfgA (F := Ideal)).N,
    (θ_run Cert.KernelIdeal.defs _ _).mono (fun _ h c => ⟨(h.1 c).1.1, (h.1 c).1.2.1, (h.1 c).1.2.2, (h.1 c).2⟩) (run_frame (F := Ideal) m g),
    (θ_run Cert.ReferenceIdeal.defs _ _).mono (fun r h c => ?_) (Cert.ReferenceIdeal.Plain.run (F := Ideal) m' g')⟩
  obtain ⟨r0, r1, r2, r3, f0, f1, f2, f3⟩ := Cert.AttnPre.reals _ _ _ _ (hpre c)
  obtain ⟨h7, h8, h9⟩ := results_eq r0 r1 r2 r3 m c f0 f1 f2 f3
  obtain ⟨g0, g1, g2, g3⟩ := hag c
  have k0 : StableHlo.launchContents m' c (Cert.ReferenceIdeal.main_arg0 : DevRef Cert.ReferenceIdeal.τ Cert.ReferenceIdeal.sig) = A0 m c := g0
  have k1 : StableHlo.launchContents m' c (Cert.ReferenceIdeal.main_arg1 : DevRef Cert.ReferenceIdeal.τ Cert.ReferenceIdeal.sig) = A1 m c := g1
  have k2 : StableHlo.launchContents m' c (Cert.ReferenceIdeal.main_arg2 : DevRef Cert.ReferenceIdeal.τ Cert.ReferenceIdeal.sig) = A2 m c := g2
  have k3 : StableHlo.launchContents m' c (Cert.ReferenceIdeal.main_arg3 : DevRef Cert.ReferenceIdeal.τ Cert.ReferenceIdeal.sig) = A3 m c := g3
  refine ⟨(h c Cert.ReferenceIdeal.main_v59).trans ?_, (h c Cert.ReferenceIdeal.main_v57).trans ?_, (h c Cert.ReferenceIdeal.main_v42).trans ?_,
    (h c Cert.ReferenceIdeal.main_arg0).trans (Cert.ReferenceIdeal.Plain.arg0_eq _), (h c Cert.ReferenceIdeal.main_arg1).trans (Cert.ReferenceIdeal.Plain.arg1_eq _),
    (h c Cert.ReferenceIdeal.main_arg2).trans (Cert.ReferenceIdeal.Plain.arg2_eq _), (h c Cert.ReferenceIdeal.main_arg3).trans (Cert.ReferenceIdeal.Plain.arg3_eq _)⟩
  · rw [Cert.ReferenceIdeal.Plain.res_q, k0, k1, k2, k3]; exact h7.symm
  · rw [Cert.ReferenceIdeal.Plain.res_k, k0, k1, k2, k3]; exact h8.symm
  · rw [Cert.ReferenceIdeal.Plain.res_v, k0, k1, k3]; exact h9.symm

theorem frame_p2 : Cert.quiescent_Kernel2 := fun m ρ _ => Cert.Kernel2.Gen.frame (F := Bits) m ρ

theorem frame_pi2 : Cert.quiescent_Kernel2Ideal := fun m ρ _ => Cert.Kernel2Ideal.Gen.frame (F := Ideal) m ρ

theorem frame_pi2_finite : Cert.quiescent_Kernel2Ideal_pre_finite2 := fun m ρ _ => Cert.Kernel2Ideal.Gen.frame (F := Ideal) m ρ

theorem frame_ri2 : Cert.quiescent_Reference2Ideal := fun m ρ _ =>
  (θ_run Cert.Reference2Ideal.defs _ _).mono (fun r h => ⟨fun c => (h c).2.2.2.2.2.2, sem_eq_zero_of_no_sems rfl r.2⟩)
    (Cert.Reference2Ideal.Value.run (F := Ideal) m ρ)

theorem frame_ri2_finite : Cert.quiescent_Reference2Ideal_pre_finite2 := fun m ρ _ => frame_ri2 m ρ trivial

theorem frame_p3 : Cert.quiescent_Kernel3 := fun m ρ _ => Cert.Kernel3.Gen.frame (F := Bits) m ρ

theorem frame_pi3 : Cert.quiescent_Kernel3Ideal := fun m ρ _ => Cert.Kernel3Ideal.Gen.frame (F := Ideal) m ρ

theorem frame_ri3 : Cert.quiescent_Reference3Ideal := fun m ρ _ =>
  (θ_run Cert.Reference3Ideal.defs _ _).mono (fun r h => ⟨fun c => (h c).2, sem_eq_zero_of_no_sems rfl r.2⟩)
    (Cert.Reference3Ideal.Value.run (F := Ideal) m ρ)

theorem frame_p4 : Cert.quiescent_Kernel4 := fun m ρ _ => Cert.Kernel4.Gen.frame (F := Bits) m ρ

theorem frame_pi4 : Cert.quiescent_Kernel4Ideal := fun m ρ _ => Cert.Kernel4Ideal.Gen.frame (F := Ideal) m ρ

theorem frame_ri4 : Cert.quiescent_Reference4Ideal := fun m ρ _ =>
  (θ_run Cert.Reference4Ideal.defs _ _).mono (fun r h => ⟨fun c => (h c).2.2.2, sem_eq_zero_of_no_sems rfl r.2⟩)
    (Cert.Reference4Ideal.Value.run (F := Ideal) m ρ)

theorem frame_p5 : Cert.quiescent_Kernel5 := fun m ρ _ => Cert.Kernel5.Gen.frame (F := Bits) m ρ

theorem frame_pi5 : Cert.quiescent_Kernel5Ideal := fun m ρ _ => Cert.Kernel5Ideal.Gen.frame (F := Ideal) m ρ

theorem frame_ri5 : Cert.quiescent_Reference5Ideal := fun m ρ _ =>
  (θ_run Cert.Reference5Ideal.defs _ _).mono (fun r h => ⟨fun c => (h c).2, sem_eq_zero_of_no_sems rfl r.2⟩)
    (Cert.Reference5Ideal.Value.run (F := Ideal) m ρ)

theorem frame_p6 : Cert.quiescent_Kernel6 := fun m ρ _ => Cert.Kernel6.Gen.frame (F := Bits) m ρ

theorem frame_pi6 : Cert.quiescent_Kernel6Ideal := fun m ρ _ => Cert.Kernel6Ideal.Gen.frame (F := Ideal) m ρ

theorem frame_ri6 : Cert.quiescent_Reference6Ideal := fun m ρ _ =>
  (θ_run Cert.Reference6Ideal.defs _ _).mono (fun r h => ⟨fun c => (h c).2.2.2.2, sem_eq_zero_of_no_sems rfl r.2⟩)
    (Cert.Reference6Ideal.Value.run (F := Ideal) m ρ)

/-- The summed product of the two arrays over the tokens: kernel and reference end with the same. -/
theorem algebraic3 : Cert.algebraic_Kernel3Ideal_Reference3Ideal := fun m g m' g' _ hag => by
  refine ⟨fun c => Cert.Kernel3Ideal.Value.G2 m c, Cert.Kernel3Ideal.Value.run (F := Ideal) m g,
    (θ_run Cert.Reference3Ideal.defs _ _).mono (fun r h c => ⟨(h c).1.trans ?_, (h c).2⟩) (Cert.Reference3Ideal.Value.run (F := Ideal) m' g')⟩
  rw [(hag c).1, (hag c).2]
  exact (Cert.Kernel3Ideal.Tn.result_eq m c).symm

/-- The summed product of the two arrays over the tokens: kernel and reference end with the same. -/
theorem algebraic5 : Cert.algebraic_Kernel5Ideal_Reference5Ideal := fun m g m' g' _ hag => by
  refine ⟨fun c => Cert.Kernel5Ideal.Value.G2 m c, Cert.Kernel5Ideal.Value.run (F := Ideal) m g,
    (θ_run Cert.Reference5Ideal.defs _ _).mono (fun r h c => ⟨(h c).1.trans ?_, (h c).2⟩) (Cert.Reference5Ideal.Value.run (F := Ideal) m' g')⟩
  rw [(hag c).1, (hag c).2]
  exact (Cert.Kernel5Ideal.Tn.result_eq m c).symm

open Cert.Kernel4Ideal Cert.Kernel4Ideal.Gen Cert.Kernel4Ideal.Fwd in
/-- The three arrays of the feed-forward step: kernel and reference end with the same. -/
theorem algebraic4 : Cert.algebraic_Kernel4Ideal_Reference4Ideal := fun m g m' g' _ hag => by
  refine ⟨fun c => (dats m 0 c).arrAt 5 cfg0.N, fun c => (dats m 0 c).arrAt 6 cfg0.N, fun c => (dats m 0 c).arrAt 7 cfg0.N,
    Cert.Kernel4Ideal.Value.run_blocks (F := Ideal) m g,
    (θ_run Cert.Reference4Ideal.defs _ _).mono (fun r h c => ⟨(h c).1.trans ?_, (h c).2.1.trans ?_, (h c).2.2.1.trans ?_, (h c).2.2.2⟩)
      (Cert.Reference4Ideal.Value.run (F := Ideal) m' g')⟩
  · rw [(hag c).1, (hag c).2.1, (hag c).2.2.1, (hag c).2.2.2.1, (hag c).2.2.2.2]
    exact (arr5 m c).symm
  · rw [(hag c).1, (hag c).2.1, (hag c).2.2.1]
    exact (arr6 m c).symm
  · rw [(hag c).1, (hag c).2.1, (hag c).2.2.2.1]
    exact (arr7 m c).symm

open Cert.Kernel2Ideal Cert.Kernel2Ideal.Gen Cert.Kernel2Ideal.Bwd in
/-- The six arrays of the backward feed-forward step: kernel and reference end with the same. -/
theorem algebraic2 : Cert.algebraic_Kernel2Ideal_Reference2Ideal_pre_finite2 := fun m g m' g' hpre hag => by
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, fun c => (dats m 0 c).arrAt 13 cfg0.N,
    Cert.Kernel2Ideal.Value.run_blocks (F := Ideal) m g,
    (θ_run Cert.Reference2Ideal.defs _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩)
      (Cert.Reference2Ideal.Value.run (F := Ideal) m' g')⟩
  · unfold Cert.Reference2Ideal.Value.res_main_v73
    rw [(hag c).1, (hag c).2.1, (hag c).2.2.1, (hag c).2.2.2.1, (hag c).2.2.2.2.1, (hag c).2.2.2.2.2, Cert.Reference2Ideal.Bwd.cast_eq]
    exact (arr8 m c (Cert.FfnPre.num _ _ _ _ _ _ (hpre c))).symm
  · rw [(hag c).2.1, (hag c).2.2.1]
    exact (arr9 m c).symm
  · rw [(hag c).2.1, (hag c).2.2.1, (hag c).2.2.2.1, (hag c).2.2.2.2.1]
    exact (arr10 m c).symm
  · unfold Cert.Reference2Ideal.Value.res_main_v78
    rw [(hag c).1, (hag c).2.1, (hag c).2.2.1, (hag c).2.2.2.1, (hag c).2.2.2.2.1, (hag c).2.2.2.2.2]
    exact (arr11 m c (Cert.FfnPre.num _ _ _ _ _ _ (hpre c))).symm
  · rw [(hag c).1, (hag c).2.1, (hag c).2.2.1, (hag c).2.2.2.1, (hag c).2.2.2.2.2]
    exact (arr12 m c).symm
  · unfold Cert.Reference2Ideal.Value.res_main_v56
    rw [(hag c).1, (hag c).2.1, (hag c).2.2.1, (hag c).2.2.2.1, (hag c).2.2.2.2.1, (hag c).2.2.2.2.2, Cert.Reference2Ideal.Bwd.cast_eq]
    exact (arr13 m c (Cert.FfnPre.num _ _ _ _ _ _ (hpre c))).symm

open Cert.Kernel6Ideal Cert.Kernel6Ideal.Gen Cert.Kernel6Ideal.Loss in
/-- The four arrays of the last layer's feed-forward step with the loss: kernel and reference end with the same. -/
theorem algebraic6 : Cert.algebraic_Kernel6Ideal_Reference6Ideal := fun m g m' g' _ hag => by
  refine ⟨fun c => (dats m 0 c).arrAt 6 cfg0.N, fun c => (dats m 0 c).arrAt 7 cfg0.N, fun c => (dats m 0 c).arrAt 8 cfg0.N,
    fun c => (dats m 0 c).arrAt 9 cfg0.N, Cert.Kernel6Ideal.Value.run_blocks (F := Ideal) m g,
    (θ_run Cert.Reference6Ideal.defs _ _).mono (fun r h c => ⟨(h c).1.trans ?_, (h c).2.1.trans ?_, (h c).2.2.1.trans ?_, (h c).2.2.2.1.trans ?_, (h c).2.2.2.2⟩)
      (Cert.Reference6Ideal.Value.run (F := Ideal) m' g')⟩
  · rw [(hag c).1, (hag c).2.1, (hag c).2.2.1, (hag c).2.2.2.1, (hag c).2.2.2.2.1, (hag c).2.2.2.2.2]
    exact (arr6 m c).symm
  · unfold Cert.Reference6Ideal.Value.res_main_v35
    rw [(hag c).1, (hag c).2.1, (hag c).2.2.1, (hag c).2.2.2.1, (hag c).2.2.2.2.1, (hag c).2.2.2.2.2]
    exact (arr7 m c).symm
  · rw [(hag c).1, (hag c).2.1, (hag c).2.2.1]
    exact (arr8 m c).symm
  · rw [(hag c).1, (hag c).2.1, (hag c).2.2.2.1]
    exact (arr9 m c).symm

theorem frame_p7 : Cert.quiescent_Kernel7 := fun m ρ _ => Cert.Kernel7.Gen.frame (F := Bits) m ρ

theorem frame_pi7 : Cert.quiescent_Kernel7Ideal := fun m ρ _ => Cert.Kernel7Ideal.Gen.frame (F := Ideal) m ρ

theorem frame_ri7 : Cert.quiescent_Reference7Ideal := fun m ρ _ =>
  (θ_run Cert.Reference7Ideal.defs _ _).mono (fun r h => ⟨fun c => (h c).2, sem_eq_zero_of_no_sems rfl r.2⟩)
    (Cert.Reference7Ideal.Value.run (F := Ideal) m ρ)

/-- The summed product of the two arrays over the tokens: kernel and reference end with the same. -/
theorem algebraic7 : Cert.algebraic_Kernel7Ideal_Reference7Ideal := fun m g m' g' _ hag => by
  refine ⟨fun c => Cert.Kernel7Ideal.Value.G2 m c, Cert.Kernel7Ideal.Value.run (F := Ideal) m g,
    (θ_run Cert.Reference7Ideal.defs _ _).mono (fun r h c => ⟨(h c).1.trans ?_, (h c).2⟩) (Cert.Reference7Ideal.Value.run (F := Ideal) m' g')⟩
  rw [(hag c).1, (hag c).2]
  exact (Cert.Kernel7Ideal.Tn.result_eq m c).symm

theorem frame_p8 : Cert.quiescent_Kernel8 := fun m ρ _ => Cert.Kernel8.Gen.frame (F := Bits) m ρ

theorem frame_pi8 : Cert.quiescent_Kernel8Ideal := fun m ρ _ => Cert.Kernel8Ideal.Gen.frame (F := Ideal) m ρ

theorem frame_ri8 : Cert.quiescent_Reference8Ideal := fun m ρ _ =>
  (θ_run Cert.Reference8Ideal.defs _ _).mono (fun r h => ⟨fun c => (h c).2, sem_eq_zero_of_no_sems rfl r.2⟩)
    (Cert.Reference8Ideal.Value.run (F := Ideal) m ρ)

/-- The summed product of the two arrays over the tokens: kernel and reference end with the same. -/
theorem algebraic8 : Cert.algebraic_Kernel8Ideal_Reference8Ideal := fun m g m' g' _ hag => by
  refine ⟨fun c => Cert.Kernel8Ideal.Value.G2 m c, Cert.Kernel8Ideal.Value.run (F := Ideal) m g,
    (θ_run Cert.Reference8Ideal.defs _ _).mono (fun r h c => ⟨(h c).1.trans ?_, (h c).2⟩) (Cert.Reference8Ideal.Value.run (F := Ideal) m' g')⟩
  rw [(hag c).1, (hag c).2]
  exact (Cert.Kernel8Ideal.Tn.result_eq m c).symm

theorem frame_p9 : Cert.quiescent_Kernel9 := fun m ρ _ => Cert.Kernel9.Gen.frame (F := Bits) m ρ

theorem frame_pi9 : Cert.quiescent_Kernel9Ideal := fun m ρ _ => Cert.Kernel9Ideal.Gen.frame (F := Ideal) m ρ

theorem frame_ri9 : Cert.quiescent_Reference9Ideal := fun m ρ _ =>
  (θ_run Cert.Reference9Ideal.defs _ _).mono (fun r h => ⟨fun c => (h c).2, sem_eq_zero_of_no_sems rfl r.2⟩)
    (Cert.Reference9Ideal.Value.run (F := Ideal) m ρ)

/-- The summed product of the two arrays over the tokens: kernel and reference end with the same. -/
theorem algebraic9 : Cert.algebraic_Kernel9Ideal_Reference9Ideal := fun m g m' g' _ hag => by
  refine ⟨fun c => Cert.Kernel9Ideal.Value.G2 m c, Cert.Kernel9Ideal.Value.run (F := Ideal) m g,
    (θ_run Cert.Reference9Ideal.defs _ _).mono (fun r h c => ⟨(h c).1.trans ?_, (h c).2⟩) (Cert.Reference9Ideal.Value.run (F := Ideal) m' g')⟩
  rw [(hag c).1, (hag c).2]
  exact (Cert.Kernel9Ideal.Tn.result_eq m c).symm

theorem frame_p10 : Cert.quiescent_Kernel10 := fun m ρ _ => Cert.Kernel10.Gen.frame (F := Bits) m ρ

theorem frame_pi10 : Cert.quiescent_Kernel10Ideal := fun m ρ _ => Cert.Kernel10Ideal.Gen.frame (F := Ideal) m ρ

theorem frame_ri10 : Cert.quiescent_Reference10Ideal := fun m ρ _ =>
  (θ_run Cert.Reference10Ideal.defs _ _).mono (fun r h => ⟨fun c => (h c).2, sem_eq_zero_of_no_sems rfl r.2⟩)
    (Cert.Reference10Ideal.Value.run (F := Ideal) m ρ)

/-- The summed product of the two arrays over the tokens: kernel and reference end with the same. -/
theorem algebraic10 : Cert.algebraic_Kernel10Ideal_Reference10Ideal := fun m g m' g' _ hag => by
  refine ⟨fun c => Cert.Kernel10Ideal.Value.G2 m c, Cert.Kernel10Ideal.Value.run (F := Ideal) m g,
    (θ_run Cert.Reference10Ideal.defs _ _).mono (fun r h c => ⟨(h c).1.trans ?_, (h c).2⟩) (Cert.Reference10Ideal.Value.run (F := Ideal) m' g')⟩
  rw [(hag c).1, (hag c).2]
  exact (Cert.Kernel10Ideal.Tn.result_eq m c).symm

theorem frame_p11 : Cert.quiescent_Kernel11 := fun m ρ _ => Cert.Kernel11.Gen.frame (F := Bits) m ρ

theorem frame_pi11 : Cert.quiescent_Kernel11Ideal := fun m ρ _ => Cert.Kernel11Ideal.Gen.frame (F := Ideal) m ρ

theorem frame_ri11 : Cert.quiescent_Reference11Ideal := fun m ρ _ =>
  (θ_run Cert.Reference11Ideal.defs _ _).mono (fun r h => ⟨fun c => (h c).2.2.2, sem_eq_zero_of_no_sems rfl r.2⟩)
    (Cert.Reference11Ideal.Value.run (F := Ideal) m ρ)

open Cert.Kernel11Ideal Cert.Kernel11Ideal.Gen Cert.Kernel11Ideal.Mix in
/-- The projected rows and the attention's values, in both layouts: kernel and reference end with the same. -/
theorem algebraic11 : Cert.algebraic_Kernel11Ideal_Reference11Ideal := fun m g m' g' _ hag => by
  refine ⟨fun c => (dats m 0 c).arrAt 12 cfg0.N, fun c => (dats m 0 c).arrAt 15 cfg0.N, fun c => (dats m 0 c).arrAt 17 cfg0.N,
    (θ_run Cert.Kernel11Ideal.defs _ _).mono (fun r h c => ⟨(h c).1, (h c).2.2.2.1, (h c).2.2.2.2.2.1, (h c).2.2.2.2.2.2⟩)
      (Cert.Kernel11Ideal.Value.run_blocks (F := Ideal) m g),
    (θ_run Cert.Reference11Ideal.defs _ _).mono (fun r h c => ⟨(h c).1.trans ?_, (h c).2.1.trans ?_, (h c).2.2.1.trans ?_, (h c).2.2.2⟩)
      (Cert.Reference11Ideal.Value.run (F := Ideal) m' g')⟩
  all_goals have e0 := (hag c).1
  all_goals have e4 := (hag c).2.2.2.2.1
  all_goals have e5 := (hag c).2.2.2.2.2.1
  all_goals have e8 := (hag c).2.2.2.2.2.2.2.2.1
  all_goals have e9 := (hag c).2.2.2.2.2.2.2.2.2.1
  · rw [e0, e4, e5]
    exact (arr12 m c).symm
  · rw [e0, e4, e5, e8, e9]
    exact (arr15 m c).symm
  · rw [e0, e4, e5, e8, e9]
    exact (arr17 m c).symm

theorem frame_p12 : Cert.quiescent_Kernel12 := fun m ρ _ => Cert.Kernel12.Gen.frame (F := Bits) m ρ

theorem frame_pi12 : Cert.quiescent_Kernel12Ideal := fun m ρ _ => Cert.Kernel12Ideal.Gen.frame (F := Ideal) m ρ

theorem frame_ri12 : Cert.quiescent_Reference12Ideal := fun m ρ _ =>
  (θ_run Cert.Reference12Ideal.defs _ _).mono (fun r h => ⟨fun c => (h c).2, sem_eq_zero_of_no_sems rfl r.2⟩)
    (Cert.Reference12Ideal.Value.run (F := Ideal) m ρ)

open Cert.Kernel12Ideal Cert.Kernel12Ideal.Gen Cert.Kernel12Ideal.Out in
/-- The mixers' output projection added to the stream: kernel and reference end with the same. -/
theorem algebraic12 : Cert.algebraic_Kernel12Ideal_Reference12Ideal := fun m g m' g' _ hag => by
  refine ⟨fun c => (dats m 0 c).arrAt 15 cfg0.N, Cert.Kernel12Ideal.Value.run_blocks (F := Ideal) m g,
    (θ_run Cert.Reference12Ideal.defs _ _).mono (fun r h c => ⟨(h c).1.trans ((Cert.Reference12Ideal.Out.res_eq m' c).trans ?_), (h c).2⟩)
      (Cert.Reference12Ideal.Value.run (F := Ideal) m' g')⟩
  rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2]
  exact (arr15 m c).symm

theorem claim : Cert.Claim :=
  ⟨inferInstance, inferInstance, inferInstance, inferInstance, inferInstance, inferInstance, inferInstance, inferInstance, inferInstance,
    inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, Cert.AttnPre.facts, Cert.FfnPre.facts,
    frame_p, frame_pi, frame_pi_finite, frame_ri, frame_ri_finite, frame_p2, frame_pi2, frame_pi2_finite, frame_ri2, frame_ri2_finite, frame_p3, frame_pi3, frame_ri3,
    frame_p4, frame_pi4, frame_ri4, frame_p5, frame_pi5, frame_ri5, frame_p6, frame_pi6, frame_ri6, frame_p7, frame_pi7, frame_ri7, frame_p8, frame_pi8, frame_ri8, frame_p9, frame_pi9, frame_ri9, frame_p10, frame_pi10, frame_ri10, frame_p11, frame_pi11, frame_ri11, frame_p12, frame_pi12, frame_ri12, preserves, algebraic, trivial, algebraic2, trivial, algebraic3,
    trivial, algebraic4, trivial, algebraic5, trivial, algebraic6, trivial, algebraic7, trivial, algebraic8, trivial, algebraic9, trivial, algebraic10, trivial, algebraic11, trivial, algebraic12⟩

end Cert.Proof

end
